-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_3)) (v3 : (c : Dev Cert.KernelIdeal.nD) → Buf (Elt Ideal) ((c.tc : Thread Cert.KernelIdeal.nD Cert.KernelIdeal.τ).loc Cert.KernelIdeal.main_v8_4)) (v4 : (c : Dev Cert.KernelIdeal.nD) → Buf (Elt Ideal) ((c.tc : Thread Cert.KernelIdeal.nD Cert.KernelIdeal.τ).loc Cert.KernelIdeal.main_v8_5)) (v5 : (c : Dev Cert.KernelIdeal.nD) → Buf (Elt Ideal) ((c.tc : Thread Cert.KernelIdeal.nD Cert.KernelIdeal.τ).loc Cert.KernelIdeal.main_v8_6)) (v6 : (c : Dev Cert.KernelIdeal.nD) → Buf (Elt Ideal) ((c.tc : Thread Cert.KernelIdeal.nD Cert.KernelIdeal.τ).loc Cert.KernelIdeal.main_v8_7)) (v7 : (c : Dev Cert.KernelIdeal.nD) → Buf (Elt Ideal) ((c.tc : Thread Cert.KernelIdeal.nD Cert.KernelIdeal.τ).loc Cert.KernelIdeal.main_v8_8)) (v8 : (c : Dev Cert.KernelIdeal.nD) → Buf (Elt Ideal) ((c.tc : Thread Cert.KernelIdeal.nD Cert.KernelIdeal.τ).loc Cert.KernelIdeal.main_v8_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_3) = v2 c
          ∧ r.2.mem ((c.tc : Thread Cert.KernelIdeal.nD Cert.KernelIdeal.τ).loc Cert.KernelIdeal.main_v8_4) = v3 c
          ∧ r.2.mem ((c.tc : Thread Cert.KernelIdeal.nD Cert.KernelIdeal.τ).loc Cert.KernelIdeal.main_v8_5) = v4 c
          ∧ r.2.mem ((c.tc : Thread Cert.KernelIdeal.nD Cert.KernelIdeal.τ).loc Cert.KernelIdeal.main_v8_6) = v5 c
          ∧ r.2.mem ((c.tc : Thread Cert.KernelIdeal.nD Cert.KernelIdeal.τ).loc Cert.KernelIdeal.main_v8_7) = v6 c
          ∧ r.2.mem ((c.tc : Thread Cert.KernelIdeal.nD Cert.KernelIdeal.τ).loc Cert.KernelIdeal.main_v8_8) = v7 c
          ∧ r.2.mem ((c.tc : Thread Cert.KernelIdeal.nD Cert.KernelIdeal.τ).loc Cert.KernelIdeal.main_v8_9) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1152x512 : Shape := ⟨3, ![48, 1152, 512]⟩
abbrev S512 : Shape := ⟨1, ![512]⟩
abbrev S_ : Shape := ⟨0, ![]⟩
abbrev S8x512x256 : Shape := ⟨3, ![8, 512, 256]⟩
abbrev S256 : Shape := ⟨1, ![256]⟩
abbrev S3x2x256 : Shape := ⟨3, ![3, 2, 256]⟩
abbrev S3x2 : Shape := ⟨2, ![3, 2]⟩
abbrev S3x7x256x256 : Shape := ⟨4, ![3, 7, 256, 256]⟩
abbrev S3x256 : Shape := ⟨2, ![3, 256]⟩
abbrev S3x256x256 : Shape := ⟨3, ![3, 256, 256]⟩
abbrev S1x512 : Shape := ⟨2, ![1, 512]⟩
abbrev S1x256 : Shape := ⟨2, ![1, 256]⟩
abbrev S6x256 : Shape := ⟨2, ![6, 256]⟩
abbrev S1x1 : Shape := ⟨2, ![1, 1]⟩
abbrev S48x4480x256 : Shape := ⟨3, ![48, 4480, 256]⟩
abbrev S48x1x128 : Shape := ⟨3, ![48, 1, 128]⟩
abbrev S48x4608x256 : Shape := ⟨3, ![48, 4608, 256]⟩
abbrev S48x659x256 : Shape := ⟨3, ![48, 659, 256]⟩
abbrev S1x1152x512 : Shape := ⟨3, ![1, 1152, 512]⟩
abbrev S1x4480x256 : Shape := ⟨3, ![1, 4480, 256]⟩
abbrev S1x1x128 : Shape := ⟨3, ![1, 1, 128]⟩
abbrev S1x4608x256 : Shape := ⟨3, ![1, 4608, 256]⟩
abbrev S1x659x256 : Shape := ⟨3, ![1, 659, 256]⟩
abbrev S4x1168x128 : Shape := ⟨3, ![4, 1168, 128]⟩
abbrev S2x2x4672x128 : Shape := ⟨4, ![2, 2, 4672, 128]⟩
abbrev S2x4608x128 : Shape := ⟨3, ![2, 4608, 128]⟩
abbrev S2x576x128 : Shape := ⟨3, ![2, 576, 128]⟩
abbrev S1x512x256 : Shape := ⟨3, ![1, 512, 256]⟩
abbrev S512x256 : Shape := ⟨2, ![512, 256]⟩
abbrev S1x1x256x256 : Shape := ⟨4, ![1, 1, 256, 256]⟩
abbrev S256x256 : Shape := ⟨2, ![256, 256]⟩
abbrev S1x256x256 : Shape := ⟨3, ![1, 256, 256]⟩
abbrev S8x128 : Shape := ⟨2, ![8, 128]⟩
abbrev S1x8x128 : Shape := ⟨3, ![1, 8, 128]⟩
abbrev S32x128 : Shape := ⟨2, ![32, 128]⟩
abbrev S1x1x32x128 : Shape := ⟨4, ![1, 1, 32, 128]⟩
abbrev S1x128 : Shape := ⟨2, ![1, 128]⟩
abbrev S1x32x128 : Shape := ⟨3, ![1, 32, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S128x512 : Shape := ⟨2, ![128, 512]⟩
abbrev S128x256 : Shape := ⟨2, ![128, 256]⟩
abbrev S1x576x128 : Shape := ⟨3, ![1, 576, 128]⟩
abbrev S576x128 : Shape := ⟨2, ![576, 128]⟩
abbrev S3x128 : Shape := ⟨2, ![3, 128]⟩
abbrev S1x3x128 : Shape := ⟨3, ![1, 3, 128]⟩
abbrev S1x1x512x128 : Shape := ⟨4, ![1, 1, 512, 128]⟩
abbrev S512x128 : Shape := ⟨2, ![512, 128]⟩
abbrev S128 : Shape := ⟨1, ![128]⟩
abbrev S1 : Shape := ⟨1, ![1]⟩

abbrev nBuf : Space → Nat
  | .hbm => 42
  | .vmem => 57
  | .smem => 3
  | _ => 0

abbrev bufTy : (tb : Table) → Fin (tcTables nBuf tb) → BufTy
  | .hbm, ⟨0, _⟩ => ⟨S48x1152x512, .bf16⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S8x512x256, .i8⟩
  | .hbm, ⟨5, _⟩ => ⟨S256, .f32⟩
  | .hbm, ⟨6, _⟩ => ⟨S256, .f32⟩
  | .hbm, ⟨7, _⟩ => ⟨S3x2x256, .f32⟩
  | .hbm, ⟨8, _⟩ => ⟨S3x2x256, .f32⟩
  | .hbm, ⟨9, _⟩ => ⟨S3x2, .f32⟩
  | .hbm, ⟨10, _⟩ => ⟨S3x7x256x256, .i8⟩
  | .hbm, ⟨11, _⟩ => ⟨S3x256, .f32⟩
  | .hbm, ⟨12, _⟩ => ⟨S3x256, .f32⟩
  | .hbm, ⟨13, _⟩ => ⟨S3x256x256, .i8⟩
  | .hbm, ⟨14, _⟩ => ⟨S3x256, .f32⟩
  | .hbm, ⟨15, _⟩ => ⟨S3x256, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S1x256, .f32⟩
  | .hbm, ⟨20, _⟩ => ⟨S1x256, .f32⟩
  | .hbm, ⟨21, _⟩ => ⟨S6x256, .f32⟩
  | .hbm, ⟨22, _⟩ => ⟨S6x256, .f32⟩
  | .hbm, ⟨23, _⟩ => ⟨S1x1, .f32⟩
  | .hbm, ⟨24, _⟩ => ⟨S1x1, .f32⟩
  | .hbm, ⟨25, _⟩ => ⟨S48x4480x256, .bf16⟩
  | .hbm, ⟨26, _⟩ => ⟨S48x4480x256, .i8⟩
  | .hbm, ⟨27, _⟩ => ⟨S48x1x128, .f32⟩
  | .hbm, ⟨28, _⟩ => ⟨S48x1152x512, .i8⟩
  | .hbm, ⟨29, _⟩ => ⟨S48x4608x256, .i8⟩
  | .hbm, ⟨30, _⟩ => ⟨S48x4608x256, .i8⟩
  | .hbm, ⟨31, _⟩ => ⟨S48x4608x256, .i8⟩
  | .hbm, ⟨32, _⟩ => ⟨S48x4608x256, .i8⟩
  | .hbm, ⟨33, _⟩ => ⟨S48x4608x256, .i8⟩
  | .hbm, ⟨34, _⟩ => ⟨S48x4608x256, .i8⟩
  | .hbm, ⟨35, _⟩ => ⟨S48x659x256, .f32⟩
  | .hbm, ⟨36, _⟩ => ⟨S48x659x256, .f32⟩
  | .hbm, ⟨37, _⟩ => ⟨S48x659x256, .f32⟩
  | .hbm, ⟨38, _⟩ => ⟨S48x659x256, .f32⟩
  | .hbm, ⟨39, _⟩ => ⟨S48x659x256, .f32⟩
  | .hbm, ⟨40, _⟩ => ⟨S48x659x256, .f32⟩
  | .hbm, ⟨41, _⟩ => ⟨S48x659x256, .f32⟩
  | .local _ .vmem, ⟨0, _⟩ => ⟨S1x1152x512, .bf16⟩
  | .local _ .vmem, ⟨1, _⟩ => ⟨S1x1152x512, .bf16⟩
  | .local _ .vmem, ⟨2, _⟩ => ⟨S1x512, .f32⟩
  | .local _ .vmem, ⟨3, _⟩ => ⟨S1x512, .f32⟩
  | .local _ .vmem, ⟨4, _⟩ => ⟨S8x512x256, .i8⟩
  | .local _ .vmem, ⟨5, _⟩ => ⟨S1x256, .f32⟩
  | .local _ .vmem, ⟨6, _⟩ => ⟨S1x256, .f32⟩
  | .local _ .vmem, ⟨7, _⟩ => ⟨S6x256, .f32⟩
  | .local _ .vmem, ⟨8, _⟩ => ⟨S6x256, .f32⟩
  | .local _ .vmem, ⟨9, _⟩ => ⟨S3x7x256x256, .i8⟩
  | .local _ .vmem, ⟨10, _⟩ => ⟨S3x256, .f32⟩
  | .local _ .vmem, ⟨11, _⟩ => ⟨S3x256, .f32⟩
  | .local _ .vmem, ⟨12, _⟩ => ⟨S3x256x256, .i8⟩
  | .local _ .vmem, ⟨13, _⟩ => ⟨S3x256, .f32⟩
  | .local _ .vmem, ⟨14, _⟩ => ⟨S3x256, .f32⟩
  | .local _ .vmem, ⟨15, _⟩ => ⟨S1x4480x256, .bf16⟩
  | .local _ .vmem, ⟨16, _⟩ => ⟨S1x4480x256, .bf16⟩
  | .local _ .vmem, ⟨17, _⟩ => ⟨S1x4480x256, .i8⟩
  | .local _ .vmem, ⟨18, _⟩ => ⟨S1x4480x256, .i8⟩
  | .local _ .vmem, ⟨19, _⟩ => ⟨S1x1x128, .f32⟩
  | .local _ .vmem, ⟨20, _⟩ => ⟨S1x1x128, .f32⟩
  | .local _ .vmem, ⟨21, _⟩ => ⟨S1x1152x512, .i8⟩
  | .local _ .vmem, ⟨22, _⟩ => ⟨S1x1152x512, .i8⟩
  | .local _ .vmem, ⟨23, _⟩ => ⟨S1x4608x256, .i8⟩
  | .local _ .vmem, ⟨24, _⟩ => ⟨S1x4608x256, .i8⟩
  | .local _ .vmem, ⟨25, _⟩ => ⟨S1x4608x256, .i8⟩
  | .local _ .vmem, ⟨26, _⟩ => ⟨S1x4608x256, .i8⟩
  | .local _ .vmem, ⟨27, _⟩ => ⟨S1x4608x256, .i8⟩
  | .local _ .vmem, ⟨28, _⟩ => ⟨S1x4608x256, .i8⟩
  | .local _ .vmem, ⟨29, _⟩ => ⟨S1x4608x256, .i8⟩
  | .local _ .vmem, ⟨30, _⟩ => ⟨S1x4608x256, .i8⟩
  | .local _ .vmem, ⟨31, _⟩ => ⟨S1x4608x256, .i8⟩
  | .local _ .vmem, ⟨32, _⟩ => ⟨S1x4608x256, .i8⟩
  | .local _ .vmem, ⟨33, _⟩ => ⟨S1x4608x256, .i8⟩
  | .local _ .vmem, ⟨34, _⟩ => ⟨S1x4608x256, .i8⟩
  | .local _ .vmem, ⟨35, _⟩ => ⟨S1x659x256, .f32⟩
  | .local _ .vmem, ⟨36, _⟩ => ⟨S1x659x256, .f32⟩
  | .local _ .vmem, ⟨37, _⟩ => ⟨S1x659x256, .f32⟩
  | .local _ .vmem, ⟨38, _⟩ => ⟨S1x659x256, .f32⟩
  | .local _ .vmem, ⟨39, _⟩ => ⟨S1x659x256, .f32⟩
  | .local _ .vmem, ⟨40, _⟩ => ⟨S1x659x256, .f32⟩
  | .local _ .vmem, ⟨41, _⟩ => ⟨S1x659x256, .f32⟩
  | .local _ .vmem, ⟨42, _⟩ => ⟨S1x659x256, .f32⟩
  | .local _ .vmem, ⟨43, _⟩ => ⟨S1x659x256, .f32⟩
  | .local _ .vmem, ⟨44, _⟩ => ⟨S1x659x256, .f32⟩
  | .local _ .vmem, ⟨45, _⟩ => ⟨S1x659x256, .f32⟩
  | .local _ .vmem, ⟨46, _⟩ => ⟨S1x659x256, .f32⟩
  | .local _ .vmem, ⟨47, _⟩ => ⟨S1x659x256, .f32⟩
  | .local _ .vmem, ⟨48, _⟩ => ⟨S1x659x256, .f32⟩
  | .local _ .vmem, ⟨49, _⟩ => ⟨S8x512x256, .bf16⟩
  | .local _ .vmem, ⟨50, _⟩ => ⟨S3x7x256x256, .bf16⟩
  | .local _ .vmem, ⟨51, _⟩ => ⟨S3x256x256, .bf16⟩
  | .local _ .vmem, ⟨52, _⟩ => ⟨S4x1168x128, .f32⟩
  | .local _ .vmem, ⟨53, _⟩ => ⟨S2x2x4672x128, .f32⟩
  | .local _ .vmem, ⟨54, _⟩ => ⟨S2x4608x128, .f32⟩
  | .local _ .vmem, ⟨55, _⟩ => ⟨S2x576x128, .f32⟩
  | .local _ .vmem, ⟨56, _⟩ => ⟨S2x576x128, .f32⟩
  | .local _ .smem, ⟨0, _⟩ => ⟨S1x1, .f32⟩
  | .local _ .smem, ⟨1, _⟩ => ⟨S3x2, .f32⟩
  | .local _ .smem, ⟨2, _⟩ => ⟨S1x1, .f32⟩
  | _, _ => ⟨S48x1152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev main_v8_6 : Ref sig .tc := ⟨.hbm, 31, rfl⟩
abbrev main_v8_7 : Ref sig .tc := ⟨.hbm, 32, rfl⟩
abbrev main_v8_8 : Ref sig .tc := ⟨.hbm, 33, rfl⟩
abbrev main_v8_9 : Ref sig .tc := ⟨.hbm, 34, rfl⟩
abbrev main_v8_10 : Ref sig .tc := ⟨.hbm, 35, rfl⟩
abbrev main_v8_11 : Ref sig .tc := ⟨.hbm, 36, rfl⟩
abbrev main_v8_12 : Ref sig .tc := ⟨.hbm, 37, rfl⟩
abbrev main_v8_13 : Ref sig .tc := ⟨.hbm, 38, rfl⟩
abbrev main_v8_14 : Ref sig .tc := ⟨.hbm, 39, rfl⟩
abbrev main_v8_15 : Ref sig .tc := ⟨.hbm, 40, rfl⟩
abbrev main_v8_16 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg17_0 : Ref sig .tc := ⟨.vmem, 15, rfl⟩
abbrev cc0_stg17_1 : Ref sig .tc := ⟨.vmem, 16, rfl⟩
abbrev cc0_stg18_0 : Ref sig .tc := ⟨.vmem, 17, rfl⟩
abbrev cc0_stg18_1 : Ref sig .tc := ⟨.vmem, 18, rfl⟩
abbrev cc0_stg19_0 : Ref sig .tc := ⟨.vmem, 19, rfl⟩
abbrev cc0_stg19_1 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_stg31_0 : Ref sig .tc := ⟨.vmem, 43, rfl⟩
abbrev cc0_stg31_1 : Ref sig .tc := ⟨.vmem, 44, rfl⟩
abbrev cc0_stg32_0 : Ref sig .tc := ⟨.vmem, 45, rfl⟩
abbrev cc0_stg32_1 : Ref sig .tc := ⟨.vmem, 46, rfl⟩
abbrev cc0_stg33_0 : Ref sig .tc := ⟨.vmem, 47, rfl⟩
abbrev cc0_stg33_1 : Ref sig .tc := ⟨.vmem, 48, rfl⟩
abbrev cc0_scratch0 : Ref sig .tc := ⟨.vmem, 49, rfl⟩
abbrev cc0_scratch1 : Ref sig .tc := ⟨.vmem, 50, rfl⟩
abbrev cc0_scratch2 : Ref sig .tc := ⟨.vmem, 51, rfl⟩
abbrev cc0_scratch3 : Ref sig .tc := ⟨.vmem, 52, rfl⟩
abbrev cc0_scratch4 : Ref sig .tc := ⟨.vmem, 53, rfl⟩
abbrev cc0_scratch5 : Ref sig .tc := ⟨.vmem, 54, rfl⟩
abbrev cc0_scratch6 : Ref sig .tc := ⟨.vmem, 55, rfl⟩
abbrev cc0_scratch7 : Ref sig .tc := ⟨.vmem, 56, rfl⟩
abbrev cc0_stg14_0 : Ref sig .tc := ⟨.smem, 0, rfl⟩
abbrev cc0_stg15_0 : Ref sig .tc := ⟨.smem, 1, rfl⟩
abbrev cc0_stg16_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47
abbrev cc0_sem32_0 : DmaSem sig := 48
abbrev cc0_sem32_1 : DmaSem sig := 49
abbrev cc0_sem33_0 : DmaSem sig := 50
abbrev cc0_sem33_1 : DmaSem sig := 51

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_2 : BitVec 32 := 0#32
  let c9_i32 : BitVec 32 := 9#32
  let v4 : BitVec 32 := Scalar.addi c0_i32_2 c9_i32
  let c1_i32 : BitVec 32 := 1#32
  ⟨c0_i32_2, v4, c1_i32⟩
def k0_off1 (k0_t1 : Fin k0_t1_loop.trips) (c0_i32_257 : BitVec 32) : Fin 3 → Nat :=
  let c0_258 : Index := 0#32
  let c0_i32_2 : BitVec 32 := 0#32
  let c1_i32 : BitVec 32 := 1#32
  let arg43 : BitVec 32 := Scf.iv c0_i32_2 c1_i32 k0_t1
  let c128_i32 : BitVec 32 := 128#32
  let v201 : BitVec 32 := Scalar.muli arg43 c128_i32
  let v202 : BitVec 32 := Scalar.addi v201 c0_i32_257
  let v203 : Index := Scalar.indexCast v202
  let c0_259 : Index := 0#32
  ![0, v203.toNat, 0]
def k0_off2 (k0_t1 : Fin k0_t1_loop.trips) (c0_i32_257 : BitVec 32) : Fin 3 → Nat :=
  let c0_270 : Index := 0#32
  let c8_i32 : BitVec 32 := 8#32
  let c0_i32_2 : BitVec 32 := 0#32
  let c1_i32 : BitVec 32 := 1#32
  let arg43 : BitVec 32 := Scf.iv c0_i32_2 c1_i32 k0_t1
  let c128_i32 : BitVec 32 := 128#32
  let v201 : BitVec 32 := Scalar.muli arg43 c128_i32
  let v202 : BitVec 32 := Scalar.addi v201 c0_i32_257
  let v246 : BitVec 32 := Scalar.addi c8_i32 v202
  let v247 : Index := Scalar.indexCast v246
  let c0_271 : Index := 0#32
  ![0, v247.toNat, 0]
def k0_off3 (k0_t1 : Fin k0_t1_loop.trips) (c0_i32_327 : BitVec 32) : Fin 3 → Nat :=
  let c0_328 : Index := 0#32
  let c0_i32_2 : BitVec 32 := 0#32
  let c1_i32 : BitVec 32 := 1#32
  let arg43 : BitVec 32 := Scf.iv c0_i32_2 c1_i32 k0_t1
  let c128_i32_326 : BitVec 32 := 128#32
  let v410 : BitVec 32 := Scalar.muli arg43 c128_i32_326
  let v411 : BitVec 32 := Scalar.addi v410 c0_i32_327
  let v412 : Index := Scalar.indexCast v411
  let c128_329 : Index := 128#32
  ![0, v412.toNat, 128]
def k0_off4 (k0_t1 : Fin k0_t1_loop.trips) (c0_i32_327 : BitVec 32) : Fin 3 → Nat :=
  let c1_341 : Index := 1#32
  let c8_i32_340 : BitVec 32 := 8#32
  let c0_i32_2 : BitVec 32 := 0#32
  let c1_i32 : BitVec 32 := 1#32
  let arg43 : BitVec 32 := Scf.iv c0_i32_2 c1_i32 k0_t1
  let c128_i32_326 : BitVec 32 := 128#32
  let v410 : BitVec 32 := Scalar.muli arg43 c128_i32_326
  let v411 : BitVec 32 := Scalar.addi v410 c0_i32_327
  let v455 : BitVec 32 := Scalar.addi c8_i32_340 v411
  let v456 : Index := Scalar.indexCast v455
  let c0_342 : Index := 0#32
  ![1, v456.toNat, 0]
def k0_off5 (k0_t1 : Fin k0_t1_loop.trips) (c0_i32_400 : BitVec 32) : Fin 3 → Nat :=
  let c0_401 : Index := 0#32
  let c0_i32_2 : BitVec 32 := 0#32
  let c1_i32 : BitVec 32 := 1#32
  let arg43 : BitVec 32 := Scf.iv c0_i32_2 c1_i32 k0_t1
  let c128_i32_399 : BitVec 32 := 128#32
  let v619 : BitVec 32 := Scalar.muli arg43 c128_i32_399
  let v620 : BitVec 32 := Scalar.addi v619 c0_i32_400
  let v621 : Index := Scalar.indexCast v620
  let c256_402 : Index := 256#32
  ![0, v621.toNat, 256]
def k0_off6 (k0_t1 : Fin k0_t1_loop.trips) (c0_i32_400 : BitVec 32) : Fin 3 → Nat :=
  let c2_414 : Index := 2#32
  let c8_i32_413 : BitVec 32 := 8#32
  let c0_i32_2 : BitVec 32 := 0#32
  let c1_i32 : BitVec 32 := 1#32
  let arg43 : BitVec 32 := Scf.iv c0_i32_2 c1_i32 k0_t1
  let c128_i32_399 : BitVec 32 := 128#32
  let v619 : BitVec 32 := Scalar.muli arg43 c128_i32_399
  let v620 : BitVec 32 := Scalar.addi v619 c0_i32_400
  let v664 : BitVec 32 := Scalar.addi c8_i32_413 v620
  let v665 : Index := Scalar.indexCast v664
  let c0_415 : Index := 0#32
  ![2, v665.toNat, 0]
def k0_off7 (k0_t1 : Fin k0_t1_loop.trips) (c0_i32_473 : BitVec 32) : Fin 3 → Nat :=
  let c0_474 : Index := 0#32
  let c0_i32_2 : BitVec 32 := 0#32
  let c1_i32 : BitVec 32 := 1#32
  let arg43 : BitVec 32 := Scf.iv c0_i32_2 c1_i32 k0_t1
  let c128_i32_472 : BitVec 32 := 128#32
  let v828 : BitVec 32 := Scalar.muli arg43 c128_i32_472
  let v829 : BitVec 32 := Scalar.addi v828 c0_i32_473
  let v830 : Index := Scalar.indexCast v829
  let c384_475 : Index := 384#32
  ![0, v830.toNat, 384]
def k0_off8 (k0_t1 : Fin k0_t1_loop.trips) (c0_i32_473 : BitVec 32) : Fin 3 → Nat :=
  let c3 : Index := 3#32
  let c8_i32_486 : BitVec 32 := 8#32
  let c0_i32_2 : BitVec 32 := 0#32
  let c1_i32 : BitVec 32 := 1#32
  let arg43 : BitVec 32 := Scf.iv c0_i32_2 c1_i32 k0_t1
  let c128_i32_472 : BitVec 32 := 128#32
  let v828 : BitVec 32 := Scalar.muli arg43 c128_i32_472
  let v829 : BitVec 32 := Scalar.addi v828 c0_i32_473
  let v873 : BitVec 32 := Scalar.addi c8_i32_486 v829
  let v874 : Index := Scalar.indexCast v873
  let c0_487 : Index := 0#32
  ![3, v874.toNat, 0]
@[reducible] def k0_t2_loop : Scf.Loop 32 :=
  let c0_i32_4 : BitVec 32 := 0#32
  let c9_i32_5 : BitVec 32 := 9#32
  let v5 : BitVec 32 := Scalar.addi c0_i32_4 c9_i32_5
  let c1_i32_6 : BitVec 32 := 1#32
  ⟨c0_i32_4, v5, c1_i32_6⟩
def k0_off9 (k0_t2 : Fin k0_t2_loop.trips) (c0_i32_262 : BitVec 32) : Fin 3 → Nat :=
  let c0_263 : Index := 0#32
  let c8_i32 : BitVec 32 := 8#32
  let c0_i32_4 : BitVec 32 := 0#32
  let c1_i32_6 : BitVec 32 := 1#32
  let arg43 : BitVec 32 := Scf.iv c0_i32_4 c1_i32_6 k0_t2
  let c128_i32 : BitVec 32 := 128#32
  let v192 : BitVec 32 := Scalar.muli arg43 c128_i32
  let v203 : BitVec 32 := Scalar.addi c8_i32 v192
  let v204 : BitVec 32 := Scalar.addi v203 c0_i32_262
  let v205 : Index := Scalar.indexCast v204
  let c0_264 : Index := 0#32
  ![0, v205.toNat, 0]
def k0_off9_at (r : Fin 3) : BitVec 32 :=
  if r.val < 1 then
    0#32
  else
    if r.val < 2 then
      4294967295#32
    else
      1#32
def k0_off10 (k0_t2 : Fin k0_t2_loop.trips) (c0_i32_266 : BitVec 32) : Fin 3 → Nat :=
  let c1_267 : Index := 1#32
  let c8_i32_265 : BitVec 32 := 8#32
  let c0_i32_4 : BitVec 32 := 0#32
  let c1_i32_6 : BitVec 32 := 1#32
  let arg43 : BitVec 32 := Scf.iv c0_i32_4 c1_i32_6 k0_t2
  let c128_i32 : BitVec 32 := 128#32
  let v192 : BitVec 32 := Scalar.muli arg43 c128_i32
  let v208 : BitVec 32 := Scalar.addi c8_i32_265 v192
  let v209 : BitVec 32 := Scalar.addi v208 c0_i32_266
  let v210 : Index := Scalar.indexCast v209
  let c0_268 : Index := 0#32
  ![1, v210.toNat, 0]
def k0_off10_at (r : Fin 3) : BitVec 32 :=
  if r.val < 1 then
    0#32
  else
    if r.val < 2 then
      4294967295#32
    else
      1#32
def k0_off11 (k0_t2 : Fin k0_t2_loop.trips) (c0_i32_270 : BitVec 32) : Fin 3 → Nat :=
  let c2_271 : Index := 2#32
  let c8_i32_269 : BitVec 32 := 8#32
  let c0_i32_4 : BitVec 32 := 0#32
  let c1_i32_6 : BitVec 32 := 1#32
  let arg43 : BitVec 32 := Scf.iv c0_i32_4 c1_i32_6 k0_t2
  let c128_i32 : BitVec 32 := 128#32
  let v192 : BitVec 32 := Scalar.muli arg43 c128_i32
  let v213 : BitVec 32 := Scalar.addi c8_i32_269 v192
  let v214 : BitVec 32 := Scalar.addi v213 c0_i32_270
  let v215 : Index := Scalar.indexCast v214
  let c0_272 : Index := 0#32
  ![2, v215.toNat, 0]
def k0_off11_at (r : Fin 3) : BitVec 32 :=
  if r.val < 1 then
    0#32
  else
    if r.val < 2 then
      4294967295#32
    else
      1#32
def k0_off12 (k0_t2 : Fin k0_t2_loop.trips) (c0_i32_274 : BitVec 32) : Fin 3 → Nat :=
  let c3 : Index := 3#32
  let c8_i32_273 : BitVec 32 := 8#32
  let c0_i32_4 : BitVec 32 := 0#32
  let c1_i32_6 : BitVec 32 := 1#32
  let arg43 : BitVec 32 := Scf.iv c0_i32_4 c1_i32_6 k0_t2
  let c128_i32 : BitVec 32 := 128#32
  let v192 : BitVec 32 := Scalar.muli arg43 c128_i32
  let v218 : BitVec 32 := Scalar.addi c8_i32_273 v192
  let v219 : BitVec 32 := Scalar.addi v218 c0_i32_274
  let v220 : Index := Scalar.indexCast v219
  let c0_275 : Index := 0#32
  ![3, v220.toNat, 0]
def k0_off12_at (r : Fin 3) : BitVec 32 :=
  if r.val < 1 then
    0#32
  else
    if r.val < 2 then
      4294967295#32
    else
      1#32
def k0_off13 (k0_t2 : Fin k0_t2_loop.trips) (c0_i32_443 : BitVec 32) : Fin 3 → Nat :=
  let c0_447 : Index := 0#32
  let c0_i32_4 : BitVec 32 := 0#32
  let c1_i32_6 : BitVec 32 := 1#32
  let arg43 : BitVec 32 := Scf.iv c0_i32_4 c1_i32_6 k0_t2
  let c512_i32 : BitVec 32 := 512#32
  let v474 : BitVec 32 := Scalar.muli arg43 c512_i32
  let v475 : BitVec 32 := Scalar.addi v474 c0_i32_443
  let v480 : Index := Scalar.indexCast v475
  let c0_448 : Index := 0#32
  ![0, v480.toNat, 0]
def k0_off14 (k0_t2 : Fin k0_t2_loop.trips) (c0_i32_443 : BitVec 32) : Fin 3 → Nat :=
  let c0_457 : Index := 0#32
  let c0_i32_4 : BitVec 32 := 0#32
  let c1_i32_6 : BitVec 32 := 1#32
  let arg43 : BitVec 32 := Scf.iv c0_i32_4 c1_i32_6 k0_t2
  let c512_i32 : BitVec 32 := 512#32
  let v474 : BitVec 32 := Scalar.muli arg43 c512_i32
  let v475 : BitVec 32 := Scalar.addi v474 c0_i32_443
  let v518 : Index := Scalar.indexCast v475
  let c0_458 : Index := 0#32
  ![0, v518.toNat, 0]
def k0_off15 (k0_t2 : Fin k0_t2_loop.trips) (c0_i32_443 : BitVec 32) : Fin 4 → Nat :=
  let c0_459 : Index := 0#32
  let c0_460 : Index := 0#32
  let c32_i32 : BitVec 32 := 32#32
  let c0_i32_4 : BitVec 32 := 0#32
  let c1_i32_6 : BitVec 32 := 1#32
  let arg43 : BitVec 32 := Scf.iv c0_i32_4 c1_i32_6 k0_t2
  let c512_i32 : BitVec 32 := 512#32
  let v474 : BitVec 32 := Scalar.muli arg43 c512_i32
  let v475 : BitVec 32 := Scalar.addi v474 c0_i32_443
  let v522 : BitVec 32 := Scalar.addi c32_i32 v475
  let v523 : Index := Scalar.indexCast v522
  let c0_461 : Index := 0#32
  ![0, 0, v523.toNat, 0]
def k0_off16 (k0_t2 : Fin k0_t2_loop.trips) (c0_i32_760 : BitVec 32) : Fin 3 → Nat :=
  let c1_764 : Index := 1#32
  let c0_i32_4 : BitVec 32 := 0#32
  let c1_i32_6 : BitVec 32 := 1#32
  let arg43 : BitVec 32 := Scf.iv c0_i32_4 c1_i32_6 k0_t2
  let c512_i32_759 : BitVec 32 := 512#32
  let v1332 : BitVec 32 := Scalar.muli arg43 c512_i32_759
  let v1333 : BitVec 32 := Scalar.addi v1332 c0_i32_760
  let v1338 : Index := Scalar.indexCast v1333
  let c0_765 : Index := 0#32
  ![1, v1338.toNat, 0]
def k0_off17 (k0_t2 : Fin k0_t2_loop.trips) (c0_i32_760 : BitVec 32) : Fin 3 → Nat :=
  let c0_774 : Index := 0#32
  let c0_i32_4 : BitVec 32 := 0#32
  let c1_i32_6 : BitVec 32 := 1#32
  let arg43 : BitVec 32 := Scf.iv c0_i32_4 c1_i32_6 k0_t2
  let c512_i32_759 : BitVec 32 := 512#32
  let v1332 : BitVec 32 := Scalar.muli arg43 c512_i32_759
  let v1333 : BitVec 32 := Scalar.addi v1332 c0_i32_760
  let v1376 : Index := Scalar.indexCast v1333
  let c128_775 : Index := 128#32
  ![0, v1376.toNat, 128]
def k0_off18 (k0_t2 : Fin k0_t2_loop.trips) (c0_i32_760 : BitVec 32) : Fin 4 → Nat :=
  let c0_777 : Index := 0#32
  let c1_778 : Index := 1#32
  let c32_i32_776 : BitVec 32 := 32#32
  let c0_i32_4 : BitVec 32 := 0#32
  let c1_i32_6 : BitVec 32 := 1#32
  let arg43 : BitVec 32 := Scf.iv c0_i32_4 c1_i32_6 k0_t2
  let c512_i32_759 : BitVec 32 := 512#32
  let v1332 : BitVec 32 := Scalar.muli arg43 c512_i32_759
  let v1333 : BitVec 32 := Scalar.addi v1332 c0_i32_760
  let v1380 : BitVec 32 := Scalar.addi c32_i32_776 v1333
  let v1381 : Index := Scalar.indexCast v1380
  let c0_779 : Index := 0#32
  ![0, 1, v1381.toNat, 0]
def k0_off19 (k0_t2 : Fin k0_t2_loop.trips) (c0_i32_1096 : BitVec 32) : Fin 2 → Nat :=
  let c64_i32_1095 : BitVec 32 := 64#32
  let c_m8_i32 : BitVec 32 := 4294967288#32
  let c0_i32_4 : BitVec 32 := 0#32
  let c1_i32_6 : BitVec 32 := 1#32
  let arg43 : BitVec 32 := Scf.iv c0_i32_4 c1_i32_6 k0_t2
  let v2180 : BitVec 32 := Scalar.muli c_m8_i32 arg43
  let v2181 : BitVec 32 := Scalar.addi c64_i32_1095 v2180
  let v2182 : BitVec 32 := Scalar.addi v2181 c0_i32_1096
  let v2185 : Index := Scalar.indexCast v2182
  let c0_1100 : Index := 0#32
  ![v2185.toNat, 0]
def k0_mult1 (k0_t2 : Fin k0_t2_loop.trips) : BitVec 32 :=
  let c8_i32_1103 : BitVec 32 := 8#32
  let c9_i32_1101 : BitVec 32 := 9#32
  let c0_i32_4 : BitVec 32 := 0#32
  let c1_i32_6 : BitVec 32 := 1#32
  let arg43 : BitVec 32 := Scf.iv c0_i32_4 c1_i32_6 k0_t2
  let v2187 : BitVec 32 := Scalar.muli c9_i32_1101 arg43
  let c0_i32_1102 : BitVec 32 := 0#32
  let v2188 : BitVec 32 := Scalar.addi v2187 c0_i32_1102
  let v2189 : BitVec 32 := Scalar.muli c8_i32_1103 v2188
  v2189
def k0_off20 (k0_t2 : Fin k0_t2_loop.trips) (c0_i32_1102 : BitVec 32) : Fin 3 → Nat :=
  let c0_1104 : Index := 0#32
  let c8_i32_1103 : BitVec 32 := 8#32
  let c9_i32_1101 : BitVec 32 := 9#32
  let c0_i32_4 : BitVec 32 := 0#32
  let c1_i32_6 : BitVec 32 := 1#32
  let arg43 : BitVec 32 := Scf.iv c0_i32_4 c1_i32_6 k0_t2
  let v2187 : BitVec 32 := Scalar.muli c9_i32_1101 arg43
  let v2188 : BitVec 32 := Scalar.addi v2187 c0_i32_1102
  let v2189 : BitVec 32 := Scalar.muli c8_i32_1103 v2188
  let v2190 : BitVec 32 := v2189
  let v2191 : Index := Scalar.indexCast v2190
  let c0_1105 : Index := 0#32
  ![0, v2191.toNat, 0]
def k0_mult2 (k0_t2 : Fin k0_t2_loop.trips) : BitVec 32 :=
  let c8_i32_1114 : BitVec 32 := 8#32
  let c9_i32_1112 : BitVec 32 := 9#32
  let c0_i32_4 : BitVec 32 := 0#32
  let c1_i32_6 : BitVec 32 := 1#32
  let arg43 : BitVec 32 := Scf.iv c0_i32_4 c1_i32_6 k0_t2
  let v2202 : BitVec 32 := Scalar.muli c9_i32_1112 arg43
  let c1_i32_1113 : BitVec 32 := 1#32
  let v2203 : BitVec 32 := Scalar.addi v2202 c1_i32_1113
  let v2204 : BitVec 32 := Scalar.muli c8_i32_1114 v2203
  v2204
def k0_mult3 (k0_t2 : Fin k0_t2_loop.trips) : BitVec 32 :=
  let c8_i32_1124 : BitVec 32 := 8#32
  let c9_i32_1123 : BitVec 32 := 9#32
  let c0_i32_4 : BitVec 32 := 0#32
  let c1_i32_6 : BitVec 32 := 1#32
  let arg43 : BitVec 32 := Scf.iv c0_i32_4 c1_i32_6 k0_t2
  let v2217 : BitVec 32 := Scalar.muli c9_i32_1123 arg43
  let c2_i32 : BitVec 32 := 2#32
  let v2218 : BitVec 32 := Scalar.addi v2217 c2_i32
  let v2219 : BitVec 32 := Scalar.muli c8_i32_1124 v2218
  v2219
def k0_mult4 (k0_t2 : Fin k0_t2_loop.trips) : BitVec 32 :=
  let c8_i32_1134 : BitVec 32 := 8#32
  let c9_i32_1133 : BitVec 32 := 9#32
  let c0_i32_4 : BitVec 32 := 0#32
  let c1_i32_6 : BitVec 32 := 1#32
  let arg43 : BitVec 32 := Scf.iv c0_i32_4 c1_i32_6 k0_t2
  let v2232 : BitVec 32 := Scalar.muli c9_i32_1133 arg43
  let c3_i32 : BitVec 32 := 3#32
  let v2233 : BitVec 32 := Scalar.addi v2232 c3_i32
  let v2234 : BitVec 32 := Scalar.muli c8_i32_1134 v2233
  v2234
def k0_mult5 (k0_t2 : Fin k0_t2_loop.trips) : BitVec 32 :=
  let c8_i32_1145 : BitVec 32 := 8#32
  let c9_i32_1144 : BitVec 32 := 9#32
  let c0_i32_4 : BitVec 32 := 0#32
  let c1_i32_6 : BitVec 32 := 1#32
  let arg43 : BitVec 32 := Scf.iv c0_i32_4 c1_i32_6 k0_t2
  let v2247 : BitVec 32 := Scalar.muli c9_i32_1144 arg43
  let c4_i32 : BitVec 32 := 4#32
  let v2248 : BitVec 32 := Scalar.addi v2247 c4_i32
  let v2249 : BitVec 32 := Scalar.muli c8_i32_1145 v2248
  v2249
def k0_mult6 (k0_t2 : Fin k0_t2_loop.trips) : BitVec 32 :=
  let c8_i32_1155 : BitVec 32 := 8#32
  let c9_i32_1154 : BitVec 32 := 9#32
  let c0_i32_4 : BitVec 32 := 0#32
  let c1_i32_6 : BitVec 32 := 1#32
  let arg43 : BitVec 32 := Scf.iv c0_i32_4 c1_i32_6 k0_t2
  let v2262 : BitVec 32 := Scalar.muli c9_i32_1154 arg43
  let c5_i32 : BitVec 32 := 5#32
  let v2263 : BitVec 32 := Scalar.addi v2262 c5_i32
  let v2264 : BitVec 32 := Scalar.muli c8_i32_1155 v2263
  v2264
def k0_mult7 (k0_t2 : Fin k0_t2_loop.trips) : BitVec 32 :=
  let c8_i32_1165 : BitVec 32 := 8#32
  let c9_i32_1164 : BitVec 32 := 9#32
  let c0_i32_4 : BitVec 32 := 0#32
  let c1_i32_6 : BitVec 32 := 1#32
  let arg43 : BitVec 32 := Scf.iv c0_i32_4 c1_i32_6 k0_t2
  let v2277 : BitVec 32 := Scalar.muli c9_i32_1164 arg43
  let c6_i32 : BitVec 32 := 6#32
  let v2278 : BitVec 32 := Scalar.addi v2277 c6_i32
  let v2279 : BitVec 32 := Scalar.muli c8_i32_1165 v2278
  v2279
def k0_mult8 (k0_t2 : Fin k0_t2_loop.trips) : BitVec 32 :=
  let c8_i32_1175 : BitVec 32 := 8#32
  let c9_i32_1174 : BitVec 32 := 9#32
  let c0_i32_4 : BitVec 32 := 0#32
  let c1_i32_6 : BitVec 32 := 1#32
  let arg43 : BitVec 32 := Scf.iv c0_i32_4 c1_i32_6 k0_t2
  let v2292 : BitVec 32 := Scalar.muli c9_i32_1174 arg43
  let c7_i32 : BitVec 32 := 7#32
  let v2293 : BitVec 32 := Scalar.addi v2292 c7_i32
  let v2294 : BitVec 32 := Scalar.muli c8_i32_1175 v2293
  v2294
def k0_mult9 (k0_t2 : Fin k0_t2_loop.trips) : BitVec 32 :=
  let c8_i32_1187 : BitVec 32 := 8#32
  let c9_i32_1185 : BitVec 32 := 9#32
  let c0_i32_4 : BitVec 32 := 0#32
  let c1_i32_6 : BitVec 32 := 1#32
  let arg43 : BitVec 32 := Scf.iv c0_i32_4 c1_i32_6 k0_t2
  let v2307 : BitVec 32 := Scalar.muli c9_i32_1185 arg43
  let c8_i32_1186 : BitVec 32 := 8#32
  let v2308 : BitVec 32 := Scalar.addi v2307 c8_i32_1186
  let v2309 : BitVec 32 := Scalar.muli c8_i32_1187 v2308
  v2309
def k0_mult10 (k0_t2 : Fin k0_t2_loop.trips) : BitVec 32 :=
  let c8_i32_1199 : BitVec 32 := 8#32
  let c9_i32_1197 : BitVec 32 := 9#32
  let c0_i32_4 : BitVec 32 := 0#32
  let c1_i32_6 : BitVec 32 := 1#32
  let arg43 : BitVec 32 := Scf.iv c0_i32_4 c1_i32_6 k0_t2
  let v2322 : BitVec 32 := Scalar.muli c9_i32_1197 arg43
  let c0_i32_1198 : BitVec 32 := 0#32
  let v2323 : BitVec 32 := Scalar.addi v2322 c0_i32_1198
  let v2324 : BitVec 32 := Scalar.muli c8_i32_1199 v2323
  v2324
def k0_off21 (k0_t2 : Fin k0_t2_loop.trips) (c0_i32_1198 : BitVec 32) : Fin 3 → Nat :=
  let c0_1200 : Index := 0#32
  let c8_i32_1199 : BitVec 32 := 8#32
  let c9_i32_1197 : BitVec 32 := 9#32
  let c0_i32_4 : BitVec 32 := 0#32
  let c1_i32_6 : BitVec 32 := 1#32
  let arg43 : BitVec 32 := Scf.iv c0_i32_4 c1_i32_6 k0_t2
  let v2322 : BitVec 32 := Scalar.muli c9_i32_1197 arg43
  let v2323 : BitVec 32 := Scalar.addi v2322 c0_i32_1198
  let v2324 : BitVec 32 := Scalar.muli c8_i32_1199 v2323
  let v2325 : BitVec 32 := v2324
  let v2326 : Index := Scalar.indexCast v2325
  let c128_1201 : Index := 128#32
  ![0, v2326.toNat, 128]
def k0_mult11 (k0_t2 : Fin k0_t2_loop.trips) : BitVec 32 :=
  let c8_i32_1211 : BitVec 32 := 8#32
  let c9_i32_1209 : BitVec 32 := 9#32
  let c0_i32_4 : BitVec 32 := 0#32
  let c1_i32_6 : BitVec 32 := 1#32
  let arg43 : BitVec 32 := Scf.iv c0_i32_4 c1_i32_6 k0_t2
  let v2337 : BitVec 32 := Scalar.muli c9_i32_1209 arg43
  let c1_i32_1210 : BitVec 32 := 1#32
  let v2338 : BitVec 32 := Scalar.addi v2337 c1_i32_1210
  let v2339 : BitVec 32 := Scalar.muli c8_i32_1211 v2338
  v2339
def k0_mult12 (k0_t2 : Fin k0_t2_loop.trips) : BitVec 32 :=
  let c8_i32_1223 : BitVec 32 := 8#32
  let c9_i32_1221 : BitVec 32 := 9#32
  let c0_i32_4 : BitVec 32 := 0#32
  let c1_i32_6 : BitVec 32 := 1#32
  let arg43 : BitVec 32 := Scf.iv c0_i32_4 c1_i32_6 k0_t2
  let v2352 : BitVec 32 := Scalar.muli c9_i32_1221 arg43
  let c2_i32_1222 : BitVec 32 := 2#32
  let v2353 : BitVec 32 := Scalar.addi v2352 c2_i32_1222
  let v2354 : BitVec 32 := Scalar.muli c8_i32_1223 v2353
  v2354
def k0_mult13 (k0_t2 : Fin k0_t2_loop.trips) : BitVec 32 :=
  let c8_i32_1235 : BitVec 32 := 8#32
  let c9_i32_1233 : BitVec 32 := 9#32
  let c0_i32_4 : BitVec 32 := 0#32
  let c1_i32_6 : BitVec 32 := 1#32
  let arg43 : BitVec 32 := Scf.iv c0_i32_4 c1_i32_6 k0_t2
  let v2367 : BitVec 32 := Scalar.muli c9_i32_1233 arg43
  let c3_i32_1234 : BitVec 32 := 3#32
  let v2368 : BitVec 32 := Scalar.addi v2367 c3_i32_1234
  let v2369 : BitVec 32 := Scalar.muli c8_i32_1235 v2368
  v2369
def k0_mult14 (k0_t2 : Fin k0_t2_loop.trips) : BitVec 32 :=
  let c8_i32_1247 : BitVec 32 := 8#32
  let c9_i32_1245 : BitVec 32 := 9#32
  let c0_i32_4 : BitVec 32 := 0#32
  let c1_i32_6 : BitVec 32 := 1#32
  let arg43 : BitVec 32 := Scf.iv c0_i32_4 c1_i32_6 k0_t2
  let v2382 : BitVec 32 := Scalar.muli c9_i32_1245 arg43
  let c4_i32_1246 : BitVec 32 := 4#32
  let v2383 : BitVec 32 := Scalar.addi v2382 c4_i32_1246
  let v2384 : BitVec 32 := Scalar.muli c8_i32_1247 v2383
  v2384
def k0_mult15 (k0_t2 : Fin k0_t2_loop.trips) : BitVec 32 :=
  let c8_i32_1259 : BitVec 32 := 8#32
  let c9_i32_1257 : BitVec 32 := 9#32
  let c0_i32_4 : BitVec 32 := 0#32
  let c1_i32_6 : BitVec 32 := 1#32
  let arg43 : BitVec 32 := Scf.iv c0_i32_4 c1_i32_6 k0_t2
  let v2397 : BitVec 32 := Scalar.muli c9_i32_1257 arg43
  let c5_i32_1258 : BitVec 32 := 5#32
  let v2398 : BitVec 32 := Scalar.addi v2397 c5_i32_1258
  let v2399 : BitVec 32 := Scalar.muli c8_i32_1259 v2398
  v2399
def k0_mult16 (k0_t2 : Fin k0_t2_loop.trips) : BitVec 32 :=
  let c8_i32_1271 : BitVec 32 := 8#32
  let c9_i32_1269 : BitVec 32 := 9#32
  let c0_i32_4 : BitVec 32 := 0#32
  let c1_i32_6 : BitVec 32 := 1#32
  let arg43 : BitVec 32 := Scf.iv c0_i32_4 c1_i32_6 k0_t2
  let v2412 : BitVec 32 := Scalar.muli c9_i32_1269 arg43
  let c6_i32_1270 : BitVec 32 := 6#32
  let v2413 : BitVec 32 := Scalar.addi v2412 c6_i32_1270
  let v2414 : BitVec 32 := Scalar.muli c8_i32_1271 v2413
  v2414
def k0_mult17 (k0_t2 : Fin k0_t2_loop.trips) : BitVec 32 :=
  let c8_i32_1283 : BitVec 32 := 8#32
  let c9_i32_1281 : BitVec 32 := 9#32
  let c0_i32_4 : BitVec 32 := 0#32
  let c1_i32_6 : BitVec 32 := 1#32
  let arg43 : BitVec 32 := Scf.iv c0_i32_4 c1_i32_6 k0_t2
  let v2427 : BitVec 32 := Scalar.muli c9_i32_1281 arg43
  let c7_i32_1282 : BitVec 32 := 7#32
  let v2428 : BitVec 32 := Scalar.addi v2427 c7_i32_1282
  let v2429 : BitVec 32 := Scalar.muli c8_i32_1283 v2428
  v2429
def k0_mult18 (k0_t2 : Fin k0_t2_loop.trips) : BitVec 32 :=
  let c8_i32_1295 : BitVec 32 := 8#32
  let c9_i32_1293 : BitVec 32 := 9#32
  let c0_i32_4 : BitVec 32 := 0#32
  let c1_i32_6 : BitVec 32 := 1#32
  let arg43 : BitVec 32 := Scf.iv c0_i32_4 c1_i32_6 k0_t2
  let v2442 : BitVec 32 := Scalar.muli c9_i32_1293 arg43
  let c8_i32_1294 : BitVec 32 := 8#32
  let v2443 : BitVec 32 := Scalar.addi v2442 c8_i32_1294
  let v2444 : BitVec 32 := Scalar.muli c8_i32_1295 v2443
  v2444
@[reducible] def k0_t3_loop : Scf.Loop 32 :=
  let c0_i32_37 : BitVec 32 := 0#32
  let c9_i32_38 : BitVec 32 := 9#32
  let v31 : BitVec 32 := Scalar.addi c0_i32_37 c9_i32_38
  let c1_i32_39 : BitVec 32 := 1#32
  ⟨c0_i32_37, v31, c1_i32_39⟩
def k0_off22 (k0_t3 : Fin k0_t3_loop.trips) (c29_i32 : BitVec 32) : Fin 4 → Nat :=
  let c0_274 : Index := 0#32
  let c0_275 : Index := 0#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v213 : BitVec 32 := Scalar.addi v192 c29_i32
  let v214 : Index := Scalar.indexCast v213
  let c0_276 : Index := 0#32
  ![0, 0, v214.toNat, 0]
def k0_off23 (k0_t3 : Fin k0_t3_loop.trips) (c29_i32_277 : BitVec 32) : Fin 4 → Nat :=
  let c0_278 : Index := 0#32
  let c1_279 : Index := 1#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v217 : BitVec 32 := Scalar.addi v192 c29_i32_277
  let v218 : Index := Scalar.indexCast v217
  let c0_280 : Index := 0#32
  ![0, 1, v218.toNat, 0]
def k0_off24 (k0_t3 : Fin k0_t3_loop.trips) (c0_i32_376 : BitVec 32) : Fin 3 → Nat :=
  let c0_377 : Index := 0#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v359 : BitVec 32 := Scalar.addi v192 c0_i32_376
  let v360 : Index := Scalar.indexCast v359
  let c0_378 : Index := 0#32
  ![0, v360.toNat, 0]
def k0_off25 (k0_t3 : Fin k0_t3_loop.trips) (c0_i32_585 : BitVec 32) : Fin 3 → Nat :=
  let c0_586 : Index := 0#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v1125 : BitVec 32 := Scalar.addi v192 c0_i32_585
  let v1126 : Index := Scalar.indexCast v1125
  let c128_587 : Index := 128#32
  ![0, v1126.toNat, 128]
def k0_off26 (k0_t3 : Fin k0_t3_loop.trips) : Fin 3 → Nat :=
  let c0_798 : Index := 0#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v1835 : Index := Scalar.indexCast v192
  let c0_799 : Index := 0#32
  ![0, v1835.toNat, 0]
def k0_off27 (k0_t3 : Fin k0_t3_loop.trips) (c0_i32_818 : BitVec 32) : Fin 3 → Nat :=
  let c0_822 : Index := 0#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v1858 : BitVec 32 := Scalar.addi v192 c0_i32_818
  let v1867 : Index := Scalar.indexCast v1858
  let c0_823 : Index := 0#32
  ![0, v1867.toNat, 0]
def k0_off28 (k0_t3 : Fin k0_t3_loop.trips) (c0_i32_818 : BitVec 32) : Fin 4 → Nat :=
  let c1_837 : Index := 1#32
  let c0_838 : Index := 0#32
  let c32_i32_836 : BitVec 32 := 32#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v1858 : BitVec 32 := Scalar.addi v192 c0_i32_818
  let v1915 : BitVec 32 := Scalar.addi c32_i32_836 v1858
  let v1916 : Index := Scalar.indexCast v1915
  let c0_839 : Index := 0#32
  ![1, 0, v1916.toNat, 0]
def k0_off29 (k0_t3 : Fin k0_t3_loop.trips) (c0_i32_1184 : BitVec 32) : Fin 3 → Nat :=
  let c1_1188 : Index := 1#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v2865 : BitVec 32 := Scalar.addi v192 c0_i32_1184
  let v2874 : Index := Scalar.indexCast v2865
  let c0_1189 : Index := 0#32
  ![1, v2874.toNat, 0]
def k0_off30 (k0_t3 : Fin k0_t3_loop.trips) (c0_i32_1184 : BitVec 32) : Fin 4 → Nat :=
  let c1_1203 : Index := 1#32
  let c1_1204 : Index := 1#32
  let c32_i32_1202 : BitVec 32 := 32#32
  let c0_i32_37 : BitVec 32 := 0#32
  let c1_i32_39 : BitVec 32 := 1#32
  let arg43 : BitVec 32 := Scf.iv c0_i32_37 c1_i32_39 k0_t3
  let c512_i32 : BitVec 32 := 512#32
  let v192 : BitVec 32 := Scalar.muli arg43 c512_i32
  let v2865 : BitVec 32 := Scalar.addi v192 c0_i32_1184
  let v2922 : BitVec 32 := Scalar.addi c32_i32_1202 v2865
  let v2923 : Index := Scalar.indexCast v2922
  let c0_1205 : Index := 0#32
  ![1, 1, v2923.toNat, 0]
def k0_off31 (k0_t3 : Fin k0_t3_loop.trips) (c0_i32_1537 : BitVec 32) : Fin 2 → Nat :=
  let c64_i32_1536 : BitVec 32 := 64#32
  let c_m8_i32 : BitVec 32 := 4294967288#32
  let c0_i32_37 : BitVec 32 := 0#32
  let c1_i32_39 : BitVec 32 := 1#32
  let arg43 : BitVec 32 := Scf.iv c0_i32_37 c1_i32_39 k0_t3
  let v3857 : BitVec 32 := Scalar.muli c_m8_i32 arg43
  let v3858 : BitVec 32 := Scalar.addi c64_i32_1536 v3857
  let v3859 : BitVec 32 := Scalar.addi v3858 c0_i32_1537
  let v3862 : Index := Scalar.indexCast v3859
  let c0_1541 : Index := 0#32
  ![v3862.toNat, 0]
def k0_mult19 (k0_t3 : Fin k0_t3_loop.trips) : BitVec 32 :=
  let c8_i32 : BitVec 32 := 8#32
  let c9_i32_1542 : BitVec 32 := 9#32
  let c0_i32_37 : BitVec 32 := 0#32
  let c1_i32_39 : BitVec 32 := 1#32
  let arg43 : BitVec 32 := Scf.iv c0_i32_37 c1_i32_39 k0_t3
  let v3864 : BitVec 32 := Scalar.muli c9_i32_1542 arg43
  let c0_i32_1543 : BitVec 32 := 0#32
  let v3865 : BitVec 32 := Scalar.addi v3864 c0_i32_1543
  let v3866 : BitVec 32 := Scalar.muli c8_i32 v3865
  v3866
def k0_off32 (k0_t3 : Fin k0_t3_loop.trips) (c0_i32_1543 : BitVec 32) : Fin 3 → Nat :=
  let c0_1544 : Index := 0#32
  let c8_i32 : BitVec 32 := 8#32
  let c9_i32_1542 : BitVec 32 := 9#32
  let c0_i32_37 : BitVec 32 := 0#32
  let c1_i32_39 : BitVec 32 := 1#32
  let arg43 : BitVec 32 := Scf.iv c0_i32_37 c1_i32_39 k0_t3
  let v3864 : BitVec 32 := Scalar.muli c9_i32_1542 arg43
  let v3865 : BitVec 32 := Scalar.addi v3864 c0_i32_1543
  let v3866 : BitVec 32 := Scalar.muli c8_i32 v3865
  let v3867 : BitVec 32 := v3866
  let v3868 : Index := Scalar.indexCast v3867
  let c0_1545 : Index := 0#32
  ![0, v3868.toNat, 0]
def k0_mult20 (k0_t3 : Fin k0_t3_loop.trips) : BitVec 32 :=
  let c8_i32_1554 : BitVec 32 := 8#32
  let c9_i32_1552 : BitVec 32 := 9#32
  let c0_i32_37 : BitVec 32 := 0#32
  let c1_i32_39 : BitVec 32 := 1#32
  let arg43 : BitVec 32 := Scf.iv c0_i32_37 c1_i32_39 k0_t3
  let v3879 : BitVec 32 := Scalar.muli c9_i32_1552 arg43
  let c1_i32_1553 : BitVec 32 := 1#32
  let v3880 : BitVec 32 := Scalar.addi v3879 c1_i32_1553
  let v3881 : BitVec 32 := Scalar.muli c8_i32_1554 v3880
  v3881
def k0_mult21 (k0_t3 : Fin k0_t3_loop.trips) : BitVec 32 :=
  let c8_i32_1564 : BitVec 32 := 8#32
  let c9_i32_1563 : BitVec 32 := 9#32
  let c0_i32_37 : BitVec 32 := 0#32
  let c1_i32_39 : BitVec 32 := 1#32
  let arg43 : BitVec 32 := Scf.iv c0_i32_37 c1_i32_39 k0_t3
  let v3894 : BitVec 32 := Scalar.muli c9_i32_1563 arg43
  let c2_i32 : BitVec 32 := 2#32
  let v3895 : BitVec 32 := Scalar.addi v3894 c2_i32
  let v3896 : BitVec 32 := Scalar.muli c8_i32_1564 v3895
  v3896
def k0_mult22 (k0_t3 : Fin k0_t3_loop.trips) : BitVec 32 :=
  let c8_i32_1574 : BitVec 32 := 8#32
  let c9_i32_1573 : BitVec 32 := 9#32
  let c0_i32_37 : BitVec 32 := 0#32
  let c1_i32_39 : BitVec 32 := 1#32
  let arg43 : BitVec 32 := Scf.iv c0_i32_37 c1_i32_39 k0_t3
  let v3909 : BitVec 32 := Scalar.muli c9_i32_1573 arg43
  let c3_i32 : BitVec 32 := 3#32
  let v3910 : BitVec 32 := Scalar.addi v3909 c3_i32
  let v3911 : BitVec 32 := Scalar.muli c8_i32_1574 v3910
  v3911
def k0_mult23 (k0_t3 : Fin k0_t3_loop.trips) : BitVec 32 :=
  let c8_i32_1585 : BitVec 32 := 8#32
  let c9_i32_1584 : BitVec 32 := 9#32
  let c0_i32_37 : BitVec 32 := 0#32
  let c1_i32_39 : BitVec 32 := 1#32
  let arg43 : BitVec 32 := Scf.iv c0_i32_37 c1_i32_39 k0_t3
  let v3924 : BitVec 32 := Scalar.muli c9_i32_1584 arg43
  let c4_i32 : BitVec 32 := 4#32
  let v3925 : BitVec 32 := Scalar.addi v3924 c4_i32
  let v3926 : BitVec 32 := Scalar.muli c8_i32_1585 v3925
  v3926
def k0_mult24 (k0_t3 : Fin k0_t3_loop.trips) : BitVec 32 :=
  let c8_i32_1595 : BitVec 32 := 8#32
  let c9_i32_1594 : BitVec 32 := 9#32
  let c0_i32_37 : BitVec 32 := 0#32
  let c1_i32_39 : BitVec 32 := 1#32
  let arg43 : BitVec 32 := Scf.iv c0_i32_37 c1_i32_39 k0_t3
  let v3939 : BitVec 32 := Scalar.muli c9_i32_1594 arg43
  let c5_i32 : BitVec 32 := 5#32
  let v3940 : BitVec 32 := Scalar.addi v3939 c5_i32
  let v3941 : BitVec 32 := Scalar.muli c8_i32_1595 v3940
  v3941
def k0_mult25 (k0_t3 : Fin k0_t3_loop.trips) : BitVec 32 :=
  let c8_i32_1605 : BitVec 32 := 8#32
  let c9_i32_1604 : BitVec 32 := 9#32
  let c0_i32_37 : BitVec 32 := 0#32
  let c1_i32_39 : BitVec 32 := 1#32
  let arg43 : BitVec 32 := Scf.iv c0_i32_37 c1_i32_39 k0_t3
  let v3954 : BitVec 32 := Scalar.muli c9_i32_1604 arg43
  let c6_i32 : BitVec 32 := 6#32
  let v3955 : BitVec 32 := Scalar.addi v3954 c6_i32
  let v3956 : BitVec 32 := Scalar.muli c8_i32_1605 v3955
  v3956
def k0_mult26 (k0_t3 : Fin k0_t3_loop.trips) : BitVec 32 :=
  let c8_i32_1615 : BitVec 32 := 8#32
  let c9_i32_1614 : BitVec 32 := 9#32
  let c0_i32_37 : BitVec 32 := 0#32
  let c1_i32_39 : BitVec 32 := 1#32
  let arg43 : BitVec 32 := Scf.iv c0_i32_37 c1_i32_39 k0_t3
  let v3969 : BitVec 32 := Scalar.muli c9_i32_1614 arg43
  let c7_i32 : BitVec 32 := 7#32
  let v3970 : BitVec 32 := Scalar.addi v3969 c7_i32
  let v3971 : BitVec 32 := Scalar.muli c8_i32_1615 v3970
  v3971
def k0_mult27 (k0_t3 : Fin k0_t3_loop.trips) : BitVec 32 :=
  let c8_i32_1627 : BitVec 32 := 8#32
  let c9_i32_1625 : BitVec 32 := 9#32
  let c0_i32_37 : BitVec 32 := 0#32
  let c1_i32_39 : BitVec 32 := 1#32
  let arg43 : BitVec 32 := Scf.iv c0_i32_37 c1_i32_39 k0_t3
  let v3984 : BitVec 32 := Scalar.muli c9_i32_1625 arg43
  let c8_i32_1626 : BitVec 32 := 8#32
  let v3985 : BitVec 32 := Scalar.addi v3984 c8_i32_1626
  let v3986 : BitVec 32 := Scalar.muli c8_i32_1627 v3985
  v3986
def k0_mult28 (k0_t3 : Fin k0_t3_loop.trips) : BitVec 32 :=
  let c8_i32_1639 : BitVec 32 := 8#32
  let c9_i32_1637 : BitVec 32 := 9#32
  let c0_i32_37 : BitVec 32 := 0#32
  let c1_i32_39 : BitVec 32 := 1#32
  let arg43 : BitVec 32 := Scf.iv c0_i32_37 c1_i32_39 k0_t3
  let v3999 : BitVec 32 := Scalar.muli c9_i32_1637 arg43
  let c0_i32_1638 : BitVec 32 := 0#32
  let v4000 : BitVec 32 := Scalar.addi v3999 c0_i32_1638
  let v4001 : BitVec 32 := Scalar.muli c8_i32_1639 v4000
  v4001
def k0_off33 (k0_t3 : Fin k0_t3_loop.trips) (c0_i32_1638 : BitVec 32) : Fin 3 → Nat :=
  let c0_1640 : Index := 0#32
  let c8_i32_1639 : BitVec 32 := 8#32
  let c9_i32_1637 : BitVec 32 := 9#32
  let c0_i32_37 : BitVec 32 := 0#32
  let c1_i32_39 : BitVec 32 := 1#32
  let arg43 : BitVec 32 := Scf.iv c0_i32_37 c1_i32_39 k0_t3
  let v3999 : BitVec 32 := Scalar.muli c9_i32_1637 arg43
  let v4000 : BitVec 32 := Scalar.addi v3999 c0_i32_1638
  let v4001 : BitVec 32 := Scalar.muli c8_i32_1639 v4000
  let v4002 : BitVec 32 := v4001
  let v4003 : Index := Scalar.indexCast v4002
  let c128_1641 : Index := 128#32
  ![0, v4003.toNat, 128]
def k0_mult29 (k0_t3 : Fin k0_t3_loop.trips) : BitVec 32 :=
  let c8_i32_1651 : BitVec 32 := 8#32
  let c9_i32_1649 : BitVec 32 := 9#32
  let c0_i32_37 : BitVec 32 := 0#32
  let c1_i32_39 : BitVec 32 := 1#32
  let arg43 : BitVec 32 := Scf.iv c0_i32_37 c1_i32_39 k0_t3
  let v4014 : BitVec 32 := Scalar.muli c9_i32_1649 arg43
  let c1_i32_1650 : BitVec 32 := 1#32
  let v4015 : BitVec 32 := Scalar.addi v4014 c1_i32_1650
  let v4016 : BitVec 32 := Scalar.muli c8_i32_1651 v4015
  v4016
def k0_mult30 (k0_t3 : Fin k0_t3_loop.trips) : BitVec 32 :=
  let c8_i32_1663 : BitVec 32 := 8#32
  let c9_i32_1661 : BitVec 32 := 9#32
  let c0_i32_37 : BitVec 32 := 0#32
  let c1_i32_39 : BitVec 32 := 1#32
  let arg43 : BitVec 32 := Scf.iv c0_i32_37 c1_i32_39 k0_t3
  let v4029 : BitVec 32 := Scalar.muli c9_i32_1661 arg43
  let c2_i32_1662 : BitVec 32 := 2#32
  let v4030 : BitVec 32 := Scalar.addi v4029 c2_i32_1662
  let v4031 : BitVec 32 := Scalar.muli c8_i32_1663 v4030
  v4031
def k0_mult31 (k0_t3 : Fin k0_t3_loop.trips) : BitVec 32 :=
  let c8_i32_1675 : BitVec 32 := 8#32
  let c9_i32_1673 : BitVec 32 := 9#32
  let c0_i32_37 : BitVec 32 := 0#32
  let c1_i32_39 : BitVec 32 := 1#32
  let arg43 : BitVec 32 := Scf.iv c0_i32_37 c1_i32_39 k0_t3
  let v4044 : BitVec 32 := Scalar.muli c9_i32_1673 arg43
  let c3_i32_1674 : BitVec 32 := 3#32
  let v4045 : BitVec 32 := Scalar.addi v4044 c3_i32_1674
  let v4046 : BitVec 32 := Scalar.muli c8_i32_1675 v4045
  v4046
def k0_mult32 (k0_t3 : Fin k0_t3_loop.trips) : BitVec 32 :=
  let c8_i32_1687 : BitVec 32 := 8#32
  let c9_i32_1685 : BitVec 32 := 9#32
  let c0_i32_37 : BitVec 32 := 0#32
  let c1_i32_39 : BitVec 32 := 1#32
  let arg43 : BitVec 32 := Scf.iv c0_i32_37 c1_i32_39 k0_t3
  let v4059 : BitVec 32 := Scalar.muli c9_i32_1685 arg43
  let c4_i32_1686 : BitVec 32 := 4#32
  let v4060 : BitVec 32 := Scalar.addi v4059 c4_i32_1686
  let v4061 : BitVec 32 := Scalar.muli c8_i32_1687 v4060
  v4061
def k0_mult33 (k0_t3 : Fin k0_t3_loop.trips) : BitVec 32 :=
  let c8_i32_1699 : BitVec 32 := 8#32
  let c9_i32_1697 : BitVec 32 := 9#32
  let c0_i32_37 : BitVec 32 := 0#32
  let c1_i32_39 : BitVec 32 := 1#32
  let arg43 : BitVec 32 := Scf.iv c0_i32_37 c1_i32_39 k0_t3
  let v4074 : BitVec 32 := Scalar.muli c9_i32_1697 arg43
  let c5_i32_1698 : BitVec 32 := 5#32
  let v4075 : BitVec 32 := Scalar.addi v4074 c5_i32_1698
  let v4076 : BitVec 32 := Scalar.muli c8_i32_1699 v4075
  v4076
def k0_mult34 (k0_t3 : Fin k0_t3_loop.trips) : BitVec 32 :=
  let c8_i32_1711 : BitVec 32 := 8#32
  let c9_i32_1709 : BitVec 32 := 9#32
  let c0_i32_37 : BitVec 32 := 0#32
  let c1_i32_39 : BitVec 32 := 1#32
  let arg43 : BitVec 32 := Scf.iv c0_i32_37 c1_i32_39 k0_t3
  let v4089 : BitVec 32 := Scalar.muli c9_i32_1709 arg43
  let c6_i32_1710 : BitVec 32 := 6#32
  let v4090 : BitVec 32 := Scalar.addi v4089 c6_i32_1710
  let v4091 : BitVec 32 := Scalar.muli c8_i32_1711 v4090
  v4091
def k0_mult35 (k0_t3 : Fin k0_t3_loop.trips) : BitVec 32 :=
  let c8_i32_1723 : BitVec 32 := 8#32
  let c9_i32_1721 : BitVec 32 := 9#32
  let c0_i32_37 : BitVec 32 := 0#32
  let c1_i32_39 : BitVec 32 := 1#32
  let arg43 : BitVec 32 := Scf.iv c0_i32_37 c1_i32_39 k0_t3
  let v4104 : BitVec 32 := Scalar.muli c9_i32_1721 arg43
  let c7_i32_1722 : BitVec 32 := 7#32
  let v4105 : BitVec 32 := Scalar.addi v4104 c7_i32_1722
  let v4106 : BitVec 32 := Scalar.muli c8_i32_1723 v4105
  v4106
def k0_mult36 (k0_t3 : Fin k0_t3_loop.trips) : BitVec 32 :=
  let c8_i32_1735 : BitVec 32 := 8#32
  let c9_i32_1733 : BitVec 32 := 9#32
  let c0_i32_37 : BitVec 32 := 0#32
  let c1_i32_39 : BitVec 32 := 1#32
  let arg43 : BitVec 32 := Scf.iv c0_i32_37 c1_i32_39 k0_t3
  let v4119 : BitVec 32 := Scalar.muli c9_i32_1733 arg43
  let c8_i32_1734 : BitVec 32 := 8#32
  let v4120 : BitVec 32 := Scalar.addi v4119 c8_i32_1734
  let v4121 : BitVec 32 := Scalar.muli c8_i32_1735 v4120
  v4121
def k0_mult37 (k0_t3 : Fin k0_t3_loop.trips) : BitVec 32 :=
  let c8_i32_1747 : BitVec 32 := 8#32
  let c9_i32_1745 : BitVec 32 := 9#32
  let c0_i32_37 : BitVec 32 := 0#32
  let c1_i32_39 : BitVec 32 := 1#32
  let arg43 : BitVec 32 := Scf.iv c0_i32_37 c1_i32_39 k0_t3
  let v4134 : BitVec 32 := Scalar.muli c9_i32_1745 arg43
  let c0_i32_1746 : BitVec 32 := 0#32
  let v4135 : BitVec 32 := Scalar.addi v4134 c0_i32_1746
  let v4136 : BitVec 32 := Scalar.muli c8_i32_1747 v4135
  v4136
def k0_mult38 (k0_t3 : Fin k0_t3_loop.trips) : BitVec 32 :=
  let c8_i32_1759 : BitVec 32 := 8#32
  let c9_i32_1757 : BitVec 32 := 9#32
  let c0_i32_37 : BitVec 32 := 0#32
  let c1_i32_39 : BitVec 32 := 1#32
  let arg43 : BitVec 32 := Scf.iv c0_i32_37 c1_i32_39 k0_t3
  let v4149 : BitVec 32 := Scalar.muli c9_i32_1757 arg43
  let c1_i32_1758 : BitVec 32 := 1#32
  let v4150 : BitVec 32 := Scalar.addi v4149 c1_i32_1758
  let v4151 : BitVec 32 := Scalar.muli c8_i32_1759 v4150
  v4151
def k0_mult39 (k0_t3 : Fin k0_t3_loop.trips) : BitVec 32 :=
  let c8_i32_1771 : BitVec 32 := 8#32
  let c9_i32_1769 : BitVec 32 := 9#32
  let c0_i32_37 : BitVec 32 := 0#32
  let c1_i32_39 : BitVec 32 := 1#32
  let arg43 : BitVec 32 := Scf.iv c0_i32_37 c1_i32_39 k0_t3
  let v4164 : BitVec 32 := Scalar.muli c9_i32_1769 arg43
  let c2_i32_1770 : BitVec 32 := 2#32
  let v4165 : BitVec 32 := Scalar.addi v4164 c2_i32_1770
  let v4166 : BitVec 32 := Scalar.muli c8_i32_1771 v4165
  v4166
def k0_mult40 (k0_t3 : Fin k0_t3_loop.trips) : BitVec 32 :=
  let c8_i32_1783 : BitVec 32 := 8#32
  let c9_i32_1781 : BitVec 32 := 9#32
  let c0_i32_37 : BitVec 32 := 0#32
  let c1_i32_39 : BitVec 32 := 1#32
  let arg43 : BitVec 32 := Scf.iv c0_i32_37 c1_i32_39 k0_t3
  let v4179 : BitVec 32 := Scalar.muli c9_i32_1781 arg43
  let c3_i32_1782 : BitVec 32 := 3#32
  let v4180 : BitVec 32 := Scalar.addi v4179 c3_i32_1782
  let v4181 : BitVec 32 := Scalar.muli c8_i32_1783 v4180
  v4181
def k0_mult41 (k0_t3 : Fin k0_t3_loop.trips) : BitVec 32 :=
  let c8_i32_1795 : BitVec 32 := 8#32
  let c9_i32_1793 : BitVec 32 := 9#32
  let c0_i32_37 : BitVec 32 := 0#32
  let c1_i32_39 : BitVec 32 := 1#32
  let arg43 : BitVec 32 := Scf.iv c0_i32_37 c1_i32_39 k0_t3
  let v4194 : BitVec 32 := Scalar.muli c9_i32_1793 arg43
  let c4_i32_1794 : BitVec 32 := 4#32
  let v4195 : BitVec 32 := Scalar.addi v4194 c4_i32_1794
  let v4196 : BitVec 32 := Scalar.muli c8_i32_1795 v4195
  v4196
def k0_mult42 (k0_t3 : Fin k0_t3_loop.trips) : BitVec 32 :=
  let c8_i32_1807 : BitVec 32 := 8#32
  let c9_i32_1805 : BitVec 32 := 9#32
  let c0_i32_37 : BitVec 32 := 0#32
  let c1_i32_39 : BitVec 32 := 1#32
  let arg43 : BitVec 32 := Scf.iv c0_i32_37 c1_i32_39 k0_t3
  let v4209 : BitVec 32 := Scalar.muli c9_i32_1805 arg43
  let c5_i32_1806 : BitVec 32 := 5#32
  let v4210 : BitVec 32 := Scalar.addi v4209 c5_i32_1806
  let v4211 : BitVec 32 := Scalar.muli c8_i32_1807 v4210
  v4211
def k0_mult43 (k0_t3 : Fin k0_t3_loop.trips) : BitVec 32 :=
  let c8_i32_1819 : BitVec 32 := 8#32
  let c9_i32_1817 : BitVec 32 := 9#32
  let c0_i32_37 : BitVec 32 := 0#32
  let c1_i32_39 : BitVec 32 := 1#32
  let arg43 : BitVec 32 := Scf.iv c0_i32_37 c1_i32_39 k0_t3
  let v4224 : BitVec 32 := Scalar.muli c9_i32_1817 arg43
  let c6_i32_1818 : BitVec 32 := 6#32
  let v4225 : BitVec 32 := Scalar.addi v4224 c6_i32_1818
  let v4226 : BitVec 32 := Scalar.muli c8_i32_1819 v4225
  v4226
def k0_mult44 (k0_t3 : Fin k0_t3_loop.trips) : BitVec 32 :=
  let c8_i32_1831 : BitVec 32 := 8#32
  let c9_i32_1829 : BitVec 32 := 9#32
  let c0_i32_37 : BitVec 32 := 0#32
  let c1_i32_39 : BitVec 32 := 1#32
  let arg43 : BitVec 32 := Scf.iv c0_i32_37 c1_i32_39 k0_t3
  let v4239 : BitVec 32 := Scalar.muli c9_i32_1829 arg43
  let c7_i32_1830 : BitVec 32 := 7#32
  let v4240 : BitVec 32 := Scalar.addi v4239 c7_i32_1830
  let v4241 : BitVec 32 := Scalar.muli c8_i32_1831 v4240
  v4241
def k0_mult45 (k0_t3 : Fin k0_t3_loop.trips) : BitVec 32 :=
  let c8_i32_1843 : BitVec 32 := 8#32
  let c9_i32_1841 : BitVec 32 := 9#32
  let c0_i32_37 : BitVec 32 := 0#32
  let c1_i32_39 : BitVec 32 := 1#32
  let arg43 : BitVec 32 := Scf.iv c0_i32_37 c1_i32_39 k0_t3
  let v4254 : BitVec 32 := Scalar.muli c9_i32_1841 arg43
  let c8_i32_1842 : BitVec 32 := 8#32
  let v4255 : BitVec 32 := Scalar.addi v4254 c8_i32_1842
  let v4256 : BitVec 32 := Scalar.muli c8_i32_1843 v4255
  v4256
def k0_mult46 (k0_t3 : Fin k0_t3_loop.trips) : BitVec 32 :=
  let c8_i32_1855 : BitVec 32 := 8#32
  let c9_i32_1853 : BitVec 32 := 9#32
  let c0_i32_37 : BitVec 32 := 0#32
  let c1_i32_39 : BitVec 32 := 1#32
  let arg43 : BitVec 32 := Scf.iv c0_i32_37 c1_i32_39 k0_t3
  let v4269 : BitVec 32 := Scalar.muli c9_i32_1853 arg43
  let c0_i32_1854 : BitVec 32 := 0#32
  let v4270 : BitVec 32 := Scalar.addi v4269 c0_i32_1854
  let v4271 : BitVec 32 := Scalar.muli c8_i32_1855 v4270
  v4271
def k0_mult47 (k0_t3 : Fin k0_t3_loop.trips) : BitVec 32 :=
  let c8_i32_1867 : BitVec 32 := 8#32
  let c9_i32_1865 : BitVec 32 := 9#32
  let c0_i32_37 : BitVec 32 := 0#32
  let c1_i32_39 : BitVec 32 := 1#32
  let arg43 : BitVec 32 := Scf.iv c0_i32_37 c1_i32_39 k0_t3
  let v4284 : BitVec 32 := Scalar.muli c9_i32_1865 arg43
  let c1_i32_1866 : BitVec 32 := 1#32
  let v4285 : BitVec 32 := Scalar.addi v4284 c1_i32_1866
  let v4286 : BitVec 32 := Scalar.muli c8_i32_1867 v4285
  v4286
def k0_mult48 (k0_t3 : Fin k0_t3_loop.trips) : BitVec 32 :=
  let c8_i32_1879 : BitVec 32 := 8#32
  let c9_i32_1877 : BitVec 32 := 9#32
  let c0_i32_37 : BitVec 32 := 0#32
  let c1_i32_39 : BitVec 32 := 1#32
  let arg43 : BitVec 32 := Scf.iv c0_i32_37 c1_i32_39 k0_t3
  let v4299 : BitVec 32 := Scalar.muli c9_i32_1877 arg43
  let c2_i32_1878 : BitVec 32 := 2#32
  let v4300 : BitVec 32 := Scalar.addi v4299 c2_i32_1878
  let v4301 : BitVec 32 := Scalar.muli c8_i32_1879 v4300
  v4301
def k0_mult49 (k0_t3 : Fin k0_t3_loop.trips) : BitVec 32 :=
  let c8_i32_1891 : BitVec 32 := 8#32
  let c9_i32_1889 : BitVec 32 := 9#32
  let c0_i32_37 : BitVec 32 := 0#32
  let c1_i32_39 : BitVec 32 := 1#32
  let arg43 : BitVec 32 := Scf.iv c0_i32_37 c1_i32_39 k0_t3
  let v4314 : BitVec 32 := Scalar.muli c9_i32_1889 arg43
  let c3_i32_1890 : BitVec 32 := 3#32
  let v4315 : BitVec 32 := Scalar.addi v4314 c3_i32_1890
  let v4316 : BitVec 32 := Scalar.muli c8_i32_1891 v4315
  v4316
def k0_mult50 (k0_t3 : Fin k0_t3_loop.trips) : BitVec 32 :=
  let c8_i32_1903 : BitVec 32 := 8#32
  let c9_i32_1901 : BitVec 32 := 9#32
  let c0_i32_37 : BitVec 32 := 0#32
  let c1_i32_39 : BitVec 32 := 1#32
  let arg43 : BitVec 32 := Scf.iv c0_i32_37 c1_i32_39 k0_t3
  let v4329 : BitVec 32 := Scalar.muli c9_i32_1901 arg43
  let c4_i32_1902 : BitVec 32 := 4#32
  let v4330 : BitVec 32 := Scalar.addi v4329 c4_i32_1902
  let v4331 : BitVec 32 := Scalar.muli c8_i32_1903 v4330
  v4331
def k0_mult51 (k0_t3 : Fin k0_t3_loop.trips) : BitVec 32 :=
  let c8_i32_1915 : BitVec 32 := 8#32
  let c9_i32_1913 : BitVec 32 := 9#32
  let c0_i32_37 : BitVec 32 := 0#32
  let c1_i32_39 : BitVec 32 := 1#32
  let arg43 : BitVec 32 := Scf.iv c0_i32_37 c1_i32_39 k0_t3
  let v4344 : BitVec 32 := Scalar.muli c9_i32_1913 arg43
  let c5_i32_1914 : BitVec 32 := 5#32
  let v4345 : BitVec 32 := Scalar.addi v4344 c5_i32_1914
  let v4346 : BitVec 32 := Scalar.muli c8_i32_1915 v4345
  v4346
def k0_mult52 (k0_t3 : Fin k0_t3_loop.trips) : BitVec 32 :=
  let c8_i32_1927 : BitVec 32 := 8#32
  let c9_i32_1925 : BitVec 32 := 9#32
  let c0_i32_37 : BitVec 32 := 0#32
  let c1_i32_39 : BitVec 32 := 1#32
  let arg43 : BitVec 32 := Scf.iv c0_i32_37 c1_i32_39 k0_t3
  let v4359 : BitVec 32 := Scalar.muli c9_i32_1925 arg43
  let c6_i32_1926 : BitVec 32 := 6#32
  let v4360 : BitVec 32 := Scalar.addi v4359 c6_i32_1926
  let v4361 : BitVec 32 := Scalar.muli c8_i32_1927 v4360
  v4361
def k0_mult53 (k0_t3 : Fin k0_t3_loop.trips) : BitVec 32 :=
  let c8_i32_1939 : BitVec 32 := 8#32
  let c9_i32_1937 : BitVec 32 := 9#32
  let c0_i32_37 : BitVec 32 := 0#32
  let c1_i32_39 : BitVec 32 := 1#32
  let arg43 : BitVec 32 := Scf.iv c0_i32_37 c1_i32_39 k0_t3
  let v4374 : BitVec 32 := Scalar.muli c9_i32_1937 arg43
  let c7_i32_1938 : BitVec 32 := 7#32
  let v4375 : BitVec 32 := Scalar.addi v4374 c7_i32_1938
  let v4376 : BitVec 32 := Scalar.muli c8_i32_1939 v4375
  v4376
def k0_mult54 (k0_t3 : Fin k0_t3_loop.trips) : BitVec 32 :=
  let c8_i32_1951 : BitVec 32 := 8#32
  let c9_i32_1949 : BitVec 32 := 9#32
  let c0_i32_37 : BitVec 32 := 0#32
  let c1_i32_39 : BitVec 32 := 1#32
  let arg43 : BitVec 32 := Scf.iv c0_i32_37 c1_i32_39 k0_t3
  let v4389 : BitVec 32 := Scalar.muli c9_i32_1949 arg43
  let c8_i32_1950 : BitVec 32 := 8#32
  let v4390 : BitVec 32 := Scalar.addi v4389 c8_i32_1950
  let v4391 : BitVec 32 := Scalar.muli c8_i32_1951 v4390
  v4391
@[reducible] def k0_t4_loop : Scf.Loop 32 :=
  let c0_i32_106 : BitVec 32 := 0#32
  let c9_i32_107 : BitVec 32 := 9#32
  let v81 : BitVec 32 := Scalar.addi c0_i32_106 c9_i32_107
  let c1_i32_108 : BitVec 32 := 1#32
  ⟨c0_i32_106, v81, c1_i32_108⟩
def k0_off34 (k0_t4 : Fin k0_t4_loop.trips) (c23_i32 : BitVec 32) : Fin 4 → Nat :=
  let c1_274 : Index := 1#32
  let c0_275 : Index := 0#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v213 : BitVec 32 := Scalar.addi v192 c23_i32
  let v214 : Index := Scalar.indexCast v213
  let c0_276 : Index := 0#32
  ![1, 0, v214.toNat, 0]
def k0_off35 (k0_t4 : Fin k0_t4_loop.trips) (c23_i32_277 : BitVec 32) : Fin 4 → Nat :=
  let c1_278 : Index := 1#32
  let c1_279 : Index := 1#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v217 : BitVec 32 := Scalar.addi v192 c23_i32_277
  let v218 : Index := Scalar.indexCast v217
  let c0_280 : Index := 0#32
  ![1, 1, v218.toNat, 0]
def k0_off36 (k0_t4 : Fin k0_t4_loop.trips) (c0_i32_376 : BitVec 32) : Fin 3 → Nat :=
  let c0_377 : Index := 0#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v359 : BitVec 32 := Scalar.addi v192 c0_i32_376
  let v360 : Index := Scalar.indexCast v359
  let c0_378 : Index := 0#32
  ![0, v360.toNat, 0]
def k0_off37 (k0_t4 : Fin k0_t4_loop.trips) (c0_i32_585 : BitVec 32) : Fin 3 → Nat :=
  let c0_586 : Index := 0#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v1125 : BitVec 32 := Scalar.addi v192 c0_i32_585
  let v1126 : Index := Scalar.indexCast v1125
  let c128_587 : Index := 128#32
  ![0, v1126.toNat, 128]
def k0_off38 (k0_t4 : Fin k0_t4_loop.trips) : Fin 3 → Nat :=
  let c0_798 : Index := 0#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v1835 : Index := Scalar.indexCast v192
  let c0_799 : Index := 0#32
  ![0, v1835.toNat, 0]
def k0_off39 (k0_t4 : Fin k0_t4_loop.trips) (c0_i32_818 : BitVec 32) : Fin 3 → Nat :=
  let c0_822 : Index := 0#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v1858 : BitVec 32 := Scalar.addi v192 c0_i32_818
  let v1867 : Index := Scalar.indexCast v1858
  let c0_823 : Index := 0#32
  ![0, v1867.toNat, 0]
def k0_off40 (k0_t4 : Fin k0_t4_loop.trips) (c0_i32_818 : BitVec 32) : Fin 4 → Nat :=
  let c0_837 : Index := 0#32
  let c0_838 : Index := 0#32
  let c32_i32_836 : BitVec 32 := 32#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v1858 : BitVec 32 := Scalar.addi v192 c0_i32_818
  let v1915 : BitVec 32 := Scalar.addi c32_i32_836 v1858
  let v1916 : Index := Scalar.indexCast v1915
  let c0_839 : Index := 0#32
  ![0, 0, v1916.toNat, 0]
def k0_off41 (k0_t4 : Fin k0_t4_loop.trips) (c0_i32_1184 : BitVec 32) : Fin 3 → Nat :=
  let c1_1188 : Index := 1#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v2865 : BitVec 32 := Scalar.addi v192 c0_i32_1184
  let v2874 : Index := Scalar.indexCast v2865
  let c0_1189 : Index := 0#32
  ![1, v2874.toNat, 0]
def k0_off42 (k0_t4 : Fin k0_t4_loop.trips) (c0_i32_1184 : BitVec 32) : Fin 4 → Nat :=
  let c0_1203 : Index := 0#32
  let c1_1204 : Index := 1#32
  let c32_i32_1202 : BitVec 32 := 32#32
  let c0_i32_106 : BitVec 32 := 0#32
  let c1_i32_108 : BitVec 32 := 1#32
  let arg43 : BitVec 32 := Scf.iv c0_i32_106 c1_i32_108 k0_t4
  let c512_i32 : BitVec 32 := 512#32
  let v192 : BitVec 32 := Scalar.muli arg43 c512_i32
  let v2865 : BitVec 32 := Scalar.addi v192 c0_i32_1184
  let v2922 : BitVec 32 := Scalar.addi c32_i32_1202 v2865
  let v2923 : Index := Scalar.indexCast v2922
  let c0_1205 : Index := 0#32
  ![0, 1, v2923.toNat, 0]
def k0_off43 (k0_t4 : Fin k0_t4_loop.trips) (c0_i32_1537 : BitVec 32) : Fin 2 → Nat :=
  let c64_i32_1536 : BitVec 32 := 64#32
  let c_m8_i32 : BitVec 32 := 4294967288#32
  let c0_i32_106 : BitVec 32 := 0#32
  let c1_i32_108 : BitVec 32 := 1#32
  let arg43 : BitVec 32 := Scf.iv c0_i32_106 c1_i32_108 k0_t4
  let v3857 : BitVec 32 := Scalar.muli c_m8_i32 arg43
  let v3858 : BitVec 32 := Scalar.addi c64_i32_1536 v3857
  let v3859 : BitVec 32 := Scalar.addi v3858 c0_i32_1537
  let v3862 : Index := Scalar.indexCast v3859
  let c0_1541 : Index := 0#32
  ![v3862.toNat, 0]
def k0_mult55 (k0_t4 : Fin k0_t4_loop.trips) : BitVec 32 :=
  let c8_i32 : BitVec 32 := 8#32
  let c9_i32_1542 : BitVec 32 := 9#32
  let c0_i32_106 : BitVec 32 := 0#32
  let c1_i32_108 : BitVec 32 := 1#32
  let arg43 : BitVec 32 := Scf.iv c0_i32_106 c1_i32_108 k0_t4
  let v3864 : BitVec 32 := Scalar.muli c9_i32_1542 arg43
  let c0_i32_1543 : BitVec 32 := 0#32
  let v3865 : BitVec 32 := Scalar.addi v3864 c0_i32_1543
  let v3866 : BitVec 32 := Scalar.muli c8_i32 v3865
  v3866
def k0_off44 (k0_t4 : Fin k0_t4_loop.trips) (c0_i32_1543 : BitVec 32) : Fin 3 → Nat :=
  let c0_1544 : Index := 0#32
  let c8_i32 : BitVec 32 := 8#32
  let c9_i32_1542 : BitVec 32 := 9#32
  let c0_i32_106 : BitVec 32 := 0#32
  let c1_i32_108 : BitVec 32 := 1#32
  let arg43 : BitVec 32 := Scf.iv c0_i32_106 c1_i32_108 k0_t4
  let v3864 : BitVec 32 := Scalar.muli c9_i32_1542 arg43
  let v3865 : BitVec 32 := Scalar.addi v3864 c0_i32_1543
  let v3866 : BitVec 32 := Scalar.muli c8_i32 v3865
  let v3867 : BitVec 32 := v3866
  let v3868 : Index := Scalar.indexCast v3867
  let c0_1545 : Index := 0#32
  ![0, v3868.toNat, 0]
def k0_mult56 (k0_t4 : Fin k0_t4_loop.trips) : BitVec 32 :=
  let c8_i32_1554 : BitVec 32 := 8#32
  let c9_i32_1552 : BitVec 32 := 9#32
  let c0_i32_106 : BitVec 32 := 0#32
  let c1_i32_108 : BitVec 32 := 1#32
  let arg43 : BitVec 32 := Scf.iv c0_i32_106 c1_i32_108 k0_t4
  let v3879 : BitVec 32 := Scalar.muli c9_i32_1552 arg43
  let c1_i32_1553 : BitVec 32 := 1#32
  let v3880 : BitVec 32 := Scalar.addi v3879 c1_i32_1553
  let v3881 : BitVec 32 := Scalar.muli c8_i32_1554 v3880
  v3881
def k0_mult57 (k0_t4 : Fin k0_t4_loop.trips) : BitVec 32 :=
  let c8_i32_1564 : BitVec 32 := 8#32
  let c9_i32_1563 : BitVec 32 := 9#32
  let c0_i32_106 : BitVec 32 := 0#32
  let c1_i32_108 : BitVec 32 := 1#32
  let arg43 : BitVec 32 := Scf.iv c0_i32_106 c1_i32_108 k0_t4
  let v3894 : BitVec 32 := Scalar.muli c9_i32_1563 arg43
  let c2_i32 : BitVec 32 := 2#32
  let v3895 : BitVec 32 := Scalar.addi v3894 c2_i32
  let v3896 : BitVec 32 := Scalar.muli c8_i32_1564 v3895
  v3896
def k0_mult58 (k0_t4 : Fin k0_t4_loop.trips) : BitVec 32 :=
  let c8_i32_1574 : BitVec 32 := 8#32
  let c9_i32_1573 : BitVec 32 := 9#32
  let c0_i32_106 : BitVec 32 := 0#32
  let c1_i32_108 : BitVec 32 := 1#32
  let arg43 : BitVec 32 := Scf.iv c0_i32_106 c1_i32_108 k0_t4
  let v3909 : BitVec 32 := Scalar.muli c9_i32_1573 arg43
  let c3_i32 : BitVec 32 := 3#32
  let v3910 : BitVec 32 := Scalar.addi v3909 c3_i32
  let v3911 : BitVec 32 := Scalar.muli c8_i32_1574 v3910
  v3911
def k0_mult59 (k0_t4 : Fin k0_t4_loop.trips) : BitVec 32 :=
  let c8_i32_1585 : BitVec 32 := 8#32
  let c9_i32_1584 : BitVec 32 := 9#32
  let c0_i32_106 : BitVec 32 := 0#32
  let c1_i32_108 : BitVec 32 := 1#32
  let arg43 : BitVec 32 := Scf.iv c0_i32_106 c1_i32_108 k0_t4
  let v3924 : BitVec 32 := Scalar.muli c9_i32_1584 arg43
  let c4_i32 : BitVec 32 := 4#32
  let v3925 : BitVec 32 := Scalar.addi v3924 c4_i32
  let v3926 : BitVec 32 := Scalar.muli c8_i32_1585 v3925
  v3926
def k0_mult60 (k0_t4 : Fin k0_t4_loop.trips) : BitVec 32 :=
  let c8_i32_1595 : BitVec 32 := 8#32
  let c9_i32_1594 : BitVec 32 := 9#32
  let c0_i32_106 : BitVec 32 := 0#32
  let c1_i32_108 : BitVec 32 := 1#32
  let arg43 : BitVec 32 := Scf.iv c0_i32_106 c1_i32_108 k0_t4
  let v3939 : BitVec 32 := Scalar.muli c9_i32_1594 arg43
  let c5_i32 : BitVec 32 := 5#32
  let v3940 : BitVec 32 := Scalar.addi v3939 c5_i32
  let v3941 : BitVec 32 := Scalar.muli c8_i32_1595 v3940
  v3941
def k0_mult61 (k0_t4 : Fin k0_t4_loop.trips) : BitVec 32 :=
  let c8_i32_1605 : BitVec 32 := 8#32
  let c9_i32_1604 : BitVec 32 := 9#32
  let c0_i32_106 : BitVec 32 := 0#32
  let c1_i32_108 : BitVec 32 := 1#32
  let arg43 : BitVec 32 := Scf.iv c0_i32_106 c1_i32_108 k0_t4
  let v3954 : BitVec 32 := Scalar.muli c9_i32_1604 arg43
  let c6_i32 : BitVec 32 := 6#32
  let v3955 : BitVec 32 := Scalar.addi v3954 c6_i32
  let v3956 : BitVec 32 := Scalar.muli c8_i32_1605 v3955
  v3956
def k0_mult62 (k0_t4 : Fin k0_t4_loop.trips) : BitVec 32 :=
  let c8_i32_1615 : BitVec 32 := 8#32
  let c9_i32_1614 : BitVec 32 := 9#32
  let c0_i32_106 : BitVec 32 := 0#32
  let c1_i32_108 : BitVec 32 := 1#32
  let arg43 : BitVec 32 := Scf.iv c0_i32_106 c1_i32_108 k0_t4
  let v3969 : BitVec 32 := Scalar.muli c9_i32_1614 arg43
  let c7_i32 : BitVec 32 := 7#32
  let v3970 : BitVec 32 := Scalar.addi v3969 c7_i32
  let v3971 : BitVec 32 := Scalar.muli c8_i32_1615 v3970
  v3971
def k0_mult63 (k0_t4 : Fin k0_t4_loop.trips) : BitVec 32 :=
  let c8_i32_1627 : BitVec 32 := 8#32
  let c9_i32_1625 : BitVec 32 := 9#32
  let c0_i32_106 : BitVec 32 := 0#32
  let c1_i32_108 : BitVec 32 := 1#32
  let arg43 : BitVec 32 := Scf.iv c0_i32_106 c1_i32_108 k0_t4
  let v3984 : BitVec 32 := Scalar.muli c9_i32_1625 arg43
  let c8_i32_1626 : BitVec 32 := 8#32
  let v3985 : BitVec 32 := Scalar.addi v3984 c8_i32_1626
  let v3986 : BitVec 32 := Scalar.muli c8_i32_1627 v3985
  v3986
def k0_mult64 (k0_t4 : Fin k0_t4_loop.trips) : BitVec 32 :=
  let c8_i32_1639 : BitVec 32 := 8#32
  let c9_i32_1637 : BitVec 32 := 9#32
  let c0_i32_106 : BitVec 32 := 0#32
  let c1_i32_108 : BitVec 32 := 1#32
  let arg43 : BitVec 32 := Scf.iv c0_i32_106 c1_i32_108 k0_t4
  let v3999 : BitVec 32 := Scalar.muli c9_i32_1637 arg43
  let c0_i32_1638 : BitVec 32 := 0#32
  let v4000 : BitVec 32 := Scalar.addi v3999 c0_i32_1638
  let v4001 : BitVec 32 := Scalar.muli c8_i32_1639 v4000
  v4001
def k0_off45 (k0_t4 : Fin k0_t4_loop.trips) (c0_i32_1638 : BitVec 32) : Fin 3 → Nat :=
  let c0_1640 : Index := 0#32
  let c8_i32_1639 : BitVec 32 := 8#32
  let c9_i32_1637 : BitVec 32 := 9#32
  let c0_i32_106 : BitVec 32 := 0#32
  let c1_i32_108 : BitVec 32 := 1#32
  let arg43 : BitVec 32 := Scf.iv c0_i32_106 c1_i32_108 k0_t4
  let v3999 : BitVec 32 := Scalar.muli c9_i32_1637 arg43
  let v4000 : BitVec 32 := Scalar.addi v3999 c0_i32_1638
  let v4001 : BitVec 32 := Scalar.muli c8_i32_1639 v4000
  let v4002 : BitVec 32 := v4001
  let v4003 : Index := Scalar.indexCast v4002
  let c128_1641 : Index := 128#32
  ![0, v4003.toNat, 128]
def k0_mult65 (k0_t4 : Fin k0_t4_loop.trips) : BitVec 32 :=
  let c8_i32_1651 : BitVec 32 := 8#32
  let c9_i32_1649 : BitVec 32 := 9#32
  let c0_i32_106 : BitVec 32 := 0#32
  let c1_i32_108 : BitVec 32 := 1#32
  let arg43 : BitVec 32 := Scf.iv c0_i32_106 c1_i32_108 k0_t4
  let v4014 : BitVec 32 := Scalar.muli c9_i32_1649 arg43
  let c1_i32_1650 : BitVec 32 := 1#32
  let v4015 : BitVec 32 := Scalar.addi v4014 c1_i32_1650
  let v4016 : BitVec 32 := Scalar.muli c8_i32_1651 v4015
  v4016
def k0_mult66 (k0_t4 : Fin k0_t4_loop.trips) : BitVec 32 :=
  let c8_i32_1663 : BitVec 32 := 8#32
  let c9_i32_1661 : BitVec 32 := 9#32
  let c0_i32_106 : BitVec 32 := 0#32
  let c1_i32_108 : BitVec 32 := 1#32
  let arg43 : BitVec 32 := Scf.iv c0_i32_106 c1_i32_108 k0_t4
  let v4029 : BitVec 32 := Scalar.muli c9_i32_1661 arg43
  let c2_i32_1662 : BitVec 32 := 2#32
  let v4030 : BitVec 32 := Scalar.addi v4029 c2_i32_1662
  let v4031 : BitVec 32 := Scalar.muli c8_i32_1663 v4030
  v4031
def k0_mult67 (k0_t4 : Fin k0_t4_loop.trips) : BitVec 32 :=
  let c8_i32_1675 : BitVec 32 := 8#32
  let c9_i32_1673 : BitVec 32 := 9#32
  let c0_i32_106 : BitVec 32 := 0#32
  let c1_i32_108 : BitVec 32 := 1#32
  let arg43 : BitVec 32 := Scf.iv c0_i32_106 c1_i32_108 k0_t4
  let v4044 : BitVec 32 := Scalar.muli c9_i32_1673 arg43
  let c3_i32_1674 : BitVec 32 := 3#32
  let v4045 : BitVec 32 := Scalar.addi v4044 c3_i32_1674
  let v4046 : BitVec 32 := Scalar.muli c8_i32_1675 v4045
  v4046
def k0_mult68 (k0_t4 : Fin k0_t4_loop.trips) : BitVec 32 :=
  let c8_i32_1687 : BitVec 32 := 8#32
  let c9_i32_1685 : BitVec 32 := 9#32
  let c0_i32_106 : BitVec 32 := 0#32
  let c1_i32_108 : BitVec 32 := 1#32
  let arg43 : BitVec 32 := Scf.iv c0_i32_106 c1_i32_108 k0_t4
  let v4059 : BitVec 32 := Scalar.muli c9_i32_1685 arg43
  let c4_i32_1686 : BitVec 32 := 4#32
  let v4060 : BitVec 32 := Scalar.addi v4059 c4_i32_1686
  let v4061 : BitVec 32 := Scalar.muli c8_i32_1687 v4060
  v4061
def k0_mult69 (k0_t4 : Fin k0_t4_loop.trips) : BitVec 32 :=
  let c8_i32_1699 : BitVec 32 := 8#32
  let c9_i32_1697 : BitVec 32 := 9#32
  let c0_i32_106 : BitVec 32 := 0#32
  let c1_i32_108 : BitVec 32 := 1#32
  let arg43 : BitVec 32 := Scf.iv c0_i32_106 c1_i32_108 k0_t4
  let v4074 : BitVec 32 := Scalar.muli c9_i32_1697 arg43
  let c5_i32_1698 : BitVec 32 := 5#32
  let v4075 : BitVec 32 := Scalar.addi v4074 c5_i32_1698
  let v4076 : BitVec 32 := Scalar.muli c8_i32_1699 v4075
  v4076
def k0_mult70 (k0_t4 : Fin k0_t4_loop.trips) : BitVec 32 :=
  let c8_i32_1711 : BitVec 32 := 8#32
  let c9_i32_1709 : BitVec 32 := 9#32
  let c0_i32_106 : BitVec 32 := 0#32
  let c1_i32_108 : BitVec 32 := 1#32
  let arg43 : BitVec 32 := Scf.iv c0_i32_106 c1_i32_108 k0_t4
  let v4089 : BitVec 32 := Scalar.muli c9_i32_1709 arg43
  let c6_i32_1710 : BitVec 32 := 6#32
  let v4090 : BitVec 32 := Scalar.addi v4089 c6_i32_1710
  let v4091 : BitVec 32 := Scalar.muli c8_i32_1711 v4090
  v4091
def k0_mult71 (k0_t4 : Fin k0_t4_loop.trips) : BitVec 32 :=
  let c8_i32_1723 : BitVec 32 := 8#32
  let c9_i32_1721 : BitVec 32 := 9#32
  let c0_i32_106 : BitVec 32 := 0#32
  let c1_i32_108 : BitVec 32 := 1#32
  let arg43 : BitVec 32 := Scf.iv c0_i32_106 c1_i32_108 k0_t4
  let v4104 : BitVec 32 := Scalar.muli c9_i32_1721 arg43
  let c7_i32_1722 : BitVec 32 := 7#32
  let v4105 : BitVec 32 := Scalar.addi v4104 c7_i32_1722
  let v4106 : BitVec 32 := Scalar.muli c8_i32_1723 v4105
  v4106
def k0_mult72 (k0_t4 : Fin k0_t4_loop.trips) : BitVec 32 :=
  let c8_i32_1735 : BitVec 32 := 8#32
  let c9_i32_1733 : BitVec 32 := 9#32
  let c0_i32_106 : BitVec 32 := 0#32
  let c1_i32_108 : BitVec 32 := 1#32
  let arg43 : BitVec 32 := Scf.iv c0_i32_106 c1_i32_108 k0_t4
  let v4119 : BitVec 32 := Scalar.muli c9_i32_1733 arg43
  let c8_i32_1734 : BitVec 32 := 8#32
  let v4120 : BitVec 32 := Scalar.addi v4119 c8_i32_1734
  let v4121 : BitVec 32 := Scalar.muli c8_i32_1735 v4120
  v4121
def k0_mult73 (k0_t4 : Fin k0_t4_loop.trips) : BitVec 32 :=
  let c8_i32_1747 : BitVec 32 := 8#32
  let c9_i32_1745 : BitVec 32 := 9#32
  let c0_i32_106 : BitVec 32 := 0#32
  let c1_i32_108 : BitVec 32 := 1#32
  let arg43 : BitVec 32 := Scf.iv c0_i32_106 c1_i32_108 k0_t4
  let v4134 : BitVec 32 := Scalar.muli c9_i32_1745 arg43
  let c0_i32_1746 : BitVec 32 := 0#32
  let v4135 : BitVec 32 := Scalar.addi v4134 c0_i32_1746
  let v4136 : BitVec 32 := Scalar.muli c8_i32_1747 v4135
  v4136
def k0_mult74 (k0_t4 : Fin k0_t4_loop.trips) : BitVec 32 :=
  let c8_i32_1759 : BitVec 32 := 8#32
  let c9_i32_1757 : BitVec 32 := 9#32
  let c0_i32_106 : BitVec 32 := 0#32
  let c1_i32_108 : BitVec 32 := 1#32
  let arg43 : BitVec 32 := Scf.iv c0_i32_106 c1_i32_108 k0_t4
  let v4149 : BitVec 32 := Scalar.muli c9_i32_1757 arg43
  let c1_i32_1758 : BitVec 32 := 1#32
  let v4150 : BitVec 32 := Scalar.addi v4149 c1_i32_1758
  let v4151 : BitVec 32 := Scalar.muli c8_i32_1759 v4150
  v4151
def k0_mult75 (k0_t4 : Fin k0_t4_loop.trips) : BitVec 32 :=
  let c8_i32_1771 : BitVec 32 := 8#32
  let c9_i32_1769 : BitVec 32 := 9#32
  let c0_i32_106 : BitVec 32 := 0#32
  let c1_i32_108 : BitVec 32 := 1#32
  let arg43 : BitVec 32 := Scf.iv c0_i32_106 c1_i32_108 k0_t4
  let v4164 : BitVec 32 := Scalar.muli c9_i32_1769 arg43
  let c2_i32_1770 : BitVec 32 := 2#32
  let v4165 : BitVec 32 := Scalar.addi v4164 c2_i32_1770
  let v4166 : BitVec 32 := Scalar.muli c8_i32_1771 v4165
  v4166
def k0_mult76 (k0_t4 : Fin k0_t4_loop.trips) : BitVec 32 :=
  let c8_i32_1783 : BitVec 32 := 8#32
  let c9_i32_1781 : BitVec 32 := 9#32
  let c0_i32_106 : BitVec 32 := 0#32
  let c1_i32_108 : BitVec 32 := 1#32
  let arg43 : BitVec 32 := Scf.iv c0_i32_106 c1_i32_108 k0_t4
  let v4179 : BitVec 32 := Scalar.muli c9_i32_1781 arg43
  let c3_i32_1782 : BitVec 32 := 3#32
  let v4180 : BitVec 32 := Scalar.addi v4179 c3_i32_1782
  let v4181 : BitVec 32 := Scalar.muli c8_i32_1783 v4180
  v4181
def k0_mult77 (k0_t4 : Fin k0_t4_loop.trips) : BitVec 32 :=
  let c8_i32_1795 : BitVec 32 := 8#32
  let c9_i32_1793 : BitVec 32 := 9#32
  let c0_i32_106 : BitVec 32 := 0#32
  let c1_i32_108 : BitVec 32 := 1#32
  let arg43 : BitVec 32 := Scf.iv c0_i32_106 c1_i32_108 k0_t4
  let v4194 : BitVec 32 := Scalar.muli c9_i32_1793 arg43
  let c4_i32_1794 : BitVec 32 := 4#32
  let v4195 : BitVec 32 := Scalar.addi v4194 c4_i32_1794
  let v4196 : BitVec 32 := Scalar.muli c8_i32_1795 v4195
  v4196
def k0_mult78 (k0_t4 : Fin k0_t4_loop.trips) : BitVec 32 :=
  let c8_i32_1807 : BitVec 32 := 8#32
  let c9_i32_1805 : BitVec 32 := 9#32
  let c0_i32_106 : BitVec 32 := 0#32
  let c1_i32_108 : BitVec 32 := 1#32
  let arg43 : BitVec 32 := Scf.iv c0_i32_106 c1_i32_108 k0_t4
  let v4209 : BitVec 32 := Scalar.muli c9_i32_1805 arg43
  let c5_i32_1806 : BitVec 32 := 5#32
  let v4210 : BitVec 32 := Scalar.addi v4209 c5_i32_1806
  let v4211 : BitVec 32 := Scalar.muli c8_i32_1807 v4210
  v4211
def k0_mult79 (k0_t4 : Fin k0_t4_loop.trips) : BitVec 32 :=
  let c8_i32_1819 : BitVec 32 := 8#32
  let c9_i32_1817 : BitVec 32 := 9#32
  let c0_i32_106 : BitVec 32 := 0#32
  let c1_i32_108 : BitVec 32 := 1#32
  let arg43 : BitVec 32 := Scf.iv c0_i32_106 c1_i32_108 k0_t4
  let v4224 : BitVec 32 := Scalar.muli c9_i32_1817 arg43
  let c6_i32_1818 : BitVec 32 := 6#32
  let v4225 : BitVec 32 := Scalar.addi v4224 c6_i32_1818
  let v4226 : BitVec 32 := Scalar.muli c8_i32_1819 v4225
  v4226
def k0_mult80 (k0_t4 : Fin k0_t4_loop.trips) : BitVec 32 :=
  let c8_i32_1831 : BitVec 32 := 8#32
  let c9_i32_1829 : BitVec 32 := 9#32
  let c0_i32_106 : BitVec 32 := 0#32
  let c1_i32_108 : BitVec 32 := 1#32
  let arg43 : BitVec 32 := Scf.iv c0_i32_106 c1_i32_108 k0_t4
  let v4239 : BitVec 32 := Scalar.muli c9_i32_1829 arg43
  let c7_i32_1830 : BitVec 32 := 7#32
  let v4240 : BitVec 32 := Scalar.addi v4239 c7_i32_1830
  let v4241 : BitVec 32 := Scalar.muli c8_i32_1831 v4240
  v4241
def k0_mult81 (k0_t4 : Fin k0_t4_loop.trips) : BitVec 32 :=
  let c8_i32_1843 : BitVec 32 := 8#32
  let c9_i32_1841 : BitVec 32 := 9#32
  let c0_i32_106 : BitVec 32 := 0#32
  let c1_i32_108 : BitVec 32 := 1#32
  let arg43 : BitVec 32 := Scf.iv c0_i32_106 c1_i32_108 k0_t4
  let v4254 : BitVec 32 := Scalar.muli c9_i32_1841 arg43
  let c8_i32_1842 : BitVec 32 := 8#32
  let v4255 : BitVec 32 := Scalar.addi v4254 c8_i32_1842
  let v4256 : BitVec 32 := Scalar.muli c8_i32_1843 v4255
  v4256
def k0_mult82 (k0_t4 : Fin k0_t4_loop.trips) : BitVec 32 :=
  let c8_i32_1855 : BitVec 32 := 8#32
  let c9_i32_1853 : BitVec 32 := 9#32
  let c0_i32_106 : BitVec 32 := 0#32
  let c1_i32_108 : BitVec 32 := 1#32
  let arg43 : BitVec 32 := Scf.iv c0_i32_106 c1_i32_108 k0_t4
  let v4269 : BitVec 32 := Scalar.muli c9_i32_1853 arg43
  let c0_i32_1854 : BitVec 32 := 0#32
  let v4270 : BitVec 32 := Scalar.addi v4269 c0_i32_1854
  let v4271 : BitVec 32 := Scalar.muli c8_i32_1855 v4270
  v4271
def k0_mult83 (k0_t4 : Fin k0_t4_loop.trips) : BitVec 32 :=
  let c8_i32_1867 : BitVec 32 := 8#32
  let c9_i32_1865 : BitVec 32 := 9#32
  let c0_i32_106 : BitVec 32 := 0#32
  let c1_i32_108 : BitVec 32 := 1#32
  let arg43 : BitVec 32 := Scf.iv c0_i32_106 c1_i32_108 k0_t4
  let v4284 : BitVec 32 := Scalar.muli c9_i32_1865 arg43
  let c1_i32_1866 : BitVec 32 := 1#32
  let v4285 : BitVec 32 := Scalar.addi v4284 c1_i32_1866
  let v4286 : BitVec 32 := Scalar.muli c8_i32_1867 v4285
  v4286
def k0_mult84 (k0_t4 : Fin k0_t4_loop.trips) : BitVec 32 :=
  let c8_i32_1879 : BitVec 32 := 8#32
  let c9_i32_1877 : BitVec 32 := 9#32
  let c0_i32_106 : BitVec 32 := 0#32
  let c1_i32_108 : BitVec 32 := 1#32
  let arg43 : BitVec 32 := Scf.iv c0_i32_106 c1_i32_108 k0_t4
  let v4299 : BitVec 32 := Scalar.muli c9_i32_1877 arg43
  let c2_i32_1878 : BitVec 32 := 2#32
  let v4300 : BitVec 32 := Scalar.addi v4299 c2_i32_1878
  let v4301 : BitVec 32 := Scalar.muli c8_i32_1879 v4300
  v4301
def k0_mult85 (k0_t4 : Fin k0_t4_loop.trips) : BitVec 32 :=
  let c8_i32_1891 : BitVec 32 := 8#32
  let c9_i32_1889 : BitVec 32 := 9#32
  let c0_i32_106 : BitVec 32 := 0#32
  let c1_i32_108 : BitVec 32 := 1#32
  let arg43 : BitVec 32 := Scf.iv c0_i32_106 c1_i32_108 k0_t4
  let v4314 : BitVec 32 := Scalar.muli c9_i32_1889 arg43
  let c3_i32_1890 : BitVec 32 := 3#32
  let v4315 : BitVec 32 := Scalar.addi v4314 c3_i32_1890
  let v4316 : BitVec 32 := Scalar.muli c8_i32_1891 v4315
  v4316
def k0_mult86 (k0_t4 : Fin k0_t4_loop.trips) : BitVec 32 :=
  let c8_i32_1903 : BitVec 32 := 8#32
  let c9_i32_1901 : BitVec 32 := 9#32
  let c0_i32_106 : BitVec 32 := 0#32
  let c1_i32_108 : BitVec 32 := 1#32
  let arg43 : BitVec 32 := Scf.iv c0_i32_106 c1_i32_108 k0_t4
  let v4329 : BitVec 32 := Scalar.muli c9_i32_1901 arg43
  let c4_i32_1902 : BitVec 32 := 4#32
  let v4330 : BitVec 32 := Scalar.addi v4329 c4_i32_1902
  let v4331 : BitVec 32 := Scalar.muli c8_i32_1903 v4330
  v4331
def k0_mult87 (k0_t4 : Fin k0_t4_loop.trips) : BitVec 32 :=
  let c8_i32_1915 : BitVec 32 := 8#32
  let c9_i32_1913 : BitVec 32 := 9#32
  let c0_i32_106 : BitVec 32 := 0#32
  let c1_i32_108 : BitVec 32 := 1#32
  let arg43 : BitVec 32 := Scf.iv c0_i32_106 c1_i32_108 k0_t4
  let v4344 : BitVec 32 := Scalar.muli c9_i32_1913 arg43
  let c5_i32_1914 : BitVec 32 := 5#32
  let v4345 : BitVec 32 := Scalar.addi v4344 c5_i32_1914
  let v4346 : BitVec 32 := Scalar.muli c8_i32_1915 v4345
  v4346
def k0_mult88 (k0_t4 : Fin k0_t4_loop.trips) : BitVec 32 :=
  let c8_i32_1927 : BitVec 32 := 8#32
  let c9_i32_1925 : BitVec 32 := 9#32
  let c0_i32_106 : BitVec 32 := 0#32
  let c1_i32_108 : BitVec 32 := 1#32
  let arg43 : BitVec 32 := Scf.iv c0_i32_106 c1_i32_108 k0_t4
  let v4359 : BitVec 32 := Scalar.muli c9_i32_1925 arg43
  let c6_i32_1926 : BitVec 32 := 6#32
  let v4360 : BitVec 32 := Scalar.addi v4359 c6_i32_1926
  let v4361 : BitVec 32 := Scalar.muli c8_i32_1927 v4360
  v4361
def k0_mult89 (k0_t4 : Fin k0_t4_loop.trips) : BitVec 32 :=
  let c8_i32_1939 : BitVec 32 := 8#32
  let c9_i32_1937 : BitVec 32 := 9#32
  let c0_i32_106 : BitVec 32 := 0#32
  let c1_i32_108 : BitVec 32 := 1#32
  let arg43 : BitVec 32 := Scf.iv c0_i32_106 c1_i32_108 k0_t4
  let v4374 : BitVec 32 := Scalar.muli c9_i32_1937 arg43
  let c7_i32_1938 : BitVec 32 := 7#32
  let v4375 : BitVec 32 := Scalar.addi v4374 c7_i32_1938
  let v4376 : BitVec 32 := Scalar.muli c8_i32_1939 v4375
  v4376
def k0_mult90 (k0_t4 : Fin k0_t4_loop.trips) : BitVec 32 :=
  let c8_i32_1951 : BitVec 32 := 8#32
  let c9_i32_1949 : BitVec 32 := 9#32
  let c0_i32_106 : BitVec 32 := 0#32
  let c1_i32_108 : BitVec 32 := 1#32
  let arg43 : BitVec 32 := Scf.iv c0_i32_106 c1_i32_108 k0_t4
  let v4389 : BitVec 32 := Scalar.muli c9_i32_1949 arg43
  let c8_i32_1950 : BitVec 32 := 8#32
  let v4390 : BitVec 32 := Scalar.addi v4389 c8_i32_1950
  let v4391 : BitVec 32 := Scalar.muli c8_i32_1951 v4390
  v4391
@[reducible] def k0_t5_loop : Scf.Loop 32 :=
  let c0_i32_175 : BitVec 32 := 0#32
  let c9_i32_176 : BitVec 32 := 9#32
  let v131 : BitVec 32 := Scalar.addi c0_i32_175 c9_i32_176
  let c1_i32_177 : BitVec 32 := 1#32
  ⟨c0_i32_175, v131, c1_i32_177⟩
def k0_off46 (k0_t5 : Fin k0_t5_loop.trips) (c5_i32 : BitVec 32) : Fin 4 → Nat :=
  let c0_274 : Index := 0#32
  let c0_275 : Index := 0#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v213 : BitVec 32 := Scalar.addi v192 c5_i32
  let v214 : Index := Scalar.indexCast v213
  let c0_276 : Index := 0#32
  ![0, 0, v214.toNat, 0]
def k0_off47 (k0_t5 : Fin k0_t5_loop.trips) (c5_i32_277 : BitVec 32) : Fin 4 → Nat :=
  let c0_278 : Index := 0#32
  let c1_279 : Index := 1#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v217 : BitVec 32 := Scalar.addi v192 c5_i32_277
  let v218 : Index := Scalar.indexCast v217
  let c0_280 : Index := 0#32
  ![0, 1, v218.toNat, 0]
def k0_off48 (k0_t5 : Fin k0_t5_loop.trips) (c0_i32_376 : BitVec 32) : Fin 3 → Nat :=
  let c0_377 : Index := 0#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v359 : BitVec 32 := Scalar.addi v192 c0_i32_376
  let v360 : Index := Scalar.indexCast v359
  let c0_378 : Index := 0#32
  ![0, v360.toNat, 0]
def k0_off49 (k0_t5 : Fin k0_t5_loop.trips) (c0_i32_585 : BitVec 32) : Fin 3 → Nat :=
  let c0_586 : Index := 0#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v1125 : BitVec 32 := Scalar.addi v192 c0_i32_585
  let v1126 : Index := Scalar.indexCast v1125
  let c128_587 : Index := 128#32
  ![0, v1126.toNat, 128]
def k0_off50 (k0_t5 : Fin k0_t5_loop.trips) : Fin 3 → Nat :=
  let c0_798 : Index := 0#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v1835 : Index := Scalar.indexCast v192
  let c0_799 : Index := 0#32
  ![0, v1835.toNat, 0]
def k0_off51 (k0_t5 : Fin k0_t5_loop.trips) (c0_i32_810 : BitVec 32) : Fin 3 → Nat :=
  let c0_814 : Index := 0#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v1848 : BitVec 32 := Scalar.addi v192 c0_i32_810
  let v1857 : Index := Scalar.indexCast v1848
  let c0_815 : Index := 0#32
  ![0, v1857.toNat, 0]
def k0_off52 (k0_t5 : Fin k0_t5_loop.trips) (c0_i32_944 : BitVec 32) : Fin 3 → Nat :=
  let c1_948 : Index := 1#32
  let c0_i32_175 : BitVec 32 := 0#32
  let c1_i32_177 : BitVec 32 := 1#32
  let arg43 : BitVec 32 := Scf.iv c0_i32_175 c1_i32_177 k0_t5
  let c512_i32 : BitVec 32 := 512#32
  let v192 : BitVec 32 := Scalar.muli arg43 c512_i32
  let v2125 : BitVec 32 := Scalar.addi v192 c0_i32_944
  let v2134 : Index := Scalar.indexCast v2125
  let c0_949 : Index := 0#32
  ![1, v2134.toNat, 0]
def k0_off53 (k0_t5 : Fin k0_t5_loop.trips) (c0_i32_1073 : BitVec 32) : Fin 2 → Nat :=
  let c64_i32_1072 : BitVec 32 := 64#32
  let c_m8_i32 : BitVec 32 := 4294967288#32
  let c0_i32_175 : BitVec 32 := 0#32
  let c1_i32_177 : BitVec 32 := 1#32
  let arg43 : BitVec 32 := Scf.iv c0_i32_175 c1_i32_177 k0_t5
  let v2397 : BitVec 32 := Scalar.muli c_m8_i32 arg43
  let v2398 : BitVec 32 := Scalar.addi c64_i32_1072 v2397
  let v2399 : BitVec 32 := Scalar.addi v2398 c0_i32_1073
  let v2402 : Index := Scalar.indexCast v2399
  let c0_1077 : Index := 0#32
  ![v2402.toNat, 0]
def k0_mult91 (k0_t5 : Fin k0_t5_loop.trips) : BitVec 32 :=
  let c8_i32 : BitVec 32 := 8#32
  let c9_i32_1078 : BitVec 32 := 9#32
  let c0_i32_175 : BitVec 32 := 0#32
  let c1_i32_177 : BitVec 32 := 1#32
  let arg43 : BitVec 32 := Scf.iv c0_i32_175 c1_i32_177 k0_t5
  let v2404 : BitVec 32 := Scalar.muli c9_i32_1078 arg43
  let c0_i32_1079 : BitVec 32 := 0#32
  let v2405 : BitVec 32 := Scalar.addi v2404 c0_i32_1079
  let v2406 : BitVec 32 := Scalar.muli c8_i32 v2405
  v2406
def k0_off54 (k0_t5 : Fin k0_t5_loop.trips) (c0_i32_1079 : BitVec 32) : Fin 3 → Nat :=
  let c0_1080 : Index := 0#32
  let c8_i32 : BitVec 32 := 8#32
  let c9_i32_1078 : BitVec 32 := 9#32
  let c0_i32_175 : BitVec 32 := 0#32
  let c1_i32_177 : BitVec 32 := 1#32
  let arg43 : BitVec 32 := Scf.iv c0_i32_175 c1_i32_177 k0_t5
  let v2404 : BitVec 32 := Scalar.muli c9_i32_1078 arg43
  let v2405 : BitVec 32 := Scalar.addi v2404 c0_i32_1079
  let v2406 : BitVec 32 := Scalar.muli c8_i32 v2405
  let v2407 : BitVec 32 := v2406
  let v2408 : Index := Scalar.indexCast v2407
  let c0_1081 : Index := 0#32
  ![0, v2408.toNat, 0]
def k0_mult92 (k0_t5 : Fin k0_t5_loop.trips) : BitVec 32 :=
  let c8_i32_1090 : BitVec 32 := 8#32
  let c9_i32_1088 : BitVec 32 := 9#32
  let c0_i32_175 : BitVec 32 := 0#32
  let c1_i32_177 : BitVec 32 := 1#32
  let arg43 : BitVec 32 := Scf.iv c0_i32_175 c1_i32_177 k0_t5
  let v2419 : BitVec 32 := Scalar.muli c9_i32_1088 arg43
  let c1_i32_1089 : BitVec 32 := 1#32
  let v2420 : BitVec 32 := Scalar.addi v2419 c1_i32_1089
  let v2421 : BitVec 32 := Scalar.muli c8_i32_1090 v2420
  v2421
def k0_mult93 (k0_t5 : Fin k0_t5_loop.trips) : BitVec 32 :=
  let c8_i32_1100 : BitVec 32 := 8#32
  let c9_i32_1099 : BitVec 32 := 9#32
  let c0_i32_175 : BitVec 32 := 0#32
  let c1_i32_177 : BitVec 32 := 1#32
  let arg43 : BitVec 32 := Scf.iv c0_i32_175 c1_i32_177 k0_t5
  let v2434 : BitVec 32 := Scalar.muli c9_i32_1099 arg43
  let c2_i32 : BitVec 32 := 2#32
  let v2435 : BitVec 32 := Scalar.addi v2434 c2_i32
  let v2436 : BitVec 32 := Scalar.muli c8_i32_1100 v2435
  v2436
def k0_mult94 (k0_t5 : Fin k0_t5_loop.trips) : BitVec 32 :=
  let c8_i32_1110 : BitVec 32 := 8#32
  let c9_i32_1109 : BitVec 32 := 9#32
  let c0_i32_175 : BitVec 32 := 0#32
  let c1_i32_177 : BitVec 32 := 1#32
  let arg43 : BitVec 32 := Scf.iv c0_i32_175 c1_i32_177 k0_t5
  let v2449 : BitVec 32 := Scalar.muli c9_i32_1109 arg43
  let c3_i32 : BitVec 32 := 3#32
  let v2450 : BitVec 32 := Scalar.addi v2449 c3_i32
  let v2451 : BitVec 32 := Scalar.muli c8_i32_1110 v2450
  v2451
def k0_mult95 (k0_t5 : Fin k0_t5_loop.trips) : BitVec 32 :=
  let c8_i32_1121 : BitVec 32 := 8#32
  let c9_i32_1120 : BitVec 32 := 9#32
  let c0_i32_175 : BitVec 32 := 0#32
  let c1_i32_177 : BitVec 32 := 1#32
  let arg43 : BitVec 32 := Scf.iv c0_i32_175 c1_i32_177 k0_t5
  let v2464 : BitVec 32 := Scalar.muli c9_i32_1120 arg43
  let c4_i32 : BitVec 32 := 4#32
  let v2465 : BitVec 32 := Scalar.addi v2464 c4_i32
  let v2466 : BitVec 32 := Scalar.muli c8_i32_1121 v2465
  v2466
def k0_mult96 (k0_t5 : Fin k0_t5_loop.trips) : BitVec 32 :=
  let c8_i32_1132 : BitVec 32 := 8#32
  let c9_i32_1130 : BitVec 32 := 9#32
  let c0_i32_175 : BitVec 32 := 0#32
  let c1_i32_177 : BitVec 32 := 1#32
  let arg43 : BitVec 32 := Scf.iv c0_i32_175 c1_i32_177 k0_t5
  let v2479 : BitVec 32 := Scalar.muli c9_i32_1130 arg43
  let c5_i32_1131 : BitVec 32 := 5#32
  let v2480 : BitVec 32 := Scalar.addi v2479 c5_i32_1131
  let v2481 : BitVec 32 := Scalar.muli c8_i32_1132 v2480
  v2481
def k0_mult97 (k0_t5 : Fin k0_t5_loop.trips) : BitVec 32 :=
  let c8_i32_1142 : BitVec 32 := 8#32
  let c9_i32_1141 : BitVec 32 := 9#32
  let c0_i32_175 : BitVec 32 := 0#32
  let c1_i32_177 : BitVec 32 := 1#32
  let arg43 : BitVec 32 := Scf.iv c0_i32_175 c1_i32_177 k0_t5
  let v2494 : BitVec 32 := Scalar.muli c9_i32_1141 arg43
  let c6_i32 : BitVec 32 := 6#32
  let v2495 : BitVec 32 := Scalar.addi v2494 c6_i32
  let v2496 : BitVec 32 := Scalar.muli c8_i32_1142 v2495
  v2496
def k0_mult98 (k0_t5 : Fin k0_t5_loop.trips) : BitVec 32 :=
  let c8_i32_1152 : BitVec 32 := 8#32
  let c9_i32_1151 : BitVec 32 := 9#32
  let c0_i32_175 : BitVec 32 := 0#32
  let c1_i32_177 : BitVec 32 := 1#32
  let arg43 : BitVec 32 := Scf.iv c0_i32_175 c1_i32_177 k0_t5
  let v2509 : BitVec 32 := Scalar.muli c9_i32_1151 arg43
  let c7_i32 : BitVec 32 := 7#32
  let v2510 : BitVec 32 := Scalar.addi v2509 c7_i32
  let v2511 : BitVec 32 := Scalar.muli c8_i32_1152 v2510
  v2511
def k0_mult99 (k0_t5 : Fin k0_t5_loop.trips) : BitVec 32 :=
  let c8_i32_1164 : BitVec 32 := 8#32
  let c9_i32_1162 : BitVec 32 := 9#32
  let c0_i32_175 : BitVec 32 := 0#32
  let c1_i32_177 : BitVec 32 := 1#32
  let arg43 : BitVec 32 := Scf.iv c0_i32_175 c1_i32_177 k0_t5
  let v2524 : BitVec 32 := Scalar.muli c9_i32_1162 arg43
  let c8_i32_1163 : BitVec 32 := 8#32
  let v2525 : BitVec 32 := Scalar.addi v2524 c8_i32_1163
  let v2526 : BitVec 32 := Scalar.muli c8_i32_1164 v2525
  v2526
def k0_mult100 (k0_t5 : Fin k0_t5_loop.trips) : BitVec 32 :=
  let c8_i32_1176 : BitVec 32 := 8#32
  let c9_i32_1174 : BitVec 32 := 9#32
  let c0_i32_175 : BitVec 32 := 0#32
  let c1_i32_177 : BitVec 32 := 1#32
  let arg43 : BitVec 32 := Scf.iv c0_i32_175 c1_i32_177 k0_t5
  let v2539 : BitVec 32 := Scalar.muli c9_i32_1174 arg43
  let c0_i32_1175 : BitVec 32 := 0#32
  let v2540 : BitVec 32 := Scalar.addi v2539 c0_i32_1175
  let v2541 : BitVec 32 := Scalar.muli c8_i32_1176 v2540
  v2541
def k0_off55 (k0_t5 : Fin k0_t5_loop.trips) (c0_i32_1175 : BitVec 32) : Fin 3 → Nat :=
  let c0_1177 : Index := 0#32
  let c8_i32_1176 : BitVec 32 := 8#32
  let c9_i32_1174 : BitVec 32 := 9#32
  let c0_i32_175 : BitVec 32 := 0#32
  let c1_i32_177 : BitVec 32 := 1#32
  let arg43 : BitVec 32 := Scf.iv c0_i32_175 c1_i32_177 k0_t5
  let v2539 : BitVec 32 := Scalar.muli c9_i32_1174 arg43
  let v2540 : BitVec 32 := Scalar.addi v2539 c0_i32_1175
  let v2541 : BitVec 32 := Scalar.muli c8_i32_1176 v2540
  let v2542 : BitVec 32 := v2541
  let v2543 : Index := Scalar.indexCast v2542
  let c128_1178 : Index := 128#32
  ![0, v2543.toNat, 128]
def k0_mult101 (k0_t5 : Fin k0_t5_loop.trips) : BitVec 32 :=
  let c8_i32_1188 : BitVec 32 := 8#32
  let c9_i32_1186 : BitVec 32 := 9#32
  let c0_i32_175 : BitVec 32 := 0#32
  let c1_i32_177 : BitVec 32 := 1#32
  let arg43 : BitVec 32 := Scf.iv c0_i32_175 c1_i32_177 k0_t5
  let v2554 : BitVec 32 := Scalar.muli c9_i32_1186 arg43
  let c1_i32_1187 : BitVec 32 := 1#32
  let v2555 : BitVec 32 := Scalar.addi v2554 c1_i32_1187
  let v2556 : BitVec 32 := Scalar.muli c8_i32_1188 v2555
  v2556
def k0_mult102 (k0_t5 : Fin k0_t5_loop.trips) : BitVec 32 :=
  let c8_i32_1200 : BitVec 32 := 8#32
  let c9_i32_1198 : BitVec 32 := 9#32
  let c0_i32_175 : BitVec 32 := 0#32
  let c1_i32_177 : BitVec 32 := 1#32
  let arg43 : BitVec 32 := Scf.iv c0_i32_175 c1_i32_177 k0_t5
  let v2569 : BitVec 32 := Scalar.muli c9_i32_1198 arg43
  let c2_i32_1199 : BitVec 32 := 2#32
  let v2570 : BitVec 32 := Scalar.addi v2569 c2_i32_1199
  let v2571 : BitVec 32 := Scalar.muli c8_i32_1200 v2570
  v2571
def k0_mult103 (k0_t5 : Fin k0_t5_loop.trips) : BitVec 32 :=
  let c8_i32_1212 : BitVec 32 := 8#32
  let c9_i32_1210 : BitVec 32 := 9#32
  let c0_i32_175 : BitVec 32 := 0#32
  let c1_i32_177 : BitVec 32 := 1#32
  let arg43 : BitVec 32 := Scf.iv c0_i32_175 c1_i32_177 k0_t5
  let v2584 : BitVec 32 := Scalar.muli c9_i32_1210 arg43
  let c3_i32_1211 : BitVec 32 := 3#32
  let v2585 : BitVec 32 := Scalar.addi v2584 c3_i32_1211
  let v2586 : BitVec 32 := Scalar.muli c8_i32_1212 v2585
  v2586
def k0_mult104 (k0_t5 : Fin k0_t5_loop.trips) : BitVec 32 :=
  let c8_i32_1224 : BitVec 32 := 8#32
  let c9_i32_1222 : BitVec 32 := 9#32
  let c0_i32_175 : BitVec 32 := 0#32
  let c1_i32_177 : BitVec 32 := 1#32
  let arg43 : BitVec 32 := Scf.iv c0_i32_175 c1_i32_177 k0_t5
  let v2599 : BitVec 32 := Scalar.muli c9_i32_1222 arg43
  let c4_i32_1223 : BitVec 32 := 4#32
  let v2600 : BitVec 32 := Scalar.addi v2599 c4_i32_1223
  let v2601 : BitVec 32 := Scalar.muli c8_i32_1224 v2600
  v2601
def k0_mult105 (k0_t5 : Fin k0_t5_loop.trips) : BitVec 32 :=
  let c8_i32_1236 : BitVec 32 := 8#32
  let c9_i32_1234 : BitVec 32 := 9#32
  let c0_i32_175 : BitVec 32 := 0#32
  let c1_i32_177 : BitVec 32 := 1#32
  let arg43 : BitVec 32 := Scf.iv c0_i32_175 c1_i32_177 k0_t5
  let v2614 : BitVec 32 := Scalar.muli c9_i32_1234 arg43
  let c5_i32_1235 : BitVec 32 := 5#32
  let v2615 : BitVec 32 := Scalar.addi v2614 c5_i32_1235
  let v2616 : BitVec 32 := Scalar.muli c8_i32_1236 v2615
  v2616
def k0_mult106 (k0_t5 : Fin k0_t5_loop.trips) : BitVec 32 :=
  let c8_i32_1248 : BitVec 32 := 8#32
  let c9_i32_1246 : BitVec 32 := 9#32
  let c0_i32_175 : BitVec 32 := 0#32
  let c1_i32_177 : BitVec 32 := 1#32
  let arg43 : BitVec 32 := Scf.iv c0_i32_175 c1_i32_177 k0_t5
  let v2629 : BitVec 32 := Scalar.muli c9_i32_1246 arg43
  let c6_i32_1247 : BitVec 32 := 6#32
  let v2630 : BitVec 32 := Scalar.addi v2629 c6_i32_1247
  let v2631 : BitVec 32 := Scalar.muli c8_i32_1248 v2630
  v2631
def k0_mult107 (k0_t5 : Fin k0_t5_loop.trips) : BitVec 32 :=
  let c8_i32_1260 : BitVec 32 := 8#32
  let c9_i32_1258 : BitVec 32 := 9#32
  let c0_i32_175 : BitVec 32 := 0#32
  let c1_i32_177 : BitVec 32 := 1#32
  let arg43 : BitVec 32 := Scf.iv c0_i32_175 c1_i32_177 k0_t5
  let v2644 : BitVec 32 := Scalar.muli c9_i32_1258 arg43
  let c7_i32_1259 : BitVec 32 := 7#32
  let v2645 : BitVec 32 := Scalar.addi v2644 c7_i32_1259
  let v2646 : BitVec 32 := Scalar.muli c8_i32_1260 v2645
  v2646
def k0_mult108 (k0_t5 : Fin k0_t5_loop.trips) : BitVec 32 :=
  let c8_i32_1272 : BitVec 32 := 8#32
  let c9_i32_1270 : BitVec 32 := 9#32
  let c0_i32_175 : BitVec 32 := 0#32
  let c1_i32_177 : BitVec 32 := 1#32
  let arg43 : BitVec 32 := Scf.iv c0_i32_175 c1_i32_177 k0_t5
  let v2659 : BitVec 32 := Scalar.muli c9_i32_1270 arg43
  let c8_i32_1271 : BitVec 32 := 8#32
  let v2660 : BitVec 32 := Scalar.addi v2659 c8_i32_1271
  let v2661 : BitVec 32 := Scalar.muli c8_i32_1272 v2660
  v2661
def k0_mult109 (k0_t5 : Fin k0_t5_loop.trips) : BitVec 32 :=
  let c8_i32_1284 : BitVec 32 := 8#32
  let c9_i32_1282 : BitVec 32 := 9#32
  let c0_i32_175 : BitVec 32 := 0#32
  let c1_i32_177 : BitVec 32 := 1#32
  let arg43 : BitVec 32 := Scf.iv c0_i32_175 c1_i32_177 k0_t5
  let v2674 : BitVec 32 := Scalar.muli c9_i32_1282 arg43
  let c0_i32_1283 : BitVec 32 := 0#32
  let v2675 : BitVec 32 := Scalar.addi v2674 c0_i32_1283
  let v2676 : BitVec 32 := Scalar.muli c8_i32_1284 v2675
  v2676
def k0_mult110 (k0_t5 : Fin k0_t5_loop.trips) : BitVec 32 :=
  let c8_i32_1296 : BitVec 32 := 8#32
  let c9_i32_1294 : BitVec 32 := 9#32
  let c0_i32_175 : BitVec 32 := 0#32
  let c1_i32_177 : BitVec 32 := 1#32
  let arg43 : BitVec 32 := Scf.iv c0_i32_175 c1_i32_177 k0_t5
  let v2689 : BitVec 32 := Scalar.muli c9_i32_1294 arg43
  let c1_i32_1295 : BitVec 32 := 1#32
  let v2690 : BitVec 32 := Scalar.addi v2689 c1_i32_1295
  let v2691 : BitVec 32 := Scalar.muli c8_i32_1296 v2690
  v2691
def k0_mult111 (k0_t5 : Fin k0_t5_loop.trips) : BitVec 32 :=
  let c8_i32_1308 : BitVec 32 := 8#32
  let c9_i32_1306 : BitVec 32 := 9#32
  let c0_i32_175 : BitVec 32 := 0#32
  let c1_i32_177 : BitVec 32 := 1#32
  let arg43 : BitVec 32 := Scf.iv c0_i32_175 c1_i32_177 k0_t5
  let v2704 : BitVec 32 := Scalar.muli c9_i32_1306 arg43
  let c2_i32_1307 : BitVec 32 := 2#32
  let v2705 : BitVec 32 := Scalar.addi v2704 c2_i32_1307
  let v2706 : BitVec 32 := Scalar.muli c8_i32_1308 v2705
  v2706
def k0_mult112 (k0_t5 : Fin k0_t5_loop.trips) : BitVec 32 :=
  let c8_i32_1320 : BitVec 32 := 8#32
  let c9_i32_1318 : BitVec 32 := 9#32
  let c0_i32_175 : BitVec 32 := 0#32
  let c1_i32_177 : BitVec 32 := 1#32
  let arg43 : BitVec 32 := Scf.iv c0_i32_175 c1_i32_177 k0_t5
  let v2719 : BitVec 32 := Scalar.muli c9_i32_1318 arg43
  let c3_i32_1319 : BitVec 32 := 3#32
  let v2720 : BitVec 32 := Scalar.addi v2719 c3_i32_1319
  let v2721 : BitVec 32 := Scalar.muli c8_i32_1320 v2720
  v2721
def k0_mult113 (k0_t5 : Fin k0_t5_loop.trips) : BitVec 32 :=
  let c8_i32_1332 : BitVec 32 := 8#32
  let c9_i32_1330 : BitVec 32 := 9#32
  let c0_i32_175 : BitVec 32 := 0#32
  let c1_i32_177 : BitVec 32 := 1#32
  let arg43 : BitVec 32 := Scf.iv c0_i32_175 c1_i32_177 k0_t5
  let v2734 : BitVec 32 := Scalar.muli c9_i32_1330 arg43
  let c4_i32_1331 : BitVec 32 := 4#32
  let v2735 : BitVec 32 := Scalar.addi v2734 c4_i32_1331
  let v2736 : BitVec 32 := Scalar.muli c8_i32_1332 v2735
  v2736
def k0_mult114 (k0_t5 : Fin k0_t5_loop.trips) : BitVec 32 :=
  let c8_i32_1344 : BitVec 32 := 8#32
  let c9_i32_1342 : BitVec 32 := 9#32
  let c0_i32_175 : BitVec 32 := 0#32
  let c1_i32_177 : BitVec 32 := 1#32
  let arg43 : BitVec 32 := Scf.iv c0_i32_175 c1_i32_177 k0_t5
  let v2749 : BitVec 32 := Scalar.muli c9_i32_1342 arg43
  let c5_i32_1343 : BitVec 32 := 5#32
  let v2750 : BitVec 32 := Scalar.addi v2749 c5_i32_1343
  let v2751 : BitVec 32 := Scalar.muli c8_i32_1344 v2750
  v2751
def k0_mult115 (k0_t5 : Fin k0_t5_loop.trips) : BitVec 32 :=
  let c8_i32_1356 : BitVec 32 := 8#32
  let c9_i32_1354 : BitVec 32 := 9#32
  let c0_i32_175 : BitVec 32 := 0#32
  let c1_i32_177 : BitVec 32 := 1#32
  let arg43 : BitVec 32 := Scf.iv c0_i32_175 c1_i32_177 k0_t5
  let v2764 : BitVec 32 := Scalar.muli c9_i32_1354 arg43
  let c6_i32_1355 : BitVec 32 := 6#32
  let v2765 : BitVec 32 := Scalar.addi v2764 c6_i32_1355
  let v2766 : BitVec 32 := Scalar.muli c8_i32_1356 v2765
  v2766
def k0_mult116 (k0_t5 : Fin k0_t5_loop.trips) : BitVec 32 :=
  let c8_i32_1368 : BitVec 32 := 8#32
  let c9_i32_1366 : BitVec 32 := 9#32
  let c0_i32_175 : BitVec 32 := 0#32
  let c1_i32_177 : BitVec 32 := 1#32
  let arg43 : BitVec 32 := Scf.iv c0_i32_175 c1_i32_177 k0_t5
  let v2779 : BitVec 32 := Scalar.muli c9_i32_1366 arg43
  let c7_i32_1367 : BitVec 32 := 7#32
  let v2780 : BitVec 32 := Scalar.addi v2779 c7_i32_1367
  let v2781 : BitVec 32 := Scalar.muli c8_i32_1368 v2780
  v2781
def k0_mult117 (k0_t5 : Fin k0_t5_loop.trips) : BitVec 32 :=
  let c8_i32_1380 : BitVec 32 := 8#32
  let c9_i32_1378 : BitVec 32 := 9#32
  let c0_i32_175 : BitVec 32 := 0#32
  let c1_i32_177 : BitVec 32 := 1#32
  let arg43 : BitVec 32 := Scf.iv c0_i32_175 c1_i32_177 k0_t5
  let v2794 : BitVec 32 := Scalar.muli c9_i32_1378 arg43
  let c8_i32_1379 : BitVec 32 := 8#32
  let v2795 : BitVec 32 := Scalar.addi v2794 c8_i32_1379
  let v2796 : BitVec 32 := Scalar.muli c8_i32_1380 v2795
  v2796
def k0_mult118 (k0_t5 : Fin k0_t5_loop.trips) : BitVec 32 :=
  let c8_i32_1392 : BitVec 32 := 8#32
  let c9_i32_1390 : BitVec 32 := 9#32
  let c0_i32_175 : BitVec 32 := 0#32
  let c1_i32_177 : BitVec 32 := 1#32
  let arg43 : BitVec 32 := Scf.iv c0_i32_175 c1_i32_177 k0_t5
  let v2809 : BitVec 32 := Scalar.muli c9_i32_1390 arg43
  let c0_i32_1391 : BitVec 32 := 0#32
  let v2810 : BitVec 32 := Scalar.addi v2809 c0_i32_1391
  let v2811 : BitVec 32 := Scalar.muli c8_i32_1392 v2810
  v2811
def k0_mult119 (k0_t5 : Fin k0_t5_loop.trips) : BitVec 32 :=
  let c8_i32_1404 : BitVec 32 := 8#32
  let c9_i32_1402 : BitVec 32 := 9#32
  let c0_i32_175 : BitVec 32 := 0#32
  let c1_i32_177 : BitVec 32 := 1#32
  let arg43 : BitVec 32 := Scf.iv c0_i32_175 c1_i32_177 k0_t5
  let v2824 : BitVec 32 := Scalar.muli c9_i32_1402 arg43
  let c1_i32_1403 : BitVec 32 := 1#32
  let v2825 : BitVec 32 := Scalar.addi v2824 c1_i32_1403
  let v2826 : BitVec 32 := Scalar.muli c8_i32_1404 v2825
  v2826
def k0_mult120 (k0_t5 : Fin k0_t5_loop.trips) : BitVec 32 :=
  let c8_i32_1416 : BitVec 32 := 8#32
  let c9_i32_1414 : BitVec 32 := 9#32
  let c0_i32_175 : BitVec 32 := 0#32
  let c1_i32_177 : BitVec 32 := 1#32
  let arg43 : BitVec 32 := Scf.iv c0_i32_175 c1_i32_177 k0_t5
  let v2839 : BitVec 32 := Scalar.muli c9_i32_1414 arg43
  let c2_i32_1415 : BitVec 32 := 2#32
  let v2840 : BitVec 32 := Scalar.addi v2839 c2_i32_1415
  let v2841 : BitVec 32 := Scalar.muli c8_i32_1416 v2840
  v2841
def k0_mult121 (k0_t5 : Fin k0_t5_loop.trips) : BitVec 32 :=
  let c8_i32_1428 : BitVec 32 := 8#32
  let c9_i32_1426 : BitVec 32 := 9#32
  let c0_i32_175 : BitVec 32 := 0#32
  let c1_i32_177 : BitVec 32 := 1#32
  let arg43 : BitVec 32 := Scf.iv c0_i32_175 c1_i32_177 k0_t5
  let v2854 : BitVec 32 := Scalar.muli c9_i32_1426 arg43
  let c3_i32_1427 : BitVec 32 := 3#32
  let v2855 : BitVec 32 := Scalar.addi v2854 c3_i32_1427
  let v2856 : BitVec 32 := Scalar.muli c8_i32_1428 v2855
  v2856
def k0_mult122 (k0_t5 : Fin k0_t5_loop.trips) : BitVec 32 :=
  let c8_i32_1440 : BitVec 32 := 8#32
  let c9_i32_1438 : BitVec 32 := 9#32
  let c0_i32_175 : BitVec 32 := 0#32
  let c1_i32_177 : BitVec 32 := 1#32
  let arg43 : BitVec 32 := Scf.iv c0_i32_175 c1_i32_177 k0_t5
  let v2869 : BitVec 32 := Scalar.muli c9_i32_1438 arg43
  let c4_i32_1439 : BitVec 32 := 4#32
  let v2870 : BitVec 32 := Scalar.addi v2869 c4_i32_1439
  let v2871 : BitVec 32 := Scalar.muli c8_i32_1440 v2870
  v2871
def k0_mult123 (k0_t5 : Fin k0_t5_loop.trips) : BitVec 32 :=
  let c8_i32_1452 : BitVec 32 := 8#32
  let c9_i32_1450 : BitVec 32 := 9#32
  let c0_i32_175 : BitVec 32 := 0#32
  let c1_i32_177 : BitVec 32 := 1#32
  let arg43 : BitVec 32 := Scf.iv c0_i32_175 c1_i32_177 k0_t5
  let v2884 : BitVec 32 := Scalar.muli c9_i32_1450 arg43
  let c5_i32_1451 : BitVec 32 := 5#32
  let v2885 : BitVec 32 := Scalar.addi v2884 c5_i32_1451
  let v2886 : BitVec 32 := Scalar.muli c8_i32_1452 v2885
  v2886
def k0_mult124 (k0_t5 : Fin k0_t5_loop.trips) : BitVec 32 :=
  let c8_i32_1464 : BitVec 32 := 8#32
  let c9_i32_1462 : BitVec 32 := 9#32
  let c0_i32_175 : BitVec 32 := 0#32
  let c1_i32_177 : BitVec 32 := 1#32
  let arg43 : BitVec 32 := Scf.iv c0_i32_175 c1_i32_177 k0_t5
  let v2899 : BitVec 32 := Scalar.muli c9_i32_1462 arg43
  let c6_i32_1463 : BitVec 32 := 6#32
  let v2900 : BitVec 32 := Scalar.addi v2899 c6_i32_1463
  let v2901 : BitVec 32 := Scalar.muli c8_i32_1464 v2900
  v2901
def k0_mult125 (k0_t5 : Fin k0_t5_loop.trips) : BitVec 32 :=
  let c8_i32_1476 : BitVec 32 := 8#32
  let c9_i32_1474 : BitVec 32 := 9#32
  let c0_i32_175 : BitVec 32 := 0#32
  let c1_i32_177 : BitVec 32 := 1#32
  let arg43 : BitVec 32 := Scf.iv c0_i32_175 c1_i32_177 k0_t5
  let v2914 : BitVec 32 := Scalar.muli c9_i32_1474 arg43
  let c7_i32_1475 : BitVec 32 := 7#32
  let v2915 : BitVec 32 := Scalar.addi v2914 c7_i32_1475
  let v2916 : BitVec 32 := Scalar.muli c8_i32_1476 v2915
  v2916
def k0_mult126 (k0_t5 : Fin k0_t5_loop.trips) : BitVec 32 :=
  let c8_i32_1488 : BitVec 32 := 8#32
  let c9_i32_1486 : BitVec 32 := 9#32
  let c0_i32_175 : BitVec 32 := 0#32
  let c1_i32_177 : BitVec 32 := 1#32
  let arg43 : BitVec 32 := Scf.iv c0_i32_175 c1_i32_177 k0_t5
  let v2929 : BitVec 32 := Scalar.muli c9_i32_1486 arg43
  let c8_i32_1487 : BitVec 32 := 8#32
  let v2930 : BitVec 32 := Scalar.addi v2929 c8_i32_1487
  let v2931 : BitVec 32 := Scalar.muli c8_i32_1488 v2930
  v2931
@[reducible] def k0_t6_loop : Scf.Loop 32 :=
  let c0_i32_244 : BitVec 32 := 0#32
  let c70_i32 : BitVec 32 := 70#32
  let v182 : BitVec 32 := Scalar.addi c0_i32_244 c70_i32
  let c1_i32_245 : BitVec 32 := 1#32
  ⟨c0_i32_244, v182, c1_i32_245⟩
def k0_off56 (k0_t6 : Fin k0_t6_loop.trips) : Fin 3 → Nat :=
  let c0_255 : Index := 0#32
  let c64_i32_254 : BitVec 32 := 64#32
  let c0_i32_244 : BitVec 32 := 0#32
  let c1_i32_245 : BitVec 32 := 1#32
  let arg43 : BitVec 32 := Scf.iv c0_i32_244 c1_i32_245 k0_t6
  let c64_i32 : BitVec 32 := 64#32
  let v196 : BitVec 32 := Scalar.muli arg43 c64_i32
  let v197 : BitVec 32 := Scalar.addi c64_i32_254 v196
  let v198 : Index := Scalar.indexCast v197
  let c0_256 : Index := 0#32
  ![0, v198.toNat, 0]
def k0_off57 (k0_t6 : Fin k0_t6_loop.trips) : Fin 3 → Nat :=
  let c0_258 : Index := 0#32
  let c0_i32_244 : BitVec 32 := 0#32
  let c1_i32_245 : BitVec 32 := 1#32
  let arg43 : BitVec 32 := Scf.iv c0_i32_244 c1_i32_245 k0_t6
  let c64_i32_257 : BitVec 32 := 64#32
  let v202 : BitVec 32 := Scalar.muli arg43 c64_i32_257
  let v203 : Index := Scalar.indexCast v202
  let c0_259 : Index := 0#32
  ![0, v203.toNat, 0]
def k0_off58 (k0_t6 : Fin k0_t6_loop.trips) : Fin 3 → Nat :=
  let c1_271 : Index := 1#32
  let c64_i32_270 : BitVec 32 := 64#32
  let c0_i32_244 : BitVec 32 := 0#32
  let c1_i32_245 : BitVec 32 := 1#32
  let arg43 : BitVec 32 := Scf.iv c0_i32_244 c1_i32_245 k0_t6
  let c64_i32_269 : BitVec 32 := 64#32
  let v229 : BitVec 32 := Scalar.muli arg43 c64_i32_269
  let v230 : BitVec 32 := Scalar.addi c64_i32_270 v229
  let v231 : Index := Scalar.indexCast v230
  let c0_272 : Index := 0#32
  ![1, v231.toNat, 0]
def k0_off59 (k0_t6 : Fin k0_t6_loop.trips) : Fin 3 → Nat :=
  let c0_274 : Index := 0#32
  let c0_i32_244 : BitVec 32 := 0#32
  let c1_i32_245 : BitVec 32 := 1#32
  let arg43 : BitVec 32 := Scf.iv c0_i32_244 c1_i32_245 k0_t6
  let c64_i32_273 : BitVec 32 := 64#32
  let v235 : BitVec 32 := Scalar.muli arg43 c64_i32_273
  let v236 : Index := Scalar.indexCast v235
  let c128_275 : Index := 128#32
  ![0, v236.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x7x256x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x256x256 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S3x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x4480x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4480x256 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1152x512 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4608x256 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x4608x256 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x4608x256 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x4608x256 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x4608x256 .i8 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4608x256 .i8 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x659x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x659x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x659x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x659x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x659x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x659x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x659x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]
-- ==== ReferenceIdeal.lean ====
abbrev S48x1152x512 : Shape := ⟨3, ![48, 1152, 512]⟩
abbrev S512 : Shape := ⟨1, ![512]⟩
abbrev S_ : Shape := ⟨0, ![]⟩
abbrev S8x512x256 : Shape := ⟨3, ![8, 512, 256]⟩
abbrev S256 : Shape := ⟨1, ![256]⟩
abbrev S3x2x256 : Shape := ⟨3, ![3, 2, 256]⟩
abbrev S3x2 : Shape := ⟨2, ![3, 2]⟩
abbrev S3x7x256x256 : Shape := ⟨4, ![3, 7, 256, 256]⟩
abbrev S3x256 : Shape := ⟨2, ![3, 256]⟩
abbrev S3x256x256 : Shape := ⟨3, ![3, 256, 256]⟩
abbrev S1x1x1 : Shape := ⟨3, ![1, 1, 1]⟩
abbrev S48x4480x256 : Shape := ⟨3, ![48, 4480, 256]⟩
abbrev S48x4608x256 : Shape := ⟨3, ![48, 4608, 256]⟩
abbrev S1x1x512 : Shape := ⟨3, ![1, 1, 512]⟩
abbrev S48x1x512 : Shape := ⟨3, ![48, 1, 512]⟩
abbrev S48x1151x512 : Shape := ⟨3, ![48, 1151, 512]⟩
abbrev S1x512x256 : Shape := ⟨3, ![1, 512, 256]⟩
abbrev S512x256 : Shape := ⟨2, ![512, 256]⟩
abbrev S55296x512 : Shape := ⟨2, ![55296, 512]⟩
abbrev S55296x256 : Shape := ⟨2, ![55296, 256]⟩
abbrev S48x1152x256 : Shape := ⟨3, ![48, 1152, 256]⟩
abbrev S48x1152x1x256 : Shape := ⟨4, ![48, 1152, 1, 256]⟩
abbrev S48x1152x4x256 : Shape := ⟨4, ![48, 1152, 4, 256]⟩
abbrev S1x1x256 : Shape := ⟨3, ![1, 1, 256]⟩
abbrev S1x2x256 : Shape := ⟨3, ![1, 2, 256]⟩
abbrev S2x256 : Shape := ⟨2, ![2, 256]⟩
abbrev S1x1 : Shape := ⟨2, ![1, 1]⟩
abbrev S1x256 : Shape := ⟨2, ![1, 256]⟩
abbrev S1x7x256x256 : Shape := ⟨4, ![1, 7, 256, 256]⟩
abbrev S7x256x256 : Shape := ⟨3, ![7, 256, 256]⟩
abbrev S48x3x256 : Shape := ⟨3, ![48, 3, 256]⟩
abbrev S48x4614x256 : Shape := ⟨3, ![48, 4614, 256]⟩
abbrev S1x256x256 : Shape := ⟨3, ![1, 256, 256]⟩
abbrev S256x256 : Shape := ⟨2, ![256, 256]⟩
abbrev S221184x256 : Shape := ⟨2, ![221184, 256]⟩
abbrev S48x9x256 : Shape := ⟨3, ![48, 9, 256]⟩
abbrev S48x4626x256 : Shape := ⟨3, ![48, 4626, 256]⟩
abbrev S48x27x256 : Shape := ⟨3, ![48, 27, 256]⟩
abbrev S48x4662x256 : Shape := ⟨3, ![48, 4662, 256]⟩

abbrev nBuf : Space → Nat
  | .hbm => 28
  | .vmem => 26
  | .smem => 0
  | _ => 0

abbrev bufTy : (tb : Table) → Fin (tcTables nBuf tb) → BufTy
  | .hbm, ⟨0, _⟩ => ⟨S48x1152x512, .bf16⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S8x512x256, .i8⟩
  | .hbm, ⟨5, _⟩ => ⟨S256, .f32⟩
  | .hbm, ⟨6, _⟩ => ⟨S256, .f32⟩
  | .hbm, ⟨7, _⟩ => ⟨S3x2x256, .f32⟩
  | .hbm, ⟨8, _⟩ => ⟨S3x2x256, .f32⟩
  | .hbm, ⟨9, _⟩ => ⟨S3x2, .f32⟩
  | .hbm, ⟨10, _⟩ => ⟨S3x7x256x256, .i8⟩
  | .hbm, ⟨11, _⟩ => ⟨S3x256, .f32⟩
  | .hbm, ⟨12, _⟩ => ⟨S3x256, .f32⟩
  | .hbm, ⟨13, _⟩ => ⟨S3x256x256, .i8⟩
  | .hbm, ⟨14, _⟩ => ⟨S3x256, .f32⟩
  | .hbm, ⟨15, _⟩ => ⟨S3x256, .f32⟩
  | .hbm, ⟨16, _⟩ => ⟨S_, .f32⟩
  | .hbm, ⟨17, _⟩ => ⟨S1x1x1, .f32⟩
  | .hbm, ⟨18, _⟩ => ⟨S1x1x1, .f32⟩
  | .hbm, ⟨19, _⟩ => ⟨S48x4480x256, .bf16⟩
  | .hbm, ⟨20, _⟩ => ⟨S48x4480x256, .i8⟩
  | .hbm, ⟨21, _⟩ => ⟨S48x1152x512, .i8⟩
  | .hbm, ⟨22, _⟩ => ⟨S48x4608x256, .i8⟩
  | .hbm, ⟨23, _⟩ => ⟨S48x4608x256, .i8⟩
  | .hbm, ⟨24, _⟩ => ⟨S48x4608x256, .i8⟩
  | .hbm, ⟨25, _⟩ => ⟨S48x4608x256, .i8⟩
  | .hbm, ⟨26, _⟩ => ⟨S48x4608x256, .i8⟩
  | .hbm, ⟨27, _⟩ => ⟨S48x4608x256, .i8⟩
  | .local _ .vmem, ⟨0, _⟩ => ⟨S48x1152x512, .bf16⟩
  | .local _ .vmem, ⟨1, _⟩ => ⟨S512, .f32⟩
  | .local _ .vmem, ⟨2, _⟩ => ⟨S512, .f32⟩
  | .local _ .vmem, ⟨3, _⟩ => ⟨S1x1x1, .f32⟩
  | .local _ .vmem, ⟨4, _⟩ => ⟨S8x512x256, .i8⟩
  | .local _ .vmem, ⟨5, _⟩ => ⟨S256, .f32⟩
  | .local _ .vmem, ⟨6, _⟩ => ⟨S256, .f32⟩
  | .local _ .vmem, ⟨7, _⟩ => ⟨S3x2x256, .f32⟩
  | .local _ .vmem, ⟨8, _⟩ => ⟨S3x2x256, .f32⟩
  | .local _ .vmem, ⟨9, _⟩ => ⟨S3x2, .f32⟩
  | .local _ .vmem, ⟨10, _⟩ => ⟨S3x7x256x256, .i8⟩
  | .local _ .vmem, ⟨11, _⟩ => ⟨S3x256, .f32⟩
  | .local _ .vmem, ⟨12, _⟩ => ⟨S3x256, .f32⟩
  | .local _ .vmem, ⟨13, _⟩ => ⟨S3x256x256, .i8⟩
  | .local _ .vmem, ⟨14, _⟩ => ⟨S3x256, .f32⟩
  | .local _ .vmem, ⟨15, _⟩ => ⟨S3x256, .f32⟩
  | .local _ .vmem, ⟨16, _⟩ => ⟨S1x1x1, .f32⟩
  | .local _ .vmem, ⟨17, _⟩ => ⟨S48x4480x256, .bf16⟩
  | .local _ .vmem, ⟨18, _⟩ => ⟨S48x4480x256, .i8⟩
  | .local _ .vmem, ⟨19, _⟩ => ⟨S48x1152x512, .i8⟩
  | .local _ .vmem, ⟨20, _⟩ => ⟨S48x4608x256, .i8⟩
  | .local _ .vmem, ⟨21, _⟩ => ⟨S48x4608x256, .i8⟩
  | .local _ .vmem, ⟨22, _⟩ => ⟨S48x4608x256, .i8⟩
  | .local _ .vmem, ⟨23, _⟩ => ⟨S48x4608x256, .i8⟩
  | .local _ .vmem, ⟨24, _⟩ => ⟨S48x4608x256, .i8⟩
  | .local _ .vmem, ⟨25, _⟩ => ⟨S48x4608x256, .i8⟩
  | _, _ => ⟨S48x1152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v2_3 : Ref sig .tc := ⟨.hbm, 22, rfl⟩
abbrev main_v2_4 : Ref sig .tc := ⟨.hbm, 23, rfl⟩
abbrev main_v2_5 : Ref sig .tc := ⟨.hbm, 24, rfl⟩
abbrev main_v2_6 : Ref sig .tc := ⟨.hbm, 25, rfl⟩
abbrev main_v2_7 : Ref sig .tc := ⟨.hbm, 26, rfl⟩
abbrev main_v2_8 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S48x1152x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x7x256x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x256x256 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S48x4480x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S48x4480x256 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S48x1152x512 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S48x4608x256 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S48x4608x256 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S48x4608x256 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S48x4608x256 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S48x4608x256 .i8 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S48x4608x256 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.Trip2.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 2 holds. -/
abbrev Trip2 (c : Dev nD) (arg38 : Memref sig .tc .vmem S4x1168x128 .f32) (arg35 : Memref sig .tc .vmem S8x512x256 .bf16) (arg5 : Memref sig .tc .vmem S1x256 .f32) (arg6 : Memref sig .tc .vmem S1x256 .f32) (arg7 : Memref sig .tc .vmem S6x256 .f32) (arg8 : Memref sig .tc .vmem S6x256 .f32) (arg16 : Memref sig .tc .smem S3x2 .f32) (arg41 : Memref sig .tc .vmem S2x576x128 .f32) (arg40 : Memref sig .tc .vmem S2x4608x128 .f32) (arg22 : Memref sig .tc .vmem S1x4608x256 .i8) (arg39 : Memref sig .tc .vmem S2x2x4672x128 .f32) (arg28 : Memref sig .tc .vmem S1x659x256 .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) : sProp 𝕄G :=
  iprop((arg38.view.loc (c : Thread nD τ) ↦[arg38.view.set]{fullShare} X38) ∗ (arg35.view.loc (c : Thread nD τ) ↦[arg35.view.set]{fullShare} X35) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg41.view.loc (c : Thread nD τ) ↦[arg41.view.set]{fullShare} f41) ∗ (arg40.view.loc (c : Thread nD τ) ↦[arg40.view.set]{fullShare} f40) ∗ (arg22.view.loc (c : Thread nD τ) ↦[arg22.view.set]{fullShare} f22) ∗ (arg39.view.loc (c : Thread nD τ) ↦[arg39.view.set]{fullShare} f39) ∗ (arg28.view.loc (c : Thread nD τ) ↦[arg28.view.set]{fullShare} f28))

/-- One trip of loop 2, run: the pieces it writes into each buffer. -/
@[irreducible] def trip2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    Σ' (L41 : List (View.Piece (Elt F) S2x576x128 .f32)), Σ' (L40 : List (View.Piece (Elt F) S2x4608x128 .f32)), Σ' (L22 : List (View.Piece (Elt F) S1x4608x256 .i8)), Σ' (L39 : List (View.Piece (Elt F) S2x2x4672x128 .f32)), { L28 : List (View.Piece (Elt F) S1x659x256 .f32) // ∀ (E : Set ℕ),
      Trip2 (F := F) c arg38 arg35 arg5 arg6 arg7 arg8 arg16 arg41 arg40 arg22 arg39 arg28 X38 X35 X5 X6 X7 X8 X16 f41 f40 f22 f39 f28
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 k PUnit.unit)
          (fun _ => Trip2 (F := F) c arg38 arg35 arg5 arg6 arg7 arg8 arg16 arg41 arg40 arg22 arg39 arg28 X38 X35 X5 X6 X7 X8 X16 (arg41.view.writes (Elt F) f41 L41) (arg40.view.writes (Elt F) f40 L40) (arg22.view.writes (Elt F) f22 L22) (arg39.view.writes (Elt F) f39 L39) (arg28.view.writes (Elt F) f28 L28)) } := by
  have hk : k.val < 9 := Nat.lt_of_lt_of_le k.isLt k0_t2_abs.2.1
  refine ⟨?_, ?_, ?_, ?_, ?_, fun E => ?run⟩
  case run =>
    unfold k0_t2_body
    iintro ⟨H38, H35, H5, H6, H7, H8, H16, H41, H40, H22, H39, H28⟩
    sl_exec
    sl_step
    sl_close

end Cert.KernelIdeal.Body
-- ==== Proof.Loop2.lean ====
module

public import proofs.«01_k».proof.Proof.Trip2
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 2 writes. -/
abbrev St2 (F : FTy → Type) [FloatOps F] (arg41 : Memref sig .tc .vmem S2x576x128 .f32) (arg40 : Memref sig .tc .vmem S2x4608x128 .f32) (arg22 : Memref sig .tc .vmem S1x4608x256 .i8) (arg39 : Memref sig .tc .vmem S2x2x4672x128 .f32) (arg28 : Memref sig .tc .vmem S1x659x256 .f32) : Type :=
  BufTy.Contents (Elt F) arg41.view.ty × BufTy.Contents (Elt F) arg40.view.ty × BufTy.Contents (Elt F) arg22.view.ty × BufTy.Contents (Elt F) arg39.view.ty × BufTy.Contents (Elt F) arg28.view.ty

/-- What trip `k` of loop 2 makes of them. -/
def next2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (s : St2 F arg41 arg40 arg22 arg39 arg28) (k : Fin k0_t2_loop.trips) : St2 F arg41 arg40 arg22 arg39 arg28 :=
  (arg41.view.writes (Elt F) s.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).1,
   arg40.view.writes (Elt F) s.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.1,
   arg22.view.writes (Elt F) s.2.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.1,
   arg39.view.writes (Elt F) s.2.2.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.2.1,
   arg28.view.writes (Elt F) s.2.2.2.2 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.2.2.1)

/-- The contents before trip `k`, from `G` before the first. -/
def st2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G : St2 F arg41 arg40 arg22 arg39 arg28) : ℕ → St2 F arg41 arg40 arg22 arg39 arg28
  | 0 => G
  | k + 1 => if h : k < k0_t2_loop.trips then next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k) ⟨k, h⟩ else st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k

theorem st2_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G : St2 F arg41 arg40 arg22 arg39 arg28) (k : Fin k0_t2_loop.trips) :
    st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G (k.val + 1) = next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k.val) k := by
  rw [st2.eq_2]; exact dif_pos k.isLt

/-- What loop 2 holds before trip `k`. -/
abbrev inv2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G41 : BufTy.Contents (Elt F) arg41.view.ty) (G40 : BufTy.Contents (Elt F) arg40.view.ty) (G22 : BufTy.Contents (Elt F) arg22.view.ty) (G39 : BufTy.Contents (Elt F) arg39.view.ty) (G28 : BufTy.Contents (Elt F) arg28.view.ty) (k : ℕ) (_ : Unit) : sProp 𝕄G :=
  iprop((arg38.view.loc (c : Thread nD τ) ↦[arg38.view.set]{fullShare} X38) ∗ (arg35.view.loc (c : Thread nD τ) ↦[arg35.view.set]{fullShare} X35) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (∃ f, (arg41.view.loc (c : Thread nD τ) ↦[arg41.view.set]{fullShare} f) ∗ ⌜f = Nat.rec (motive := fun _ => BufTy.Contents (Elt F) arg41.view.ty) G41 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).1) k⌝) ∗ (∃ f, (arg40.view.loc (c : Thread nD τ) ↦[arg40.view.set]{fullShare} f) ∗ ⌜f = Nat.rec (motive := fun _ => BufTy.Contents (Elt F) arg40.view.ty) G40 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.1) k⌝) ∗ (∃ f, (arg22.view.loc (c : Thread nD τ) ↦[arg22.view.set]{fullShare} f) ∗ ⌜f = Nat.rec (motive := fun _ => BufTy.Contents (Elt F) arg22.view.ty) G22 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.1) k⌝) ∗ (∃ f, (arg39.view.loc (c : Thread nD τ) ↦[arg39.view.set]{fullShare} f) ∗ ⌜f = Nat.rec (motive := fun _ => BufTy.Contents (Elt F) arg39.view.ty) G39 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.2.1) k⌝) ∗ (∃ f, (arg28.view.loc (c : Thread nD τ) ↦[arg28.view.set]{fullShare} f) ∗ ⌜f = Nat.rec (motive := fun _ => BufTy.Contents (Elt F) arg28.view.ty) G28 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.2.2) k⌝))

set_option warn.classDefReducibility false in
/-- Loop 2 by what its trips make of the buffers. -/
@[sl_loop] def loopInv2 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G41 : BufTy.Contents (Elt F) arg41.view.ty) (G40 : BufTy.Contents (Elt F) arg40.view.ty) (G22 : BufTy.Contents (Elt F) arg22.view.ty) (G39 : BufTy.Contents (Elt F) arg39.view.ty) (G28 : BufTy.Contents (Elt F) arg28.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 where
  inv := inv2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G41 G40 G22 G39 G28
  step k acc := by
    iintro ⟨H38, H35, H5, H6, H7, H8, H16, ⟨%f41, H41, %h41⟩, ⟨%f40, H40, %h40⟩, ⟨%f22, H22, %h22⟩, ⟨%f39, H39, %h39⟩, ⟨%f28, H28, %h28⟩⟩
    rw [at_zero (k := k.val) (G := G41) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).1) (fun h => by rw [h]; rfl)] at h41
    rw [at_zero (k := k.val) (G := G40) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.1) (fun h => by rw [h]; rfl)] at h40
    rw [at_zero (k := k.val) (G := G22) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.1) (fun h => by rw [h]; rfl)] at h22
    rw [at_zero (k := k.val) (G := G39) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.2.1) (fun h => by rw [h]; rfl)] at h39
    rw [at_zero (k := k.val) (G := G28) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.2.2) (fun h => by rw [h]; rfl)] at h28
    subst h41 h40 h22 h39 h28
    iapply (wp_wand_r Idealize.ShloMosaic.frame (wpE (defs₀ (F := F)) 𝒱 (c : Thread nD τ) bd) E)
    isplitl [H38 H35 H5 H6 H7 H8 H16 H41 H40 H22 H39 H28]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 _ _ _ _ _ k).2.2.2.2.2 E)
      isplitl [H38]; · iexact H38
      isplitl [H35]; · iexact H35
      isplitl [H5]; · iexact H5
      isplitl [H6]; · iexact H6
      isplitl [H7]; · iexact H7
      isplitl [H8]; · iexact H8
      isplitl [H16]; · iexact H16
      isplitl [H41]; · iexact H41
      isplitl [H40]; · iexact H40
      isplitl [H22]; · iexact H22
      isplitl [H39]; · iexact H39
      iexact H28
    · iintro %_ ⟨H38, H35, H5, H6, H7, H8, H16, H41, H40, H22, H39, H28⟩
      isplitl [H38]; · iexact H38
      isplitl [H35]; · iexact H35
      isplitl [H5]; · iexact H5
      isplitl [H6]; · iexact H6
      isplitl [H7]; · iexact H7
      isplitl [H8]; · iexact H8
      isplitl [H16]; · iexact H16
      isplitl [H41]
      · iexists _; isplitl [H41]; · iexact H41
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).1; rw [st2_succ]; rfl
      isplitl [H40]
      · iexists _; isplitl [H40]; · iexact H40
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.1; rw [st2_succ]; rfl
      isplitl [H22]
      · iexists _; isplitl [H22]; · iexact H22
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.1; rw [st2_succ]; rfl
      isplitl [H39]
      · iexists _; isplitl [H39]; · iexact H39
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.2.1; rw [st2_succ]; rfl
      iexists _; isplitl [H28]; · iexact H28
      ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.2.2; rw [st2_succ]; rfl

end Cert.KernelIdeal.Body

end
-- ==== Proof.Trip3.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 3 holds. -/
abbrev Trip3 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg23 : Memref sig .tc .vmem S1x4608x256 .i8) (arg24 : Memref sig .tc .vmem S1x4608x256 .i8) (arg29 : Memref sig .tc .vmem S1x659x256 .f32) (arg30 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg23.view.loc (c : Thread nD τ) ↦[arg23.view.set]{fullShare} f23) ∗ (arg24.view.loc (c : Thread nD τ) ↦[arg24.view.set]{fullShare} f24) ∗ (arg29.view.loc (c : Thread nD τ) ↦[arg29.view.set]{fullShare} f29) ∗ (arg30.view.loc (c : Thread nD τ) ↦[arg30.view.set]{fullShare} f30))

/-- One trip of loop 3, run: the pieces it writes into each buffer. -/
@[irreducible] def trip3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    Σ' (L39 : List (View.Piece (Elt F) S2x2x4672x128 .f32)), Σ' (L40 : List (View.Piece (Elt F) S2x4608x128 .f32)), Σ' (L41 : List (View.Piece (Elt F) S2x576x128 .f32)), Σ' (L42 : List (View.Piece (Elt F) S2x576x128 .f32)), Σ' (L23 : List (View.Piece (Elt F) S1x4608x256 .i8)), Σ' (L24 : List (View.Piece (Elt F) S1x4608x256 .i8)), Σ' (L29 : List (View.Piece (Elt F) S1x659x256 .f32)), { L30 : List (View.Piece (Elt F) S1x659x256 .f32) // ∀ (E : Set ℕ),
      Trip3 (F := F) c arg36 arg10 arg11 arg7 arg8 arg16 arg37 arg13 arg14 arg39 arg40 arg41 arg42 arg23 arg24 arg29 arg30 X36 X10 X11 X7 X8 X16 X37 X13 X14 f39 f40 f41 f42 f23 f24 f29 f30
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 k PUnit.unit)
          (fun _ => Trip3 (F := F) c arg36 arg10 arg11 arg7 arg8 arg16 arg37 arg13 arg14 arg39 arg40 arg41 arg42 arg23 arg24 arg29 arg30 X36 X10 X11 X7 X8 X16 X37 X13 X14 (arg39.view.writes (Elt F) f39 L39) (arg40.view.writes (Elt F) f40 L40) (arg41.view.writes (Elt F) arg41.view.junk L41) (arg42.view.writes (Elt F) arg42.view.junk L42) (arg23.view.writes (Elt F) f23 L23) (arg24.view.writes (Elt F) f24 L24) (arg29.view.writes (Elt F) f29 L29) (arg30.view.writes (Elt F) f30 L30)) } := by
  have hk : k.val < 9 := Nat.lt_of_lt_of_le k.isLt k0_t3_abs.2.1
  refine ⟨?_, ?_, ?_, ?_, ?_, ?_, ?_, ?_, fun E => ?run⟩
  case run =>
    unfold k0_t3_body
    iintro ⟨H36, H10, H11, H7, H8, H16, H37, H13, H14, H39, H40, H41, H42, H23, H24, H29, H30⟩
    sl_exec
    sl_step
    sl_close

end Cert.KernelIdeal.Body
-- ==== Proof.Loop3.lean ====
module

public import proofs.«01_k».proof.Proof.Trip3
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 3 writes. -/
abbrev St3 (F : FTy → Type) [FloatOps F] (arg39 : Memref sig .tc .vmem S2x2x4672x128 .f32) (arg40 : Memref sig .tc .vmem S2x4608x128 .f32) (arg41 : Memref sig .tc .vmem S2x576x128 .f32) (arg42 : Memref sig .tc .vmem S2x576x128 .f32) (arg23 : Memref sig .tc .vmem S1x4608x256 .i8) (arg24 : Memref sig .tc .vmem S1x4608x256 .i8) (arg29 : Memref sig .tc .vmem S1x659x256 .f32) (arg30 : Memref sig .tc .vmem S1x659x256 .f32) : Type :=
  BufTy.Contents (Elt F) arg39.view.ty × BufTy.Contents (Elt F) arg40.view.ty × BufTy.Contents (Elt F) arg41.view.ty × BufTy.Contents (Elt F) arg42.view.ty × BufTy.Contents (Elt F) arg23.view.ty × BufTy.Contents (Elt F) arg24.view.ty × BufTy.Contents (Elt F) arg29.view.ty × BufTy.Contents (Elt F) arg30.view.ty

/-- What trip `k` of loop 3 makes of them. -/
def next3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (s : St3 F arg39 arg40 arg41 arg42 arg23 arg24 arg29 arg30) (k : Fin k0_t3_loop.trips) : St3 F arg39 arg40 arg41 arg42 arg23 arg24 arg29 arg30 :=
  (arg39.view.writes (Elt F) s.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).1,
   arg40.view.writes (Elt F) s.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.1,
   arg41.view.writes (Elt F) arg41.view.junk (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.1,
   arg42.view.writes (Elt F) arg42.view.junk (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.1,
   arg23.view.writes (Elt F) s.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1,
   arg24.view.writes (Elt F) s.2.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1,
   arg29.view.writes (Elt F) s.2.2.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.1,
   arg30.view.writes (Elt F) s.2.2.2.2.2.2.2 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.2.1)

/-- The contents before trip `k`, from `G` before the first. -/
def st3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St3 F arg39 arg40 arg41 arg42 arg23 arg24 arg29 arg30) : ℕ → St3 F arg39 arg40 arg41 arg42 arg23 arg24 arg29 arg30
  | 0 => G
  | k + 1 => if h : k < k0_t3_loop.trips then next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k) ⟨k, h⟩ else st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k

theorem st3_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St3 F arg39 arg40 arg41 arg42 arg23 arg24 arg29 arg30) (k : Fin k0_t3_loop.trips) :
    st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G (k.val + 1) = next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k.val) k := by
  rw [st3.eq_2]; exact dif_pos k.isLt

/-- What loop 3 holds before trip `k`. -/
abbrev inv3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G23 : BufTy.Contents (Elt F) arg23.view.ty) (G24 : BufTy.Contents (Elt F) arg24.view.ty) (G29 : BufTy.Contents (Elt F) arg29.view.ty) (G30 : BufTy.Contents (Elt F) arg30.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (∃ f, (arg39.view.loc (c : Thread nD τ) ↦[arg39.view.set]{fullShare} f) ∗ ⌜f = Nat.rec (motive := fun _ => BufTy.Contents (Elt F) arg39.view.ty) G39 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).1) k⌝) ∗ (∃ f, (arg40.view.loc (c : Thread nD τ) ↦[arg40.view.set]{fullShare} f) ∗ ⌜f = Nat.rec (motive := fun _ => BufTy.Contents (Elt F) arg40.view.ty) G40 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.1) k⌝) ∗ (∃ f, (arg41.view.loc (c : Thread nD τ) ↦[arg41.view.set]{fullShare} f) ∗ ⌜f = Nat.rec (motive := fun _ => BufTy.Contents (Elt F) arg41.view.ty) G41 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.1) k⌝) ∗ (∃ f, (arg42.view.loc (c : Thread nD τ) ↦[arg42.view.set]{fullShare} f) ∗ ⌜f = Nat.rec (motive := fun _ => BufTy.Contents (Elt F) arg42.view.ty) G42 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.1) k⌝) ∗ (∃ f, (arg23.view.loc (c : Thread nD τ) ↦[arg23.view.set]{fullShare} f) ∗ ⌜f = Nat.rec (motive := fun _ => BufTy.Contents (Elt F) arg23.view.ty) G23 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.1) k⌝) ∗ (∃ f, (arg24.view.loc (c : Thread nD τ) ↦[arg24.view.set]{fullShare} f) ∗ ⌜f = Nat.rec (motive := fun _ => BufTy.Contents (Elt F) arg24.view.ty) G24 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.1) k⌝) ∗ (∃ f, (arg29.view.loc (c : Thread nD τ) ↦[arg29.view.set]{fullShare} f) ∗ ⌜f = Nat.rec (motive := fun _ => BufTy.Contents (Elt F) arg29.view.ty) G29 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.2.1) k⌝) ∗ (∃ f, (arg30.view.loc (c : Thread nD τ) ↦[arg30.view.set]{fullShare} f) ∗ ⌜f = Nat.rec (motive := fun _ => BufTy.Contents (Elt F) arg30.view.ty) G30 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.2.2) k⌝))

set_option warn.classDefReducibility false in
/-- Loop 3 by what its trips make of the buffers. -/
@[sl_loop] def loopInv3 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G23 : BufTy.Contents (Elt F) arg23.view.ty) (G24 : BufTy.Contents (Elt F) arg24.view.ty) (G29 : BufTy.Contents (Elt F) arg29.view.ty) (G30 : BufTy.Contents (Elt F) arg30.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 where
  inv := inv3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G39 G40 G41 G42 G23 G24 G29 G30
  step k acc := by
    iintro ⟨H36, H10, H11, H7, H8, H16, H37, H13, H14, ⟨%f39, H39, %h39⟩, ⟨%f40, H40, %h40⟩, ⟨%f41, H41, %h41⟩, ⟨%f42, H42, %h42⟩, ⟨%f23, H23, %h23⟩, ⟨%f24, H24, %h24⟩, ⟨%f29, H29, %h29⟩, ⟨%f30, H30, %h30⟩⟩
    rw [at_zero (k := k.val) (G := G39) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).1) (fun h => by rw [h]; rfl)] at h39
    rw [at_zero (k := k.val) (G := G40) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.1) (fun h => by rw [h]; rfl)] at h40
    rw [at_zero (k := k.val) (G := G41) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.1) (fun h => by rw [h]; rfl)] at h41
    rw [at_zero (k := k.val) (G := G42) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.1) (fun h => by rw [h]; rfl)] at h42
    rw [at_zero (k := k.val) (G := G23) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.1) (fun h => by rw [h]; rfl)] at h23
    rw [at_zero (k := k.val) (G := G24) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.1) (fun h => by rw [h]; rfl)] at h24
    rw [at_zero (k := k.val) (G := G29) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.2.1) (fun h => by rw [h]; rfl)] at h29
    rw [at_zero (k := k.val) (G := G30) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.2.2) (fun h => by rw [h]; rfl)] at h30
    subst h39 h40 h41 h42 h23 h24 h29 h30
    iapply (wp_wand_r Idealize.ShloMosaic.frame (wpE (defs₀ (F := F)) 𝒱 (c : Thread nD τ) bd) E)
    isplitl [H36 H10 H11 H7 H8 H16 H37 H13 H14 H39 H40 H41 H42 H23 H24 H29 H30]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 _ _ _ _ _ _ _ _ k).2.2.2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H23]; · iexact H23
      isplitl [H24]; · iexact H24
      isplitl [H29]; · iexact H29
      iexact H30
    · iintro %_ ⟨H36, H10, H11, H7, H8, H16, H37, H13, H14, H39, H40, H41, H42, H23, H24, H29, H30⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]
      · iexists _; isplitl [H39]; · iexact H39
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).1; rw [st3_succ]; rfl
      isplitl [H40]
      · iexists _; isplitl [H40]; · iexact H40
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.1; rw [st3_succ]; rfl
      isplitl [H41]
      · iexists _; isplitl [H41]; · iexact H41
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.1; rw [st3_succ]; rfl
      isplitl [H42]
      · iexists _; isplitl [H42]; · iexact H42
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.1; rw [st3_succ]; rfl
      isplitl [H23]
      · iexists _; isplitl [H23]; · iexact H23
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.1; rw [st3_succ]; rfl
      isplitl [H24]
      · iexists _; isplitl [H24]; · iexact H24
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.1; rw [st3_succ]; rfl
      isplitl [H29]
      · iexists _; isplitl [H29]; · iexact H29
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.2.1; rw [st3_succ]; rfl
      iexists _; isplitl [H30]; · iexact H30
      ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.2.2; rw [st3_succ]; rfl

end Cert.KernelIdeal.Body

end
-- ==== Proof.Trip4.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 4 holds. -/
abbrev Trip4 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg25 : Memref sig .tc .vmem S1x4608x256 .i8) (arg26 : Memref sig .tc .vmem S1x4608x256 .i8) (arg31 : Memref sig .tc .vmem S1x659x256 .f32) (arg32 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg25.view.loc (c : Thread nD τ) ↦[arg25.view.set]{fullShare} f25) ∗ (arg26.view.loc (c : Thread nD τ) ↦[arg26.view.set]{fullShare} f26) ∗ (arg31.view.loc (c : Thread nD τ) ↦[arg31.view.set]{fullShare} f31) ∗ (arg32.view.loc (c : Thread nD τ) ↦[arg32.view.set]{fullShare} f32))

/-- One trip of loop 4, run: the pieces it writes into each buffer. -/
@[irreducible] def trip4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    Σ' (L39 : List (View.Piece (Elt F) S2x2x4672x128 .f32)), Σ' (L40 : List (View.Piece (Elt F) S2x4608x128 .f32)), Σ' (L41 : List (View.Piece (Elt F) S2x576x128 .f32)), Σ' (L42 : List (View.Piece (Elt F) S2x576x128 .f32)), Σ' (L25 : List (View.Piece (Elt F) S1x4608x256 .i8)), Σ' (L26 : List (View.Piece (Elt F) S1x4608x256 .i8)), Σ' (L31 : List (View.Piece (Elt F) S1x659x256 .f32)), { L32 : List (View.Piece (Elt F) S1x659x256 .f32) // ∀ (E : Set ℕ),
      Trip4 (F := F) c arg36 arg10 arg11 arg7 arg8 arg16 arg37 arg13 arg14 arg39 arg40 arg41 arg42 arg25 arg26 arg31 arg32 X36 X10 X11 X7 X8 X16 X37 X13 X14 f39 f40 f41 f42 f25 f26 f31 f32
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 k PUnit.unit)
          (fun _ => Trip4 (F := F) c arg36 arg10 arg11 arg7 arg8 arg16 arg37 arg13 arg14 arg39 arg40 arg41 arg42 arg25 arg26 arg31 arg32 X36 X10 X11 X7 X8 X16 X37 X13 X14 (arg39.view.writes (Elt F) f39 L39) (arg40.view.writes (Elt F) f40 L40) (arg41.view.writes (Elt F) arg41.view.junk L41) (arg42.view.writes (Elt F) arg42.view.junk L42) (arg25.view.writes (Elt F) f25 L25) (arg26.view.writes (Elt F) f26 L26) (arg31.view.writes (Elt F) f31 L31) (arg32.view.writes (Elt F) f32 L32)) } := by
  have hk : k.val < 9 := Nat.lt_of_lt_of_le k.isLt k0_t4_abs.2.1
  refine ⟨?_, ?_, ?_, ?_, ?_, ?_, ?_, ?_, fun E => ?run⟩
  case run =>
    unfold k0_t4_body
    iintro ⟨H36, H10, H11, H7, H8, H16, H37, H13, H14, H39, H40, H41, H42, H25, H26, H31, H32⟩
    sl_exec
    sl_step
    sl_close

end Cert.KernelIdeal.Body
-- ==== Proof.Loop4.lean ====
module

public import proofs.«01_k».proof.Proof.Trip4
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 4 writes. -/
abbrev St4 (F : FTy → Type) [FloatOps F] (arg39 : Memref sig .tc .vmem S2x2x4672x128 .f32) (arg40 : Memref sig .tc .vmem S2x4608x128 .f32) (arg41 : Memref sig .tc .vmem S2x576x128 .f32) (arg42 : Memref sig .tc .vmem S2x576x128 .f32) (arg25 : Memref sig .tc .vmem S1x4608x256 .i8) (arg26 : Memref sig .tc .vmem S1x4608x256 .i8) (arg31 : Memref sig .tc .vmem S1x659x256 .f32) (arg32 : Memref sig .tc .vmem S1x659x256 .f32) : Type :=
  BufTy.Contents (Elt F) arg39.view.ty × BufTy.Contents (Elt F) arg40.view.ty × BufTy.Contents (Elt F) arg41.view.ty × BufTy.Contents (Elt F) arg42.view.ty × BufTy.Contents (Elt F) arg25.view.ty × BufTy.Contents (Elt F) arg26.view.ty × BufTy.Contents (Elt F) arg31.view.ty × BufTy.Contents (Elt F) arg32.view.ty

/-- What trip `k` of loop 4 makes of them. -/
def next4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (s : St4 F arg39 arg40 arg41 arg42 arg25 arg26 arg31 arg32) (k : Fin k0_t4_loop.trips) : St4 F arg39 arg40 arg41 arg42 arg25 arg26 arg31 arg32 :=
  (arg39.view.writes (Elt F) s.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).1,
   arg40.view.writes (Elt F) s.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.1,
   arg41.view.writes (Elt F) arg41.view.junk (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.1,
   arg42.view.writes (Elt F) arg42.view.junk (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.1,
   arg25.view.writes (Elt F) s.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1,
   arg26.view.writes (Elt F) s.2.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1,
   arg31.view.writes (Elt F) s.2.2.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.1,
   arg32.view.writes (Elt F) s.2.2.2.2.2.2.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.2.1)

/-- The contents before trip `k`, from `G` before the first. -/
def st4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St4 F arg39 arg40 arg41 arg42 arg25 arg26 arg31 arg32) : ℕ → St4 F arg39 arg40 arg41 arg42 arg25 arg26 arg31 arg32
  | 0 => G
  | k + 1 => if h : k < k0_t4_loop.trips then next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k) ⟨k, h⟩ else st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k

theorem st4_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St4 F arg39 arg40 arg41 arg42 arg25 arg26 arg31 arg32) (k : Fin k0_t4_loop.trips) :
    st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G (k.val + 1) = next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k.val) k := by
  rw [st4.eq_2]; exact dif_pos k.isLt

/-- What loop 4 holds before trip `k`. -/
abbrev inv4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G25 : BufTy.Contents (Elt F) arg25.view.ty) (G26 : BufTy.Contents (Elt F) arg26.view.ty) (G31 : BufTy.Contents (Elt F) arg31.view.ty) (G32 : BufTy.Contents (Elt F) arg32.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (∃ f, (arg39.view.loc (c : Thread nD τ) ↦[arg39.view.set]{fullShare} f) ∗ ⌜f = Nat.rec (motive := fun _ => BufTy.Contents (Elt F) arg39.view.ty) G39 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).1) k⌝) ∗ (∃ f, (arg40.view.loc (c : Thread nD τ) ↦[arg40.view.set]{fullShare} f) ∗ ⌜f = Nat.rec (motive := fun _ => BufTy.Contents (Elt F) arg40.view.ty) G40 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.1) k⌝) ∗ (∃ f, (arg41.view.loc (c : Thread nD τ) ↦[arg41.view.set]{fullShare} f) ∗ ⌜f = Nat.rec (motive := fun _ => BufTy.Contents (Elt F) arg41.view.ty) G41 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.1) k⌝) ∗ (∃ f, (arg42.view.loc (c : Thread nD τ) ↦[arg42.view.set]{fullShare} f) ∗ ⌜f = Nat.rec (motive := fun _ => BufTy.Contents (Elt F) arg42.view.ty) G42 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.1) k⌝) ∗ (∃ f, (arg25.view.loc (c : Thread nD τ) ↦[arg25.view.set]{fullShare} f) ∗ ⌜f = Nat.rec (motive := fun _ => BufTy.Contents (Elt F) arg25.view.ty) G25 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.1) k⌝) ∗ (∃ f, (arg26.view.loc (c : Thread nD τ) ↦[arg26.view.set]{fullShare} f) ∗ ⌜f = Nat.rec (motive := fun _ => BufTy.Contents (Elt F) arg26.view.ty) G26 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.1) k⌝) ∗ (∃ f, (arg31.view.loc (c : Thread nD τ) ↦[arg31.view.set]{fullShare} f) ∗ ⌜f = Nat.rec (motive := fun _ => BufTy.Contents (Elt F) arg31.view.ty) G31 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.2.1) k⌝) ∗ (∃ f, (arg32.view.loc (c : Thread nD τ) ↦[arg32.view.set]{fullShare} f) ∗ ⌜f = Nat.rec (motive := fun _ => BufTy.Contents (Elt F) arg32.view.ty) G32 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.2.2) k⌝))

set_option warn.classDefReducibility false in
/-- Loop 4 by what its trips make of the buffers. -/
@[sl_loop] def loopInv4 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G25 : BufTy.Contents (Elt F) arg25.view.ty) (G26 : BufTy.Contents (Elt F) arg26.view.ty) (G31 : BufTy.Contents (Elt F) arg31.view.ty) (G32 : BufTy.Contents (Elt F) arg32.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 where
  inv := inv4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G39 G40 G41 G42 G25 G26 G31 G32
  step k acc := by
    iintro ⟨H36, H10, H11, H7, H8, H16, H37, H13, H14, ⟨%f39, H39, %h39⟩, ⟨%f40, H40, %h40⟩, ⟨%f41, H41, %h41⟩, ⟨%f42, H42, %h42⟩, ⟨%f25, H25, %h25⟩, ⟨%f26, H26, %h26⟩, ⟨%f31, H31, %h31⟩, ⟨%f32, H32, %h32⟩⟩
    rw [at_zero (k := k.val) (G := G39) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).1) (fun h => by rw [h]; rfl)] at h39
    rw [at_zero (k := k.val) (G := G40) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.1) (fun h => by rw [h]; rfl)] at h40
    rw [at_zero (k := k.val) (G := G41) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.1) (fun h => by rw [h]; rfl)] at h41
    rw [at_zero (k := k.val) (G := G42) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.1) (fun h => by rw [h]; rfl)] at h42
    rw [at_zero (k := k.val) (G := G25) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.1) (fun h => by rw [h]; rfl)] at h25
    rw [at_zero (k := k.val) (G := G26) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.1) (fun h => by rw [h]; rfl)] at h26
    rw [at_zero (k := k.val) (G := G31) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.2.1) (fun h => by rw [h]; rfl)] at h31
    rw [at_zero (k := k.val) (G := G32) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.2.2) (fun h => by rw [h]; rfl)] at h32
    subst h39 h40 h41 h42 h25 h26 h31 h32
    iapply (wp_wand_r Idealize.ShloMosaic.frame (wpE (defs₀ (F := F)) 𝒱 (c : Thread nD τ) bd) E)
    isplitl [H36 H10 H11 H7 H8 H16 H37 H13 H14 H39 H40 H41 H42 H25 H26 H31 H32]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 _ _ _ _ _ _ _ _ k).2.2.2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H25]; · iexact H25
      isplitl [H26]; · iexact H26
      isplitl [H31]; · iexact H31
      iexact H32
    · iintro %_ ⟨H36, H10, H11, H7, H8, H16, H37, H13, H14, H39, H40, H41, H42, H25, H26, H31, H32⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]
      · iexists _; isplitl [H39]; · iexact H39
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).1; rw [st4_succ]; rfl
      isplitl [H40]
      · iexists _; isplitl [H40]; · iexact H40
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.1; rw [st4_succ]; rfl
      isplitl [H41]
      · iexists _; isplitl [H41]; · iexact H41
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.1; rw [st4_succ]; rfl
      isplitl [H42]
      · iexists _; isplitl [H42]; · iexact H42
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.1; rw [st4_succ]; rfl
      isplitl [H25]
      · iexists _; isplitl [H25]; · iexact H25
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.1; rw [st4_succ]; rfl
      isplitl [H26]
      · iexists _; isplitl [H26]; · iexact H26
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.1; rw [st4_succ]; rfl
      isplitl [H31]
      · iexists _; isplitl [H31]; · iexact H31
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.2.1; rw [st4_succ]; rfl
      iexists _; isplitl [H32]; · iexact H32
      ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.2.2; rw [st4_succ]; rfl

end Cert.KernelIdeal.Body

end
-- ==== Proof.Trip5.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 5 holds. -/
abbrev Trip5 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg27 : Memref sig .tc .vmem S1x4608x256 .i8) (arg33 : Memref sig .tc .vmem S1x659x256 .f32) (arg34 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} X39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg27.view.loc (c : Thread nD τ) ↦[arg27.view.set]{fullShare} f27) ∗ (arg33.view.loc (c : Thread nD τ) ↦[arg33.view.set]{fullShare} f33) ∗ (arg34.view.loc (c : Thread nD τ) ↦[arg34.view.set]{fullShare} f34))

/-- One trip of loop 5, run: the pieces it writes into each buffer. -/
@[irreducible] def trip5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) (k : Fin k0_t5_loop.trips) :
    Σ' (L40 : List (View.Piece (Elt F) S2x4608x128 .f32)), Σ' (L41 : List (View.Piece (Elt F) S2x576x128 .f32)), Σ' (L42 : List (View.Piece (Elt F) S2x576x128 .f32)), Σ' (L27 : List (View.Piece (Elt F) S1x4608x256 .i8)), Σ' (L33 : List (View.Piece (Elt F) S1x659x256 .f32)), { L34 : List (View.Piece (Elt F) S1x659x256 .f32) // ∀ (E : Set ℕ),
      Trip5 (F := F) c arg36 arg10 arg11 arg7 arg8 arg16 arg37 arg13 arg14 arg39 arg40 arg41 arg42 arg27 arg33 arg34 X36 X10 X11 X7 X8 X16 X37 X13 X14 X39 f40 f41 f42 f27 f33 f34
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 k PUnit.unit)
          (fun _ => Trip5 (F := F) c arg36 arg10 arg11 arg7 arg8 arg16 arg37 arg13 arg14 arg39 arg40 arg41 arg42 arg27 arg33 arg34 X36 X10 X11 X7 X8 X16 X37 X13 X14 X39 (arg40.view.writes (Elt F) f40 L40) (arg41.view.writes (Elt F) arg41.view.junk L41) (arg42.view.writes (Elt F) arg42.view.junk L42) (arg27.view.writes (Elt F) f27 L27) (arg33.view.writes (Elt F) f33 L33) (arg34.view.writes (Elt F) f34 L34)) } := by
  have hk : k.val < 9 := Nat.lt_of_lt_of_le k.isLt k0_t5_abs.2.1
  refine ⟨?_, ?_, ?_, ?_, ?_, ?_, fun E => ?run⟩
  case run =>
    unfold k0_t5_body
    iintro ⟨H36, H10, H11, H7, H8, H16, H37, H13, H14, H39, H40, H41, H42, H27, H33, H34⟩
    sl_exec
    sl_step
    sl_close

end Cert.KernelIdeal.Body
-- ==== Proof.Loop5.lean ====
module

public import proofs.«01_k».proof.Proof.Trip5
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 5 writes. -/
abbrev St5 (F : FTy → Type) [FloatOps F] (arg40 : Memref sig .tc .vmem S2x4608x128 .f32) (arg41 : Memref sig .tc .vmem S2x576x128 .f32) (arg42 : Memref sig .tc .vmem S2x576x128 .f32) (arg27 : Memref sig .tc .vmem S1x4608x256 .i8) (arg33 : Memref sig .tc .vmem S1x659x256 .f32) (arg34 : Memref sig .tc .vmem S1x659x256 .f32) : Type :=
  BufTy.Contents (Elt F) arg40.view.ty × BufTy.Contents (Elt F) arg41.view.ty × BufTy.Contents (Elt F) arg42.view.ty × BufTy.Contents (Elt F) arg27.view.ty × BufTy.Contents (Elt F) arg33.view.ty × BufTy.Contents (Elt F) arg34.view.ty

/-- What trip `k` of loop 5 makes of them. -/
def next5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (s : St5 F arg40 arg41 arg42 arg27 arg33 arg34) (k : Fin k0_t5_loop.trips) : St5 F arg40 arg41 arg42 arg27 arg33 arg34 :=
  (arg40.view.writes (Elt F) s.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).1,
   arg41.view.writes (Elt F) arg41.view.junk (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.1,
   arg42.view.writes (Elt F) arg42.view.junk (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.1,
   arg27.view.writes (Elt F) s.2.2.2.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.1,
   arg33.view.writes (Elt F) s.2.2.2.2.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.2.1,
   arg34.view.writes (Elt F) s.2.2.2.2.2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.2.2.1)

/-- The contents before trip `k`, from `G` before the first. -/
def st5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G : St5 F arg40 arg41 arg42 arg27 arg33 arg34) : ℕ → St5 F arg40 arg41 arg42 arg27 arg33 arg34
  | 0 => G
  | k + 1 => if h : k < k0_t5_loop.trips then next5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k) ⟨k, h⟩ else st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k

theorem st5_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G : St5 F arg40 arg41 arg42 arg27 arg33 arg34) (k : Fin k0_t5_loop.trips) :
    st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G (k.val + 1) = next5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k.val) k := by
  rw [st5.eq_2]; exact dif_pos k.isLt

/-- What loop 5 holds before trip `k`. -/
abbrev inv5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G40 : BufTy.Contents (Elt F) arg40.view.ty) (G41 : BufTy.Contents (Elt F) arg41.view.ty) (G42 : BufTy.Contents (Elt F) arg42.view.ty) (G27 : BufTy.Contents (Elt F) arg27.view.ty) (G33 : BufTy.Contents (Elt F) arg33.view.ty) (G34 : BufTy.Contents (Elt F) arg34.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} X39) ∗ (∃ f, (arg40.view.loc (c : Thread nD τ) ↦[arg40.view.set]{fullShare} f) ∗ ⌜f = Nat.rec (motive := fun _ => BufTy.Contents (Elt F) arg40.view.ty) G40 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).1) k⌝) ∗ (∃ f, (arg41.view.loc (c : Thread nD τ) ↦[arg41.view.set]{fullShare} f) ∗ ⌜f = Nat.rec (motive := fun _ => BufTy.Contents (Elt F) arg41.view.ty) G41 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.1) k⌝) ∗ (∃ f, (arg42.view.loc (c : Thread nD τ) ↦[arg42.view.set]{fullShare} f) ∗ ⌜f = Nat.rec (motive := fun _ => BufTy.Contents (Elt F) arg42.view.ty) G42 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.1) k⌝) ∗ (∃ f, (arg27.view.loc (c : Thread nD τ) ↦[arg27.view.set]{fullShare} f) ∗ ⌜f = Nat.rec (motive := fun _ => BufTy.Contents (Elt F) arg27.view.ty) G27 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.1) k⌝) ∗ (∃ f, (arg33.view.loc (c : Thread nD τ) ↦[arg33.view.set]{fullShare} f) ∗ ⌜f = Nat.rec (motive := fun _ => BufTy.Contents (Elt F) arg33.view.ty) G33 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.2.1) k⌝) ∗ (∃ f, (arg34.view.loc (c : Thread nD τ) ↦[arg34.view.set]{fullShare} f) ∗ ⌜f = Nat.rec (motive := fun _ => BufTy.Contents (Elt F) arg34.view.ty) G34 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.2.2) k⌝))

set_option warn.classDefReducibility false in
/-- Loop 5 by what its trips make of the buffers. -/
@[sl_loop] def loopInv5 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G40 : BufTy.Contents (Elt F) arg40.view.ty) (G41 : BufTy.Contents (Elt F) arg41.view.ty) (G42 : BufTy.Contents (Elt F) arg42.view.ty) (G27 : BufTy.Contents (Elt F) arg27.view.ty) (G33 : BufTy.Contents (Elt F) arg33.view.ty) (G34 : BufTy.Contents (Elt F) arg34.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 where
  inv := inv5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G40 G41 G42 G27 G33 G34
  step k acc := by
    iintro ⟨H36, H10, H11, H7, H8, H16, H37, H13, H14, H39, ⟨%f40, H40, %h40⟩, ⟨%f41, H41, %h41⟩, ⟨%f42, H42, %h42⟩, ⟨%f27, H27, %h27⟩, ⟨%f33, H33, %h33⟩, ⟨%f34, H34, %h34⟩⟩
    rw [at_zero (k := k.val) (G := G40) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).1) (fun h => by rw [h]; rfl)] at h40
    rw [at_zero (k := k.val) (G := G41) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.1) (fun h => by rw [h]; rfl)] at h41
    rw [at_zero (k := k.val) (G := G42) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.1) (fun h => by rw [h]; rfl)] at h42
    rw [at_zero (k := k.val) (G := G27) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.1) (fun h => by rw [h]; rfl)] at h27
    rw [at_zero (k := k.val) (G := G33) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.2.1) (fun h => by rw [h]; rfl)] at h33
    rw [at_zero (k := k.val) (G := G34) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.2.2) (fun h => by rw [h]; rfl)] at h34
    subst h40 h41 h42 h27 h33 h34
    iapply (wp_wand_r Idealize.ShloMosaic.frame (wpE (defs₀ (F := F)) 𝒱 (c : Thread nD τ) bd) E)
    isplitl [H36 H10 H11 H7 H8 H16 H37 H13 H14 H39 H40 H41 H42 H27 H33 H34]
    · iapply ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 _ _ _ _ _ _ k).2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H27]; · iexact H27
      isplitl [H33]; · iexact H33
      iexact H34
    · iintro %_ ⟨H36, H10, H11, H7, H8, H16, H37, H13, H14, H39, H40, H41, H42, H27, H33, H34⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]
      · iexists _; isplitl [H40]; · iexact H40
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).1; rw [st5_succ]; rfl
      isplitl [H41]
      · iexists _; isplitl [H41]; · iexact H41
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.1; rw [st5_succ]; rfl
      isplitl [H42]
      · iexists _; isplitl [H42]; · iexact H42
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.1; rw [st5_succ]; rfl
      isplitl [H27]
      · iexists _; isplitl [H27]; · iexact H27
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.1; rw [st5_succ]; rfl
      isplitl [H33]
      · iexists _; isplitl [H33]; · iexact H33
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.2.1; rw [st5_succ]; rfl
      iexists _; isplitl [H34]; · iexact H34
      ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.2.2; rw [st5_succ]; rfl

end Cert.KernelIdeal.Body

end
-- ==== Proof.Run.lean ====
module

public import proofs.«01_k».proof.Proof.Loop2
public import proofs.«01_k».proof.Proof.Loop3
public import proofs.«01_k».proof.Proof.Loop4
public import proofs.«01_k».proof.Proof.Loop5
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem kernelRun (𝒱 : Variants) (c : Dev nD) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (x1 : S1x1152x512.Idx → Elt F .bf16) (x2 : S1x512.Idx → Elt F .f32) (x3 : S1x512.Idx → Elt F .f32) (x4 : S8x512x256.Idx → Elt F .i8) (x5 : S1x256.Idx → Elt F .f32) (x6 : S1x256.Idx → Elt F .f32) (x7 : S6x256.Idx → Elt F .f32) (x8 : S6x256.Idx → Elt F .f32) (x9 : S3x7x256x256.Idx → Elt F .i8) (x10 : S3x256.Idx → Elt F .f32) (x11 : S3x256.Idx → Elt F .f32) (x12 : S3x256x256.Idx → Elt F .i8) (x13 : S3x256.Idx → Elt F .f32) (x14 : S3x256.Idx → Elt F .f32) (x15 : S1x1.Idx → Elt F .f32) (x16 : S3x2.Idx → Elt F .f32) (x17 : S1x1.Idx → Elt F .f32) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
      ⊢ wp frame (wpE (defs₀ (F := F)) 𝒱 c none) Set.univ (cc0_oobleck_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_oobleck_block_eq_skeleton]; unfold cc0_oobleck_block_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, Hk⟩
  by_cases hc : Scalar.cmpi .ne (Scalar.extui (Scalar.cmpi .eq (BitVec.ofNat 32 (i 0).val) 0#32)) 0#32 = 1#1
  all_goals
    sl_exec
    sl_step
    iapply Hk
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; exact h16
    isplitl [H17]
    · iexists _; isplitr; swap; · iexact H17
      ipureintro; exact h17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [H36]
    · iexists _, _; isplitr; swap; · iexact H36
      ipureintro; rfl
    isplitl [H37]
    · iexists _, _; isplitr; swap; · iexact H37
      ipureintro; rfl
    isplitl [H38]
    · iexists _, _; isplitr; swap; · iexact H38
      ipureintro; rfl
    isplitl [H39]
    · iexists _, _; isplitr; swap; · iexact H39
      ipureintro; rfl
    isplitl [H40]
    · iexists _, _; isplitr; swap; · iexact H40
      ipureintro; rfl
    isplitl [H41]
    · iexists _, _; isplitr; swap; · iexact H41
      ipureintro; rfl
    iexists _, _; isplitr; swap; · iexact H42
    ipureintro; rfl

end Cert.KernelIdeal.Body

end
-- ==== Proof.Body.lean ====
module

public import proofs.«01_k».proof.Proof.Run
public import proofs.«01_k».proof.Proof.Gen.KernelIdeal.Frame
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The windows of which nothing is said after the run: the results. -/
def forgets : Fin 34 → Bool := fun w => decide (17 ≤ w.val)

/-- The proof data on core `c`: each argument's block stays as fetched, the results are unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => iblk m c 14 t
    | 15 => iblk m c 15 t
    | 16 => iblk m c 16 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; rfl
theorem after_1 (c : Dev nD) (t : Fin cfg0.N) : (dats m 0 c).after 1 t = iblk m c 1 t := by dsimp only [dats]; rfl
theorem after_2 (c : Dev nD) (t : Fin cfg0.N) : (dats m 0 c).after 2 t = iblk m c 2 t := by dsimp only [dats]; rfl
theorem after_3 (c : Dev nD) (t : Fin cfg0.N) : (dats m 0 c).after 3 t = iblk m c 3 t := by dsimp only [dats]; rfl
theorem after_4 (c : Dev nD) (t : Fin cfg0.N) : (dats m 0 c).after 4 t = iblk m c 4 t := by dsimp only [dats]; rfl
theorem after_5 (c : Dev nD) (t : Fin cfg0.N) : (dats m 0 c).after 5 t = iblk m c 5 t := by dsimp only [dats]; rfl
theorem after_6 (c : Dev nD) (t : Fin cfg0.N) : (dats m 0 c).after 6 t = iblk m c 6 t := by dsimp only [dats]; rfl
theorem after_7 (c : Dev nD) (t : Fin cfg0.N) : (dats m 0 c).after 7 t = iblk m c 7 t := by dsimp only [dats]; rfl
theorem after_8 (c : Dev nD) (t : Fin cfg0.N) : (dats m 0 c).after 8 t = iblk m c 8 t := by dsimp only [dats]; rfl
theorem after_9 (c : Dev nD) (t : Fin cfg0.N) : (dats m 0 c).after 9 t = iblk m c 9 t := by dsimp only [dats]; rfl
theorem after_10 (c : Dev nD) (t : Fin cfg0.N) : (dats m 0 c).after 10 t = iblk m c 10 t := by dsimp only [dats]; rfl
theorem after_11 (c : Dev nD) (t : Fin cfg0.N) : (dats m 0 c).after 11 t = iblk m c 11 t := by dsimp only [dats]; rfl
theorem after_12 (c : Dev nD) (t : Fin cfg0.N) : (dats m 0 c).after 12 t = iblk m c 12 t := by dsimp only [dats]; rfl
theorem after_13 (c : Dev nD) (t : Fin cfg0.N) : (dats m 0 c).after 13 t = iblk m c 13 t := by dsimp only [dats]; rfl
theorem after_14 (c : Dev nD) (t : Fin cfg0.N) : (dats m 0 c).after 14 t = iblk m c 14 t := by dsimp only [dats]; rfl
theorem after_15 (c : Dev nD) (t : Fin cfg0.N) : (dats m 0 c).after 15 t = iblk m c 15 t := by dsimp only [dats]; rfl
theorem after_16 (c : Dev nD) (t : Fin cfg0.N) : (dats m 0 c).after 16 t = iblk m c 16 t := by dsimp only [dats]; rfl

/-- What the body is called with at point `t`. -/
def bodyPre (c : Dev nD) (t : Fin cfg0.N) : sProp 𝕄G :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d) ∗ (∃ d, owns (c : Thread nD τ) ((cfg0.win 24).stage (cfg0.slots t 24)) fullShare d) ∗ (∃ d, owns (c : Thread nD τ) ((cfg0.win 25).stage (cfg0.slots t 25)) fullShare d) ∗ (∃ d, owns (c : Thread nD τ) ((cfg0.win 26).stage (cfg0.slots t 26)) fullShare d) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

/-- What the body returns at point `t`. -/
def bodyPost (c : Dev nD) (t : Fin cfg0.N) : sProp 𝕄G :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ owns (c : Thread nD τ) ((cfg0.win 8).stage (cfg0.slots t 8)) fullShare ((dats m 0 c).after 8 t) ∗ owns (c : Thread nD τ) ((cfg0.win 9).stage (cfg0.slots t 9)) fullShare ((dats m 0 c).after 9 t) ∗ owns (c : Thread nD τ) ((cfg0.win 10).stage (cfg0.slots t 10)) fullShare ((dats m 0 c).after 10 t) ∗ owns (c : Thread nD τ) ((cfg0.win 11).stage (cfg0.slots t 11)) fullShare ((dats m 0 c).after 11 t) ∗ owns (c : Thread nD τ) ((cfg0.win 12).stage (cfg0.slots t 12)) fullShare ((dats m 0 c).after 12 t) ∗ owns (c : Thread nD τ) ((cfg0.win 13).stage (cfg0.slots t 13)) fullShare ((dats m 0 c).after 13 t) ∗ owns (c : Thread nD τ) ((cfg0.win 14).stage (cfg0.slots t 14)) fullShare ((dats m 0 c).after 14 t) ∗ owns (c : Thread nD τ) ((cfg0.win 15).stage (cfg0.slots t 15)) fullShare ((dats m 0 c).after 15 t) ∗ owns (c : Thread nD τ) ((cfg0.win 16).stage (cfg0.slots t 16)) fullShare ((dats m 0 c).after 16 t) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d) ∗ (∃ d, owns (c : Thread nD τ) ((cfg0.win 24).stage (cfg0.slots t 24)) fullShare d) ∗ (∃ d, owns (c : Thread nD τ) ((cfg0.win 25).stage (cfg0.slots t 25)) fullShare d) ∗ (∃ d, owns (c : Thread nD τ) ((cfg0.win 26).stage (cfg0.slots t 26)) fullShare d) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

theorem scratch_owns (c : Dev nD) :
    (Pipeline.scopedRest (Ix := Unit) (Name := ℕ) (U := UR sig nD τ) (Lvl := ℕ) (Val := Elt F) spec0 c : sProp 𝕄G)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) := by
  rw [scopedRest0_eq]; simp only [owns_whole]

/-- The body at a point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scratch_owns]
  simp only [before0_0_of m (dats m 0 c) (A_eq m c 0) (after_0 m c) t, after_0, before0_1_of m (dats m 0 c) (A_eq m c 1) (after_1 m c) t, after_1, before0_2_of m (dats m 0 c) (A_eq m c 2) (after_2 m c) t, after_2, before0_3_of m (dats m 0 c) (A_eq m c 3) (after_3 m c) t, after_3, before0_4_of m (dats m 0 c) (A_eq m c 4) (after_4 m c) t, after_4, before0_5_of m (dats m 0 c) (A_eq m c 5) (after_5 m c) t, after_5, before0_6_of m (dats m 0 c) (A_eq m c 6) (after_6 m c) t, after_6, before0_7_of m (dats m 0 c) (A_eq m c 7) (after_7 m c) t, after_7, before0_8_of m (dats m 0 c) (A_eq m c 8) (after_8 m c) t, after_8, before0_9_of m (dats m 0 c) (A_eq m c 9) (after_9 m c) t, after_9, before0_10_of m (dats m 0 c) (A_eq m c 10) (after_10 m c) t, after_10, before0_11_of m (dats m 0 c) (A_eq m c 11) (after_11 m c) t, after_11, before0_12_of m (dats m 0 c) (A_eq m c 12) (after_12 m c) t, after_12, before0_13_of m (dats m 0 c) (A_eq m c 13) (after_13 m c) t, after_13, before0_14_of m (dats m 0 c) (A_eq m c 14) (after_14 m c) t, after_14, before0_15_of m (dats m 0 c) (A_eq m c 15) (after_15 m c) t, after_15, before0_16_of m (dats m 0 c) (A_eq m c 16) (after_16 m c) t, after_16]
  iintro ⟨⟨⟨S0, S1, S2, S3, S4, S5, S6, S7⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (kernelRun Variants.none c (grid0.coords t)  (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  isplitl [H32]
  · iexists _; iexact H32
  isplitl [H33]
  · iexists _; iexact H33
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  iintro ⟨H0, H1, H2, H3, H4, H5, H6, H7, H8, H9, H10, H11, H12, H13, H14, H15, H16, H17, H18, H19, H20, H21, H22, H23, H24, H25, H26, H27, H28, H29, H30, H31, H32, H33, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, the results forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole run: it terminates, every argument array is as found and every counter ends at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run leaves the arguments unchanged and the counters at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ h => ⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 3 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (Pipeline.RDat.FramePost.arr_in h.1 c 15 rfl).trans (V_main_arg9 m c),
      (Pipeline.RDat.FramePost.arr_in h.1 c 8 rfl).trans (V_main_arg10 m c),
      (Pipeline.RDat.FramePost.arr_in h.1 c 9 rfl).trans (V_main_arg11 m c),
      (Pipeline.RDat.FramePost.arr_in h.1 c 10 rfl).trans (V_main_arg12 m c),
      (Pipeline.RDat.FramePost.arr_in h.1 c 11 rfl).trans (V_main_arg13 m c),
      (Pipeline.RDat.FramePost.arr_in h.1 c 12 rfl).trans (V_main_arg14 m c),
      (Pipeline.RDat.FramePost.arr_in h.1 c 13 rfl).trans (V_main_arg15 m c),
      ((h.1 c).2 main_arg16 (Pipeline.mem_restRefs_of main_arg16 (by decide) (by decide))).trans (V_main_arg16 m c)⟩, h.2⟩) (run_main m ρ)

end Cert.KernelIdeal.Body

end
-- ==== Proof.ExactTrip2.lean ====
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 2 holds. -/
abbrev Trip2 (c : Dev nD) (arg38 : Memref sig .tc .vmem S4x1168x128 .f32) (arg35 : Memref sig .tc .vmem S8x512x256 .bf16) (arg5 : Memref sig .tc .vmem S1x256 .f32) (arg6 : Memref sig .tc .vmem S1x256 .f32) (arg7 : Memref sig .tc .vmem S6x256 .f32) (arg8 : Memref sig .tc .vmem S6x256 .f32) (arg16 : Memref sig .tc .smem S3x2 .f32) (arg41 : Memref sig .tc .vmem S2x576x128 .f32) (arg40 : Memref sig .tc .vmem S2x4608x128 .f32) (arg22 : Memref sig .tc .vmem S1x4608x256 .i8) (arg39 : Memref sig .tc .vmem S2x2x4672x128 .f32) (arg28 : Memref sig .tc .vmem S1x659x256 .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) : sProp 𝕄G :=
  iprop((arg38.view.loc (c : Thread nD τ) ↦[arg38.view.set]{fullShare} X38) ∗ (arg35.view.loc (c : Thread nD τ) ↦[arg35.view.set]{fullShare} X35) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg41.view.loc (c : Thread nD τ) ↦[arg41.view.set]{fullShare} f41) ∗ (arg40.view.loc (c : Thread nD τ) ↦[arg40.view.set]{fullShare} f40) ∗ (arg22.view.loc (c : Thread nD τ) ↦[arg22.view.set]{fullShare} f22) ∗ (arg39.view.loc (c : Thread nD τ) ↦[arg39.view.set]{fullShare} f39) ∗ (arg28.view.loc (c : Thread nD τ) ↦[arg28.view.set]{fullShare} f28))

/-- One trip of loop 2, run: the pieces it writes into each buffer. -/
@[irreducible] def trip2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    Σ' (L41 : List (View.Piece (Elt F) S2x576x128 .f32)), Σ' (L40 : List (View.Piece (Elt F) S2x4608x128 .f32)), Σ' (L22 : List (View.Piece (Elt F) S1x4608x256 .i8)), Σ' (L39 : List (View.Piece (Elt F) S2x2x4672x128 .f32)), { L28 : List (View.Piece (Elt F) S1x659x256 .f32) // ∀ (E : Set ℕ),
      Trip2 (F := F) c arg38 arg35 arg5 arg6 arg7 arg8 arg16 arg41 arg40 arg22 arg39 arg28 X38 X35 X5 X6 X7 X8 X16 f41 f40 f22 f39 f28
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 k PUnit.unit)
          (fun _ => Trip2 (F := F) c arg38 arg35 arg5 arg6 arg7 arg8 arg16 arg41 arg40 arg22 arg39 arg28 X38 X35 X5 X6 X7 X8 X16 (arg41.view.writes (Elt F) f41 L41) (arg40.view.writes (Elt F) f40 L40) (arg22.view.writes (Elt F) f22 L22) (arg39.view.writes (Elt F) f39 L39) (arg28.view.writes (Elt F) f28 L28)) } := by
  have hk : k.val < 9 := Nat.lt_of_lt_of_le k.isLt k0_t2_abs.2.1
  refine ⟨?_, ?_, ?_, ?_, ?_, fun E => ?run⟩
  case run =>
    unfold k0_t2_body
    iintro ⟨H38, H35, H5, H6, H7, H8, H16, H41, H40, H22, H39, H28⟩
    sl_exec
    sl_step
    sl_close

end Cert.Kernel.Body
-- ==== Proof.ExactLoop2.lean ====
module

public import proofs.«01_k».proof.Proof.ExactTrip2
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 2 writes. -/
abbrev St2 (F : FTy → Type) [FloatOps F] (arg41 : Memref sig .tc .vmem S2x576x128 .f32) (arg40 : Memref sig .tc .vmem S2x4608x128 .f32) (arg22 : Memref sig .tc .vmem S1x4608x256 .i8) (arg39 : Memref sig .tc .vmem S2x2x4672x128 .f32) (arg28 : Memref sig .tc .vmem S1x659x256 .f32) : Type :=
  BufTy.Contents (Elt F) arg41.view.ty × BufTy.Contents (Elt F) arg40.view.ty × BufTy.Contents (Elt F) arg22.view.ty × BufTy.Contents (Elt F) arg39.view.ty × BufTy.Contents (Elt F) arg28.view.ty

/-- What trip `k` of loop 2 makes of them. -/
def next2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (s : St2 F arg41 arg40 arg22 arg39 arg28) (k : Fin k0_t2_loop.trips) : St2 F arg41 arg40 arg22 arg39 arg28 :=
  (arg41.view.writes (Elt F) s.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).1,
   arg40.view.writes (Elt F) s.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.1,
   arg22.view.writes (Elt F) s.2.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.1,
   arg39.view.writes (Elt F) s.2.2.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.2.1,
   arg28.view.writes (Elt F) s.2.2.2.2 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.2.2.1)

/-- The contents before trip `k`, from `G` before the first. -/
def st2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G : St2 F arg41 arg40 arg22 arg39 arg28) : ℕ → St2 F arg41 arg40 arg22 arg39 arg28
  | 0 => G
  | k + 1 => if h : k < k0_t2_loop.trips then next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k) ⟨k, h⟩ else st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k

theorem st2_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G : St2 F arg41 arg40 arg22 arg39 arg28) (k : Fin k0_t2_loop.trips) :
    st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G (k.val + 1) = next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G k.val) k := by
  rw [st2.eq_2]; exact dif_pos k.isLt

/-- What loop 2 holds before trip `k`. -/
abbrev inv2 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G41 : BufTy.Contents (Elt F) arg41.view.ty) (G40 : BufTy.Contents (Elt F) arg40.view.ty) (G22 : BufTy.Contents (Elt F) arg22.view.ty) (G39 : BufTy.Contents (Elt F) arg39.view.ty) (G28 : BufTy.Contents (Elt F) arg28.view.ty) (k : ℕ) (_ : Unit) : sProp 𝕄G :=
  iprop((arg38.view.loc (c : Thread nD τ) ↦[arg38.view.set]{fullShare} X38) ∗ (arg35.view.loc (c : Thread nD τ) ↦[arg35.view.set]{fullShare} X35) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (∃ f, (arg41.view.loc (c : Thread nD τ) ↦[arg41.view.set]{fullShare} f) ∗ ⌜f = Nat.rec (motive := fun _ => BufTy.Contents (Elt F) arg41.view.ty) G41 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).1) k⌝) ∗ (∃ f, (arg40.view.loc (c : Thread nD τ) ↦[arg40.view.set]{fullShare} f) ∗ ⌜f = Nat.rec (motive := fun _ => BufTy.Contents (Elt F) arg40.view.ty) G40 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.1) k⌝) ∗ (∃ f, (arg22.view.loc (c : Thread nD τ) ↦[arg22.view.set]{fullShare} f) ∗ ⌜f = Nat.rec (motive := fun _ => BufTy.Contents (Elt F) arg22.view.ty) G22 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.1) k⌝) ∗ (∃ f, (arg39.view.loc (c : Thread nD τ) ↦[arg39.view.set]{fullShare} f) ∗ ⌜f = Nat.rec (motive := fun _ => BufTy.Contents (Elt F) arg39.view.ty) G39 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.2.1) k⌝) ∗ (∃ f, (arg28.view.loc (c : Thread nD τ) ↦[arg28.view.set]{fullShare} f) ∗ ⌜f = Nat.rec (motive := fun _ => BufTy.Contents (Elt F) arg28.view.ty) G28 (fun _ _ => (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k).2.2.2.2) k⌝))

set_option warn.classDefReducibility false in
/-- Loop 2 by what its trips make of the buffers. -/
@[sl_loop] def loopInv2 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (G41 : BufTy.Contents (Elt F) arg41.view.ty) (G40 : BufTy.Contents (Elt F) arg40.view.ty) (G22 : BufTy.Contents (Elt F) arg22.view.ty) (G39 : BufTy.Contents (Elt F) arg39.view.ty) (G28 : BufTy.Contents (Elt F) arg28.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 where
  inv := inv2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G41 G40 G22 G39 G28
  step k acc := by
    iintro ⟨H38, H35, H5, H6, H7, H8, H16, ⟨%f41, H41, %h41⟩, ⟨%f40, H40, %h40⟩, ⟨%f22, H22, %h22⟩, ⟨%f39, H39, %h39⟩, ⟨%f28, H28, %h28⟩⟩
    rw [at_zero (k := k.val) (G := G41) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).1) (fun h => by rw [h]; rfl)] at h41
    rw [at_zero (k := k.val) (G := G40) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.1) (fun h => by rw [h]; rfl)] at h40
    rw [at_zero (k := k.val) (G := G22) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.1) (fun h => by rw [h]; rfl)] at h22
    rw [at_zero (k := k.val) (G := G39) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.2.1) (fun h => by rw [h]; rfl)] at h39
    rw [at_zero (k := k.val) (G := G28) (x := (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) k.val).2.2.2.2) (fun h => by rw [h]; rfl)] at h28
    subst h41 h40 h22 h39 h28
    iapply (wp_wand_r Idealize.ShloMosaic.frame (wpE (defs₀ (F := F)) 𝒱 (c : Thread nD τ) bd) E)
    isplitl [H38 H35 H5 H6 H7 H8 H16 H41 H40 H22 H39 H28]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 _ _ _ _ _ k).2.2.2.2.2 E)
      isplitl [H38]; · iexact H38
      isplitl [H35]; · iexact H35
      isplitl [H5]; · iexact H5
      isplitl [H6]; · iexact H6
      isplitl [H7]; · iexact H7
      isplitl [H8]; · iexact H8
      isplitl [H16]; · iexact H16
      isplitl [H41]; · iexact H41
      isplitl [H40]; · iexact H40
      isplitl [H22]; · iexact H22
      isplitl [H39]; · iexact H39
      iexact H28
    · iintro %_ ⟨H38, H35, H5, H6, H7, H8, H16, H41, H40, H22, H39, H28⟩
      isplitl [H38]; · iexact H38
      isplitl [H35]; · iexact H35
      isplitl [H5]; · iexact H5
      isplitl [H6]; · iexact H6
      isplitl [H7]; · iexact H7
      isplitl [H8]; · iexact H8
      isplitl [H16]; · iexact H16
      isplitl [H41]
      · iexists _; isplitl [H41]; · iexact H41
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).1; rw [st2_succ]; rfl
      isplitl [H40]
      · iexists _; isplitl [H40]; · iexact H40
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.1; rw [st2_succ]; rfl
      isplitl [H22]
      · iexists _; isplitl [H22]; · iexact H22
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.1; rw [st2_succ]; rfl
      isplitl [H39]
      · iexists _; isplitl [H39]; · iexact H39
        ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.2.1; rw [st2_succ]; rfl
      iexists _; isplitl [H28]; · iexact H28
      ipureintro; show _ = (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (k.val + 1)).2.2.2.2; rw [st2_succ]; rfl

end Cert.Kernel.Body

end
-- ==== Proof.ExactTrip3.lean ====
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 3 holds. -/
abbrev Trip3 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg23 : Memref sig .tc .vmem S1x4608x256 .i8) (arg24 : Memref sig .tc .vmem S1x4608x256 .i8) (arg29 : Memref sig .tc .vmem S1x659x256 .f32) (arg30 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg23.view.loc (c : Thread nD τ) ↦[arg23.view.set]{fullShare} f23) ∗ (arg24.view.loc (c : Thread nD τ) ↦[arg24.view.set]{fullShare} f24) ∗ (arg29.view.loc (c : Thread nD τ) ↦[arg29.view.set]{fullShare} f29) ∗ (arg30.view.loc (c : Thread nD τ) ↦[arg30.view.set]{fullShare} f30))

/-- One trip of loop 3, run: the pieces it writes into each buffer. -/
@[irreducible] def trip3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    Σ' (L39 : List (View.Piece (Elt F) S2x2x4672x128 .f32)), Σ' (L40 : List (View.Piece (Elt F) S2x4608x128 .f32)), Σ' (L41 : List (View.Piece (Elt F) S2x576x128 .f32)), Σ' (L42 : List (View.Piece (Elt F) S2x576x128 .f32)), Σ' (L23 : List (View.Piece (Elt F) S1x4608x256 .i8)), Σ' (L24 : List (View.Piece (Elt F) S1x4608x256 .i8)), Σ' (L29 : List (View.Piece (Elt F) S1x659x256 .f32)), { L30 : List (View.Piece (Elt F) S1x659x256 .f32) // ∀ (E : Set ℕ),
      Trip3 (F := F) c arg36 arg10 arg11 arg7 arg8 arg16 arg37 arg13 arg14 arg39 arg40 arg41 arg42 arg23 arg24 arg29 arg30 X36 X10 X11 X7 X8 X16 X37 X13 X14 f39 f40 f41 f42 f23 f24 f29 f30
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 k PUnit.unit)
          (fun _ => Trip3 (F := F) c arg36 arg10 arg11 arg7 arg8 arg16 arg37 arg13 arg14 arg39 arg40 arg41 arg42 arg23 arg24 arg29 arg30 X36 X10 X11 X7 X8 X16 X37 X13 X14 (arg39.view.writes (Elt F) f39 L39) (arg40.view.writes (Elt F) f40 L40) (arg41.view.writes (Elt F) arg41.view.junk L41) (arg42.view.writes (Elt F) arg42.view.junk L42) (arg23.view.writes (Elt F) f23 L23) (arg24.view.writes (Elt F) f24 L24) (arg29.view.writes (Elt F) f29 L29) (arg30.view.writes (Elt F) f30 L30)) } := by
  have hk : k.val < 9 := Nat.lt_of_lt_of_le k.isLt k0_t3_abs.2.1
  refine ⟨?_, ?_, ?_, ?_, ?_, ?_, ?_, ?_, fun E => ?run⟩
  case run =>
    unfold k0_t3_body
    iintro ⟨H36, H10, H11, H7, H8, H16, H37, H13, H14, H39, H40, H41, H42, H23, H24, H29, H30⟩
    sl_exec
    sl_step
    sl_close

end Cert.Kernel.Body
-- ==== Proof.ExactLoop3.lean ====
module

public import proofs.«01_k».proof.Proof.ExactTrip3
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 3 writes. -/
abbrev St3 (F : FTy → Type) [FloatOps F] (arg39 : Memref sig .tc .vmem S2x2x4672x128 .f32) (arg40 : Memref sig .tc .vmem S2x4608x128 .f32) (arg41 : Memref sig .tc .vmem S2x576x128 .f32) (arg42 : Memref sig .tc .vmem S2x576x128 .f32) (arg23 : Memref sig .tc .vmem S1x4608x256 .i8) (arg24 : Memref sig .tc .vmem S1x4608x256 .i8) (arg29 : Memref sig .tc .vmem S1x659x256 .f32) (arg30 : Memref sig .tc .vmem S1x659x256 .f32) : Type :=
  BufTy.Contents (Elt F) arg39.view.ty × BufTy.Contents (Elt F) arg40.view.ty × BufTy.Contents (Elt F) arg41.view.ty × BufTy.Contents (Elt F) arg42.view.ty × BufTy.Contents (Elt F) arg23.view.ty × BufTy.Contents (Elt F) arg24.view.ty × BufTy.Contents (Elt F) arg29.view.ty × BufTy.Contents (Elt F) arg30.view.ty

/-- What trip `k` of loop 3 makes of them. -/
def next3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (s : St3 F arg39 arg40 arg41 arg42 arg23 arg24 arg29 arg30) (k : Fin k0_t3_loop.trips) : St3 F arg39 arg40 arg41 arg42 arg23 arg24 arg29 arg30 :=
  (arg39.view.writes (Elt F) s.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).1,
   arg40.view.writes (Elt F) s.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.1,
   arg41.view.writes (Elt F) arg41.view.junk (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.1,
   arg42.view.writes (Elt F) arg42.view.junk (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.1,
   arg23.view.writes (Elt F) s.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1,
   arg24.view.writes (Elt F) s.2.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1,
   arg29.view.writes (Elt F) s.2.2.2.2.2.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.1,
   arg30.view.writes (Elt F) s.2.2.2.2.2.2.2 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.2.1)

/-- The contents before trip `k`, from `G` before the first. -/
def st3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St3 F arg39 arg40 arg41 arg42 arg23 arg24 arg29 arg30) : ℕ → St3 F arg39 arg40 arg41 arg42 arg23 arg24 arg29 arg30
  | 0 => G
  | k + 1 => if h : k < k0_t3_loop.trips then next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k) ⟨k, h⟩ else st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k

theorem st3_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St3 F arg39 arg40 arg41 arg42 arg23 arg24 arg29 arg30) (k : Fin k0_t3_loop.trips) :
    st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G (k.val + 1) = next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G k.val) k := by
  rw [st3.eq_2]; exact dif_pos k.isLt

/-- What loop 3 holds before trip `k`. -/
abbrev inv3 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G23 : BufTy.Contents (Elt F) arg23.view.ty) (G24 : BufTy.Contents (Elt F) arg24.view.ty) (G29 : BufTy.Contents (Elt F) arg29.view.ty) (G30 : BufTy.Contents (Elt F) arg30.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (∃ f, (arg39.view.loc (c : Thread nD τ) ↦[arg39.view.set]{fullShare} f) ∗ ⌜f = Nat.rec (motive := fun _ => BufTy.Contents (Elt F) arg39.view.ty) G39 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).1) k⌝) ∗ (∃ f, (arg40.view.loc (c : Thread nD τ) ↦[arg40.view.set]{fullShare} f) ∗ ⌜f = Nat.rec (motive := fun _ => BufTy.Contents (Elt F) arg40.view.ty) G40 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.1) k⌝) ∗ (∃ f, (arg41.view.loc (c : Thread nD τ) ↦[arg41.view.set]{fullShare} f) ∗ ⌜f = Nat.rec (motive := fun _ => BufTy.Contents (Elt F) arg41.view.ty) G41 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.1) k⌝) ∗ (∃ f, (arg42.view.loc (c : Thread nD τ) ↦[arg42.view.set]{fullShare} f) ∗ ⌜f = Nat.rec (motive := fun _ => BufTy.Contents (Elt F) arg42.view.ty) G42 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.1) k⌝) ∗ (∃ f, (arg23.view.loc (c : Thread nD τ) ↦[arg23.view.set]{fullShare} f) ∗ ⌜f = Nat.rec (motive := fun _ => BufTy.Contents (Elt F) arg23.view.ty) G23 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.1) k⌝) ∗ (∃ f, (arg24.view.loc (c : Thread nD τ) ↦[arg24.view.set]{fullShare} f) ∗ ⌜f = Nat.rec (motive := fun _ => BufTy.Contents (Elt F) arg24.view.ty) G24 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.1) k⌝) ∗ (∃ f, (arg29.view.loc (c : Thread nD τ) ↦[arg29.view.set]{fullShare} f) ∗ ⌜f = Nat.rec (motive := fun _ => BufTy.Contents (Elt F) arg29.view.ty) G29 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.2.1) k⌝) ∗ (∃ f, (arg30.view.loc (c : Thread nD τ) ↦[arg30.view.set]{fullShare} f) ∗ ⌜f = Nat.rec (motive := fun _ => BufTy.Contents (Elt F) arg30.view.ty) G30 (fun _ _ => (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k).2.2.2.2.2.2.2) k⌝))

set_option warn.classDefReducibility false in
/-- Loop 3 by what its trips make of the buffers. -/
@[sl_loop] def loopInv3 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G23 : BufTy.Contents (Elt F) arg23.view.ty) (G24 : BufTy.Contents (Elt F) arg24.view.ty) (G29 : BufTy.Contents (Elt F) arg29.view.ty) (G30 : BufTy.Contents (Elt F) arg30.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 where
  inv := inv3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G39 G40 G41 G42 G23 G24 G29 G30
  step k acc := by
    iintro ⟨H36, H10, H11, H7, H8, H16, H37, H13, H14, ⟨%f39, H39, %h39⟩, ⟨%f40, H40, %h40⟩, ⟨%f41, H41, %h41⟩, ⟨%f42, H42, %h42⟩, ⟨%f23, H23, %h23⟩, ⟨%f24, H24, %h24⟩, ⟨%f29, H29, %h29⟩, ⟨%f30, H30, %h30⟩⟩
    rw [at_zero (k := k.val) (G := G39) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).1) (fun h => by rw [h]; rfl)] at h39
    rw [at_zero (k := k.val) (G := G40) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.1) (fun h => by rw [h]; rfl)] at h40
    rw [at_zero (k := k.val) (G := G41) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.1) (fun h => by rw [h]; rfl)] at h41
    rw [at_zero (k := k.val) (G := G42) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.1) (fun h => by rw [h]; rfl)] at h42
    rw [at_zero (k := k.val) (G := G23) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.1) (fun h => by rw [h]; rfl)] at h23
    rw [at_zero (k := k.val) (G := G24) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.1) (fun h => by rw [h]; rfl)] at h24
    rw [at_zero (k := k.val) (G := G29) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.2.1) (fun h => by rw [h]; rfl)] at h29
    rw [at_zero (k := k.val) (G := G30) (x := (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) k.val).2.2.2.2.2.2.2) (fun h => by rw [h]; rfl)] at h30
    subst h39 h40 h41 h42 h23 h24 h29 h30
    iapply (wp_wand_r Idealize.ShloMosaic.frame (wpE (defs₀ (F := F)) 𝒱 (c : Thread nD τ) bd) E)
    isplitl [H36 H10 H11 H7 H8 H16 H37 H13 H14 H39 H40 H41 H42 H23 H24 H29 H30]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 _ _ _ _ _ _ _ _ k).2.2.2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H23]; · iexact H23
      isplitl [H24]; · iexact H24
      isplitl [H29]; · iexact H29
      iexact H30
    · iintro %_ ⟨H36, H10, H11, H7, H8, H16, H37, H13, H14, H39, H40, H41, H42, H23, H24, H29, H30⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]
      · iexists _; isplitl [H39]; · iexact H39
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).1; rw [st3_succ]; rfl
      isplitl [H40]
      · iexists _; isplitl [H40]; · iexact H40
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.1; rw [st3_succ]; rfl
      isplitl [H41]
      · iexists _; isplitl [H41]; · iexact H41
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.1; rw [st3_succ]; rfl
      isplitl [H42]
      · iexists _; isplitl [H42]; · iexact H42
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.1; rw [st3_succ]; rfl
      isplitl [H23]
      · iexists _; isplitl [H23]; · iexact H23
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.1; rw [st3_succ]; rfl
      isplitl [H24]
      · iexists _; isplitl [H24]; · iexact H24
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.1; rw [st3_succ]; rfl
      isplitl [H29]
      · iexists _; isplitl [H29]; · iexact H29
        ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.2.1; rw [st3_succ]; rfl
      iexists _; isplitl [H30]; · iexact H30
      ipureintro; show _ = (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 (G39, G40, G41, G42, G23, G24, G29, G30) (k.val + 1)).2.2.2.2.2.2.2; rw [st3_succ]; rfl

end Cert.Kernel.Body

end
-- ==== Proof.ExactTrip4.lean ====
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 4 holds. -/
abbrev Trip4 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg25 : Memref sig .tc .vmem S1x4608x256 .i8) (arg26 : Memref sig .tc .vmem S1x4608x256 .i8) (arg31 : Memref sig .tc .vmem S1x659x256 .f32) (arg32 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} f39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg25.view.loc (c : Thread nD τ) ↦[arg25.view.set]{fullShare} f25) ∗ (arg26.view.loc (c : Thread nD τ) ↦[arg26.view.set]{fullShare} f26) ∗ (arg31.view.loc (c : Thread nD τ) ↦[arg31.view.set]{fullShare} f31) ∗ (arg32.view.loc (c : Thread nD τ) ↦[arg32.view.set]{fullShare} f32))

/-- One trip of loop 4, run: the pieces it writes into each buffer. -/
@[irreducible] def trip4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    Σ' (L39 : List (View.Piece (Elt F) S2x2x4672x128 .f32)), Σ' (L40 : List (View.Piece (Elt F) S2x4608x128 .f32)), Σ' (L41 : List (View.Piece (Elt F) S2x576x128 .f32)), Σ' (L42 : List (View.Piece (Elt F) S2x576x128 .f32)), Σ' (L25 : List (View.Piece (Elt F) S1x4608x256 .i8)), Σ' (L26 : List (View.Piece (Elt F) S1x4608x256 .i8)), Σ' (L31 : List (View.Piece (Elt F) S1x659x256 .f32)), { L32 : List (View.Piece (Elt F) S1x659x256 .f32) // ∀ (E : Set ℕ),
      Trip4 (F := F) c arg36 arg10 arg11 arg7 arg8 arg16 arg37 arg13 arg14 arg39 arg40 arg41 arg42 arg25 arg26 arg31 arg32 X36 X10 X11 X7 X8 X16 X37 X13 X14 f39 f40 f41 f42 f25 f26 f31 f32
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 k PUnit.unit)
          (fun _ => Trip4 (F := F) c arg36 arg10 arg11 arg7 arg8 arg16 arg37 arg13 arg14 arg39 arg40 arg41 arg42 arg25 arg26 arg31 arg32 X36 X10 X11 X7 X8 X16 X37 X13 X14 (arg39.view.writes (Elt F) f39 L39) (arg40.view.writes (Elt F) f40 L40) (arg41.view.writes (Elt F) arg41.view.junk L41) (arg42.view.writes (Elt F) arg42.view.junk L42) (arg25.view.writes (Elt F) f25 L25) (arg26.view.writes (Elt F) f26 L26) (arg31.view.writes (Elt F) f31 L31) (arg32.view.writes (Elt F) f32 L32)) } := by
  have hk : k.val < 9 := Nat.lt_of_lt_of_le k.isLt k0_t4_abs.2.1
  refine ⟨?_, ?_, ?_, ?_, ?_, ?_, ?_, ?_, fun E => ?run⟩
  case run =>
    unfold k0_t4_body
    iintro ⟨H36, H10, H11, H7, H8, H16, H37, H13, H14, H39, H40, H41, H42, H25, H26, H31, H32⟩
    sl_exec
    sl_step
    sl_close

end Cert.Kernel.Body
-- ==== Proof.ExactLoop4.lean ====
module

public import proofs.«01_k».proof.Proof.ExactTrip4
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 4 writes. -/
abbrev St4 (F : FTy → Type) [FloatOps F] (arg39 : Memref sig .tc .vmem S2x2x4672x128 .f32) (arg40 : Memref sig .tc .vmem S2x4608x128 .f32) (arg41 : Memref sig .tc .vmem S2x576x128 .f32) (arg42 : Memref sig .tc .vmem S2x576x128 .f32) (arg25 : Memref sig .tc .vmem S1x4608x256 .i8) (arg26 : Memref sig .tc .vmem S1x4608x256 .i8) (arg31 : Memref sig .tc .vmem S1x659x256 .f32) (arg32 : Memref sig .tc .vmem S1x659x256 .f32) : Type :=
  BufTy.Contents (Elt F) arg39.view.ty × BufTy.Contents (Elt F) arg40.view.ty × BufTy.Contents (Elt F) arg41.view.ty × BufTy.Contents (Elt F) arg42.view.ty × BufTy.Contents (Elt F) arg25.view.ty × BufTy.Contents (Elt F) arg26.view.ty × BufTy.Contents (Elt F) arg31.view.ty × BufTy.Contents (Elt F) arg32.view.ty

/-- What trip `k` of loop 4 makes of them. -/
def next4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (s : St4 F arg39 arg40 arg41 arg42 arg25 arg26 arg31 arg32) (k : Fin k0_t4_loop.trips) : St4 F arg39 arg40 arg41 arg42 arg25 arg26 arg31 arg32 :=
  (arg39.view.writes (Elt F) s.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).1,
   arg40.view.writes (Elt F) s.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.1,
   arg41.view.writes (Elt F) arg41.view.junk (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.1,
   arg42.view.writes (Elt F) arg42.view.junk (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.1,
   arg25.view.writes (Elt F) s.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1,
   arg26.view.writes (Elt F) s.2.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1,
   arg31.view.writes (Elt F) s.2.2.2.2.2.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.1,
   arg32.view.writes (Elt F) s.2.2.2.2.2.2.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.2.2.1)

/-- The contents before trip `k`, from `G` before the first. -/
def st4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St4 F arg39 arg40 arg41 arg42 arg25 arg26 arg31 arg32) : ℕ → St4 F arg39 arg40 arg41 arg42 arg25 arg26 arg31 arg32
  | 0 => G
  | k + 1 => if h : k < k0_t4_loop.trips then next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k) ⟨k, h⟩ else st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k

theorem st4_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G : St4 F arg39 arg40 arg41 arg42 arg25 arg26 arg31 arg32) (k : Fin k0_t4_loop.trips) :
    st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G (k.val + 1) = next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G k.val) k := by
  rw [st4.eq_2]; exact dif_pos k.isLt

/-- What loop 4 holds before trip `k`. -/
abbrev inv4 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G25 : BufTy.Contents (Elt F) arg25.view.ty) (G26 : BufTy.Contents (Elt F) arg26.view.ty) (G31 : BufTy.Contents (Elt F) arg31.view.ty) (G32 : BufTy.Contents (Elt F) arg32.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (∃ f, (arg39.view.loc (c : Thread nD τ) ↦[arg39.view.set]{fullShare} f) ∗ ⌜f = Nat.rec (motive := fun _ => BufTy.Contents (Elt F) arg39.view.ty) G39 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).1) k⌝) ∗ (∃ f, (arg40.view.loc (c : Thread nD τ) ↦[arg40.view.set]{fullShare} f) ∗ ⌜f = Nat.rec (motive := fun _ => BufTy.Contents (Elt F) arg40.view.ty) G40 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.1) k⌝) ∗ (∃ f, (arg41.view.loc (c : Thread nD τ) ↦[arg41.view.set]{fullShare} f) ∗ ⌜f = Nat.rec (motive := fun _ => BufTy.Contents (Elt F) arg41.view.ty) G41 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.1) k⌝) ∗ (∃ f, (arg42.view.loc (c : Thread nD τ) ↦[arg42.view.set]{fullShare} f) ∗ ⌜f = Nat.rec (motive := fun _ => BufTy.Contents (Elt F) arg42.view.ty) G42 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.1) k⌝) ∗ (∃ f, (arg25.view.loc (c : Thread nD τ) ↦[arg25.view.set]{fullShare} f) ∗ ⌜f = Nat.rec (motive := fun _ => BufTy.Contents (Elt F) arg25.view.ty) G25 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.1) k⌝) ∗ (∃ f, (arg26.view.loc (c : Thread nD τ) ↦[arg26.view.set]{fullShare} f) ∗ ⌜f = Nat.rec (motive := fun _ => BufTy.Contents (Elt F) arg26.view.ty) G26 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.1) k⌝) ∗ (∃ f, (arg31.view.loc (c : Thread nD τ) ↦[arg31.view.set]{fullShare} f) ∗ ⌜f = Nat.rec (motive := fun _ => BufTy.Contents (Elt F) arg31.view.ty) G31 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.2.1) k⌝) ∗ (∃ f, (arg32.view.loc (c : Thread nD τ) ↦[arg32.view.set]{fullShare} f) ∗ ⌜f = Nat.rec (motive := fun _ => BufTy.Contents (Elt F) arg32.view.ty) G32 (fun _ _ => (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k).2.2.2.2.2.2.2) k⌝))

set_option warn.classDefReducibility false in
/-- Loop 4 by what its trips make of the buffers. -/
@[sl_loop] def loopInv4 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (G39 : BufTy.Contents (Elt F) arg39.view.ty) (G40 : BufTy.Contents (Elt F) arg40.view.ty) (G41 : BufTy.Contents (Elt F) arg41.view.ty) (G42 : BufTy.Contents (Elt F) arg42.view.ty) (G25 : BufTy.Contents (Elt F) arg25.view.ty) (G26 : BufTy.Contents (Elt F) arg26.view.ty) (G31 : BufTy.Contents (Elt F) arg31.view.ty) (G32 : BufTy.Contents (Elt F) arg32.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 where
  inv := inv4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G39 G40 G41 G42 G25 G26 G31 G32
  step k acc := by
    iintro ⟨H36, H10, H11, H7, H8, H16, H37, H13, H14, ⟨%f39, H39, %h39⟩, ⟨%f40, H40, %h40⟩, ⟨%f41, H41, %h41⟩, ⟨%f42, H42, %h42⟩, ⟨%f25, H25, %h25⟩, ⟨%f26, H26, %h26⟩, ⟨%f31, H31, %h31⟩, ⟨%f32, H32, %h32⟩⟩
    rw [at_zero (k := k.val) (G := G39) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).1) (fun h => by rw [h]; rfl)] at h39
    rw [at_zero (k := k.val) (G := G40) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.1) (fun h => by rw [h]; rfl)] at h40
    rw [at_zero (k := k.val) (G := G41) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.1) (fun h => by rw [h]; rfl)] at h41
    rw [at_zero (k := k.val) (G := G42) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.1) (fun h => by rw [h]; rfl)] at h42
    rw [at_zero (k := k.val) (G := G25) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.1) (fun h => by rw [h]; rfl)] at h25
    rw [at_zero (k := k.val) (G := G26) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.1) (fun h => by rw [h]; rfl)] at h26
    rw [at_zero (k := k.val) (G := G31) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.2.1) (fun h => by rw [h]; rfl)] at h31
    rw [at_zero (k := k.val) (G := G32) (x := (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) k.val).2.2.2.2.2.2.2) (fun h => by rw [h]; rfl)] at h32
    subst h39 h40 h41 h42 h25 h26 h31 h32
    iapply (wp_wand_r Idealize.ShloMosaic.frame (wpE (defs₀ (F := F)) 𝒱 (c : Thread nD τ) bd) E)
    isplitl [H36 H10 H11 H7 H8 H16 H37 H13 H14 H39 H40 H41 H42 H25 H26 H31 H32]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 _ _ _ _ _ _ _ _ k).2.2.2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H25]; · iexact H25
      isplitl [H26]; · iexact H26
      isplitl [H31]; · iexact H31
      iexact H32
    · iintro %_ ⟨H36, H10, H11, H7, H8, H16, H37, H13, H14, H39, H40, H41, H42, H25, H26, H31, H32⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]
      · iexists _; isplitl [H39]; · iexact H39
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).1; rw [st4_succ]; rfl
      isplitl [H40]
      · iexists _; isplitl [H40]; · iexact H40
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.1; rw [st4_succ]; rfl
      isplitl [H41]
      · iexists _; isplitl [H41]; · iexact H41
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.1; rw [st4_succ]; rfl
      isplitl [H42]
      · iexists _; isplitl [H42]; · iexact H42
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.1; rw [st4_succ]; rfl
      isplitl [H25]
      · iexists _; isplitl [H25]; · iexact H25
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.1; rw [st4_succ]; rfl
      isplitl [H26]
      · iexists _; isplitl [H26]; · iexact H26
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.1; rw [st4_succ]; rfl
      isplitl [H31]
      · iexists _; isplitl [H31]; · iexact H31
        ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.2.1; rw [st4_succ]; rfl
      iexists _; isplitl [H32]; · iexact H32
      ipureintro; show _ = (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 (G39, G40, G41, G42, G25, G26, G31, G32) (k.val + 1)).2.2.2.2.2.2.2; rw [st4_succ]; rfl

end Cert.Kernel.Body

end
-- ==== Proof.ExactTrip5.lean ====
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of loop 5 holds. -/
abbrev Trip5 (c : Dev nD) (arg36 : Memref sig .tc .vmem S3x7x256x256 .bf16) (arg10 : Memref sig .tc .vmem S3x256 .f32) (arg11 : Memref sig .tc .vmem S3x256 .f32) (arg7 : Memref sig .tc .vmem S6x256 .f32) (arg8 : Memref sig .tc .vmem S6x256 .f32) (arg16 : Memref sig .tc .smem S3x2 .f32) (arg37 : Memref sig .tc .vmem S3x256x256 .bf16) (arg13 : Memref sig .tc .vmem S3x256 .f32) (arg14 : Memref sig .tc .vmem S3x256 .f32) (arg39 : Memref sig .tc .vmem S2x2x4672x128 .f32) (arg40 : Memref sig .tc .vmem S2x4608x128 .f32) (arg41 : Memref sig .tc .vmem S2x576x128 .f32) (arg42 : Memref sig .tc .vmem S2x576x128 .f32) (arg27 : Memref sig .tc .vmem S1x4608x256 .i8) (arg33 : Memref sig .tc .vmem S1x659x256 .f32) (arg34 : Memref sig .tc .vmem S1x659x256 .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} X39) ∗ (arg40.view.loc (c : Thread nD τ) ↦[arg40.view.set]{fullShare} f40) ∗ (arg41.view.loc (c : Thread nD τ) ↦[arg41.view.set]{fullShare} f41) ∗ (arg42.view.loc (c : Thread nD τ) ↦[arg42.view.set]{fullShare} f42) ∗ (arg27.view.loc (c : Thread nD τ) ↦[arg27.view.set]{fullShare} f27) ∗ (arg33.view.loc (c : Thread nD τ) ↦[arg33.view.set]{fullShare} f33) ∗ (arg34.view.loc (c : Thread nD τ) ↦[arg34.view.set]{fullShare} f34))

/-- One trip of loop 5, run: the pieces it writes into each buffer. -/
@[irreducible] def trip5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) (k : Fin k0_t5_loop.trips) :
    Σ' (L40 : List (View.Piece (Elt F) S2x4608x128 .f32)), Σ' (L41 : List (View.Piece (Elt F) S2x576x128 .f32)), Σ' (L42 : List (View.Piece (Elt F) S2x576x128 .f32)), Σ' (L27 : List (View.Piece (Elt F) S1x4608x256 .i8)), Σ' (L33 : List (View.Piece (Elt F) S1x659x256 .f32)), { L34 : List (View.Piece (Elt F) S1x659x256 .f32) // ∀ (E : Set ℕ),
      Trip5 (F := F) c arg36 arg10 arg11 arg7 arg8 arg16 arg37 arg13 arg14 arg39 arg40 arg41 arg42 arg27 arg33 arg34 X36 X10 X11 X7 X8 X16 X37 X13 X14 X39 f40 f41 f42 f27 f33 f34
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 k PUnit.unit)
          (fun _ => Trip5 (F := F) c arg36 arg10 arg11 arg7 arg8 arg16 arg37 arg13 arg14 arg39 arg40 arg41 arg42 arg27 arg33 arg34 X36 X10 X11 X7 X8 X16 X37 X13 X14 X39 (arg40.view.writes (Elt F) f40 L40) (arg41.view.writes (Elt F) arg41.view.junk L41) (arg42.view.writes (Elt F) arg42.view.junk L42) (arg27.view.writes (Elt F) f27 L27) (arg33.view.writes (Elt F) f33 L33) (arg34.view.writes (Elt F) f34 L34)) } := by
  have hk : k.val < 9 := Nat.lt_of_lt_of_le k.isLt k0_t5_abs.2.1
  refine ⟨?_, ?_, ?_, ?_, ?_, ?_, fun E => ?run⟩
  case run =>
    unfold k0_t5_body
    iintro ⟨H36, H10, H11, H7, H8, H16, H37, H13, H14, H39, H40, H41, H42, H27, H33, H34⟩
    sl_exec
    sl_step
    sl_close

end Cert.Kernel.Body
-- ==== Proof.ExactLoop5.lean ====
module

public import proofs.«01_k».proof.Proof.ExactTrip5
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

private theorem at_zero {α : Type} {G x : α} {k : ℕ} (h : k = 0 → x = G) :
    Nat.rec (motive := fun _ => α) G (fun _ _ => x) k = x := by
  cases k with
  | zero => exact (h rfl).symm
  | succ k => rfl

/-- The contents of the buffers loop 5 writes. -/
abbrev St5 (F : FTy → Type) [FloatOps F] (arg40 : Memref sig .tc .vmem S2x4608x128 .f32) (arg41 : Memref sig .tc .vmem S2x576x128 .f32) (arg42 : Memref sig .tc .vmem S2x576x128 .f32) (arg27 : Memref sig .tc .vmem S1x4608x256 .i8) (arg33 : Memref sig .tc .vmem S1x659x256 .f32) (arg34 : Memref sig .tc .vmem S1x659x256 .f32) : Type :=
  BufTy.Contents (Elt F) arg40.view.ty × BufTy.Contents (Elt F) arg41.view.ty × BufTy.Contents (Elt F) arg42.view.ty × BufTy.Contents (Elt F) arg27.view.ty × BufTy.Contents (Elt F) arg33.view.ty × BufTy.Contents (Elt F) arg34.view.ty

/-- What trip `k` of loop 5 makes of them. -/
def next5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (s : St5 F arg40 arg41 arg42 arg27 arg33 arg34) (k : Fin k0_t5_loop.trips) : St5 F arg40 arg41 arg42 arg27 arg33 arg34 :=
  (arg40.view.writes (Elt F) s.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).1,
   arg41.view.writes (Elt F) arg41.view.junk (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.1,
   arg42.view.writes (Elt F) arg42.view.junk (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.1,
   arg27.view.writes (Elt F) s.2.2.2.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.1,
   arg33.view.writes (Elt F) s.2.2.2.2.1 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.2.1,
   arg34.view.writes (Elt F) s.2.2.2.2.2 (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.2.2.1)

/-- The contents before trip `k`, from `G` before the first. -/
def st5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G : St5 F arg40 arg41 arg42 arg27 arg33 arg34) : ℕ → St5 F arg40 arg41 arg42 arg27 arg33 arg34
  | 0 => G
  | k + 1 => if h : k < k0_t5_loop.trips then next5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k) ⟨k, h⟩ else st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k

theorem st5_succ (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G : St5 F arg40 arg41 arg42 arg27 arg33 arg34) (k : Fin k0_t5_loop.trips) :
    st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G (k.val + 1) = next5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G k.val) k := by
  rw [st5.eq_2]; exact dif_pos k.isLt

/-- What loop 5 holds before trip `k`. -/
abbrev inv5 (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G40 : BufTy.Contents (Elt F) arg40.view.ty) (G41 : BufTy.Contents (Elt F) arg41.view.ty) (G42 : BufTy.Contents (Elt F) arg42.view.ty) (G27 : BufTy.Contents (Elt F) arg27.view.ty) (G33 : BufTy.Contents (Elt F) arg33.view.ty) (G34 : BufTy.Contents (Elt F) arg34.view.ty) (k : ℕ) (_ : Unit) : sProp 𝕄G :=
  iprop((arg36.view.loc (c : Thread nD τ) ↦[arg36.view.set]{fullShare} X36) ∗ (arg10.view.loc (c : Thread nD τ) ↦[arg10.view.set]{fullShare} X10) ∗ (arg11.view.loc (c : Thread nD τ) ↦[arg11.view.set]{fullShare} X11) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg37.view.loc (c : Thread nD τ) ↦[arg37.view.set]{fullShare} X37) ∗ (arg13.view.loc (c : Thread nD τ) ↦[arg13.view.set]{fullShare} X13) ∗ (arg14.view.loc (c : Thread nD τ) ↦[arg14.view.set]{fullShare} X14) ∗ (arg39.view.loc (c : Thread nD τ) ↦[arg39.view.set]{fullShare} X39) ∗ (∃ f, (arg40.view.loc (c : Thread nD τ) ↦[arg40.view.set]{fullShare} f) ∗ ⌜f = Nat.rec (motive := fun _ => BufTy.Contents (Elt F) arg40.view.ty) G40 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).1) k⌝) ∗ (∃ f, (arg41.view.loc (c : Thread nD τ) ↦[arg41.view.set]{fullShare} f) ∗ ⌜f = Nat.rec (motive := fun _ => BufTy.Contents (Elt F) arg41.view.ty) G41 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.1) k⌝) ∗ (∃ f, (arg42.view.loc (c : Thread nD τ) ↦[arg42.view.set]{fullShare} f) ∗ ⌜f = Nat.rec (motive := fun _ => BufTy.Contents (Elt F) arg42.view.ty) G42 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.1) k⌝) ∗ (∃ f, (arg27.view.loc (c : Thread nD τ) ↦[arg27.view.set]{fullShare} f) ∗ ⌜f = Nat.rec (motive := fun _ => BufTy.Contents (Elt F) arg27.view.ty) G27 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.1) k⌝) ∗ (∃ f, (arg33.view.loc (c : Thread nD τ) ↦[arg33.view.set]{fullShare} f) ∗ ⌜f = Nat.rec (motive := fun _ => BufTy.Contents (Elt F) arg33.view.ty) G33 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.2.1) k⌝) ∗ (∃ f, (arg34.view.loc (c : Thread nD τ) ↦[arg34.view.set]{fullShare} f) ∗ ⌜f = Nat.rec (motive := fun _ => BufTy.Contents (Elt F) arg34.view.ty) G34 (fun _ _ => (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k).2.2.2.2.2) k⌝))

set_option warn.classDefReducibility false in
/-- Loop 5 by what its trips make of the buffers. -/
@[sl_loop] def loopInv5 (𝒱 : Variants) (c : Dev nD) (bd : Option 𝒱.V) (E : Set ℕ) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (G40 : BufTy.Contents (Elt F) arg40.view.ty) (G41 : BufTy.Contents (Elt F) arg41.view.ty) (G42 : BufTy.Contents (Elt F) arg42.view.ty) (G27 : BufTy.Contents (Elt F) arg27.view.ty) (G33 : BufTy.Contents (Elt F) arg33.view.ty) (G34 : BufTy.Contents (Elt F) arg34.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 where
  inv := inv5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G40 G41 G42 G27 G33 G34
  step k acc := by
    iintro ⟨H36, H10, H11, H7, H8, H16, H37, H13, H14, H39, ⟨%f40, H40, %h40⟩, ⟨%f41, H41, %h41⟩, ⟨%f42, H42, %h42⟩, ⟨%f27, H27, %h27⟩, ⟨%f33, H33, %h33⟩, ⟨%f34, H34, %h34⟩⟩
    rw [at_zero (k := k.val) (G := G40) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).1) (fun h => by rw [h]; rfl)] at h40
    rw [at_zero (k := k.val) (G := G41) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.1) (fun h => by rw [h]; rfl)] at h41
    rw [at_zero (k := k.val) (G := G42) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.1) (fun h => by rw [h]; rfl)] at h42
    rw [at_zero (k := k.val) (G := G27) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.1) (fun h => by rw [h]; rfl)] at h27
    rw [at_zero (k := k.val) (G := G33) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.2.1) (fun h => by rw [h]; rfl)] at h33
    rw [at_zero (k := k.val) (G := G34) (x := (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) k.val).2.2.2.2.2) (fun h => by rw [h]; rfl)] at h34
    subst h40 h41 h42 h27 h33 h34
    iapply (wp_wand_r Idealize.ShloMosaic.frame (wpE (defs₀ (F := F)) 𝒱 (c : Thread nD τ) bd) E)
    isplitl [H36 H10 H11 H7 H8 H16 H37 H13 H14 H39 H40 H41 H42 H27 H33 H34]
    · iapply ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 _ _ _ _ _ _ k).2.2.2.2.2.2 E)
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]; · iexact H40
      isplitl [H41]; · iexact H41
      isplitl [H42]; · iexact H42
      isplitl [H27]; · iexact H27
      isplitl [H33]; · iexact H33
      iexact H34
    · iintro %_ ⟨H36, H10, H11, H7, H8, H16, H37, H13, H14, H39, H40, H41, H42, H27, H33, H34⟩
      isplitl [H36]; · iexact H36
      isplitl [H10]; · iexact H10
      isplitl [H11]; · iexact H11
      isplitl [H7]; · iexact H7
      isplitl [H8]; · iexact H8
      isplitl [H16]; · iexact H16
      isplitl [H37]; · iexact H37
      isplitl [H13]; · iexact H13
      isplitl [H14]; · iexact H14
      isplitl [H39]; · iexact H39
      isplitl [H40]
      · iexists _; isplitl [H40]; · iexact H40
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).1; rw [st5_succ]; rfl
      isplitl [H41]
      · iexists _; isplitl [H41]; · iexact H41
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.1; rw [st5_succ]; rfl
      isplitl [H42]
      · iexists _; isplitl [H42]; · iexact H42
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.1; rw [st5_succ]; rfl
      isplitl [H27]
      · iexists _; isplitl [H27]; · iexact H27
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.1; rw [st5_succ]; rfl
      isplitl [H33]
      · iexists _; isplitl [H33]; · iexact H33
        ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.2.1; rw [st5_succ]; rfl
      iexists _; isplitl [H34]; · iexact H34
      ipureintro; show _ = (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 (G40, G41, G42, G27, G33, G34) (k.val + 1)).2.2.2.2.2; rw [st5_succ]; rfl

end Cert.Kernel.Body

end
-- ==== Proof.ExactRun.lean ====
module

public import proofs.«01_k».proof.Proof.ExactLoop2
public import proofs.«01_k».proof.Proof.ExactLoop3
public import proofs.«01_k».proof.Proof.ExactLoop4
public import proofs.«01_k».proof.Proof.ExactLoop5
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem kernelRun (𝒱 : Variants) (c : Dev nD) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (x1 : S1x1152x512.Idx → Elt F .bf16) (x2 : S1x512.Idx → Elt F .f32) (x3 : S1x512.Idx → Elt F .f32) (x4 : S8x512x256.Idx → Elt F .i8) (x5 : S1x256.Idx → Elt F .f32) (x6 : S1x256.Idx → Elt F .f32) (x7 : S6x256.Idx → Elt F .f32) (x8 : S6x256.Idx → Elt F .f32) (x9 : S3x7x256x256.Idx → Elt F .i8) (x10 : S3x256.Idx → Elt F .f32) (x11 : S3x256.Idx → Elt F .f32) (x12 : S3x256x256.Idx → Elt F .i8) (x13 : S3x256.Idx → Elt F .f32) (x14 : S3x256.Idx → Elt F .f32) (x15 : S1x1.Idx → Elt F .f32) (x16 : S3x2.Idx → Elt F .f32) (x17 : S1x1.Idx → Elt F .f32) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)) -∗ K ⟨⟩))
      ⊢ wp frame (wpE (defs₀ (F := F)) 𝒱 c none) Set.univ (cc0_oobleck_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_oobleck_block_eq_skeleton]; unfold cc0_oobleck_block_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, Hk⟩
  by_cases hc : Scalar.cmpi .ne (Scalar.extui (Scalar.cmpi .eq (BitVec.ofNat 32 (i 0).val) 0#32)) 0#32 = 1#1
  all_goals
    sl_exec
    sl_step
    iapply Hk
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; exact h16
    isplitl [H17]
    · iexists _; isplitr; swap; · iexact H17
      ipureintro; exact h17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [H36]
    · iexists _, _; isplitr; swap; · iexact H36
      ipureintro; rfl
    isplitl [H37]
    · iexists _, _; isplitr; swap; · iexact H37
      ipureintro; rfl
    isplitl [H38]
    · iexists _, _; isplitr; swap; · iexact H38
      ipureintro; rfl
    isplitl [H39]
    · iexists _, _; isplitr; swap; · iexact H39
      ipureintro; rfl
    isplitl [H40]
    · iexists _, _; isplitr; swap; · iexact H40
      ipureintro; rfl
    isplitl [H41]
    · iexists _, _; isplitr; swap; · iexact H41
      ipureintro; rfl
    iexists _, _; isplitr; swap; · iexact H42
    ipureintro; rfl

end Cert.Kernel.Body

end
-- ==== Proof.ExactBody.lean ====
module

public import proofs.«01_k».proof.Proof.ExactRun
public import proofs.«01_k».proof.Proof.Gen.Kernel.Frame
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The windows of which nothing is said after the run: the results. -/
def forgets : Fin 34 → Bool := fun w => decide (17 ≤ w.val)

/-- The proof data on core `c`: each argument's block stays as fetched, the results are unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => iblk m c 14 t
    | 15 => iblk m c 15 t
    | 16 => iblk m c 16 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]; rfl
theorem after_1 (c : Dev nD) (t : Fin cfg0.N) : (dats m 0 c).after 1 t = iblk m c 1 t := by dsimp only [dats]; rfl
theorem after_2 (c : Dev nD) (t : Fin cfg0.N) : (dats m 0 c).after 2 t = iblk m c 2 t := by dsimp only [dats]; rfl
theorem after_3 (c : Dev nD) (t : Fin cfg0.N) : (dats m 0 c).after 3 t = iblk m c 3 t := by dsimp only [dats]; rfl
theorem after_4 (c : Dev nD) (t : Fin cfg0.N) : (dats m 0 c).after 4 t = iblk m c 4 t := by dsimp only [dats]; rfl
theorem after_5 (c : Dev nD) (t : Fin cfg0.N) : (dats m 0 c).after 5 t = iblk m c 5 t := by dsimp only [dats]; rfl
theorem after_6 (c : Dev nD) (t : Fin cfg0.N) : (dats m 0 c).after 6 t = iblk m c 6 t := by dsimp only [dats]; rfl
theorem after_7 (c : Dev nD) (t : Fin cfg0.N) : (dats m 0 c).after 7 t = iblk m c 7 t := by dsimp only [dats]; rfl
theorem after_8 (c : Dev nD) (t : Fin cfg0.N) : (dats m 0 c).after 8 t = iblk m c 8 t := by dsimp only [dats]; rfl
theorem after_9 (c : Dev nD) (t : Fin cfg0.N) : (dats m 0 c).after 9 t = iblk m c 9 t := by dsimp only [dats]; rfl
theorem after_10 (c : Dev nD) (t : Fin cfg0.N) : (dats m 0 c).after 10 t = iblk m c 10 t := by dsimp only [dats]; rfl
theorem after_11 (c : Dev nD) (t : Fin cfg0.N) : (dats m 0 c).after 11 t = iblk m c 11 t := by dsimp only [dats]; rfl
theorem after_12 (c : Dev nD) (t : Fin cfg0.N) : (dats m 0 c).after 12 t = iblk m c 12 t := by dsimp only [dats]; rfl
theorem after_13 (c : Dev nD) (t : Fin cfg0.N) : (dats m 0 c).after 13 t = iblk m c 13 t := by dsimp only [dats]; rfl
theorem after_14 (c : Dev nD) (t : Fin cfg0.N) : (dats m 0 c).after 14 t = iblk m c 14 t := by dsimp only [dats]; rfl
theorem after_15 (c : Dev nD) (t : Fin cfg0.N) : (dats m 0 c).after 15 t = iblk m c 15 t := by dsimp only [dats]; rfl
theorem after_16 (c : Dev nD) (t : Fin cfg0.N) : (dats m 0 c).after 16 t = iblk m c 16 t := by dsimp only [dats]; rfl

/-- What the body is called with at point `t`. -/
def bodyPre (c : Dev nD) (t : Fin cfg0.N) : sProp 𝕄G :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d) ∗ (∃ d, owns (c : Thread nD τ) ((cfg0.win 24).stage (cfg0.slots t 24)) fullShare d) ∗ (∃ d, owns (c : Thread nD τ) ((cfg0.win 25).stage (cfg0.slots t 25)) fullShare d) ∗ (∃ d, owns (c : Thread nD τ) ((cfg0.win 26).stage (cfg0.slots t 26)) fullShare d) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

/-- What the body returns at point `t`. -/
def bodyPost (c : Dev nD) (t : Fin cfg0.N) : sProp 𝕄G :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ owns (c : Thread nD τ) ((cfg0.win 8).stage (cfg0.slots t 8)) fullShare ((dats m 0 c).after 8 t) ∗ owns (c : Thread nD τ) ((cfg0.win 9).stage (cfg0.slots t 9)) fullShare ((dats m 0 c).after 9 t) ∗ owns (c : Thread nD τ) ((cfg0.win 10).stage (cfg0.slots t 10)) fullShare ((dats m 0 c).after 10 t) ∗ owns (c : Thread nD τ) ((cfg0.win 11).stage (cfg0.slots t 11)) fullShare ((dats m 0 c).after 11 t) ∗ owns (c : Thread nD τ) ((cfg0.win 12).stage (cfg0.slots t 12)) fullShare ((dats m 0 c).after 12 t) ∗ owns (c : Thread nD τ) ((cfg0.win 13).stage (cfg0.slots t 13)) fullShare ((dats m 0 c).after 13 t) ∗ owns (c : Thread nD τ) ((cfg0.win 14).stage (cfg0.slots t 14)) fullShare ((dats m 0 c).after 14 t) ∗ owns (c : Thread nD τ) ((cfg0.win 15).stage (cfg0.slots t 15)) fullShare ((dats m 0 c).after 15 t) ∗ owns (c : Thread nD τ) ((cfg0.win 16).stage (cfg0.slots t 16)) fullShare ((dats m 0 c).after 16 t) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d) ∗ (∃ d, owns (c : Thread nD τ) ((cfg0.win 24).stage (cfg0.slots t 24)) fullShare d) ∗ (∃ d, owns (c : Thread nD τ) ((cfg0.win 25).stage (cfg0.slots t 25)) fullShare d) ∗ (∃ d, owns (c : Thread nD τ) ((cfg0.win 26).stage (cfg0.slots t 26)) fullShare d) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

theorem scratch_owns (c : Dev nD) :
    (Pipeline.scopedRest (Ix := Unit) (Name := ℕ) (U := UR sig nD τ) (Lvl := ℕ) (Val := Elt F) spec0 c : sProp 𝕄G)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) := by
  rw [scopedRest0_eq]; simp only [owns_whole]

/-- The body at a point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scratch_owns]
  simp only [before0_0_of m (dats m 0 c) (A_eq m c 0) (after_0 m c) t, after_0, before0_1_of m (dats m 0 c) (A_eq m c 1) (after_1 m c) t, after_1, before0_2_of m (dats m 0 c) (A_eq m c 2) (after_2 m c) t, after_2, before0_3_of m (dats m 0 c) (A_eq m c 3) (after_3 m c) t, after_3, before0_4_of m (dats m 0 c) (A_eq m c 4) (after_4 m c) t, after_4, before0_5_of m (dats m 0 c) (A_eq m c 5) (after_5 m c) t, after_5, before0_6_of m (dats m 0 c) (A_eq m c 6) (after_6 m c) t, after_6, before0_7_of m (dats m 0 c) (A_eq m c 7) (after_7 m c) t, after_7, before0_8_of m (dats m 0 c) (A_eq m c 8) (after_8 m c) t, after_8, before0_9_of m (dats m 0 c) (A_eq m c 9) (after_9 m c) t, after_9, before0_10_of m (dats m 0 c) (A_eq m c 10) (after_10 m c) t, after_10, before0_11_of m (dats m 0 c) (A_eq m c 11) (after_11 m c) t, after_11, before0_12_of m (dats m 0 c) (A_eq m c 12) (after_12 m c) t, after_12, before0_13_of m (dats m 0 c) (A_eq m c 13) (after_13 m c) t, after_13, before0_14_of m (dats m 0 c) (A_eq m c 14) (after_14 m c) t, after_14, before0_15_of m (dats m 0 c) (A_eq m c 15) (after_15 m c) t, after_15, before0_16_of m (dats m 0 c) (A_eq m c 16) (after_16 m c) t, after_16]
  iintro ⟨⟨⟨S0, S1, S2, S3, S4, S5, S6, S7⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (kernelRun Variants.none c (grid0.coords t)  (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  isplitl [H32]
  · iexists _; iexact H32
  isplitl [H33]
  · iexists _; iexact H33
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  iintro ⟨H0, H1, H2, H3, H4, H5, H6, H7, H8, H9, H10, H11, H12, H13, H14, H15, H16, H17, H18, H19, H20, H21, H22, H23, H24, H25, H26, H27, H28, H29, H30, H31, H32, H33, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, the results forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole run: it terminates, every argument array is as found and every counter ends at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run leaves the arguments unchanged and the counters at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ h => ⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 3 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (Pipeline.RDat.FramePost.arr_in h.1 c 15 rfl).trans (V_main_arg9 m c),
      (Pipeline.RDat.FramePost.arr_in h.1 c 8 rfl).trans (V_main_arg10 m c),
      (Pipeline.RDat.FramePost.arr_in h.1 c 9 rfl).trans (V_main_arg11 m c),
      (Pipeline.RDat.FramePost.arr_in h.1 c 10 rfl).trans (V_main_arg12 m c),
      (Pipeline.RDat.FramePost.arr_in h.1 c 11 rfl).trans (V_main_arg13 m c),
      (Pipeline.RDat.FramePost.arr_in h.1 c 12 rfl).trans (V_main_arg14 m c),
      (Pipeline.RDat.FramePost.arr_in h.1 c 13 rfl).trans (V_main_arg15 m c),
      ((h.1 c).2 main_arg16 (Pipeline.mem_restRefs_of main_arg16 (by decide) (by decide))).trans (V_main_arg16 m c)⟩, h.2⟩) (run_main m ρ)

end Cert.Kernel.Body

end
-- ==== Proof.Spec.lean ====
module

public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

variable {F : FTy → Type} [FloatOps F]

/-! The vector expressions the trips store, each written once. -/

/-- A constant over a tile. -/
abbrev tile (b : BitVec 32) : FVec F S32x128 .f32 := broadcast S32x128 (Scalar.ofBits .f32 b)

/-- A row over a tile. -/
abbrev over (r : FVec F S1x128 .f32) : FVec F S32x128 .f32 := broadcastTo S32x128 r broadcasts_S1x128_S32x128

/-- The reciprocal of a scale, as a row. -/
def gInv (s : F .f32) : FVec F S1x128 .f32 :=
  divf (broadcast S1x128 (Scalar.ofBits .f32 0x3F800000#32)) (broadcast S1x128 s)

/-- The snake's coefficient row. -/
def gK (b : Vec F S1x128 .f32) : FVec F S1x128 .f32 :=
  divf (broadcast S1x128 (Scalar.ofBits .f32 0xA99BC752#32)) (shapeCast S1x128 b shapeCasts_S1x128_S1x128)

/-- A row as loaded. -/
def gRow (a : Vec F S1x128 .f32) : FVec F S1x128 .f32 := shapeCast S1x128 a shapeCasts_S1x128_S1x128

def gArg (alpha : FVec F S1x128 .f32) (h : FVec F S32x128 .f32) : FVec F S32x128 .f32 :=
  have a := mulf h (over alpha)
  have n := roundeven (mulf a (tile 0x3EA2F983#32))
  have r := subf (subf a (mulf n (tile 0x40490000#32))) (mulf n (tile 0x3A7DAA22#32))
  have u := mulf r r
  mulf (addf u (tile 0xC21C5B90#32)) u

/-- The snake. -/
def gSnake (alpha kk : FVec F S1x128 .f32) (h : FVec F S32x128 .f32) : FVec F S32x128 .f32 :=
  have z := gArg alpha h
  have w := addf (mulf (addf z (tile 0x45159D9C#32)) z) (tile 0x491476D4#32)
  addf h (mulf (mulf w w) (mulf z (over kk)))

/-- The snake's code: scaled, clipped and rounded. -/
def gCode (inv alpha kk : FVec F S1x128 .f32) (h : FVec F S32x128 .f32) : FVec F S32x128 .f32 :=
  roundeven (minimumf (tile 0x42FE0000#32) (maximumf (tile 0xC2FE0000#32) (mulf (gSnake alpha kk h) (over inv))))

/-- The residual stream as it is kept. -/
def gH (X : Vec F S1x32x128 .f32) : FVec F S32x128 .f32 :=
  extf .f32 (truncf .bf16 (shapeCast S32x128 X shapeCasts_S1x32x128_S32x128) bitsLt_bf16_f32) bitsLt_bf16_f32

def gI8 (c : FVec F S32x128 .f32) : Vec F S1x32x128 .i8 :=
  shapeCast S1x32x128 (trunci 8 (fptosi 32 c) natLt_8_32) shapeCasts_S32x128_S1x32x128

theorem inb_c (j : Fin 16) (p : Fin 2) : ∀ a, (![p.val, 64 + 32 * j.val, 0] : Fin 3 → ℕ) a + S1x32x128.size a ≤ S2x576x128.size a := by
  intro a; have := j.isLt; have := p.isLt
  fin_cases a <;> simp [S1x32x128, S2x576x128] <;> omega

/-- Tile `j` of the chunk kept in the sample buffer, lanes `p`. -/
def gC (C : S2x576x128.Idx → Elt F .f32) (j : Fin 16) (p : Fin 2) : Vec F S1x32x128 .f32 :=
  View.ld C (Rect.unit ![p.val, 64 + 32 * j.val, 0] S1x32x128.size (inb_c j p))

/-- Four lane blocks side by side. -/
def gFrames (A0 A1 A2 A3 : Vec F S1x128x128 .f32) : FVec F S128x512 .f32 :=
  concatenate S128x512 1 [⟨S128x128, shapeCast S128x128 A0 shapeCasts_S1x128x128_S128x128⟩, ⟨S128x128, shapeCast S128x128 A1 shapeCasts_S1x128x128_S128x128⟩,
    ⟨S128x128, shapeCast S128x128 A2 shapeCasts_S1x128x128_S128x128⟩, ⟨S128x128, shapeCast S128x128 A3 shapeCasts_S1x128x128_S128x128⟩]
    concatenates_S128x128_S128x128_S128x128_S128x128_S128x512_d1

/-- One tap of the transposed convolution. -/
def gTap (v : FVec F S128x512 .f32) (w : Vec F S1x512x256 .bf16) : FVec F S128x256 .f32 :=
  matmul dot_S128x512_S512x256_S128x256_1_0_0_1_n_n none v (shapeCast S512x256 w shapeCasts_S1x512x256_S512x256) (constant S128x256 FTy.f32 0#32)

/-- One phase of the transposed convolution, scaled and shifted, half of the lanes. -/
def gPhase (s : F .f32) (acc : FVec F S128x256 .f32) (p : Fin 2) (w b : Vec F S1x128 .f32) : FVec F S128x128 .f32 :=
  shapeCast S128x128 (addf (mulf (match p with
      | 0 => extractStridedSlice S128x128 ![0, 0] acc slices_S128x256_o0_0_S128x128
      | 1 => extractStridedSlice S128x128 ![0, 128] acc slices_S128x256_o0_128_S128x128)
      (broadcastTo S128x128 (mulf (broadcast S1x128 s) (gRow w)) broadcasts_S1x128_S128x128))
    (broadcastTo S128x128 (gRow b) broadcasts_S1x128_S128x128)) shapeCasts_S128x128_S128x128

theorem phase_inb (r : Fin 4) (a : Fin 2) : S128x128.size a = 0 ∨ (![64 + r.val, 0] : Fin 2 → ℕ) a + (![4, 1] : Fin 2 → ℕ) a * (S128x128.size a - 1) < S576x128.size a := by
  have := r.isLt
  match a with
  | 0 => right; show 64 + r.val + 4 * (128 - 1) < 576; omega
  | 1 => right; show 0 + 1 * (128 - 1) < 128; omega

/-- Every fourth row of a half of the sample buffer, from row `64 + r`. -/
abbrev phaseRow (r : Fin 4) : Rect S576x128 :=
  { off := ![64 + r.val, 0], size := S128x128.size, stride := ![4, 1], inb := phase_inb r, stride_pos := spos_4_1 }

theorem half_inb (p : Fin 2) (a : Fin 3) : (![p.val, 0, 0] : Fin 3 → ℕ) a + S1x576x128.size a ≤ S2x576x128.size a := by
  have := p.isLt
  match a with
  | 0 => show p.val + 1 ≤ 2; omega
  | 1 => show 0 + 576 ≤ 576; omega
  | 2 => show 0 + 128 ≤ 128; omega

def phasePiece (Y : Fin 4 → Fin 2 → FVec F S128x128 .f32) (r : Fin 4) (p : Fin 2) : View.Piece (Elt F) S2x576x128 .f32 :=
  ⟨(Rect.unit (s := S2x576x128) ![p.val, 0, 0] S1x576x128.size (half_inb p)).within
      (Rect.consLift (n := 2) (d := S576x128.size) (phaseRow r) ![1, 576, 128] rfl (by intro i; fin_cases i <;> rfl)) (fun _ => rfl),
    Rect.payAlong (Rect.numel_consLift (phaseRow r) ![1, 576, 128] rfl (by intro i; fin_cases i <;> rfl)) (Y r p)⟩

/-- The last 64 rows kept at the head of the buffer. -/
def tailPiece (C : S2x576x128.Idx → Elt F .f32) (p : Fin 2) : View.Piece (Elt F) S2x576x128 .f32 :=
  ⟨Rect.unit ![p.val, 0, 0] S1x64x128.size (by intro a; have := p.isLt; fin_cases a <;> simp [S1x64x128, S2x576x128] <;> omega),
    shapeCast S1x64x128 (shapeCast S64x128 (View.ld C (Rect.unit ![p.val, 512, 0] S1x64x128.size
      (by intro a; have := p.isLt; fin_cases a <;> simp [S1x64x128, S2x576x128] <;> omega))) shapeCasts_S1x64x128_S64x128) shapeCasts_S64x128_S1x64x128⟩

def phasePieces (Y : Fin 4 → Fin 2 → FVec F S128x128 .f32) (C : S2x576x128.Idx → Elt F .f32) : List (View.Piece (Elt F) S2x576x128 .f32) :=
  [phasePiece Y 3 1, phasePiece Y 3 0, phasePiece Y 2 1, phasePiece Y 2 0, phasePiece Y 1 1, phasePiece Y 1 0, phasePiece Y 0 1,
    phasePiece Y 0 0, tailPiece C 1, tailPiece C 0]

theorem inb_row6 (r : Fin 6) (p : Fin 2) (a : Fin 2) : (![r.val, 128 * p.val] : Fin 2 → ℕ) a + S1x128.size a ≤ S6x256.size a := by
  have := r.isLt; have := p.isLt
  match a with
  | 0 => show r.val + 1 ≤ 6; omega
  | 1 => show 128 * p.val + 128 ≤ 256; omega

theorem inb_row1 (p : Fin 2) (a : Fin 2) : (![0, 128 * p.val] : Fin 2 → ℕ) a + S1x128.size a ≤ S1x256.size a := by
  have := p.isLt
  match a with
  | 0 => show 0 + 1 ≤ 1; omega
  | 1 => show 128 * p.val + 128 ≤ 256; omega

theorem inb_row3 (r : Fin 3) (p : Fin 2) (a : Fin 2) : (![r.val, 128 * p.val] : Fin 2 → ℕ) a + S1x128.size a ≤ S3x256.size a := by
  have := r.isLt; have := p.isLt
  match a with
  | 0 => show r.val + 1 ≤ 3; omega
  | 1 => show 128 * p.val + 128 ≤ 256; omega

end Cert.KernelIdeal.Vals

end
-- ==== Proof.Tiles.lean ====
module

public import proofs.«01_k».proof.Proof.Spec
public import Idealize.ShloMosaic.Lib.Pointwise
public import Idealize.ShloMosaic.Lib.Writes

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! A chunk of 512 rows and 256 lanes is stored in 32 tiles of 32 rows and 128 lanes: the lists of these
    pieces, and what a buffer reads after them. -/

variable {Val : EltTy → Type} {κ : Kind} {sp : Space}

/-- The sixteen tiles of one half of the lanes, latest store first. -/
def sixteen : List (Fin 16) := [15, 14, 13, 12, 11, 10, 9, 8, 7, 6, 5, 4, 3, 2, 1, 0]

theorem mem_sixteen (j : Fin 16) : j ∈ sixteen := by revert j; decide

/-- Both halves' tiles. -/
def pairs {s : Shape} {e : EltTy} (P : Fin 2 → Fin 16 → View.Piece Val s e) : List (View.Piece Val s e) :=
  sixteen.map (P 1) ++ sixteen.map (P 0)

theorem mem_pairs {s : Shape} {e : EltTy} (P : Fin 2 → Fin 16 → View.Piece Val s e) (q : View.Piece Val s e) :
    q ∈ pairs P ↔ ∃ p j, q = P p j := by
  unfold pairs
  simp only [List.mem_append, List.mem_map]
  constructor
  · rintro (⟨j, _, rfl⟩ | ⟨j, _, rfl⟩)
    · exact ⟨1, j, rfl⟩
    · exact ⟨0, j, rfl⟩
  · rintro ⟨p, j, rfl⟩
    match p with
    | 0 => exact .inr ⟨j, mem_sixteen j, rfl⟩
    | 1 => exact .inl ⟨j, mem_sixteen j, rfl⟩

theorem piece_congr {s : Shape} {e : EltTy} {off off' : Fin s.rank → ℕ} {size : Fin s.rank → ℕ} (h : off = off')
    (i : ∀ a, off a + size a ≤ s.size a) (i' : ∀ a, off' a + size a ≤ s.size a) (w : (⟨s.rank, size⟩ : Shape).Idx → Val e) :
    (⟨Rect.unit off size i, w⟩ : View.Piece Val s e) = ⟨Rect.unit off' size i', w⟩ := by
  subst h; rfl

/-- Two lists of tiles with equal offsets. -/
theorem pairs_of {s : Shape} {e : EltTy} {size : Fin s.rank → ℕ} {o1 o0 : Fin 16 → Fin s.rank → ℕ} {o : Fin 2 → Fin 16 → Fin s.rank → ℕ}
    (h1 : ∀ j, o1 j = o 1 j) (h0 : ∀ j, o0 j = o 0 j)
    (i1 : ∀ j a, o1 j a + size a ≤ s.size a) (i0 : ∀ j a, o0 j a + size a ≤ s.size a) (i : ∀ p j a, o p j a + size a ≤ s.size a)
    (w : Fin 2 → Fin 16 → (⟨s.rank, size⟩ : Shape).Idx → Val e) :
    sixteen.map (fun j => (⟨Rect.unit (o1 j) size (i1 j), w 1 j⟩ : View.Piece Val s e))
        ++ sixteen.map (fun j => (⟨Rect.unit (o0 j) size (i0 j), w 0 j⟩ : View.Piece Val s e))
      = pairs fun p j => ⟨Rect.unit (o p j) size (i p j), w p j⟩ := by
  unfold pairs
  rw [List.map_congr_left (fun j _ => piece_congr (h1 j) (i1 j) (i 1 j) (w 1 j)),
    List.map_congr_left (fun j _ => piece_congr (h0 j) (i0 j) (i 0 j) (w 0 j))]

/-- What a buffer reads after tiles that carry `G`. -/
theorem read_pairs {s : Shape} {e : EltTy} (v : View sig κ sp s e) (f : v.ty.Contents Val)
    (P : Fin 2 → Fin 16 → View.Piece Val s e) (G : s.Idx → Val e) (R : s.Idx → Prop) [DecidablePred R]
    (hG : ∀ p j x, (P p j).2 x = G ((P p j).1.emb x)) (hR : ∀ p j x, R ((P p j).1.emb x))
    (hc : ∀ y, R y → ∃ p j x, (P p j).1.emb x = y) (y : s.Idx) :
    v.read Val (v.writes Val f (pairs P)) y = if R y then G y else v.read Val f y := by
  by_cases hy : R y
  · rw [if_pos hy]
    refine View.read_writes_apply_of_pieces v f G _ ?_ y ?_
    · intro q hq
      obtain ⟨p, j, rfl⟩ := (mem_pairs P q).1 hq
      exact hG p j
    · obtain ⟨p, j, x, rfl⟩ := hc y hy
      exact ⟨P p j, (mem_pairs P _).2 ⟨p, j, rfl⟩, (P p j).1.toLoadRect.idx_mem x⟩
  · rw [if_neg hy]
    refine View.read_writes_apply_of_forall_not_mem v f y _ ?_
    intro q hq hm
    obtain ⟨p, j, rfl⟩ := (mem_pairs P q).1 hq
    obtain ⟨x, rfl⟩ := (P p j).1.toLoadRect.exists_idx_of_mem hm
    exact hy (hR p j x)

theorem inb_a (k : Fin 9) : ∀ (p : Fin 2) (j : Fin 16) a, (![0, 512 * k.val + 32 * j.val, 128 * p.val] : Fin 3 → ℕ) a + S1x32x128.size a ≤ S1x4608x256.size a := by
  intro p j a; have := j.isLt; have := p.isLt; have := k.isLt
  fin_cases a <;> simp [S1x32x128, S1x4608x256] <;> omega

/-- The tiles of such a store. -/
abbrev tiles_a (k : Fin 9) (w : Fin 2 → Fin 16 → S1x32x128.Idx → Val .i8) : List (View.Piece Val S1x4608x256 .i8) :=
  pairs fun p j => ⟨Rect.unit (s := S1x4608x256) (![0, 512 * k.val + 32 * j.val, 128 * p.val] : Fin 3 → ℕ) S1x32x128.size (inb_a k p j), w p j⟩

/-- A chunk of codes stored, tile by tile. -/
theorem read_a (v : View sig κ sp S1x4608x256 .i8) (f : v.ty.Contents Val) (k : Fin 9) (w : Fin 2 → Fin 16 → S1x32x128.Idx → Val .i8)
    (G : ℕ → ℕ → Val .i8) (hw : ∀ p j x, w p j x = G (512 * k.val + 32 * j.val + (x 1).val) (128 * p.val + (x 2).val)) (y : S1x4608x256.Idx) :
    v.read Val (v.writes Val f (tiles_a k w)) y
      = if 512 * k.val ≤ (y 1).val ∧ (y 1).val < 512 * k.val + 512 then G (y 1).val (y 2).val else v.read Val f y := by
  refine read_pairs v f _ (fun y => G (y 1).val (y 2).val) (fun y => 512 * k.val ≤ (y 1).val ∧ (y 1).val < 512 * k.val + 512) ?_ ?_ ?_ y
  · intro p j x
    refine (hw p j x).trans ?_
    have hx : (x 0).val = 0 := by have := (x 0).isLt; change (x 0).val < 1 at this; omega
    refine congrArg₂ G ?_ ?_ <;> (simp [Rect.emb_apply]; try omega)
  · intro p j x
    have h1 := (x 1).isLt; have hj := j.isLt
    have h1' : (x 1).val < 32 := h1
    have hx : (x 0).val = 0 := by have := (x 0).isLt; change (x 0).val < 1 at this; omega
    simp [Rect.emb_apply]; try omega
  · intro y hy
    have h2 : (y 2).val < 256 := (y 2).isLt
    have h0 : (y 0).val < 1 := (y 0).isLt
    refine ⟨⟨(y 2).val / 128, by omega⟩, ⟨((y 1).val - 512 * k.val) / 32, by omega⟩, ix3 (n0 := 1) (n1 := 32) (n2 := 128) 0 ⟨((y 1).val - 512 * k.val) % 32, Nat.mod_lt _ (by norm_num)⟩ ⟨(y 2).val % 128, Nat.mod_lt _ (by norm_num)⟩, ?_⟩
    funext a; apply Fin.ext
    fin_cases a <;> simp [Rect.emb_apply] <;> omega

theorem inb_h (k : Fin 9) : ∀ (p : Fin 2) (j : Fin 16) a, (![p.val, 512 * k.val + 32 * j.val, 0] : Fin 3 → ℕ) a + S1x32x128.size a ≤ S2x4608x128.size a := by
  intro p j a; have := j.isLt; have := p.isLt; have := k.isLt
  fin_cases a <;> simp [S1x32x128, S2x4608x128] <;> omega

/-- The tiles of such a store. -/
abbrev tiles_h (k : Fin 9) (w : Fin 2 → Fin 16 → S1x32x128.Idx → Val .f32) : List (View.Piece Val S2x4608x128 .f32) :=
  pairs fun p j => ⟨Rect.unit (s := S2x4608x128) (![p.val, 512 * k.val + 32 * j.val, 0] : Fin 3 → ℕ) S1x32x128.size (inb_h k p j), w p j⟩

/-- A chunk of the residual stream stored. -/
theorem read_h (v : View sig κ sp S2x4608x128 .f32) (f : v.ty.Contents Val) (k : Fin 9) (w : Fin 2 → Fin 16 → S1x32x128.Idx → Val .f32)
    (G : ℕ → ℕ → Val .f32) (hw : ∀ p j x, w p j x = G (512 * k.val + 32 * j.val + (x 1).val) (128 * p.val + (x 2).val)) (y : S2x4608x128.Idx) :
    v.read Val (v.writes Val f (tiles_h k w)) y
      = if 512 * k.val ≤ (y 1).val ∧ (y 1).val < 512 * k.val + 512 then G (y 1).val (128 * (y 0).val + (y 2).val) else v.read Val f y := by
  refine read_pairs v f _ (fun y => G (y 1).val (128 * (y 0).val + (y 2).val)) (fun y => 512 * k.val ≤ (y 1).val ∧ (y 1).val < 512 * k.val + 512) ?_ ?_ ?_ y
  · intro p j x
    refine (hw p j x).trans ?_
    have hx : (x 0).val = 0 := by have := (x 0).isLt; change (x 0).val < 1 at this; omega
    refine congrArg₂ G ?_ ?_ <;> (simp [Rect.emb_apply]; try omega)
  · intro p j x
    have h1 := (x 1).isLt; have hj := j.isLt
    have h1' : (x 1).val < 32 := h1
    have hx : (x 0).val = 0 := by have := (x 0).isLt; change (x 0).val < 1 at this; omega
    simp [Rect.emb_apply]; try omega
  · intro y hy
    have h2 : (y 2).val < 128 := (y 2).isLt
    have h0 : (y 0).val < 2 := (y 0).isLt
    refine ⟨⟨(y 0).val, h0⟩, ⟨((y 1).val - 512 * k.val) / 32, by omega⟩, ix3 (n0 := 1) (n1 := 32) (n2 := 128) 0 ⟨((y 1).val - 512 * k.val) % 32, Nat.mod_lt _ (by norm_num)⟩ ⟨(y 2).val, h2⟩, ?_⟩
    funext a; apply Fin.ext
    fin_cases a <;> simp [Rect.emb_apply] <;> omega

/-- The tiles of such a store. -/
abbrev tiles_c (w : Fin 2 → Fin 16 → S1x32x128.Idx → Val .f32) : List (View.Piece Val S2x576x128 .f32) :=
  pairs fun p j => ⟨Rect.unit (s := S2x576x128) (![p.val, 64 + 32 * j.val, 0] : Fin 3 → ℕ) S1x32x128.size (inb_c j p), w p j⟩

/-- A chunk stored in a sample buffer. -/
theorem read_c (v : View sig κ sp S2x576x128 .f32) (f : v.ty.Contents Val) (w : Fin 2 → Fin 16 → S1x32x128.Idx → Val .f32)
    (G : ℕ → ℕ → Val .f32) (hw : ∀ p j x, w p j x = G (64 + 32 * j.val + (x 1).val) (128 * p.val + (x 2).val)) (y : S2x576x128.Idx) :
    v.read Val (v.writes Val f (tiles_c w)) y
      = if 64 ≤ (y 1).val then G (y 1).val (128 * (y 0).val + (y 2).val) else v.read Val f y := by
  refine read_pairs v f _ (fun y => G (y 1).val (128 * (y 0).val + (y 2).val)) (fun y => 64 ≤ (y 1).val) ?_ ?_ ?_ y
  · intro p j x
    refine (hw p j x).trans ?_
    have hx : (x 0).val = 0 := by have := (x 0).isLt; change (x 0).val < 1 at this; omega
    refine congrArg₂ G ?_ ?_ <;> (simp [Rect.emb_apply]; try omega)
  · intro p j x
    have h1 := (x 1).isLt; have hj := j.isLt
    have h1' : (x 1).val < 32 := h1
    have hx : (x 0).val = 0 := by have := (x 0).isLt; change (x 0).val < 1 at this; omega
    simp [Rect.emb_apply]; try omega
  · intro y hy
    have h2 : (y 2).val < 128 := (y 2).isLt
    have h0 : (y 0).val < 2 := (y 0).isLt
    have h1 : (y 1).val < 576 := (y 1).isLt
    refine ⟨⟨(y 0).val, h0⟩, ⟨((y 1).val - 64) / 32, by omega⟩, ix3 (n0 := 1) (n1 := 32) (n2 := 128) 0 ⟨((y 1).val - 64) % 32, Nat.mod_lt _ (by norm_num)⟩ ⟨(y 2).val, h2⟩, ?_⟩
    funext a; apply Fin.ext
    fin_cases a <;> simp [Rect.emb_apply] <;> omega

theorem inb_q (k : Fin 9) (b : Fin 2) : ∀ (p : Fin 2) (j : Fin 16) a, (![b.val, p.val, 512 * k.val + 32 * j.val + 32, 0] : Fin 4 → ℕ) a + S1x1x32x128.size a ≤ S2x2x4672x128.size a := by
  intro p j a; have := j.isLt; have := p.isLt; have := k.isLt; have := b.isLt
  fin_cases a <;> simp [S1x1x32x128, S2x2x4672x128] <;> omega

/-- The tiles of such a store. -/
abbrev tiles_q (k : Fin 9) (b : Fin 2) (w : Fin 2 → Fin 16 → S1x1x32x128.Idx → Val .f32) : List (View.Piece Val S2x2x4672x128 .f32) :=
  pairs fun p j => ⟨Rect.unit (s := S2x2x4672x128) (![b.val, p.val, 512 * k.val + 32 * j.val + 32, 0] : Fin 4 → ℕ) S1x1x32x128.size (inb_q k b p j), w p j⟩

/-- A chunk of codes stored in one of the two padded buffers. -/
theorem read_q (v : View sig κ sp S2x2x4672x128 .f32) (f : v.ty.Contents Val) (k : Fin 9) (b : Fin 2) (w : Fin 2 → Fin 16 → S1x1x32x128.Idx → Val .f32)
    (G : ℕ → ℕ → Val .f32) (hw : ∀ p j x, w p j x = G (512 * k.val + 32 * j.val + 32 + (x 2).val) (128 * p.val + (x 3).val)) (y : S2x2x4672x128.Idx) :
    v.read Val (v.writes Val f (tiles_q k b w)) y
      = if (y 0).val = b.val ∧ 512 * k.val + 32 ≤ (y 2).val ∧ (y 2).val < 512 * k.val + 544 then G (y 2).val (128 * (y 1).val + (y 3).val) else v.read Val f y := by
  refine read_pairs v f _ (fun y => G (y 2).val (128 * (y 1).val + (y 3).val)) (fun y => (y 0).val = b.val ∧ 512 * k.val + 32 ≤ (y 2).val ∧ (y 2).val < 512 * k.val + 544) ?_ ?_ ?_ y
  · intro p j x
    refine (hw p j x).trans ?_
    have hx : (x 0).val = 0 ∧ (x 1).val = 0 := by have := (x 0).isLt; have h' := (x 1).isLt; change (x 0).val < 1 at this; change (x 1).val < 1 at h'; omega
    refine congrArg₂ G ?_ ?_ <;> (simp [Rect.emb_apply]; try omega)
  · intro p j x
    have h1 := (x 2).isLt; have hj := j.isLt
    have h1' : (x 2).val < 32 := h1
    have hx : (x 0).val = 0 ∧ (x 1).val = 0 := by have := (x 0).isLt; have h' := (x 1).isLt; change (x 0).val < 1 at this; change (x 1).val < 1 at h'; omega
    simp [Rect.emb_apply]; try omega
  · intro y hy
    have h2 : (y 3).val < 128 := (y 3).isLt
    have h0 : (y 1).val < 2 := (y 1).isLt
    refine ⟨⟨(y 1).val, h0⟩, ⟨((y 2).val - 512 * k.val - 32) / 32, by omega⟩, ix4 (n0 := 1) (n1 := 1) (n2 := 32) (n3 := 128) 0 0 ⟨((y 2).val - 512 * k.val - 32) % 32, Nat.mod_lt _ (by norm_num)⟩ ⟨(y 3).val, h2⟩, ?_⟩
    funext a; apply Fin.ext
    fin_cases a <;> simp [Rect.emb_apply] <;> omega

end Cert.KernelIdeal.Vals

end
-- ==== Proof.Scalars.lean ====
module

public import proofs.«01_k».proof.Proof.Tiles

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The same over the extended reals, at an element. -/

/-- A float constant's value. -/
abbrev lit (b : BitVec 32) : EReal := Ideal.ofBits FTy.f32 b

/-- Rounding to the nearest integer. -/
abbrev rnd (v : EReal) : EReal := Ideal.liftRound Ideal.roundHalfEven v

/-- The square of the distance of the phase `t` from a multiple of pi, shifted and scaled by itself. -/
def kArg (t : EReal) : EReal :=
  let n := rnd (t * lit 0x3EA2F983#32)
  let r := t - n * lit 0x40490000#32 - n * lit 0x3A7DAA22#32
  (r * r + lit 0xC21C5B90#32) * (r * r)

/-- The snake as the kernel evaluates it. -/
def kSnake (a b v : EReal) : EReal :=
  let z := kArg (v * a)
  let w := (z + lit 0x45159D9C#32) * z + lit 0x491476D4#32
  v + w * w * (z * Ideal.div (lit 0xA99BC752#32) b)

/-- The code as the kernel evaluates it. -/
def kCode (s a b v : EReal) : EReal :=
  rnd (min (lit 0x42FE0000#32) (max (lit 0xC2FE0000#32) (kSnake a b v * Ideal.div 1 s)))

/-- A code stored in eight bits. -/
def kI8 (v : EReal) : BitVec 8 := BitVec.setWidth 8 (FloatOps.fptosi (F := Ideal) (φ := .f32) 32 v)

theorem gCode_at (s : Ideal .f32) (a b : Vec Ideal S1x128 .f32) (h : FVec Ideal S32x128 .f32) (x : S32x128.Idx) :
    gCode (F := Ideal) (gInv s) (gRow a) (gK b) h x = kCode s (a (ix2 0 (x 1))) (b (ix2 0 (x 1))) (h x) := by
  pointwise [gCode, gSnake, gArg, gInv, gRow, gK, kCode, kSnake, kArg]
  first | rfl | skip

theorem gH_at (X : Vec Ideal S1x32x128 .f32) (x : S32x128.Idx) : gH (F := Ideal) X x = X (ix3 0 (x 0) (x 1)) := by
  pointwise [gH]

theorem gI8_at (c : FVec Ideal S32x128 .f32) (x : S1x32x128.Idx) : gI8 (F := Ideal) c x = kI8 (c (ix2 (x 1) (x 2))) := by
  pointwise [gI8, kI8]

theorem gC_at (C : S2x576x128.Idx → Elt Ideal .f32) (j : Fin 16) (p : Fin 2) (x : S1x32x128.Idx) :
    gC (F := Ideal) C j p x = C (ix3 p ⟨64 + 32 * j.val + (x 1).val, by have := (x 1).isLt; have := j.isLt; change (x 1).val < 32 at *; omega⟩ (x 2)) := by
  pointwise [gC]

end Cert.KernelIdeal.Vals

end
-- ==== Proof.Conv.lean ====
module

public import proofs.«01_k».proof.Proof.Scalars

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The products, at an element. -/

theorem gTap_at (v : FVec Ideal S128x512 .f32) (w : Vec Ideal S1x512x256 .bf16) (x : S128x256.Idx) :
    gTap (F := Ideal) v w x = ∑ c : Fin 512, v (ix2 (x 0) c) * w (ix3 0 c (x 1)) := by
  pointwise [gTap]

theorem gFrames_at (A : Fin 4 → Vec Ideal S1x128x128 .f32) (Q : ℕ → ℕ → EReal) (r : ℕ)
    (hA : ∀ p x, A p x = Q (r + (x 1).val) (128 * p.val + (x 2).val)) (i : Fin 128) (c : Fin 512) :
    gFrames (F := Ideal) (A 0) (A 1) (A 2) (A 3) (ix2 i c) = Q (r + i.val) c.val := by
  pointwise [gFrames]
  split_ifs <;> rw [hA] <;> congr 1 <;> simp <;> omega

theorem gPhase_at (s : Ideal .f32) (acc : FVec Ideal S128x256 .f32) (p : Fin 2) (w b : Vec Ideal S1x128 .f32) (x : S128x128.Idx) :
    gPhase (F := Ideal) s acc p w b x
      = acc (ix2 (x 0) ⟨128 * p.val + (x 1).val, by have := (x 1).isLt; have := p.isLt; change (x 1).val < 128 at *; omega⟩) * (s * w (ix2 0 (x 1))) + b (ix2 0 (x 1)) := by
  fin_cases p
  · pointwise [gPhase, gRow]
  · pointwise [gPhase, gRow]

end Cert.KernelIdeal.Vals

end
-- ==== Proof.Phase.lean ====
module

public import proofs.«01_k».proof.Proof.Conv

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The sample buffer after the stores of the four phases. -/

variable {κ : Kind} {sp : Space}

theorem phasePiece_emb (Y : Fin 4 → Fin 2 → FVec Ideal S128x128 .f32) (r : Fin 4) (p : Fin 2) (x : (phasePiece (F := Ideal) Y r p).1.shape.Idx) :
    ((phasePiece (F := Ideal) Y r p).1.emb x 0).val = p.val ∧ ((phasePiece (F := Ideal) Y r p).1.emb x 1).val = 64 + r.val + 4 * (x 1).val
      ∧ ((phasePiece (F := Ideal) Y r p).1.emb x 2).val = (x 2).val := by
  have h0 : (x 0).val < 1 := (x 0).isLt
  unfold phasePiece
  refine ⟨?_, ?_, ?_⟩
  · show p.val + 0 + 1 * (x 0).val = _
    omega
  · show 0 + (64 + r.val) + 4 * (x 1).val = _
    omega
  · show 0 + 0 + 1 * (x 2).val = _
    omega

theorem phasePiece_val (Y : Fin 4 → Fin 2 → FVec Ideal S128x128 .f32) (r : Fin 4) (p : Fin 2) (x : (phasePiece (F := Ideal) Y r p).1.shape.Idx) :
    (phasePiece (F := Ideal) Y r p).2 x = Y r p (ix2 (n0 := 128) (n1 := 128) ⟨(x 1).val, (x 1).isLt⟩ ⟨(x 2).val, (x 2).isLt⟩) := by
  refine Rect.payAlong_consLift _ _ _ _ _ _ _ _ ?_
  intro i; fin_cases i <;> rfl

theorem tailPiece_emb (C : S2x576x128.Idx → EReal) (p : Fin 2) (x : (tailPiece (F := Ideal) C p).1.shape.Idx) :
    ((tailPiece (F := Ideal) C p).1.emb x 0).val = p.val ∧ ((tailPiece (F := Ideal) C p).1.emb x 1).val = (x 1).val
      ∧ ((tailPiece (F := Ideal) C p).1.emb x 2).val = (x 2).val := by
  have h0 : (x 0).val < 1 := (x 0).isLt
  unfold tailPiece
  simp only [Rect.emb_apply]
  refine ⟨?_, ?_, ?_⟩
  · show p.val + 1 * (x 0).val = _
    omega
  · show 0 + 1 * (x 1).val = _
    omega
  · show 0 + 1 * (x 2).val = _
    omega

theorem tailPiece_val (C : S2x576x128.Idx → EReal) (p : Fin 2) (x : S1x64x128.Idx) :
    (tailPiece (F := Ideal) C p).2 x = C (ix3 p ⟨512 + (x 1).val, by have := (x 1).isLt; change (x 1).val < 64 at this; omega⟩ (x 2)) := by
  unfold tailPiece
  pointwise

/-- The buffer after the phases: the new chunk from row 64 on. -/
theorem read_phases (v : View sig κ sp S2x576x128 .f32) (f : v.ty.Contents (Elt Ideal)) (Y : Fin 4 → Fin 2 → FVec Ideal S128x128 .f32)
    (C : S2x576x128.Idx → EReal) (G : ℕ → ℕ → EReal)
    (hY : ∀ r p x, Y r p x = G (4 * (x 0).val + r.val) (128 * p.val + (x 1).val)) (y : S2x576x128.Idx) (hy : 64 ≤ (y 1).val) :
    v.read (Elt Ideal) (v.writes (Elt Ideal) f (phasePieces (F := Ideal) Y C)) y = G ((y 1).val - 64) (128 * (y 0).val + (y 2).val) := by
  let G' : S2x576x128.Idx → EReal := fun y => if 64 ≤ (y 1).val then G ((y 1).val - 64) (128 * (y 0).val + (y 2).val) else C (ix3 (n0 := 2) (n1 := 576) (n2 := 128) (y 0) ⟨(512 + (y 1).val) % 576, Nat.mod_lt _ (by norm_num)⟩ (y 2))
  have hp : ∀ r p x, (phasePiece (F := Ideal) Y r p).2 x = G' ((phasePiece (F := Ideal) Y r p).1.emb x) := by
    intro r p x
    obtain ⟨h0, h1, h2⟩ := phasePiece_emb Y r p x
    rw [phasePiece_val, hY]
    simp only [G']
    rw [if_pos (by omega), h0, h1, h2]
    congr 1
    show 4 * (x 1).val + r.val = _
    omega
  have ht : ∀ p x, (tailPiece (F := Ideal) C p).2 x = G' ((tailPiece (F := Ideal) C p).1.emb x) := by
    intro p x
    obtain ⟨h0, h1, h2⟩ := tailPiece_emb C p x
    have hx : (x 1).val < 64 := (x 1).isLt
    refine (tailPiece_val C p x).trans ?_
    simp only [G']
    rw [if_neg (by omega)]
    congr 1
    funext a; apply Fin.ext
    match a with
    | 0 => exact h0.symm
    | 1 => show 512 + (x 1).val = (512 + ((tailPiece (F := Ideal) C p).1.emb x 1).val) % 576; rw [h1, Nat.mod_eq_of_lt (by omega)]
    | 2 => exact h2.symm
  have := View.read_writes_apply_of_pieces v f G' (phasePieces (F := Ideal) Y C) (by
    intro q hq
    simp only [phasePieces, List.mem_cons, List.not_mem_nil, or_false] at hq
    rcases hq with h | h | h | h | h | h | h | h | h | h <;> subst h <;> first | exact hp _ _ | exact ht _) y (by
    have h1 : (y 1).val < 576 := (y 1).isLt
    have h0 : (y 0).val < 2 := (y 0).isLt
    have key : ∀ r : Fin 4, ∀ p : Fin 2, r.val = (y 1).val % 4 → p.val = (y 0).val → y ∈ (phasePiece (F := Ideal) Y r p).1.set := by
      intro r p hr hp
      have : (phasePiece (F := Ideal) Y r p).1.emb (ix3 (n0 := 1) (n1 := 128) (n2 := 128) 0 ⟨((y 1).val - 64) / 4, by omega⟩ (y 2)) = y := by
        obtain ⟨e0, e1, e2⟩ := phasePiece_emb Y r p (ix3 (n0 := 1) (n1 := 128) (n2 := 128) 0 ⟨((y 1).val - 64) / 4, by omega⟩ (y 2))
        funext a; apply Fin.ext
        match a with
        | 0 => exact e0.trans hp
        | 1 => refine e1.trans ?_; show 64 + r.val + 4 * (((y 1).val - 64) / 4) = (y 1).val; omega
        | 2 => exact e2
      rw [← this]
      exact (phasePiece (F := Ideal) Y r p).1.toLoadRect.idx_mem _
    have hr : (y 1).val % 4 < 4 := Nat.mod_lt _ (by norm_num)
    refine ⟨phasePiece Y ⟨(y 1).val % 4, hr⟩ ⟨(y 0).val, h0⟩, ?_, key _ _ rfl rfl⟩
    generalize (⟨(y 1).val % 4, hr⟩ : Fin 4) = r
    generalize (⟨(y 0).val, h0⟩ : Fin 2) = p
    fin_cases r <;> fin_cases p <;> simp [phasePieces])
  rw [this]
  simp only [G']
  rw [if_pos hy]

end Cert.KernelIdeal.Vals

end
-- ==== Proof.Model.lean ====
module

public import proofs.«01_k».proof.Proof.Phase

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! What the body computes of one item, as functions of time and channel. -/

/-- A code's value. -/
abbrev dec (b : BitVec 8) : EReal := FloatOps.sitofp (F := Ideal) .f32 b

/-- The transposed convolution of the padded codes `Q` (eight rows before the first). -/
def tconv (Q : ℕ → ℕ → EReal) (W : ℕ → ℕ → ℕ → EReal) (t o : ℕ) : EReal :=
  (∑ c : Fin 512, Q (t / 4 + 8) c.val * W (2 + t % 4) c.val o)
    + ∑ c : Fin 512, Q (if t % 4 < 2 then t / 4 + 7 else t / 4 + 9) c.val * W (if t % 4 < 2 then 6 + t % 4 else t % 4 - 2) c.val o

/-- One tap of the dilated convolution of the padded codes `Q` (32 rows before the first). -/
def tapSum (d : ℕ) (Q : ℕ → ℕ → EReal) (W : ℕ → ℕ → ℕ → EReal) (k t o : ℕ) : EReal :=
  ∑ c : Fin 256, Q (t + (32 - 3 * d) + k * d) c.val * W k c.val o

/-- The dilated convolution. -/
def dconv (d : ℕ) (Q : ℕ → ℕ → EReal) (W : ℕ → ℕ → ℕ → EReal) (t o : ℕ) : EReal :=
  tapSum d Q W 0 t o + tapSum d Q W 1 t o + tapSum d Q W 2 t o + tapSum d Q W 3 t o + tapSum d Q W 4 t o + tapSum d Q W 5 t o + tapSum d Q W 6 t o

/-- The product with one matrix. -/
def pconv (Q : ℕ → ℕ → EReal) (W : ℕ → ℕ → EReal) (t o : ℕ) : EReal :=
  ∑ c : Fin 256, Q t c.val * W c.val o

/-- An accumulator scaled and shifted. -/
def affine (acc : ℕ → ℕ → EReal) (s : EReal) (w b : ℕ → EReal) (t o : ℕ) : EReal := acc t o * (s * w o) + b o

end Cert.KernelIdeal.Vals

end
-- ==== Proof.Units.lean ====
module

public import proofs.«01_k».proof.Proof.Scalars

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

variable {F : FTy → Type} [FloatOps F]

/-! The vector expressions of a unit, each written once. -/

/-- Two lane blocks side by side. -/
def gPair (A B : Vec F S1x1x512x128 .f32) : FVec F S512x256 .f32 :=
  concatenate S512x256 1 [⟨S512x128, shapeCast S512x128 A shapeCasts_S1x1x512x128_S512x128⟩, ⟨S512x128, shapeCast S512x128 B shapeCasts_S1x1x512x128_S512x128⟩]
    concatenates_S512x128_S512x128_S512x256_d1

/-- One tap of the dilated convolution. -/
def gTap7 (v : FVec F S512x256 .f32) (w : Vec F S1x1x256x256 .bf16) : FVec F S512x256 .f32 :=
  matmul dot_S512x256_S256x256_S512x256_1_0_0_1_n_n none v (shapeCast S256x256 w shapeCasts_S1x1x256x256_S256x256) (constant S512x256 FTy.f32 0#32)

/-- The seven taps. -/
def gDil (A B : Fin 7 → Vec F S1x1x512x128 .f32) (w : Fin 7 → Vec F S1x1x256x256 .bf16) : FVec F S512x256 .f32 :=
  addf (addf (addf (addf (addf (addf (gTap7 (gPair (A 0) (B 0)) (w 0)) (gTap7 (gPair (A 1) (B 1)) (w 1))) (gTap7 (gPair (A 2) (B 2)) (w 2)))
    (gTap7 (gPair (A 3) (B 3)) (w 3))) (gTap7 (gPair (A 4) (B 4)) (w 4))) (gTap7 (gPair (A 5) (B 5)) (w 5))) (gTap7 (gPair (A 6) (B 6)) (w 6))

/-- The product of the codes with one matrix. -/
def gPt (q : Vec F S1x512x256 .i8) (w : Vec F S1x256x256 .bf16) : FVec F S512x256 .f32 :=
  matmul dot_S512x256_S256x256_S512x256_1_0_0_1_n_n none
    (truncf .bf16 (sitofp .f32 (shapeCast S512x256 q shapeCasts_S1x512x256_S512x256)) bitsLt_bf16_f32) (shapeCast S256x256 w shapeCasts_S1x256x256_S256x256) (constant S512x256 FTy.f32 0#32)

theorem tile_ok (p : Fin 2) (j : Fin 16) : S512x256.Slices ![32 * j.val, 128 * p.val] S32x128 := by
  revert p j; decide

theorem inb_w7 (u : Fin 3) (n : Fin 7) (a : Fin 4) : (![u.val, n.val, 0, 0] : Fin 4 → ℕ) a + S1x1x256x256.size a ≤ S3x7x256x256.size a := by
  have := u.isLt; have := n.isLt
  match a with
  | 0 => show u.val + 1 ≤ 3; omega
  | 1 => show n.val + 1 ≤ 7; omega
  | 2 => show 0 + 256 ≤ 256; omega
  | 3 => show 0 + 256 ≤ 256; omega

/-- A tile of an accumulator, scaled and shifted. -/
def gLin (acc : FVec F S512x256 .f32) (p : Fin 2) (j : Fin 16) (s : F .f32) (w b : Vec F S1x128 .f32) : FVec F S32x128 .f32 :=
  addf (mulf (extractStridedSlice S32x128 ![32 * j.val, 128 * p.val] acc (tile_ok p j)) (over (mulf (broadcast S1x128 s) w))) (over b)

/-- A tile of the residual stream and what is added to it. -/
def gSum (X : Vec F S1x32x128 .f32) (e : FVec F S32x128 .f32) : FVec F S32x128 .f32 :=
  addf (shapeCast S32x128 X shapeCasts_S1x32x128_S32x128) e

/-- The residual stream as it is kept. -/
def gBF (z : FVec F S32x128 .f32) : FVec F S32x128 .f32 := extf .f32 (truncf .bf16 z bitsLt_bf16_f32) bitsLt_bf16_f32

end Cert.KernelIdeal.Vals

end
-- ==== Proof.List1.lean ====
module

public import proofs.«01_k».proof.Proof.Units
public import proofs.«01_k».proof.Proof.Tiles
public import proofs.«01_k».proof.Proof.Gen.KernelIdeal.Loops

@[expose] public section

set_option maxRecDepth 16384
set_option maxHeartbeats 1000000

noncomputable section

namespace Cert.KernelIdeal.Vals

open Cert.KernelIdeal Cert.KernelIdeal.Gen
open Idealize.ShloMosaic Idealize.ShloMosaic.TcCoe Idealize.ShloMosaic.Tactic

/-! The stores of the first and of the last loop. -/

section
variable {Val : EltTy → Type} {κ : Kind} {sp : Space}

/-- What a buffer reads after tiles that carry `G`, the tiles given by an indexing of the list. -/
theorem read_tiles {ι : Type} {s : Shape} {e : EltTy} (v : View sig κ sp s e) (f : v.ty.Contents Val)
    (L : List (View.Piece Val s e)) (P : ι → View.Piece Val s e) (hP : ∀ q, q ∈ L ↔ ∃ i, q = P i) (G : s.Idx → Val e) (R : s.Idx → Prop) [DecidablePred R]
    (hG : ∀ i x, (P i).2 x = G ((P i).1.emb x)) (hR : ∀ i x, R ((P i).1.emb x))
    (hc : ∀ y, R y → ∃ i x, (P i).1.emb x = y) (y : s.Idx) :
    v.read Val (v.writes Val f L) y = if R y then G y else v.read Val f y := by
  by_cases hy : R y
  · rw [if_pos hy]
    refine View.read_writes_apply_of_pieces v f G _ ?_ y ?_
    · intro q hq
      obtain ⟨i, rfl⟩ := (hP q).1 hq
      exact hG i
    · obtain ⟨i, x, rfl⟩ := hc y hy
      exact ⟨P i, (hP _).2 ⟨i, rfl⟩, (P i).1.toLoadRect.idx_mem x⟩
  · rw [if_neg hy]
    refine View.read_writes_apply_of_forall_not_mem v f y _ ?_
    intro q hq hm
    obtain ⟨i, rfl⟩ := (hP q).1 hq
    obtain ⟨x, rfl⟩ := (P i).1.toLoadRect.exists_idx_of_mem hm
    exact hy (hR i x)

/-- Four tiles of each of four lane blocks, latest store first. -/
def quads {s : Shape} {e : EltTy} (P : Fin 4 → Fin 4 → View.Piece Val s e) : List (View.Piece Val s e) :=
  [P 3 3, P 3 2, P 3 1, P 3 0, P 2 3, P 2 2, P 2 1, P 2 0, P 1 3, P 1 2, P 1 1, P 1 0, P 0 3, P 0 2, P 0 1, P 0 0]

theorem mem_quads {s : Shape} {e : EltTy} (P : Fin 4 → Fin 4 → View.Piece Val s e) (q : View.Piece Val s e) :
    q ∈ quads P ↔ ∃ i : Fin 4 × Fin 4, q = P i.1 i.2 := by
  unfold quads
  constructor
  · intro h
    simp only [List.mem_cons, List.not_mem_nil, or_false] at h
    rcases h with h | h | h | h | h | h | h | h | h | h | h | h | h | h | h | h
    exacts [⟨(3, 3), h⟩, ⟨(3, 2), h⟩, ⟨(3, 1), h⟩, ⟨(3, 0), h⟩, ⟨(2, 3), h⟩, ⟨(2, 2), h⟩, ⟨(2, 1), h⟩, ⟨(2, 0), h⟩,
      ⟨(1, 3), h⟩, ⟨(1, 2), h⟩, ⟨(1, 1), h⟩, ⟨(1, 0), h⟩, ⟨(0, 3), h⟩, ⟨(0, 2), h⟩, ⟨(0, 1), h⟩, ⟨(0, 0), h⟩]
  · rintro ⟨⟨p, j⟩, rfl⟩
    fin_cases p <;> fin_cases j <;> simp

theorem inb_x (k : Fin 9) (p j : Fin 4) : ∀ a, (![0, 128 * k.val + 32 * j.val, 128 * p.val] : Fin 3 → ℕ) a + S1x32x128.size a ≤ S1x1152x512.size a := by
  intro a; have := j.isLt; have := p.isLt; have := k.isLt
  fin_cases a <;> simp [S1x32x128, S1x1152x512] <;> omega

theorem inb_p (k : Fin 9) (p j : Fin 4) : ∀ a, (![p.val, 128 * k.val + 32 * j.val + 8, 0] : Fin 3 → ℕ) a + S1x32x128.size a ≤ S4x1168x128.size a := by
  intro a; have := j.isLt; have := p.isLt; have := k.isLt
  fin_cases a <;> simp [S1x32x128, S4x1168x128] <;> omega

theorem inb_row4 (p : Fin 4) (a : Fin 2) : (![0, 128 * p.val] : Fin 2 → ℕ) a + S1x128.size a ≤ S1x512.size a := by
  have := p.isLt
  match a with
  | 0 => show 0 + 1 ≤ 1; omega
  | 1 => show 128 * p.val + 128 ≤ 512; omega

abbrev tiles_x (k : Fin 9) (w : Fin 4 → Fin 4 → S1x32x128.Idx → Val .i8) : List (View.Piece Val S1x1152x512 .i8) :=
  quads fun p j => ⟨Rect.unit (s := S1x1152x512) (![0, 128 * k.val + 32 * j.val, 128 * p.val] : Fin 3 → ℕ) S1x32x128.size (inb_x k p j), w p j⟩

abbrev tiles_p (k : Fin 9) (w : Fin 4 → Fin 4 → S1x32x128.Idx → Val .f32) : List (View.Piece Val S4x1168x128 .f32) :=
  quads fun p j => ⟨Rect.unit (s := S4x1168x128) (![p.val, 128 * k.val + 32 * j.val + 8, 0] : Fin 3 → ℕ) S1x32x128.size (inb_p k p j), w p j⟩

theorem read_x (v : View sig κ sp S1x1152x512 .i8) (f : v.ty.Contents Val) (k : Fin 9) (w : Fin 4 → Fin 4 → S1x32x128.Idx → Val .i8)
    (G : ℕ → ℕ → Val .i8) (hw : ∀ p j x, w p j x = G (128 * k.val + 32 * j.val + (x 1).val) (128 * p.val + (x 2).val)) (y : S1x1152x512.Idx) :
    v.read Val (v.writes Val f (tiles_x k w)) y
      = if 128 * k.val ≤ (y 1).val ∧ (y 1).val < 128 * k.val + 128 then G (y 1).val (y 2).val else v.read Val f y := by
  refine read_tiles v f _ _ (mem_quads _) (fun y => G (y 1).val (y 2).val) (fun y => 128 * k.val ≤ (y 1).val ∧ (y 1).val < 128 * k.val + 128) ?_ ?_ ?_ y
  · intro ⟨p, j⟩ x
    refine (hw p j x).trans ?_
    have hx : (x 0).val = 0 := by have := (x 0).isLt; change (x 0).val < 1 at this; omega
    refine congrArg₂ G ?_ ?_ <;> (simp [Rect.emb_apply]; try omega)
  · intro ⟨p, j⟩ x
    have h1 := (x 1).isLt; have hj := j.isLt
    have h1' : (x 1).val < 32 := h1
    simp [Rect.emb_apply]; try omega
  · intro y hy
    have h2 : (y 2).val < 512 := (y 2).isLt
    have h0 : (y 0).val < 1 := (y 0).isLt
    refine ⟨(⟨(y 2).val / 128, by omega⟩, ⟨((y 1).val - 128 * k.val) / 32, by omega⟩), ix3 (n0 := 1) (n1 := 32) (n2 := 128) 0 ⟨((y 1).val - 128 * k.val) % 32, Nat.mod_lt _ (by norm_num)⟩ ⟨(y 2).val % 128, Nat.mod_lt _ (by norm_num)⟩, ?_⟩
    funext a; apply Fin.ext
    fin_cases a <;> simp [Rect.emb_apply] <;> omega

theorem read_p (v : View sig κ sp S4x1168x128 .f32) (f : v.ty.Contents Val) (k : Fin 9) (w : Fin 4 → Fin 4 → S1x32x128.Idx → Val .f32)
    (G : ℕ → ℕ → Val .f32) (hw : ∀ p j x, w p j x = G (128 * k.val + 32 * j.val + 8 + (x 1).val) (128 * p.val + (x 2).val)) (y : S4x1168x128.Idx) :
    v.read Val (v.writes Val f (tiles_p k w)) y
      = if 128 * k.val + 8 ≤ (y 1).val ∧ (y 1).val < 128 * k.val + 136 then G (y 1).val (128 * (y 0).val + (y 2).val) else v.read Val f y := by
  refine read_tiles v f _ _ (mem_quads _) (fun y => G (y 1).val (128 * (y 0).val + (y 2).val)) (fun y => 128 * k.val + 8 ≤ (y 1).val ∧ (y 1).val < 128 * k.val + 136) ?_ ?_ ?_ y
  · intro ⟨p, j⟩ x
    refine (hw p j x).trans ?_
    have hx : (x 0).val = 0 := by have := (x 0).isLt; change (x 0).val < 1 at this; omega
    refine congrArg₂ G ?_ ?_ <;> (simp [Rect.emb_apply]; try omega)
  · intro ⟨p, j⟩ x
    have h1 := (x 1).isLt; have hj := j.isLt
    have h1' : (x 1).val < 32 := h1
    simp [Rect.emb_apply]; try omega
  · intro y hy
    have h2 : (y 2).val < 128 := (y 2).isLt
    have h0 : (y 0).val < 4 := (y 0).isLt
    refine ⟨(⟨(y 0).val, h0⟩, ⟨((y 1).val - 128 * k.val - 8) / 32, by omega⟩), ix3 (n0 := 1) (n1 := 32) (n2 := 128) 0 ⟨((y 1).val - 128 * k.val - 8) % 32, Nat.mod_lt _ (by norm_num)⟩ ⟨(y 2).val, h2⟩, ?_⟩
    funext a; apply Fin.ext
    fin_cases a <;> simp [Rect.emb_apply] <;> omega

theorem inb_o (k : Fin 70) (p : Fin 2) : ∀ a, (![0, 64 * k.val, 128 * p.val] : Fin 3 → ℕ) a + S1x64x128.size a ≤ S1x4480x256.size a := by
  intro a; have := p.isLt; have := k.isLt
  fin_cases a <;> simp [S1x64x128, S1x4480x256] <;> omega

abbrev tiles_o {e : EltTy} (k : Fin 70) (w : Fin 2 → S1x64x128.Idx → Val e) : List (View.Piece Val S1x4480x256 e) :=
  [⟨Rect.unit (s := S1x4480x256) (![0, 64 * k.val, 128 * (1 : Fin 2).val] : Fin 3 → ℕ) S1x64x128.size (inb_o k 1), w 1⟩,
    ⟨Rect.unit (s := S1x4480x256) (![0, 64 * k.val, 128 * (0 : Fin 2).val] : Fin 3 → ℕ) S1x64x128.size (inb_o k 0), w 0⟩]

theorem read_o {e : EltTy} (v : View sig κ sp S1x4480x256 e) (f : v.ty.Contents Val) (k : Fin 70) (w : Fin 2 → S1x64x128.Idx → Val e)
    (G : ℕ → ℕ → Val e) (hw : ∀ p x, w p x = G (64 * k.val + (x 1).val) (128 * p.val + (x 2).val)) (y : S1x4480x256.Idx) :
    v.read Val (v.writes Val f (tiles_o k w)) y
      = if 64 * k.val ≤ (y 1).val ∧ (y 1).val < 64 * k.val + 64 then G (y 1).val (y 2).val else v.read Val f y := by
  refine read_tiles v f _ (fun p : Fin 2 => ⟨Rect.unit (s := S1x4480x256) (![0, 64 * k.val, 128 * p.val] : Fin 3 → ℕ) S1x64x128.size (inb_o k p), w p⟩) ?_
    (fun y => G (y 1).val (y 2).val) (fun y => 64 * k.val ≤ (y 1).val ∧ (y 1).val < 64 * k.val + 64) ?_ ?_ ?_ y
  · intro q
    simp only [List.mem_cons, List.not_mem_nil, or_false]
    constructor
    · rintro (h | h)
      exacts [⟨1, h⟩, ⟨0, h⟩]
    · rintro ⟨p, rfl⟩
      fin_cases p
      exacts [.inr rfl, .inl rfl]
  · intro p x
    refine (hw p x).trans ?_
    have hx : (x 0).val = 0 := by have := (x 0).isLt; change (x 0).val < 1 at this; omega
    refine congrArg₂ G ?_ ?_ <;> (simp [Rect.emb_apply]; try omega)
  · intro p x
    have h1' : (x 1).val < 64 := (x 1).isLt
    simp [Rect.emb_apply]; try omega
  · intro y hy
    have h2 : (y 2).val < 256 := (y 2).isLt
    have h0 : (y 0).val < 1 := (y 0).isLt
    refine ⟨⟨(y 2).val / 128, by omega⟩, ix3 (n0 := 1) (n1 := 64) (n2 := 128) 0 ⟨((y 1).val - 64 * k.val), by omega⟩ ⟨(y 2).val % 128, Nat.mod_lt _ (by norm_num)⟩, ?_⟩
    funext a; apply Fin.ext
    fin_cases a <;> simp [Rect.emb_apply] <;> omega

end

variable {F : FTy → Type} [FloatOps F]

def gX (X : Vec F S1x32x128 .bf16) : FVec F S32x128 .f32 := extf .f32 (shapeCast S32x128 X shapeCasts_S1x32x128_S32x128) bitsLt_bf16_f32

/-- The stored code read back as a float. -/
def gDec (c : FVec F S32x128 .f32) : Vec F S1x32x128 .f32 :=
  shapeCast S1x32x128 (sitofp .f32 (trunci 8 (fptosi 32 c) natLt_8_32)) shapeCasts_S32x128_S1x32x128

/-- The output's code. -/
def gOut (s : F .f32) (X : Vec F S1x64x128 .f32) : Vec F S1x64x128 .i8 :=
  shapeCast S1x64x128 (trunci 8 (fptosi 32 (roundeven (minimumf (broadcast S64x128 (Scalar.ofBits .f32 0x42FE0000#32))
    (maximumf (broadcast S64x128 (Scalar.ofBits .f32 0xC2FE0000#32)) (mulf (shapeCast S64x128 X shapeCasts_S1x64x128_S64x128)
      (broadcastTo S64x128 (gInv s) broadcasts_S1x128_S64x128)))))) natLt_8_32) shapeCasts_S64x128_S1x64x128

def gY (X : Vec F S1x64x128 .f32) : Vec F S1x64x128 .bf16 :=
  shapeCast S1x64x128 (truncf .bf16 (shapeCast S64x128 X shapeCasts_S1x64x128_S64x128) bitsLt_bf16_f32) shapeCasts_S64x128_S1x64x128

/-- A tile of the input. -/
def tileX (k : Fin k0_t1_loop.trips) (X : S1x1152x512.Idx → Elt F .bf16) (p j : Fin 4) : Vec F S1x32x128 .bf16 :=
  match p with
  | 0 => View.ld X (Rect.unit (k0_off1 k (BitVec.ofNat 32 (32 * j.val))) S1x32x128.size (k0_off1_inb k j))
  | 1 => View.ld X (Rect.unit (k0_off3 k (BitVec.ofNat 32 (32 * j.val))) S1x32x128.size (k0_off3_inb k j))
  | 2 => View.ld X (Rect.unit (k0_off5 k (BitVec.ofNat 32 (32 * j.val))) S1x32x128.size (k0_off5_inb k j))
  | 3 => View.ld X (Rect.unit (k0_off7 k (BitVec.ofNat 32 (32 * j.val))) S1x32x128.size (k0_off7_inb k j))

/-- A block of the residual stream. -/
def tileO (k : Fin k0_t6_loop.trips) (H : S2x4608x128.Idx → Elt F .f32) (p : Fin 2) : Vec F S1x64x128 .f32 :=
  match p with
  | 0 => View.ld H (Rect.unit (k0_off56 k) S1x64x128.size (k0_off56_inb k))
  | 1 => View.ld H (Rect.unit (k0_off58 k) S1x64x128.size (k0_off58_inb k))

theorem quads_x (k : Fin k0_t1_loop.trips) (w : Fin 4 → Fin 4 → S1x32x128.Idx → Elt F .i8) :
    ([⟨Rect.unit (k0_off7 k (BitVec.ofNat 32 (32 * (3 : Fin 4).val))) S1x32x128.size (k0_off7_inb k 3), w 3 3⟩, ⟨Rect.unit (k0_off7 k (BitVec.ofNat 32 (32 * (2 : Fin 4).val))) S1x32x128.size (k0_off7_inb k 2), w 3 2⟩, ⟨Rect.unit (k0_off7 k (BitVec.ofNat 32 (32 * (1 : Fin 4).val))) S1x32x128.size (k0_off7_inb k 1), w 3 1⟩, ⟨Rect.unit (k0_off7 k (BitVec.ofNat 32 (32 * (0 : Fin 4).val))) S1x32x128.size (k0_off7_inb k 0), w 3 0⟩, ⟨Rect.unit (k0_off5 k (BitVec.ofNat 32 (32 * (3 : Fin 4).val))) S1x32x128.size (k0_off5_inb k 3), w 2 3⟩, ⟨Rect.unit (k0_off5 k (BitVec.ofNat 32 (32 * (2 : Fin 4).val))) S1x32x128.size (k0_off5_inb k 2), w 2 2⟩, ⟨Rect.unit (k0_off5 k (BitVec.ofNat 32 (32 * (1 : Fin 4).val))) S1x32x128.size (k0_off5_inb k 1), w 2 1⟩, ⟨Rect.unit (k0_off5 k (BitVec.ofNat 32 (32 * (0 : Fin 4).val))) S1x32x128.size (k0_off5_inb k 0), w 2 0⟩, ⟨Rect.unit (k0_off3 k (BitVec.ofNat 32 (32 * (3 : Fin 4).val))) S1x32x128.size (k0_off3_inb k 3), w 1 3⟩, ⟨Rect.unit (k0_off3 k (BitVec.ofNat 32 (32 * (2 : Fin 4).val))) S1x32x128.size (k0_off3_inb k 2), w 1 2⟩, ⟨Rect.unit (k0_off3 k (BitVec.ofNat 32 (32 * (1 : Fin 4).val))) S1x32x128.size (k0_off3_inb k 1), w 1 1⟩, ⟨Rect.unit (k0_off3 k (BitVec.ofNat 32 (32 * (0 : Fin 4).val))) S1x32x128.size (k0_off3_inb k 0), w 1 0⟩, ⟨Rect.unit (k0_off1 k (BitVec.ofNat 32 (32 * (3 : Fin 4).val))) S1x32x128.size (k0_off1_inb k 3), w 0 3⟩, ⟨Rect.unit (k0_off1 k (BitVec.ofNat 32 (32 * (2 : Fin 4).val))) S1x32x128.size (k0_off1_inb k 2), w 0 2⟩, ⟨Rect.unit (k0_off1 k (BitVec.ofNat 32 (32 * (1 : Fin 4).val))) S1x32x128.size (k0_off1_inb k 1), w 0 1⟩, ⟨Rect.unit (k0_off1 k (BitVec.ofNat 32 (32 * (0 : Fin 4).val))) S1x32x128.size (k0_off1_inb k 0), w 0 0⟩] : List (View.Piece (Elt F) S1x1152x512 .i8)) = tiles_x k w := by
  unfold tiles_x quads
  refine congrArg₂ List.cons (piece_congr (k0_off7_eq k 3) _ _ _) ?_
  refine congrArg₂ List.cons (piece_congr (k0_off7_eq k 2) _ _ _) ?_
  refine congrArg₂ List.cons (piece_congr (k0_off7_eq k 1) _ _ _) ?_
  refine congrArg₂ List.cons (piece_congr (k0_off7_eq k 0) _ _ _) ?_
  refine congrArg₂ List.cons (piece_congr (k0_off5_eq k 3) _ _ _) ?_
  refine congrArg₂ List.cons (piece_congr (k0_off5_eq k 2) _ _ _) ?_
  refine congrArg₂ List.cons (piece_congr (k0_off5_eq k 1) _ _ _) ?_
  refine congrArg₂ List.cons (piece_congr (k0_off5_eq k 0) _ _ _) ?_
  refine congrArg₂ List.cons (piece_congr (k0_off3_eq k 3) _ _ _) ?_
  refine congrArg₂ List.cons (piece_congr (k0_off3_eq k 2) _ _ _) ?_
  refine congrArg₂ List.cons (piece_congr (k0_off3_eq k 1) _ _ _) ?_
  refine congrArg₂ List.cons (piece_congr (k0_off3_eq k 0) _ _ _) ?_
  refine congrArg₂ List.cons (piece_congr (k0_off1_eq k 3) _ _ _) ?_
  refine congrArg₂ List.cons (piece_congr (k0_off1_eq k 2) _ _ _) ?_
  refine congrArg₂ List.cons (piece_congr (k0_off1_eq k 1) _ _ _) ?_
  refine congrArg₂ List.cons (piece_congr (k0_off1_eq k 0) _ _ _) ?_
  rfl

theorem quads_p (k : Fin k0_t1_loop.trips) (w : Fin 4 → Fin 4 → S1x32x128.Idx → Elt F .f32) :
    ([⟨Rect.unit (k0_off8 k (BitVec.ofNat 32 (32 * (3 : Fin 4).val))) S1x32x128.size (k0_off8_inb k 3), w 3 3⟩, ⟨Rect.unit (k0_off8 k (BitVec.ofNat 32 (32 * (2 : Fin 4).val))) S1x32x128.size (k0_off8_inb k 2), w 3 2⟩, ⟨Rect.unit (k0_off8 k (BitVec.ofNat 32 (32 * (1 : Fin 4).val))) S1x32x128.size (k0_off8_inb k 1), w 3 1⟩, ⟨Rect.unit (k0_off8 k (BitVec.ofNat 32 (32 * (0 : Fin 4).val))) S1x32x128.size (k0_off8_inb k 0), w 3 0⟩, ⟨Rect.unit (k0_off6 k (BitVec.ofNat 32 (32 * (3 : Fin 4).val))) S1x32x128.size (k0_off6_inb k 3), w 2 3⟩, ⟨Rect.unit (k0_off6 k (BitVec.ofNat 32 (32 * (2 : Fin 4).val))) S1x32x128.size (k0_off6_inb k 2), w 2 2⟩, ⟨Rect.unit (k0_off6 k (BitVec.ofNat 32 (32 * (1 : Fin 4).val))) S1x32x128.size (k0_off6_inb k 1), w 2 1⟩, ⟨Rect.unit (k0_off6 k (BitVec.ofNat 32 (32 * (0 : Fin 4).val))) S1x32x128.size (k0_off6_inb k 0), w 2 0⟩, ⟨Rect.unit (k0_off4 k (BitVec.ofNat 32 (32 * (3 : Fin 4).val))) S1x32x128.size (k0_off4_inb k 3), w 1 3⟩, ⟨Rect.unit (k0_off4 k (BitVec.ofNat 32 (32 * (2 : Fin 4).val))) S1x32x128.size (k0_off4_inb k 2), w 1 2⟩, ⟨Rect.unit (k0_off4 k (BitVec.ofNat 32 (32 * (1 : Fin 4).val))) S1x32x128.size (k0_off4_inb k 1), w 1 1⟩, ⟨Rect.unit (k0_off4 k (BitVec.ofNat 32 (32 * (0 : Fin 4).val))) S1x32x128.size (k0_off4_inb k 0), w 1 0⟩, ⟨Rect.unit (k0_off2 k (BitVec.ofNat 32 (32 * (3 : Fin 4).val))) S1x32x128.size (k0_off2_inb k 3), w 0 3⟩, ⟨Rect.unit (k0_off2 k (BitVec.ofNat 32 (32 * (2 : Fin 4).val))) S1x32x128.size (k0_off2_inb k 2), w 0 2⟩, ⟨Rect.unit (k0_off2 k (BitVec.ofNat 32 (32 * (1 : Fin 4).val))) S1x32x128.size (k0_off2_inb k 1), w 0 1⟩, ⟨Rect.unit (k0_off2 k (BitVec.ofNat 32 (32 * (0 : Fin 4).val))) S1x32x128.size (k0_off2_inb k 0), w 0 0⟩] : List (View.Piece (Elt F) S4x1168x128 .f32)) = tiles_p k w := by
  unfold tiles_p quads
  refine congrArg₂ List.cons (piece_congr (k0_off8_eq k 3) _ _ _) ?_
  refine congrArg₂ List.cons (piece_congr (k0_off8_eq k 2) _ _ _) ?_
  refine congrArg₂ List.cons (piece_congr (k0_off8_eq k 1) _ _ _) ?_
  refine congrArg₂ List.cons (piece_congr (k0_off8_eq k 0) _ _ _) ?_
  refine congrArg₂ List.cons (piece_congr (k0_off6_eq k 3) _ _ _) ?_
  refine congrArg₂ List.cons (piece_congr (k0_off6_eq k 2) _ _ _) ?_
  refine congrArg₂ List.cons (piece_congr (k0_off6_eq k 1) _ _ _) ?_
  refine congrArg₂ List.cons (piece_congr (k0_off6_eq k 0) _ _ _) ?_
  refine congrArg₂ List.cons (piece_congr (k0_off4_eq k 3) _ _ _) ?_
  refine congrArg₂ List.cons (piece_congr (k0_off4_eq k 2) _ _ _) ?_
  refine congrArg₂ List.cons (piece_congr (k0_off4_eq k 1) _ _ _) ?_
  refine congrArg₂ List.cons (piece_congr (k0_off4_eq k 0) _ _ _) ?_
  refine congrArg₂ List.cons (piece_congr (k0_off2_eq k 3) _ _ _) ?_
  refine congrArg₂ List.cons (piece_congr (k0_off2_eq k 2) _ _ _) ?_
  refine congrArg₂ List.cons (piece_congr (k0_off2_eq k 1) _ _ _) ?_
  refine congrArg₂ List.cons (piece_congr (k0_off2_eq k 0) _ _ _) ?_
  rfl

theorem trip1_21  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X_arg1 : BufTy.Contents (Elt F) arg1.view.ty) (X_arg2 : BufTy.Contents (Elt F) arg2.view.ty) (X_arg3 : BufTy.Contents (Elt F) arg3.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X_arg1 X_arg2 X_arg3 k).1 = tiles_x k fun p j => gI8 (gCode (gInv v3) (gRow (View.ld (arg2.view.read (Elt F) X_arg2) (Rect.unit ![0, 128 * p.val] S1x128.size (inb_row4 p)))) (gK (View.ld (arg3.view.read (Elt F) X_arg3) (Rect.unit ![0, 128 * p.val] S1x128.size (inb_row4 p)))) (gX (tileX k (arg1.view.read (Elt F) X_arg1) p j))) := by
  refine Eq.trans ?_ (quads_x k _)
  unfold trip_k0_t1; rfl

theorem trip1_38  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X_arg1 : BufTy.Contents (Elt F) arg1.view.ty) (X_arg2 : BufTy.Contents (Elt F) arg2.view.ty) (X_arg3 : BufTy.Contents (Elt F) arg3.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X_arg1 X_arg2 X_arg3 k).2.1 = tiles_p k fun p j => gDec (gCode (gInv v3) (gRow (View.ld (arg2.view.read (Elt F) X_arg2) (Rect.unit ![0, 128 * p.val] S1x128.size (inb_row4 p)))) (gK (View.ld (arg3.view.read (Elt F) X_arg3) (Rect.unit ![0, 128 * p.val] S1x128.size (inb_row4 p)))) (gX (tileX k (arg1.view.read (Elt F) X_arg1) p j))) := by
  refine Eq.trans ?_ (quads_p k _)
  unfold trip_k0_t1; rfl

theorem trip6_18  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v158 : Vec F S8x128 .f32) (X_arg17 : BufTy.Contents (Elt F) arg17.view.ty) (X_arg40 : BufTy.Contents (Elt F) arg40.view.ty) (k : Fin k0_t6_loop.trips) (acc : FVec F S1x128 .f32 × FVec F S1x128 .f32) :
    (trip_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X_arg17 X_arg40 k).2.1 acc = tiles_o k fun p => gY (tileO k (arg40.view.read (Elt F) X_arg40) p) := by
  refine Eq.trans ?_ (congrArg₂ List.cons (piece_congr (k0_off59_eq k) (k0_off59_inb k) _ _) (congrArg₂ List.cons (piece_congr (k0_off57_eq k) (k0_off57_inb k) _ _) rfl))
  unfold trip_k0_t6; rfl

theorem trip6_19  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v158 : Vec F S8x128 .f32) (X_arg17 : BufTy.Contents (Elt F) arg17.view.ty) (X_arg40 : BufTy.Contents (Elt F) arg40.view.ty) (k : Fin k0_t6_loop.trips) (acc : FVec F S1x128 .f32 × FVec F S1x128 .f32) :
    (trip_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X_arg17 X_arg40 k).2.2.1 acc = tiles_o k fun p => gOut (View.ld (arg17.view.read (Elt F) X_arg17) (Rect.unit ![0, 0] S1x1.size inb_S1x1_S1x1_0_0) (Shape.Idx.first (by decide))) (tileO k (arg40.view.read (Elt F) X_arg40) p) := by
  refine Eq.trans ?_ (congrArg₂ List.cons (piece_congr (k0_off59_eq k) (k0_off59_inb k) _ _) (congrArg₂ List.cons (piece_congr (k0_off57_eq k) (k0_off57_inb k) _ _) rfl))
  unfold trip_k0_t6; rfl

end Cert.KernelIdeal.Vals

end
-- ==== Proof.Chunk.lean ====
module

public import proofs.«01_k».proof.Proof.Model
public import proofs.«01_k».proof.Proof.List1

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The vector expressions of a unit, at an element. -/

theorem gTap7_at (v : FVec Ideal S512x256 .f32) (w : Vec Ideal S1x1x256x256 .bf16) (x : S512x256.Idx) :
    gTap7 (F := Ideal) v w x = ∑ c : Fin 256, v (ix2 (x 0) c) * w (ix4 0 0 c (x 1)) := by
  pointwise [gTap7]

theorem gPt_at (q : Vec Ideal S1x512x256 .i8) (w : Vec Ideal S1x256x256 .bf16) (x : S512x256.Idx) :
    gPt (F := Ideal) q w x = ∑ c : Fin 256, dec (q (ix3 0 (x 0) c)) * w (ix3 0 c (x 1)) := by
  pointwise [gPt, dec]

theorem gPair_at (A B : Vec Ideal S1x1x512x128 .f32) (Q : ℕ → ℕ → EReal) (r : ℕ)
    (hA : ∀ x, A x = Q (r + (x 2).val) (x 3).val) (hB : ∀ x, B x = Q (r + (x 2).val) (128 + (x 3).val)) (i : Fin 512) (c : Fin 256) :
    gPair (F := Ideal) A B (ix2 i c) = Q (r + i.val) c.val := by
  pointwise [gPair]
  split_ifs
  · exact hA _
  all_goals
    refine (hB _).trans (congrArg₂ Q rfl ?_)
    show 128 + (c.val - 128) = c.val
    omega

/-- The dilated convolution of a chunk. -/
theorem gDil_at (d : ℕ) (A B : Fin 7 → Vec Ideal S1x1x512x128 .f32) (w : Fin 7 → Vec Ideal S1x1x256x256 .bf16) (Q : ℕ → ℕ → EReal)
    (W : ℕ → ℕ → ℕ → EReal) (t0 : ℕ)
    (hA : ∀ n x, A n x = Q (t0 + (32 - 3 * d) + n.val * d + (x 2).val) (x 3).val)
    (hB : ∀ n x, B n x = Q (t0 + (32 - 3 * d) + n.val * d + (x 2).val) (128 + (x 3).val))
    (hw : ∀ n x, w n x = W n.val (x 2).val (x 3).val) (x : S512x256.Idx) :
    gDil (F := Ideal) A B w x = dconv d Q W (t0 + (x 0).val) (x 1).val := by
  have h : ∀ n : Fin 7, gTap7 (F := Ideal) (gPair (A n) (B n)) (w n) x = tapSum d Q W n.val (t0 + (x 0).val) (x 1).val := by
    intro n
    rw [gTap7_at]
    refine Finset.sum_congr rfl fun c _ => congrArg₂ (· * ·) ?_ (hw n _)
    refine (gPair_at (A n) (B n) Q _ (hA n) (hB n) (x 0) c).trans (congrArg₂ Q ?_ rfl)
    omega
  exact congrArg₂ (· + ·) (congrArg₂ (· + ·) (congrArg₂ (· + ·) (congrArg₂ (· + ·) (congrArg₂ (· + ·) (congrArg₂ (· + ·) (h 0) (h 1)) (h 2)) (h 3)) (h 4)) (h 5)) (h 6)

theorem gLin_at (acc : FVec Ideal S512x256 .f32) (p : Fin 2) (j : Fin 16) (s : Ideal .f32) (w b : Vec Ideal S1x128 .f32) (D : ℕ → ℕ → EReal) (t0 : ℕ)
    (w' b' : ℕ → EReal) (hD : ∀ x, acc x = D (t0 + (x 0).val) (x 1).val) (hw : ∀ l, w (ix2 0 l) = w' (128 * p.val + l.val))
    (hb : ∀ l, b (ix2 0 l) = b' (128 * p.val + l.val)) (x : S32x128.Idx) :
    gLin (F := Ideal) acc p j s w b x = affine D s w' b' (t0 + 32 * j.val + (x 0).val) (128 * p.val + (x 1).val) := by
  have h : gLin (F := Ideal) acc p j s w b x
      = acc (ix2 ⟨32 * j.val + (x 0).val, by have := (x 0).isLt; have := j.isLt; change (x 0).val < 32 at *; omega⟩
          ⟨128 * p.val + (x 1).val, by have := (x 1).isLt; have := p.isLt; change (x 1).val < 128 at *; omega⟩) * (s * w (ix2 0 (x 1))) + b (ix2 0 (x 1)) := by
    pointwise [gLin]
  rw [h]
  refine congrArg₂ (· + ·) (congrArg₂ (· * ·) ((hD _).trans (congrArg₂ D ?_ rfl)) (congrArg (s * ·) (hw (x 1)))) (hb (x 1))
  show t0 + (32 * j.val + (x 0).val) = _
  omega

theorem gSum_at (X : Vec Ideal S1x32x128 .f32) (e : FVec Ideal S32x128 .f32) (x : S32x128.Idx) :
    gSum (F := Ideal) X e x = X (ix3 0 (x 0) (x 1)) + e x := by
  pointwise [gSum]

theorem gBF_at (z : FVec Ideal S32x128 .f32) (x : S32x128.Idx) : gBF (F := Ideal) z x = z x := by
  pointwise [gBF]

theorem gX_at (X : Vec Ideal S1x32x128 .bf16) (x : S32x128.Idx) : gX (F := Ideal) X x = X (ix3 0 (x 0) (x 1)) := by
  pointwise [gX]

theorem gDec_at (c : FVec Ideal S32x128 .f32) (x : S1x32x128.Idx) : gDec (F := Ideal) c x = dec (kI8 (c (ix2 (x 1) (x 2)))) := by
  pointwise [gDec, dec, kI8]

theorem gY_at (X : Vec Ideal S1x64x128 .f32) (x : S1x64x128.Idx) : gY (F := Ideal) X x = X x := by
  pointwise [gY]

/-- The output's code. -/
def kOut (s v : EReal) : EReal := rnd (min (lit 0x42FE0000#32) (max (lit 0xC2FE0000#32) (v * Ideal.div 1 s)))

theorem gOut_at (s : Ideal .f32) (X : Vec Ideal S1x64x128 .f32) (x : S1x64x128.Idx) :
    gOut (F := Ideal) s X x = kI8 (kOut s (X x)) := by
  pointwise [gOut, gInv, kI8, kOut]
  first | rfl | skip

theorem sc32_at (c : FVec Ideal S32x128 .f32) (x : S1x32x128.Idx) : shapeCast S1x32x128 c shapeCasts_S32x128_S1x32x128 x = c (ix2 (x 1) (x 2)) := by
  pointwise

theorem sc132_at (c : FVec Ideal S32x128 .f32) (x : S1x1x32x128.Idx) : shapeCast S1x1x32x128 c shapeCasts_S32x128_S1x1x32x128 x = c (ix2 (x 2) (x 3)) := by
  pointwise

/-! Loaded rows. -/

theorem row6_ld (X : S6x256.Idx → Elt Ideal .f32) (w : ℕ → ℕ → EReal) (hX : ∀ y, X y = w (y 0).val (y 1).val) (r : Fin 6) (p : Fin 2) (l : Fin 128) :
    View.ld X (Rect.unit (s := S6x256) ![r.val, 128 * p.val] S1x128.size (inb_row6 r p)) (ix2 0 l) = w r.val (128 * p.val + l.val) := by
  refine (hX _).trans (congrArg₂ w ?_ ?_)
  · show r.val + 1 * 0 = _; omega
  · show 128 * p.val + 1 * l.val = _; omega

theorem row3_ld (X : S3x256.Idx → Elt Ideal .f32) (w : ℕ → ℕ → EReal) (hX : ∀ y, X y = w (y 0).val (y 1).val) (r : Fin 3) (p : Fin 2) (l : Fin 128) :
    View.ld X (Rect.unit (s := S3x256) ![r.val, 128 * p.val] S1x128.size (inb_row3 r p)) (ix2 0 l) = w r.val (128 * p.val + l.val) := by
  refine (hX _).trans (congrArg₂ w ?_ ?_)
  · show r.val + 1 * 0 = _; omega
  · show 128 * p.val + 1 * l.val = _; omega

theorem row4_ld (X : S1x512.Idx → Elt Ideal .f32) (w : ℕ → EReal) (hX : ∀ y, X y = w (y 1).val) (p : Fin 4) (l : Fin 128) :
    View.ld X (Rect.unit (s := S1x512) ![0, 128 * p.val] S1x128.size (inb_row4 p)) (ix2 0 l) = w (128 * p.val + l.val) := by
  refine (hX _).trans (congrArg w ?_)
  show 128 * p.val + 1 * l.val = _
  omega

/-- A code of a tile. -/
theorem code_at (s : Ideal .f32) (a b : Vec Ideal S1x128 .f32) (a' b' : ℕ → EReal) (h : FVec Ideal S32x128 .f32) (o : ℕ)
    (ha : ∀ l, a (ix2 0 l) = a' (o + l.val)) (hb : ∀ l, b (ix2 0 l) = b' (o + l.val)) (v : EReal) (x : S32x128.Idx) (hv : h x = v) :
    gCode (F := Ideal) (gInv s) (gRow a) (gK b) h x = kCode s (a' (o + (x 1).val)) (b' (o + (x 1).val)) v := by
  exact (gCode_at s a b h x).trans (congr (congrArg₂ (kCode s) (ha (x 1)) (hb (x 1))) hv)

end Cert.KernelIdeal.Vals

end
-- ==== Proof.Stage.lean ====
module

public import proofs.«01_k».proof.Proof.Chunk

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The stages of one item, in the kernel's form of the arithmetic. -/

/-- One item's input and the parameters, by row and channel. -/
structure Inp where
  x : ℕ → ℕ → EReal
  ain : ℕ → EReal
  bin : ℕ → EReal
  wt : ℕ → ℕ → ℕ → EReal
  wts : ℕ → EReal
  bt : ℕ → EReal
  ra : ℕ → ℕ → EReal
  rb : ℕ → ℕ → EReal
  w7 : ℕ → ℕ → ℕ → ℕ → EReal
  w7s : ℕ → ℕ → EReal
  b7 : ℕ → ℕ → EReal
  w1 : ℕ → ℕ → ℕ → EReal
  w1s : ℕ → ℕ → EReal
  b1 : ℕ → ℕ → EReal
  s0 : EReal
  act : ℕ → ℕ → EReal
  so : EReal

variable (I : Inp)

/-- The input's codes. -/
def q0 (t c : ℕ) : BitVec 8 := kI8 (kCode I.s0 (I.ain c) (I.bin c) (I.x t c))

/-- The input's codes with eight rows of zeros before and after. -/
def Q0 (t c : ℕ) : EReal := if 8 ≤ t ∧ t < 1160 then dec (q0 I (t - 8) c) else 0

/-- The transposed convolution's result. -/
def y0 (t o : ℕ) : EReal := affine (tconv (Q0 I) I.wt) I.s0 I.wts I.bt t o

/-- The codes a unit's first convolution reads. -/
def ca (u : ℕ) (h : ℕ → ℕ → EReal) (t o : ℕ) : EReal := kCode (I.act u 0) (I.ra (2 * u) o) (I.rb (2 * u) o) (h t o)

/-- The same with 32 rows of zeros before and after. -/
def Qa (u : ℕ) (h : ℕ → ℕ → EReal) (t o : ℕ) : EReal := if 32 ≤ t ∧ t < 4640 then ca I u h (t - 32) o else 0

/-- The first convolution's result. -/
def cc (u d : ℕ) (h : ℕ → ℕ → EReal) (t o : ℕ) : EReal := affine (dconv d (Qa I u h) (I.w7 u)) (I.act u 0) (I.w7s u) (I.b7 u) t o

/-- The codes a unit's second convolution reads. -/
def cb (u d : ℕ) (h : ℕ → ℕ → EReal) (t o : ℕ) : BitVec 8 := kI8 (kCode (I.act u 1) (I.ra (2 * u + 1) o) (I.rb (2 * u + 1) o) (cc I u d h t o))

/-- The second convolution's result. -/
def ee (u d : ℕ) (h : ℕ → ℕ → EReal) (t o : ℕ) : EReal := affine (pconv (fun t o => dec (cb I u d h t o)) (I.w1 u)) (I.act u 1) (I.w1s u) (I.b1 u) t o

/-- The residual stream after the unit. -/
def nx (u d : ℕ) (h : ℕ → ℕ → EReal) (t o : ℕ) : EReal := h t o + ee I u d h t o

def h1 : ℕ → ℕ → EReal := nx I 0 1 (y0 I)
def h2 : ℕ → ℕ → EReal := nx I 1 3 (h1 I)
def h3 : ℕ → ℕ → EReal := nx I 2 9 (h2 I)

/-- A loaded scale. -/
theorem scale_ld (X : S3x2.Idx → Elt Ideal .f32) (w : ℕ → ℕ → EReal) (hX : ∀ y, X y = w (y 0).val (y 1).val) (a b : ℕ)
    (hi : ∀ i, (![a, b] : Fin 2 → ℕ) i + S1x1.size i ≤ S3x2.size i) (h : 0 < S1x1.numel) :
    View.ld X (Rect.unit (s := S3x2) ![a, b] S1x1.size hi) (Shape.Idx.first h) = w a b := by
  refine (hX _).trans (congrArg₂ w ?_ ?_)
  · show a + 1 * 0 = a; omega
  · show b + 1 * 0 = b; omega

end Cert.KernelIdeal.Vals

end
-- ==== Proof.Ext.lean ====
module

public import proofs.«01_k».proof.Proof.Stage

@[expose] public section

noncomputable section

namespace Cert.KernelIdeal.Vals

open Cert.KernelIdeal Cert.KernelIdeal.Gen
open Idealize.ShloMosaic Idealize.ShloMosaic.TcCoe Idealize.ShloMosaic.Tactic

/-! The parameters of one item, by row and channel, of the whole arrays. -/

/-- An array of rank 1 by natural numbers. -/
def ext1 {a0 : ℕ} (f : (⟨1, ![a0]⟩ : Shape).Idx → EReal) (i0 : ℕ) : EReal :=
  if h : i0 < a0 then f (ix1 ⟨i0, h⟩) else 0

theorem ext1_eq {a0 : ℕ} (f : (⟨1, ![a0]⟩ : Shape).Idx → EReal) {i0 : ℕ} (y : (⟨1, ![a0]⟩ : Shape).Idx) (h0 : (y 0).val = i0) : f y = ext1 f i0 := by
  subst h0
  have h : (y 0).val < a0 := (y 0).isLt
  refine Eq.trans ?_ (dif_pos h).symm
  exact congrArg f (funext fun j => by fin_cases j <;> rfl)

/-- An array of rank 2 by natural numbers. -/
def ext2 {a0 a1 : ℕ} (f : (⟨2, ![a0, a1]⟩ : Shape).Idx → EReal) (i0 i1 : ℕ) : EReal :=
  if h : i0 < a0 ∧ i1 < a1 then f (ix2 ⟨i0, h.1⟩ ⟨i1, h.2⟩) else 0

theorem ext2_eq {a0 a1 : ℕ} (f : (⟨2, ![a0, a1]⟩ : Shape).Idx → EReal) {i0 i1 : ℕ} (y : (⟨2, ![a0, a1]⟩ : Shape).Idx) (h0 : (y 0).val = i0) (h1 : (y 1).val = i1) : f y = ext2 f i0 i1 := by
  subst h0 h1
  have h : (y 0).val < a0 ∧ (y 1).val < a1 := ⟨(y 0).isLt, (y 1).isLt⟩
  refine Eq.trans ?_ (dif_pos h).symm
  exact congrArg f (funext fun j => by fin_cases j <;> rfl)

/-- An array of rank 3 by natural numbers. -/
def ext3 {a0 a1 a2 : ℕ} (f : (⟨3, ![a0, a1, a2]⟩ : Shape).Idx → EReal) (i0 i1 i2 : ℕ) : EReal :=
  if h : i0 < a0 ∧ i1 < a1 ∧ i2 < a2 then f (ix3 ⟨i0, h.1⟩ ⟨i1, h.2.1⟩ ⟨i2, h.2.2⟩) else 0

theorem ext3_eq {a0 a1 a2 : ℕ} (f : (⟨3, ![a0, a1, a2]⟩ : Shape).Idx → EReal) {i0 i1 i2 : ℕ} (y : (⟨3, ![a0, a1, a2]⟩ : Shape).Idx) (h0 : (y 0).val = i0) (h1 : (y 1).val = i1) (h2 : (y 2).val = i2) : f y = ext3 f i0 i1 i2 := by
  subst h0 h1 h2
  have h : (y 0).val < a0 ∧ (y 1).val < a1 ∧ (y 2).val < a2 := ⟨(y 0).isLt, (y 1).isLt, (y 2).isLt⟩
  refine Eq.trans ?_ (dif_pos h).symm
  exact congrArg f (funext fun j => by fin_cases j <;> rfl)

/-- An array of rank 4 by natural numbers. -/
def ext4 {a0 a1 a2 a3 : ℕ} (f : (⟨4, ![a0, a1, a2, a3]⟩ : Shape).Idx → EReal) (i0 i1 i2 i3 : ℕ) : EReal :=
  if h : i0 < a0 ∧ i1 < a1 ∧ i2 < a2 ∧ i3 < a3 then f (ix4 ⟨i0, h.1⟩ ⟨i1, h.2.1⟩ ⟨i2, h.2.2.1⟩ ⟨i3, h.2.2.2⟩) else 0

theorem ext4_eq {a0 a1 a2 a3 : ℕ} (f : (⟨4, ![a0, a1, a2, a3]⟩ : Shape).Idx → EReal) {i0 i1 i2 i3 : ℕ} (y : (⟨4, ![a0, a1, a2, a3]⟩ : Shape).Idx) (h0 : (y 0).val = i0) (h1 : (y 1).val = i1) (h2 : (y 2).val = i2) (h3 : (y 3).val = i3) : f y = ext4 f i0 i1 i2 i3 := by
  subst h0 h1 h2 h3
  have h : (y 0).val < a0 ∧ (y 1).val < a1 ∧ (y 2).val < a2 ∧ (y 3).val < a3 := ⟨(y 0).isLt, (y 1).isLt, (y 2).isLt, (y 3).isLt⟩
  refine Eq.trans ?_ (dif_pos h).symm
  exact congrArg f (funext fun j => by fin_cases j <;> rfl)

/-- The parameters of item `n`. -/
def inpOf (X : (⟨3, ![48, 1152, 512]⟩ : Shape).Idx → EReal) (AIN : (⟨1, ![512]⟩ : Shape).Idx → EReal) (BIN : (⟨1, ![512]⟩ : Shape).Idx → EReal) (S0 : (⟨0, ![]⟩ : Shape).Idx → EReal) (WT : (⟨3, ![8, 512, 256]⟩ : Shape).Idx → BitVec 8) (WTS : (⟨1, ![256]⟩ : Shape).Idx → EReal) (BT : (⟨1, ![256]⟩ : Shape).Idx → EReal) (RA : (⟨3, ![3, 2, 256]⟩ : Shape).Idx → EReal) (RB : (⟨3, ![3, 2, 256]⟩ : Shape).Idx → EReal) (ACT : (⟨2, ![3, 2]⟩ : Shape).Idx → EReal) (W7 : (⟨4, ![3, 7, 256, 256]⟩ : Shape).Idx → BitVec 8) (W7S : (⟨2, ![3, 256]⟩ : Shape).Idx → EReal) (B7 : (⟨2, ![3, 256]⟩ : Shape).Idx → EReal) (W1 : (⟨3, ![3, 256, 256]⟩ : Shape).Idx → BitVec 8) (W1S : (⟨2, ![3, 256]⟩ : Shape).Idx → EReal) (B1 : (⟨2, ![3, 256]⟩ : Shape).Idx → EReal) (SO : (⟨0, ![]⟩ : Shape).Idx → EReal) (n : ℕ) : Inp where
  x t c := ext3 X n t c
  ain := ext1 AIN
  bin := ext1 BIN
  wt := ext3 fun y => dec (WT y)
  wts := ext1 WTS
  bt := ext1 BT
  ra j o := ext3 RA (j / 2) (j % 2) o
  rb j o := ext3 RB (j / 2) (j % 2) o
  w7 := ext4 fun y => dec (W7 y)
  w7s := ext2 W7S
  b7 := ext2 B7
  w1 := ext3 fun y => dec (W1 y)
  w1s := ext2 W1S
  b1 := ext2 B1
  s0 := S0 ix0
  act := ext2 ACT
  so := SO ix0

end Cert.KernelIdeal.Vals

end
-- ==== Proof.Arr.lean ====
module

public import proofs.«01_k».proof.Proof.Ext
public import proofs.«01_k».proof.Proof.Gen.KernelIdeal.Frame
public import Idealize.ShloMosaic.Lib.Pipeline.Value
public import Idealize.ShloMosaic.Lib.ValueLayout

@[expose] public section

noncomputable section

namespace Cert.KernelIdeal.Body

open Cert.KernelIdeal Cert.KernelIdeal.Gen Cert.KernelIdeal.Vals
open Idealize.ShloMosaic Idealize.ShloMosaic.TcCoe Idealize.ShloMosaic.Pipeline

variable (m : (ℓ : Loc nD τ sig) → Buf (Elt Ideal) ℓ)

/-! What the windows' blocks hold, of the whole arrays. -/

/-- The parameters of item `n` as launched. -/
def inp (c : Dev nD) (n : ℕ) : Inp :=
  inpOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) n

theorem item_lt (t : Fin cfg0.N) : (grid0.coords t 0).val < 48 := (grid0.coords t 0).isLt

theorem row512_at (v : S512.Idx → EReal) (z : S1x512.Idx) : shapeCast S1x512 v shapeCasts_S512_S1x512 z = v (ix1 (n0 := 512) (z 1)) := by
  pointwise

theorem row256_at (v : S256.Idx → EReal) (z : S1x256.Idx) : shapeCast S1x256 v shapeCasts_S256_S1x256 z = v (ix1 (n0 := 256) (z 1)) := by
  pointwise

theorem pair_at (v : S3x2x256.Idx → EReal) (z : S6x256.Idx) :
    shapeCast S6x256 v shapeCasts_S3x2x256_S6x256 z = v (ix3 (n0 := 3) (n1 := 2) (n2 := 256) ⟨(z 0).val / 2, by have : (z 0).val < 6 := (z 0).isLt; omega⟩ ⟨(z 0).val % 2, by omega⟩ (z 1)) := by
  pointwise

theorem scalar_at (v : (⟨0, ![]⟩ : Shape).Idx → EReal) (z : S1x1.Idx) : shapeCast S1x1 v shapeCasts_S_S1x1 z = v ix0 := by
  pointwise

theorem V_main_v0 (c : Dev nD) : V m c main_v0 = shapeCast S1x512 (m ((c : Thread nD τ).loc main_arg1)) shapeCasts_S512_S1x512 := by
  show StableHlo.after hostOps0 _ (Proc.devRef .tc main_v0) = _
  after_results
  rfl

theorem V_main_v1 (c : Dev nD) : V m c main_v1 = shapeCast S1x512 (m ((c : Thread nD τ).loc main_arg2)) shapeCasts_S512_S1x512 := by
  show StableHlo.after hostOps0 _ (Proc.devRef .tc main_v1) = _
  after_results
  rfl

theorem V_main_v2 (c : Dev nD) : V m c main_v2 = shapeCast S1x256 (m ((c : Thread nD τ).loc main_arg5)) shapeCasts_S256_S1x256 := by
  show StableHlo.after hostOps0 _ (Proc.devRef .tc main_v2) = _
  after_results
  rfl

theorem V_main_v3 (c : Dev nD) : V m c main_v3 = shapeCast S1x256 (m ((c : Thread nD τ).loc main_arg6)) shapeCasts_S256_S1x256 := by
  show StableHlo.after hostOps0 _ (Proc.devRef .tc main_v3) = _
  after_results
  rfl

theorem V_main_v4 (c : Dev nD) : V m c main_v4 = shapeCast S6x256 (m ((c : Thread nD τ).loc main_arg7)) shapeCasts_S3x2x256_S6x256 := by
  show StableHlo.after hostOps0 _ (Proc.devRef .tc main_v4) = _
  after_results
  rfl

theorem V_main_v5 (c : Dev nD) : V m c main_v5 = shapeCast S6x256 (m ((c : Thread nD τ).loc main_arg8)) shapeCasts_S3x2x256_S6x256 := by
  show StableHlo.after hostOps0 _ (Proc.devRef .tc main_v5) = _
  after_results
  rfl

theorem V_main_v6 (c : Dev nD) : V m c main_v6 = shapeCast S1x1 (m ((c : Thread nD τ).loc main_arg3)) shapeCasts_S_S1x1 := by
  show StableHlo.after hostOps0 _ (Proc.devRef .tc main_v6) = _
  after_results
  rfl

theorem V_main_v7 (c : Dev nD) : V m c main_v7 = shapeCast S1x1 (m ((c : Thread nD τ).loc main_arg16)) shapeCasts_S_S1x1 := by
  show StableHlo.after hostOps0 _ (Proc.devRef .tc main_v7) = _
  after_results
  rfl

theorem idx0 (t : Fin cfg0.N) (a : Fin 3) : win0_0.index t a = ![(grid0.coords t 0).val, 0, 0] a := by
  fin_cases a
  · show (BitVec.ofNat 32 (grid0.coords t 0).val).toNat = (grid0.coords t 0).val
    have := item_lt t
    simp only [BitVec.toNat_ofNat]; omega
  · rfl
  · rfl

theorem q1 (c : Dev nD) (n : ℕ) (t : Fin cfg0.N) (hn : (grid0.coords t 0).val = n) (y : S1x1152x512.Idx) : (iblk m c 0 t y) = (inp m c n).x (y 1).val (y 2).val := by
  have e : iblk m c 0 t y = _ := congrFun (V_main_arg0 m c) ((win0_0.rect t).emb y)
  rw [e]
  refine ext3_eq _ _ ?_ ?_ ?_
  · rw [win0_0.rect_emb_val t y 0, idx0]
    show (grid0.coords t 0).val * 1 + (y 0).val = n
    have := (y 0).isLt
    have h1 : (y 0).val < 1 := this
    omega
  · exact win0_0.rect_emb_val_of_index_zero t 1 (idx0 t 1) y
  · exact win0_0.rect_emb_val_of_index_zero t 2 (idx0 t 2) y

theorem idx1 (t : Fin cfg0.N) (a : Fin 2) : win0_1.index t a = 0 := by
  fin_cases a <;> rfl

theorem q2 (c : Dev nD) (n : ℕ) (t : Fin cfg0.N) (y : S1x512.Idx) : (iblk m c 1 t y) = (inp m c n).ain (y 1).val := by
  have e : iblk m c 1 t y = _ := congrFun (V_main_v0 m c) ((win0_1.rect t).emb y)
  rw [e]
  exact (row512_at _ _).trans (ext1_eq _ _ ((win0_1.rect_emb_val_of_index_zero t 1 (idx1 t 1) y)))

theorem idx2 (t : Fin cfg0.N) (a : Fin 2) : win0_2.index t a = 0 := by
  fin_cases a <;> rfl

theorem q3 (c : Dev nD) (n : ℕ) (t : Fin cfg0.N) (y : S1x512.Idx) : (iblk m c 2 t y) = (inp m c n).bin (y 1).val := by
  have e : iblk m c 2 t y = _ := congrFun (V_main_v1 m c) ((win0_2.rect t).emb y)
  rw [e]
  exact (row512_at _ _).trans (ext1_eq _ _ ((win0_2.rect_emb_val_of_index_zero t 1 (idx2 t 1) y)))

theorem idx3 (t : Fin cfg0.N) (a : Fin 3) : win0_3.index t a = 0 := by
  fin_cases a <;> rfl

theorem q4 (c : Dev nD) (n : ℕ) (t : Fin cfg0.N) (y : S8x512x256.Idx) : dec (iblk m c 3 t y) = (inp m c n).wt (y 0).val (y 1).val (y 2).val := by
  have e : iblk m c 3 t y = _ := congrFun (V_main_arg4 m c) ((win0_3.rect t).emb y)
  rw [e]
  exact ext3_eq (fun y => dec (m ((c : Thread nD τ).loc main_arg4) y)) _ ((win0_3.rect_emb_val_of_index_zero t 0 (idx3 t 0) y)) ((win0_3.rect_emb_val_of_index_zero t 1 (idx3 t 1) y)) ((win0_3.rect_emb_val_of_index_zero t 2 (idx3 t 2) y))

theorem idx4 (t : Fin cfg0.N) (a : Fin 2) : win0_4.index t a = 0 := by
  fin_cases a <;> rfl

theorem q5 (c : Dev nD) (n : ℕ) (t : Fin cfg0.N) (y : S1x256.Idx) : (iblk m c 4 t y) = (inp m c n).wts (y 1).val := by
  have e : iblk m c 4 t y = _ := congrFun (V_main_v2 m c) ((win0_4.rect t).emb y)
  rw [e]
  exact (row256_at _ _).trans (ext1_eq _ _ ((win0_4.rect_emb_val_of_index_zero t 1 (idx4 t 1) y)))

theorem idx5 (t : Fin cfg0.N) (a : Fin 2) : win0_5.index t a = 0 := by
  fin_cases a <;> rfl

theorem q6 (c : Dev nD) (n : ℕ) (t : Fin cfg0.N) (y : S1x256.Idx) : (iblk m c 5 t y) = (inp m c n).bt (y 1).val := by
  have e : iblk m c 5 t y = _ := congrFun (V_main_v3 m c) ((win0_5.rect t).emb y)
  rw [e]
  exact (row256_at _ _).trans (ext1_eq _ _ ((win0_5.rect_emb_val_of_index_zero t 1 (idx5 t 1) y)))

theorem idx6 (t : Fin cfg0.N) (a : Fin 2) : win0_6.index t a = 0 := by
  fin_cases a <;> rfl

theorem q7 (c : Dev nD) (n : ℕ) (t : Fin cfg0.N) (y : S6x256.Idx) : (iblk m c 6 t y) = (inp m c n).ra (y 0).val (y 1).val := by
  have e : iblk m c 6 t y = _ := congrFun (V_main_v4 m c) ((win0_6.rect t).emb y)
  rw [e]
  exact (pair_at _ _).trans (ext3_eq _ _ (congrArg (· / 2) ((win0_6.rect_emb_val_of_index_zero t 0 (idx6 t 0) y))) (congrArg (· % 2) ((win0_6.rect_emb_val_of_index_zero t 0 (idx6 t 0) y))) ((win0_6.rect_emb_val_of_index_zero t 1 (idx6 t 1) y)))

theorem idx7 (t : Fin cfg0.N) (a : Fin 2) : win0_7.index t a = 0 := by
  fin_cases a <;> rfl

theorem q8 (c : Dev nD) (n : ℕ) (t : Fin cfg0.N) (y : S6x256.Idx) : (iblk m c 7 t y) = (inp m c n).rb (y 0).val (y 1).val := by
  have e : iblk m c 7 t y = _ := congrFun (V_main_v5 m c) ((win0_7.rect t).emb y)
  rw [e]
  exact (pair_at _ _).trans (ext3_eq _ _ (congrArg (· / 2) ((win0_7.rect_emb_val_of_index_zero t 0 (idx7 t 0) y))) (congrArg (· % 2) ((win0_7.rect_emb_val_of_index_zero t 0 (idx7 t 0) y))) ((win0_7.rect_emb_val_of_index_zero t 1 (idx7 t 1) y)))

theorem idx8 (t : Fin cfg0.N) (a : Fin 4) : win0_8.index t a = 0 := by
  fin_cases a <;> rfl

theorem q9 (c : Dev nD) (n : ℕ) (t : Fin cfg0.N) (y : S3x7x256x256.Idx) : dec (iblk m c 8 t y) = (inp m c n).w7 (y 0).val (y 1).val (y 2).val (y 3).val := by
  have e : iblk m c 8 t y = _ := congrFun (V_main_arg10 m c) ((win0_8.rect t).emb y)
  rw [e]
  exact ext4_eq (fun y => dec (m ((c : Thread nD τ).loc main_arg10) y)) _ ((win0_8.rect_emb_val_of_index_zero t 0 (idx8 t 0) y)) ((win0_8.rect_emb_val_of_index_zero t 1 (idx8 t 1) y)) ((win0_8.rect_emb_val_of_index_zero t 2 (idx8 t 2) y)) ((win0_8.rect_emb_val_of_index_zero t 3 (idx8 t 3) y))

theorem idx9 (t : Fin cfg0.N) (a : Fin 2) : win0_9.index t a = 0 := by
  fin_cases a <;> rfl

theorem q10 (c : Dev nD) (n : ℕ) (t : Fin cfg0.N) (y : S3x256.Idx) : (iblk m c 9 t y) = (inp m c n).w7s (y 0).val (y 1).val := by
  have e : iblk m c 9 t y = _ := congrFun (V_main_arg11 m c) ((win0_9.rect t).emb y)
  rw [e]
  exact ext2_eq _ _ ((win0_9.rect_emb_val_of_index_zero t 0 (idx9 t 0) y)) ((win0_9.rect_emb_val_of_index_zero t 1 (idx9 t 1) y))

theorem idx10 (t : Fin cfg0.N) (a : Fin 2) : win0_10.index t a = 0 := by
  fin_cases a <;> rfl

theorem q11 (c : Dev nD) (n : ℕ) (t : Fin cfg0.N) (y : S3x256.Idx) : (iblk m c 10 t y) = (inp m c n).b7 (y 0).val (y 1).val := by
  have e : iblk m c 10 t y = _ := congrFun (V_main_arg12 m c) ((win0_10.rect t).emb y)
  rw [e]
  exact ext2_eq _ _ ((win0_10.rect_emb_val_of_index_zero t 0 (idx10 t 0) y)) ((win0_10.rect_emb_val_of_index_zero t 1 (idx10 t 1) y))

theorem idx11 (t : Fin cfg0.N) (a : Fin 3) : win0_11.index t a = 0 := by
  fin_cases a <;> rfl

theorem q12 (c : Dev nD) (n : ℕ) (t : Fin cfg0.N) (y : S3x256x256.Idx) : dec (iblk m c 11 t y) = (inp m c n).w1 (y 0).val (y 1).val (y 2).val := by
  have e : iblk m c 11 t y = _ := congrFun (V_main_arg13 m c) ((win0_11.rect t).emb y)
  rw [e]
  exact ext3_eq (fun y => dec (m ((c : Thread nD τ).loc main_arg13) y)) _ ((win0_11.rect_emb_val_of_index_zero t 0 (idx11 t 0) y)) ((win0_11.rect_emb_val_of_index_zero t 1 (idx11 t 1) y)) ((win0_11.rect_emb_val_of_index_zero t 2 (idx11 t 2) y))

theorem idx12 (t : Fin cfg0.N) (a : Fin 2) : win0_12.index t a = 0 := by
  fin_cases a <;> rfl

theorem q13 (c : Dev nD) (n : ℕ) (t : Fin cfg0.N) (y : S3x256.Idx) : (iblk m c 12 t y) = (inp m c n).w1s (y 0).val (y 1).val := by
  have e : iblk m c 12 t y = _ := congrFun (V_main_arg14 m c) ((win0_12.rect t).emb y)
  rw [e]
  exact ext2_eq _ _ ((win0_12.rect_emb_val_of_index_zero t 0 (idx12 t 0) y)) ((win0_12.rect_emb_val_of_index_zero t 1 (idx12 t 1) y))

theorem idx13 (t : Fin cfg0.N) (a : Fin 2) : win0_13.index t a = 0 := by
  fin_cases a <;> rfl

theorem q14 (c : Dev nD) (n : ℕ) (t : Fin cfg0.N) (y : S3x256.Idx) : (iblk m c 13 t y) = (inp m c n).b1 (y 0).val (y 1).val := by
  have e : iblk m c 13 t y = _ := congrFun (V_main_arg15 m c) ((win0_13.rect t).emb y)
  rw [e]
  exact ext2_eq _ _ ((win0_13.rect_emb_val_of_index_zero t 0 (idx13 t 0) y)) ((win0_13.rect_emb_val_of_index_zero t 1 (idx13 t 1) y))

theorem idx14 (t : Fin cfg0.N) (a : Fin 2) : win0_14.index t a = 0 := by
  fin_cases a <;> rfl

theorem q15 (c : Dev nD) (n : ℕ) (t : Fin cfg0.N) (y : S1x1.Idx) : (iblk m c 14 t y) = (inp m c n).s0 := by
  have e : iblk m c 14 t y = _ := congrFun (V_main_v6 m c) ((win0_14.rect t).emb y)
  rw [e]
  exact scalar_at _ _

theorem idx15 (t : Fin cfg0.N) (a : Fin 2) : win0_15.index t a = 0 := by
  fin_cases a <;> rfl

theorem q16 (c : Dev nD) (n : ℕ) (t : Fin cfg0.N) (y : S3x2.Idx) : (iblk m c 15 t y) = (inp m c n).act (y 0).val (y 1).val := by
  have e : iblk m c 15 t y = _ := congrFun (V_main_arg9 m c) ((win0_15.rect t).emb y)
  rw [e]
  exact ext2_eq _ _ ((win0_15.rect_emb_val_of_index_zero t 0 (idx15 t 0) y)) ((win0_15.rect_emb_val_of_index_zero t 1 (idx15 t 1) y))

theorem idx16 (t : Fin cfg0.N) (a : Fin 2) : win0_16.index t a = 0 := by
  fin_cases a <;> rfl

theorem q17 (c : Dev nD) (n : ℕ) (t : Fin cfg0.N) (y : S1x1.Idx) : (iblk m c 16 t y) = (inp m c n).so := by
  have e : iblk m c 16 t y = _ := congrFun (V_main_v7 m c) ((win0_16.rect t).emb y)
  rw [e]
  exact scalar_at _ _

end Cert.KernelIdeal.Body

end
-- ==== Proof.Init.lean ====
module

public import proofs.«01_k».proof.Proof.Stage

@[expose] public section

set_option maxRecDepth 100000

noncomputable section

namespace Cert.KernelIdeal.Vals

open Cert.KernelIdeal Cert.KernelIdeal.Gen
open Idealize.ShloMosaic Idealize.ShloMosaic.TcCoe Idealize.ShloMosaic.Tactic

/-! What the first step stores in the scratch buffers: the weights as reals, and the rows of zeros. -/

variable {κ : Kind} {sp : Space}

theorem inb35 (k : Fin 8) (a : Fin 3) : (![k.val, 0, 0] : Fin 3 → ℕ) a + S1x512x256.size a ≤ S8x512x256.size a := by
  have := k.isLt
  match a with
  | 0 => show k.val + 1 ≤ 8; omega
  | 1 => show 0 + 512 ≤ 512; omega
  | 2 => show 0 + 256 ≤ 256; omega

theorem inb36 (k : Fin 3 × Fin 7) (a : Fin 4) : (![k.1.val, k.2.val, 0, 0] : Fin 4 → ℕ) a + S1x1x256x256.size a ≤ S3x7x256x256.size a := by
  have := k.1.isLt
  have := k.2.isLt
  match a with
  | 0 => show k.1.val + 1 ≤ 3; omega
  | 1 => show k.2.val + 1 ≤ 7; omega
  | 2 => show 0 + 256 ≤ 256; omega
  | 3 => show 0 + 256 ≤ 256; omega

theorem inb37 (k : Fin 3) (a : Fin 3) : (![k.val, 0, 0] : Fin 3 → ℕ) a + S1x256x256.size a ≤ S3x256x256.size a := by
  have := k.isLt
  match a with
  | 0 => show k.val + 1 ≤ 3; omega
  | 1 => show 0 + 256 ≤ 256; omega
  | 2 => show 0 + 256 ≤ 256; omega

theorem inb38 (k : Fin 4 × Fin 2) (a : Fin 3) : (![k.1.val, 1160 * k.2.val, 0] : Fin 3 → ℕ) a + S1x8x128.size a ≤ S4x1168x128.size a := by
  have := k.1.isLt
  have := k.2.isLt
  match a with
  | 0 => show k.1.val + 1 ≤ 4; omega
  | 1 => show 1160 * k.2.val + 8 ≤ 1168; omega
  | 2 => show 0 + 128 ≤ 128; omega

theorem inb39 (k : Fin 2 × Fin 2 × Fin 2) (a : Fin 4) : (![k.1.val, k.2.1.val, 4640 * k.2.2.val, 0] : Fin 4 → ℕ) a + S1x1x32x128.size a ≤ S2x2x4672x128.size a := by
  have := k.1.isLt
  have := k.2.1.isLt
  have := k.2.2.isLt
  match a with
  | 0 => show k.1.val + 1 ≤ 2; omega
  | 1 => show k.2.1.val + 1 ≤ 2; omega
  | 2 => show 4640 * k.2.2.val + 32 ≤ 4672; omega
  | 3 => show 0 + 128 ≤ 128; omega

def ord35 : List (Fin 8) := [7, 6, 5, 4, 3, 2, 1, 0]

theorem mem_ord35 (k : Fin 8) : k ∈ ord35 := by revert k; decide

/-- The pieces that hold the converted weights. -/
def wts35 (v : View sig κ sp S8x512x256 .i8) (f : v.ty.Contents (Elt Ideal)) : List (View.Piece (Elt Ideal) S8x512x256 .bf16) :=
  ord35.map fun k => ⟨Rect.unit (s := S8x512x256) ![k.val, 0, 0] S1x512x256.size (inb35 k), k0_pay2 (v.readAt (Elt Ideal) (Rect.unit (s := S8x512x256) ![k.val, 0, 0] S1x512x256.size (inb35 k)).toLoadRect f)⟩

theorem k0_pay2_at (v : Vec Ideal S1x512x256 .i8) (x : S1x512x256.Idx) : k0_pay2 (F := Ideal) v x = dec (v x) := by
  pointwise [k0_pay2]

theorem read_wts35 {κ' : Kind} {sp' : Space} (w : View sig κ' sp' S8x512x256 .bf16) (g : w.ty.Contents (Elt Ideal)) (v : View sig κ sp S8x512x256 .i8) (f : v.ty.Contents (Elt Ideal)) (y : S8x512x256.Idx) :
    w.read (Elt Ideal) (w.writes (Elt Ideal) g (wts35 v f)) y = dec (v.read (Elt Ideal) f y) := by
  refine View.read_writes_apply_of_pieces w g (fun y => dec (v.read (Elt Ideal) f y)) _ ?_ y ?_
  · intro q hq
    obtain ⟨k, -, rfl⟩ := List.mem_map.1 hq
    intro x
    exact k0_pay2_at _ x
  · refine ⟨_, List.mem_map.2 ⟨(⟨(y 0).val, (y 0).isLt⟩ : Fin 8), mem_ord35 _, rfl⟩, ?_⟩
    refine (congrArg (fun z => z ∈ LoadRect.set (Rect.toLoadRect _)) (Rect.emb_eq_of_coords (Rect.unit (s := S8x512x256) ![(⟨(y 0).val, (y 0).isLt⟩ : Fin 8).val, 0, 0] S1x512x256.size (inb35 (⟨(y 0).val, (y 0).isLt⟩ : Fin 8))) (ix3 0 (y 1) (y 2) : S1x512x256.Idx) y ?_)).mp (Rect.toLoadRect _ |>.idx_mem _)
    intro a
    match a with
      | 0 => show (y 0).val = (y 0).val + 1 * 0; omega
      | 1 => show (y 1).val = 0 + 1 * (y 1).val; omega
      | 2 => show (y 2).val = 0 + 1 * (y 2).val; omega

def ord36 : List (Fin 3 × Fin 7) := [(2, 6), (2, 5), (2, 4), (2, 3), (2, 2), (2, 1), (2, 0), (1, 6), (1, 5), (1, 4), (1, 3), (1, 2), (1, 1), (1, 0), (0, 6), (0, 5), (0, 4), (0, 3), (0, 2), (0, 1), (0, 0)]

theorem mem_ord36 (k : Fin 3 × Fin 7) : k ∈ ord36 := by revert k; decide

/-- The pieces that hold the converted weights. -/
def wts36 (v : View sig κ sp S3x7x256x256 .i8) (f : v.ty.Contents (Elt Ideal)) : List (View.Piece (Elt Ideal) S3x7x256x256 .bf16) :=
  ord36.map fun k => ⟨Rect.unit (s := S3x7x256x256) ![k.1.val, k.2.val, 0, 0] S1x1x256x256.size (inb36 k), k0_pay12 (v.readAt (Elt Ideal) (Rect.unit (s := S3x7x256x256) ![k.1.val, k.2.val, 0, 0] S1x1x256x256.size (inb36 k)).toLoadRect f)⟩

theorem k0_pay12_at (v : Vec Ideal S1x1x256x256 .i8) (x : S1x1x256x256.Idx) : k0_pay12 (F := Ideal) v x = dec (v x) := by
  pointwise [k0_pay12]

theorem read_wts36 {κ' : Kind} {sp' : Space} (w : View sig κ' sp' S3x7x256x256 .bf16) (g : w.ty.Contents (Elt Ideal)) (v : View sig κ sp S3x7x256x256 .i8) (f : v.ty.Contents (Elt Ideal)) (y : S3x7x256x256.Idx) :
    w.read (Elt Ideal) (w.writes (Elt Ideal) g (wts36 v f)) y = dec (v.read (Elt Ideal) f y) := by
  refine View.read_writes_apply_of_pieces w g (fun y => dec (v.read (Elt Ideal) f y)) _ ?_ y ?_
  · intro q hq
    obtain ⟨k, -, rfl⟩ := List.mem_map.1 hq
    intro x
    exact k0_pay12_at _ x
  · refine ⟨_, List.mem_map.2 ⟨((⟨(y 0).val, (y 0).isLt⟩, ⟨(y 1).val, (y 1).isLt⟩) : Fin 3 × Fin 7), mem_ord36 _, rfl⟩, ?_⟩
    refine (congrArg (fun z => z ∈ LoadRect.set (Rect.toLoadRect _)) (Rect.emb_eq_of_coords (Rect.unit (s := S3x7x256x256) ![((⟨(y 0).val, (y 0).isLt⟩, ⟨(y 1).val, (y 1).isLt⟩) : Fin 3 × Fin 7).1.val, ((⟨(y 0).val, (y 0).isLt⟩, ⟨(y 1).val, (y 1).isLt⟩) : Fin 3 × Fin 7).2.val, 0, 0] S1x1x256x256.size (inb36 ((⟨(y 0).val, (y 0).isLt⟩, ⟨(y 1).val, (y 1).isLt⟩) : Fin 3 × Fin 7))) (ix4 0 0 (y 2) (y 3) : S1x1x256x256.Idx) y ?_)).mp (Rect.toLoadRect _ |>.idx_mem _)
    intro a
    match a with
      | 0 => show (y 0).val = (y 0).val + 1 * 0; omega
      | 1 => show (y 1).val = (y 1).val + 1 * 0; omega
      | 2 => show (y 2).val = 0 + 1 * (y 2).val; omega
      | 3 => show (y 3).val = 0 + 1 * (y 3).val; omega

def ord37 : List (Fin 3) := [2, 1, 0]

theorem mem_ord37 (k : Fin 3) : k ∈ ord37 := by revert k; decide

/-- The pieces that hold the converted weights. -/
def wts37 (v : View sig κ sp S3x256x256 .i8) (f : v.ty.Contents (Elt Ideal)) : List (View.Piece (Elt Ideal) S3x256x256 .bf16) :=
  ord37.map fun k => ⟨Rect.unit (s := S3x256x256) ![k.val, 0, 0] S1x256x256.size (inb37 k), k0_pay18 (v.readAt (Elt Ideal) (Rect.unit (s := S3x256x256) ![k.val, 0, 0] S1x256x256.size (inb37 k)).toLoadRect f)⟩

theorem k0_pay18_at (v : Vec Ideal S1x256x256 .i8) (x : S1x256x256.Idx) : k0_pay18 (F := Ideal) v x = dec (v x) := by
  pointwise [k0_pay18]

theorem read_wts37 {κ' : Kind} {sp' : Space} (w : View sig κ' sp' S3x256x256 .bf16) (g : w.ty.Contents (Elt Ideal)) (v : View sig κ sp S3x256x256 .i8) (f : v.ty.Contents (Elt Ideal)) (y : S3x256x256.Idx) :
    w.read (Elt Ideal) (w.writes (Elt Ideal) g (wts37 v f)) y = dec (v.read (Elt Ideal) f y) := by
  refine View.read_writes_apply_of_pieces w g (fun y => dec (v.read (Elt Ideal) f y)) _ ?_ y ?_
  · intro q hq
    obtain ⟨k, -, rfl⟩ := List.mem_map.1 hq
    intro x
    exact k0_pay18_at _ x
  · refine ⟨_, List.mem_map.2 ⟨(⟨(y 0).val, (y 0).isLt⟩ : Fin 3), mem_ord37 _, rfl⟩, ?_⟩
    refine (congrArg (fun z => z ∈ LoadRect.set (Rect.toLoadRect _)) (Rect.emb_eq_of_coords (Rect.unit (s := S3x256x256) ![(⟨(y 0).val, (y 0).isLt⟩ : Fin 3).val, 0, 0] S1x256x256.size (inb37 (⟨(y 0).val, (y 0).isLt⟩ : Fin 3))) (ix3 0 (y 1) (y 2) : S1x256x256.Idx) y ?_)).mp (Rect.toLoadRect _ |>.idx_mem _)
    intro a
    match a with
      | 0 => show (y 0).val = (y 0).val + 1 * 0; omega
      | 1 => show (y 1).val = 0 + 1 * (y 1).val; omega
      | 2 => show (y 2).val = 0 + 1 * (y 2).val; omega

def ord38 : List (Fin 4 × Fin 2) := [(3, 1), (3, 0), (2, 1), (2, 0), (1, 1), (1, 0), (0, 1), (0, 0)]

theorem mem_ord38 (k : Fin 4 × Fin 2) : k ∈ ord38 := by revert k; decide

/-- The rows of zeros. -/
def zeros38 : List (View.Piece (Elt Ideal) S4x1168x128 .f32) := ord38.map fun k => ⟨Rect.unit (s := S4x1168x128) ![k.1.val, 1160 * k.2.val, 0] S1x8x128.size (inb38 k), k0_pay38 (F := Ideal)⟩

theorem k0_pay38_at (x : S1x8x128.Idx) : k0_pay38 (F := Ideal) x = 0 := by
  pointwise [k0_pay38]

theorem read_zeros38 (w : View sig κ sp S4x1168x128 .f32) (g : w.ty.Contents (Elt Ideal)) (y : S4x1168x128.Idx) (h : ¬ (8 ≤ (y 1).val ∧ (y 1).val < 1160)) :
    w.read (Elt Ideal) (w.writes (Elt Ideal) g zeros38) y = 0 := by
  have b := (y 1).isLt
  change (y 1).val < 1168 at b
  refine View.read_writes_apply_of_pieces w g (fun _ => (0 : EReal)) _ ?_ y ?_
  · intro q hq
    obtain ⟨k, -, rfl⟩ := List.mem_map.1 hq
    intro x
    exact k0_pay38_at x
  by_cases hlt : (y 1).val < 8
  · have hx : (y 1).val - 0 < 8 := by omega
    refine ⟨_, List.mem_map.2 ⟨((⟨(y 0).val, (y 0).isLt⟩, 0) : Fin 4 × Fin 2), mem_ord38 _, rfl⟩, ?_⟩
    refine (congrArg (fun z => z ∈ LoadRect.set (Rect.toLoadRect _)) (Rect.emb_eq_of_coords (Rect.unit (s := S4x1168x128) ![((⟨(y 0).val, (y 0).isLt⟩, 0) : Fin 4 × Fin 2).1.val, 1160 * ((⟨(y 0).val, (y 0).isLt⟩, 0) : Fin 4 × Fin 2).2.val, 0] S1x8x128.size (inb38 ((⟨(y 0).val, (y 0).isLt⟩, 0) : Fin 4 × Fin 2))) (ix3 0 ⟨_, hx⟩ (y 2) : S1x8x128.Idx) y ?_)).mp (Rect.toLoadRect _ |>.idx_mem _)
    intro a
    match a with
      | 0 => show (y 0).val = (y 0).val + 1 * 0; omega
      | 1 => show (y 1).val = 1160 * 0 + 1 * ((y 1).val - 0); omega
      | 2 => show (y 2).val = 0 + 1 * (y 2).val; omega
  · have hx : (y 1).val - 1160 < 8 := by omega
    refine ⟨_, List.mem_map.2 ⟨((⟨(y 0).val, (y 0).isLt⟩, 1) : Fin 4 × Fin 2), mem_ord38 _, rfl⟩, ?_⟩
    refine (congrArg (fun z => z ∈ LoadRect.set (Rect.toLoadRect _)) (Rect.emb_eq_of_coords (Rect.unit (s := S4x1168x128) ![((⟨(y 0).val, (y 0).isLt⟩, 1) : Fin 4 × Fin 2).1.val, 1160 * ((⟨(y 0).val, (y 0).isLt⟩, 1) : Fin 4 × Fin 2).2.val, 0] S1x8x128.size (inb38 ((⟨(y 0).val, (y 0).isLt⟩, 1) : Fin 4 × Fin 2))) (ix3 0 ⟨_, hx⟩ (y 2) : S1x8x128.Idx) y ?_)).mp (Rect.toLoadRect _ |>.idx_mem _)
    intro a
    match a with
      | 0 => show (y 0).val = (y 0).val + 1 * 0; omega
      | 1 => show (y 1).val = 1160 * 1 + 1 * ((y 1).val - 1160); omega
      | 2 => show (y 2).val = 0 + 1 * (y 2).val; omega

def ord39 : List (Fin 2 × Fin 2 × Fin 2) := [(1, 1, 1), (1, 1, 0), (1, 0, 1), (1, 0, 0), (0, 1, 1), (0, 1, 0), (0, 0, 1), (0, 0, 0)]

theorem mem_ord39 (k : Fin 2 × Fin 2 × Fin 2) : k ∈ ord39 := by revert k; decide

/-- The rows of zeros. -/
def zeros39 : List (View.Piece (Elt Ideal) S2x2x4672x128 .f32) := ord39.map fun k => ⟨Rect.unit (s := S2x2x4672x128) ![k.1.val, k.2.1.val, 4640 * k.2.2.val, 0] S1x1x32x128.size (inb39 k), k0_pay47 (F := Ideal)⟩

theorem k0_pay47_at (x : S1x1x32x128.Idx) : k0_pay47 (F := Ideal) x = 0 := by
  pointwise [k0_pay47]

theorem read_zeros39 (w : View sig κ sp S2x2x4672x128 .f32) (g : w.ty.Contents (Elt Ideal)) (y : S2x2x4672x128.Idx) (h : ¬ (32 ≤ (y 2).val ∧ (y 2).val < 4640)) :
    w.read (Elt Ideal) (w.writes (Elt Ideal) g zeros39) y = 0 := by
  have b := (y 2).isLt
  change (y 2).val < 4672 at b
  refine View.read_writes_apply_of_pieces w g (fun _ => (0 : EReal)) _ ?_ y ?_
  · intro q hq
    obtain ⟨k, -, rfl⟩ := List.mem_map.1 hq
    intro x
    exact k0_pay47_at x
  by_cases hlt : (y 2).val < 32
  · have hx : (y 2).val - 0 < 32 := by omega
    refine ⟨_, List.mem_map.2 ⟨((⟨(y 0).val, (y 0).isLt⟩, ⟨(y 1).val, (y 1).isLt⟩, 0) : Fin 2 × Fin 2 × Fin 2), mem_ord39 _, rfl⟩, ?_⟩
    refine (congrArg (fun z => z ∈ LoadRect.set (Rect.toLoadRect _)) (Rect.emb_eq_of_coords (Rect.unit (s := S2x2x4672x128) ![((⟨(y 0).val, (y 0).isLt⟩, ⟨(y 1).val, (y 1).isLt⟩, 0) : Fin 2 × Fin 2 × Fin 2).1.val, ((⟨(y 0).val, (y 0).isLt⟩, ⟨(y 1).val, (y 1).isLt⟩, 0) : Fin 2 × Fin 2 × Fin 2).2.1.val, 4640 * ((⟨(y 0).val, (y 0).isLt⟩, ⟨(y 1).val, (y 1).isLt⟩, 0) : Fin 2 × Fin 2 × Fin 2).2.2.val, 0] S1x1x32x128.size (inb39 ((⟨(y 0).val, (y 0).isLt⟩, ⟨(y 1).val, (y 1).isLt⟩, 0) : Fin 2 × Fin 2 × Fin 2))) (ix4 0 0 ⟨_, hx⟩ (y 3) : S1x1x32x128.Idx) y ?_)).mp (Rect.toLoadRect _ |>.idx_mem _)
    intro a
    match a with
      | 0 => show (y 0).val = (y 0).val + 1 * 0; omega
      | 1 => show (y 1).val = (y 1).val + 1 * 0; omega
      | 2 => show (y 2).val = 4640 * 0 + 1 * ((y 2).val - 0); omega
      | 3 => show (y 3).val = 0 + 1 * (y 3).val; omega
  · have hx : (y 2).val - 4640 < 32 := by omega
    refine ⟨_, List.mem_map.2 ⟨((⟨(y 0).val, (y 0).isLt⟩, ⟨(y 1).val, (y 1).isLt⟩, 1) : Fin 2 × Fin 2 × Fin 2), mem_ord39 _, rfl⟩, ?_⟩
    refine (congrArg (fun z => z ∈ LoadRect.set (Rect.toLoadRect _)) (Rect.emb_eq_of_coords (Rect.unit (s := S2x2x4672x128) ![((⟨(y 0).val, (y 0).isLt⟩, ⟨(y 1).val, (y 1).isLt⟩, 1) : Fin 2 × Fin 2 × Fin 2).1.val, ((⟨(y 0).val, (y 0).isLt⟩, ⟨(y 1).val, (y 1).isLt⟩, 1) : Fin 2 × Fin 2 × Fin 2).2.1.val, 4640 * ((⟨(y 0).val, (y 0).isLt⟩, ⟨(y 1).val, (y 1).isLt⟩, 1) : Fin 2 × Fin 2 × Fin 2).2.2.val, 0] S1x1x32x128.size (inb39 ((⟨(y 0).val, (y 0).isLt⟩, ⟨(y 1).val, (y 1).isLt⟩, 1) : Fin 2 × Fin 2 × Fin 2))) (ix4 0 0 ⟨_, hx⟩ (y 3) : S1x1x32x128.Idx) y ?_)).mp (Rect.toLoadRect _ |>.idx_mem _)
    intro a
    match a with
      | 0 => show (y 0).val = (y 0).val + 1 * 0; omega
      | 1 => show (y 1).val = (y 1).val + 1 * 0; omega
      | 2 => show (y 2).val = 4640 * 1 + 1 * ((y 2).val - 4640); omega
      | 3 => show (y 3).val = 0 + 1 * (y 3).val; omega

end Cert.KernelIdeal.Vals

end
-- ==== Proof.Val1.lean ====
module

public import proofs.«01_k».proof.Proof.Stage

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The first loop: the codes of the input. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem tileX_at (I : Inp) (X : S1x1152x512.Idx → Elt Ideal .bf16) (hX : ∀ y, X y = I.x (y 1).val (y 2).val) (k : Fin k0_t1_loop.trips) (p j : Fin 4) (x : S32x128.Idx) :
    gX (F := Ideal) (tileX k X p j) x = I.x (128 * k.val + 32 * j.val + (x 0).val) (128 * p.val + (x 1).val) := by
  rw [gX_at]
  unfold tileX
  have e0 := k0_off1_eq k j
  have e1 := k0_off3_eq k j
  have e2 := k0_off5_eq k j
  have e3 := k0_off7_eq k j
  match p with
  | 0 =>
    refine (hX _).trans (congrArg₂ I.x ?_ ?_)
    · show k0_off1 k (BitVec.ofNat 32 (32 * j.val)) 1 + 1 * (x 0).val = _
      rw [e0]; show 128 * k.val + 32 * j.val + 1 * (x 0).val = _; omega
    · show k0_off1 k (BitVec.ofNat 32 (32 * j.val)) 2 + 1 * (x 1).val = _
      rw [e0]; show 0 + 1 * (x 1).val = 0 + (x 1).val; omega
  | 1 =>
    refine (hX _).trans (congrArg₂ I.x ?_ ?_)
    · show k0_off3 k (BitVec.ofNat 32 (32 * j.val)) 1 + 1 * (x 0).val = _
      rw [e1]; show 128 * k.val + 32 * j.val + 1 * (x 0).val = _; omega
    · show k0_off3 k (BitVec.ofNat 32 (32 * j.val)) 2 + 1 * (x 1).val = _
      rw [e1]; show 128 + 1 * (x 1).val = 128 + (x 1).val; omega
  | 2 =>
    refine (hX _).trans (congrArg₂ I.x ?_ ?_)
    · show k0_off5 k (BitVec.ofNat 32 (32 * j.val)) 1 + 1 * (x 0).val = _
      rw [e2]; show 128 * k.val + 32 * j.val + 1 * (x 0).val = _; omega
    · show k0_off5 k (BitVec.ofNat 32 (32 * j.val)) 2 + 1 * (x 1).val = _
      rw [e2]; show 256 + 1 * (x 1).val = 256 + (x 1).val; omega
  | 3 =>
    refine (hX _).trans (congrArg₂ I.x ?_ ?_)
    · show k0_off7 k (BitVec.ofNat 32 (32 * j.val)) 1 + 1 * (x 0).val = _
      rw [e3]; show 128 * k.val + 32 * j.val + 1 * (x 0).val = _; omega
    · show k0_off7 k (BitVec.ofNat 32 (32 * j.val)) 2 + 1 * (x 1).val = _
      rw [e3]; show 384 + 1 * (x 1).val = 384 + (x 1).val; omega

theorem code1_at (I : Inp) (X : S1x1152x512.Idx → Elt Ideal .bf16) (Y Z : S1x512.Idx → Elt Ideal .f32) (hX : ∀ y, X y = I.x (y 1).val (y 2).val)
    (hY : ∀ y, Y y = I.ain (y 1).val) (hZ : ∀ y, Z y = I.bin (y 1).val) (k : Fin k0_t1_loop.trips) (p j : Fin 4) (x : S32x128.Idx) :
    gCode (F := Ideal) (gInv I.s0) (gRow (View.ld Y (Rect.unit (s := S1x512) ![0, 128 * p.val] S1x128.size (inb_row4 p))))
      (gK (View.ld Z (Rect.unit (s := S1x512) ![0, 128 * p.val] S1x128.size (inb_row4 p)))) (gX (tileX k X p j)) x
      = kCode I.s0 (I.ain (128 * p.val + (x 1).val)) (I.bin (128 * p.val + (x 1).val)) (I.x (128 * k.val + 32 * j.val + (x 0).val) (128 * p.val + (x 1).val)) :=
  code_at I.s0 _ _ I.ain I.bin _ (128 * p.val) (row4_ld Y I.ain hY p) (row4_ld Z I.bin hZ p) _ x (tileX_at I X hX k p j x)

theorem loop1_21 (I : Inp) (v3 : Elt Ideal .f32) (X1 : BufTy.Contents (Elt Ideal) arg1.view.ty) (X2 : BufTy.Contents (Elt Ideal) arg2.view.ty) (X3 : BufTy.Contents (Elt Ideal) arg3.view.ty)
    (e3 : v3 = I.s0) (r1 : ∀ y, arg1.view.read (Elt Ideal) X1 y = I.x (y 1).val (y 2).val) (r2 : ∀ y, arg2.view.read (Elt Ideal) X2 y = I.ain (y 1).val)
    (r3 : ∀ y, arg3.view.read (Elt Ideal) X3 y = I.bin (y 1).val) (G : BufTy.Contents (Elt Ideal) arg21.view.ty) (n : ℕ) (hn : n ≤ 9) (y : S1x1152x512.Idx) :
    arg21.view.read (Elt Ideal) (arg21.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X1 X2 X3 n).1) y = if (y 1).val < 128 * n then q0 I (y 1).val (y 2).val else arg21.view.read (Elt Ideal) G y := by
  subst e3
  induction n with
  | zero => rfl
  | succ n ih =>
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I.s0 X1 X2 X3 ⟨n, hn⟩, View.writes_append, show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I.s0 X1 X2 X3 ⟨n, hn⟩).1 = _ from trip1_21 ..]
    refine (read_x arg21.view _ (⟨n, hn⟩ : Fin 9) _ (q0 I) ?_ y).trans ?_
    · intro p j x
      exact (gI8_at _ x).trans (congrArg kI8 (code1_at I _ _ _ r1 r2 r3 ⟨n, hn⟩ p j (ix2 (x 1) (x 2))))
    · have := ih (by omega)
      simp only at this ⊢
      split_ifs with h1 h2 h2
      · rfl
      · omega
      · rw [this, if_pos (by omega)]
      · rw [this, if_neg (by omega)]

theorem loop1_38 (I : Inp) (v3 : Elt Ideal .f32) (X1 : BufTy.Contents (Elt Ideal) arg1.view.ty) (X2 : BufTy.Contents (Elt Ideal) arg2.view.ty) (X3 : BufTy.Contents (Elt Ideal) arg3.view.ty)
    (e3 : v3 = I.s0) (r1 : ∀ y, arg1.view.read (Elt Ideal) X1 y = I.x (y 1).val (y 2).val) (r2 : ∀ y, arg2.view.read (Elt Ideal) X2 y = I.ain (y 1).val)
    (r3 : ∀ y, arg3.view.read (Elt Ideal) X3 y = I.bin (y 1).val) (G : BufTy.Contents (Elt Ideal) arg38.view.ty) (n : ℕ) (hn : n ≤ 9) (y : S4x1168x128.Idx) :
    arg38.view.read (Elt Ideal) (arg38.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X1 X2 X3 n).2) y
      = if 8 ≤ (y 1).val ∧ (y 1).val < 128 * n + 8 then dec (q0 I ((y 1).val - 8) (128 * (y 0).val + (y 2).val)) else arg38.view.read (Elt Ideal) G y := by
  subst e3
  induction n with
  | zero => rw [if_neg (by omega)]; rfl
  | succ n ih =>
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I.s0 X1 X2 X3 ⟨n, hn⟩, View.writes_append, show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I.s0 X1 X2 X3 ⟨n, hn⟩).2 = _ from trip1_38 ..]
    refine (read_p arg38.view _ (⟨n, hn⟩ : Fin 9) _ (fun t c => dec (q0 I (t - 8) c)) ?_ y).trans ?_
    · intro p j x
      refine (gDec_at _ x).trans (congrArg (fun v => dec (kI8 v)) ((code1_at I _ _ _ r1 r2 r3 ⟨n, hn⟩ p j (ix2 (x 1) (x 2))).trans ?_))
      show kCode I.s0 _ _ (I.x (128 * n + 32 * j.val + (x 1).val) _) = kCode I.s0 _ _ (I.x (128 * n + 32 * j.val + 8 + (x 1).val - 8) _)
      rw [show 128 * n + 32 * j.val + 8 + (x 1).val - 8 = 128 * n + 32 * j.val + (x 1).val by omega]
      rfl
    · have := ih (by omega)
      simp only at this ⊢
      split_ifs with h1 h2 h2
      · rfl
      · omega
      · rw [this, if_pos (by omega)]
      · rw [this, if_neg (by omega)]

end Cert.KernelIdeal.Vals

end
-- ==== Proof.List2.lean ====
module

public import proofs.«01_k».proof.Proof.Trip2
public import proofs.«01_k».proof.Proof.Scalars

@[expose] public section

set_option maxRecDepth 16384
set_option maxHeartbeats 1000000

noncomputable section

namespace Cert.KernelIdeal.Body

open Cert.KernelIdeal Cert.KernelIdeal.Gen Cert.KernelIdeal.Vals
open Idealize.ShloMosaic Idealize.ShloMosaic.TcCoe Idealize.ShloMosaic.Tactic

variable {F : FTy → Type} [FloatOps F]

/-- The four phases of chunk `k`, from the codes `Q` and the weights `W`. -/
def phases2 (s : F .f32) (Q : S4x1168x128.Idx → Elt F .f32) (W : S8x512x256.Idx → Elt F .bf16) (ws bs : S1x256.Idx → Elt F .f32)
    (k : Fin k0_t2_loop.trips) (r : Fin 4) (p : Fin 2) : FVec F S128x128 .f32 :=
  gPhase s (match r with
    | 0 => addf (gTap (gFrames (View.ld Q (Rect.unit (k0_off9 k 0#32) S1x128x128.size (k0_off9_inb k 0))) (View.ld Q (Rect.unit (k0_off10 k 0#32) S1x128x128.size (k0_off10_inb k 0))) (View.ld Q (Rect.unit (k0_off11 k 0#32) S1x128x128.size (k0_off11_inb k 0))) (View.ld Q (Rect.unit (k0_off12 k 0#32) S1x128x128.size (k0_off12_inb k 0)))) (View.ld W (Rect.unit ![2, 0, 0] S1x512x256.size inb_S8x512x256_S1x512x256_2_0_0))) (gTap (gFrames (View.ld Q (Rect.unit (k0_off9 k 4294967295#32) S1x128x128.size (k0_off9_inb k 1))) (View.ld Q (Rect.unit (k0_off10 k 4294967295#32) S1x128x128.size (k0_off10_inb k 1))) (View.ld Q (Rect.unit (k0_off11 k 4294967295#32) S1x128x128.size (k0_off11_inb k 1))) (View.ld Q (Rect.unit (k0_off12 k 4294967295#32) S1x128x128.size (k0_off12_inb k 1)))) (View.ld W (Rect.unit ![6, 0, 0] S1x512x256.size inb_S8x512x256_S1x512x256_6_0_0)))
    | 1 => addf (gTap (gFrames (View.ld Q (Rect.unit (k0_off9 k 0#32) S1x128x128.size (k0_off9_inb k 0))) (View.ld Q (Rect.unit (k0_off10 k 0#32) S1x128x128.size (k0_off10_inb k 0))) (View.ld Q (Rect.unit (k0_off11 k 0#32) S1x128x128.size (k0_off11_inb k 0))) (View.ld Q (Rect.unit (k0_off12 k 0#32) S1x128x128.size (k0_off12_inb k 0)))) (View.ld W (Rect.unit ![3, 0, 0] S1x512x256.size inb_S8x512x256_S1x512x256_3_0_0))) (gTap (gFrames (View.ld Q (Rect.unit (k0_off9 k 4294967295#32) S1x128x128.size (k0_off9_inb k 1))) (View.ld Q (Rect.unit (k0_off10 k 4294967295#32) S1x128x128.size (k0_off10_inb k 1))) (View.ld Q (Rect.unit (k0_off11 k 4294967295#32) S1x128x128.size (k0_off11_inb k 1))) (View.ld Q (Rect.unit (k0_off12 k 4294967295#32) S1x128x128.size (k0_off12_inb k 1)))) (View.ld W (Rect.unit ![7, 0, 0] S1x512x256.size inb_S8x512x256_S1x512x256_7_0_0)))
    | 2 => addf (gTap (gFrames (View.ld Q (Rect.unit (k0_off9 k 0#32) S1x128x128.size (k0_off9_inb k 0))) (View.ld Q (Rect.unit (k0_off10 k 0#32) S1x128x128.size (k0_off10_inb k 0))) (View.ld Q (Rect.unit (k0_off11 k 0#32) S1x128x128.size (k0_off11_inb k 0))) (View.ld Q (Rect.unit (k0_off12 k 0#32) S1x128x128.size (k0_off12_inb k 0)))) (View.ld W (Rect.unit ![4, 0, 0] S1x512x256.size inb_S8x512x256_S1x512x256_4_0_0))) (gTap (gFrames (View.ld Q (Rect.unit (k0_off9 k 1#32) S1x128x128.size (k0_off9_inb k 2))) (View.ld Q (Rect.unit (k0_off10 k 1#32) S1x128x128.size (k0_off10_inb k 2))) (View.ld Q (Rect.unit (k0_off11 k 1#32) S1x128x128.size (k0_off11_inb k 2))) (View.ld Q (Rect.unit (k0_off12 k 1#32) S1x128x128.size (k0_off12_inb k 2)))) (View.ld W (Rect.unit ![0, 0, 0] S1x512x256.size inb_S8x512x256_S1x512x256_0_0_0)))
    | 3 => addf (gTap (gFrames (View.ld Q (Rect.unit (k0_off9 k 0#32) S1x128x128.size (k0_off9_inb k 0))) (View.ld Q (Rect.unit (k0_off10 k 0#32) S1x128x128.size (k0_off10_inb k 0))) (View.ld Q (Rect.unit (k0_off11 k 0#32) S1x128x128.size (k0_off11_inb k 0))) (View.ld Q (Rect.unit (k0_off12 k 0#32) S1x128x128.size (k0_off12_inb k 0)))) (View.ld W (Rect.unit ![5, 0, 0] S1x512x256.size inb_S8x512x256_S1x512x256_5_0_0))) (gTap (gFrames (View.ld Q (Rect.unit (k0_off9 k 1#32) S1x128x128.size (k0_off9_inb k 2))) (View.ld Q (Rect.unit (k0_off10 k 1#32) S1x128x128.size (k0_off10_inb k 2))) (View.ld Q (Rect.unit (k0_off11 k 1#32) S1x128x128.size (k0_off11_inb k 2))) (View.ld Q (Rect.unit (k0_off12 k 1#32) S1x128x128.size (k0_off12_inb k 2)))) (View.ld W (Rect.unit ![1, 0, 0] S1x512x256.size inb_S8x512x256_S1x512x256_1_0_0)))) p
    (View.ld ws (Rect.unit ![0, 128 * p.val] S1x128.size (inb_row1 p))) (View.ld bs (Rect.unit ![0, 128 * p.val] S1x128.size (inb_row1 p)))

theorem trip2_41  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).1 = phasePieces (phases2 v3 (arg38.view.read (Elt F) X38) (arg35.view.read (Elt F) X35) (arg5.view.read (Elt F) X5) (arg6.view.read (Elt F) X6) k) (arg41.view.read (Elt F) f41) := by
  unfold trip2; rfl

theorem trip2_40  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).2.1 = tiles_h k fun p j => shapeCast S1x32x128 (gH (gC (arg41.view.read (Elt F) (arg41.view.writes (Elt F) f41 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).1)) j p)) shapeCasts_S32x128_S1x32x128 := by
  refine Eq.trans ?_ (pairs_of (o1 := fun j => k0_off16 k (BitVec.ofNat 32 (32 * j.val))) (o0 := fun j => k0_off13 k (BitVec.ofNat 32 (32 * j.val)))
    (fun j => k0_off16_eq k j) (fun j => k0_off13_eq k j) (k0_off16_inb k) (k0_off13_inb k) _ _)
  unfold trip2; rfl

theorem trip2_22  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).2.2.1 = tiles_a k fun p j => gI8 (gCode (gInv (View.ld (arg16.view.read (Elt F) X16) (Rect.unit ![0,0] S1x1.size inb_S3x2_S1x1_0_0) (Shape.Idx.first (by decide)))) (gRow (View.ld (arg7.view.read (Elt F) X7) (Rect.unit ![0, 128 * p.val] S1x128.size (inb_row6 0 p)))) (gK (View.ld (arg8.view.read (Elt F) X8) (Rect.unit ![0, 128 * p.val] S1x128.size (inb_row6 0 p)))) (gH (gC (arg41.view.read (Elt F) (arg41.view.writes (Elt F) f41 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).1)) j p))) := by
  refine Eq.trans ?_ (pairs_of (o1 := fun j => k0_off17 k (BitVec.ofNat 32 (32 * j.val))) (o0 := fun j => k0_off14 k (BitVec.ofNat 32 (32 * j.val)))
    (fun j => k0_off17_eq k j) (fun j => k0_off14_eq k j) (k0_off17_inb k) (k0_off14_inb k) _ _)
  unfold trip2; rfl

theorem trip2_39  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v3 : Elt F .f32) (X38 : BufTy.Contents (Elt F) arg38.view.ty) (X35 : BufTy.Contents (Elt F) arg35.view.ty) (X5 : BufTy.Contents (Elt F) arg5.view.ty) (X6 : BufTy.Contents (Elt F) arg6.view.ty) (X7 : BufTy.Contents (Elt F) arg7.view.ty) (X8 : BufTy.Contents (Elt F) arg8.view.ty) (X16 : BufTy.Contents (Elt F) arg16.view.ty) (f41 : BufTy.Contents (Elt F) arg41.view.ty) (f40 : BufTy.Contents (Elt F) arg40.view.ty) (f22 : BufTy.Contents (Elt F) arg22.view.ty) (f39 : BufTy.Contents (Elt F) arg39.view.ty) (f28 : BufTy.Contents (Elt F) arg28.view.ty) (k : Fin k0_t2_loop.trips) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).2.2.2.1 = tiles_q k 0 fun p j => shapeCast S1x1x32x128 (gCode (gInv (View.ld (arg16.view.read (Elt F) X16) (Rect.unit ![0,0] S1x1.size inb_S3x2_S1x1_0_0) (Shape.Idx.first (by decide)))) (gRow (View.ld (arg7.view.read (Elt F) X7) (Rect.unit ![0, 128 * p.val] S1x128.size (inb_row6 0 p)))) (gK (View.ld (arg8.view.read (Elt F) X8) (Rect.unit ![0, 128 * p.val] S1x128.size (inb_row6 0 p)))) (gH (gC (arg41.view.read (Elt F) (arg41.view.writes (Elt F) f41 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 f41 f40 f22 f39 f28 k).1)) j p))) shapeCasts_S32x128_S1x1x32x128 := by
  refine Eq.trans ?_ (pairs_of (o1 := fun j => k0_off18 k (BitVec.ofNat 32 (32 * j.val))) (o0 := fun j => k0_off15 k (BitVec.ofNat 32 (32 * j.val)))
    (fun j => k0_off18_eq k j) (fun j => k0_off15_eq k j) (k0_off18_inb k) (k0_off15_inb k) _ _)
  unfold trip2; rfl

end Cert.KernelIdeal.Body

end
-- ==== Proof.Val2.lean ====
module

public import proofs.«01_k».proof.Proof.Model
public import proofs.«01_k».proof.Proof.List2

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

theorem off9_0 : ∀ k : Fin k0_t2_loop.trips, k0_off9 k 0#32 = ![0, 128 * k.val + 8, 0] := by decide +kernel
theorem off10_0 : ∀ k : Fin k0_t2_loop.trips, k0_off10 k 0#32 = ![1, 128 * k.val + 8, 0] := by decide +kernel
theorem off11_0 : ∀ k : Fin k0_t2_loop.trips, k0_off11 k 0#32 = ![2, 128 * k.val + 8, 0] := by decide +kernel
theorem off12_0 : ∀ k : Fin k0_t2_loop.trips, k0_off12 k 0#32 = ![3, 128 * k.val + 8, 0] := by decide +kernel
theorem off9_m : ∀ k : Fin k0_t2_loop.trips, k0_off9 k 4294967295#32 = ![0, 128 * k.val + 7, 0] := by decide +kernel
theorem off10_m : ∀ k : Fin k0_t2_loop.trips, k0_off10 k 4294967295#32 = ![1, 128 * k.val + 7, 0] := by decide +kernel
theorem off11_m : ∀ k : Fin k0_t2_loop.trips, k0_off11 k 4294967295#32 = ![2, 128 * k.val + 7, 0] := by decide +kernel
theorem off12_m : ∀ k : Fin k0_t2_loop.trips, k0_off12 k 4294967295#32 = ![3, 128 * k.val + 7, 0] := by decide +kernel
theorem off9_1 : ∀ k : Fin k0_t2_loop.trips, k0_off9 k 1#32 = ![0, 128 * k.val + 9, 0] := by decide +kernel
theorem off10_1 : ∀ k : Fin k0_t2_loop.trips, k0_off10 k 1#32 = ![1, 128 * k.val + 9, 0] := by decide +kernel
theorem off11_1 : ∀ k : Fin k0_t2_loop.trips, k0_off11 k 1#32 = ![2, 128 * k.val + 9, 0] := by decide +kernel
theorem off12_1 : ∀ k : Fin k0_t2_loop.trips, k0_off12 k 1#32 = ![3, 128 * k.val + 9, 0] := by decide +kernel

/-- Four loaded lane blocks, at an element. -/
theorem frames_ld (X : S4x1168x128.Idx → EReal) (Q : ℕ → ℕ → EReal) (hX : ∀ y, X y = Q (y 1).val (128 * (y 0).val + (y 2).val)) (r : ℕ)
    {o0 o1 o2 o3 : Fin 3 → ℕ} (h0 : o0 = ![0, r, 0]) (h1 : o1 = ![1, r, 0]) (h2 : o2 = ![2, r, 0]) (h3 : o3 = ![3, r, 0])
    (i0 : ∀ a, o0 a + S1x128x128.size a ≤ S4x1168x128.size a) (i1 : ∀ a, o1 a + S1x128x128.size a ≤ S4x1168x128.size a)
    (i2 : ∀ a, o2 a + S1x128x128.size a ≤ S4x1168x128.size a) (i3 : ∀ a, o3 a + S1x128x128.size a ≤ S4x1168x128.size a) (i : Fin 128) (c : Fin 512) :
    gFrames (F := Ideal) (View.ld X (Rect.unit (s := S4x1168x128) o0 S1x128x128.size i0)) (View.ld X (Rect.unit (s := S4x1168x128) o1 S1x128x128.size i1))
      (View.ld X (Rect.unit (s := S4x1168x128) o2 S1x128x128.size i2)) (View.ld X (Rect.unit (s := S4x1168x128) o3 S1x128x128.size i3)) (ix2 i c) = Q (r + i.val) c.val := by
  subst h0 h1 h2 h3
  refine gFrames_at (fun p => match p with
    | 0 => View.ld X (Rect.unit (s := S4x1168x128) _ S1x128x128.size i0)
    | 1 => View.ld X (Rect.unit (s := S4x1168x128) _ S1x128x128.size i1)
    | 2 => View.ld X (Rect.unit (s := S4x1168x128) _ S1x128x128.size i2)
    | 3 => View.ld X (Rect.unit (s := S4x1168x128) _ S1x128x128.size i3)) Q r ?_ i c
  intro p x
  have hx : (x 0).val = 0 := by have := (x 0).isLt; change (x 0).val < 1 at this; omega
  fin_cases p <;> refine (hX _).trans (congrArg₂ Q ?_ ?_) <;> simp [Rect.emb_apply] <;> omega

/-- A loaded row, at a lane. -/
theorem row_ld (X : S1x256.Idx → Elt Ideal .f32) (w : ℕ → EReal) (hX : ∀ y, X y = w (y 1).val) (p : Fin 2) (l : Fin 128) :
    View.ld X (Rect.unit (s := S1x256) ![0, 128 * p.val] S1x128.size (inb_row1 p)) (ix2 0 l) = w (128 * p.val + l.val) := by
  refine (hX _).trans (congrArg w ?_)
  show 128 * p.val + 1 * l.val = _
  omega

/-- One tap from loaded blocks. -/
theorem tap_ld (X : S4x1168x128.Idx → Elt Ideal .f32) (Y : S8x512x256.Idx → Elt Ideal .bf16) (Q : ℕ → ℕ → EReal) (W : ℕ → ℕ → ℕ → EReal)
    (hX : ∀ y, X y = Q (y 1).val (128 * (y 0).val + (y 2).val)) (hY : ∀ y, Y y = W (y 0).val (y 1).val (y 2).val) (r : ℕ)
    {o0 o1 o2 o3 : Fin 3 → ℕ} (h0 : o0 = ![0, r, 0]) (h1 : o1 = ![1, r, 0]) (h2 : o2 = ![2, r, 0]) (h3 : o3 = ![3, r, 0])
    (i0 : ∀ a, o0 a + S1x128x128.size a ≤ S4x1168x128.size a) (i1 : ∀ a, o1 a + S1x128x128.size a ≤ S4x1168x128.size a)
    (i2 : ∀ a, o2 a + S1x128x128.size a ≤ S4x1168x128.size a) (i3 : ∀ a, o3 a + S1x128x128.size a ≤ S4x1168x128.size a)
    (j : ℕ) (hj : ∀ a, (![j, 0, 0] : Fin 3 → ℕ) a + S1x512x256.size a ≤ S8x512x256.size a) (x : S128x256.Idx) (t : ℕ) (ht : r + (x 0).val = t) :
    gTap (F := Ideal) (gFrames (View.ld X (Rect.unit (s := S4x1168x128) o0 S1x128x128.size i0)) (View.ld X (Rect.unit (s := S4x1168x128) o1 S1x128x128.size i1))
      (View.ld X (Rect.unit (s := S4x1168x128) o2 S1x128x128.size i2)) (View.ld X (Rect.unit (s := S4x1168x128) o3 S1x128x128.size i3)))
      (View.ld Y (Rect.unit (s := S8x512x256) ![j, 0, 0] S1x512x256.size hj)) x = ∑ c : Fin 512, Q t c.val * W j c.val (x 1).val := by
  rw [gTap_at]
  refine Finset.sum_congr rfl fun c _ => congrArg₂ (· * ·) ?_ ?_
  · rw [← ht]
    exact frames_ld X Q hX r h0 h1 h2 h3 i0 i1 i2 i3 (x 0) c
  · refine (hY _).trans ?_
    have e0 : ((Rect.unit (s := S8x512x256) ![j, 0, 0] S1x512x256.size hj).emb (ix3 0 c (x 1)) 0).val = j := by show j + 1 * 0 = j; omega
    have e1 : ((Rect.unit (s := S8x512x256) ![j, 0, 0] S1x512x256.size hj).emb (ix3 0 c (x 1)) 1).val = c.val := by show 0 + 1 * c.val = _; omega
    have e2 : ((Rect.unit (s := S8x512x256) ![j, 0, 0] S1x512x256.size hj).emb (ix3 0 c (x 1)) 2).val = (x 1).val := by show 0 + 1 * (x 1).val = _; omega
    exact congr (congr (congrArg W e0) e1) e2

/-- A chunk of the transposed convolution. -/
theorem phases2_at (s : EReal) (X : S4x1168x128.Idx → EReal) (Y : S8x512x256.Idx → EReal) (Z B : S1x256.Idx → EReal)
    (Q : ℕ → ℕ → EReal) (W : ℕ → ℕ → ℕ → EReal) (w b : ℕ → EReal)
    (hX : ∀ y, X y = Q (y 1).val (128 * (y 0).val + (y 2).val)) (hY : ∀ y, Y y = W (y 0).val (y 1).val (y 2).val)
    (hZ : ∀ y, Z y = w (y 1).val) (hB : ∀ y, B y = b (y 1).val) (k : Fin k0_t2_loop.trips) (r : Fin 4) (p : Fin 2) (x : S128x128.Idx) :
    phases2 (F := Ideal) s X Y Z B k r p x
      = affine (tconv Q W) s w b (512 * k.val + (4 * (x 0).val + r.val)) (128 * p.val + (x 1).val) := by
  have hx0 : (x 0).val < 128 := (x 0).isLt
  unfold phases2 affine
  refine (gPhase_at _ _ _ _ _ _).trans (congrArg₂ (· + ·) (congrArg₂ (· * ·) ?_ (congrArg (s * ·) (row_ld Z w hZ p (x 1)))) (row_ld B b hB p (x 1)))
  unfold tconv
  have e4 : (512 * k.val + (4 * (x 0).val + r.val)) / 4 = 128 * k.val + (x 0).val := by have := r.isLt; omega
  have m4 : (512 * k.val + (4 * (x 0).val + r.val)) % 4 = r.val := by have := r.isLt; omega
  rw [e4, m4]
  match r with
  | 0 =>
    exact congrArg₂ (· + ·)
      (tap_ld X Y Q W hX hY (128 * k.val + 8) (off9_0 k) (off10_0 k) (off11_0 k) (off12_0 k) (k0_off9_inb k 0) (k0_off10_inb k 0) (k0_off11_inb k 0) (k0_off12_inb k 0) 2 inb_S8x512x256_S1x512x256_2_0_0 _ _ (by show 128 * k.val + 8 + (x 0).val = 128 * k.val + (x 0).val + 8; omega))
      (tap_ld X Y Q W hX hY (128 * k.val + 7) (off9_m k) (off10_m k) (off11_m k) (off12_m k) (k0_off9_inb k 1) (k0_off10_inb k 1) (k0_off11_inb k 1) (k0_off12_inb k 1) 6 inb_S8x512x256_S1x512x256_6_0_0 _ _ (by show 128 * k.val + 7 + (x 0).val = 128 * k.val + (x 0).val + 7; omega))
  | 1 =>
    exact congrArg₂ (· + ·)
      (tap_ld X Y Q W hX hY (128 * k.val + 8) (off9_0 k) (off10_0 k) (off11_0 k) (off12_0 k) (k0_off9_inb k 0) (k0_off10_inb k 0) (k0_off11_inb k 0) (k0_off12_inb k 0) 3 inb_S8x512x256_S1x512x256_3_0_0 _ _ (by show 128 * k.val + 8 + (x 0).val = 128 * k.val + (x 0).val + 8; omega))
      (tap_ld X Y Q W hX hY (128 * k.val + 7) (off9_m k) (off10_m k) (off11_m k) (off12_m k) (k0_off9_inb k 1) (k0_off10_inb k 1) (k0_off11_inb k 1) (k0_off12_inb k 1) 7 inb_S8x512x256_S1x512x256_7_0_0 _ _ (by show 128 * k.val + 7 + (x 0).val = 128 * k.val + (x 0).val + 7; omega))
  | 2 =>
    exact congrArg₂ (· + ·)
      (tap_ld X Y Q W hX hY (128 * k.val + 8) (off9_0 k) (off10_0 k) (off11_0 k) (off12_0 k) (k0_off9_inb k 0) (k0_off10_inb k 0) (k0_off11_inb k 0) (k0_off12_inb k 0) 4 inb_S8x512x256_S1x512x256_4_0_0 _ _ (by show 128 * k.val + 8 + (x 0).val = 128 * k.val + (x 0).val + 8; omega))
      (tap_ld X Y Q W hX hY (128 * k.val + 9) (off9_1 k) (off10_1 k) (off11_1 k) (off12_1 k) (k0_off9_inb k 2) (k0_off10_inb k 2) (k0_off11_inb k 2) (k0_off12_inb k 2) 0 inb_S8x512x256_S1x512x256_0_0_0 _ _ (by show 128 * k.val + 9 + (x 0).val = 128 * k.val + (x 0).val + 9; omega))
  | 3 =>
    exact congrArg₂ (· + ·)
      (tap_ld X Y Q W hX hY (128 * k.val + 8) (off9_0 k) (off10_0 k) (off11_0 k) (off12_0 k) (k0_off9_inb k 0) (k0_off10_inb k 0) (k0_off11_inb k 0) (k0_off12_inb k 0) 5 inb_S8x512x256_S1x512x256_5_0_0 _ _ (by show 128 * k.val + 8 + (x 0).val = 128 * k.val + (x 0).val + 8; omega))
      (tap_ld X Y Q W hX hY (128 * k.val + 9) (off9_1 k) (off10_1 k) (off11_1 k) (off12_1 k) (k0_off9_inb k 2) (k0_off10_inb k 2) (k0_off11_inb k 2) (k0_off12_inb k 2) 1 inb_S8x512x256_S1x512x256_1_0_0 _ _ (by show 128 * k.val + 9 + (x 0).val = 128 * k.val + (x 0).val + 9; omega))

end Cert.KernelIdeal.Vals

end
-- ==== Proof.Val2b.lean ====
module

public import proofs.«01_k».proof.Proof.Val1
public import proofs.«01_k».proof.Proof.Val2
public import proofs.«01_k».proof.Proof.Loop2

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

/-! The second loop: the transposed convolution, and the first codes of the residual stream. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem hold2 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (s : St2 Ideal arg41 arg40 arg22 arg39 arg28) (k : Fin k0_t2_loop.trips) (j : Fin 16) (p : Fin 2) (x : S32x128.Idx) :
    gH (F := Ideal) (gC (arg41.view.read (Elt Ideal) (arg41.view.writes (Elt Ideal) s.1 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).1)) j p) x = y0 I (512 * k.val + 32 * j.val + (x 0).val) (128 * p.val + (x 1).val) := by
  subst e3
  refine (gH_at _ x).trans ((gC_at _ j p _).trans ?_)
  rw [trip2_41]
  refine (read_phases arg41.view s.1 _ _ (fun a b => y0 I (512 * k.val + a) b) ?_ _ ?_).trans ?_
  · intro r p x
    exact phases2_at I.s0 _ _ _ _ (Q0 I) I.wt I.wts I.bt r38 r35 r5 r6 k r p x
  · show 64 ≤ 64 + 32 * j.val + (x 0).val
    omega
  · show y0 I (512 * k.val + (64 + 32 * j.val + (x 0).val - 64)) _ = _
    rw [show 512 * k.val + (64 + 32 * j.val + (x 0).val - 64) = 512 * k.val + 32 * j.val + (x 0).val by omega]
    rfl

theorem code2 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (s : St2 Ideal arg41 arg40 arg22 arg39 arg28) (k : Fin k0_t2_loop.trips) (j : Fin 16) (p : Fin 2) (x : S32x128.Idx) :
    gCode (F := Ideal) (gInv (View.ld (arg16.view.read (Elt Ideal) X16) (Rect.unit (s := S3x2) ![0, 0] S1x1.size inb_S3x2_S1x1_0_0) (Shape.Idx.first (by decide)))) (gRow (View.ld (arg7.view.read (Elt Ideal) X7) (Rect.unit (s := S6x256) ![0, 128 * p.val] S1x128.size (inb_row6 0 p)))) (gK (View.ld (arg8.view.read (Elt Ideal) X8) (Rect.unit (s := S6x256) ![0, 128 * p.val] S1x128.size (inb_row6 0 p)))) (gH (gC (arg41.view.read (Elt Ideal) (arg41.view.writes (Elt Ideal) s.1 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).1)) j p)) x = ca I 0 (y0 I) (512 * k.val + 32 * j.val + (x 0).val) (128 * p.val + (x 1).val) := by
  refine (code_at _ _ _ (I.ra 0) (I.rb 0) _ (128 * p.val) (row6_ld _ I.ra r7 0 p) (row6_ld _ I.rb r8 0 p) _ x (hold2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 s k j p x)).trans ?_
  rw [scale_ld _ I.act r16 0 0]
  rfl

theorem next2_40 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (s : St2 Ideal arg41 arg40 arg22 arg39 arg28) (k : Fin k0_t2_loop.trips) (y : S2x4608x128.Idx) :
    arg40.view.read (Elt Ideal) (next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s k).2.1 y = if 512 * k.val ≤ (y 1).val ∧ (y 1).val < 512 * k.val + 512 then y0 I (y 1).val (128 * (y 0).val + (y 2).val) else arg40.view.read (Elt Ideal) s.2.1 y := by
  show arg40.view.read (Elt Ideal) (arg40.view.writes (Elt Ideal) s.2.1 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.1) y = _
  rw [trip2_40]
  exact read_h arg40.view s.2.1 k _ (y0 I) (fun p j x => (sc32_at _ x).trans (hold2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 s k j p (ix2 (x 1) (x 2)))) y

theorem next2_22 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (s : St2 Ideal arg41 arg40 arg22 arg39 arg28) (k : Fin k0_t2_loop.trips) (y : S1x4608x256.Idx) :
    arg22.view.read (Elt Ideal) (next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s k).2.2.1 y = if 512 * k.val ≤ (y 1).val ∧ (y 1).val < 512 * k.val + 512 then kI8 (ca I 0 (y0 I) (y 1).val (y 2).val) else arg22.view.read (Elt Ideal) s.2.2.1 y := by
  show arg22.view.read (Elt Ideal) (arg22.view.writes (Elt Ideal) s.2.2.1 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.1) y = _
  rw [trip2_22]
  exact read_a arg22.view s.2.2.1 k _ (fun t o => kI8 (ca I 0 (y0 I) t o)) (fun p j x => (gI8_at _ x).trans (congrArg kI8 (code2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 s k j p (ix2 (x 1) (x 2))))) y

theorem next2_39 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (s : St2 Ideal arg41 arg40 arg22 arg39 arg28) (k : Fin k0_t2_loop.trips) (y : S2x2x4672x128.Idx) :
    arg39.view.read (Elt Ideal) (next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s k).2.2.2.1 y = if (y 0).val = 0 ∧ 512 * k.val + 32 ≤ (y 2).val ∧ (y 2).val < 512 * k.val + 544 then ca I 0 (y0 I) ((y 2).val - 32) (128 * (y 1).val + (y 3).val) else arg39.view.read (Elt Ideal) s.2.2.2.1 y := by
  show arg39.view.read (Elt Ideal) (arg39.view.writes (Elt Ideal) s.2.2.2.1 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 s.1 s.2.1 s.2.2.1 s.2.2.2.1 s.2.2.2.2 k).2.2.2.1) y = _
  rw [trip2_39]
  refine read_q arg39.view s.2.2.2.1 k 0 _ (fun t o => ca I 0 (y0 I) (t - 32) o) (fun p j x => (sc132_at _ x).trans ((code2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 s k j p (ix2 (x 2) (x 3))).trans (congrArg₂ (ca I 0 (y0 I)) ?_ rfl))) y
  show 512 * k.val + 32 * j.val + (x 2).val = 512 * k.val + 32 * j.val + 32 + (x 2).val - 32
  omega

theorem loop2_40 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (G : St2 Ideal arg41 arg40 arg22 arg39 arg28) (n : ℕ) (hn : n ≤ 9) (y : S2x4608x128.Idx) :
    arg40.view.read (Elt Ideal) (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G n).2.1 y = if (y 1).val < 512 * n then y0 I (y 1).val (128 * (y 0).val + (y 2).val) else arg40.view.read (Elt Ideal) G.2.1 y := by
  induction n with
  | zero => rfl
  | succ n ih =>
    rw [show st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G (n + 1) = _ from st2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G ⟨n, hn⟩]
    refine (next2_40 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 _ ⟨n, hn⟩ y).trans ?_
    have := ih (by omega)
    simp only at this ⊢
    split_ifs with h1 h2 h2
    · rfl
    · omega
    · rw [this, if_pos (by omega)]
    · rw [this, if_neg (by omega)]

theorem loop2_22 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (G : St2 Ideal arg41 arg40 arg22 arg39 arg28) (n : ℕ) (hn : n ≤ 9) (y : S1x4608x256.Idx) :
    arg22.view.read (Elt Ideal) (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G n).2.2.1 y = if (y 1).val < 512 * n then kI8 (ca I 0 (y0 I) (y 1).val (y 2).val) else arg22.view.read (Elt Ideal) G.2.2.1 y := by
  induction n with
  | zero => rfl
  | succ n ih =>
    rw [show st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G (n + 1) = _ from st2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G ⟨n, hn⟩]
    refine (next2_22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 _ ⟨n, hn⟩ y).trans ?_
    have := ih (by omega)
    simp only at this ⊢
    split_ifs with h1 h2 h2
    · rfl
    · omega
    · rw [this, if_pos (by omega)]
    · rw [this, if_neg (by omega)]

theorem loop2_39 (I : Inp) (v3 : Elt Ideal .f32) (X38 : BufTy.Contents (Elt Ideal) arg38.view.ty) (X35 : BufTy.Contents (Elt Ideal) arg35.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X16 : BufTy.Contents (Elt Ideal) arg16.view.ty)
    (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) (G : St2 Ideal arg41 arg40 arg22 arg39 arg28) (n : ℕ) (hn : n ≤ 9) (y : S2x2x4672x128.Idx) :
    arg39.view.read (Elt Ideal) (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G n).2.2.2.1 y = if (y 0).val = 0 ∧ 32 ≤ (y 2).val ∧ (y 2).val < 512 * n + 32 then ca I 0 (y0 I) ((y 2).val - 32) (128 * (y 1).val + (y 3).val) else arg39.view.read (Elt Ideal) G.2.2.2.1 y := by
  induction n with
  | zero => rw [if_neg (by omega)]; rfl
  | succ n ih =>
    rw [show st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G (n + 1) = _ from st2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 G ⟨n, hn⟩]
    refine (next2_39 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 _ ⟨n, hn⟩ y).trans ?_
    have := ih (by omega)
    simp only at this ⊢
    split_ifs with h1 h2 h2
    · rfl
    · omega
    · rw [this, if_pos (by omega)]
    · rw [this, if_neg (by omega)]

end Cert.KernelIdeal.Vals

end
-- ==== Proof.Val6.lean ====
module

public import proofs.«01_k».proof.Proof.Stage

@[expose] public section

set_option maxRecDepth 16384

noncomputable section

namespace Cert.KernelIdeal.Vals

open Cert.KernelIdeal Cert.KernelIdeal.Gen
open Idealize.ShloMosaic Idealize.ShloMosaic.TcCoe Idealize.ShloMosaic.Tactic

/-! The last loop: the output and its codes. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem tileO_at (h : ℕ → ℕ → EReal) (H : S2x4608x128.Idx → Elt Ideal .f32) (hH : ∀ y, H y = h (y 1).val (128 * (y 0).val + (y 2).val)) (k : Fin k0_t6_loop.trips) (p : Fin 2) (x : S1x64x128.Idx) :
    tileO (F := Ideal) k H p x = h (64 * k.val + (x 1).val + 64) (128 * p.val + (x 2).val) := by
  have b := (x 0).isLt
  change (x 0).val < 1 at b
  unfold tileO
  match p with
  | 0 =>
    have e := k0_off56_eq k
    refine (hH _).trans (congrArg₂ h ?_ ?_)
    · exact (congrArg (fun o : Fin 3 → ℕ => o 1 + 1 * (x 1).val) e).trans (show 64 * k.val + 64 + 1 * (x 1).val = 64 * k.val + (x 1).val + 64 by omega)
    · exact (congrArg (fun o : Fin 3 → ℕ => 128 * (o 0 + 1 * (x 0).val) + (o 2 + 1 * (x 2).val)) e).trans (show 128 * (0 + 1 * (x 0).val) + (0 + 1 * (x 2).val) = 128 * 0 + (x 2).val by omega)
  | 1 =>
    have e := k0_off58_eq k
    refine (hH _).trans (congrArg₂ h ?_ ?_)
    · exact (congrArg (fun o : Fin 3 → ℕ => o 1 + 1 * (x 1).val) e).trans (show 64 * k.val + 64 + 1 * (x 1).val = 64 * k.val + (x 1).val + 64 by omega)
    · exact (congrArg (fun o : Fin 3 → ℕ => 128 * (o 0 + 1 * (x 0).val) + (o 2 + 1 * (x 2).val)) e).trans (show 128 * (1 + 1 * (x 0).val) + (0 + 1 * (x 2).val) = 128 * 1 + (x 2).val by omega)

theorem loop6_18 (I : Inp) (v158 : Vec Ideal S8x128 .f32) (X17 : BufTy.Contents (Elt Ideal) arg17.view.ty) (X40 : BufTy.Contents (Elt Ideal) arg40.view.ty) (init : FVec Ideal S1x128 .f32 × FVec Ideal S1x128 .f32) (h : ℕ → ℕ → EReal)
    (r17 : ∀ y, arg17.view.read (Elt Ideal) X17 y = I.so) (r40 : ∀ y, arg40.view.read (Elt Ideal) X40 y = h (y 1).val (128 * (y 0).val + (y 2).val)) (G : BufTy.Contents (Elt Ideal) arg18.view.ty) (n : ℕ) (hn : n ≤ 70) (y : S1x4480x256.Idx) :
    arg18.view.read (Elt Ideal) (arg18.view.writes (Elt Ideal) G (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init n).2.1) y = if (y 1).val < 64 * n then h ((y 1).val + 64) (y 2).val else arg18.view.read (Elt Ideal) G y := by
  induction n with
  | zero => rfl
  | succ n ih =>
    rw [st_k0_t6_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init ⟨n, hn⟩]
    simp only
    rw [View.writes_append, trip6_18]
    refine (read_o (Val := Elt Ideal) arg18.view _ (⟨n, hn⟩ : Fin 70) _ (fun t o => h (t + 64) o) (fun p x => ?_) y).trans ?_
    · exact (gY_at _ x).trans (tileO_at h _ r40 ⟨n, hn⟩ p x)
    · have := ih (by omega)
      simp only at this ⊢
      split_ifs with h1 h2 h2
      · rfl
      · omega
      · rw [this, if_pos (by omega)]
      · rw [this, if_neg (by omega)]

theorem loop6_19 (I : Inp) (v158 : Vec Ideal S8x128 .f32) (X17 : BufTy.Contents (Elt Ideal) arg17.view.ty) (X40 : BufTy.Contents (Elt Ideal) arg40.view.ty) (init : FVec Ideal S1x128 .f32 × FVec Ideal S1x128 .f32) (h : ℕ → ℕ → EReal)
    (r17 : ∀ y, arg17.view.read (Elt Ideal) X17 y = I.so) (r40 : ∀ y, arg40.view.read (Elt Ideal) X40 y = h (y 1).val (128 * (y 0).val + (y 2).val)) (G : BufTy.Contents (Elt Ideal) arg19.view.ty) (n : ℕ) (hn : n ≤ 70) (y : S1x4480x256.Idx) :
    arg19.view.read (Elt Ideal) (arg19.view.writes (Elt Ideal) G (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init n).2.2) y = if (y 1).val < 64 * n then kI8 (kOut I.so (h ((y 1).val + 64) (y 2).val)) else arg19.view.read (Elt Ideal) G y := by
  induction n with
  | zero => rfl
  | succ n ih =>
    rw [st_k0_t6_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init ⟨n, hn⟩]
    simp only
    rw [View.writes_append, trip6_19]
    refine (read_o (Val := Elt Ideal) arg19.view _ (⟨n, hn⟩ : Fin 70) _ (fun t o => kI8 (kOut I.so (h (t + 64) o))) (fun p x => ?_) y).trans ?_
    · exact (gOut_at _ _ x).trans (congrArg kI8 (congrArg₂ kOut (r17 _) (tileO_at h _ r40 ⟨n, hn⟩ p x)))
    · have := ih (by omega)
      simp only at this ⊢
      split_ifs with h1 h2 h2
      · rfl
      · omega
      · rw [this, if_pos (by omega)]
      · rw [this, if_neg (by omega)]

end Cert.KernelIdeal.Vals

end
-- ==== Proof.List3.lean ====
module

public import proofs.«01_k».proof.Proof.Trip3
public import proofs.«01_k».proof.Proof.Units

@[expose] public section

set_option maxRecDepth 16384
set_option maxHeartbeats 2000000

noncomputable section

namespace Cert.KernelIdeal.Body

open Cert.KernelIdeal Cert.KernelIdeal.Gen Cert.KernelIdeal.Vals
open Idealize.ShloMosaic Idealize.ShloMosaic.TcCoe Idealize.ShloMosaic.Tactic

variable {F : FTy → Type} [FloatOps F]

/-- The dilated convolution of chunk `k`, from the codes `Q` and the weights `W`. -/
def dil3 (k : Fin k0_t3_loop.trips) (Q : S2x2x4672x128.Idx → Elt F .f32) (W : S3x7x256x256.Idx → Elt F .bf16) : FVec F S512x256 .f32 :=
  gDil (fun n => View.ld Q (Rect.unit (k0_off22 k (BitVec.ofNat 32 (29 + n.val))) S1x1x512x128.size (k0_off22_inb k n)))
    (fun n => View.ld Q (Rect.unit (k0_off23 k (BitVec.ofNat 32 (29 + n.val))) S1x1x512x128.size (k0_off23_inb k n)))
    (fun n => View.ld W (Rect.unit ![0, n.val, 0, 0] S1x1x256x256.size (inb_w7 0 n)))

/-- A tile of the residual stream of chunk `k`. -/
def tileH3 (k : Fin k0_t3_loop.trips) (H : S2x4608x128.Idx → Elt F .f32) (p : Fin 2) (j : Fin 16) : Vec F S1x32x128 .f32 :=
  match p with
  | 0 => View.ld H (Rect.unit (k0_off27 k (BitVec.ofNat 32 (32 * j.val))) S1x32x128.size (k0_off27_inb k j))
  | 1 => View.ld H (Rect.unit (k0_off29 k (BitVec.ofNat 32 (32 * j.val))) S1x32x128.size (k0_off29_inb k j))

theorem trip3_23  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.2.2.2.1 = tiles_a k fun p j => gI8 (gCode (gInv (View.ld (arg16.view.read (Elt F) X16) (Rect.unit ![0, 1] S1x1.size inb_S3x2_S1x1_0_1) (Shape.Idx.first (by decide)))) (gRow (View.ld (arg7.view.read (Elt F) X7) (Rect.unit ![1, 128 * p.val] S1x128.size (inb_row6 1 p)))) (gK (View.ld (arg8.view.read (Elt F) X8) (Rect.unit ![1, 128 * p.val] S1x128.size (inb_row6 1 p)))) (gLin (dil3 k (arg39.view.read (Elt F) f39) (arg36.view.read (Elt F) X36)) p j v30 (View.ld (arg10.view.read (Elt F) X10) (Rect.unit ![0, 128 * p.val] S1x128.size (inb_row3 0 p))) (View.ld (arg11.view.read (Elt F) X11) (Rect.unit ![0, 128 * p.val] S1x128.size (inb_row3 0 p))))) := by
  refine Eq.trans ?_ (pairs_of (o1 := fun j => k0_off25 k (BitVec.ofNat 32 (32 * j.val))) (o0 := fun j => k0_off24 k (BitVec.ofNat 32 (32 * j.val)))
    (fun j => k0_off25_eq k j) (fun j => k0_off24_eq k j) (k0_off25_inb k) (k0_off24_inb k) _ _)
  unfold trip3; rfl

theorem trip3_40  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.1 = tiles_h k fun p j => shapeCast S1x32x128 (gBF (gSum (tileH3 k (arg40.view.read (Elt F) f40) p j) (gLin (gPt (arg23.view.readCov (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.2.2.2.1 (Rect.unit (s := S1x4608x256) (k0_off26 k) S1x512x256.size (k0_off26_inb k)).toLoadRect) (View.ld (arg37.view.read (Elt F) X37) (Rect.unit ![0, 0, 0] S1x256x256.size inb_S3x256x256_S1x256x256_0_0_0))) p j (View.ld (arg16.view.read (Elt F) X16) (Rect.unit ![0, 1] S1x1.size inb_S3x2_S1x1_0_1) (Shape.Idx.first (by decide))) (View.ld (arg13.view.read (Elt F) X13) (Rect.unit ![0, 128 * p.val] S1x128.size (inb_row3 0 p))) (View.ld (arg14.view.read (Elt F) X14) (Rect.unit ![0, 128 * p.val] S1x128.size (inb_row3 0 p)))))) shapeCasts_S32x128_S1x32x128 := by
  refine Eq.trans ?_ (pairs_of (o1 := fun j => k0_off29 k (BitVec.ofNat 32 (32 * j.val))) (o0 := fun j => k0_off27 k (BitVec.ofNat 32 (32 * j.val)))
    (fun j => k0_off29_eq k j) (fun j => k0_off27_eq k j) (k0_off29_inb k) (k0_off27_inb k) _ _)
  unfold trip3; rfl

theorem trip3_24  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.2.2.2.2.1 = tiles_a k fun p j => gI8 (gCode (gInv (View.ld (arg16.view.read (Elt F) X16) (Rect.unit ![1, 0] S1x1.size inb_S3x2_S1x1_1_0) (Shape.Idx.first (by decide)))) (gRow (View.ld (arg7.view.read (Elt F) X7) (Rect.unit ![2, 128 * p.val] S1x128.size (inb_row6 2 p)))) (gK (View.ld (arg8.view.read (Elt F) X8) (Rect.unit ![2, 128 * p.val] S1x128.size (inb_row6 2 p)))) (gBF (gSum (tileH3 k (arg40.view.read (Elt F) f40) p j) (gLin (gPt (arg23.view.readCov (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.2.2.2.1 (Rect.unit (s := S1x4608x256) (k0_off26 k) S1x512x256.size (k0_off26_inb k)).toLoadRect) (View.ld (arg37.view.read (Elt F) X37) (Rect.unit ![0, 0, 0] S1x256x256.size inb_S3x256x256_S1x256x256_0_0_0))) p j (View.ld (arg16.view.read (Elt F) X16) (Rect.unit ![0, 1] S1x1.size inb_S3x2_S1x1_0_1) (Shape.Idx.first (by decide))) (View.ld (arg13.view.read (Elt F) X13) (Rect.unit ![0, 128 * p.val] S1x128.size (inb_row3 0 p))) (View.ld (arg14.view.read (Elt F) X14) (Rect.unit ![0, 128 * p.val] S1x128.size (inb_row3 0 p))))))) := by
  refine Eq.trans ?_ (pairs_of (o1 := fun j => k0_off25 k (BitVec.ofNat 32 (32 * j.val))) (o0 := fun j => k0_off24 k (BitVec.ofNat 32 (32 * j.val)))
    (fun j => k0_off25_eq k j) (fun j => k0_off24_eq k j) (k0_off25_inb k) (k0_off24_inb k) _ _)
  unfold trip3; rfl

theorem trip3_39  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v20 : Vec F S8x128 .f32) (v30 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f23 : BufTy.Contents (Elt F) arg23.view.ty) (f24 : BufTy.Contents (Elt F) arg24.view.ty) (f29 : BufTy.Contents (Elt F) arg29.view.ty) (f30 : BufTy.Contents (Elt F) arg30.view.ty) (k : Fin k0_t3_loop.trips) :
    (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).1 = tiles_q k 1 fun p j => shapeCast S1x1x32x128 (gCode (gInv (View.ld (arg16.view.read (Elt F) X16) (Rect.unit ![1, 0] S1x1.size inb_S3x2_S1x1_1_0) (Shape.Idx.first (by decide)))) (gRow (View.ld (arg7.view.read (Elt F) X7) (Rect.unit ![2, 128 * p.val] S1x128.size (inb_row6 2 p)))) (gK (View.ld (arg8.view.read (Elt F) X8) (Rect.unit ![2, 128 * p.val] S1x128.size (inb_row6 2 p)))) (gBF (gSum (tileH3 k (arg40.view.read (Elt F) f40) p j) (gLin (gPt (arg23.view.readCov (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 f39 f40 f41 f42 f23 f24 f29 f30 k).2.2.2.2.1 (Rect.unit (s := S1x4608x256) (k0_off26 k) S1x512x256.size (k0_off26_inb k)).toLoadRect) (View.ld (arg37.view.read (Elt F) X37) (Rect.unit ![0, 0, 0] S1x256x256.size inb_S3x256x256_S1x256x256_0_0_0))) p j (View.ld (arg16.view.read (Elt F) X16) (Rect.unit ![0, 1] S1x1.size inb_S3x2_S1x1_0_1) (Shape.Idx.first (by decide))) (View.ld (arg13.view.read (Elt F) X13) (Rect.unit ![0, 128 * p.val] S1x128.size (inb_row3 0 p))) (View.ld (arg14.view.read (Elt F) X14) (Rect.unit ![0, 128 * p.val] S1x128.size (inb_row3 0 p))))))) shapeCasts_S32x128_S1x1x32x128 := by
  refine Eq.trans ?_ (pairs_of (o1 := fun j => k0_off30 k (BitVec.ofNat 32 (32 * j.val))) (o0 := fun j => k0_off28 k (BitVec.ofNat 32 (32 * j.val)))
    (fun j => k0_off30_eq k j) (fun j => k0_off28_eq k j) (k0_off30_inb k) (k0_off28_inb k) _ _)
  unfold trip3; rfl

end Cert.KernelIdeal.Body

end
-- ==== Proof.Unit3.lean ====
module

public import proofs.«01_k».proof.Proof.Stage
public import proofs.«01_k».proof.Proof.List3
public import proofs.«01_k».proof.Proof.Loop3

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

/-! Residual unit 1 of 3. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem dil3_at (I : Inp) (h : ℕ → ℕ → EReal) (Q : S2x2x4672x128.Idx → Elt Ideal .f32) (W : S3x7x256x256.Idx → Elt Ideal .bf16)
    (hQ : ∀ y, (y 0).val = 0 → Q y = Qa I 0 h (y 2).val (128 * (y 1).val + (y 3).val)) (hW : ∀ y, W y = I.w7 (y 0).val (y 1).val (y 2).val (y 3).val)
    (k : Fin k0_t3_loop.trips) (x : S512x256.Idx) : dil3 (F := Ideal) k Q W x = dconv 1 (Qa I 0 h) (I.w7 0) (512 * k.val + (x 0).val) (x 1).val := by
  unfold dil3
  refine gDil_at 1 _ _ _ (Qa I 0 h) (I.w7 0) (512 * k.val) ?_ ?_ ?_ x
  · intro m x
    have e := k0_off22_eq k m
    have b1 := (x 0).isLt
    have b2 := (x 1).isLt
    change (x 0).val < 1 at b1
    change (x 1).val < 1 at b2
    refine (hQ _ ?_).trans (congrArg₂ (Qa I 0 h) ?_ ?_)
    · exact (congrArg (fun o : Fin 4 → ℕ => o 0 + 1 * (x 0).val) e).trans (show 0 + 1 * (x 0).val = 0 by omega)
    · exact (congrArg (fun o : Fin 4 → ℕ => o 2 + 1 * (x 2).val) e).trans (show 512 * k.val + m.val + 29 + 1 * (x 2).val = 512 * k.val + (32 - 3 * 1) + m.val * 1 + (x 2).val by omega)
    · exact (congrArg (fun o : Fin 4 → ℕ => 128 * (o 1 + 1 * (x 1).val) + (o 3 + 1 * (x 3).val)) e).trans (show 128 * (0 + 1 * (x 1).val) + (0 + 1 * (x 3).val) = (x 3).val by omega)
  · intro m x
    have e := k0_off23_eq k m
    have b1 := (x 0).isLt
    have b2 := (x 1).isLt
    change (x 0).val < 1 at b1
    change (x 1).val < 1 at b2
    refine (hQ _ ?_).trans (congrArg₂ (Qa I 0 h) ?_ ?_)
    · exact (congrArg (fun o : Fin 4 → ℕ => o 0 + 1 * (x 0).val) e).trans (show 0 + 1 * (x 0).val = 0 by omega)
    · exact (congrArg (fun o : Fin 4 → ℕ => o 2 + 1 * (x 2).val) e).trans (show 512 * k.val + m.val + 29 + 1 * (x 2).val = 512 * k.val + (32 - 3 * 1) + m.val * 1 + (x 2).val by omega)
    · exact (congrArg (fun o : Fin 4 → ℕ => 128 * (o 1 + 1 * (x 1).val) + (o 3 + 1 * (x 3).val)) e).trans (show 128 * (1 + 1 * (x 1).val) + (0 + 1 * (x 3).val) = 128 + (x 3).val by omega)
  · intro m x
    refine (hW _).trans ?_
    have b1 := (x 0).isLt
    have b2 := (x 1).isLt
    change (x 0).val < 1 at b1
    change (x 1).val < 1 at b2
    show I.w7 (0 + 1 * (x 0).val) (m.val + 1 * (x 1).val) (0 + 1 * (x 2).val) (0 + 1 * (x 3).val) = _
    rw [show 0 + 1 * (x 0).val = 0 by omega, show m.val + 1 * (x 1).val = m.val by omega, show 0 + 1 * (x 2).val = (x 2).val by omega, show 0 + 1 * (x 3).val = (x 3).val by omega]

theorem tileH3_at (h : ℕ → ℕ → EReal) (H : S2x4608x128.Idx → Elt Ideal .f32) (k : Fin k0_t3_loop.trips) (hH : ∀ y, 512 * k.val ≤ (y 1).val → (y 1).val < 512 * k.val + 512 → H y = h (y 1).val (128 * (y 0).val + (y 2).val))
    (p : Fin 2) (j : Fin 16) (x : S32x128.Idx) : tileH3 (F := Ideal) k H p j (ix3 0 (x 0) (x 1)) = h (512 * k.val + 32 * j.val + (x 0).val) (128 * p.val + (x 1).val) := by
  have b := (x 0).isLt
  change (x 0).val < 32 at b
  unfold tileH3
  match p with
  | 0 =>
    have e := k0_off27_eq k j
    have e1 : k0_off27 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off27 k (BitVec.ofNat 32 (32 * j.val)) 1 + 1 * (x 0).val
      omega
    · show k0_off27 k (BitVec.ofNat 32 (32 * j.val)) 1 + 1 * (x 0).val < _
      omega
    · exact (congrArg (fun o : Fin 3 → ℕ => 128 * (o 0 + 1 * 0) + (o 2 + 1 * (x 1).val)) e).trans (show 128 * (0 + 1 * 0) + (0 + 1 * (x 1).val) = 128 * 0 + (x 1).val by omega)
  | 1 =>
    have e := k0_off29_eq k j
    have e1 : k0_off29 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off29 k (BitVec.ofNat 32 (32 * j.val)) 1 + 1 * (x 0).val
      omega
    · show k0_off29 k (BitVec.ofNat 32 (32 * j.val)) 1 + 1 * (x 0).val < _
      omega
    · exact (congrArg (fun o : Fin 3 → ℕ => 128 * (o 0 + 1 * 0) + (o 2 + 1 * (x 1).val)) e).trans (show 128 * (1 + 1 * 0) + (0 + 1 * (x 1).val) = 128 * 1 + (x 1).val by omega)

theorem cb3 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val)) (p : Fin 2) (j : Fin 16) (x : S1x32x128.Idx) :
    gI8 (F := Ideal) (gCode (gInv (View.ld (arg16.view.read (Elt Ideal) X16) (Rect.unit (s := S3x2) ![0, 1] S1x1.size inb_S3x2_S1x1_0_1) (Shape.Idx.first (by decide)))) (gRow (View.ld (arg7.view.read (Elt Ideal) X7) (Rect.unit (s := S6x256) ![1, 128 * p.val] S1x128.size (inb_row6 1 p)))) (gK (View.ld (arg8.view.read (Elt Ideal) X8) (Rect.unit (s := S6x256) ![1, 128 * p.val] S1x128.size (inb_row6 1 p)))) (gLin (dil3 k (arg39.view.read (Elt Ideal) s.1) (arg36.view.read (Elt Ideal) X36)) p j v30 (View.ld (arg10.view.read (Elt Ideal) X10) (Rect.unit (s := S3x256) ![0, 128 * p.val] S1x128.size (inb_row3 0 p))) (View.ld (arg11.view.read (Elt Ideal) X11) (Rect.unit (s := S3x256) ![0, 128 * p.val] S1x128.size (inb_row3 0 p))))) x = cb I 0 1 h (512 * k.val + 32 * j.val + (x 1).val) (128 * p.val + (x 2).val) := by
  subst ea
  refine (gI8_at _ x).trans (congrArg kI8 ?_)
  refine (code_at _ _ _ (I.ra 1) (I.rb 1) _ (128 * p.val) (row6_ld _ I.ra r7 1 p) (row6_ld _ I.rb r8 1 p) _ (ix2 (x 1) (x 2)) (gLin_at _ p j _ _ _ (dconv 1 (Qa I 0 h) (I.w7 0)) (512 * k.val) (I.w7s 0) (I.b7 0) (dil3_at I h _ _ hQ r36 k) (row3_ld _ I.w7s r10 0 p) (row3_ld _ I.b7 r11 0 p) _)).trans ?_
  rw [scale_ld _ I.act r16 0 1]
  rfl

theorem qb3 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val)) (f : BufTy.Contents (Elt Ideal) arg23.view.ty) (y : S1x4608x256.Idx) :
    arg23.view.read (Elt Ideal) (arg23.view.writes (Elt Ideal) f (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1) y = if 512 * k.val ≤ (y 1).val ∧ (y 1).val < 512 * k.val + 512 then cb I 0 1 h (y 1).val (y 2).val else arg23.view.read (Elt Ideal) f y := by
  rw [trip3_23]
  exact read_a arg23.view f k _ (cb I 0 1 h) (fun p j x => cb3 (I := I) (ea := ea) (r36 := r36) (r10 := r10) (r11 := r11) (r7 := r7) (r8 := r8) (r16 := r16) (r37 := r37) (r13 := r13) (r14 := r14) (v20 := v20) (h := h) (s := s) (k := k) (hQ := hQ) (p := p) (j := j) (x := x) ..) y

theorem z3 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (p : Fin 2) (j : Fin 16) (x : S32x128.Idx) :
    (gSum (tileH3 k (arg40.view.read (Elt Ideal) s.2.1) p j) (gLin (gPt (arg23.view.readCov (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1 (Rect.unit (s := S1x4608x256) (k0_off26 k) S1x512x256.size (k0_off26_inb k)).toLoadRect) (View.ld (arg37.view.read (Elt Ideal) X37) (Rect.unit (s := S3x256x256) ![0, 0, 0] S1x256x256.size inb_S3x256x256_S1x256x256_0_0_0))) p j (View.ld (arg16.view.read (Elt Ideal) X16) (Rect.unit (s := S3x2) ![0, 1] S1x1.size inb_S3x2_S1x1_0_1) (Shape.Idx.first (by decide))) (View.ld (arg13.view.read (Elt Ideal) X13) (Rect.unit (s := S3x256) ![0, 128 * p.val] S1x128.size (inb_row3 0 p))) (View.ld (arg14.view.read (Elt Ideal) X14) (Rect.unit (s := S3x256) ![0, 128 * p.val] S1x128.size (inb_row3 0 p))))) x = nx I 0 1 h (512 * k.val + 32 * j.val + (x 0).val) (128 * p.val + (x 1).val) := by
  refine (gSum_at _ _ x).trans (congrArg₂ (· + ·) (tileH3_at h _ k hH p j x) ?_)
  refine (gLin_at _ p j _ _ _ (pconv (fun t o => dec (cb I 0 1 h t o)) (I.w1 0)) (512 * k.val) (I.w1s 0) (I.b1 0) ?_ (row3_ld _ I.w1s r13 0 p) (row3_ld _ I.b1 r14 0 p) x).trans ?_
  · intro x
    refine (gPt_at _ _ x).trans (Finset.sum_congr rfl fun m _ => congrArg₂ (· * ·) (congrArg dec ?_) ?_)
    · have b := (x 0).isLt
      change (x 0).val < 512 at b
      have e := k0_off26_eq k
      have e1 : k0_off26 k 1 + 1 * (x 0).val = 512 * k.val + (x 0).val :=
        (congrArg (fun o : Fin 3 → ℕ => o 1 + 1 * (x 0).val) e).trans (show 512 * k.val + 1 * (x 0).val = _ by omega)
      refine (qb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h s k hQ arg23.view.junk _).trans ((if_pos ⟨?_, ?_⟩).trans (congrArg₂ (cb I 0 1 h) e1 ?_))
      · exact (congrArg (fun o : Fin 3 → ℕ => o 2 + 1 * m.val) e).trans (show 0 + 1 * m.val = m.val by omega)
      · show 512 * k.val ≤ k0_off26 k 1 + 1 * (x 0).val
        omega
      · show k0_off26 k 1 + 1 * (x 0).val < _
        omega
    · refine (r37 _).trans ?_
      show I.w1 (0 + 1 * 0) (0 + 1 * m.val) (0 + 1 * (x 1).val) = _
      rw [show 0 + 1 * m.val = m.val by omega, show 0 + 1 * (x 1).val = (x 1).val by omega]
  · rw [scale_ld _ I.act r16 0 1]
    rfl

theorem step3_40 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S2x4608x128.Idx) :
    arg40.view.read (Elt Ideal) (next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s k).2.1 y = if 512 * k.val ≤ (y 1).val ∧ (y 1).val < 512 * k.val + 512 then nx I 0 1 h (y 1).val (128 * (y 0).val + (y 2).val) else arg40.view.read (Elt Ideal) s.2.1 y := by
  show arg40.view.read (Elt Ideal) (arg40.view.writes (Elt Ideal) s.2.1 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.1) y = _
  rw [trip3_40]
  refine read_h (Val := Elt Ideal) arg40.view _ k _ (nx I 0 1 h) (fun p j x => ?_) y
  refine (sc32_at _ x).trans ?_
  refine (gBF_at _ _).trans ?_
  exact z3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h s k hQ hH p j (ix2 (x 1) (x 2))

theorem ca3 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (p : Fin 2) (j : Fin 16) (x : S32x128.Idx) :
    gCode (F := Ideal) (gInv (View.ld (arg16.view.read (Elt Ideal) X16) (Rect.unit (s := S3x2) ![1, 0] S1x1.size inb_S3x2_S1x1_1_0) (Shape.Idx.first (by decide)))) (gRow (View.ld (arg7.view.read (Elt Ideal) X7) (Rect.unit (s := S6x256) ![2, 128 * p.val] S1x128.size (inb_row6 2 p)))) (gK (View.ld (arg8.view.read (Elt Ideal) X8) (Rect.unit (s := S6x256) ![2, 128 * p.val] S1x128.size (inb_row6 2 p)))) (gBF (gSum (tileH3 k (arg40.view.read (Elt Ideal) s.2.1) p j) (gLin (gPt (arg23.view.readCov (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1 (Rect.unit (s := S1x4608x256) (k0_off26 k) S1x512x256.size (k0_off26_inb k)).toLoadRect) (View.ld (arg37.view.read (Elt Ideal) X37) (Rect.unit (s := S3x256x256) ![0, 0, 0] S1x256x256.size inb_S3x256x256_S1x256x256_0_0_0))) p j (View.ld (arg16.view.read (Elt Ideal) X16) (Rect.unit (s := S3x2) ![0, 1] S1x1.size inb_S3x2_S1x1_0_1) (Shape.Idx.first (by decide))) (View.ld (arg13.view.read (Elt Ideal) X13) (Rect.unit (s := S3x256) ![0, 128 * p.val] S1x128.size (inb_row3 0 p))) (View.ld (arg14.view.read (Elt Ideal) X14) (Rect.unit (s := S3x256) ![0, 128 * p.val] S1x128.size (inb_row3 0 p)))))) x = ca I 1 (nx I 0 1 h) (512 * k.val + 32 * j.val + (x 0).val) (128 * p.val + (x 1).val) := by
  refine (code_at _ _ _ (I.ra 2) (I.rb 2) _ (128 * p.val) (row6_ld _ I.ra r7 2 p) (row6_ld _ I.rb r8 2 p) _ x ((gBF_at _ _).trans (z3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h s k hQ hH p j x))).trans ?_
  rw [scale_ld _ I.act r16 1 0]
  rfl

theorem step3_24 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S1x4608x256.Idx) :
    arg24.view.read (Elt Ideal) (next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s k).2.2.2.2.2.1 y = if 512 * k.val ≤ (y 1).val ∧ (y 1).val < 512 * k.val + 512 then kI8 (ca I 1 (nx I 0 1 h) (y 1).val (y 2).val) else arg24.view.read (Elt Ideal) s.2.2.2.2.2.1 y := by
  show arg24.view.read (Elt Ideal) (arg24.view.writes (Elt Ideal) s.2.2.2.2.2.1 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1) y = _
  rw [trip3_24]
  exact read_a (Val := Elt Ideal) arg24.view _ k _ (fun t o => kI8 (ca I 1 (nx I 0 1 h) t o)) (fun p j x => (gI8_at _ x).trans (congrArg kI8 (ca3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h s k hQ hH p j (ix2 (x 1) (x 2))))) y

theorem step3_39 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St3 Ideal arg39 arg40 arg41 arg42 arg23 arg24 arg29 arg30) (k : Fin k0_t3_loop.trips) (hQ : ∀ y, (y 0).val = 0 → arg39.view.read (Elt Ideal) s.1 y = Qa I 0 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S2x2x4672x128.Idx) :
    arg39.view.read (Elt Ideal) (next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s k).1 y = if (y 0).val = 1 ∧ 512 * k.val + 32 ≤ (y 2).val ∧ (y 2).val < 512 * k.val + 544 then ca I 1 (nx I 0 1 h) ((y 2).val - 32) (128 * (y 1).val + (y 3).val) else arg39.view.read (Elt Ideal) s.1 y := by
  show arg39.view.read (Elt Ideal) (arg39.view.writes (Elt Ideal) s.1 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 s.1 s.2.1 s.2.2.1 s.2.2.2.1 s.2.2.2.2.1 s.2.2.2.2.2.1 s.2.2.2.2.2.2.1 s.2.2.2.2.2.2.2 k).1) y = _
  rw [trip3_39]
  refine read_q (Val := Elt Ideal) arg39.view _ k 1 _ (fun t o => ca I 1 (nx I 0 1 h) (t - 32) o) (fun p j x => ?_) y
  refine (sc132_at _ x).trans ?_
  refine (ca3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h s k hQ hH p j (ix2 (x 2) (x 3))).trans (congrArg₂ (ca I 1 (nx I 0 1 h)) ?_ rfl)
  show 512 * k.val + 32 * j.val + (x 2).val = 512 * k.val + 32 * j.val + 32 + (x 2).val - 32
  omega

theorem loop3 (I : Inp) (v20 : Vec Ideal S8x128 .f32) (v30 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v30 = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (G : St3 Ideal arg39 arg40 arg41 arg42 arg23 arg24 arg29 arg30)
    (gQ : ∀ y, (y 0).val = 0 → arg39.view.read (Elt Ideal) G.1 y = Qa I 0 h (y 2).val (128 * (y 1).val + (y 3).val))
    (gH : ∀ y, arg40.view.read (Elt Ideal) G.2.1 y = h (y 1).val (128 * (y 0).val + (y 2).val)) (m : ℕ) (hm : m ≤ 9) :
    (∀ y, arg39.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).1 y = if (y 0).val = 1 ∧ 32 ≤ (y 2).val ∧ (y 2).val < 512 * m + 32 then ca I 1 (nx I 0 1 h) ((y 2).val - 32) (128 * (y 1).val + (y 3).val) else arg39.view.read (Elt Ideal) G.1 y) ∧
    (∀ y, arg40.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).2.1 y = if (y 1).val < 512 * m then nx I 0 1 h (y 1).val (128 * (y 0).val + (y 2).val) else arg40.view.read (Elt Ideal) G.2.1 y) ∧
    (∀ y, arg23.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).2.2.2.2.1 y = if (y 1).val < 512 * m then cb I 0 1 h (y 1).val (y 2).val else arg23.view.read (Elt Ideal) G.2.2.2.2.1 y) ∧
    (∀ y, arg24.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).2.2.2.2.2.1 y = if (y 1).val < 512 * m then kI8 (ca I 1 (nx I 0 1 h) (y 1).val (y 2).val) else arg24.view.read (Elt Ideal) G.2.2.2.2.2.1 y) := by
  induction m with
  | zero => exact ⟨fun y => by rw [if_neg (by omega)]; rfl, fun y => by rw [if_neg (by omega)]; rfl, fun y => by rw [if_neg (by omega)]; rfl, fun y => by rw [if_neg (by omega)]; rfl⟩
  | succ m ih =>
    obtain ⟨i39, i40, i23, i24⟩ := ih (by omega)
    have hQ : ∀ y, (y 0).val = 0 → arg39.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).1 y = Qa I 0 h (y 2).val (128 * (y 1).val + (y 3).val) := fun y hy => (i39 y).trans ((if_neg (by omega)).trans (gQ y hy))
    have hH : ∀ y, 512 * m ≤ (y 1).val → (y 1).val < 512 * m + 512 → arg40.view.read (Elt Ideal) (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m).2.1 y = h (y 1).val (128 * (y 0).val + (y 2).val) := fun y ha _ => (i40 y).trans ((if_neg (by omega)).trans (gH y))
    rw [show st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G (m + 1) = _ from st3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G ⟨m, hm⟩]
    refine ⟨fun y => ?_, fun y => ?_, fun y => ?_, fun y => ?_⟩
    · refine (step3_39 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m) ⟨m, hm⟩ hQ hH y).trans ?_
      have := i39 y
      simp only at this ⊢
      split_ifs with h1 h2 h2
      · rfl
      · omega
      · rw [this, if_pos (by omega)]
      · rw [this, if_neg (by omega)]
    · refine (step3_40 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m) ⟨m, hm⟩ hQ hH y).trans ?_
      have := i40 y
      simp only at this ⊢
      split_ifs with h1 h2 h2
      · rfl
      · omega
      · rw [this, if_pos (by omega)]
      · rw [this, if_neg (by omega)]
    · refine (qb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m) ⟨m, hm⟩ hQ _ y).trans ?_
      have := i23 y
      simp only at this ⊢
      split_ifs with h1 h2 h2
      · rfl
      · omega
      · rw [this, if_pos (by omega)]
      · rw [this, if_neg (by omega)]
    · refine (step3_24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 v30 X36 X10 X11 X7 X8 X16 X37 X13 X14 ea r36 r10 r11 r7 r8 r16 r37 r13 r14 h (st3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 v30 X36 X10 X11 X7 X8 X16 X37 X13 X14 G m) ⟨m, hm⟩ hQ hH y).trans ?_
      have := i24 y
      simp only at this ⊢
      split_ifs with h1 h2 h2
      · rfl
      · omega
      · rw [this, if_pos (by omega)]
      · rw [this, if_neg (by omega)]

end Cert.KernelIdeal.Vals

end
-- ==== Proof.List4.lean ====
module

public import proofs.«01_k».proof.Proof.Trip4
public import proofs.«01_k».proof.Proof.Units

@[expose] public section

set_option maxRecDepth 16384
set_option maxHeartbeats 2000000

noncomputable section

namespace Cert.KernelIdeal.Body

open Cert.KernelIdeal Cert.KernelIdeal.Gen Cert.KernelIdeal.Vals
open Idealize.ShloMosaic Idealize.ShloMosaic.TcCoe Idealize.ShloMosaic.Tactic

variable {F : FTy → Type} [FloatOps F]

/-- The dilated convolution of chunk `k`, from the codes `Q` and the weights `W`. -/
def dil4 (k : Fin k0_t4_loop.trips) (Q : S2x2x4672x128.Idx → Elt F .f32) (W : S3x7x256x256.Idx → Elt F .bf16) : FVec F S512x256 .f32 :=
  gDil (fun n => View.ld Q (Rect.unit (k0_off34 k (BitVec.ofNat 32 (23 + 3 * n.val))) S1x1x512x128.size (k0_off34_inb k n)))
    (fun n => View.ld Q (Rect.unit (k0_off35 k (BitVec.ofNat 32 (23 + 3 * n.val))) S1x1x512x128.size (k0_off35_inb k n)))
    (fun n => View.ld W (Rect.unit ![1, n.val, 0, 0] S1x1x256x256.size (inb_w7 1 n)))

/-- A tile of the residual stream of chunk `k`. -/
def tileH4 (k : Fin k0_t4_loop.trips) (H : S2x4608x128.Idx → Elt F .f32) (p : Fin 2) (j : Fin 16) : Vec F S1x32x128 .f32 :=
  match p with
  | 0 => View.ld H (Rect.unit (k0_off39 k (BitVec.ofNat 32 (32 * j.val))) S1x32x128.size (k0_off39_inb k j))
  | 1 => View.ld H (Rect.unit (k0_off41 k (BitVec.ofNat 32 (32 * j.val))) S1x32x128.size (k0_off41_inb k j))

theorem trip4_25  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.2.2.2.1 = tiles_a k fun p j => gI8 (gCode (gInv (View.ld (arg16.view.read (Elt F) X16) (Rect.unit ![1, 1] S1x1.size inb_S3x2_S1x1_1_1) (Shape.Idx.first (by decide)))) (gRow (View.ld (arg7.view.read (Elt F) X7) (Rect.unit ![3, 128 * p.val] S1x128.size (inb_row6 3 p)))) (gK (View.ld (arg8.view.read (Elt F) X8) (Rect.unit ![3, 128 * p.val] S1x128.size (inb_row6 3 p)))) (gLin (dil4 k (arg39.view.read (Elt F) f39) (arg36.view.read (Elt F) X36)) p j v80 (View.ld (arg10.view.read (Elt F) X10) (Rect.unit ![1, 128 * p.val] S1x128.size (inb_row3 1 p))) (View.ld (arg11.view.read (Elt F) X11) (Rect.unit ![1, 128 * p.val] S1x128.size (inb_row3 1 p))))) := by
  refine Eq.trans ?_ (pairs_of (o1 := fun j => k0_off37 k (BitVec.ofNat 32 (32 * j.val))) (o0 := fun j => k0_off36 k (BitVec.ofNat 32 (32 * j.val)))
    (fun j => k0_off37_eq k j) (fun j => k0_off36_eq k j) (k0_off37_inb k) (k0_off36_inb k) _ _)
  unfold trip4; rfl

theorem trip4_40  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.1 = tiles_h k fun p j => shapeCast S1x32x128 (gBF (gSum (tileH4 k (arg40.view.read (Elt F) f40) p j) (gLin (gPt (arg25.view.readCov (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.2.2.2.1 (Rect.unit (s := S1x4608x256) (k0_off38 k) S1x512x256.size (k0_off38_inb k)).toLoadRect) (View.ld (arg37.view.read (Elt F) X37) (Rect.unit ![1, 0, 0] S1x256x256.size inb_S3x256x256_S1x256x256_1_0_0))) p j (View.ld (arg16.view.read (Elt F) X16) (Rect.unit ![1, 1] S1x1.size inb_S3x2_S1x1_1_1) (Shape.Idx.first (by decide))) (View.ld (arg13.view.read (Elt F) X13) (Rect.unit ![1, 128 * p.val] S1x128.size (inb_row3 1 p))) (View.ld (arg14.view.read (Elt F) X14) (Rect.unit ![1, 128 * p.val] S1x128.size (inb_row3 1 p)))))) shapeCasts_S32x128_S1x32x128 := by
  refine Eq.trans ?_ (pairs_of (o1 := fun j => k0_off41 k (BitVec.ofNat 32 (32 * j.val))) (o0 := fun j => k0_off39 k (BitVec.ofNat 32 (32 * j.val)))
    (fun j => k0_off41_eq k j) (fun j => k0_off39_eq k j) (k0_off41_inb k) (k0_off39_inb k) _ _)
  unfold trip4; rfl

theorem trip4_26  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.2.2.2.2.1 = tiles_a k fun p j => gI8 (gCode (gInv (View.ld (arg16.view.read (Elt F) X16) (Rect.unit ![2, 0] S1x1.size inb_S3x2_S1x1_2_0) (Shape.Idx.first (by decide)))) (gRow (View.ld (arg7.view.read (Elt F) X7) (Rect.unit ![4, 128 * p.val] S1x128.size (inb_row6 4 p)))) (gK (View.ld (arg8.view.read (Elt F) X8) (Rect.unit ![4, 128 * p.val] S1x128.size (inb_row6 4 p)))) (gBF (gSum (tileH4 k (arg40.view.read (Elt F) f40) p j) (gLin (gPt (arg25.view.readCov (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.2.2.2.1 (Rect.unit (s := S1x4608x256) (k0_off38 k) S1x512x256.size (k0_off38_inb k)).toLoadRect) (View.ld (arg37.view.read (Elt F) X37) (Rect.unit ![1, 0, 0] S1x256x256.size inb_S3x256x256_S1x256x256_1_0_0))) p j (View.ld (arg16.view.read (Elt F) X16) (Rect.unit ![1, 1] S1x1.size inb_S3x2_S1x1_1_1) (Shape.Idx.first (by decide))) (View.ld (arg13.view.read (Elt F) X13) (Rect.unit ![1, 128 * p.val] S1x128.size (inb_row3 1 p))) (View.ld (arg14.view.read (Elt F) X14) (Rect.unit ![1, 128 * p.val] S1x128.size (inb_row3 1 p))))))) := by
  refine Eq.trans ?_ (pairs_of (o1 := fun j => k0_off37 k (BitVec.ofNat 32 (32 * j.val))) (o0 := fun j => k0_off36 k (BitVec.ofNat 32 (32 * j.val)))
    (fun j => k0_off37_eq k j) (fun j => k0_off36_eq k j) (k0_off37_inb k) (k0_off36_inb k) _ _)
  unfold trip4; rfl

theorem trip4_39  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v67 : FVec F S1x3x128 .f32) (v80 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (f39 : BufTy.Contents (Elt F) arg39.view.ty) (f40 : BufTy.Contents (Elt F) arg40.view.ty) (f41 : BufTy.Contents (Elt F) arg41.view.ty) (f42 : BufTy.Contents (Elt F) arg42.view.ty) (f25 : BufTy.Contents (Elt F) arg25.view.ty) (f26 : BufTy.Contents (Elt F) arg26.view.ty) (f31 : BufTy.Contents (Elt F) arg31.view.ty) (f32 : BufTy.Contents (Elt F) arg32.view.ty) (k : Fin k0_t4_loop.trips) :
    (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).1 = tiles_q k 0 fun p j => shapeCast S1x1x32x128 (gCode (gInv (View.ld (arg16.view.read (Elt F) X16) (Rect.unit ![2, 0] S1x1.size inb_S3x2_S1x1_2_0) (Shape.Idx.first (by decide)))) (gRow (View.ld (arg7.view.read (Elt F) X7) (Rect.unit ![4, 128 * p.val] S1x128.size (inb_row6 4 p)))) (gK (View.ld (arg8.view.read (Elt F) X8) (Rect.unit ![4, 128 * p.val] S1x128.size (inb_row6 4 p)))) (gBF (gSum (tileH4 k (arg40.view.read (Elt F) f40) p j) (gLin (gPt (arg25.view.readCov (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 f39 f40 f41 f42 f25 f26 f31 f32 k).2.2.2.2.1 (Rect.unit (s := S1x4608x256) (k0_off38 k) S1x512x256.size (k0_off38_inb k)).toLoadRect) (View.ld (arg37.view.read (Elt F) X37) (Rect.unit ![1, 0, 0] S1x256x256.size inb_S3x256x256_S1x256x256_1_0_0))) p j (View.ld (arg16.view.read (Elt F) X16) (Rect.unit ![1, 1] S1x1.size inb_S3x2_S1x1_1_1) (Shape.Idx.first (by decide))) (View.ld (arg13.view.read (Elt F) X13) (Rect.unit ![1, 128 * p.val] S1x128.size (inb_row3 1 p))) (View.ld (arg14.view.read (Elt F) X14) (Rect.unit ![1, 128 * p.val] S1x128.size (inb_row3 1 p))))))) shapeCasts_S32x128_S1x1x32x128 := by
  refine Eq.trans ?_ (pairs_of (o1 := fun j => k0_off42 k (BitVec.ofNat 32 (32 * j.val))) (o0 := fun j => k0_off40 k (BitVec.ofNat 32 (32 * j.val)))
    (fun j => k0_off42_eq k j) (fun j => k0_off40_eq k j) (k0_off42_inb k) (k0_off40_inb k) _ _)
  unfold trip4; rfl

end Cert.KernelIdeal.Body

end
-- ==== Proof.Unit4.lean ====
module

public import proofs.«01_k».proof.Proof.Stage
public import proofs.«01_k».proof.Proof.List4
public import proofs.«01_k».proof.Proof.Loop4

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

/-! Residual unit 2 of 3. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem dil4_at (I : Inp) (h : ℕ → ℕ → EReal) (Q : S2x2x4672x128.Idx → Elt Ideal .f32) (W : S3x7x256x256.Idx → Elt Ideal .bf16)
    (hQ : ∀ y, (y 0).val = 1 → Q y = Qa I 1 h (y 2).val (128 * (y 1).val + (y 3).val)) (hW : ∀ y, W y = I.w7 (y 0).val (y 1).val (y 2).val (y 3).val)
    (k : Fin k0_t4_loop.trips) (x : S512x256.Idx) : dil4 (F := Ideal) k Q W x = dconv 3 (Qa I 1 h) (I.w7 1) (512 * k.val + (x 0).val) (x 1).val := by
  unfold dil4
  refine gDil_at 3 _ _ _ (Qa I 1 h) (I.w7 1) (512 * k.val) ?_ ?_ ?_ x
  · intro m x
    have e := k0_off34_eq k m
    have b1 := (x 0).isLt
    have b2 := (x 1).isLt
    change (x 0).val < 1 at b1
    change (x 1).val < 1 at b2
    refine (hQ _ ?_).trans (congrArg₂ (Qa I 1 h) ?_ ?_)
    · exact (congrArg (fun o : Fin 4 → ℕ => o 0 + 1 * (x 0).val) e).trans (show 1 + 1 * (x 0).val = 1 by omega)
    · exact (congrArg (fun o : Fin 4 → ℕ => o 2 + 1 * (x 2).val) e).trans (show 512 * k.val + 3 * m.val + 23 + 1 * (x 2).val = 512 * k.val + (32 - 3 * 3) + m.val * 3 + (x 2).val by omega)
    · exact (congrArg (fun o : Fin 4 → ℕ => 128 * (o 1 + 1 * (x 1).val) + (o 3 + 1 * (x 3).val)) e).trans (show 128 * (0 + 1 * (x 1).val) + (0 + 1 * (x 3).val) = (x 3).val by omega)
  · intro m x
    have e := k0_off35_eq k m
    have b1 := (x 0).isLt
    have b2 := (x 1).isLt
    change (x 0).val < 1 at b1
    change (x 1).val < 1 at b2
    refine (hQ _ ?_).trans (congrArg₂ (Qa I 1 h) ?_ ?_)
    · exact (congrArg (fun o : Fin 4 → ℕ => o 0 + 1 * (x 0).val) e).trans (show 1 + 1 * (x 0).val = 1 by omega)
    · exact (congrArg (fun o : Fin 4 → ℕ => o 2 + 1 * (x 2).val) e).trans (show 512 * k.val + 3 * m.val + 23 + 1 * (x 2).val = 512 * k.val + (32 - 3 * 3) + m.val * 3 + (x 2).val by omega)
    · exact (congrArg (fun o : Fin 4 → ℕ => 128 * (o 1 + 1 * (x 1).val) + (o 3 + 1 * (x 3).val)) e).trans (show 128 * (1 + 1 * (x 1).val) + (0 + 1 * (x 3).val) = 128 + (x 3).val by omega)
  · intro m x
    refine (hW _).trans ?_
    have b1 := (x 0).isLt
    have b2 := (x 1).isLt
    change (x 0).val < 1 at b1
    change (x 1).val < 1 at b2
    show I.w7 (1 + 1 * (x 0).val) (m.val + 1 * (x 1).val) (0 + 1 * (x 2).val) (0 + 1 * (x 3).val) = _
    rw [show 1 + 1 * (x 0).val = 1 by omega, show m.val + 1 * (x 1).val = m.val by omega, show 0 + 1 * (x 2).val = (x 2).val by omega, show 0 + 1 * (x 3).val = (x 3).val by omega]

theorem tileH4_at (h : ℕ → ℕ → EReal) (H : S2x4608x128.Idx → Elt Ideal .f32) (k : Fin k0_t4_loop.trips) (hH : ∀ y, 512 * k.val ≤ (y 1).val → (y 1).val < 512 * k.val + 512 → H y = h (y 1).val (128 * (y 0).val + (y 2).val))
    (p : Fin 2) (j : Fin 16) (x : S32x128.Idx) : tileH4 (F := Ideal) k H p j (ix3 0 (x 0) (x 1)) = h (512 * k.val + 32 * j.val + (x 0).val) (128 * p.val + (x 1).val) := by
  have b := (x 0).isLt
  change (x 0).val < 32 at b
  unfold tileH4
  match p with
  | 0 =>
    have e := k0_off39_eq k j
    have e1 : k0_off39 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off39 k (BitVec.ofNat 32 (32 * j.val)) 1 + 1 * (x 0).val
      omega
    · show k0_off39 k (BitVec.ofNat 32 (32 * j.val)) 1 + 1 * (x 0).val < _
      omega
    · exact (congrArg (fun o : Fin 3 → ℕ => 128 * (o 0 + 1 * 0) + (o 2 + 1 * (x 1).val)) e).trans (show 128 * (0 + 1 * 0) + (0 + 1 * (x 1).val) = 128 * 0 + (x 1).val by omega)
  | 1 =>
    have e := k0_off41_eq k j
    have e1 : k0_off41 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off41 k (BitVec.ofNat 32 (32 * j.val)) 1 + 1 * (x 0).val
      omega
    · show k0_off41 k (BitVec.ofNat 32 (32 * j.val)) 1 + 1 * (x 0).val < _
      omega
    · exact (congrArg (fun o : Fin 3 → ℕ => 128 * (o 0 + 1 * 0) + (o 2 + 1 * (x 1).val)) e).trans (show 128 * (1 + 1 * 0) + (0 + 1 * (x 1).val) = 128 * 1 + (x 1).val by omega)

theorem cb4 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val)) (p : Fin 2) (j : Fin 16) (x : S1x32x128.Idx) :
    gI8 (F := Ideal) (gCode (gInv (View.ld (arg16.view.read (Elt Ideal) X16) (Rect.unit (s := S3x2) ![1, 1] S1x1.size inb_S3x2_S1x1_1_1) (Shape.Idx.first (by decide)))) (gRow (View.ld (arg7.view.read (Elt Ideal) X7) (Rect.unit (s := S6x256) ![3, 128 * p.val] S1x128.size (inb_row6 3 p)))) (gK (View.ld (arg8.view.read (Elt Ideal) X8) (Rect.unit (s := S6x256) ![3, 128 * p.val] S1x128.size (inb_row6 3 p)))) (gLin (dil4 k (arg39.view.read (Elt Ideal) s.1) (arg36.view.read (Elt Ideal) X36)) p j v80 (View.ld (arg10.view.read (Elt Ideal) X10) (Rect.unit (s := S3x256) ![1, 128 * p.val] S1x128.size (inb_row3 1 p))) (View.ld (arg11.view.read (Elt Ideal) X11) (Rect.unit (s := S3x256) ![1, 128 * p.val] S1x128.size (inb_row3 1 p))))) x = cb I 1 3 h (512 * k.val + 32 * j.val + (x 1).val) (128 * p.val + (x 2).val) := by
  subst ea
  refine (gI8_at _ x).trans (congrArg kI8 ?_)
  refine (code_at _ _ _ (I.ra 3) (I.rb 3) _ (128 * p.val) (row6_ld _ I.ra r7 3 p) (row6_ld _ I.rb r8 3 p) _ (ix2 (x 1) (x 2)) (gLin_at _ p j _ _ _ (dconv 3 (Qa I 1 h) (I.w7 1)) (512 * k.val) (I.w7s 1) (I.b7 1) (dil4_at I h _ _ hQ r36 k) (row3_ld _ I.w7s r10 1 p) (row3_ld _ I.b7 r11 1 p) _)).trans ?_
  rw [scale_ld _ I.act r16 1 1]
  rfl

theorem qb4 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val)) (f : BufTy.Contents (Elt Ideal) arg25.view.ty) (y : S1x4608x256.Idx) :
    arg25.view.read (Elt Ideal) (arg25.view.writes (Elt Ideal) f (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1) y = if 512 * k.val ≤ (y 1).val ∧ (y 1).val < 512 * k.val + 512 then cb I 1 3 h (y 1).val (y 2).val else arg25.view.read (Elt Ideal) f y := by
  rw [trip4_25]
  exact read_a arg25.view f k _ (cb I 1 3 h) (fun p j x => cb4 (I := I) (ea := ea) (r36 := r36) (r10 := r10) (r11 := r11) (r7 := r7) (r8 := r8) (r16 := r16) (r37 := r37) (r13 := r13) (r14 := r14) (v67 := v67) (h := h) (s := s) (k := k) (hQ := hQ) (p := p) (j := j) (x := x) ..) y

theorem z4 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (p : Fin 2) (j : Fin 16) (x : S32x128.Idx) :
    (gSum (tileH4 k (arg40.view.read (Elt Ideal) s.2.1) p j) (gLin (gPt (arg25.view.readCov (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1 (Rect.unit (s := S1x4608x256) (k0_off38 k) S1x512x256.size (k0_off38_inb k)).toLoadRect) (View.ld (arg37.view.read (Elt Ideal) X37) (Rect.unit (s := S3x256x256) ![1, 0, 0] S1x256x256.size inb_S3x256x256_S1x256x256_1_0_0))) p j (View.ld (arg16.view.read (Elt Ideal) X16) (Rect.unit (s := S3x2) ![1, 1] S1x1.size inb_S3x2_S1x1_1_1) (Shape.Idx.first (by decide))) (View.ld (arg13.view.read (Elt Ideal) X13) (Rect.unit (s := S3x256) ![1, 128 * p.val] S1x128.size (inb_row3 1 p))) (View.ld (arg14.view.read (Elt Ideal) X14) (Rect.unit (s := S3x256) ![1, 128 * p.val] S1x128.size (inb_row3 1 p))))) x = nx I 1 3 h (512 * k.val + 32 * j.val + (x 0).val) (128 * p.val + (x 1).val) := by
  refine (gSum_at _ _ x).trans (congrArg₂ (· + ·) (tileH4_at h _ k hH p j x) ?_)
  refine (gLin_at _ p j _ _ _ (pconv (fun t o => dec (cb I 1 3 h t o)) (I.w1 1)) (512 * k.val) (I.w1s 1) (I.b1 1) ?_ (row3_ld _ I.w1s r13 1 p) (row3_ld _ I.b1 r14 1 p) x).trans ?_
  · intro x
    refine (gPt_at _ _ x).trans (Finset.sum_congr rfl fun m _ => congrArg₂ (· * ·) (congrArg dec ?_) ?_)
    · have b := (x 0).isLt
      change (x 0).val < 512 at b
      have e := k0_off38_eq k
      have e1 : k0_off38 k 1 + 1 * (x 0).val = 512 * k.val + (x 0).val :=
        (congrArg (fun o : Fin 3 → ℕ => o 1 + 1 * (x 0).val) e).trans (show 512 * k.val + 1 * (x 0).val = _ by omega)
      refine (qb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h s k hQ arg25.view.junk _).trans ((if_pos ⟨?_, ?_⟩).trans (congrArg₂ (cb I 1 3 h) e1 ?_))
      · exact (congrArg (fun o : Fin 3 → ℕ => o 2 + 1 * m.val) e).trans (show 0 + 1 * m.val = m.val by omega)
      · show 512 * k.val ≤ k0_off38 k 1 + 1 * (x 0).val
        omega
      · show k0_off38 k 1 + 1 * (x 0).val < _
        omega
    · refine (r37 _).trans ?_
      show I.w1 (1 + 1 * 0) (0 + 1 * m.val) (0 + 1 * (x 1).val) = _
      rw [show 0 + 1 * m.val = m.val by omega, show 0 + 1 * (x 1).val = (x 1).val by omega]
  · rw [scale_ld _ I.act r16 1 1]
    rfl

theorem step4_40 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S2x4608x128.Idx) :
    arg40.view.read (Elt Ideal) (next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s k).2.1 y = if 512 * k.val ≤ (y 1).val ∧ (y 1).val < 512 * k.val + 512 then nx I 1 3 h (y 1).val (128 * (y 0).val + (y 2).val) else arg40.view.read (Elt Ideal) s.2.1 y := by
  show arg40.view.read (Elt Ideal) (arg40.view.writes (Elt Ideal) s.2.1 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.1) y = _
  rw [trip4_40]
  refine read_h (Val := Elt Ideal) arg40.view _ k _ (nx I 1 3 h) (fun p j x => ?_) y
  refine (sc32_at _ x).trans ?_
  refine (gBF_at _ _).trans ?_
  exact z4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h s k hQ hH p j (ix2 (x 1) (x 2))

theorem ca4 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (p : Fin 2) (j : Fin 16) (x : S32x128.Idx) :
    gCode (F := Ideal) (gInv (View.ld (arg16.view.read (Elt Ideal) X16) (Rect.unit (s := S3x2) ![2, 0] S1x1.size inb_S3x2_S1x1_2_0) (Shape.Idx.first (by decide)))) (gRow (View.ld (arg7.view.read (Elt Ideal) X7) (Rect.unit (s := S6x256) ![4, 128 * p.val] S1x128.size (inb_row6 4 p)))) (gK (View.ld (arg8.view.read (Elt Ideal) X8) (Rect.unit (s := S6x256) ![4, 128 * p.val] S1x128.size (inb_row6 4 p)))) (gBF (gSum (tileH4 k (arg40.view.read (Elt Ideal) s.2.1) p j) (gLin (gPt (arg25.view.readCov (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.1 (Rect.unit (s := S1x4608x256) (k0_off38 k) S1x512x256.size (k0_off38_inb k)).toLoadRect) (View.ld (arg37.view.read (Elt Ideal) X37) (Rect.unit (s := S3x256x256) ![1, 0, 0] S1x256x256.size inb_S3x256x256_S1x256x256_1_0_0))) p j (View.ld (arg16.view.read (Elt Ideal) X16) (Rect.unit (s := S3x2) ![1, 1] S1x1.size inb_S3x2_S1x1_1_1) (Shape.Idx.first (by decide))) (View.ld (arg13.view.read (Elt Ideal) X13) (Rect.unit (s := S3x256) ![1, 128 * p.val] S1x128.size (inb_row3 1 p))) (View.ld (arg14.view.read (Elt Ideal) X14) (Rect.unit (s := S3x256) ![1, 128 * p.val] S1x128.size (inb_row3 1 p)))))) x = ca I 2 (nx I 1 3 h) (512 * k.val + 32 * j.val + (x 0).val) (128 * p.val + (x 1).val) := by
  refine (code_at _ _ _ (I.ra 4) (I.rb 4) _ (128 * p.val) (row6_ld _ I.ra r7 4 p) (row6_ld _ I.rb r8 4 p) _ x ((gBF_at _ _).trans (z4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h s k hQ hH p j x))).trans ?_
  rw [scale_ld _ I.act r16 2 0]
  rfl

theorem step4_26 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S1x4608x256.Idx) :
    arg26.view.read (Elt Ideal) (next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s k).2.2.2.2.2.1 y = if 512 * k.val ≤ (y 1).val ∧ (y 1).val < 512 * k.val + 512 then kI8 (ca I 2 (nx I 1 3 h) (y 1).val (y 2).val) else arg26.view.read (Elt Ideal) s.2.2.2.2.2.1 y := by
  show arg26.view.read (Elt Ideal) (arg26.view.writes (Elt Ideal) s.2.2.2.2.2.1 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).2.2.2.2.2.1) y = _
  rw [trip4_26]
  exact read_a (Val := Elt Ideal) arg26.view _ k _ (fun t o => kI8 (ca I 2 (nx I 1 3 h) t o)) (fun p j x => (gI8_at _ x).trans (congrArg kI8 (ca4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h s k hQ hH p j (ix2 (x 1) (x 2))))) y

theorem step4_39 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St4 Ideal arg39 arg40 arg41 arg42 arg25 arg26 arg31 arg32) (k : Fin k0_t4_loop.trips) (hQ : ∀ y, (y 0).val = 1 → arg39.view.read (Elt Ideal) s.1 y = Qa I 1 h (y 2).val (128 * (y 1).val + (y 3).val))
    (hH : ∀ y, 512 * k.val ≤ (y 1).val → (y 1).val < 512 * k.val + 512 → arg40.view.read (Elt Ideal) s.2.1 y = h (y 1).val (128 * (y 0).val + (y 2).val)) (y : S2x2x4672x128.Idx) :
    arg39.view.read (Elt Ideal) (next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s k).1 y = if (y 0).val = 0 ∧ 512 * k.val + 32 ≤ (y 2).val ∧ (y 2).val < 512 * k.val + 544 then ca I 2 (nx I 1 3 h) ((y 2).val - 32) (128 * (y 1).val + (y 3).val) else arg39.view.read (Elt Ideal) s.1 y := by
  show arg39.view.read (Elt Ideal) (arg39.view.writes (Elt Ideal) s.1 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 s.1 s.2.1 s.2.2.1 s.2.2.2.1 s.2.2.2.2.1 s.2.2.2.2.2.1 s.2.2.2.2.2.2.1 s.2.2.2.2.2.2.2 k).1) y = _
  rw [trip4_39]
  refine read_q (Val := Elt Ideal) arg39.view _ k 0 _ (fun t o => ca I 2 (nx I 1 3 h) (t - 32) o) (fun p j x => ?_) y
  refine (sc132_at _ x).trans ?_
  refine (ca4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h s k hQ hH p j (ix2 (x 2) (x 3))).trans (congrArg₂ (ca I 2 (nx I 1 3 h)) ?_ rfl)
  show 512 * k.val + 32 * j.val + (x 2).val = 512 * k.val + 32 * j.val + 32 + (x 2).val - 32
  omega

theorem loop4 (I : Inp) (v67 : FVec Ideal S1x3x128 .f32) (v80 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty)
    (ea : v80 = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (G : St4 Ideal arg39 arg40 arg41 arg42 arg25 arg26 arg31 arg32)
    (gQ : ∀ y, (y 0).val = 1 → arg39.view.read (Elt Ideal) G.1 y = Qa I 1 h (y 2).val (128 * (y 1).val + (y 3).val))
    (gH : ∀ y, arg40.view.read (Elt Ideal) G.2.1 y = h (y 1).val (128 * (y 0).val + (y 2).val)) (m : ℕ) (hm : m ≤ 9) :
    (∀ y, arg39.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).1 y = if (y 0).val = 0 ∧ 32 ≤ (y 2).val ∧ (y 2).val < 512 * m + 32 then ca I 2 (nx I 1 3 h) ((y 2).val - 32) (128 * (y 1).val + (y 3).val) else arg39.view.read (Elt Ideal) G.1 y) ∧
    (∀ y, arg40.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).2.1 y = if (y 1).val < 512 * m then nx I 1 3 h (y 1).val (128 * (y 0).val + (y 2).val) else arg40.view.read (Elt Ideal) G.2.1 y) ∧
    (∀ y, arg25.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).2.2.2.2.1 y = if (y 1).val < 512 * m then cb I 1 3 h (y 1).val (y 2).val else arg25.view.read (Elt Ideal) G.2.2.2.2.1 y) ∧
    (∀ y, arg26.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).2.2.2.2.2.1 y = if (y 1).val < 512 * m then kI8 (ca I 2 (nx I 1 3 h) (y 1).val (y 2).val) else arg26.view.read (Elt Ideal) G.2.2.2.2.2.1 y) := by
  induction m with
  | zero => exact ⟨fun y => by rw [if_neg (by omega)]; rfl, fun y => by rw [if_neg (by omega)]; rfl, fun y => by rw [if_neg (by omega)]; rfl, fun y => by rw [if_neg (by omega)]; rfl⟩
  | succ m ih =>
    obtain ⟨i39, i40, i25, i26⟩ := ih (by omega)
    have hQ : ∀ y, (y 0).val = 1 → arg39.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).1 y = Qa I 1 h (y 2).val (128 * (y 1).val + (y 3).val) := fun y hy => (i39 y).trans ((if_neg (by omega)).trans (gQ y hy))
    have hH : ∀ y, 512 * m ≤ (y 1).val → (y 1).val < 512 * m + 512 → arg40.view.read (Elt Ideal) (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m).2.1 y = h (y 1).val (128 * (y 0).val + (y 2).val) := fun y ha _ => (i40 y).trans ((if_neg (by omega)).trans (gH y))
    rw [show st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G (m + 1) = _ from st4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G ⟨m, hm⟩]
    refine ⟨fun y => ?_, fun y => ?_, fun y => ?_, fun y => ?_⟩
    · refine (step4_39 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m) ⟨m, hm⟩ hQ hH y).trans ?_
      have := i39 y
      simp only at this ⊢
      split_ifs with h1 h2 h2
      · rfl
      · omega
      · rw [this, if_pos (by omega)]
      · rw [this, if_neg (by omega)]
    · refine (step4_40 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m) ⟨m, hm⟩ hQ hH y).trans ?_
      have := i40 y
      simp only at this ⊢
      split_ifs with h1 h2 h2
      · rfl
      · omega
      · rw [this, if_pos (by omega)]
      · rw [this, if_neg (by omega)]
    · refine (qb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m) ⟨m, hm⟩ hQ _ y).trans ?_
      have := i25 y
      simp only at this ⊢
      split_ifs with h1 h2 h2
      · rfl
      · omega
      · rw [this, if_pos (by omega)]
      · rw [this, if_neg (by omega)]
    · refine (step4_26 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 v80 X36 X10 X11 X7 X8 X16 X37 X13 X14 ea r36 r10 r11 r7 r8 r16 r37 r13 r14 h (st4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 v80 X36 X10 X11 X7 X8 X16 X37 X13 X14 G m) ⟨m, hm⟩ hQ hH y).trans ?_
      have := i26 y
      simp only at this ⊢
      split_ifs with h1 h2 h2
      · rfl
      · omega
      · rw [this, if_pos (by omega)]
      · rw [this, if_neg (by omega)]

end Cert.KernelIdeal.Vals

end
-- ==== Proof.List5.lean ====
module

public import proofs.«01_k».proof.Proof.Trip5
public import proofs.«01_k».proof.Proof.Units

@[expose] public section

set_option maxRecDepth 16384
set_option maxHeartbeats 2000000

noncomputable section

namespace Cert.KernelIdeal.Body

open Cert.KernelIdeal Cert.KernelIdeal.Gen Cert.KernelIdeal.Vals
open Idealize.ShloMosaic Idealize.ShloMosaic.TcCoe Idealize.ShloMosaic.Tactic

variable {F : FTy → Type} [FloatOps F]

/-- The dilated convolution of chunk `k`, from the codes `Q` and the weights `W`. -/
def dil5 (k : Fin k0_t5_loop.trips) (Q : S2x2x4672x128.Idx → Elt F .f32) (W : S3x7x256x256.Idx → Elt F .bf16) : FVec F S512x256 .f32 :=
  gDil (fun n => View.ld Q (Rect.unit (k0_off46 k (BitVec.ofNat 32 (5 + 9 * n.val))) S1x1x512x128.size (k0_off46_inb k n)))
    (fun n => View.ld Q (Rect.unit (k0_off47 k (BitVec.ofNat 32 (5 + 9 * n.val))) S1x1x512x128.size (k0_off47_inb k n)))
    (fun n => View.ld W (Rect.unit ![2, n.val, 0, 0] S1x1x256x256.size (inb_w7 2 n)))

/-- A tile of the residual stream of chunk `k`. -/
def tileH5 (k : Fin k0_t5_loop.trips) (H : S2x4608x128.Idx → Elt F .f32) (p : Fin 2) (j : Fin 16) : Vec F S1x32x128 .f32 :=
  match p with
  | 0 => View.ld H (Rect.unit (k0_off51 k (BitVec.ofNat 32 (32 * j.val))) S1x32x128.size (k0_off51_inb k j))
  | 1 => View.ld H (Rect.unit (k0_off52 k (BitVec.ofNat 32 (32 * j.val))) S1x32x128.size (k0_off52_inb k j))

theorem trip5_27  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) (k : Fin k0_t5_loop.trips) :
    (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 f40 f41 f42 f27 f33 f34 k).2.2.2.1 = tiles_a k fun p j => gI8 (gCode (gInv (View.ld (arg16.view.read (Elt F) X16) (Rect.unit ![2, 1] S1x1.size inb_S3x2_S1x1_2_1) (Shape.Idx.first (by decide)))) (gRow (View.ld (arg7.view.read (Elt F) X7) (Rect.unit ![5, 128 * p.val] S1x128.size (inb_row6 5 p)))) (gK (View.ld (arg8.view.read (Elt F) X8) (Rect.unit ![5, 128 * p.val] S1x128.size (inb_row6 5 p)))) (gLin (dil5 k (arg39.view.read (Elt F) X39) (arg36.view.read (Elt F) X36)) p j v130 (View.ld (arg10.view.read (Elt F) X10) (Rect.unit ![2, 128 * p.val] S1x128.size (inb_row3 2 p))) (View.ld (arg11.view.read (Elt F) X11) (Rect.unit ![2, 128 * p.val] S1x128.size (inb_row3 2 p))))) := by
  refine Eq.trans ?_ (pairs_of (o1 := fun j => k0_off49 k (BitVec.ofNat 32 (32 * j.val))) (o0 := fun j => k0_off48 k (BitVec.ofNat 32 (32 * j.val)))
    (fun j => k0_off49_eq k j) (fun j => k0_off48_eq k j) (k0_off49_inb k) (k0_off48_inb k) _ _)
  unfold trip5; rfl

theorem trip5_40  (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (v130 : Elt F .f32) (X36 : BufTy.Contents (Elt F) arg36.view.ty) (X10 : BufTy.Contents (Elt F) arg10.view.ty) (X11 : BufTy.Contents (Elt F) arg11.view.ty) (X7 : BufTy.Contents (Elt F) arg7.view.ty) (X8 : BufTy.Contents (Elt F) arg8.view.ty) (X16 : BufTy.Contents (Elt F) arg16.view.ty) (X37 : BufTy.Contents (Elt F) arg37.view.ty) (X13 : BufTy.Contents (Elt F) arg13.view.ty) (X14 : BufTy.Contents (Elt F) arg14.view.ty) (X39 : BufTy.Contents (Elt F) arg39.view.ty) (f40 : BufTy.Contents (Elt F) arg40.view.ty) (f41 : BufTy.Contents (Elt F) arg41.view.ty) (f42 : BufTy.Contents (Elt F) arg42.view.ty) (f27 : BufTy.Contents (Elt F) arg27.view.ty) (f33 : BufTy.Contents (Elt F) arg33.view.ty) (f34 : BufTy.Contents (Elt F) arg34.view.ty) (k : Fin k0_t5_loop.trips) :
    (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 f40 f41 f42 f27 f33 f34 k).1 = tiles_h k fun p j => shapeCast S1x32x128 (gSum (tileH5 k (arg40.view.read (Elt F) f40) p j) (gLin (gPt (arg27.view.readCov (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 f40 f41 f42 f27 f33 f34 k).2.2.2.1 (Rect.unit (s := S1x4608x256) (k0_off50 k) S1x512x256.size (k0_off50_inb k)).toLoadRect) (View.ld (arg37.view.read (Elt F) X37) (Rect.unit ![2, 0, 0] S1x256x256.size inb_S3x256x256_S1x256x256_2_0_0))) p j (View.ld (arg16.view.read (Elt F) X16) (Rect.unit ![2, 1] S1x1.size inb_S3x2_S1x1_2_1) (Shape.Idx.first (by decide))) (View.ld (arg13.view.read (Elt F) X13) (Rect.unit ![2, 128 * p.val] S1x128.size (inb_row3 2 p))) (View.ld (arg14.view.read (Elt F) X14) (Rect.unit ![2, 128 * p.val] S1x128.size (inb_row3 2 p))))) shapeCasts_S32x128_S1x32x128 := by
  refine Eq.trans ?_ (pairs_of (o1 := fun j => k0_off52 k (BitVec.ofNat 32 (32 * j.val))) (o0 := fun j => k0_off51 k (BitVec.ofNat 32 (32 * j.val)))
    (fun j => k0_off52_eq k j) (fun j => k0_off51_eq k j) (k0_off52_inb k) (k0_off51_inb k) _ _)
  unfold trip5; rfl

end Cert.KernelIdeal.Body

end
-- ==== Proof.Unit5.lean ====
module

public import proofs.«01_k».proof.Proof.Stage
public import proofs.«01_k».proof.Proof.List5
public import proofs.«01_k».proof.Proof.Loop5

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

/-! Residual unit 3 of 3. -/

variable (𝒱 : Variants) (c : Dev nD) (bd : Option 𝒱.V) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole)

theorem dil5_at (I : Inp) (h : ℕ → ℕ → EReal) (Q : S2x2x4672x128.Idx → Elt Ideal .f32) (W : S3x7x256x256.Idx → Elt Ideal .bf16)
    (hQ : ∀ y, (y 0).val = 0 → Q y = Qa I 2 h (y 2).val (128 * (y 1).val + (y 3).val)) (hW : ∀ y, W y = I.w7 (y 0).val (y 1).val (y 2).val (y 3).val)
    (k : Fin k0_t5_loop.trips) (x : S512x256.Idx) : dil5 (F := Ideal) k Q W x = dconv 9 (Qa I 2 h) (I.w7 2) (512 * k.val + (x 0).val) (x 1).val := by
  unfold dil5
  refine gDil_at 9 _ _ _ (Qa I 2 h) (I.w7 2) (512 * k.val) ?_ ?_ ?_ x
  · intro m x
    have e := k0_off46_eq k m
    have b1 := (x 0).isLt
    have b2 := (x 1).isLt
    change (x 0).val < 1 at b1
    change (x 1).val < 1 at b2
    refine (hQ _ ?_).trans (congrArg₂ (Qa I 2 h) ?_ ?_)
    · exact (congrArg (fun o : Fin 4 → ℕ => o 0 + 1 * (x 0).val) e).trans (show 0 + 1 * (x 0).val = 0 by omega)
    · exact (congrArg (fun o : Fin 4 → ℕ => o 2 + 1 * (x 2).val) e).trans (show 512 * k.val + 9 * m.val + 5 + 1 * (x 2).val = 512 * k.val + (32 - 3 * 9) + m.val * 9 + (x 2).val by omega)
    · exact (congrArg (fun o : Fin 4 → ℕ => 128 * (o 1 + 1 * (x 1).val) + (o 3 + 1 * (x 3).val)) e).trans (show 128 * (0 + 1 * (x 1).val) + (0 + 1 * (x 3).val) = (x 3).val by omega)
  · intro m x
    have e := k0_off47_eq k m
    have b1 := (x 0).isLt
    have b2 := (x 1).isLt
    change (x 0).val < 1 at b1
    change (x 1).val < 1 at b2
    refine (hQ _ ?_).trans (congrArg₂ (Qa I 2 h) ?_ ?_)
    · exact (congrArg (fun o : Fin 4 → ℕ => o 0 + 1 * (x 0).val) e).trans (show 0 + 1 * (x 0).val = 0 by omega)
    · exact (congrArg (fun o : Fin 4 → ℕ => o 2 + 1 * (x 2).val) e).trans (show 512 * k.val + 9 * m.val + 5 + 1 * (x 2).val = 512 * k.val + (32 - 3 * 9) + m.val * 9 + (x 2).val by omega)
    · exact (congrArg (fun o : Fin 4 → ℕ => 128 * (o 1 + 1 * (x 1).val) + (o 3 + 1 * (x 3).val)) e).trans (show 128 * (1 + 1 * (x 1).val) + (0 + 1 * (x 3).val) = 128 + (x 3).val by omega)
  · intro m x
    refine (hW _).trans ?_
    have b1 := (x 0).isLt
    have b2 := (x 1).isLt
    change (x 0).val < 1 at b1
    change (x 1).val < 1 at b2
    show I.w7 (2 + 1 * (x 0).val) (m.val + 1 * (x 1).val) (0 + 1 * (x 2).val) (0 + 1 * (x 3).val) = _
    rw [show 2 + 1 * (x 0).val = 2 by omega, show m.val + 1 * (x 1).val = m.val by omega, show 0 + 1 * (x 2).val = (x 2).val by omega, show 0 + 1 * (x 3).val = (x 3).val by omega]

theorem tileH5_at (h : ℕ → ℕ → EReal) (H : S2x4608x128.Idx → Elt Ideal .f32) (k : Fin k0_t5_loop.trips) (hH : ∀ y, 512 * k.val ≤ (y 1).val → (y 1).val < 512 * k.val + 512 → H y = h (y 1).val (128 * (y 0).val + (y 2).val))
    (p : Fin 2) (j : Fin 16) (x : S32x128.Idx) : tileH5 (F := Ideal) k H p j (ix3 0 (x 0) (x 1)) = h (512 * k.val + 32 * j.val + (x 0).val) (128 * p.val + (x 1).val) := by
  have b := (x 0).isLt
  change (x 0).val < 32 at b
  unfold tileH5
  match p with
  | 0 =>
    have e := k0_off51_eq k j
    have e1 : k0_off51 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off51 k (BitVec.ofNat 32 (32 * j.val)) 1 + 1 * (x 0).val
      omega
    · show k0_off51 k (BitVec.ofNat 32 (32 * j.val)) 1 + 1 * (x 0).val < _
      omega
    · exact (congrArg (fun o : Fin 3 → ℕ => 128 * (o 0 + 1 * 0) + (o 2 + 1 * (x 1).val)) e).trans (show 128 * (0 + 1 * 0) + (0 + 1 * (x 1).val) = 128 * 0 + (x 1).val by omega)
  | 1 =>
    have e := k0_off52_eq k j
    have e1 : k0_off52 k (BitVec.ofNat 32 (32 * j.val)) 1 + 1 * (x 0).val = 512 * k.val + 32 * j.val + (x 0).val :=
      (congrArg (fun o : Fin 3 → ℕ => o 1 + 1 * (x 0).val) e).trans (show 512 * k.val + 32 * j.val + 1 * (x 0).val = _ by omega)
    refine (hH _ ?_ ?_).trans (congrArg₂ h e1 ?_)
    · show 512 * k.val ≤ k0_off52 k (BitVec.ofNat 32 (32 * j.val)) 1 + 1 * (x 0).val
      omega
    · show k0_off52 k (BitVec.ofNat 32 (32 * j.val)) 1 + 1 * (x 0).val < _
      omega
    · exact (congrArg (fun o : Fin 3 → ℕ => 128 * (o 0 + 1 * 0) + (o 2 + 1 * (x 1).val)) e).trans (show 128 * (1 + 1 * 0) + (0 + 1 * (x 1).val) = 128 * 1 + (x 1).val by omega)

theorem cb5 (I : Inp) (v130 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty) (X39 : BufTy.Contents (Elt Ideal) arg39.view.ty)
    (ea : v130 = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St5 Ideal arg40 arg41 arg42 arg27 arg33 arg34) (k : Fin k0_t5_loop.trips) (hQ : ∀ y, (y 0).val = 0 → arg39.view.read (Elt Ideal) X39 y = Qa I 2 h (y 2).val (128 * (y 1).val + (y 3).val)) (p : Fin 2) (j : Fin 16) (x : S1x32x128.Idx) :
    gI8 (F := Ideal) (gCode (gInv (View.ld (arg16.view.read (Elt Ideal) X16) (Rect.unit (s := S3x2) ![2, 1] S1x1.size inb_S3x2_S1x1_2_1) (Shape.Idx.first (by decide)))) (gRow (View.ld (arg7.view.read (Elt Ideal) X7) (Rect.unit (s := S6x256) ![5, 128 * p.val] S1x128.size (inb_row6 5 p)))) (gK (View.ld (arg8.view.read (Elt Ideal) X8) (Rect.unit (s := S6x256) ![5, 128 * p.val] S1x128.size (inb_row6 5 p)))) (gLin (dil5 k (arg39.view.read (Elt Ideal) X39) (arg36.view.read (Elt Ideal) X36)) p j v130 (View.ld (arg10.view.read (Elt Ideal) X10) (Rect.unit (s := S3x256) ![2, 128 * p.val] S1x128.size (inb_row3 2 p))) (View.ld (arg11.view.read (Elt Ideal) X11) (Rect.unit (s := S3x256) ![2, 128 * p.val] S1x128.size (inb_row3 2 p))))) x = cb I 2 9 h (512 * k.val + 32 * j.val + (x 1).val) (128 * p.val + (x 2).val) := by
  subst ea
  refine (gI8_at _ x).trans (congrArg kI8 ?_)
  refine (code_at _ _ _ (I.ra 5) (I.rb 5) _ (128 * p.val) (row6_ld _ I.ra r7 5 p) (row6_ld _ I.rb r8 5 p) _ (ix2 (x 1) (x 2)) (gLin_at _ p j _ _ _ (dconv 9 (Qa I 2 h) (I.w7 2)) (512 * k.val) (I.w7s 2) (I.b7 2) (dil5_at I h _ _ hQ r36 k) (row3_ld _ I.w7s r10 2 p) (row3_ld _ I.b7 r11 2 p) _)).trans ?_
  rw [scale_ld _ I.act r16 2 1]
  rfl

theorem qb5 (I : Inp) (v130 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty) (X39 : BufTy.Contents (Elt Ideal) arg39.view.ty)
    (ea : v130 = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St5 Ideal arg40 arg41 arg42 arg27 arg33 arg34) (k : Fin k0_t5_loop.trips) (hQ : ∀ y, (y 0).val = 0 → arg39.view.read (Elt Ideal) X39 y = Qa I 2 h (y 2).val (128 * (y 1).val + (y 3).val)) (f : BufTy.Contents (Elt Ideal) arg27.view.ty) (y : S1x4608x256.Idx) :
    arg27.view.read (Elt Ideal) (arg27.view.writes (Elt Ideal) f (trip5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.1) y = if 512 * k.val ≤ (y 1).val ∧ (y 1).val < 512 * k.val + 512 then cb I 2 9 h (y 1).val (y 2).val else arg27.view.read (Elt Ideal) f y := by
  rw [trip5_27]
  exact read_a arg27.view f k _ (cb I 2 9 h) (fun p j x => cb5 (I := I) (ea := ea) (r36 := r36) (r10 := r10) (r11 := r11) (r7 := r7) (r8 := r8) (r16 := r16) (r37 := r37) (r13 := r13) (r14 := r14) (h := h) (s := s) (k := k) (hQ := hQ) (p := p) (j := j) (x := x) ..) y

theorem z5 (I : Inp) (v130 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty) (X39 : BufTy.Contents (Elt Ideal) arg39.view.ty)
    (ea : v130 = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St5 Ideal arg40 arg41 arg42 arg27 arg33 arg34) (k : Fin k0_t5_loop.trips) (hQ : ∀ y, (y 0).val = 0 → arg39.view.read (Elt Ideal) X39 y = Qa I 2 h (y 2).val (128 * (y 1).val + (y 3).val))
    (hH : ∀ y, 512 * k.val ≤ (y 1).val → (y 1).val < 512 * k.val + 512 → arg40.view.read (Elt Ideal) s.1 y = h (y 1).val (128 * (y 0).val + (y 2).val)) (p : Fin 2) (j : Fin 16) (x : S32x128.Idx) :
    (gSum (tileH5 k (arg40.view.read (Elt Ideal) s.1) p j) (gLin (gPt (arg27.view.readCov (trip5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).2.2.2.1 (Rect.unit (s := S1x4608x256) (k0_off50 k) S1x512x256.size (k0_off50_inb k)).toLoadRect) (View.ld (arg37.view.read (Elt Ideal) X37) (Rect.unit (s := S3x256x256) ![2, 0, 0] S1x256x256.size inb_S3x256x256_S1x256x256_2_0_0))) p j (View.ld (arg16.view.read (Elt Ideal) X16) (Rect.unit (s := S3x2) ![2, 1] S1x1.size inb_S3x2_S1x1_2_1) (Shape.Idx.first (by decide))) (View.ld (arg13.view.read (Elt Ideal) X13) (Rect.unit (s := S3x256) ![2, 128 * p.val] S1x128.size (inb_row3 2 p))) (View.ld (arg14.view.read (Elt Ideal) X14) (Rect.unit (s := S3x256) ![2, 128 * p.val] S1x128.size (inb_row3 2 p))))) x = nx I 2 9 h (512 * k.val + 32 * j.val + (x 0).val) (128 * p.val + (x 1).val) := by
  refine (gSum_at _ _ x).trans (congrArg₂ (· + ·) (tileH5_at h _ k hH p j x) ?_)
  refine (gLin_at _ p j _ _ _ (pconv (fun t o => dec (cb I 2 9 h t o)) (I.w1 2)) (512 * k.val) (I.w1s 2) (I.b1 2) ?_ (row3_ld _ I.w1s r13 2 p) (row3_ld _ I.b1 r14 2 p) x).trans ?_
  · intro x
    refine (gPt_at _ _ x).trans (Finset.sum_congr rfl fun m _ => congrArg₂ (· * ·) (congrArg dec ?_) ?_)
    · have b := (x 0).isLt
      change (x 0).val < 512 at b
      have e := k0_off50_eq k
      have e1 : k0_off50 k 1 + 1 * (x 0).val = 512 * k.val + (x 0).val :=
        (congrArg (fun o : Fin 3 → ℕ => o 1 + 1 * (x 0).val) e).trans (show 512 * k.val + 1 * (x 0).val = _ by omega)
      refine (qb5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v130 X36 X10 X11 X7 X8 X16 X37 X13 X14 X39 ea r36 r10 r11 r7 r8 r16 r37 r13 r14 h s k hQ arg27.view.junk _).trans ((if_pos ⟨?_, ?_⟩).trans (congrArg₂ (cb I 2 9 h) e1 ?_))
      · exact (congrArg (fun o : Fin 3 → ℕ => o 2 + 1 * m.val) e).trans (show 0 + 1 * m.val = m.val by omega)
      · show 512 * k.val ≤ k0_off50 k 1 + 1 * (x 0).val
        omega
      · show k0_off50 k 1 + 1 * (x 0).val < _
        omega
    · refine (r37 _).trans ?_
      show I.w1 (2 + 1 * 0) (0 + 1 * m.val) (0 + 1 * (x 1).val) = _
      rw [show 0 + 1 * m.val = m.val by omega, show 0 + 1 * (x 1).val = (x 1).val by omega]
  · rw [scale_ld _ I.act r16 2 1]
    rfl

theorem step5_40 (I : Inp) (v130 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty) (X39 : BufTy.Contents (Elt Ideal) arg39.view.ty)
    (ea : v130 = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (s : St5 Ideal arg40 arg41 arg42 arg27 arg33 arg34) (k : Fin k0_t5_loop.trips) (hQ : ∀ y, (y 0).val = 0 → arg39.view.read (Elt Ideal) X39 y = Qa I 2 h (y 2).val (128 * (y 1).val + (y 3).val))
    (hH : ∀ y, 512 * k.val ≤ (y 1).val → (y 1).val < 512 * k.val + 512 → arg40.view.read (Elt Ideal) s.1 y = h (y 1).val (128 * (y 0).val + (y 2).val)) (y : S2x4608x128.Idx) :
    arg40.view.read (Elt Ideal) (next5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s k).1 y = if 512 * k.val ≤ (y 1).val ∧ (y 1).val < 512 * k.val + 512 then nx I 2 9 h (y 1).val (128 * (y 0).val + (y 2).val) else arg40.view.read (Elt Ideal) s.1 y := by
  show arg40.view.read (Elt Ideal) (arg40.view.writes (Elt Ideal) s.1 (trip5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 s.1 s.2.1 s.2.2.1 s.2.2.2.1 s.2.2.2.2.1 s.2.2.2.2.2 k).1) y = _
  rw [trip5_40]
  refine read_h (Val := Elt Ideal) arg40.view _ k _ (nx I 2 9 h) (fun p j x => ?_) y
  refine (sc32_at _ x).trans ?_
  exact z5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v130 X36 X10 X11 X7 X8 X16 X37 X13 X14 X39 ea r36 r10 r11 r7 r8 r16 r37 r13 r14 h s k hQ hH p j (ix2 (x 1) (x 2))

theorem loop5 (I : Inp) (v130 : Elt Ideal .f32) (X36 : BufTy.Contents (Elt Ideal) arg36.view.ty) (X10 : BufTy.Contents (Elt Ideal) arg10.view.ty) (X11 : BufTy.Contents (Elt Ideal) arg11.view.ty) (X7 : BufTy.Contents (Elt Ideal) arg7.view.ty) (X8 : BufTy.Contents (Elt Ideal) arg8.view.ty) (X16 : BufTy.Contents (Elt Ideal) arg16.view.ty) (X37 : BufTy.Contents (Elt Ideal) arg37.view.ty) (X13 : BufTy.Contents (Elt Ideal) arg13.view.ty) (X14 : BufTy.Contents (Elt Ideal) arg14.view.ty) (X39 : BufTy.Contents (Elt Ideal) arg39.view.ty)
    (ea : v130 = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) (h : ℕ → ℕ → EReal) (G : St5 Ideal arg40 arg41 arg42 arg27 arg33 arg34)
    (gQ : ∀ y, (y 0).val = 0 → arg39.view.read (Elt Ideal) X39 y = Qa I 2 h (y 2).val (128 * (y 1).val + (y 3).val))
    (gH : ∀ y, arg40.view.read (Elt Ideal) G.1 y = h (y 1).val (128 * (y 0).val + (y 2).val)) (m : ℕ) (hm : m ≤ 9) :
    (∀ y, arg40.view.read (Elt Ideal) (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G m).1 y = if (y 1).val < 512 * m then nx I 2 9 h (y 1).val (128 * (y 0).val + (y 2).val) else arg40.view.read (Elt Ideal) G.1 y) ∧
    (∀ y, arg27.view.read (Elt Ideal) (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G m).2.2.2.1 y = if (y 1).val < 512 * m then cb I 2 9 h (y 1).val (y 2).val else arg27.view.read (Elt Ideal) G.2.2.2.1 y) := by
  induction m with
  | zero => exact ⟨fun y => by rw [if_neg (by omega)]; rfl, fun y => by rw [if_neg (by omega)]; rfl⟩
  | succ m ih =>
    obtain ⟨i40, i27⟩ := ih (by omega)
    have hQ : ∀ y, (y 0).val = 0 → arg39.view.read (Elt Ideal) X39 y = Qa I 2 h (y 2).val (128 * (y 1).val + (y 3).val) := gQ
    have hH : ∀ y, 512 * m ≤ (y 1).val → (y 1).val < 512 * m + 512 → arg40.view.read (Elt Ideal) (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G m).1 y = h (y 1).val (128 * (y 0).val + (y 2).val) := fun y ha _ => (i40 y).trans ((if_neg (by omega)).trans (gH y))
    rw [show st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G (m + 1) = _ from st5_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G ⟨m, hm⟩]
    refine ⟨fun y => ?_, fun y => ?_⟩
    · refine (step5_40 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v130 X36 X10 X11 X7 X8 X16 X37 X13 X14 X39 ea r36 r10 r11 r7 r8 r16 r37 r13 r14 h (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G m) ⟨m, hm⟩ hQ hH y).trans ?_
      have := i40 y
      simp only at this ⊢
      split_ifs with h1 h2 h2
      · rfl
      · omega
      · rw [this, if_pos (by omega)]
      · rw [this, if_neg (by omega)]
    · refine (qb5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v130 X36 X10 X11 X7 X8 X16 X37 X13 X14 X39 ea r36 r10 r11 r7 r8 r16 r37 r13 r14 h (st5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v130 X36 X10 X11 X7 X8 X16 X37 X13 X14 X39 G m) ⟨m, hm⟩ hQ _ y).trans ?_
      have := i27 y
      simp only at this ⊢
      split_ifs with h1 h2 h2
      · rfl
      · omega
      · rw [this, if_pos (by omega)]
      · rw [this, if_neg (by omega)]

end Cert.KernelIdeal.Vals

end
-- ==== Proof.Chain.lean ====
module

public import proofs.«01_k».proof.Proof.Init
public import proofs.«01_k».proof.Proof.Val1
public import proofs.«01_k».proof.Proof.Val2b
public import proofs.«01_k».proof.Proof.Val6
public import proofs.«01_k».proof.Proof.Unit3
public import proofs.«01_k».proof.Proof.Unit4
public import proofs.«01_k».proof.Proof.Unit5

@[expose] public section

set_option maxRecDepth 16384

noncomputable section

namespace Cert.KernelIdeal.Vals

open Cert.KernelIdeal Cert.KernelIdeal.Gen Cert.KernelIdeal.Body
open Idealize.ShloMosaic Idealize.ShloMosaic.TcCoe Idealize.ShloMosaic.Tactic

/-! What each buffer reads after the loops, from what the loops before it left. -/

theorem rec_pos {α : Type} {G a : α} {n : ℕ} (h : 0 < n) : Nat.rec (motive := fun _ => α) G (fun _ _ => a) n = a := by
  cases n with
  | zero => omega
  | succ n => rfl

/-- The unit's input codes in slab `q` of the padded buffer, and zeros around both slabs. -/
def At39 (I : Inp) (u q : ℕ) (h : ℕ → ℕ → EReal) (X : S2x2x4672x128.Idx → EReal) : Prop :=
  (∀ y, (y 0).val = q → X y = Qa I u h (y 2).val (128 * (y 1).val + (y 3).val))
    ∧ ∀ y, ¬ (32 ≤ (y 2).val ∧ (y 2).val < 4640) → X y = 0

/-- The residual stream in its two halves. -/
def At40 (h : ℕ → ℕ → EReal) (X : S2x4608x128.Idx → EReal) : Prop :=
  ∀ y, X y = h (y 1).val (128 * (y 0).val + (y 2).val)

theorem At39.next {I : Inp} {u' q' : ℕ} {h' : ℕ → ℕ → EReal} {X X' : S2x2x4672x128.Idx → EReal} (p : ∀ y, ¬ (32 ≤ (y 2).val ∧ (y 2).val < 4640) → X y = 0)
    (hX : ∀ y, X' y = if (y 0).val = q' ∧ 32 ≤ (y 2).val ∧ (y 2).val < 512 * 9 + 32 then ca I u' h' ((y 2).val - 32) (128 * (y 1).val + (y 3).val) else X y) :
    At39 I u' q' h' X' := by
  constructor
  · intro y hy
    rw [hX y]
    by_cases hr : 32 ≤ (y 2).val ∧ (y 2).val < 4640
    · rw [if_pos ⟨hy, hr.1, by omega⟩, Qa, if_pos hr]
    · rw [if_neg (by omega), p y hr, Qa, if_neg hr]
  · intro y hr
    rw [hX y, if_neg (by omega), p y hr]

variable {𝒱 : Variants} {c : Dev nD} {i : grid0.Coords} {arg1 : Memref sig .tc .vmem S1x1152x512 .bf16} {harg1 : arg1.IsWhole} {arg2 : Memref sig .tc .vmem S1x512 .f32} {harg2 : arg2.IsWhole} {arg3 : Memref sig .tc .vmem S1x512 .f32} {harg3 : arg3.IsWhole} {arg4 : Memref sig .tc .vmem S8x512x256 .i8} {harg4 : arg4.IsWhole} {arg5 : Memref sig .tc .vmem S1x256 .f32} {harg5 : arg5.IsWhole} {arg6 : Memref sig .tc .vmem S1x256 .f32} {harg6 : arg6.IsWhole} {arg7 : Memref sig .tc .vmem S6x256 .f32} {harg7 : arg7.IsWhole} {arg8 : Memref sig .tc .vmem S6x256 .f32} {harg8 : arg8.IsWhole} {arg9 : Memref sig .tc .vmem S3x7x256x256 .i8} {harg9 : arg9.IsWhole} {arg10 : Memref sig .tc .vmem S3x256 .f32} {harg10 : arg10.IsWhole} {arg11 : Memref sig .tc .vmem S3x256 .f32} {harg11 : arg11.IsWhole} {arg12 : Memref sig .tc .vmem S3x256x256 .i8} {harg12 : arg12.IsWhole} {arg13 : Memref sig .tc .vmem S3x256 .f32} {harg13 : arg13.IsWhole} {arg14 : Memref sig .tc .vmem S3x256 .f32} {harg14 : arg14.IsWhole} {arg15 : Memref sig .tc .smem S1x1 .f32} {harg15 : arg15.IsWhole} {arg16 : Memref sig .tc .smem S3x2 .f32} {harg16 : arg16.IsWhole} {arg17 : Memref sig .tc .smem S1x1 .f32} {harg17 : arg17.IsWhole} {arg18 : Memref sig .tc .vmem S1x4480x256 .bf16} {harg18 : arg18.IsWhole} {arg19 : Memref sig .tc .vmem S1x4480x256 .i8} {harg19 : arg19.IsWhole} {arg20 : Memref sig .tc .vmem S1x1x128 .f32} {harg20 : arg20.IsWhole} {arg21 : Memref sig .tc .vmem S1x1152x512 .i8} {harg21 : arg21.IsWhole} {arg22 : Memref sig .tc .vmem S1x4608x256 .i8} {harg22 : arg22.IsWhole} {arg23 : Memref sig .tc .vmem S1x4608x256 .i8} {harg23 : arg23.IsWhole} {arg24 : Memref sig .tc .vmem S1x4608x256 .i8} {harg24 : arg24.IsWhole} {arg25 : Memref sig .tc .vmem S1x4608x256 .i8} {harg25 : arg25.IsWhole} {arg26 : Memref sig .tc .vmem S1x4608x256 .i8} {harg26 : arg26.IsWhole} {arg27 : Memref sig .tc .vmem S1x4608x256 .i8} {harg27 : arg27.IsWhole} {arg28 : Memref sig .tc .vmem S1x659x256 .f32} {harg28 : arg28.IsWhole} {arg29 : Memref sig .tc .vmem S1x659x256 .f32} {harg29 : arg29.IsWhole} {arg30 : Memref sig .tc .vmem S1x659x256 .f32} {harg30 : arg30.IsWhole} {arg31 : Memref sig .tc .vmem S1x659x256 .f32} {harg31 : arg31.IsWhole} {arg32 : Memref sig .tc .vmem S1x659x256 .f32} {harg32 : arg32.IsWhole} {arg33 : Memref sig .tc .vmem S1x659x256 .f32} {harg33 : arg33.IsWhole} {arg34 : Memref sig .tc .vmem S1x659x256 .f32} {harg34 : arg34.IsWhole} {arg35 : Memref sig .tc .vmem S8x512x256 .bf16} {harg35 : arg35.IsWhole} {arg36 : Memref sig .tc .vmem S3x7x256x256 .bf16} {harg36 : arg36.IsWhole} {arg37 : Memref sig .tc .vmem S3x256x256 .bf16} {harg37 : arg37.IsWhole} {arg38 : Memref sig .tc .vmem S4x1168x128 .f32} {harg38 : arg38.IsWhole} {arg39 : Memref sig .tc .vmem S2x2x4672x128 .f32} {harg39 : arg39.IsWhole} {arg40 : Memref sig .tc .vmem S2x4608x128 .f32} {harg40 : arg40.IsWhole} {arg41 : Memref sig .tc .vmem S2x576x128 .f32} {harg41 : arg41.IsWhole} {arg42 : Memref sig .tc .vmem S2x576x128 .f32} {harg42 : arg42.IsWhole}
variable {I : Inp}

theorem c1_21 {v3 : Elt Ideal .f32} {X1 : BufTy.Contents (Elt Ideal) arg1.view.ty} {X2 : BufTy.Contents (Elt Ideal) arg2.view.ty} {X3 : BufTy.Contents (Elt Ideal) arg3.view.ty} (e3 : v3 = I.s0) (r1 : ∀ y, arg1.view.read (Elt Ideal) X1 y = I.x (y 1).val (y 2).val)
    (r2 : ∀ y, arg2.view.read (Elt Ideal) X2 y = I.ain (y 1).val) (r3 : ∀ y, arg3.view.read (Elt Ideal) X3 y = I.bin (y 1).val) {G : BufTy.Contents (Elt Ideal) arg21.view.ty} :
    ∀ y : S1x1152x512.Idx, arg21.view.read (Elt Ideal) (arg21.view.writes (Elt Ideal) G (pb_k0_t1 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X1 X2 X3 (Scf.trips k0_t1_loop.lb k0_t1_loop.ub k0_t1_loop.st)).1) y = q0 I (y 1).val (y 2).val := by
  intro y
  refine (loop1_21 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X1 X2 X3 e3 r1 r2 r3 G 9 (by omega) y).trans (if_pos ?_)
  have := (y 1).isLt
  change (y 1).val < 1152 at this
  omega

theorem c1_38 {v3 : Elt Ideal .f32} {X1 : BufTy.Contents (Elt Ideal) arg1.view.ty} {X2 : BufTy.Contents (Elt Ideal) arg2.view.ty} {X3 : BufTy.Contents (Elt Ideal) arg3.view.ty} (e3 : v3 = I.s0) (r1 : ∀ y, arg1.view.read (Elt Ideal) X1 y = I.x (y 1).val (y 2).val)
    (r2 : ∀ y, arg2.view.read (Elt Ideal) X2 y = I.ain (y 1).val) (r3 : ∀ y, arg3.view.read (Elt Ideal) X3 y = I.bin (y 1).val) {G : BufTy.Contents (Elt Ideal) arg38.view.ty} (p : ∀ y, ¬ (8 ≤ (y 1).val ∧ (y 1).val < 1160) → arg38.view.read (Elt Ideal) G y = 0) :
    ∀ y : S4x1168x128.Idx, arg38.view.read (Elt Ideal) (arg38.view.writes (Elt Ideal) G (pb_k0_t1 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X1 X2 X3 (Scf.trips k0_t1_loop.lb k0_t1_loop.ub k0_t1_loop.st)).2) y = Q0 I (y 1).val (128 * (y 0).val + (y 2).val) := by
  intro y
  refine (loop1_38 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X1 X2 X3 e3 r1 r2 r3 G 9 (by omega) y).trans ?_
  by_cases h : 8 ≤ (y 1).val ∧ (y 1).val < 1160
  · rw [if_pos (by omega), Q0, if_pos h]
  · rw [if_neg (by omega), p y h, Q0, if_neg h]

theorem c1_38' {v3 : Elt Ideal .f32} {X1 : BufTy.Contents (Elt Ideal) arg1.view.ty} {X2 : BufTy.Contents (Elt Ideal) arg2.view.ty} {X3 : BufTy.Contents (Elt Ideal) arg3.view.ty} (e3 : v3 = I.s0) (r1 : ∀ y, arg1.view.read (Elt Ideal) X1 y = I.x (y 1).val (y 2).val)
    (r2 : ∀ y, arg2.view.read (Elt Ideal) X2 y = I.ain (y 1).val) (r3 : ∀ y, arg3.view.read (Elt Ideal) X3 y = I.bin (y 1).val) {G : BufTy.Contents (Elt Ideal) arg38.view.ty} {L : List (View.Piece (Elt Ideal) S4x1168x128 .f32)} (p : ∀ y, ¬ (8 ≤ (y 1).val ∧ (y 1).val < 1160) → arg38.view.read (Elt Ideal) (arg38.view.writes (Elt Ideal) G L) y = 0) :
    ∀ y : S4x1168x128.Idx, arg38.view.read (Elt Ideal) (arg38.view.writes (Elt Ideal) G ((pb_k0_t1 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X1 X2 X3 (Scf.trips k0_t1_loop.lb k0_t1_loop.ub k0_t1_loop.st)).2 ++ L)) y = Q0 I (y 1).val (128 * (y 0).val + (y 2).val) := by
  intro y
  rw [View.writes_append]
  exact c1_38 e3 r1 r2 r3 p y

theorem c2_22 {v3 : Elt Ideal .f32} {X38 : BufTy.Contents (Elt Ideal) arg38.view.ty} {X35 : BufTy.Contents (Elt Ideal) arg35.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X16 : BufTy.Contents (Elt Ideal) arg16.view.ty} (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) {G41 : BufTy.Contents (Elt Ideal) arg41.view.ty} {G40 : BufTy.Contents (Elt Ideal) arg40.view.ty} {G22 : BufTy.Contents (Elt Ideal) arg22.view.ty} {G39 : BufTy.Contents (Elt Ideal) arg39.view.ty} {G28 : BufTy.Contents (Elt Ideal) arg28.view.ty} :
    ∀ y : S1x4608x256.Idx, arg22.view.read (Elt Ideal) (Nat.rec (motive := fun _ => BufTy.Contents (Elt Ideal) arg22.view.ty) G22 (fun _ _ => (st2 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (Scf.trips k0_t2_loop.lb k0_t2_loop.ub k0_t2_loop.st)).2.2.1) (Scf.trips k0_t2_loop.lb k0_t2_loop.ub k0_t2_loop.st)) y = kI8 (ca I 0 (y0 I) (y 1).val (y 2).val) := by
  intro y
  refine (congrArg (fun X => arg22.view.read (Elt Ideal) X y) (rec_pos (G := G22) (n := (Scf.trips k0_t2_loop.lb k0_t2_loop.ub k0_t2_loop.st)) (by decide))).trans ((loop2_22 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 (G41, G40, G22, G39, G28) 9 (by omega) y).trans (if_pos ?_))
  have := (y 1).isLt
  change (y 1).val < 4608 at this
  omega

theorem c2_both {v3 : Elt Ideal .f32} {X38 : BufTy.Contents (Elt Ideal) arg38.view.ty} {X35 : BufTy.Contents (Elt Ideal) arg35.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X16 : BufTy.Contents (Elt Ideal) arg16.view.ty} (e3 : v3 = I.s0) (r38 : ∀ y, arg38.view.read (Elt Ideal) X38 y = Q0 I (y 1).val (128 * (y 0).val + (y 2).val)) (r35 : ∀ y, arg35.view.read (Elt Ideal) X35 y = I.wt (y 0).val (y 1).val (y 2).val)
    (r5 : ∀ y, arg5.view.read (Elt Ideal) X5 y = I.wts (y 1).val) (r6 : ∀ y, arg6.view.read (Elt Ideal) X6 y = I.bt (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val) {G41 : BufTy.Contents (Elt Ideal) arg41.view.ty} {G40 : BufTy.Contents (Elt Ideal) arg40.view.ty} {G22 : BufTy.Contents (Elt Ideal) arg22.view.ty} {G39 : BufTy.Contents (Elt Ideal) arg39.view.ty} {G28 : BufTy.Contents (Elt Ideal) arg28.view.ty} (p : ∀ y, ¬ (32 ≤ (y 2).val ∧ (y 2).val < 4640) → arg39.view.read (Elt Ideal) G39 y = 0) :
    At39 I 0 0 (y0 I) (arg39.view.read (Elt Ideal) (Nat.rec (motive := fun _ => BufTy.Contents (Elt Ideal) arg39.view.ty) G39 (fun _ _ => (st2 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (Scf.trips k0_t2_loop.lb k0_t2_loop.ub k0_t2_loop.st)).2.2.2.1) (Scf.trips k0_t2_loop.lb k0_t2_loop.ub k0_t2_loop.st))) ∧ At40 (y0 I) (arg40.view.read (Elt Ideal) (Nat.rec (motive := fun _ => BufTy.Contents (Elt Ideal) arg40.view.ty) G40 (fun _ _ => (st2 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v3 X38 X35 X5 X6 X7 X8 X16 (G41, G40, G22, G39, G28) (Scf.trips k0_t2_loop.lb k0_t2_loop.ub k0_t2_loop.st)).2.1) (Scf.trips k0_t2_loop.lb k0_t2_loop.ub k0_t2_loop.st))) := by
  refine ⟨At39.next p fun y => ?_, fun y => ?_⟩
  · exact (congrArg (fun X => arg39.view.read (Elt Ideal) X y) (rec_pos (G := G39) (n := (Scf.trips k0_t2_loop.lb k0_t2_loop.ub k0_t2_loop.st)) (by decide))).trans (loop2_39 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 (G41, G40, G22, G39, G28) 9 (by omega) y)
  · refine (congrArg (fun X => arg40.view.read (Elt Ideal) X y) (rec_pos (G := G40) (n := (Scf.trips k0_t2_loop.lb k0_t2_loop.ub k0_t2_loop.st)) (by decide))).trans ((loop2_40 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v3 X38 X35 X5 X6 X7 X8 X16 e3 r38 r35 r5 r6 r7 r8 r16 (G41, G40, G22, G39, G28) 9 (by omega) y).trans (if_pos ?_))
    have := (y 1).isLt
    change (y 1).val < 4608 at this
    omega

theorem c3_qb {v20 : Vec Ideal S8x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G23 : BufTy.Contents (Elt Ideal) arg23.view.ty} {G24 : BufTy.Contents (Elt Ideal) arg24.view.ty} {G29 : BufTy.Contents (Elt Ideal) arg29.view.ty} {G30 : BufTy.Contents (Elt Ideal) arg30.view.ty} (g : At39 I 0 0 h (arg39.view.read (Elt Ideal) G39) ∧ At40 h (arg40.view.read (Elt Ideal) G40)) :
    ∀ y : S1x4608x256.Idx, arg23.view.read (Elt Ideal) (Nat.rec (motive := fun _ => BufTy.Contents (Elt Ideal) arg23.view.ty) G23 (fun _ _ => (st3 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 sa X36 X10 X11 X7 X8 X16 X37 X13 X14 (G39, G40, G41, G42, G23, G24, G29, G30) (Scf.trips k0_t3_loop.lb k0_t3_loop.ub k0_t3_loop.st)).2.2.2.2.1) (Scf.trips k0_t3_loop.lb k0_t3_loop.ub k0_t3_loop.st)) y = cb I 0 1 h (y 1).val (y 2).val := by
  intro y
  refine (congrArg (fun X => arg23.view.read (Elt Ideal) X y) (rec_pos (G := G23) (n := (Scf.trips k0_t3_loop.lb k0_t3_loop.ub k0_t3_loop.st)) (by decide))).trans (((loop3 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 sa X36 X10 X11 X7 X8 X16 X37 X13 X14 ea r36 r10 r11 r7 r8 r16 r37 r13 r14 h (G39, G40, G41, G42, G23, G24, G29, G30) g.1.1 g.2 9 (by omega)).2.2.1 y).trans (if_pos ?_))
  have := (y 1).isLt
  change (y 1).val < 4608 at this
  omega

theorem c3_qa {v20 : Vec Ideal S8x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G23 : BufTy.Contents (Elt Ideal) arg23.view.ty} {G24 : BufTy.Contents (Elt Ideal) arg24.view.ty} {G29 : BufTy.Contents (Elt Ideal) arg29.view.ty} {G30 : BufTy.Contents (Elt Ideal) arg30.view.ty} (g : At39 I 0 0 h (arg39.view.read (Elt Ideal) G39) ∧ At40 h (arg40.view.read (Elt Ideal) G40)) :
    ∀ y : S1x4608x256.Idx, arg24.view.read (Elt Ideal) (Nat.rec (motive := fun _ => BufTy.Contents (Elt Ideal) arg24.view.ty) G24 (fun _ _ => (st3 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 sa X36 X10 X11 X7 X8 X16 X37 X13 X14 (G39, G40, G41, G42, G23, G24, G29, G30) (Scf.trips k0_t3_loop.lb k0_t3_loop.ub k0_t3_loop.st)).2.2.2.2.2.1) (Scf.trips k0_t3_loop.lb k0_t3_loop.ub k0_t3_loop.st)) y = kI8 (ca I 1 (nx I 0 1 h) (y 1).val (y 2).val) := by
  intro y
  refine (congrArg (fun X => arg24.view.read (Elt Ideal) X y) (rec_pos (G := G24) (n := (Scf.trips k0_t3_loop.lb k0_t3_loop.ub k0_t3_loop.st)) (by decide))).trans (((loop3 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 sa X36 X10 X11 X7 X8 X16 X37 X13 X14 ea r36 r10 r11 r7 r8 r16 r37 r13 r14 h (G39, G40, G41, G42, G23, G24, G29, G30) g.1.1 g.2 9 (by omega)).2.2.2 y).trans (if_pos ?_))
  have := (y 1).isLt
  change (y 1).val < 4608 at this
  omega

theorem c3_both {v20 : Vec Ideal S8x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 0 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G23 : BufTy.Contents (Elt Ideal) arg23.view.ty} {G24 : BufTy.Contents (Elt Ideal) arg24.view.ty} {G29 : BufTy.Contents (Elt Ideal) arg29.view.ty} {G30 : BufTy.Contents (Elt Ideal) arg30.view.ty} (g : At39 I 0 0 h (arg39.view.read (Elt Ideal) G39) ∧ At40 h (arg40.view.read (Elt Ideal) G40)) :
    At39 I 1 1 (nx I 0 1 h) (arg39.view.read (Elt Ideal) (Nat.rec (motive := fun _ => BufTy.Contents (Elt Ideal) arg39.view.ty) G39 (fun _ _ => (st3 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 sa X36 X10 X11 X7 X8 X16 X37 X13 X14 (G39, G40, G41, G42, G23, G24, G29, G30) (Scf.trips k0_t3_loop.lb k0_t3_loop.ub k0_t3_loop.st)).1) (Scf.trips k0_t3_loop.lb k0_t3_loop.ub k0_t3_loop.st))) ∧ At40 (nx I 0 1 h) (arg40.view.read (Elt Ideal) (Nat.rec (motive := fun _ => BufTy.Contents (Elt Ideal) arg40.view.ty) G40 (fun _ _ => (st3 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v20 sa X36 X10 X11 X7 X8 X16 X37 X13 X14 (G39, G40, G41, G42, G23, G24, G29, G30) (Scf.trips k0_t3_loop.lb k0_t3_loop.ub k0_t3_loop.st)).2.1) (Scf.trips k0_t3_loop.lb k0_t3_loop.ub k0_t3_loop.st))) := by
  refine ⟨At39.next g.1.2 fun y => ?_, fun y => ?_⟩
  · exact (congrArg (fun X => arg39.view.read (Elt Ideal) X y) (rec_pos (G := G39) (n := (Scf.trips k0_t3_loop.lb k0_t3_loop.ub k0_t3_loop.st)) (by decide))).trans ((loop3 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 sa X36 X10 X11 X7 X8 X16 X37 X13 X14 ea r36 r10 r11 r7 r8 r16 r37 r13 r14 h (G39, G40, G41, G42, G23, G24, G29, G30) g.1.1 g.2 9 (by omega)).1 y)
  · refine (congrArg (fun X => arg40.view.read (Elt Ideal) X y) (rec_pos (G := G40) (n := (Scf.trips k0_t3_loop.lb k0_t3_loop.ub k0_t3_loop.st)) (by decide))).trans (((loop3 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v20 sa X36 X10 X11 X7 X8 X16 X37 X13 X14 ea r36 r10 r11 r7 r8 r16 r37 r13 r14 h (G39, G40, G41, G42, G23, G24, G29, G30) g.1.1 g.2 9 (by omega)).2.1 y).trans (if_pos ?_))
    have := (y 1).isLt
    change (y 1).val < 4608 at this
    omega

theorem c4_qb {v67 : FVec Ideal S1x3x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G25 : BufTy.Contents (Elt Ideal) arg25.view.ty} {G26 : BufTy.Contents (Elt Ideal) arg26.view.ty} {G31 : BufTy.Contents (Elt Ideal) arg31.view.ty} {G32 : BufTy.Contents (Elt Ideal) arg32.view.ty} (g : At39 I 1 1 h (arg39.view.read (Elt Ideal) G39) ∧ At40 h (arg40.view.read (Elt Ideal) G40)) :
    ∀ y : S1x4608x256.Idx, arg25.view.read (Elt Ideal) (Nat.rec (motive := fun _ => BufTy.Contents (Elt Ideal) arg25.view.ty) G25 (fun _ _ => (st4 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 sa X36 X10 X11 X7 X8 X16 X37 X13 X14 (G39, G40, G41, G42, G25, G26, G31, G32) (Scf.trips k0_t4_loop.lb k0_t4_loop.ub k0_t4_loop.st)).2.2.2.2.1) (Scf.trips k0_t4_loop.lb k0_t4_loop.ub k0_t4_loop.st)) y = cb I 1 3 h (y 1).val (y 2).val := by
  intro y
  refine (congrArg (fun X => arg25.view.read (Elt Ideal) X y) (rec_pos (G := G25) (n := (Scf.trips k0_t4_loop.lb k0_t4_loop.ub k0_t4_loop.st)) (by decide))).trans (((loop4 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 sa X36 X10 X11 X7 X8 X16 X37 X13 X14 ea r36 r10 r11 r7 r8 r16 r37 r13 r14 h (G39, G40, G41, G42, G25, G26, G31, G32) g.1.1 g.2 9 (by omega)).2.2.1 y).trans (if_pos ?_))
  have := (y 1).isLt
  change (y 1).val < 4608 at this
  omega

theorem c4_qa {v67 : FVec Ideal S1x3x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G25 : BufTy.Contents (Elt Ideal) arg25.view.ty} {G26 : BufTy.Contents (Elt Ideal) arg26.view.ty} {G31 : BufTy.Contents (Elt Ideal) arg31.view.ty} {G32 : BufTy.Contents (Elt Ideal) arg32.view.ty} (g : At39 I 1 1 h (arg39.view.read (Elt Ideal) G39) ∧ At40 h (arg40.view.read (Elt Ideal) G40)) :
    ∀ y : S1x4608x256.Idx, arg26.view.read (Elt Ideal) (Nat.rec (motive := fun _ => BufTy.Contents (Elt Ideal) arg26.view.ty) G26 (fun _ _ => (st4 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 sa X36 X10 X11 X7 X8 X16 X37 X13 X14 (G39, G40, G41, G42, G25, G26, G31, G32) (Scf.trips k0_t4_loop.lb k0_t4_loop.ub k0_t4_loop.st)).2.2.2.2.2.1) (Scf.trips k0_t4_loop.lb k0_t4_loop.ub k0_t4_loop.st)) y = kI8 (ca I 2 (nx I 1 3 h) (y 1).val (y 2).val) := by
  intro y
  refine (congrArg (fun X => arg26.view.read (Elt Ideal) X y) (rec_pos (G := G26) (n := (Scf.trips k0_t4_loop.lb k0_t4_loop.ub k0_t4_loop.st)) (by decide))).trans (((loop4 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 sa X36 X10 X11 X7 X8 X16 X37 X13 X14 ea r36 r10 r11 r7 r8 r16 r37 r13 r14 h (G39, G40, G41, G42, G25, G26, G31, G32) g.1.1 g.2 9 (by omega)).2.2.2 y).trans (if_pos ?_))
  have := (y 1).isLt
  change (y 1).val < 4608 at this
  omega

theorem c4_both {v67 : FVec Ideal S1x3x128 .f32} {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {h : ℕ → ℕ → EReal}
    (ea : sa = I.act 1 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G39 : BufTy.Contents (Elt Ideal) arg39.view.ty} {G40 : BufTy.Contents (Elt Ideal) arg40.view.ty} {G41 : BufTy.Contents (Elt Ideal) arg41.view.ty} {G42 : BufTy.Contents (Elt Ideal) arg42.view.ty} {G25 : BufTy.Contents (Elt Ideal) arg25.view.ty} {G26 : BufTy.Contents (Elt Ideal) arg26.view.ty} {G31 : BufTy.Contents (Elt Ideal) arg31.view.ty} {G32 : BufTy.Contents (Elt Ideal) arg32.view.ty} (g : At39 I 1 1 h (arg39.view.read (Elt Ideal) G39) ∧ At40 h (arg40.view.read (Elt Ideal) G40)) :
    At39 I 2 0 (nx I 1 3 h) (arg39.view.read (Elt Ideal) (Nat.rec (motive := fun _ => BufTy.Contents (Elt Ideal) arg39.view.ty) G39 (fun _ _ => (st4 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 sa X36 X10 X11 X7 X8 X16 X37 X13 X14 (G39, G40, G41, G42, G25, G26, G31, G32) (Scf.trips k0_t4_loop.lb k0_t4_loop.ub k0_t4_loop.st)).1) (Scf.trips k0_t4_loop.lb k0_t4_loop.ub k0_t4_loop.st))) ∧ At40 (nx I 1 3 h) (arg40.view.read (Elt Ideal) (Nat.rec (motive := fun _ => BufTy.Contents (Elt Ideal) arg40.view.ty) G40 (fun _ _ => (st4 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v67 sa X36 X10 X11 X7 X8 X16 X37 X13 X14 (G39, G40, G41, G42, G25, G26, G31, G32) (Scf.trips k0_t4_loop.lb k0_t4_loop.ub k0_t4_loop.st)).2.1) (Scf.trips k0_t4_loop.lb k0_t4_loop.ub k0_t4_loop.st))) := by
  refine ⟨At39.next g.1.2 fun y => ?_, fun y => ?_⟩
  · exact (congrArg (fun X => arg39.view.read (Elt Ideal) X y) (rec_pos (G := G39) (n := (Scf.trips k0_t4_loop.lb k0_t4_loop.ub k0_t4_loop.st)) (by decide))).trans ((loop4 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 sa X36 X10 X11 X7 X8 X16 X37 X13 X14 ea r36 r10 r11 r7 r8 r16 r37 r13 r14 h (G39, G40, G41, G42, G25, G26, G31, G32) g.1.1 g.2 9 (by omega)).1 y)
  · refine (congrArg (fun X => arg40.view.read (Elt Ideal) X y) (rec_pos (G := G40) (n := (Scf.trips k0_t4_loop.lb k0_t4_loop.ub k0_t4_loop.st)) (by decide))).trans (((loop4 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v67 sa X36 X10 X11 X7 X8 X16 X37 X13 X14 ea r36 r10 r11 r7 r8 r16 r37 r13 r14 h (G39, G40, G41, G42, G25, G26, G31, G32) g.1.1 g.2 9 (by omega)).2.1 y).trans (if_pos ?_))
    have := (y 1).isLt
    change (y 1).val < 4608 at this
    omega

theorem c5_qb {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {X39 : BufTy.Contents (Elt Ideal) arg39.view.ty} {h : ℕ → ℕ → EReal}
    (ea : sa = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G40 : BufTy.Contents (Elt Ideal) arg40.view.ty} {G41 : BufTy.Contents (Elt Ideal) arg41.view.ty} {G42 : BufTy.Contents (Elt Ideal) arg42.view.ty} {G27 : BufTy.Contents (Elt Ideal) arg27.view.ty} {G33 : BufTy.Contents (Elt Ideal) arg33.view.ty} {G34 : BufTy.Contents (Elt Ideal) arg34.view.ty} (g : At39 I 2 0 h (arg39.view.read (Elt Ideal) X39) ∧ At40 h (arg40.view.read (Elt Ideal) G40)) :
    ∀ y : S1x4608x256.Idx, arg27.view.read (Elt Ideal) (Nat.rec (motive := fun _ => BufTy.Contents (Elt Ideal) arg27.view.ty) G27 (fun _ _ => (st5 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 sa X36 X10 X11 X7 X8 X16 X37 X13 X14 X39 (G40, G41, G42, G27, G33, G34) (Scf.trips k0_t5_loop.lb k0_t5_loop.ub k0_t5_loop.st)).2.2.2.1) (Scf.trips k0_t5_loop.lb k0_t5_loop.ub k0_t5_loop.st)) y = cb I 2 9 h (y 1).val (y 2).val := by
  intro y
  refine (congrArg (fun X => arg27.view.read (Elt Ideal) X y) (rec_pos (G := G27) (n := (Scf.trips k0_t5_loop.lb k0_t5_loop.ub k0_t5_loop.st)) (by decide))).trans (((loop5 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I sa X36 X10 X11 X7 X8 X16 X37 X13 X14 X39 ea r36 r10 r11 r7 r8 r16 r37 r13 r14 h (G40, G41, G42, G27, G33, G34) g.1.1 g.2 9 (by omega)).2 y).trans (if_pos ?_))
  have := (y 1).isLt
  change (y 1).val < 4608 at this
  omega

theorem c5_40 {sa : Elt Ideal .f32} {X36 : BufTy.Contents (Elt Ideal) arg36.view.ty} {X10 : BufTy.Contents (Elt Ideal) arg10.view.ty} {X11 : BufTy.Contents (Elt Ideal) arg11.view.ty} {X7 : BufTy.Contents (Elt Ideal) arg7.view.ty} {X8 : BufTy.Contents (Elt Ideal) arg8.view.ty} {X16 : BufTy.Contents (Elt Ideal) arg16.view.ty} {X37 : BufTy.Contents (Elt Ideal) arg37.view.ty} {X13 : BufTy.Contents (Elt Ideal) arg13.view.ty} {X14 : BufTy.Contents (Elt Ideal) arg14.view.ty} {X39 : BufTy.Contents (Elt Ideal) arg39.view.ty} {h : ℕ → ℕ → EReal}
    (ea : sa = I.act 2 0) (r36 : ∀ y, arg36.view.read (Elt Ideal) X36 y = I.w7 (y 0).val (y 1).val (y 2).val (y 3).val) (r10 : ∀ y, arg10.view.read (Elt Ideal) X10 y = I.w7s (y 0).val (y 1).val)
    (r11 : ∀ y, arg11.view.read (Elt Ideal) X11 y = I.b7 (y 0).val (y 1).val) (r7 : ∀ y, arg7.view.read (Elt Ideal) X7 y = I.ra (y 0).val (y 1).val)
    (r8 : ∀ y, arg8.view.read (Elt Ideal) X8 y = I.rb (y 0).val (y 1).val) (r16 : ∀ y, arg16.view.read (Elt Ideal) X16 y = I.act (y 0).val (y 1).val)
    (r37 : ∀ y, arg37.view.read (Elt Ideal) X37 y = I.w1 (y 0).val (y 1).val (y 2).val) (r13 : ∀ y, arg13.view.read (Elt Ideal) X13 y = I.w1s (y 0).val (y 1).val)
    (r14 : ∀ y, arg14.view.read (Elt Ideal) X14 y = I.b1 (y 0).val (y 1).val) {G40 : BufTy.Contents (Elt Ideal) arg40.view.ty} {G41 : BufTy.Contents (Elt Ideal) arg41.view.ty} {G42 : BufTy.Contents (Elt Ideal) arg42.view.ty} {G27 : BufTy.Contents (Elt Ideal) arg27.view.ty} {G33 : BufTy.Contents (Elt Ideal) arg33.view.ty} {G34 : BufTy.Contents (Elt Ideal) arg34.view.ty} (g : At39 I 2 0 h (arg39.view.read (Elt Ideal) X39) ∧ At40 h (arg40.view.read (Elt Ideal) G40)) :
    At40 (nx I 2 9 h) (arg40.view.read (Elt Ideal) (Nat.rec (motive := fun _ => BufTy.Contents (Elt Ideal) arg40.view.ty) G40 (fun _ _ => (st5 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 sa X36 X10 X11 X7 X8 X16 X37 X13 X14 X39 (G40, G41, G42, G27, G33, G34) (Scf.trips k0_t5_loop.lb k0_t5_loop.ub k0_t5_loop.st)).1) (Scf.trips k0_t5_loop.lb k0_t5_loop.ub k0_t5_loop.st))) := by
  intro y
  refine (congrArg (fun X => arg40.view.read (Elt Ideal) X y) (rec_pos (G := G40) (n := (Scf.trips k0_t5_loop.lb k0_t5_loop.ub k0_t5_loop.st)) (by decide))).trans (((loop5 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I sa X36 X10 X11 X7 X8 X16 X37 X13 X14 X39 ea r36 r10 r11 r7 r8 r16 r37 r13 r14 h (G40, G41, G42, G27, G33, G34) g.1.1 g.2 9 (by omega)).1 y).trans (if_pos ?_))
  have := (y 1).isLt
  change (y 1).val < 4608 at this
  omega

theorem c6_18 {v158 : Vec Ideal S8x128 .f32} {X17 : BufTy.Contents (Elt Ideal) arg17.view.ty} {X40 : BufTy.Contents (Elt Ideal) arg40.view.ty} {init : FVec Ideal S1x128 .f32 × FVec Ideal S1x128 .f32} {h : ℕ → ℕ → EReal} (r17 : ∀ y, arg17.view.read (Elt Ideal) X17 y = I.so) (r40 : At40 h (arg40.view.read (Elt Ideal) X40)) {G : BufTy.Contents (Elt Ideal) arg18.view.ty} :
    ∀ y : S1x4480x256.Idx, arg18.view.read (Elt Ideal) (arg18.view.writes (Elt Ideal) G (st_k0_t6 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init (Scf.trips k0_t6_loop.lb k0_t6_loop.ub k0_t6_loop.st)).2.1) y = h ((y 1).val + 64) (y 2).val := by
  intro y
  refine (loop6_18 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v158 X17 X40 init h r17 r40 G 70 (by omega) y).trans (if_pos ?_)
  have := (y 1).isLt
  change (y 1).val < 4480 at this
  omega

theorem c6_19 {v158 : Vec Ideal S8x128 .f32} {X17 : BufTy.Contents (Elt Ideal) arg17.view.ty} {X40 : BufTy.Contents (Elt Ideal) arg40.view.ty} {init : FVec Ideal S1x128 .f32 × FVec Ideal S1x128 .f32} {h : ℕ → ℕ → EReal} (r17 : ∀ y, arg17.view.read (Elt Ideal) X17 y = I.so) (r40 : At40 h (arg40.view.read (Elt Ideal) X40)) {G : BufTy.Contents (Elt Ideal) arg19.view.ty} :
    ∀ y : S1x4480x256.Idx, arg19.view.read (Elt Ideal) (arg19.view.writes (Elt Ideal) G (st_k0_t6 (F := Ideal) 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 v158 X17 X40 init (Scf.trips k0_t6_loop.lb k0_t6_loop.ub k0_t6_loop.st)).2.2) y = kI8 (kOut I.so (h ((y 1).val + 64) (y 2).val)) := by
  intro y
  refine (loop6_19 𝒱 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 I v158 X17 X40 init h r17 r40 G 70 (by omega) y).trans (if_pos ?_)
  have := (y 1).isLt
  change (y 1).val < 4480 at this
  omega

end Cert.KernelIdeal.Vals

end
-- ==== Proof.RunV.lean ====
module

public import proofs.«01_k».proof.Proof.Chain
public import proofs.«01_k».proof.Proof.Loop2
public import proofs.«01_k».proof.Proof.Loop3
public import proofs.«01_k».proof.Proof.Loop4
public import proofs.«01_k».proof.Proof.Loop5
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.Body

open Cert.KernelIdeal Cert.KernelIdeal.Gen Cert.KernelIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

def P35 (I : Inp) (d : S8x512x256.Idx → EReal) : Prop := ∀ y, d y = I.wt (y 0).val (y 1).val (y 2).val

def P36 (I : Inp) (d : S3x7x256x256.Idx → EReal) : Prop := ∀ y, d y = I.w7 (y 0).val (y 1).val (y 2).val (y 3).val

def P37 (I : Inp) (d : S3x256x256.Idx → EReal) : Prop := ∀ y, d y = I.w1 (y 0).val (y 1).val (y 2).val

def P38 (I : Inp) (d : S4x1168x128.Idx → EReal) : Prop := ∀ y, ¬ (8 ≤ (y 1).val ∧ (y 1).val < 1160) → d y = 0

def P39 (I : Inp) (d : S2x2x4672x128.Idx → EReal) : Prop := ∀ y, ¬ (32 ≤ (y 2).val ∧ (y 2).val < 4640) → d y = 0

theorem kernelRunV (𝒱 : Variants) (c : Dev nD) (i : grid0.Coords) (arg1 : Memref sig .tc .vmem S1x1152x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S8x512x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S3x7x256x256 .i8) (harg9 : arg9.IsWhole) (arg10 : Memref sig .tc .vmem S3x256 .f32) (harg10 : arg10.IsWhole) (arg11 : Memref sig .tc .vmem S3x256 .f32) (harg11 : arg11.IsWhole) (arg12 : Memref sig .tc .vmem S3x256x256 .i8) (harg12 : arg12.IsWhole) (arg13 : Memref sig .tc .vmem S3x256 .f32) (harg13 : arg13.IsWhole) (arg14 : Memref sig .tc .vmem S3x256 .f32) (harg14 : arg14.IsWhole) (arg15 : Memref sig .tc .smem S1x1 .f32) (harg15 : arg15.IsWhole) (arg16 : Memref sig .tc .smem S3x2 .f32) (harg16 : arg16.IsWhole) (arg17 : Memref sig .tc .smem S1x1 .f32) (harg17 : arg17.IsWhole) (arg18 : Memref sig .tc .vmem S1x4480x256 .bf16) (harg18 : arg18.IsWhole) (arg19 : Memref sig .tc .vmem S1x4480x256 .i8) (harg19 : arg19.IsWhole) (arg20 : Memref sig .tc .vmem S1x1x128 .f32) (harg20 : arg20.IsWhole) (arg21 : Memref sig .tc .vmem S1x1152x512 .i8) (harg21 : arg21.IsWhole) (arg22 : Memref sig .tc .vmem S1x4608x256 .i8) (harg22 : arg22.IsWhole) (arg23 : Memref sig .tc .vmem S1x4608x256 .i8) (harg23 : arg23.IsWhole) (arg24 : Memref sig .tc .vmem S1x4608x256 .i8) (harg24 : arg24.IsWhole) (arg25 : Memref sig .tc .vmem S1x4608x256 .i8) (harg25 : arg25.IsWhole) (arg26 : Memref sig .tc .vmem S1x4608x256 .i8) (harg26 : arg26.IsWhole) (arg27 : Memref sig .tc .vmem S1x4608x256 .i8) (harg27 : arg27.IsWhole) (arg28 : Memref sig .tc .vmem S1x659x256 .f32) (harg28 : arg28.IsWhole) (arg29 : Memref sig .tc .vmem S1x659x256 .f32) (harg29 : arg29.IsWhole) (arg30 : Memref sig .tc .vmem S1x659x256 .f32) (harg30 : arg30.IsWhole) (arg31 : Memref sig .tc .vmem S1x659x256 .f32) (harg31 : arg31.IsWhole) (arg32 : Memref sig .tc .vmem S1x659x256 .f32) (harg32 : arg32.IsWhole) (arg33 : Memref sig .tc .vmem S1x659x256 .f32) (harg33 : arg33.IsWhole) (arg34 : Memref sig .tc .vmem S1x659x256 .f32) (harg34 : arg34.IsWhole) (arg35 : Memref sig .tc .vmem S8x512x256 .bf16) (harg35 : arg35.IsWhole) (arg36 : Memref sig .tc .vmem S3x7x256x256 .bf16) (harg36 : arg36.IsWhole) (arg37 : Memref sig .tc .vmem S3x256x256 .bf16) (harg37 : arg37.IsWhole) (arg38 : Memref sig .tc .vmem S4x1168x128 .f32) (harg38 : arg38.IsWhole) (arg39 : Memref sig .tc .vmem S2x2x4672x128 .f32) (harg39 : arg39.IsWhole) (arg40 : Memref sig .tc .vmem S2x4608x128 .f32) (harg40 : arg40.IsWhole) (arg41 : Memref sig .tc .vmem S2x576x128 .f32) (harg41 : arg41.IsWhole) (arg42 : Memref sig .tc .vmem S2x576x128 .f32) (harg42 : arg42.IsWhole) (x1 : S1x1152x512.Idx → Elt Ideal .bf16) (x2 : S1x512.Idx → Elt Ideal .f32) (x3 : S1x512.Idx → Elt Ideal .f32) (x4 : S8x512x256.Idx → Elt Ideal .i8) (x5 : S1x256.Idx → Elt Ideal .f32) (x6 : S1x256.Idx → Elt Ideal .f32) (x7 : S6x256.Idx → Elt Ideal .f32) (x8 : S6x256.Idx → Elt Ideal .f32) (x9 : S3x7x256x256.Idx → Elt Ideal .i8) (x10 : S3x256.Idx → Elt Ideal .f32) (x11 : S3x256.Idx → Elt Ideal .f32) (x12 : S3x256x256.Idx → Elt Ideal .i8) (x13 : S3x256.Idx → Elt Ideal .f32) (x14 : S3x256.Idx → Elt Ideal .f32) (x15 : S1x1.Idx → Elt Ideal .f32) (x16 : S3x2.Idx → Elt Ideal .f32) (x17 : S1x1.Idx → Elt Ideal .f32) (I : Inp)
    (q1 : ∀ y, x1 y = I.x (y 1).val (y 2).val) (q2 : ∀ y, x2 y = I.ain (y 1).val) (q3 : ∀ y, x3 y = I.bin (y 1).val) (q4 : ∀ y, dec (x4 y) = I.wt (y 0).val (y 1).val (y 2).val) (q5 : ∀ y, x5 y = I.wts (y 1).val) (q6 : ∀ y, x6 y = I.bt (y 1).val) (q7 : ∀ y, x7 y = I.ra (y 0).val (y 1).val) (q8 : ∀ y, x8 y = I.rb (y 0).val (y 1).val) (q9 : ∀ y, dec (x9 y) = I.w7 (y 0).val (y 1).val (y 2).val (y 3).val) (q10 : ∀ y, x10 y = I.w7s (y 0).val (y 1).val) (q11 : ∀ y, x11 y = I.b7 (y 0).val (y 1).val) (q12 : ∀ y, dec (x12 y) = I.w1 (y 0).val (y 1).val (y 2).val) (q13 : ∀ y, x13 y = I.w1s (y 0).val (y 1).val) (q14 : ∀ y, x14 y = I.b1 (y 0).val (y 1).val) (q15 : ∀ y, x15 y = I.s0) (q16 : ∀ y, x16 y = I.act (y 0).val (y 1).val) (q17 : ∀ y, x17 y = I.so) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ f, ⌜(¬ Scalar.cmpi .ne (Scalar.extui (Scalar.cmpi .eq (BitVec.ofNat 32 (i 0).val) 0#32)) 0#32 = 1#1) → P35 I (arg35.view.read (Elt Ideal) f)⌝ ∗ (arg35.view.loc (c : Thread nD τ) ↦[arg35.view.set]{fullShare} f)) ∗ (∃ f, ⌜(¬ Scalar.cmpi .ne (Scalar.extui (Scalar.cmpi .eq (BitVec.ofNat 32 (i 0).val) 0#32)) 0#32 = 1#1) → P36 I (arg36.view.read (Elt Ideal) f)⌝ ∗ (arg36.view.loc (c : Thread nD τ) ↦[arg36.view.set]{fullShare} f)) ∗ (∃ f, ⌜(¬ Scalar.cmpi .ne (Scalar.extui (Scalar.cmpi .eq (BitVec.ofNat 32 (i 0).val) 0#32)) 0#32 = 1#1) → P37 I (arg37.view.read (Elt Ideal) f)⌝ ∗ (arg37.view.loc (c : Thread nD τ) ↦[arg37.view.set]{fullShare} f)) ∗ (∃ f, ⌜(¬ Scalar.cmpi .ne (Scalar.extui (Scalar.cmpi .eq (BitVec.ofNat 32 (i 0).val) 0#32)) 0#32 = 1#1) → P38 I (arg38.view.read (Elt Ideal) f)⌝ ∗ (arg38.view.loc (c : Thread nD τ) ↦[arg38.view.set]{fullShare} f)) ∗ (∃ f, ⌜(¬ Scalar.cmpi .ne (Scalar.extui (Scalar.cmpi .eq (BitVec.ofNat 32 (i 0).val) 0#32)) 0#32 = 1#1) → P39 I (arg39.view.read (Elt Ideal) f)⌝ ∗ (arg39.view.loc (c : Thread nD τ) ↦[arg39.view.set]{fullShare} f)) ∗ (∃ d, owns (c : Thread nD τ) arg40 fullShare d) ∗ (∃ d, owns (c : Thread nD τ) arg41 fullShare d) ∗ (∃ d, owns (c : Thread nD τ) arg42 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (fun y => h3 I ((y 1).val + 64) (y 2).val) ∗ owns (c : Thread nD τ) arg19 fullShare (fun y => kI8 (kOut I.so (h3 I ((y 1).val + 64) (y 2).val))) ∗ (∃ d, owns (c : Thread nD τ) arg20 fullShare d) ∗ owns (c : Thread nD τ) arg21 fullShare (fun y => q0 I (y 1).val (y 2).val) ∗ owns (c : Thread nD τ) arg22 fullShare (fun y => kI8 (ca I 0 (y0 I) (y 1).val (y 2).val)) ∗ owns (c : Thread nD τ) arg23 fullShare (fun y => cb I 0 1 (y0 I) (y 1).val (y 2).val) ∗ owns (c : Thread nD τ) arg24 fullShare (fun y => kI8 (ca I 1 (h1 I) (y 1).val (y 2).val)) ∗ owns (c : Thread nD τ) arg25 fullShare (fun y => cb I 1 3 (h1 I) (y 1).val (y 2).val) ∗ owns (c : Thread nD τ) arg26 fullShare (fun y => kI8 (ca I 2 (h2 I) (y 1).val (y 2).val)) ∗ owns (c : Thread nD τ) arg27 fullShare (fun y => cb I 2 9 (h2 I) (y 1).val (y 2).val) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ f, ⌜P35 I (arg35.view.read (Elt Ideal) f)⌝ ∗ (arg35.view.loc (c : Thread nD τ) ↦[arg35.view.set]{fullShare} f)) ∗ (∃ f, ⌜P36 I (arg36.view.read (Elt Ideal) f)⌝ ∗ (arg36.view.loc (c : Thread nD τ) ↦[arg36.view.set]{fullShare} f)) ∗ (∃ f, ⌜P37 I (arg37.view.read (Elt Ideal) f)⌝ ∗ (arg37.view.loc (c : Thread nD τ) ↦[arg37.view.set]{fullShare} f)) ∗ (∃ f, ⌜P38 I (arg38.view.read (Elt Ideal) f)⌝ ∗ (arg38.view.loc (c : Thread nD τ) ↦[arg38.view.set]{fullShare} f)) ∗ (∃ f, ⌜P39 I (arg39.view.read (Elt Ideal) f)⌝ ∗ (arg39.view.loc (c : Thread nD τ) ↦[arg39.view.set]{fullShare} f)) ∗ (∃ d, owns (c : Thread nD τ) arg40 fullShare d) ∗ (∃ d, owns (c : Thread nD τ) arg41 fullShare d) ∗ (∃ d, owns (c : Thread nD τ) arg42 fullShare d)) -∗ K ⟨⟩))
      ⊢ wp frame (wpE (defs₀ (F := Ideal)) 𝒱 c none) Set.univ (cc0_oobleck_block (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_oobleck_block_eq_skeleton]; unfold cc0_oobleck_block_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%f35, %p35, H35⟩, ⟨%f36, %p36, H36⟩, ⟨%f37, %p37, H37⟩, ⟨%f38, %p38, H38⟩, ⟨%f39, %p39, H39⟩, ⟨%d40, %f40, -, H40⟩, ⟨%d41, %f41, -, H41⟩, ⟨%d42, %f42, -, H42⟩, Hk⟩
  have r1 : ∀ y, arg1.view.read (Elt Ideal) f1 y = I.x (y 1).val (y 2).val := fun y => (congrFun h1 y).trans (q1 y)
  have r2 : ∀ y, arg2.view.read (Elt Ideal) f2 y = I.ain (y 1).val := fun y => (congrFun h2 y).trans (q2 y)
  have r3 : ∀ y, arg3.view.read (Elt Ideal) f3 y = I.bin (y 1).val := fun y => (congrFun h3 y).trans (q3 y)
  have r4 : ∀ y, dec (arg4.view.read (Elt Ideal) f4 y) = I.wt (y 0).val (y 1).val (y 2).val := fun y => (congrArg dec (congrFun h4 y)).trans (q4 y)
  have r5 : ∀ y, arg5.view.read (Elt Ideal) f5 y = I.wts (y 1).val := fun y => (congrFun h5 y).trans (q5 y)
  have r6 : ∀ y, arg6.view.read (Elt Ideal) f6 y = I.bt (y 1).val := fun y => (congrFun h6 y).trans (q6 y)
  have r7 : ∀ y, arg7.view.read (Elt Ideal) f7 y = I.ra (y 0).val (y 1).val := fun y => (congrFun h7 y).trans (q7 y)
  have r8 : ∀ y, arg8.view.read (Elt Ideal) f8 y = I.rb (y 0).val (y 1).val := fun y => (congrFun h8 y).trans (q8 y)
  have r9 : ∀ y, dec (arg9.view.read (Elt Ideal) f9 y) = I.w7 (y 0).val (y 1).val (y 2).val (y 3).val := fun y => (congrArg dec (congrFun h9 y)).trans (q9 y)
  have r10 : ∀ y, arg10.view.read (Elt Ideal) f10 y = I.w7s (y 0).val (y 1).val := fun y => (congrFun h10 y).trans (q10 y)
  have r11 : ∀ y, arg11.view.read (Elt Ideal) f11 y = I.b7 (y 0).val (y 1).val := fun y => (congrFun h11 y).trans (q11 y)
  have r12 : ∀ y, dec (arg12.view.read (Elt Ideal) f12 y) = I.w1 (y 0).val (y 1).val (y 2).val := fun y => (congrArg dec (congrFun h12 y)).trans (q12 y)
  have r13 : ∀ y, arg13.view.read (Elt Ideal) f13 y = I.w1s (y 0).val (y 1).val := fun y => (congrFun h13 y).trans (q13 y)
  have r14 : ∀ y, arg14.view.read (Elt Ideal) f14 y = I.b1 (y 0).val (y 1).val := fun y => (congrFun h14 y).trans (q14 y)
  have r15 : ∀ y, arg15.view.read (Elt Ideal) f15 y = I.s0 := fun y => (congrFun h15 y).trans (q15 y)
  have r16 : ∀ y, arg16.view.read (Elt Ideal) f16 y = I.act (y 0).val (y 1).val := fun y => (congrFun h16 y).trans (q16 y)
  have r17 : ∀ y, arg17.view.read (Elt Ideal) f17 y = I.so := fun y => (congrFun h17 y).trans (q17 y)
  by_cases hc : Scalar.cmpi .ne (Scalar.extui (Scalar.cmpi .eq (BitVec.ofNat 32 (i 0).val) 0#32)) 0#32 = 1#1
  · sl_exec
    sl_step
    iapply Hk
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; exact h16
    isplitl [H17]
    · iexists _; isplitr; swap; · iexact H17
      ipureintro; exact h17
    isplitl [H18]
    · iexists _; isplitr; swap; · iexact H18
      ipureintro; exact funext (c6_18 r17 (c5_40 (scale_ld _ I.act r16 2 0 _ _) (fun y => (read_wts36 arg36.view _ arg9.view f9 y).trans (r9 y)) r10 r11 r7 r8 r16 (fun y => (read_wts37 arg37.view _ arg12.view f12 y).trans (r12 y)) r13 r14 (c4_both (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy))))))
    isplitl [H19]
    · iexists _; isplitr; swap; · iexact H19
      ipureintro; exact funext (c6_19 r17 (c5_40 (scale_ld _ I.act r16 2 0 _ _) (fun y => (read_wts36 arg36.view _ arg9.view f9 y).trans (r9 y)) r10 r11 r7 r8 r16 (fun y => (read_wts37 arg37.view _ arg12.view f12 y).trans (r12 y)) r13 r14 (c4_both (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy))))))
    isplitl [H20]
    · iexists _, _; isplitr; swap; · iexact H20
      ipureintro; rfl
    isplitl [H21]
    · iexists _; isplitr; swap; · iexact H21
      ipureintro; exact funext (c1_21 (r15 _) r1 r2 r3)
    isplitl [H22]
    · iexists _; isplitr; swap; · iexact H22
      ipureintro; exact funext (c2_22 (r15 _) (c1_38' (r15 _) r1 r2 r3 (fun y hy => read_zeros38 arg38.view f38 y hy)) (fun y => (read_wts35 arg35.view _ arg4.view f4 y).trans (r4 y)) r5 r6 r7 r8 r16)
    isplitl [H23]
    · iexists _; isplitr; swap; · iexact H23
      ipureintro; exact funext (c3_qb (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy)))
    isplitl [H24]
    · iexists _; isplitr; swap; · iexact H24
      ipureintro; exact funext (c3_qa (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy)))
    isplitl [H25]
    · iexists _; isplitr; swap; · iexact H25
      ipureintro; exact funext (c4_qb (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy))))
    isplitl [H26]
    · iexists _; isplitr; swap; · iexact H26
      ipureintro; exact funext (c4_qa (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy))))
    isplitl [H27]
    · iexists _; isplitr; swap; · iexact H27
      ipureintro; exact funext (c5_qb (scale_ld _ I.act r16 2 0 _ _) (fun y => (read_wts36 arg36.view _ arg9.view f9 y).trans (r9 y)) r10 r11 r7 r8 r16 (fun y => (read_wts37 arg37.view _ arg12.view f12 y).trans (r12 y)) r13 r14 (c4_both (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy)))))
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _; isplitr; swap; · iexact H35
      ipureintro; exact (fun y => (read_wts35 arg35.view _ arg4.view f4 y).trans (r4 y))
    isplitl [H36]
    · iexists _; isplitr; swap; · iexact H36
      ipureintro; exact (fun y => (read_wts36 arg36.view _ arg9.view f9 y).trans (r9 y))
    isplitl [H37]
    · iexists _; isplitr; swap; · iexact H37
      ipureintro; exact (fun y => (read_wts37 arg37.view _ arg12.view f12 y).trans (r12 y))
    isplitl [H38]
    · iexists _; isplitr; swap; · iexact H38
      ipureintro; exact (fun y hy => ((c1_38' (r15 _) r1 r2 r3 (fun y hy => read_zeros38 arg38.view f38 y hy)) y).trans (if_neg hy))
    isplitl [H39]
    · iexists _; isplitr; swap; · iexact H39
      ipureintro; exact (c4_both (scale_ld _ I.act r16 1 0 _ _) (fun y => (read_wts36 arg36.view _ arg9.view f9 y).trans (r9 y)) r10 r11 r7 r8 r16 (fun y => (read_wts37 arg37.view _ arg12.view f12 y).trans (r12 y)) r13 r14 (c3_both (scale_ld _ I.act r16 0 0 _ _) (fun y => (read_wts36 arg36.view _ arg9.view f9 y).trans (r9 y)) r10 r11 r7 r8 r16 (fun y => (read_wts37 arg37.view _ arg12.view f12 y).trans (r12 y)) r13 r14 (c2_both (r15 _) (c1_38' (r15 _) r1 r2 r3 (fun y hy => read_zeros38 arg38.view f38 y hy)) (fun y => (read_wts35 arg35.view _ arg4.view f4 y).trans (r4 y)) r5 r6 r7 r8 r16 (fun y hy => read_zeros39 arg39.view f39 y hy)))).1.2
    isplitl [H40]
    · iexists _, _; isplitr; swap; · iexact H40
      ipureintro; rfl
    isplitl [H41]
    · iexists _, _; isplitr; swap; · iexact H41
      ipureintro; rfl
    iexists _, _; isplitr; swap; · iexact H42
    ipureintro; rfl
  · sl_exec
    sl_step
    iapply Hk
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; exact h16
    isplitl [H17]
    · iexists _; isplitr; swap; · iexact H17
      ipureintro; exact h17
    isplitl [H18]
    · iexists _; isplitr; swap; · iexact H18
      ipureintro; exact funext (c6_18 r17 (c5_40 (scale_ld _ I.act r16 2 0 _ _) (p36 hc) r10 r11 r7 r8 r16 (p37 hc) r13 r14 (c4_both (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc))))))
    isplitl [H19]
    · iexists _; isplitr; swap; · iexact H19
      ipureintro; exact funext (c6_19 r17 (c5_40 (scale_ld _ I.act r16 2 0 _ _) (p36 hc) r10 r11 r7 r8 r16 (p37 hc) r13 r14 (c4_both (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc))))))
    isplitl [H20]
    · iexists _, _; isplitr; swap; · iexact H20
      ipureintro; rfl
    isplitl [H21]
    · iexists _; isplitr; swap; · iexact H21
      ipureintro; exact funext (c1_21 (r15 _) r1 r2 r3)
    isplitl [H22]
    · iexists _; isplitr; swap; · iexact H22
      ipureintro; exact funext (c2_22 (r15 _) (c1_38 (r15 _) r1 r2 r3 (p38 hc)) (p35 hc) r5 r6 r7 r8 r16)
    isplitl [H23]
    · iexists _; isplitr; swap; · iexact H23
      ipureintro; exact funext (c3_qb (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc)))
    isplitl [H24]
    · iexists _; isplitr; swap; · iexact H24
      ipureintro; exact funext (c3_qa (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc)))
    isplitl [H25]
    · iexists _; isplitr; swap; · iexact H25
      ipureintro; exact funext (c4_qb (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc))))
    isplitl [H26]
    · iexists _; isplitr; swap; · iexact H26
      ipureintro; exact funext (c4_qa (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc))))
    isplitl [H27]
    · iexists _; isplitr; swap; · iexact H27
      ipureintro; exact funext (c5_qb (scale_ld _ I.act r16 2 0 _ _) (p36 hc) r10 r11 r7 r8 r16 (p37 hc) r13 r14 (c4_both (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc)))))
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _; isplitr; swap; · iexact H35
      ipureintro; exact (p35 hc)
    isplitl [H36]
    · iexists _; isplitr; swap; · iexact H36
      ipureintro; exact (p36 hc)
    isplitl [H37]
    · iexists _; isplitr; swap; · iexact H37
      ipureintro; exact (p37 hc)
    isplitl [H38]
    · iexists _; isplitr; swap; · iexact H38
      ipureintro; exact (fun y hy => ((c1_38 (r15 _) r1 r2 r3 (p38 hc)) y).trans (if_neg hy))
    isplitl [H39]
    · iexists _; isplitr; swap; · iexact H39
      ipureintro; exact (c4_both (scale_ld _ I.act r16 1 0 _ _) (p36 hc) r10 r11 r7 r8 r16 (p37 hc) r13 r14 (c3_both (scale_ld _ I.act r16 0 0 _ _) (p36 hc) r10 r11 r7 r8 r16 (p37 hc) r13 r14 (c2_both (r15 _) (c1_38 (r15 _) r1 r2 r3 (p38 hc)) (p35 hc) r5 r6 r7 r8 r16 (p39 hc)))).1.2
    isplitl [H40]
    · iexists _, _; isplitr; swap; · iexact H40
      ipureintro; rfl
    isplitl [H41]
    · iexists _, _; isplitr; swap; · iexact H41
      ipureintro; rfl
    iexists _, _; isplitr; swap; · iexact H42
    ipureintro; rfl

end Cert.KernelIdeal.Body

end
-- ==== Proof.BodyV.lean ====
module

public import proofs.«01_k».proof.Proof.Arr
public import proofs.«01_k».proof.Proof.RunV
public import proofs.«01_k».proof.Proof.Gen.KernelIdeal.Frame
public import Idealize.ShloMosaic.Lib.Pipeline.FrameBody
public import Idealize.ShloMosaic.Lib.Pipeline.Value
public import Idealize.ShloMosaic.Lib.Exec
public import Idealize.ShloMosaic.Lib.Tactic
public import Idealize.ShloMosaic.Lib.Pipeline.Kit

@[expose] public section

set_option maxRecDepth 16384
set_option maxHeartbeats 8000000
set_option sl_exec.squeezeSlice true

noncomputable section

namespace Cert.KernelIdeal.BodyV

open Cert.KernelIdeal Cert.KernelIdeal.Gen Cert.KernelIdeal.Vals Cert.KernelIdeal.Body
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄G" => MT nD τ sig Unit (Elt Ideal) ℕ (UR sig nD τ) ℕ

variable (m : (ℓ : Loc nD τ sig) → Buf (Elt Ideal) ℓ) (ρ : Dev nD → PrngReg)

/-- The item a point computes. -/
def item (t : Fin cfg0.N) : ℕ := (grid0.coords t 0).val

/-- The windows of which nothing is said after the run. -/
def forgets : Fin 34 → Bool := fun w => decide (w.val = 19 ∨ 27 ≤ w.val)

/-- Between two points, from the second on: the weights widened, and zeros beside the rows in use. -/
def PhiS (c : Dev nD) (n : ℕ) (_ : n ≤ cfg0.N) : sProp 𝕄G :=
  iprop(((∃ f, ⌜n ≠ 0 → P35 (inp m c 0) ((Memref.whole cc0_scratch0).view.read (Elt Ideal) f)⌝ ∗ ((Memref.whole cc0_scratch0).view.loc (c : Thread nD τ) ↦[(Memref.whole cc0_scratch0).view.set]{fullShare} f)) ∗ (∃ f, ⌜n ≠ 0 → P36 (inp m c 0) ((Memref.whole cc0_scratch1).view.read (Elt Ideal) f)⌝ ∗ ((Memref.whole cc0_scratch1).view.loc (c : Thread nD τ) ↦[(Memref.whole cc0_scratch1).view.set]{fullShare} f)) ∗ (∃ f, ⌜n ≠ 0 → P37 (inp m c 0) ((Memref.whole cc0_scratch2).view.read (Elt Ideal) f)⌝ ∗ ((Memref.whole cc0_scratch2).view.loc (c : Thread nD τ) ↦[(Memref.whole cc0_scratch2).view.set]{fullShare} f)) ∗ (∃ f, ⌜n ≠ 0 → P38 (inp m c 0) ((Memref.whole cc0_scratch3).view.read (Elt Ideal) f)⌝ ∗ ((Memref.whole cc0_scratch3).view.loc (c : Thread nD τ) ↦[(Memref.whole cc0_scratch3).view.set]{fullShare} f)) ∗ (∃ f, ⌜n ≠ 0 → P39 (inp m c 0) ((Memref.whole cc0_scratch4).view.read (Elt Ideal) f)⌝ ∗ ((Memref.whole cc0_scratch4).view.loc (c : Thread nD τ) ↦[(Memref.whole cc0_scratch4).view.set]{fullShare} f)) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ ∃ r, prngReg c r)

/-- The proof data on core `c`: each argument's block stays as fetched, the results are the stages' functions. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => iblk m c 14 t
    | 15 => iblk m c 15 t
    | 16 => iblk m c 16 t
    | 17 => fun y => h3 (inp m c (item t)) ((y 1).val + 64) (y 2).val
    | 18 => fun y => kI8 (kOut (inp m c (item t)).so (h3 (inp m c (item t)) ((y 1).val + 64) (y 2).val))
    | 20 => fun y => q0 (inp m c (item t)) (y 1).val (y 2).val
    | 21 => fun y => kI8 (ca (inp m c (item t)) 0 (y0 (inp m c (item t))) (y 1).val (y 2).val)
    | 22 => fun y => cb (inp m c (item t)) 0 1 (y0 (inp m c (item t))) (y 1).val (y 2).val
    | 23 => fun y => kI8 (ca (inp m c (item t)) 1 (h1 (inp m c (item t))) (y 1).val (y 2).val)
    | 24 => fun y => cb (inp m c (item t)) 1 3 (h1 (inp m c (item t))) (y 1).val (y 2).val
    | 25 => fun y => kI8 (ca (inp m c (item t)) 2 (h2 (inp m c (item t))) (y 1).val (y 2).val)
    | 26 => fun y => cb (inp m c (item t)) 2 9 (h2 (inp m c (item t))) (y 1).val (y 2).val
    | w => Pipeline.Dat.unnamed (cfg := cfg0) w t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_eq (c : Dev nD) (t : Fin (cfg0.N + 1)) : (dats m 0 c).Φ t = PhiS m c t.val (Nat.le_of_lt_succ t.isLt) := by dsimp only [dats]

theorem after_0 (c : Dev nD) (t : Fin cfg0.N) : (dats m 0 c).after 0 t = iblk m c 0 t := by dsimp only [dats]; rfl
theorem after_1 (c : Dev nD) (t : Fin cfg0.N) : (dats m 0 c).after 1 t = iblk m c 1 t := by dsimp only [dats]; rfl
theorem after_2 (c : Dev nD) (t : Fin cfg0.N) : (dats m 0 c).after 2 t = iblk m c 2 t := by dsimp only [dats]; rfl
theorem after_3 (c : Dev nD) (t : Fin cfg0.N) : (dats m 0 c).after 3 t = iblk m c 3 t := by dsimp only [dats]; rfl
theorem after_4 (c : Dev nD) (t : Fin cfg0.N) : (dats m 0 c).after 4 t = iblk m c 4 t := by dsimp only [dats]; rfl
theorem after_5 (c : Dev nD) (t : Fin cfg0.N) : (dats m 0 c).after 5 t = iblk m c 5 t := by dsimp only [dats]; rfl
theorem after_6 (c : Dev nD) (t : Fin cfg0.N) : (dats m 0 c).after 6 t = iblk m c 6 t := by dsimp only [dats]; rfl
theorem after_7 (c : Dev nD) (t : Fin cfg0.N) : (dats m 0 c).after 7 t = iblk m c 7 t := by dsimp only [dats]; rfl
theorem after_8 (c : Dev nD) (t : Fin cfg0.N) : (dats m 0 c).after 8 t = iblk m c 8 t := by dsimp only [dats]; rfl
theorem after_9 (c : Dev nD) (t : Fin cfg0.N) : (dats m 0 c).after 9 t = iblk m c 9 t := by dsimp only [dats]; rfl
theorem after_10 (c : Dev nD) (t : Fin cfg0.N) : (dats m 0 c).after 10 t = iblk m c 10 t := by dsimp only [dats]; rfl
theorem after_11 (c : Dev nD) (t : Fin cfg0.N) : (dats m 0 c).after 11 t = iblk m c 11 t := by dsimp only [dats]; rfl
theorem after_12 (c : Dev nD) (t : Fin cfg0.N) : (dats m 0 c).after 12 t = iblk m c 12 t := by dsimp only [dats]; rfl
theorem after_13 (c : Dev nD) (t : Fin cfg0.N) : (dats m 0 c).after 13 t = iblk m c 13 t := by dsimp only [dats]; rfl
theorem after_14 (c : Dev nD) (t : Fin cfg0.N) : (dats m 0 c).after 14 t = iblk m c 14 t := by dsimp only [dats]; rfl
theorem after_15 (c : Dev nD) (t : Fin cfg0.N) : (dats m 0 c).after 15 t = iblk m c 15 t := by dsimp only [dats]; rfl
theorem after_16 (c : Dev nD) (t : Fin cfg0.N) : (dats m 0 c).after 16 t = iblk m c 16 t := by dsimp only [dats]; rfl
theorem after_17 (c : Dev nD) (t : Fin cfg0.N) : (dats m 0 c).after 17 t = fun y => h3 (inp m c (item t)) ((y 1).val + 64) (y 2).val := by dsimp only [dats]; rfl
theorem after_18 (c : Dev nD) (t : Fin cfg0.N) : (dats m 0 c).after 18 t = fun y => kI8 (kOut (inp m c (item t)).so (h3 (inp m c (item t)) ((y 1).val + 64) (y 2).val)) := by dsimp only [dats]; rfl
theorem after_20 (c : Dev nD) (t : Fin cfg0.N) : (dats m 0 c).after 20 t = fun y => q0 (inp m c (item t)) (y 1).val (y 2).val := by dsimp only [dats]; rfl
theorem after_21 (c : Dev nD) (t : Fin cfg0.N) : (dats m 0 c).after 21 t = fun y => kI8 (ca (inp m c (item t)) 0 (y0 (inp m c (item t))) (y 1).val (y 2).val) := by dsimp only [dats]; rfl
theorem after_22 (c : Dev nD) (t : Fin cfg0.N) : (dats m 0 c).after 22 t = fun y => cb (inp m c (item t)) 0 1 (y0 (inp m c (item t))) (y 1).val (y 2).val := by dsimp only [dats]; rfl
theorem after_23 (c : Dev nD) (t : Fin cfg0.N) : (dats m 0 c).after 23 t = fun y => kI8 (ca (inp m c (item t)) 1 (h1 (inp m c (item t))) (y 1).val (y 2).val) := by dsimp only [dats]; rfl
theorem after_24 (c : Dev nD) (t : Fin cfg0.N) : (dats m 0 c).after 24 t = fun y => cb (inp m c (item t)) 1 3 (h1 (inp m c (item t))) (y 1).val (y 2).val := by dsimp only [dats]; rfl
theorem after_25 (c : Dev nD) (t : Fin cfg0.N) : (dats m 0 c).after 25 t = fun y => kI8 (ca (inp m c (item t)) 2 (h2 (inp m c (item t))) (y 1).val (y 2).val) := by dsimp only [dats]; rfl
theorem after_26 (c : Dev nD) (t : Fin cfg0.N) : (dats m 0 c).after 26 t = fun y => cb (inp m c (item t)) 2 9 (h2 (inp m c (item t))) (y 1).val (y 2).val := by dsimp only [dats]; rfl

/-- What the body is called with at point `t`. -/
def bodyPre (c : Dev nD) (t : Fin cfg0.N) : sProp 𝕄G :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare ((dats m 0 c).before 17 t d)) ∗ (∃ d, owns (c : Thread nD τ) ((cfg0.win 18).stage (cfg0.slots t 18)) fullShare ((dats m 0 c).before 18 t d)) ∗ (∃ d, owns (c : Thread nD τ) ((cfg0.win 19).stage (cfg0.slots t 19)) fullShare d) ∗ (∃ d, owns (c : Thread nD τ) ((cfg0.win 20).stage (cfg0.slots t 20)) fullShare ((dats m 0 c).before 20 t d)) ∗ (∃ d, owns (c : Thread nD τ) ((cfg0.win 21).stage (cfg0.slots t 21)) fullShare ((dats m 0 c).before 21 t d)) ∗ (∃ d, owns (c : Thread nD τ) ((cfg0.win 22).stage (cfg0.slots t 22)) fullShare ((dats m 0 c).before 22 t d)) ∗ (∃ d, owns (c : Thread nD τ) ((cfg0.win 23).stage (cfg0.slots t 23)) fullShare ((dats m 0 c).before 23 t d)) ∗ (∃ d, owns (c : Thread nD τ) ((cfg0.win 24).stage (cfg0.slots t 24)) fullShare ((dats m 0 c).before 24 t d)) ∗ (∃ d, owns (c : Thread nD τ) ((cfg0.win 25).stage (cfg0.slots t 25)) fullShare ((dats m 0 c).before 25 t d)) ∗ (∃ d, owns (c : Thread nD τ) ((cfg0.win 26).stage (cfg0.slots t 26)) fullShare ((dats m 0 c).before 26 t d)) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

/-- What the body returns at point `t`. -/
def bodyPost (c : Dev nD) (t : Fin cfg0.N) : sProp 𝕄G :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ owns (c : Thread nD τ) ((cfg0.win 8).stage (cfg0.slots t 8)) fullShare ((dats m 0 c).after 8 t) ∗ owns (c : Thread nD τ) ((cfg0.win 9).stage (cfg0.slots t 9)) fullShare ((dats m 0 c).after 9 t) ∗ owns (c : Thread nD τ) ((cfg0.win 10).stage (cfg0.slots t 10)) fullShare ((dats m 0 c).after 10 t) ∗ owns (c : Thread nD τ) ((cfg0.win 11).stage (cfg0.slots t 11)) fullShare ((dats m 0 c).after 11 t) ∗ owns (c : Thread nD τ) ((cfg0.win 12).stage (cfg0.slots t 12)) fullShare ((dats m 0 c).after 12 t) ∗ owns (c : Thread nD τ) ((cfg0.win 13).stage (cfg0.slots t 13)) fullShare ((dats m 0 c).after 13 t) ∗ owns (c : Thread nD τ) ((cfg0.win 14).stage (cfg0.slots t 14)) fullShare ((dats m 0 c).after 14 t) ∗ owns (c : Thread nD τ) ((cfg0.win 15).stage (cfg0.slots t 15)) fullShare ((dats m 0 c).after 15 t) ∗ owns (c : Thread nD τ) ((cfg0.win 16).stage (cfg0.slots t 16)) fullShare ((dats m 0 c).after 16 t) ∗ owns (c : Thread nD τ) ((cfg0.win 17).stage (cfg0.slots t 17)) fullShare ((dats m 0 c).after 17 t) ∗ owns (c : Thread nD τ) ((cfg0.win 18).stage (cfg0.slots t 18)) fullShare ((dats m 0 c).after 18 t) ∗ (∃ d, owns (c : Thread nD τ) ((cfg0.win 19).stage (cfg0.slots t 19)) fullShare d) ∗ owns (c : Thread nD τ) ((cfg0.win 20).stage (cfg0.slots t 20)) fullShare ((dats m 0 c).after 20 t) ∗ owns (c : Thread nD τ) ((cfg0.win 21).stage (cfg0.slots t 21)) fullShare ((dats m 0 c).after 21 t) ∗ owns (c : Thread nD τ) ((cfg0.win 22).stage (cfg0.slots t 22)) fullShare ((dats m 0 c).after 22 t) ∗ owns (c : Thread nD τ) ((cfg0.win 23).stage (cfg0.slots t 23)) fullShare ((dats m 0 c).after 23 t) ∗ owns (c : Thread nD τ) ((cfg0.win 24).stage (cfg0.slots t 24)) fullShare ((dats m 0 c).after 24 t) ∗ owns (c : Thread nD τ) ((cfg0.win 25).stage (cfg0.slots t 25)) fullShare ((dats m 0 c).after 25 t) ∗ owns (c : Thread nD τ) ((cfg0.win 26).stage (cfg0.slots t 26)) fullShare ((dats m 0 c).after 26 t) ∗ (∃ d, owns (c : Thread nD τ) ((cfg0.win 27).stage (cfg0.slots t 27)) fullShare d) ∗ (∃ d, owns (c : Thread nD τ) ((cfg0.win 28).stage (cfg0.slots t 28)) fullShare d) ∗ (∃ d, owns (c : Thread nD τ) ((cfg0.win 29).stage (cfg0.slots t 29)) fullShare d) ∗ (∃ d, owns (c : Thread nD τ) ((cfg0.win 30).stage (cfg0.slots t 30)) fullShare d) ∗ (∃ d, owns (c : Thread nD τ) ((cfg0.win 31).stage (cfg0.slots t 31)) fullShare d) ∗ (∃ d, owns (c : Thread nD τ) ((cfg0.win 32).stage (cfg0.slots t 32)) fullShare d) ∗ (∃ d, owns (c : Thread nD τ) ((cfg0.win 33).stage (cfg0.slots t 33)) fullShare d))

theorem scratch_owns (c : Dev nD) :
    (Pipeline.scopedRest (Ix := Unit) (Name := ℕ) (U := UR sig nD τ) (Lvl := ℕ) (Val := Elt Ideal) spec0 c : sProp 𝕄G)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) := by
  rw [scopedRest0_eq]; simp only [owns_whole]

theorem item_eq (t : Fin cfg0.N) : item t = t.val := by
  unfold item
  rw [Pipeline.Grid.coords_val t 0 (S := 1) (B := 48) (by decide) rfl]
  have h : t.val < 48 := t.isLt
  omega

/-- At a later point the first conditional is not taken, so the scratch is as the first point left it. -/
theorem later (t : Fin cfg0.N) (h : ¬ Scalar.cmpi .ne (Scalar.extui (Scalar.cmpi .eq (BitVec.ofNat 32 (grid0.coords t 0).val) 0#32)) 0#32 = 1#1) : t.val ≠ 0 := by
  intro h0
  have e : (grid0.coords t 0).val = 0 := (item_eq t).trans h0
  apply h
  rw [e]
  rfl

/-- The body at a point: the invariant opened, `kernelRunV`, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl, Φ_eq, Φ_eq]
  unfold PhiS
  simp only [before0_0_of m (dats m 0 c) (A_eq m c 0) (after_0 m c) t, after_0, before0_1_of m (dats m 0 c) (A_eq m c 1) (after_1 m c) t, after_1, before0_2_of m (dats m 0 c) (A_eq m c 2) (after_2 m c) t, after_2, before0_3_of m (dats m 0 c) (A_eq m c 3) (after_3 m c) t, after_3, before0_4_of m (dats m 0 c) (A_eq m c 4) (after_4 m c) t, after_4, before0_5_of m (dats m 0 c) (A_eq m c 5) (after_5 m c) t, after_5, before0_6_of m (dats m 0 c) (A_eq m c 6) (after_6 m c) t, after_6, before0_7_of m (dats m 0 c) (A_eq m c 7) (after_7 m c) t, after_7, before0_8_of m (dats m 0 c) (A_eq m c 8) (after_8 m c) t, after_8, before0_9_of m (dats m 0 c) (A_eq m c 9) (after_9 m c) t, after_9, before0_10_of m (dats m 0 c) (A_eq m c 10) (after_10 m c) t, after_10, before0_11_of m (dats m 0 c) (A_eq m c 11) (after_11 m c) t, after_11, before0_12_of m (dats m 0 c) (A_eq m c 12) (after_12 m c) t, after_12, before0_13_of m (dats m 0 c) (A_eq m c 13) (after_13 m c) t, after_13, before0_14_of m (dats m 0 c) (A_eq m c 14) (after_14 m c) t, after_14, before0_15_of m (dats m 0 c) (A_eq m c 15) (after_15 m c) t, after_15, before0_16_of m (dats m 0 c) (A_eq m c 16) (after_16 m c) t, after_16, after_17, after_18, after_20, after_21, after_22, after_23, after_24, after_25, after_26]
  iintro ⟨⟨⟨⟨%f0, %p0, S0⟩, ⟨%f1, %p1, S1⟩, ⟨%f2, %p2, S2⟩, ⟨%f3, %p3, S3⟩, ⟨%f4, %p4, S4⟩, S5, S6, S7⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (kernelRunV Variants.none c (grid0.coords t)  (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (inp m c (item t)) (q1 m c (item t) t rfl) (q2 m c (item t) t) (q3 m c (item t) t) (q4 m c (item t) t) (q5 m c (item t) t) (q6 m c (item t) t) (q7 m c (item t) t) (q8 m c (item t) t) (q9 m c (item t) t) (q10 m c (item t) t) (q11 m c (item t) t) (q12 m c (item t) t) (q13 m c (item t) t) (q14 m c (item t) t) (q15 m c (item t) t) (q16 m c (item t) t) (q17 m c (item t) t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  isplitl [H32]
  · iexists _; iexact H32
  isplitl [H33]
  · iexists _; iexact H33
  isplitl [S0]
  · iexists _; isplitr; swap; · iexact S0
    ipureintro; exact fun hc => p0 (later t hc)
  isplitl [S1]
  · iexists _; isplitr; swap; · iexact S1
    ipureintro; exact fun hc => p1 (later t hc)
  isplitl [S2]
  · iexists _; isplitr; swap; · iexact S2
    ipureintro; exact fun hc => p2 (later t hc)
  isplitl [S3]
  · iexists _; isplitr; swap; · iexact S3
    ipureintro; exact fun hc => p3 (later t hc)
  isplitl [S4]
  · iexists _; isplitr; swap; · iexact S4
    ipureintro; exact fun hc => p4 (later t hc)
  isplitl [S5]
  · iexact S5
  isplitl [S6]
  · iexact S6
  isplitl [S7]
  · iexact S7
  iintro ⟨H0, H1, H2, H3, H4, H5, H6, H7, H8, H9, H10, H11, H12, H13, H14, H15, H16, H17, H18, H19, H20, H21, H22, H23, H24, H25, H26, H27, H28, H29, H30, H31, H32, H33, ⟨%g0, %r0, S0⟩, ⟨%g1, %r1, S1⟩, ⟨%g2, %r2, S2⟩, ⟨%g3, %r3, S3⟩, ⟨%g4, %r4, S4⟩, S5, S6, S7⟩
  isplitl [S0 S1 S2 S3 S4 S5 S6 S7 Hg]
  · isplitl [S0 S1 S2 S3 S4 S5 S6 S7]
    · isplitl [S0]
      · iexists _; isplitr; swap; · iexact S0
        ipureintro; exact fun _ => r0
      isplitl [S1]
      · iexists _; isplitr; swap; · iexact S1
        ipureintro; exact fun _ => r1
      isplitl [S2]
      · iexists _; isplitr; swap; · iexact S2
        ipureintro; exact fun _ => r2
      isplitl [S3]
      · iexists _; isplitr; swap; · iexact S3
        ipureintro; exact fun _ => r3
      isplitl [S4]
      · iexists _; isplitr; swap; · iexact S4
        ipureintro; exact fun _ => r4
      isplitl [S5]; · iexact S5
      isplitl [S6]; · iexact S6
      iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The body obligation, some results forgotten. -/
theorem body_obligation (c : Dev nD) :
    BodyObligation (dats m 0 c) (defs₀ (F := Ideal)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Φ_eq]
  unfold PhiS Pipeline.ΦA
  rw [scratch_owns]
  unfold owns
  iintro ⟨⟨⟨%d0, %f0, %h0, S0⟩, ⟨%d1, %f1, %h1, S1⟩, ⟨%d2, %f2, %h2, S2⟩, ⟨%d3, %f3, %h3, S3⟩, ⟨%d4, %f4, %h4, S4⟩, S5, S6, S7⟩, Hg⟩
  isplitl [S0 S1 S2 S3 S4 S5 S6 S7]
  · isplitl [S0]
    · iexists _; isplitr; swap; · iexact S0
      ipureintro; exact fun h => absurd rfl h
    isplitl [S1]
    · iexists _; isplitr; swap; · iexact S1
      ipureintro; exact fun h => absurd rfl h
    isplitl [S2]
    · iexists _; isplitr; swap; · iexact S2
      ipureintro; exact fun h => absurd rfl h
    isplitl [S3]
    · iexists _; isplitr; swap; · iexact S3
      ipureintro; exact fun h => absurd rfl h
    isplitl [S4]
    · iexists _; isplitr; swap; · iexact S4
      ipureintro; exact fun h => absurd rfl h
    isplitl [S5]; · iexact S5
    isplitl [S6]; · iexact S6
    iexact S7
  iexact Hg

theorem hout (c : Dev nD) : (dats m 0 c).Φ (Fin.last cfg0.N) ⊢ Pipeline.ΦA spec0 c := by
  rw [Φ_eq]
  unfold PhiS Pipeline.ΦA
  rw [scratch_owns]
  unfold owns
  iintro ⟨⟨⟨%f0, %h0, S0⟩, ⟨%f1, %h1, S1⟩, ⟨%f2, %h2, S2⟩, ⟨%f3, %h3, S3⟩, ⟨%f4, %h4, S4⟩, S5, S6, S7⟩, Hg⟩
  isplitl [S0 S1 S2 S3 S4 S5 S6 S7]
  · isplitl [S0]
    · iexists _; iexists _; isplitr; swap; · iexact S0
      ipureintro; rfl
    isplitl [S1]
    · iexists _; iexists _; isplitr; swap; · iexact S1
      ipureintro; rfl
    isplitl [S2]
    · iexists _; iexists _; isplitr; swap; · iexact S2
      ipureintro; rfl
    isplitl [S3]
    · iexists _; iexists _; isplitr; swap; · iexact S3
      ipureintro; rfl
    isplitl [S4]
    · iexists _; iexists _; isplitr; swap; · iexact S4
      ipureintro; rfl
    isplitl [S5]; · iexact S5
    isplitl [S6]; · iexact S6
    iexact S7
  iexact Hg

set_option backward.isDefEq.respectTransparency.types false in
/-- The whole run, each window's array as the data leaves it. -/
theorem run_main :
    θ_run defs (onTc (τ := τ) (main (F := Ideal))) (s₀ m ρ)
      (Pipeline.RDat.FramePost (cfgs 0) (fun c => (dats m 0 c).toRForget forgets) (V m)) :=
  Pipeline.θ_run_frame_track_forget cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.BodyV

end
-- ==== Proof.ResV.lean ====
module

public import proofs.«01_k».proof.Proof.BodyV

@[expose] public section

set_option maxRecDepth 16384
set_option maxHeartbeats 8000000

noncomputable section

namespace Cert.KernelIdeal.BodyV

open Cert.KernelIdeal Cert.KernelIdeal.Gen Cert.KernelIdeal.Vals Cert.KernelIdeal.Body
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! The result arrays of the run. -/

def G17 (c : Dev nD) : S48x4480x256.Idx → Elt Ideal .bf16 := fun y => h3 (inp m c (y 0).val) ((y 1).val + 64) (y 2).val

theorem widx17 (t : Fin cfg0.N) (a : Fin 3) : win0_17.index t a = ![item t, 0, 0] a := by
  fin_cases a
  · show (BitVec.ofNat 32 (grid0.coords t 0).val).toNat = (grid0.coords t 0).val
    have := item_lt t
    simp only [BitVec.toNat_ofNat]; omega
  · rfl
  · rfl

theorem wemb17 (t : Fin cfg0.N) (y : S1x4480x256.Idx) : ((win0_17.rect t).emb y 0).val = item t := by
  rw [win0_17.rect_emb_val t y 0, widx17]
  show item t * 1 + (y 0).val = item t
  have h1 : (y 0).val < 1 := (y 0).isLt
  omega

theorem arr17 (c : Dev nD) : (dats m 0 c).arrAt 17 cfg0.N = G17 m c := by
  refine Dat.arrAt_eq_of_cover _ 17 _ (fun t _ => ?_) (fun i => ?_)
  · show (cfg0.win 17).cut (grid0.coords t) ((dats m 0 c).after 17 t) = _
    rw [after_17]
    refine funext fun (y : S1x4480x256.Idx) => ?_
    show _ = G17 m c ((win0_17.rect t).emb y)
    unfold G17
    rw [wemb17 t y, win0_17.rect_emb_val_of_index_zero t 1 (widx17 t 1) y, win0_17.rect_emb_val_of_index_zero t 2 (widx17 t 2) y]
  · have hi : (i 0).val < 48 := (i 0).isLt
    obtain ⟨t, ht⟩ : ∃ t : Fin cfg0.N, t.val = (i 0).val := ⟨⟨(i 0).val, hi⟩, rfl⟩
    refine ⟨t, flush0_17 t, ?_⟩
    have e : (win0_17.rect t).emb (ix3 (n0 := 1) (n1 := 4480) (n2 := 256) 0 (i 1) (i 2)) = i := by
      funext a
      apply Fin.ext
      fin_cases a
      · exact (wemb17 t _).trans ((item_eq t).trans ht)
      · exact win0_17.rect_emb_val_of_index_zero t 1 (widx17 t 1) _
      · exact win0_17.rect_emb_val_of_index_zero t 2 (widx17 t 2) _
    exact e ▸ ((cfg0.win 17).blk t).view.emb_mem_set _

def G18 (c : Dev nD) : S48x4480x256.Idx → Elt Ideal .i8 := fun y => kI8 (kOut (inp m c (y 0).val).so (h3 (inp m c (y 0).val) ((y 1).val + 64) (y 2).val))

theorem widx18 (t : Fin cfg0.N) (a : Fin 3) : win0_18.index t a = ![item t, 0, 0] a := by
  fin_cases a
  · show (BitVec.ofNat 32 (grid0.coords t 0).val).toNat = (grid0.coords t 0).val
    have := item_lt t
    simp only [BitVec.toNat_ofNat]; omega
  · rfl
  · rfl

theorem wemb18 (t : Fin cfg0.N) (y : S1x4480x256.Idx) : ((win0_18.rect t).emb y 0).val = item t := by
  rw [win0_18.rect_emb_val t y 0, widx18]
  show item t * 1 + (y 0).val = item t
  have h1 : (y 0).val < 1 := (y 0).isLt
  omega

theorem arr18 (c : Dev nD) : (dats m 0 c).arrAt 18 cfg0.N = G18 m c := by
  refine Dat.arrAt_eq_of_cover _ 18 _ (fun t _ => ?_) (fun i => ?_)
  · show (cfg0.win 18).cut (grid0.coords t) ((dats m 0 c).after 18 t) = _
    rw [after_18]
    refine funext fun (y : S1x4480x256.Idx) => ?_
    show _ = G18 m c ((win0_18.rect t).emb y)
    unfold G18
    rw [wemb18 t y, win0_18.rect_emb_val_of_index_zero t 1 (widx18 t 1) y, win0_18.rect_emb_val_of_index_zero t 2 (widx18 t 2) y]
  · have hi : (i 0).val < 48 := (i 0).isLt
    obtain ⟨t, ht⟩ : ∃ t : Fin cfg0.N, t.val = (i 0).val := ⟨⟨(i 0).val, hi⟩, rfl⟩
    refine ⟨t, flush0_18 t, ?_⟩
    have e : (win0_18.rect t).emb (ix3 (n0 := 1) (n1 := 4480) (n2 := 256) 0 (i 1) (i 2)) = i := by
      funext a
      apply Fin.ext
      fin_cases a
      · exact (wemb18 t _).trans ((item_eq t).trans ht)
      · exact win0_18.rect_emb_val_of_index_zero t 1 (widx18 t 1) _
      · exact win0_18.rect_emb_val_of_index_zero t 2 (widx18 t 2) _
    exact e ▸ ((cfg0.win 18).blk t).view.emb_mem_set _

def G20 (c : Dev nD) : S48x1152x512.Idx → Elt Ideal .i8 := fun y => q0 (inp m c (y 0).val) (y 1).val (y 2).val

theorem widx20 (t : Fin cfg0.N) (a : Fin 3) : win0_20.index t a = ![item t, 0, 0] a := by
  fin_cases a
  · show (BitVec.ofNat 32 (grid0.coords t 0).val).toNat = (grid0.coords t 0).val
    have := item_lt t
    simp only [BitVec.toNat_ofNat]; omega
  · rfl
  · rfl

theorem wemb20 (t : Fin cfg0.N) (y : S1x1152x512.Idx) : ((win0_20.rect t).emb y 0).val = item t := by
  rw [win0_20.rect_emb_val t y 0, widx20]
  show item t * 1 + (y 0).val = item t
  have h1 : (y 0).val < 1 := (y 0).isLt
  omega

theorem arr20 (c : Dev nD) : (dats m 0 c).arrAt 20 cfg0.N = G20 m c := by
  refine Dat.arrAt_eq_of_cover _ 20 _ (fun t _ => ?_) (fun i => ?_)
  · show (cfg0.win 20).cut (grid0.coords t) ((dats m 0 c).after 20 t) = _
    rw [after_20]
    refine funext fun (y : S1x1152x512.Idx) => ?_
    show _ = G20 m c ((win0_20.rect t).emb y)
    unfold G20
    rw [wemb20 t y, win0_20.rect_emb_val_of_index_zero t 1 (widx20 t 1) y, win0_20.rect_emb_val_of_index_zero t 2 (widx20 t 2) y]
  · have hi : (i 0).val < 48 := (i 0).isLt
    obtain ⟨t, ht⟩ : ∃ t : Fin cfg0.N, t.val = (i 0).val := ⟨⟨(i 0).val, hi⟩, rfl⟩
    refine ⟨t, flush0_20 t, ?_⟩
    have e : (win0_20.rect t).emb (ix3 (n0 := 1) (n1 := 1152) (n2 := 512) 0 (i 1) (i 2)) = i := by
      funext a
      apply Fin.ext
      fin_cases a
      · exact (wemb20 t _).trans ((item_eq t).trans ht)
      · exact win0_20.rect_emb_val_of_index_zero t 1 (widx20 t 1) _
      · exact win0_20.rect_emb_val_of_index_zero t 2 (widx20 t 2) _
    exact e ▸ ((cfg0.win 20).blk t).view.emb_mem_set _

def G21 (c : Dev nD) : S48x4608x256.Idx → Elt Ideal .i8 := fun y => kI8 (ca (inp m c (y 0).val) 0 (y0 (inp m c (y 0).val)) (y 1).val (y 2).val)

theorem widx21 (t : Fin cfg0.N) (a : Fin 3) : win0_21.index t a = ![item t, 0, 0] a := by
  fin_cases a
  · show (BitVec.ofNat 32 (grid0.coords t 0).val).toNat = (grid0.coords t 0).val
    have := item_lt t
    simp only [BitVec.toNat_ofNat]; omega
  · rfl
  · rfl

theorem wemb21 (t : Fin cfg0.N) (y : S1x4608x256.Idx) : ((win0_21.rect t).emb y 0).val = item t := by
  rw [win0_21.rect_emb_val t y 0, widx21]
  show item t * 1 + (y 0).val = item t
  have h1 : (y 0).val < 1 := (y 0).isLt
  omega

theorem arr21 (c : Dev nD) : (dats m 0 c).arrAt 21 cfg0.N = G21 m c := by
  refine Dat.arrAt_eq_of_cover _ 21 _ (fun t _ => ?_) (fun i => ?_)
  · show (cfg0.win 21).cut (grid0.coords t) ((dats m 0 c).after 21 t) = _
    rw [after_21]
    refine funext fun (y : S1x4608x256.Idx) => ?_
    show _ = G21 m c ((win0_21.rect t).emb y)
    unfold G21
    rw [wemb21 t y, win0_21.rect_emb_val_of_index_zero t 1 (widx21 t 1) y, win0_21.rect_emb_val_of_index_zero t 2 (widx21 t 2) y]
  · have hi : (i 0).val < 48 := (i 0).isLt
    obtain ⟨t, ht⟩ : ∃ t : Fin cfg0.N, t.val = (i 0).val := ⟨⟨(i 0).val, hi⟩, rfl⟩
    refine ⟨t, flush0_21 t, ?_⟩
    have e : (win0_21.rect t).emb (ix3 (n0 := 1) (n1 := 4608) (n2 := 256) 0 (i 1) (i 2)) = i := by
      funext a
      apply Fin.ext
      fin_cases a
      · exact (wemb21 t _).trans ((item_eq t).trans ht)
      · exact win0_21.rect_emb_val_of_index_zero t 1 (widx21 t 1) _
      · exact win0_21.rect_emb_val_of_index_zero t 2 (widx21 t 2) _
    exact e ▸ ((cfg0.win 21).blk t).view.emb_mem_set _

def G22 (c : Dev nD) : S48x4608x256.Idx → Elt Ideal .i8 := fun y => cb (inp m c (y 0).val) 0 1 (y0 (inp m c (y 0).val)) (y 1).val (y 2).val

theorem widx22 (t : Fin cfg0.N) (a : Fin 3) : win0_22.index t a = ![item t, 0, 0] a := by
  fin_cases a
  · show (BitVec.ofNat 32 (grid0.coords t 0).val).toNat = (grid0.coords t 0).val
    have := item_lt t
    simp only [BitVec.toNat_ofNat]; omega
  · rfl
  · rfl

theorem wemb22 (t : Fin cfg0.N) (y : S1x4608x256.Idx) : ((win0_22.rect t).emb y 0).val = item t := by
  rw [win0_22.rect_emb_val t y 0, widx22]
  show item t * 1 + (y 0).val = item t
  have h1 : (y 0).val < 1 := (y 0).isLt
  omega

theorem arr22 (c : Dev nD) : (dats m 0 c).arrAt 22 cfg0.N = G22 m c := by
  refine Dat.arrAt_eq_of_cover _ 22 _ (fun t _ => ?_) (fun i => ?_)
  · show (cfg0.win 22).cut (grid0.coords t) ((dats m 0 c).after 22 t) = _
    rw [after_22]
    refine funext fun (y : S1x4608x256.Idx) => ?_
    show _ = G22 m c ((win0_22.rect t).emb y)
    unfold G22
    rw [wemb22 t y, win0_22.rect_emb_val_of_index_zero t 1 (widx22 t 1) y, win0_22.rect_emb_val_of_index_zero t 2 (widx22 t 2) y]
  · have hi : (i 0).val < 48 := (i 0).isLt
    obtain ⟨t, ht⟩ : ∃ t : Fin cfg0.N, t.val = (i 0).val := ⟨⟨(i 0).val, hi⟩, rfl⟩
    refine ⟨t, flush0_22 t, ?_⟩
    have e : (win0_22.rect t).emb (ix3 (n0 := 1) (n1 := 4608) (n2 := 256) 0 (i 1) (i 2)) = i := by
      funext a
      apply Fin.ext
      fin_cases a
      · exact (wemb22 t _).trans ((item_eq t).trans ht)
      · exact win0_22.rect_emb_val_of_index_zero t 1 (widx22 t 1) _
      · exact win0_22.rect_emb_val_of_index_zero t 2 (widx22 t 2) _
    exact e ▸ ((cfg0.win 22).blk t).view.emb_mem_set _

def G23 (c : Dev nD) : S48x4608x256.Idx → Elt Ideal .i8 := fun y => kI8 (ca (inp m c (y 0).val) 1 (h1 (inp m c (y 0).val)) (y 1).val (y 2).val)

theorem widx23 (t : Fin cfg0.N) (a : Fin 3) : win0_23.index t a = ![item t, 0, 0] a := by
  fin_cases a
  · show (BitVec.ofNat 32 (grid0.coords t 0).val).toNat = (grid0.coords t 0).val
    have := item_lt t
    simp only [BitVec.toNat_ofNat]; omega
  · rfl
  · rfl

theorem wemb23 (t : Fin cfg0.N) (y : S1x4608x256.Idx) : ((win0_23.rect t).emb y 0).val = item t := by
  rw [win0_23.rect_emb_val t y 0, widx23]
  show item t * 1 + (y 0).val = item t
  have h1 : (y 0).val < 1 := (y 0).isLt
  omega

theorem arr23 (c : Dev nD) : (dats m 0 c).arrAt 23 cfg0.N = G23 m c := by
  refine Dat.arrAt_eq_of_cover _ 23 _ (fun t _ => ?_) (fun i => ?_)
  · show (cfg0.win 23).cut (grid0.coords t) ((dats m 0 c).after 23 t) = _
    rw [after_23]
    refine funext fun (y : S1x4608x256.Idx) => ?_
    show _ = G23 m c ((win0_23.rect t).emb y)
    unfold G23
    rw [wemb23 t y, win0_23.rect_emb_val_of_index_zero t 1 (widx23 t 1) y, win0_23.rect_emb_val_of_index_zero t 2 (widx23 t 2) y]
  · have hi : (i 0).val < 48 := (i 0).isLt
    obtain ⟨t, ht⟩ : ∃ t : Fin cfg0.N, t.val = (i 0).val := ⟨⟨(i 0).val, hi⟩, rfl⟩
    refine ⟨t, flush0_23 t, ?_⟩
    have e : (win0_23.rect t).emb (ix3 (n0 := 1) (n1 := 4608) (n2 := 256) 0 (i 1) (i 2)) = i := by
      funext a
      apply Fin.ext
      fin_cases a
      · exact (wemb23 t _).trans ((item_eq t).trans ht)
      · exact win0_23.rect_emb_val_of_index_zero t 1 (widx23 t 1) _
      · exact win0_23.rect_emb_val_of_index_zero t 2 (widx23 t 2) _
    exact e ▸ ((cfg0.win 23).blk t).view.emb_mem_set _

def G24 (c : Dev nD) : S48x4608x256.Idx → Elt Ideal .i8 := fun y => cb (inp m c (y 0).val) 1 3 (h1 (inp m c (y 0).val)) (y 1).val (y 2).val

theorem widx24 (t : Fin cfg0.N) (a : Fin 3) : win0_24.index t a = ![item t, 0, 0] a := by
  fin_cases a
  · show (BitVec.ofNat 32 (grid0.coords t 0).val).toNat = (grid0.coords t 0).val
    have := item_lt t
    simp only [BitVec.toNat_ofNat]; omega
  · rfl
  · rfl

theorem wemb24 (t : Fin cfg0.N) (y : S1x4608x256.Idx) : ((win0_24.rect t).emb y 0).val = item t := by
  rw [win0_24.rect_emb_val t y 0, widx24]
  show item t * 1 + (y 0).val = item t
  have h1 : (y 0).val < 1 := (y 0).isLt
  omega

theorem arr24 (c : Dev nD) : (dats m 0 c).arrAt 24 cfg0.N = G24 m c := by
  refine Dat.arrAt_eq_of_cover _ 24 _ (fun t _ => ?_) (fun i => ?_)
  · show (cfg0.win 24).cut (grid0.coords t) ((dats m 0 c).after 24 t) = _
    rw [after_24]
    refine funext fun (y : S1x4608x256.Idx) => ?_
    show _ = G24 m c ((win0_24.rect t).emb y)
    unfold G24
    rw [wemb24 t y, win0_24.rect_emb_val_of_index_zero t 1 (widx24 t 1) y, win0_24.rect_emb_val_of_index_zero t 2 (widx24 t 2) y]
  · have hi : (i 0).val < 48 := (i 0).isLt
    obtain ⟨t, ht⟩ : ∃ t : Fin cfg0.N, t.val = (i 0).val := ⟨⟨(i 0).val, hi⟩, rfl⟩
    refine ⟨t, flush0_24 t, ?_⟩
    have e : (win0_24.rect t).emb (ix3 (n0 := 1) (n1 := 4608) (n2 := 256) 0 (i 1) (i 2)) = i := by
      funext a
      apply Fin.ext
      fin_cases a
      · exact (wemb24 t _).trans ((item_eq t).trans ht)
      · exact win0_24.rect_emb_val_of_index_zero t 1 (widx24 t 1) _
      · exact win0_24.rect_emb_val_of_index_zero t 2 (widx24 t 2) _
    exact e ▸ ((cfg0.win 24).blk t).view.emb_mem_set _

def G25 (c : Dev nD) : S48x4608x256.Idx → Elt Ideal .i8 := fun y => kI8 (ca (inp m c (y 0).val) 2 (h2 (inp m c (y 0).val)) (y 1).val (y 2).val)

theorem widx25 (t : Fin cfg0.N) (a : Fin 3) : win0_25.index t a = ![item t, 0, 0] a := by
  fin_cases a
  · show (BitVec.ofNat 32 (grid0.coords t 0).val).toNat = (grid0.coords t 0).val
    have := item_lt t
    simp only [BitVec.toNat_ofNat]; omega
  · rfl
  · rfl

theorem wemb25 (t : Fin cfg0.N) (y : S1x4608x256.Idx) : ((win0_25.rect t).emb y 0).val = item t := by
  rw [win0_25.rect_emb_val t y 0, widx25]
  show item t * 1 + (y 0).val = item t
  have h1 : (y 0).val < 1 := (y 0).isLt
  omega

theorem arr25 (c : Dev nD) : (dats m 0 c).arrAt 25 cfg0.N = G25 m c := by
  refine Dat.arrAt_eq_of_cover _ 25 _ (fun t _ => ?_) (fun i => ?_)
  · show (cfg0.win 25).cut (grid0.coords t) ((dats m 0 c).after 25 t) = _
    rw [after_25]
    refine funext fun (y : S1x4608x256.Idx) => ?_
    show _ = G25 m c ((win0_25.rect t).emb y)
    unfold G25
    rw [wemb25 t y, win0_25.rect_emb_val_of_index_zero t 1 (widx25 t 1) y, win0_25.rect_emb_val_of_index_zero t 2 (widx25 t 2) y]
  · have hi : (i 0).val < 48 := (i 0).isLt
    obtain ⟨t, ht⟩ : ∃ t : Fin cfg0.N, t.val = (i 0).val := ⟨⟨(i 0).val, hi⟩, rfl⟩
    refine ⟨t, flush0_25 t, ?_⟩
    have e : (win0_25.rect t).emb (ix3 (n0 := 1) (n1 := 4608) (n2 := 256) 0 (i 1) (i 2)) = i := by
      funext a
      apply Fin.ext
      fin_cases a
      · exact (wemb25 t _).trans ((item_eq t).trans ht)
      · exact win0_25.rect_emb_val_of_index_zero t 1 (widx25 t 1) _
      · exact win0_25.rect_emb_val_of_index_zero t 2 (widx25 t 2) _
    exact e ▸ ((cfg0.win 25).blk t).view.emb_mem_set _

def G26 (c : Dev nD) : S48x4608x256.Idx → Elt Ideal .i8 := fun y => cb (inp m c (y 0).val) 2 9 (h2 (inp m c (y 0).val)) (y 1).val (y 2).val

theorem widx26 (t : Fin cfg0.N) (a : Fin 3) : win0_26.index t a = ![item t, 0, 0] a := by
  fin_cases a
  · show (BitVec.ofNat 32 (grid0.coords t 0).val).toNat = (grid0.coords t 0).val
    have := item_lt t
    simp only [BitVec.toNat_ofNat]; omega
  · rfl
  · rfl

theorem wemb26 (t : Fin cfg0.N) (y : S1x4608x256.Idx) : ((win0_26.rect t).emb y 0).val = item t := by
  rw [win0_26.rect_emb_val t y 0, widx26]
  show item t * 1 + (y 0).val = item t
  have h1 : (y 0).val < 1 := (y 0).isLt
  omega

theorem arr26 (c : Dev nD) : (dats m 0 c).arrAt 26 cfg0.N = G26 m c := by
  refine Dat.arrAt_eq_of_cover _ 26 _ (fun t _ => ?_) (fun i => ?_)
  · show (cfg0.win 26).cut (grid0.coords t) ((dats m 0 c).after 26 t) = _
    rw [after_26]
    refine funext fun (y : S1x4608x256.Idx) => ?_
    show _ = G26 m c ((win0_26.rect t).emb y)
    unfold G26
    rw [wemb26 t y, win0_26.rect_emb_val_of_index_zero t 1 (widx26 t 1) y, win0_26.rect_emb_val_of_index_zero t 2 (widx26 t 2) y]
  · have hi : (i 0).val < 48 := (i 0).isLt
    obtain ⟨t, ht⟩ : ∃ t : Fin cfg0.N, t.val = (i 0).val := ⟨⟨(i 0).val, hi⟩, rfl⟩
    refine ⟨t, flush0_26 t, ?_⟩
    have e : (win0_26.rect t).emb (ix3 (n0 := 1) (n1 := 4608) (n2 := 256) 0 (i 1) (i 2)) = i := by
      funext a
      apply Fin.ext
      fin_cases a
      · exact (wemb26 t _).trans ((item_eq t).trans ht)
      · exact win0_26.rect_emb_val_of_index_zero t 1 (widx26 t 1) _
      · exact win0_26.rect_emb_val_of_index_zero t 2 (widx26 t 2) _
    exact e ▸ ((cfg0.win 26).blk t).view.emb_mem_set _

/-- The kernel's run: its results, and its arguments unchanged. -/
theorem run_values :
    θ_run defs (onTc (τ := τ) (main (F := Ideal))) ⟨m, fun _ => 0, ρ⟩ (fun r => ∀ c : Dev nD,
      r.2.mem ((c.tc : Thread nD τ).loc main_v8_0) = G17 m c
      ∧ r.2.mem ((c.tc : Thread nD τ).loc main_v8_1) = G18 m c
      ∧ r.2.mem ((c.tc : Thread nD τ).loc main_v8_3) = G20 m c
      ∧ r.2.mem ((c.tc : Thread nD τ).loc main_v8_4) = G21 m c
      ∧ r.2.mem ((c.tc : Thread nD τ).loc main_v8_5) = G22 m c
      ∧ r.2.mem ((c.tc : Thread nD τ).loc main_v8_6) = G23 m c
      ∧ r.2.mem ((c.tc : Thread nD τ).loc main_v8_7) = G24 m c
      ∧ r.2.mem ((c.tc : Thread nD τ).loc main_v8_8) = G25 m c
      ∧ r.2.mem ((c.tc : Thread nD τ).loc main_v8_9) = G26 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r (h : Pipeline.RDat.FramePost (cfgs 0) (fun c => (dats m 0 c).toRForget forgets) (V m) r) c => ⟨((Dat.toRForget_arrAt_iff (dat := dats m 0 c) (fgt := forgets) (w := 17) rfl cfg0.N _).mp ((h c).1 17)).trans (arr17 m c),
      ((Dat.toRForget_arrAt_iff (dat := dats m 0 c) (fgt := forgets) (w := 18) rfl cfg0.N _).mp ((h c).1 18)).trans (arr18 m c),
      ((Dat.toRForget_arrAt_iff (dat := dats m 0 c) (fgt := forgets) (w := 20) rfl cfg0.N _).mp ((h c).1 20)).trans (arr20 m c),
      ((Dat.toRForget_arrAt_iff (dat := dats m 0 c) (fgt := forgets) (w := 21) rfl cfg0.N _).mp ((h c).1 21)).trans (arr21 m c),
      ((Dat.toRForget_arrAt_iff (dat := dats m 0 c) (fgt := forgets) (w := 22) rfl cfg0.N _).mp ((h c).1 22)).trans (arr22 m c),
      ((Dat.toRForget_arrAt_iff (dat := dats m 0 c) (fgt := forgets) (w := 23) rfl cfg0.N _).mp ((h c).1 23)).trans (arr23 m c),
      ((Dat.toRForget_arrAt_iff (dat := dats m 0 c) (fgt := forgets) (w := 24) rfl cfg0.N _).mp ((h c).1 24)).trans (arr24 m c),
      ((Dat.toRForget_arrAt_iff (dat := dats m 0 c) (fgt := forgets) (w := 25) rfl cfg0.N _).mp ((h c).1 25)).trans (arr25 m c),
      ((Dat.toRForget_arrAt_iff (dat := dats m 0 c) (fgt := forgets) (w := 26) rfl cfg0.N _).mp ((h c).1 26)).trans (arr26 m c),
      (Pipeline.RDat.FramePost.arr_in h c 0 rfl).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 3 rfl).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 15 rfl).trans (V_main_arg9 m c),
      (Pipeline.RDat.FramePost.arr_in h c 8 rfl).trans (V_main_arg10 m c),
      (Pipeline.RDat.FramePost.arr_in h c 9 rfl).trans (V_main_arg11 m c),
      (Pipeline.RDat.FramePost.arr_in h c 10 rfl).trans (V_main_arg12 m c),
      (Pipeline.RDat.FramePost.arr_in h c 11 rfl).trans (V_main_arg13 m c),
      (Pipeline.RDat.FramePost.arr_in h c 12 rfl).trans (V_main_arg14 m c),
      (Pipeline.RDat.FramePost.arr_in h c 13 rfl).trans (V_main_arg15 m c),
      ((h c).2 main_arg16 (Pipeline.mem_restRefs_of main_arg16 (by decide) (by decide))).trans (V_main_arg16 m c)⟩) (run_main m ρ)

end Cert.KernelIdeal.BodyV

end
-- ==== Proof.RefSc.lean ====
module

public import proofs.«01_k».proof.Proof.Ext

@[expose] public section

set_option maxRecDepth 16384

noncomputable section

namespace Cert.KernelIdeal.Vals

open Idealize.ShloMosaic

/-! The reference's scalar functions, and that they are the kernel's. -/

/-- The argument of the polynomial in the reference: with `r` the distance of `t` from the nearest multiple of pi, a quadratic in `r * r`. -/
def rArg (t : EReal) : EReal :=
  let n := rnd (t * lit 0x3EA2F983#32)
  let r := t - n * lit 0x40490000#32 - n * lit 0x3A7DAA22#32
  (r * r - lit 0x421C5B90#32) * (r * r)

/-- The reference's snake. -/
def rSnake (a b v : EReal) : EReal :=
  let z := rArg (a * v)
  let w := (z + lit 0x45159D9C#32) * z + lit 0x491476D4#32
  v + lit 0xA99BC752#32 * (z * (w * w)) * Ideal.div 1 b

/-- The reference's quantiser: round, then clip. -/
def rOut (s v : EReal) : EReal :=
  min (lit 0x42FE0000#32) (max (lit 0xC2FE0000#32) (rnd (v * Ideal.div 1 s)))

theorem lit_neg : lit 0xC21C5B90#32 = -lit 0x421C5B90#32 := by
  simp [lit, Ideal.ofBits, Ideal.ieee]

theorem lit_hi : lit 0x42FE0000#32 = ((127 : ℝ) : EReal) := by
  simp [lit, Ideal.ofBits, Ideal.ieee, -EReal.coe_mul]
  all_goals try norm_num

theorem lit_lo : lit 0xC2FE0000#32 = ((-127 : ℝ) : EReal) := by
  simp [lit, Ideal.ofBits, Ideal.ieee, -EReal.coe_mul]
  all_goals try norm_num

theorem lit_K : lit 0xA99BC752#32 < 0 := by
  simp [lit, Ideal.ofBits, Ideal.ieee, -EReal.coe_mul]
  all_goals try norm_num

theorem rArg_eq (t : EReal) : rArg t = kArg t := by
  simp only [rArg, kArg, lit_neg, sub_eq_add_neg]

theorem div_K (b : EReal) : Ideal.div (lit 0xA99BC752#32) b = lit 0xA99BC752#32 * Ideal.div 1 b := by
  unfold Ideal.div
  split_ifs with h h1 h2
  · exact absurd lit_K (not_lt.mpr h1.le)
  · exact absurd lit_K (not_lt.mpr h1.le)
  · exact (EReal.mul_top_of_neg lit_K).symm
  · exact absurd zero_lt_one ‹¬ (0 : EReal) < 1›
  · rw [one_mul]

theorem rSnake_eq (a b v : EReal) : rSnake a b v = kSnake a b v := by
  simp only [rSnake, kSnake, rArg_eq, div_K, mul_comm a v]
  congr 1
  generalize lit 0xA99BC752#32 = K
  generalize Ideal.div 1 b = d
  generalize kArg (v * a) = z
  generalize (z + lit 0x45159D9C#32) * z + lit 0x491476D4#32 = w
  simp only [mul_comm, mul_left_comm, mul_assoc]

theorem rhe_le {r : ℝ} {n : ℤ} (h : r ≤ n) : Ideal.roundHalfEven r ≤ n := by
  rcases eq_or_lt_of_le h with h | h
  · subst h; simp [Ideal.roundHalfEven]
  · have h1 : ⌊r⌋ < n := Int.floor_lt.mpr h
    unfold Ideal.roundHalfEven
    dsimp only
    split_ifs <;> omega

theorem le_rhe {r : ℝ} {n : ℤ} (h : (n : ℝ) ≤ r) : n ≤ Ideal.roundHalfEven r := by
  have h1 : n ≤ ⌊r⌋ := Int.le_floor.mpr h
  unfold Ideal.roundHalfEven
  dsimp only
  split_ifs <;> omega

theorem rhe_clip (r : ℝ) : Ideal.roundHalfEven (min 127 (max (-127) r)) = min 127 (max (-127) (Ideal.roundHalfEven r)) := by
  have e1 : Ideal.roundHalfEven 127 = 127 := le_antisymm (rhe_le (by norm_num)) (le_rhe (by norm_num))
  have e2 : Ideal.roundHalfEven (-127) = -127 := le_antisymm (rhe_le (by norm_num)) (le_rhe (by norm_num))
  rcases le_total r (-127) with h | h
  · have : Ideal.roundHalfEven r ≤ -127 := rhe_le (by exact_mod_cast h)
    rw [max_eq_left h, max_eq_left this, min_eq_right (by norm_num), min_eq_right (by norm_num), e2]
  · have h' : -127 ≤ Ideal.roundHalfEven r := le_rhe (by exact_mod_cast h)
    rw [max_eq_right h, max_eq_right h']
    rcases le_total r 127 with g | g
    · have : Ideal.roundHalfEven r ≤ 127 := rhe_le (by exact_mod_cast g)
      rw [min_eq_right g, min_eq_right this]
    · have : 127 ≤ Ideal.roundHalfEven r := le_rhe (by exact_mod_cast g)
      rw [min_eq_left g, min_eq_left this, e1]

/-- A clipped and rounded value is an integer of at most 127 in absolute value. -/
theorem clip_int (x : EReal) : ∃ k : ℤ, -127 ≤ k ∧ k ≤ 127
    ∧ rnd (min (lit 0x42FE0000#32) (max (lit 0xC2FE0000#32) x)) = ((k : ℝ) : EReal)
    ∧ min (lit 0x42FE0000#32) (max (lit 0xC2FE0000#32) (rnd x)) = ((k : ℝ) : EReal) := by
  have e1 : Ideal.roundHalfEven 127 = 127 := le_antisymm (rhe_le (by norm_num)) (le_rhe (by norm_num))
  have e2 : Ideal.roundHalfEven (-127) = -127 := le_antisymm (rhe_le (by norm_num)) (le_rhe (by norm_num))
  rw [lit_hi, lit_lo]
  induction x using EReal.rec with
  | bot =>
    refine ⟨-127, by norm_num, by norm_num, ?_, ?_⟩
    · rw [max_eq_left bot_le, min_eq_right (EReal.coe_le_coe_iff.mpr (by norm_num)), rnd, Ideal.liftRound_coe, e2]
    · rw [rnd, Ideal.liftRound_bot, max_eq_left bot_le, min_eq_right (EReal.coe_le_coe_iff.mpr (by norm_num))]; norm_num
  | top =>
    refine ⟨127, by norm_num, by norm_num, ?_, ?_⟩
    · rw [max_eq_right le_top, min_eq_left le_top, rnd, Ideal.liftRound_coe, e1]
    · rw [rnd, Ideal.liftRound_top, max_eq_right le_top, min_eq_left le_top]; norm_num
  | coe r =>
    have hm : Monotone ((↑) : ℝ → EReal) := EReal.coe_strictMono.monotone
    refine ⟨min 127 (max (-127) (Ideal.roundHalfEven r)), by omega, by omega, ?_, ?_⟩
    · rw [← hm.map_max, ← hm.map_min, rnd, Ideal.liftRound_coe, rhe_clip]
    · rw [rnd, Ideal.liftRound_coe, ← hm.map_max, ← hm.map_min]
      push_cast
      rfl

theorem rOut_eq (s v : EReal) : rOut s v = kOut s v := by
  obtain ⟨k, -, -, h1, h2⟩ := clip_int (v * Ideal.div 1 s)
  exact h2.trans h1.symm

theorem rCode_eq (s a b v : EReal) : rOut s (rSnake a b v) = kCode s a b v := by
  rw [rSnake_eq, rOut_eq]
  rfl

theorem dec_int (k : ℤ) (h1 : -127 ≤ k) (h2 : k ≤ 127) : dec (kI8 ((k : ℝ) : EReal)) = ((k : ℝ) : EReal) := by
  have e : FloatOps.fptosi (F := Ideal) (φ := .f32) 32 ((k : ℝ) : EReal) = BitVec.ofInt 32 k := by
    change BitVec.ofInt 32 (max _ (min _ _)) = _
    rw [Int.floor_intCast, Int.ceil_intCast, ite_self]
    congr 1
    norm_num
    omega
  have e' : (BitVec.setWidth 8 (BitVec.ofInt 32 k)).toInt = k := by
    interval_cases k <;> rfl
  rw [kI8, e]
  change (((BitVec.setWidth 8 (BitVec.ofInt 32 k)).toInt : ℝ) : EReal) = _
  rw [e']

/-- A code read back from eight bits is itself. -/
theorem dec_code (s a b v : EReal) : dec (kI8 (kCode s a b v)) = kCode s a b v := by
  obtain ⟨k, h1, h2, h3, -⟩ := clip_int (kSnake a b v * Ideal.div 1 s)
  have e : kCode s a b v = ((k : ℝ) : EReal) := h3
  rw [e]
  exact dec_int k h1 h2

end Cert.KernelIdeal.Vals
-- ==== Proof.Ru.lean ====
module

public import proofs.«01_k».proof.Proof.RefSc
public import proofs.«01_k».proof.Proof.Gen.ReferenceIdeal.Frame

public import Idealize.ShloMosaic.Lib.Pipeline.ValueKit.Geometry

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! Loads of the parameters, at an element. -/

theorem ldV {S : Shape} {e : EltTy} (x : S.Idx → Elt Ideal e) (off size : Fin S.rank → ℕ) (inb) (y : (Rect.unit off size inb).shape.Idx) (a : Fin S.rank) :
    ((Rect.unit off size inb).emb y a).val = off a + (y a).val := ValueKit.rect_emb_unit_val off size inb y a

theorem ldx (x : Vec Ideal S48x1152x512 .bf16) (a : Fin 48) (b : Fin 1152) (c : Fin 512) : View.ld x r0_0 (ix3 (n0 := 48) (n1 := 1152) (n2 := 512) a b c) = ext3 x a.val b.val c.val :=
  ext3_eq x (r0_0.emb (ix3 (n0 := 48) (n1 := 1152) (n2 := 512) a b c)) (by simp [ValueKit.rect_emb_unit_val]) (by simp [ValueKit.rect_emb_unit_val]) (by simp [ValueKit.rect_emb_unit_val])

theorem ld512 (x : Vec Ideal S512 .f32) (a : Fin 512) : View.ld x r0_2 (ix1 (n0 := 512) a) = ext1 x a.val :=
  ext1_eq x (r0_2.emb (ix1 (n0 := 512) a)) (by simp [ValueKit.rect_emb_unit_val])

theorem ldwt (x : Vec Ideal S8x512x256 .i8) (a : Fin 8) (b : Fin 512) (c : Fin 256) : dec (View.ld x r0_3 (ix3 (n0 := 8) (n1 := 512) (n2 := 256) a b c)) = ext3 (fun y => dec (x y)) a.val b.val c.val :=
  ext3_eq (fun y => dec (x y)) (r0_3.emb (ix3 (n0 := 8) (n1 := 512) (n2 := 256) a b c)) (by simp [ValueKit.rect_emb_unit_val]) (by simp [ValueKit.rect_emb_unit_val]) (by simp [ValueKit.rect_emb_unit_val])

theorem ld256 (x : Vec Ideal S256 .f32) (a : Fin 256) : View.ld x r0_4 (ix1 (n0 := 256) a) = ext1 x a.val :=
  ext1_eq x (r0_4.emb (ix1 (n0 := 256) a)) (by simp [ValueKit.rect_emb_unit_val])

theorem ldact (x : Vec Ideal S3x2 .f32) (a : Fin 3) (b : Fin 2) : View.ld x r0_6 (ix2 (n0 := 3) (n1 := 2) a b) = ext2 x a.val b.val :=
  ext2_eq x (r0_6.emb (ix2 (n0 := 3) (n1 := 2) a b)) (by simp [ValueKit.rect_emb_unit_val]) (by simp [ValueKit.rect_emb_unit_val])

theorem ldr0 (x : Vec Ideal S3x2x256 .f32) (a : Fin 1) (b : Fin 2) (c : Fin 256) : View.ld x r0_5 (ix3 (n0 := 1) (n1 := 2) (n2 := 256) a b c) = ext3 x 0 b.val c.val :=
  ext3_eq x (r0_5.emb (ix3 (n0 := 1) (n1 := 2) (n2 := 256) a b c)) (by simp [ValueKit.rect_emb_unit_val]) (by simp [ValueKit.rect_emb_unit_val]) (by simp [ValueKit.rect_emb_unit_val])

theorem ldw70 (x : Vec Ideal S3x7x256x256 .i8) (a : Fin 1) (b : Fin 7) (c : Fin 256) (d : Fin 256) : dec (View.ld x r0_8 (ix4 (n0 := 1) (n1 := 7) (n2 := 256) (n3 := 256) a b c d)) = ext4 (fun y => dec (x y)) 0 b.val c.val d.val :=
  ext4_eq (fun y => dec (x y)) (r0_8.emb (ix4 (n0 := 1) (n1 := 7) (n2 := 256) (n3 := 256) a b c d)) (by simp [ValueKit.rect_emb_unit_val]) (by simp [ValueKit.rect_emb_unit_val]) (by simp [ValueKit.rect_emb_unit_val]) (by simp [ValueKit.rect_emb_unit_val])

theorem ldv0 (x : Vec Ideal S3x256 .f32) (a : Fin 1) (b : Fin 256) : View.ld x r0_9 (ix2 (n0 := 1) (n1 := 256) a b) = ext2 x 0 b.val :=
  ext2_eq x (r0_9.emb (ix2 (n0 := 1) (n1 := 256) a b)) (by simp [ValueKit.rect_emb_unit_val]) (by simp [ValueKit.rect_emb_unit_val])

theorem ldw10 (x : Vec Ideal S3x256x256 .i8) (a : Fin 1) (b : Fin 256) (c : Fin 256) : dec (View.ld x r0_10 (ix3 (n0 := 1) (n1 := 256) (n2 := 256) a b c)) = ext3 (fun y => dec (x y)) 0 b.val c.val :=
  ext3_eq (fun y => dec (x y)) (r0_10.emb (ix3 (n0 := 1) (n1 := 256) (n2 := 256) a b c)) (by simp [ValueKit.rect_emb_unit_val]) (by simp [ValueKit.rect_emb_unit_val]) (by simp [ValueKit.rect_emb_unit_val])

theorem ldr1 (x : Vec Ideal S3x2x256 .f32) (a : Fin 1) (b : Fin 2) (c : Fin 256) : View.ld x r0_11 (ix3 (n0 := 1) (n1 := 2) (n2 := 256) a b c) = ext3 x 1 b.val c.val :=
  ext3_eq x (r0_11.emb (ix3 (n0 := 1) (n1 := 2) (n2 := 256) a b c)) (by simp [ValueKit.rect_emb_unit_val]) (by simp [ValueKit.rect_emb_unit_val]) (by simp [ValueKit.rect_emb_unit_val])

theorem ldw71 (x : Vec Ideal S3x7x256x256 .i8) (a : Fin 1) (b : Fin 7) (c : Fin 256) (d : Fin 256) : dec (View.ld x r0_12 (ix4 (n0 := 1) (n1 := 7) (n2 := 256) (n3 := 256) a b c d)) = ext4 (fun y => dec (x y)) 1 b.val c.val d.val :=
  ext4_eq (fun y => dec (x y)) (r0_12.emb (ix4 (n0 := 1) (n1 := 7) (n2 := 256) (n3 := 256) a b c d)) (by simp [ValueKit.rect_emb_unit_val]) (by simp [ValueKit.rect_emb_unit_val]) (by simp [ValueKit.rect_emb_unit_val]) (by simp [ValueKit.rect_emb_unit_val])

theorem ldv1 (x : Vec Ideal S3x256 .f32) (a : Fin 1) (b : Fin 256) : View.ld x r0_13 (ix2 (n0 := 1) (n1 := 256) a b) = ext2 x 1 b.val :=
  ext2_eq x (r0_13.emb (ix2 (n0 := 1) (n1 := 256) a b)) (by simp [ValueKit.rect_emb_unit_val]) (by simp [ValueKit.rect_emb_unit_val])

theorem ldw11 (x : Vec Ideal S3x256x256 .i8) (a : Fin 1) (b : Fin 256) (c : Fin 256) : dec (View.ld x r0_14 (ix3 (n0 := 1) (n1 := 256) (n2 := 256) a b c)) = ext3 (fun y => dec (x y)) 1 b.val c.val :=
  ext3_eq (fun y => dec (x y)) (r0_14.emb (ix3 (n0 := 1) (n1 := 256) (n2 := 256) a b c)) (by simp [ValueKit.rect_emb_unit_val]) (by simp [ValueKit.rect_emb_unit_val]) (by simp [ValueKit.rect_emb_unit_val])

theorem ldr2 (x : Vec Ideal S3x2x256 .f32) (a : Fin 1) (b : Fin 2) (c : Fin 256) : View.ld x r0_15 (ix3 (n0 := 1) (n1 := 2) (n2 := 256) a b c) = ext3 x 2 b.val c.val :=
  ext3_eq x (r0_15.emb (ix3 (n0 := 1) (n1 := 2) (n2 := 256) a b c)) (by simp [ValueKit.rect_emb_unit_val]) (by simp [ValueKit.rect_emb_unit_val]) (by simp [ValueKit.rect_emb_unit_val])

theorem ldw72 (x : Vec Ideal S3x7x256x256 .i8) (a : Fin 1) (b : Fin 7) (c : Fin 256) (d : Fin 256) : dec (View.ld x r0_16 (ix4 (n0 := 1) (n1 := 7) (n2 := 256) (n3 := 256) a b c d)) = ext4 (fun y => dec (x y)) 2 b.val c.val d.val :=
  ext4_eq (fun y => dec (x y)) (r0_16.emb (ix4 (n0 := 1) (n1 := 7) (n2 := 256) (n3 := 256) a b c d)) (by simp [ValueKit.rect_emb_unit_val]) (by simp [ValueKit.rect_emb_unit_val]) (by simp [ValueKit.rect_emb_unit_val]) (by simp [ValueKit.rect_emb_unit_val])

theorem ldv2 (x : Vec Ideal S3x256 .f32) (a : Fin 1) (b : Fin 256) : View.ld x r0_17 (ix2 (n0 := 1) (n1 := 256) a b) = ext2 x 2 b.val :=
  ext2_eq x (r0_17.emb (ix2 (n0 := 1) (n1 := 256) a b)) (by simp [ValueKit.rect_emb_unit_val]) (by simp [ValueKit.rect_emb_unit_val])

theorem ldw12 (x : Vec Ideal S3x256x256 .i8) (a : Fin 1) (b : Fin 256) (c : Fin 256) : dec (View.ld x r0_18 (ix3 (n0 := 1) (n1 := 256) (n2 := 256) a b c)) = ext3 (fun y => dec (x y)) 2 b.val c.val :=
  ext3_eq (fun y => dec (x y)) (r0_18.emb (ix3 (n0 := 1) (n1 := 256) (n2 := 256) a b c)) (by simp [ValueKit.rect_emb_unit_val]) (by simp [ValueKit.rect_emb_unit_val]) (by simp [ValueKit.rect_emb_unit_val])

variable (x0 : Vec Ideal S48x1152x512 .bf16) (x1 : Vec Ideal S512 .f32) (x2 : Vec Ideal S512 .f32) (x3 : Vec Ideal S1x1x1 .f32) (x4 : Vec Ideal S8x512x256 .i8) (x5 : Vec Ideal S256 .f32) (x6 : Vec Ideal S256 .f32) (x7 : Vec Ideal S3x2x256 .f32) (x8 : Vec Ideal S3x2x256 .f32) (x9 : Vec Ideal S3x2 .f32) (x10 : Vec Ideal S3x7x256x256 .i8) (x11 : Vec Ideal S3x256 .f32) (x12 : Vec Ideal S3x256 .f32) (x13 : Vec Ideal S3x256x256 .i8) (x14 : Vec Ideal S3x256 .f32) (x15 : Vec Ideal S3x256 .f32) (x16 : Vec Ideal S1x1x1 .f32)

/-- The parameters of item `n`. -/
def I (n : ℕ) : Inp := inpOf x0 x1 x2 (fun _ => x3 (ix3 (n0 := 1) (n1 := 1) (n2 := 1) 0 0 0)) x4 x5 x6 x7 x8 x9 x10 x11 x12 x13 x14 x15 (fun _ => x16 (ix3 (n0 := 1) (n1 := 1) (n2 := 1) 0 0 0)) n

theorem ldsc (x : Vec Ideal S1x1x1 .f32) (a b c : Fin 1) : View.ld x r0_1 (ix3 (n0 := 1) (n1 := 1) (n2 := 1) a b c) = x (ix3 (n0 := 1) (n1 := 1) (n2 := 1) 0 0 0) :=
  congrArg x (funext fun j => by fin_cases j <;> (apply Fin.ext; simp [ValueKit.rect_emb_unit_val]))

/-- One tap: a sum over the channels of a row of the padded codes. -/
theorem tap {L d k : ℕ} (Q : ℕ → ℕ → EReal) (W : ℕ → ℕ → ℕ → EReal) (p : (⟨3, ![48, L, 256]⟩ : Shape).Idx → EReal) (w : Fin 256 → EReal) (n : Fin 48) (i : Fin L) (t o : ℕ)
    (hp : ∀ c : Fin 256, p (ix3 n i c) = Q (t + (32 - 3 * d) + k * d) c.val) (hw : ∀ c : Fin 256, w c = W k c.val o) :
    ∑ c, p (ix3 n i c) * w c = tapSum d Q W k t o :=
  Finset.sum_congr rfl fun c _ => by rw [hp c, hw c]

/-- The padded codes of a unit. -/
theorem padQ {I : Inp} {u : ℕ} {h : ℕ → ℕ → EReal} {d t t' o : ℕ} (hd : d ≤ 9) (e : t' + (32 - 3 * d) = t) (v : EReal) (hv : 3 * d ≤ t' → t' < 3 * d + 4608 → v = ca I u h (t' - 3 * d) o) :
    (if t' < 3 * d then 0 else if t' - 3 * d < 4608 then v else 0) = Qa I u h t o := by
  unfold Qa
  by_cases h1 : t' < 3 * d
  · rw [if_pos h1, if_neg (by omega)]
  · rw [if_neg h1]
    by_cases h2 : t' - 3 * d < 4608
    · rw [if_pos h2, if_pos (by omega), hv (by omega) (by omega)]
      congr 1
      omega
    · rw [if_neg h2, if_neg (by omega)]

end Cert.ReferenceIdeal.Pay
-- ==== Proof.Rq.lean ====
module

public import proofs.«01_k».proof.Proof.Ru

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

variable (x0 : Vec Ideal S48x1152x512 .bf16) (x1 : Vec Ideal S512 .f32) (x2 : Vec Ideal S512 .f32) (x3 : Vec Ideal S1x1x1 .f32) (x4 : Vec Ideal S8x512x256 .i8) (x5 : Vec Ideal S256 .f32) (x6 : Vec Ideal S256 .f32) (x7 : Vec Ideal S3x2x256 .f32) (x8 : Vec Ideal S3x2x256 .f32) (x9 : Vec Ideal S3x2 .f32) (x10 : Vec Ideal S3x7x256x256 .i8) (x11 : Vec Ideal S3x256 .f32) (x12 : Vec Ideal S3x256 .f32) (x13 : Vec Ideal S3x256x256 .i8) (x14 : Vec Ideal S3x256 .f32) (x15 : Vec Ideal S3x256 .f32) (x16 : Vec Ideal S1x1x1 .f32)

theorem q0_at (v0 : Vec Ideal S48x1152x512 .bf16) (v2 : Vec Ideal S1x1x1 .f32) (v4 v5 : Vec Ideal S512 .f32) (y : S48x1152x512.Idx) :
    k0_pay4 (F := Ideal) (k0_pay3 v0 v2 v4 v5) (Scalar.ofBits .f32 0xC2FE0000#32) y
      = kI8 (rOut (v2 (ix3 (n0 := 1) (n1 := 1) (n2 := 1) 0 0 0)) (rSnake (v4 (ix1 (n0 := 512) (y 2))) (v5 (ix1 (n0 := 512) (y 2))) (v0 y))) := by
  pointwise [k0_pay4, k0_pay3, k0_pay2, kI8, rOut, rSnake, rArg]

theorem q0_eq (n : Fin 48) (t : Fin 1152) (c : Fin 512) :
    k0_pay4 (F := Ideal) (k0_pay72 x0 x1 x2 x3 x4 x5 x6 x7 x8 x9 x10 x11 x12 x13 x14 x15 x16) (Scalar.ofBits .f32 0xC2FE0000#32) (ix3 n t c) = q0 (I x0 x1 x2 x3 x4 x5 x6 x7 x8 x9 x10 x11 x12 x13 x14 x15 x16 n.val) t.val c.val := by
  unfold k0_pay72
  refine (q0_at _ _ _ _ _).trans ?_
  rw [rCode_eq]
  refine congrArg kI8 ?_
  refine congr (congr (congr (congrArg kCode ?_) ?_) ?_) ?_
  · exact ldsc x3 0 0 0
  · exact ld512 x1 c
  · exact ld512 x2 c
  · exact ldx x0 n t c

end Cert.ReferenceIdeal.Pay
-- ==== Proof.Ry.lean ====
module

public import proofs.«01_k».proof.Proof.Ru

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's transposed convolution at an element. -/

variable (v : FVec Ideal S48x1152x512 .f32) (K : Ideal .f32) (w : Vec Ideal S8x512x256 .i8)

theorem sh8 (n : Fin 48) (t : Fin 1152) (c : Fin 512) :
    k0_pay8 (F := Ideal) v K (ix3 n t c) = if h : t.val < 1 then (0 : EReal) else dec (k0_pay4 v K (ix3 n ⟨t.val - 1, by have := t.isLt; omega⟩ c)) := by
  pointwise [k0_pay8, k0_pay7, k0_pay5]

theorem sh9 (n : Fin 48) (t : Fin 1152) (c : Fin 512) :
    k0_pay9 (F := Ideal) v K (ix3 n t c) = if h : t.val < 1151 then dec (k0_pay4 v K (ix3 n ⟨1 + t.val, by omega⟩ c)) else (0 : EReal) := by
  pointwise [k0_pay9, k0_pay7, k0_pay5]

theorem ph10 (n : Fin 48) (t : Fin 1152) (o : Fin 256) :
    k0_pay10 (F := Ideal) v K w (ix3 n t o) = (∑ c : Fin 512, dec (k0_pay4 v K (ix3 n t c)) * dec (w (ix3 2 c o))) + ∑ c : Fin 512, k0_pay8 v K (ix3 n t c) * dec (w (ix3 6 c o)) := by
  pointwise [k0_pay10, k0_pay6, k0_pay5]

theorem ph11 (n : Fin 48) (t : Fin 1152) (o : Fin 256) :
    k0_pay11 (F := Ideal) v K w (ix3 n t o) = (∑ c : Fin 512, dec (k0_pay4 v K (ix3 n t c)) * dec (w (ix3 3 c o))) + ∑ c : Fin 512, k0_pay8 v K (ix3 n t c) * dec (w (ix3 7 c o)) := by
  pointwise [k0_pay11, k0_pay6, k0_pay5]

theorem ph12 (n : Fin 48) (t : Fin 1152) (o : Fin 256) :
    k0_pay12 (F := Ideal) v K w (ix3 n t o) = ∑ c : Fin 512, dec (k0_pay4 v K (ix3 n t c)) * dec (w (ix3 4 c o)) := by
  pointwise [k0_pay12, k0_pay6, k0_pay5]

end Cert.ReferenceIdeal.Pay
-- ==== Proof.Rp14.lean ====
module

public import proofs.«01_k».proof.Proof.Ru

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's transposed convolution at an element. -/

theorem q4 (t : Fin 4608) : t.val / 4 < 1152 := by
  have := t.isLt
  omega

variable (v : FVec Ideal S48x1152x512 .f32) (K : Ideal .f32) (w : Vec Ideal S8x512x256 .i8)

theorem ph14 (s : Vec Ideal S1x1x1 .f32) (a0 a1 a2 : FVec Ideal S48x1152x256 .f32) (p : FVec Ideal S48x1152x512 .bf16) (sc b : Vec Ideal S256 .f32) (n : Fin 48) (t : Fin 4608) (o : Fin 256) :
    k0_pay14 (F := Ideal) (k0_pay2 s) (k0_pay5 v K) (k0_pay6 w) p a0 a1 a2 (k0_pay13 w) sc b (ix3 n t o)
      = (if h : t.val % 4 < 1 then a0 (ix3 n ⟨t.val / 4, q4 t⟩ o)
          else if h : t.val % 4 - 1 < 1 then a1 (ix3 n ⟨t.val / 4, q4 t⟩ o)
          else if h : t.val % 4 - 1 - 1 < 1 then
            a2 (ix3 n ⟨t.val / 4, q4 t⟩ o) + ∑ c : Fin 512, p (ix3 n ⟨t.val / 4, q4 t⟩ c) * dec (w (ix3 0 c o))
          else (∑ c : Fin 512, dec (k0_pay4 v K (ix3 n ⟨t.val / 4, q4 t⟩ c)) * dec (w (ix3 5 c o)))
            + ∑ c : Fin 512, p (ix3 n ⟨t.val / 4, q4 t⟩ c) * dec (w (ix3 1 c o)))
        * (s (ix3 (n0 := 1) (n1 := 1) (n2 := 1) 0 0 0) * sc (ix1 o)) + b (ix1 o) := by
  have e : (n.val * 1152 + t.val / 4) % 1152 = t.val / 4 := by have := t.isLt; omega
  pointwise [k0_pay14, k0_pay13, k0_pay6, k0_pay5, k0_pay2]
  simp only [e]

end Cert.ReferenceIdeal.Pay
-- ==== Proof.Rz.lean ====
module

public import proofs.«01_k».proof.Proof.Rq
public import proofs.«01_k».proof.Proof.Ry
public import proofs.«01_k».proof.Proof.Rp14

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's input codes and transposed convolution, as functions of time and channel. -/

theorem tconv0 (Q : ℕ → ℕ → EReal) (W : ℕ → ℕ → ℕ → EReal) (t o : ℕ) (h : t % 4 = 0) :
    tconv Q W t o = (∑ c : Fin 512, Q (t / 4 + 8) c.val * W 2 c.val o) + ∑ c : Fin 512, Q (t / 4 + 7) c.val * W 6 c.val o := by
  unfold tconv
  rw [h]
  rfl

theorem tconv1 (Q : ℕ → ℕ → EReal) (W : ℕ → ℕ → ℕ → EReal) (t o : ℕ) (h : t % 4 = 1) :
    tconv Q W t o = (∑ c : Fin 512, Q (t / 4 + 8) c.val * W 3 c.val o) + ∑ c : Fin 512, Q (t / 4 + 7) c.val * W 7 c.val o := by
  unfold tconv
  rw [h]
  rfl

theorem tconv2 (Q : ℕ → ℕ → EReal) (W : ℕ → ℕ → ℕ → EReal) (t o : ℕ) (h : t % 4 = 2) :
    tconv Q W t o = (∑ c : Fin 512, Q (t / 4 + 8) c.val * W 4 c.val o) + ∑ c : Fin 512, Q (t / 4 + 9) c.val * W 0 c.val o := by
  unfold tconv
  rw [h]
  rfl

theorem tconv3 (Q : ℕ → ℕ → EReal) (W : ℕ → ℕ → ℕ → EReal) (t o : ℕ) (h : t % 4 = 3) :
    tconv Q W t o = (∑ c : Fin 512, Q (t / 4 + 8) c.val * W 5 c.val o) + ∑ c : Fin 512, Q (t / 4 + 9) c.val * W 1 c.val o := by
  unfold tconv
  rw [h]
  rfl

variable (x0 : Vec Ideal S48x1152x512 .bf16) (x1 : Vec Ideal S512 .f32) (x2 : Vec Ideal S512 .f32) (x3 : Vec Ideal S1x1x1 .f32) (x4 : Vec Ideal S8x512x256 .i8) (x5 : Vec Ideal S256 .f32) (x6 : Vec Ideal S256 .f32) (x7 : Vec Ideal S3x2x256 .f32) (x8 : Vec Ideal S3x2x256 .f32) (x9 : Vec Ideal S3x2 .f32) (x10 : Vec Ideal S3x7x256x256 .i8) (x11 : Vec Ideal S3x256 .f32) (x12 : Vec Ideal S3x256 .f32) (x13 : Vec Ideal S3x256x256 .i8) (x14 : Vec Ideal S3x256 .f32) (x15 : Vec Ideal S3x256 .f32) (x16 : Vec Ideal S1x1x1 .f32)

theorem dq0 (n : Fin 48) (t : Fin 1152) (c : Fin 512) : dec (k0_pay4 (F := Ideal) (k0_pay72 x0 x1 x2 x3 x4 x5 x6 x7 x8 x9 x10 x11 x12 x13 x14 x15 x16) (Scalar.ofBits .f32 0xC2FE0000#32) (ix3 n t c)) = Q0 (I x0 x1 x2 x3 x4 x5 x6 x7 x8 x9 x10 x11 x12 x13 x14 x15 x16 n.val) (t.val + 8) c.val := by
  have ht := t.isLt
  unfold Q0
  rw [if_pos (by omega), q0_eq]
  rfl

theorem d8 (n : Fin 48) (t : Fin 1152) (c : Fin 512) : (k0_pay8 (F := Ideal) (k0_pay72 x0 x1 x2 x3 x4 x5 x6 x7 x8 x9 x10 x11 x12 x13 x14 x15 x16) (Scalar.ofBits .f32 0xC2FE0000#32) (ix3 n t c) : EReal) = Q0 (I x0 x1 x2 x3 x4 x5 x6 x7 x8 x9 x10 x11 x12 x13 x14 x15 x16 n.val) (t.val + 7) c.val := by
  have ht := t.isLt
  rw [sh8]
  split_ifs with h
  · unfold Q0
    rw [if_neg (by omega)]
  · rw [dq0]
    congr 1
    simp only
    omega

theorem d9 (n : Fin 48) (t : Fin 1152) (c : Fin 512) : (k0_pay9 (F := Ideal) (k0_pay72 x0 x1 x2 x3 x4 x5 x6 x7 x8 x9 x10 x11 x12 x13 x14 x15 x16) (Scalar.ofBits .f32 0xC2FE0000#32) (ix3 n t c) : EReal) = Q0 (I x0 x1 x2 x3 x4 x5 x6 x7 x8 x9 x10 x11 x12 x13 x14 x15 x16 n.val) (t.val + 9) c.val := by
  have ht := t.isLt
  rw [sh9]
  split_ifs with h
  · rw [dq0]
    congr 1
    simp only
    omega
  · unfold Q0
    rw [if_neg (by omega)]

theorem fy0 (n : Fin 48) (t : Fin 4608) (o : Fin 256) : (k0_pay73 x0 x1 x2 x3 x4 x5 x6 x7 x8 x9 x10 x11 x12 x13 x14 x15 x16 (ix3 n t o) : EReal) = y0 (I x0 x1 x2 x3 x4 x5 x6 x7 x8 x9 x10 x11 x12 x13 x14 x15 x16 n.val) t.val o.val := by
  have ht := t.isLt
  unfold k0_pay73
  refine (ph14 _ _ _ _ _ _ _ _ _ _ n t o).trans ?_
  unfold y0 affine
  refine congrArg₂ (· + ·) (congrArg₂ (· * ·) ?_ (congrArg₂ (· * ·) (ldsc x3 0 0 0) (ld256 x5 o))) (ld256 x6 o)
  have hw (k : Fin 8) (c : Fin 512) : dec (View.ld x4 r0_3 (ix3 (n0 := 8) (n1 := 512) (n2 := 256) k c o)) = (I x0 x1 x2 x3 x4 x5 x6 x7 x8 x9 x10 x11 x12 x13 x14 x15 x16 n.val).wt k.val c.val o.val := ldwt x4 k c o
  have h4 : t.val % 4 = 0 ∨ t.val % 4 = 1 ∨ t.val % 4 = 2 ∨ t.val % 4 = 3 := by omega
  have hs (g : Fin 512 → EReal) (s : ℕ) (hg : ∀ c, g c = Q0 (I x0 x1 x2 x3 x4 x5 x6 x7 x8 x9 x10 x11 x12 x13 x14 x15 x16 n.val) (t.val / 4 + s) c.val) (k : Fin 8) :
      ∑ c : Fin 512, g c * dec (View.ld x4 r0_3 (ix3 (n0 := 8) (n1 := 512) (n2 := 256) k c o)) = ∑ c : Fin 512, Q0 (I x0 x1 x2 x3 x4 x5 x6 x7 x8 x9 x10 x11 x12 x13 x14 x15 x16 n.val) (t.val / 4 + s) c.val * (I x0 x1 x2 x3 x4 x5 x6 x7 x8 x9 x10 x11 x12 x13 x14 x15 x16 n.val).wt k.val c.val o.val :=
    Finset.sum_congr rfl fun c _ => congrArg₂ (· * ·) (hg c) (hw k c)
  rcases h4 with h | h | h | h
  · rw [tconv0 _ _ _ _ h, dif_pos (by omega)]
    refine (ph10 _ _ _ n ⟨t.val / 4, q4 t⟩ o).trans ?_
    exact congrArg₂ (· + ·) (hs _ 8 (fun c => dq0 x0 x1 x2 x3 x4 x5 x6 x7 x8 x9 x10 x11 x12 x13 x14 x15 x16 n ⟨t.val / 4, q4 t⟩ c) 2) (hs _ 7 (fun c => d8 x0 x1 x2 x3 x4 x5 x6 x7 x8 x9 x10 x11 x12 x13 x14 x15 x16 n ⟨t.val / 4, q4 t⟩ c) 6)
  · rw [tconv1 _ _ _ _ h, dif_neg (by omega), dif_pos (by omega)]
    refine (ph11 _ _ _ n ⟨t.val / 4, q4 t⟩ o).trans ?_
    exact congrArg₂ (· + ·) (hs _ 8 (fun c => dq0 x0 x1 x2 x3 x4 x5 x6 x7 x8 x9 x10 x11 x12 x13 x14 x15 x16 n ⟨t.val / 4, q4 t⟩ c) 3) (hs _ 7 (fun c => d8 x0 x1 x2 x3 x4 x5 x6 x7 x8 x9 x10 x11 x12 x13 x14 x15 x16 n ⟨t.val / 4, q4 t⟩ c) 7)
  · rw [tconv2 _ _ _ _ h, dif_neg (by omega), dif_neg (by omega), dif_pos (by omega)]
    exact congrArg₂ (· + ·) ((ph12 _ _ _ n ⟨t.val / 4, q4 t⟩ o).trans (hs _ 8 (fun c => dq0 x0 x1 x2 x3 x4 x5 x6 x7 x8 x9 x10 x11 x12 x13 x14 x15 x16 n ⟨t.val / 4, q4 t⟩ c) 4)) (hs _ 9 (fun c => d9 x0 x1 x2 x3 x4 x5 x6 x7 x8 x9 x10 x11 x12 x13 x14 x15 x16 n ⟨t.val / 4, q4 t⟩ c) 0)
  · rw [tconv3 _ _ _ _ h, dif_neg (by omega), dif_neg (by omega), dif_neg (by omega)]
    exact congrArg₂ (· + ·) (hs _ 8 (fun c => dq0 x0 x1 x2 x3 x4 x5 x6 x7 x8 x9 x10 x11 x12 x13 x14 x15 x16 n ⟨t.val / 4, q4 t⟩ c) 5) (hs _ 9 (fun c => d9 x0 x1 x2 x3 x4 x5 x6 x7 x8 x9 x10 x11 x12 x13 x14 x15 x16 n ⟨t.val / 4, q4 t⟩ c) 1)

end Cert.ReferenceIdeal.Pay
-- ==== Proof.Rm.lean ====
module

public import proofs.«01_k».proof.Proof.Ru

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's convolutions at an element. -/

/-- A product of 256 channels. -/
def mm (p : FVec Ideal S48x4608x256 .bf16) (W : FVec Ideal S256x256 .bf16) : FVec Ideal S48x4608x256 .f32 :=
  shapeCast S48x4608x256 (matmul dot_S221184x256_S256x256_S221184x256_1_0_0_1_n_n none (shapeCast S221184x256 p shapeCasts_S48x4608x256_S221184x256) W (constant S221184x256 .f32 0x00000000#32)) shapeCasts_S221184x256_S48x4608x256

theorem mm_at (p : FVec Ideal S48x4608x256 .bf16) (W : FVec Ideal S256x256 .bf16) (n : Fin 48) (t : Fin 4608) (o : Fin 256) :
    mm p W (ix3 n t o) = ∑ c : Fin 256, p (ix3 n t c) * W (ix2 c o) := by
  pointwise [mm]

/-- One tap of a padded array. -/
def tp {L : ℕ} (j k : ℕ) (hs : (⟨3, ![48, L, 256]⟩ : Shape).Slices ![0, j, 0] S48x4608x256) (hw : S7x256x256.Slices ![k, 0, 0] S1x256x256)
    (p : FVec Ideal ⟨3, ![48, L, 256]⟩ .bf16) (w : FVec Ideal S7x256x256 .bf16) : FVec Ideal S48x4608x256 .f32 :=
  mm (extractStridedSlice S48x4608x256 ![0, j, 0] p hs) (shapeCast S256x256 (extractStridedSlice S1x256x256 ![k, 0, 0] w hw) shapeCasts_S1x256x256_S256x256)

theorem cast_at (w : FVec Ideal S1x256x256 .bf16) (c o : Fin 256) : shapeCast S256x256 w shapeCasts_S1x256x256_S256x256 (ix2 c o) = w (ix3 (n0 := 1) (n1 := 256) (n2 := 256) 0 c o) := by
  pointwise

theorem tp_at {L : ℕ} (j k : ℕ) (hs : (⟨3, ![48, L, 256]⟩ : Shape).Slices ![0, j, 0] S48x4608x256) (hw : S7x256x256.Slices ![k, 0, 0] S1x256x256)
    (p : FVec Ideal ⟨3, ![48, L, 256]⟩ .bf16) (w : FVec Ideal S7x256x256 .bf16) (d : ℕ) (Q : ℕ → ℕ → EReal) (W : ℕ → ℕ → ℕ → EReal) (n : Fin 48) (t : Fin 4608) (o : Fin 256)
    (hp : ∀ (i : Fin L) (c : Fin 256), p (ix3 n i c) = Q (i.val + (32 - 3 * d)) c.val) (hW : ∀ (k : Fin 7) (c o : Fin 256), w (ix3 k c o) = W k.val c.val o.val) (hj : j = k * d) :
    tp j k hs hw p w (ix3 n t o) = tapSum d Q W k t.val o.val := by
  unfold tp tapSum
  rw [mm_at]
  refine Finset.sum_congr rfl fun c _ => congrArg₂ (· * ·) ?_ ?_
  · have hj' : j + t.val < L := lt_of_lt_of_le (Nat.add_lt_add_left t.isLt j) (hs.2 1)
    have e : extractStridedSlice S48x4608x256 ![0, j, 0] p hs (ix3 n t c) = p (ix3 n ⟨j + t.val, hj'⟩ c) := by
      refine congrArg p (funext fun a => ?_)
      fin_cases a <;> (apply Fin.ext; simp)
    rw [e, hp]
    congr 1
    simp only [hj]
    omega
  · have hk : k < 7 := lt_of_lt_of_le (Nat.lt_succ_self k) (hw.2 0)
    have e : extractStridedSlice S1x256x256 ![k, 0, 0] w hw (ix3 (n0 := 1) (n1 := 256) (n2 := 256) 0 c o) = w (ix3 ⟨k, hk⟩ c o) := by
      refine congrArg w (funext fun a => ?_)
      fin_cases a <;> (apply Fin.ext; simp)
    rw [cast_at, e, hW]

theorem dil_at (a0 a1 a2 a3 a4 a5 a6 : FVec Ideal S48x4608x256 .f32) (d : ℕ) (Q : ℕ → ℕ → EReal) (W : ℕ → ℕ → ℕ → EReal) (i : S48x4608x256.Idx) (t o : ℕ)
    (h0 : a0 i = tapSum d Q W 0 t o) (h1 : a1 i = tapSum d Q W 1 t o) (h2 : a2 i = tapSum d Q W 2 t o) (h3 : a3 i = tapSum d Q W 3 t o) (h4 : a4 i = tapSum d Q W 4 t o)
    (h5 : a5 i = tapSum d Q W 5 t o) (h6 : a6 i = tapSum d Q W 6 t o) :
    addf (addf (addf (addf (addf (addf a0 a1) a2) a3) a4) a5) a6 i = dconv d Q W t o := by
  show a0 i + a1 i + a2 i + a3 i + a4 i + a5 i + a6 i = _
  rw [h0, h1, h2, h3, h4, h5, h6]
  rfl

/-- Scales and a bias, by channel. -/
def aff (acc : FVec Ideal S48x4608x256 .f32) (s : Ideal .f32) (sc b : FVec Ideal S1x256 .f32) : FVec Ideal S48x4608x256 .f32 :=
  addf (mulf acc (broadcastTo S48x4608x256 (shapeCast S1x1x256 (mulf (broadcast S256 s) (shapeCast S256 sc shapeCasts_S1x256_S256)) shapeCasts_S256_S1x1x256) broadcasts_S1x1x256_S48x4608x256))
    (broadcastTo S48x4608x256 (shapeCast S1x1x256 (shapeCast S256 b shapeCasts_S1x256_S256) shapeCasts_S256_S1x1x256) broadcasts_S1x1x256_S48x4608x256)

theorem aff_at (acc : FVec Ideal S48x4608x256 .f32) (s : Ideal .f32) (sc b : FVec Ideal S1x256 .f32) (n : Fin 48) (t : Fin 4608) (o : Fin 256) :
    aff acc s sc b (ix3 n t o) = acc (ix3 n t o) * (s * sc (ix2 (n0 := 1) (n1 := 256) 0 o)) + b (ix2 (n0 := 1) (n1 := 256) 0 o) := by
  pointwise [aff]

theorem c0_eq (q : FVec Ideal S48x4608x256 .bf16) (s : Ideal .f32) (w : Vec Ideal S1x7x256x256 .i8) (sc b : Vec Ideal S1x256 .f32) :
    k0_pay28 (F := Ideal) s (k0_pay25 q w) (k0_pay26 w) (k0_pay27 q) sc b
      = aff (addf (addf (addf (addf (addf (addf (tp (L := 4614) 0 0 (by decide) (by decide) (k0_pay24 q) (k0_pay23 w)) (tp (L := 4614) 1 1 (by decide) (by decide) (k0_pay24 q) (k0_pay23 w))) (tp (L := 4614) 2 2 (by decide) (by decide) (k0_pay24 q) (k0_pay23 w))) (tp (L := 4614) 3 3 (by decide) (by decide) (k0_pay24 q) (k0_pay23 w))) (tp (L := 4614) 4 4 (by decide) (by decide) (k0_pay24 q) (k0_pay23 w))) (tp (L := 4614) 5 5 (by decide) (by decide) (k0_pay24 q) (k0_pay23 w))) (tp (L := 4614) 6 6 (by decide) (by decide) (k0_pay24 q) (k0_pay23 w))) s sc b := by
  unfold k0_pay28 k0_pay25 k0_pay26 k0_pay27 aff tp mm
  rfl

theorem c0_at (q : FVec Ideal S48x4608x256 .bf16) (s : Ideal .f32) (w : Vec Ideal S1x7x256x256 .i8) (sc b : Vec Ideal S1x256 .f32) (n : Fin 48) (t : Fin 4608) (o : Fin 256) (Q : ℕ → ℕ → EReal) (W : ℕ → ℕ → ℕ → EReal)
    (hp : ∀ (i : Fin 4614) (c : Fin 256), (k0_pay24 q) (ix3 n i c) = Q (i.val + (32 - 3 * 1)) c.val) (hW : ∀ (k : Fin 7) (c o : Fin 256), dec (w (ix4 (n0 := 1) (n1 := 7) (n2 := 256) (n3 := 256) 0 k c o)) = W k.val c.val o.val) :
    k0_pay28 (F := Ideal) s (k0_pay25 q w) (k0_pay26 w) (k0_pay27 q) sc b (ix3 n t o)
      = dconv 1 Q W t.val o.val * (s * sc (ix2 (n0 := 1) (n1 := 256) 0 o)) + b (ix2 (n0 := 1) (n1 := 256) 0 o) := by
  have hW' : ∀ (k : Fin 7) (c o : Fin 256), (k0_pay23 w) (ix3 k c o) = W k.val c.val o.val := fun k c o => Eq.trans (by pointwise [k0_pay23]) (hW k c o)
  rw [c0_eq, aff_at]
  refine congrArg (fun z : EReal => z * (s * sc (ix2 (n0 := 1) (n1 := 256) 0 o)) + b (ix2 (n0 := 1) (n1 := 256) 0 o)) ?_
  exact dil_at _ _ _ _ _ _ _ 1 Q W _ _ _ (tp_at (L := 4614) 0 0 (by decide) (by decide) (k0_pay24 q) (k0_pay23 w) 1 Q W n t o hp hW' rfl) (tp_at (L := 4614) 1 1 (by decide) (by decide) (k0_pay24 q) (k0_pay23 w) 1 Q W n t o hp hW' rfl) (tp_at (L := 4614) 2 2 (by decide) (by decide) (k0_pay24 q) (k0_pay23 w) 1 Q W n t o hp hW' rfl) (tp_at (L := 4614) 3 3 (by decide) (by decide) (k0_pay24 q) (k0_pay23 w) 1 Q W n t o hp hW' rfl) (tp_at (L := 4614) 4 4 (by decide) (by decide) (k0_pay24 q) (k0_pay23 w) 1 Q W n t o hp hW' rfl) (tp_at (L := 4614) 5 5 (by decide) (by decide) (k0_pay24 q) (k0_pay23 w) 1 Q W n t o hp hW' rfl) (tp_at (L := 4614) 6 6 (by decide) (by decide) (k0_pay24 q) (k0_pay23 w) 1 Q W n t o hp hW' rfl)

theorem c1_eq (v : FVec Ideal S48x4608x256 .f32) (lo hi : Ideal .f32) (s : Ideal .f32) (w : Vec Ideal S1x7x256x256 .i8) (sc b : Vec Ideal S1x256 .f32) :
    k0_pay44 (F := Ideal) s (k0_pay39 w) (k0_pay40 v lo hi) (k0_pay41 v lo hi w) (k0_pay42 w) (k0_pay43 v lo hi) (constant S221184x256 .f32 0x00000000#32) sc b
      = aff (addf (addf (addf (addf (addf (addf (tp (L := 4626) 0 0 (by decide) (by decide) (k0_pay40 v lo hi) (k0_pay39 w)) (tp (L := 4626) 3 1 (by decide) (by decide) (k0_pay40 v lo hi) (k0_pay39 w))) (tp (L := 4626) 6 2 (by decide) (by decide) (k0_pay40 v lo hi) (k0_pay39 w))) (tp (L := 4626) 9 3 (by decide) (by decide) (k0_pay40 v lo hi) (k0_pay39 w))) (tp (L := 4626) 12 4 (by decide) (by decide) (k0_pay40 v lo hi) (k0_pay39 w))) (tp (L := 4626) 15 5 (by decide) (by decide) (k0_pay40 v lo hi) (k0_pay39 w))) (tp (L := 4626) 18 6 (by decide) (by decide) (k0_pay40 v lo hi) (k0_pay39 w))) s sc b := by
  unfold k0_pay44 k0_pay41 k0_pay42 k0_pay43 aff tp mm
  rfl

theorem c1_at (v : FVec Ideal S48x4608x256 .f32) (lo hi : Ideal .f32) (s : Ideal .f32) (w : Vec Ideal S1x7x256x256 .i8) (sc b : Vec Ideal S1x256 .f32) (n : Fin 48) (t : Fin 4608) (o : Fin 256) (Q : ℕ → ℕ → EReal) (W : ℕ → ℕ → ℕ → EReal)
    (hp : ∀ (i : Fin 4626) (c : Fin 256), (k0_pay40 v lo hi) (ix3 n i c) = Q (i.val + (32 - 3 * 3)) c.val) (hW : ∀ (k : Fin 7) (c o : Fin 256), dec (w (ix4 (n0 := 1) (n1 := 7) (n2 := 256) (n3 := 256) 0 k c o)) = W k.val c.val o.val) :
    k0_pay44 (F := Ideal) s (k0_pay39 w) (k0_pay40 v lo hi) (k0_pay41 v lo hi w) (k0_pay42 w) (k0_pay43 v lo hi) (constant S221184x256 .f32 0x00000000#32) sc b (ix3 n t o)
      = dconv 3 Q W t.val o.val * (s * sc (ix2 (n0 := 1) (n1 := 256) 0 o)) + b (ix2 (n0 := 1) (n1 := 256) 0 o) := by
  have hW' : ∀ (k : Fin 7) (c o : Fin 256), (k0_pay39 w) (ix3 k c o) = W k.val c.val o.val := fun k c o => Eq.trans (by pointwise [k0_pay39]) (hW k c o)
  rw [c1_eq, aff_at]
  refine congrArg (fun z : EReal => z * (s * sc (ix2 (n0 := 1) (n1 := 256) 0 o)) + b (ix2 (n0 := 1) (n1 := 256) 0 o)) ?_
  exact dil_at _ _ _ _ _ _ _ 3 Q W _ _ _ (tp_at (L := 4626) 0 0 (by decide) (by decide) (k0_pay40 v lo hi) (k0_pay39 w) 3 Q W n t o hp hW' rfl) (tp_at (L := 4626) 3 1 (by decide) (by decide) (k0_pay40 v lo hi) (k0_pay39 w) 3 Q W n t o hp hW' rfl) (tp_at (L := 4626) 6 2 (by decide) (by decide) (k0_pay40 v lo hi) (k0_pay39 w) 3 Q W n t o hp hW' rfl) (tp_at (L := 4626) 9 3 (by decide) (by decide) (k0_pay40 v lo hi) (k0_pay39 w) 3 Q W n t o hp hW' rfl) (tp_at (L := 4626) 12 4 (by decide) (by decide) (k0_pay40 v lo hi) (k0_pay39 w) 3 Q W n t o hp hW' rfl) (tp_at (L := 4626) 15 5 (by decide) (by decide) (k0_pay40 v lo hi) (k0_pay39 w) 3 Q W n t o hp hW' rfl) (tp_at (L := 4626) 18 6 (by decide) (by decide) (k0_pay40 v lo hi) (k0_pay39 w) 3 Q W n t o hp hW' rfl)

theorem c2_eq (a1 : FVec Ideal S48x4608x256 .f32) (a2 : Ideal .f32) (a3 : FVec Ideal S256 .f32) (a4 a5 : FVec Ideal S48x4608x256 .f32) (s : Ideal .f32) (w : Vec Ideal S1x7x256x256 .i8) (sc b : Vec Ideal S1x256 .f32) :
    k0_pay62 (F := Ideal) s (k0_pay58 w) (k0_pay59 a1 a2 a3 a4 a5) (k0_pay60 a1 a2 a3 a4 a5 w) (k0_pay61 a1 a2 a3 a4 a5 w) sc b
      = aff (addf (addf (addf (addf (addf (addf (tp (L := 4662) 0 0 (by decide) (by decide) (k0_pay59 a1 a2 a3 a4 a5) (k0_pay58 w)) (tp (L := 4662) 9 1 (by decide) (by decide) (k0_pay59 a1 a2 a3 a4 a5) (k0_pay58 w))) (tp (L := 4662) 18 2 (by decide) (by decide) (k0_pay59 a1 a2 a3 a4 a5) (k0_pay58 w))) (tp (L := 4662) 27 3 (by decide) (by decide) (k0_pay59 a1 a2 a3 a4 a5) (k0_pay58 w))) (tp (L := 4662) 36 4 (by decide) (by decide) (k0_pay59 a1 a2 a3 a4 a5) (k0_pay58 w))) (tp (L := 4662) 45 5 (by decide) (by decide) (k0_pay59 a1 a2 a3 a4 a5) (k0_pay58 w))) (tp (L := 4662) 54 6 (by decide) (by decide) (k0_pay59 a1 a2 a3 a4 a5) (k0_pay58 w))) s sc b := by
  unfold k0_pay62 k0_pay60 k0_pay61 aff tp mm
  rfl

theorem c2_at (a1 : FVec Ideal S48x4608x256 .f32) (a2 : Ideal .f32) (a3 : FVec Ideal S256 .f32) (a4 a5 : FVec Ideal S48x4608x256 .f32) (s : Ideal .f32) (w : Vec Ideal S1x7x256x256 .i8) (sc b : Vec Ideal S1x256 .f32) (n : Fin 48) (t : Fin 4608) (o : Fin 256) (Q : ℕ → ℕ → EReal) (W : ℕ → ℕ → ℕ → EReal)
    (hp : ∀ (i : Fin 4662) (c : Fin 256), (k0_pay59 a1 a2 a3 a4 a5) (ix3 n i c) = Q (i.val + (32 - 3 * 9)) c.val) (hW : ∀ (k : Fin 7) (c o : Fin 256), dec (w (ix4 (n0 := 1) (n1 := 7) (n2 := 256) (n3 := 256) 0 k c o)) = W k.val c.val o.val) :
    k0_pay62 (F := Ideal) s (k0_pay58 w) (k0_pay59 a1 a2 a3 a4 a5) (k0_pay60 a1 a2 a3 a4 a5 w) (k0_pay61 a1 a2 a3 a4 a5 w) sc b (ix3 n t o)
      = dconv 9 Q W t.val o.val * (s * sc (ix2 (n0 := 1) (n1 := 256) 0 o)) + b (ix2 (n0 := 1) (n1 := 256) 0 o) := by
  have hW' : ∀ (k : Fin 7) (c o : Fin 256), (k0_pay58 w) (ix3 k c o) = W k.val c.val o.val := fun k c o => Eq.trans (by pointwise [k0_pay58]) (hW k c o)
  rw [c2_eq, aff_at]
  refine congrArg (fun z : EReal => z * (s * sc (ix2 (n0 := 1) (n1 := 256) 0 o)) + b (ix2 (n0 := 1) (n1 := 256) 0 o)) ?_
  exact dil_at _ _ _ _ _ _ _ 9 Q W _ _ _ (tp_at (L := 4662) 0 0 (by decide) (by decide) (k0_pay59 a1 a2 a3 a4 a5) (k0_pay58 w) 9 Q W n t o hp hW' rfl) (tp_at (L := 4662) 9 1 (by decide) (by decide) (k0_pay59 a1 a2 a3 a4 a5) (k0_pay58 w) 9 Q W n t o hp hW' rfl) (tp_at (L := 4662) 18 2 (by decide) (by decide) (k0_pay59 a1 a2 a3 a4 a5) (k0_pay58 w) 9 Q W n t o hp hW' rfl) (tp_at (L := 4662) 27 3 (by decide) (by decide) (k0_pay59 a1 a2 a3 a4 a5) (k0_pay58 w) 9 Q W n t o hp hW' rfl) (tp_at (L := 4662) 36 4 (by decide) (by decide) (k0_pay59 a1 a2 a3 a4 a5) (k0_pay58 w) 9 Q W n t o hp hW' rfl) (tp_at (L := 4662) 45 5 (by decide) (by decide) (k0_pay59 a1 a2 a3 a4 a5) (k0_pay58 w) 9 Q W n t o hp hW' rfl) (tp_at (L := 4662) 54 6 (by decide) (by decide) (k0_pay59 a1 a2 a3 a4 a5) (k0_pay58 w) 9 Q W n t o hp hW' rfl)

end Cert.ReferenceIdeal.Pay
-- ==== Proof.Rn.lean ====
module

public import proofs.«01_k».proof.Proof.Ru

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's codes and sums at an element. -/

theorem qa0 (h : FVec Ideal S48x4608x256 .f32) (s : Ideal .f32) (v7 v8 : Vec Ideal S1x2x256 .f32) (n : Fin 48) (t : Fin 4608) (o : Fin 256) :
    k0_pay21 (F := Ideal) h s (k0_pay19 v8) (k0_pay20 v7) (ix3 n t o) = kI8 (rOut s (rSnake (v7 (ix3 (n0 := 1) (n1 := 2) (n2 := 256) 0 0 o)) (v8 (ix3 (n0 := 1) (n1 := 2) (n2 := 256) 0 0 o)) (h (ix3 n t o)))) := by
  pointwise [k0_pay21, k0_pay19, k0_pay20, k0_pay15, k0_pay16, kI8, rOut, rSnake, rArg]

theorem qa1 (h : FVec Ideal S48x4608x256 .f32) (v7 v8 : Vec Ideal S1x2x256 .f32) (v9 : Vec Ideal S3x2 .f32) (n : Fin 48) (t : Fin 4608) (o : Fin 256) :
    k0_pay38 (F := Ideal) (k0_pay37 h (k0_pay33 v7) v8 v9) (Scalar.ofBits .f32 0xC2FE0000#32) (Scalar.ofBits .f32 0x42FE0000#32) (ix3 n t o) = kI8 (rOut (v9 (ix2 (n0 := 3) (n1 := 2) 1 0)) (rSnake (v7 (ix3 (n0 := 1) (n1 := 2) (n2 := 256) 0 0 o)) (v8 (ix3 (n0 := 1) (n1 := 2) (n2 := 256) 0 0 o)) (h (ix3 n t o)))) := by
  pointwise [k0_pay38, k0_pay37, k0_pay33, k0_pay34, k0_pay35, kI8, rOut, rSnake, rArg]

theorem qa2 (a1 a2 : FVec Ideal S48x4608x256 .f32) (a3 : Vec Ideal S1x256 .f32) (s : Ideal .f32) (v7 v8 : Vec Ideal S1x2x256 .f32) (n : Fin 48) (t : Fin 4608) (o : Fin 256) :
    k0_pay57 (F := Ideal) (k0_pay49 a1 a2 a3) s (k0_pay54 v8) (k0_pay55 a1 a2 a3 v7) k0_pay56 (ix3 n t o) = kI8 (rOut s (rSnake (v7 (ix3 (n0 := 1) (n1 := 2) (n2 := 256) 0 0 o)) (v8 (ix3 (n0 := 1) (n1 := 2) (n2 := 256) 0 0 o)) (k0_pay49 a1 a2 a3 (ix3 n t o)))) := by
  pointwise [k0_pay57, k0_pay54, k0_pay55, k0_pay56, k0_pay50, k0_pay51, kI8, rOut, rSnake, rArg]

theorem qb0 (s : Ideal .f32) (s1 : Ideal .f32) (a1 : FVec Ideal S48x4608x256 .f32) (a2 : FVec Ideal S256x256 .bf16) (a3 : FVec Ideal S221184x256 .bf16) (sc b : Vec Ideal S1x256 .f32) (v7 v8 : Vec Ideal S1x2x256 .f32) (n : Fin 48) (t : Fin 4608) (o : Fin 256) :
    k0_pay31 (F := Ideal) s (k0_pay28 s1 a1 a2 a3 sc b) (k0_pay29 (k0_pay15 v7) s1 a1 a2 a3 sc b) (k0_pay30 (k0_pay16 v8)) (ix3 n t o) = kI8 (rOut s (rSnake (v7 (ix3 (n0 := 1) (n1 := 2) (n2 := 256) 0 1 o)) (v8 (ix3 (n0 := 1) (n1 := 2) (n2 := 256) 0 1 o)) (k0_pay28 s1 a1 a2 a3 sc b (ix3 n t o)))) := by
  pointwise [k0_pay31, k0_pay29, k0_pay30, k0_pay15, k0_pay16, kI8, rOut, rSnake, rArg]

theorem qb1 (s : Ideal .f32) (s1 : Ideal .f32) (a1 : FVec Ideal S7x256x256 .bf16) (a2 : FVec Ideal S48x4626x256 .bf16) (a3 : FVec Ideal S48x4608x256 .f32) (a4 : FVec Ideal S256x256 .bf16) (a5 : FVec Ideal S221184x256 .bf16) (a6 : FVec Ideal S221184x256 .f32) (sc b : Vec Ideal S1x256 .f32) (v7 v8 : Vec Ideal S1x2x256 .f32) (n : Fin 48) (t : Fin 4608) (o : Fin 256) :
    k0_pay47 (F := Ideal) s (k0_pay44 s1 a1 a2 a3 a4 a5 a6 sc b) (k0_pay45 (k0_pay34 v8)) (k0_pay46 (k0_pay33 v7) s1 a1 a2 a3 a4 a5 a6 sc b) (Scalar.ofBits .f32 0x45159D9C#32) (ix3 n t o) = kI8 (rOut s (rSnake (v7 (ix3 (n0 := 1) (n1 := 2) (n2 := 256) 0 1 o)) (v8 (ix3 (n0 := 1) (n1 := 2) (n2 := 256) 0 1 o)) (k0_pay44 s1 a1 a2 a3 a4 a5 a6 sc b (ix3 n t o)))) := by
  pointwise [k0_pay47, k0_pay45, k0_pay46, k0_pay33, k0_pay34, kI8, rOut, rSnake, rArg]

theorem qb2 (s : Ideal .f32) (s1 : Ideal .f32) (a1 : FVec Ideal S7x256x256 .bf16) (a2 : FVec Ideal S48x4662x256 .bf16) (a3 : FVec Ideal S48x4608x256 .f32) (a4 : FVec Ideal S221184x256 .f32) (sc b : Vec Ideal S1x256 .f32) (v7 v8 : Vec Ideal S1x2x256 .f32) (n : Fin 48) (t : Fin 4608) (o : Fin 256) :
    k0_pay66 (F := Ideal) s (k0_pay62 s1 a1 a2 a3 a4 sc b) (k0_pay63 (k0_pay51 v8)) (k0_pay64 (k0_pay50 v7) s1 a1 a2 a3 a4 sc b) (k0_pay65 (k0_pay50 v7) s1 a1 a2 a3 a4 sc b) (ix3 n t o) = kI8 (rOut s (rSnake (v7 (ix3 (n0 := 1) (n1 := 2) (n2 := 256) 0 1 o)) (v8 (ix3 (n0 := 1) (n1 := 2) (n2 := 256) 0 1 o)) (k0_pay62 s1 a1 a2 a3 a4 sc b (ix3 n t o)))) := by
  pointwise [k0_pay66, k0_pay64, k0_pay65, k0_pay63, k0_pay50, k0_pay51, kI8, rOut, rSnake, rArg]

theorem r0 (h : FVec Ideal S48x4608x256 .f32) (s : Ideal .f32) (cv v272 : FVec Ideal S48x4608x256 .f32) (v275 : FVec Ideal S1x1x256 .f32) (w1 : Vec Ideal S1x256x256 .i8) (sc b : Vec Ideal S1x256 .f32) (n : Fin 48) (t : Fin 4608) (o : Fin 256) :
    k0_pay32 (F := Ideal) h s cv v272 v275 w1 sc b (ix3 n t o) = h (ix3 n t o) + ((∑ c : Fin 256, dec (k0_pay31 s cv v272 v275 (ix3 n t c)) * dec (w1 (ix3 (n0 := 1) (n1 := 256) (n2 := 256) 0 c o))) * (s * sc (ix2 (n0 := 1) (n1 := 256) 0 o)) + b (ix2 (n0 := 1) (n1 := 256) 0 o)) := by
  pointwise [k0_pay32]

theorem r1 (h : FVec Ideal S48x4608x256 .f32) (s : Ideal .f32) (cv : FVec Ideal S48x4608x256 .f32) (v440 : FVec Ideal S256 .f32) (v456 : FVec Ideal S48x4608x256 .f32) (K : Ideal .f32) (w1 : Vec Ideal S1x256x256 .i8) (sc b : Vec Ideal S1x256 .f32) (n : Fin 48) (t : Fin 4608) (o : Fin 256) :
    k0_pay49 (F := Ideal) h (k0_pay48 s cv v440 v456 K w1 sc) b (ix3 n t o) = h (ix3 n t o) + ((∑ c : Fin 256, dec (k0_pay47 s cv v440 v456 K (ix3 n t c)) * dec (w1 (ix3 (n0 := 1) (n1 := 256) (n2 := 256) 0 c o))) * (s * sc (ix2 (n0 := 1) (n1 := 256) 0 o)) + b (ix2 (n0 := 1) (n1 := 256) 0 o)) := by
  pointwise [k0_pay49, k0_pay48]

theorem r2 (h : FVec Ideal S48x4608x256 .f32) (s : Ideal .f32) (cv : FVec Ideal S48x4608x256 .f32) (v633 : FVec Ideal S256 .f32) (v636 v638 : FVec Ideal S48x4608x256 .f32) (w1 : Vec Ideal S1x256x256 .i8) (sc b : Vec Ideal S1x256 .f32) (n : Fin 48) (t : Fin 4480) (o : Fin 256) :
    k0_pay69 (F := Ideal) h s (k0_pay67 s cv v633 v636 v638) (k0_pay68 w1) sc b (ix3 n t o) = h (ix3 n ⟨64 + t.val, by have := t.isLt; omega⟩ o) + ((∑ c : Fin 256, dec (k0_pay66 s cv v633 v636 v638 (ix3 n ⟨64 + t.val, by have := t.isLt; omega⟩ c)) * dec (w1 (ix3 (n0 := 1) (n1 := 256) (n2 := 256) 0 c o))) * (s * sc (ix2 (n0 := 1) (n1 := 256) 0 o)) + b (ix2 (n0 := 1) (n1 := 256) 0 o)) := by
  pointwise [k0_pay69, k0_pay67, k0_pay68]
  have e : (n.val * 4608 + (64 + t.val)) % 4608 = 64 + t.val := by have := t.isLt; omega
  simp only [e]

theorem y2 (h : FVec Ideal S48x4608x256 .f32) (s : Ideal .f32) (a1 : FVec Ideal S48x4608x256 .bf16) (a2 : FVec Ideal S256x256 .bf16) (sc b : Vec Ideal S1x256 .f32) (n : Fin 48) (t : Fin 4480) (o : Fin 256) :
    k0_pay70 (F := Ideal) h s a1 a2 sc b (ix3 n t o) = k0_pay69 h s a1 a2 sc b (ix3 n t o) := by
  pointwise [k0_pay70]

theorem y3 (h : FVec Ideal S48x4608x256 .f32) (s : Ideal .f32) (a1 : FVec Ideal S48x4608x256 .bf16) (a2 : FVec Ideal S256x256 .bf16) (sc b : Vec Ideal S1x256 .f32) (so : Vec Ideal S1x1x1 .f32) (n : Fin 48) (t : Fin 4480) (o : Fin 256) :
    k0_pay1 (F := Ideal) (k0_pay71 h s a1 a2 sc b so) (ix3 n t o) = kI8 (rOut (so (ix3 (n0 := 1) (n1 := 1) (n2 := 1) 0 0 0)) (k0_pay69 h s a1 a2 sc b (ix3 n t o))) := by
  pointwise [k0_pay1, k0_pay71, kI8, rOut]

theorem p0 (h : FVec Ideal S48x4608x256 .f32) (s : Ideal .f32) (β : FVec Ideal S256 .f32) (α : FVec Ideal S1x1x256 .f32) (n : Fin 48) (t : Fin 4614) (o : Fin 256) :
    k0_pay24 (F := Ideal) (k0_pay22 h s β α) (ix3 n t o) = if h1 : t.val < 3 then (0 : EReal) else if h2 : t.val - 3 < 4608 then dec (k0_pay21 h s β α (ix3 n ⟨t.val - 3, h2⟩ o)) else 0 := by
  pointwise [k0_pay24, k0_pay22]

theorem p1 (v : FVec Ideal S48x4608x256 .f32) (lo hi : Ideal .f32) (n : Fin 48) (t : Fin 4626) (o : Fin 256) :
    k0_pay40 (F := Ideal) v lo hi (ix3 n t o) = if h1 : t.val < 9 then (0 : EReal) else if h2 : t.val - 9 < 4608 then dec (k0_pay38 v lo hi (ix3 n ⟨t.val - 9, h2⟩ o)) else 0 := by
  pointwise [k0_pay40]

theorem p2 (v : FVec Ideal S48x4608x256 .f32) (s : Ideal .f32) (β : FVec Ideal S256 .f32) (a b : FVec Ideal S48x4608x256 .f32) (n : Fin 48) (t : Fin 4662) (o : Fin 256) :
    k0_pay59 (F := Ideal) v s β a b (ix3 n t o) = if h1 : t.val < 27 then (0 : EReal) else if h2 : t.val - 27 < 4608 then dec (k0_pay57 v s β a b (ix3 n ⟨t.val - 27, h2⟩ o)) else 0 := by
  pointwise [k0_pay59]

end Cert.ReferenceIdeal.Pay
-- ==== Proof.Rt.lean ====
module

public import proofs.«01_k».proof.Proof.Rm
public import proofs.«01_k».proof.Proof.Rn

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

/-! The reference's units, array by array. -/

/-- The padded codes of a unit. -/
theorem padD {I : Inp} {u : ℕ} {h : ℕ → ℕ → EReal} {d k t t' o : ℕ} (hk : k = 3 * d) (hd : d ≤ 9) (e : t = t' + (32 - 3 * d)) (v : t' - k < 4608 → EReal)
    (hv : ∀ h2, v h2 = ca I u h (t' - k) o) :
    (if _h : t' < k then (0 : EReal) else if h2 : t' - k < 4608 then v h2 else 0) = Qa I u h t o := by
  unfold Qa
  by_cases h1 : t' < k
  · rw [dif_pos h1, if_neg (by omega)]
  · rw [dif_neg h1]
    by_cases h2 : t' - k < 4608
    · rw [dif_pos h2, if_pos (by omega), hv h2]
      congr 1
      omega
    · rw [dif_neg h2, if_neg (by omega)]

theorem act17 (v : Vec Ideal S3x2 .f32) : k0_pay17 (F := Ideal) v = v (ix2 (n0 := 3) (n1 := 2) 0 0) := by
  pointwise [k0_pay17]

theorem act18 (v : Vec Ideal S3x2 .f32) : k0_pay18 (F := Ideal) v = v (ix2 (n0 := 3) (n1 := 2) 0 1) := by
  pointwise [k0_pay18]

theorem act35 (v : Vec Ideal S3x2 .f32) : k0_pay35 (F := Ideal) v = v (ix2 (n0 := 3) (n1 := 2) 1 0) := by
  pointwise [k0_pay35]

theorem act36 (v : Vec Ideal S3x2 .f32) : k0_pay36 (F := Ideal) v = v (ix2 (n0 := 3) (n1 := 2) 1 1) := by
  pointwise [k0_pay36]

theorem act52 (v : Vec Ideal S3x2 .f32) : k0_pay52 (F := Ideal) v = v (ix2 (n0 := 3) (n1 := 2) 2 0) := by
  pointwise [k0_pay52]

theorem act53 (v : Vec Ideal S3x2 .f32) : k0_pay53 (F := Ideal) v = v (ix2 (n0 := 3) (n1 := 2) 2 1) := by
  pointwise [k0_pay53]

variable (x0 : Vec Ideal S48x1152x512 .bf16) (x1 : Vec Ideal S512 .f32) (x2 : Vec Ideal S512 .f32) (x3 : Vec Ideal S1x1x1 .f32) (x4 : Vec Ideal S8x512x256 .i8) (x5 : Vec Ideal S256 .f32) (x6 : Vec Ideal S256 .f32) (x7 : Vec Ideal S3x2x256 .f32) (x8 : Vec Ideal S3x2x256 .f32) (x9 : Vec Ideal S3x2 .f32) (x10 : Vec Ideal S3x7x256x256 .i8) (x11 : Vec Ideal S3x256 .f32) (x12 : Vec Ideal S3x256 .f32) (x13 : Vec Ideal S3x256x256 .i8) (x14 : Vec Ideal S3x256 .f32) (x15 : Vec Ideal S3x256 .f32) (x16 : Vec Ideal S1x1x1 .f32)

section

variable (hh : ∀ (n : Fin 48) (t : Fin 4608) (o : Fin 256), (k0_pay73 x0 x1 x2 x3 x4 x5 x6 x7 x8 x9 x10 x11 x12 x13 x14 x15 x16 (ix3 n t o) : EReal) = y0 (I x0 x1 x2 x3 x4 x5 x6 x7 x8 x9 x10 x11 x12 x13 x14 x15 x16 n.val) t.val o.val)

include hh in
theorem fqa0 (n : Fin 48) (t : Fin 4608) (o : Fin 256) :
    k0_pay21 (F := Ideal) (k0_pay73 x0 x1 x2 x3 x4 x5 x6 x7 x8 x9 x10 x11 x12 x13 x14 x15 x16) (k0_pay17 (View.ld x9 r0_6)) (k0_pay74 x0 x1 x2 x3 x4 x5 x6 x7 x8 x9 x10 x11 x12 x13 x14 x15 x16) (k0_pay75 x0 x1 x2 x3 x4 x5 x6 x7 x8 x9 x10 x11 x12 x13 x14 x15 x16) (ix3 n t o) = kI8 (ca (I x0 x1 x2 x3 x4 x5 x6 x7 x8 x9 x10 x11 x12 x13 x14 x15 x16 n.val) 0 (y0 (I x0 x1 x2 x3 x4 x5 x6 x7 x8 x9 x10 x11 x12 x13 x14 x15 x16 n.val)) t.val o.val) := by
  unfold k0_pay74 k0_pay75
  refine (qa0 _ _ _ _ n t o).trans ?_
  rw [rCode_eq]
  exact congrArg kI8 (congr (congr (congr (congrArg kCode ((act17 _).trans (ldact x9 0 0))) (ldr0 x7 0 0 o)) (ldr0 x8 0 0 o)) (hh n t o))

include hh in
theorem fp0 (n : Fin 48) (t : Fin 4614) (o : Fin 256) :
    (k0_pay24 (F := Ideal) (k0_pay76 x0 x1 x2 x3 x4 x5 x6 x7 x8 x9 x10 x11 x12 x13 x14 x15 x16) (ix3 n t o) : EReal) = Qa (I x0 x1 x2 x3 x4 x5 x6 x7 x8 x9 x10 x11 x12 x13 x14 x15 x16 n.val) 0 (y0 (I x0 x1 x2 x3 x4 x5 x6 x7 x8 x9 x10 x11 x12 x13 x14 x15 x16 n.val)) (t.val + (32 - 3 * 1)) o.val := by
  unfold k0_pay76
  refine (p0 _ _ _ _ n t o).trans ?_
  exact padD (d := 1) rfl (by decide) rfl _ fun h2 => (congrArg dec (fqa0 x0 x1 x2 x3 x4 x5 x6 x7 x8 x9 x10 x11 x12 x13 x14 x15 x16 hh n ⟨t.val - 3, h2⟩ o)).trans (dec_code _ _ _ _)

include hh in
theorem fc0 (n : Fin 48) (t : Fin 4608) (o : Fin 256) :
    (k0_pay80 x0 x1 x2 x3 x4 x5 x6 x7 x8 x9 x10 x11 x12 x13 x14 x15 x16 (ix3 n t o) : EReal) = cc (I x0 x1 x2 x3 x4 x5 x6 x7 x8 x9 x10 x11 x12 x13 x14 x15 x16 n.val) 0 1 (y0 (I x0 x1 x2 x3 x4 x5 x6 x7 x8 x9 x10 x11 x12 x13 x14 x15 x16 n.val)) t.val o.val := by
  unfold k0_pay80 k0_pay77 k0_pay78 k0_pay79
  refine (c0_at _ _ _ _ _ n t o (Qa (I x0 x1 x2 x3 x4 x5 x6 x7 x8 x9 x10 x11 x12 x13 x14 x15 x16 n.val) 0 (y0 (I x0 x1 x2 x3 x4 x5 x6 x7 x8 x9 x10 x11 x12 x13 x14 x15 x16 n.val))) (fun k c o => (I x0 x1 x2 x3 x4 x5 x6 x7 x8 x9 x10 x11 x12 x13 x14 x15 x16 n.val).w7 0 k c o) (fun i c => fp0 x0 x1 x2 x3 x4 x5 x6 x7 x8 x9 x10 x11 x12 x13 x14 x15 x16 hh n i c) (fun k c o => ldw70 x10 0 k c o)).trans ?_
  exact congrArg₂ (· + ·) (congrArg₂ (· * ·) rfl (congrArg₂ (· * ·) ((act17 _).trans (ldact x9 0 0)) (ldv0 x11 0 o))) (ldv0 x12 0 o)

include hh in
theorem fqb0 (n : Fin 48) (t : Fin 4608) (o : Fin 256) :
    k0_pay31 (F := Ideal) (k0_pay18 (View.ld x9 r0_6)) (k0_pay80 x0 x1 x2 x3 x4 x5 x6 x7 x8 x9 x10 x11 x12 x13 x14 x15 x16) (k0_pay81 x0 x1 x2 x3 x4 x5 x6 x7 x8 x9 x10 x11 x12 x13 x14 x15 x16) (k0_pay82 x0 x1 x2 x3 x4 x5 x6 x7 x8 x9 x10 x11 x12 x13 x14 x15 x16) (ix3 n t o) = cb (I x0 x1 x2 x3 x4 x5 x6 x7 x8 x9 x10 x11 x12 x13 x14 x15 x16 n.val) 0 1 (y0 (I x0 x1 x2 x3 x4 x5 x6 x7 x8 x9 x10 x11 x12 x13 x14 x15 x16 n.val)) t.val o.val := by
  have hc := fc0 x0 x1 x2 x3 x4 x5 x6 x7 x8 x9 x10 x11 x12 x13 x14 x15 x16 hh n t o
  unfold k0_pay81 k0_pay82 k0_pay80
  unfold k0_pay80 at hc
  refine (qb0 _ _ _ _ _ _ _ _ _ n t o).trans ?_
  rw [rCode_eq]
  exact congrArg kI8 (congr (congr (congr (congrArg kCode ((act18 _).trans (ldact x9 0 1))) (ldr0 x7 0 1 o)) (ldr0 x8 0 1 o)) hc)

include hh in
theorem fr0 (n : Fin 48) (t : Fin 4608) (o : Fin 256) :
    (k0_pay83 x0 x1 x2 x3 x4 x5 x6 x7 x8 x9 x10 x11 x12 x13 x14 x15 x16 (ix3 n t o) : EReal) = h1 (I x0 x1 x2 x3 x4 x5 x6 x7 x8 x9 x10 x11 x12 x13 x14 x15 x16 n.val) t.val o.val := by
  unfold k0_pay83
  refine (r0 _ _ _ _ _ _ _ _ n t o).trans ?_
  exact congrArg₂ (· + ·) (hh n t o) (congrArg₂ (· + ·) (congrArg₂ (· * ·) (Finset.sum_congr rfl fun c _ => congrArg₂ (· * ·) (congrArg dec (fqb0 x0 x1 x2 x3 x4 x5 x6 x7 x8 x9 x10 x11 x12 x13 x14 x15 x16 hh n t c)) (ldw10 x13 0 c o)) (congrArg₂ (· * ·) ((act18 _).trans (ldact x9 0 1)) (ldv0 x14 0 o))) (ldv0 x15 0 o))

end

section

variable (hh : ∀ (n : Fin 48) (t : Fin 4608) (o : Fin 256), (k0_pay83 x0 x1 x2 x3 x4 x5 x6 x7 x8 x9 x10 x11 x12 x13 x14 x15 x16 (ix3 n t o) : EReal) = h1 (I x0 x1 x2 x3 x4 x5 x6 x7 x8 x9 x10 x11 x12 x13 x14 x15 x16 n.val) t.val o.val)

include hh in
theorem fqa1 (n : Fin 48) (t : Fin 4608) (o : Fin 256) :
    k0_pay38 (F := Ideal) (k0_pay85 x0 x1 x2 x3 x4 x5 x6 x7 x8 x9 x10 x11 x12 x13 x14 x15 x16) (Scalar.ofBits .f32 0xC2FE0000#32) (Scalar.ofBits .f32 0x42FE0000#32) (ix3 n t o) = kI8 (ca (I x0 x1 x2 x3 x4 x5 x6 x7 x8 x9 x10 x11 x12 x13 x14 x15 x16 n.val) 1 (h1 (I x0 x1 x2 x3 x4 x5 x6 x7 x8 x9 x10 x11 x12 x13 x14 x15 x16 n.val)) t.val o.val) := by
  unfold k0_pay85 k0_pay84
  refine (qa1 _ _ _ _ n t o).trans ?_
  rw [rCode_eq]
  exact congrArg kI8 (congr (congr (congr (congrArg kCode (ldact x9 1 0)) (ldr1 x7 0 0 o)) (ldr1 x8 0 0 o)) (hh n t o))

include hh in
theorem fp1 (n : Fin 48) (t : Fin 4626) (o : Fin 256) :
    (k0_pay88 (F := Ideal) x0 x1 x2 x3 x4 x5 x6 x7 x8 x9 x10 x11 x12 x13 x14 x15 x16 (ix3 n t o) : EReal) = Qa (I x0 x1 x2 x3 x4 x5 x6 x7 x8 x9 x10 x11 x12 x13 x14 x15 x16 n.val) 1 (h1 (I x0 x1 x2 x3 x4 x5 x6 x7 x8 x9 x10 x11 x12 x13 x14 x15 x16 n.val)) (t.val + (32 - 3 * 3)) o.val := by
  unfold k0_pay88
  refine (p1 _ _ _ n t o).trans ?_
  exact padD (d := 3) rfl (by decide) rfl _ fun h2 => (congrArg dec (fqa1 x0 x1 x2 x3 x4 x5 x6 x7 x8 x9 x10 x11 x12 x13 x14 x15 x16 hh n ⟨t.val - 9, h2⟩ o)).trans (dec_code _ _ _ _)

include hh in
theorem fc1 (n : Fin 48) (t : Fin 4608) (o : Fin 256) :
    (k0_pay92 x0 x1 x2 x3 x4 x5 x6 x7 x8 x9 x10 x11 x12 x13 x14 x15 x16 (ix3 n t o) : EReal) = cc (I x0 x1 x2 x3 x4 x5 x6 x7 x8 x9 x10 x11 x12 x13 x14 x15 x16 n.val) 1 3 (h1 (I x0 x1 x2 x3 x4 x5 x6 x7 x8 x9 x10 x11 x12 x13 x14 x15 x16 n.val)) t.val o.val := by
  unfold k0_pay92 k0_pay86 k0_pay87 k0_pay88 k0_pay89 k0_pay90 k0_pay91
  refine (c1_at _ _ _ _ _ _ _ n t o (Qa (I x0 x1 x2 x3 x4 x5 x6 x7 x8 x9 x10 x11 x12 x13 x14 x15 x16 n.val) 1 (h1 (I x0 x1 x2 x3 x4 x5 x6 x7 x8 x9 x10 x11 x12 x13 x14 x15 x16 n.val))) (fun k c o => (I x0 x1 x2 x3 x4 x5 x6 x7 x8 x9 x10 x11 x12 x13 x14 x15 x16 n.val).w7 1 k c o) (fun i c => fp1 x0 x1 x2 x3 x4 x5 x6 x7 x8 x9 x10 x11 x12 x13 x14 x15 x16 hh n i c) (fun k c o => ldw71 x10 0 k c o)).trans ?_
  exact congrArg₂ (· + ·) (congrArg₂ (· * ·) rfl (congrArg₂ (· * ·) ((act35 _).trans (ldact x9 1 0)) (ldv1 x11 0 o))) (ldv1 x12 0 o)

include hh in
theorem fqb1 (n : Fin 48) (t : Fin 4608) (o : Fin 256) :
    k0_pay47 (F := Ideal) (k0_pay36 (View.ld x9 r0_6)) (k0_pay92 x0 x1 x2 x3 x4 x5 x6 x7 x8 x9 x10 x11 x12 x13 x14 x15 x16) (k0_pay93 x0 x1 x2 x3 x4 x5 x6 x7 x8 x9 x10 x11 x12 x13 x14 x15 x16) (k0_pay94 x0 x1 x2 x3 x4 x5 x6 x7 x8 x9 x10 x11 x12 x13 x14 x15 x16) (Scalar.ofBits .f32 0x45159D9C#32) (ix3 n t o) = cb (I x0 x1 x2 x3 x4 x5 x6 x7 x8 x9 x10 x11 x12 x13 x14 x15 x16 n.val) 1 3 (h1 (I x0 x1 x2 x3 x4 x5 x6 x7 x8 x9 x10 x11 x12 x13 x14 x15 x16 n.val)) t.val o.val := by
  have hc := fc1 x0 x1 x2 x3 x4 x5 x6 x7 x8 x9 x10 x11 x12 x13 x14 x15 x16 hh n t o
  unfold k0_pay93 k0_pay94 k0_pay92 k0_pay84
  unfold k0_pay92 at hc
  refine (qb1 _ _ _ _ _ _ _ _ _ _ _ _ n t o).trans ?_
  rw [rCode_eq]
  exact congrArg kI8 (congr (congr (congr (congrArg kCode ((act36 _).trans (ldact x9 1 1))) (ldr1 x7 0 1 o)) (ldr1 x8 0 1 o)) hc)

include hh in
theorem fr1 (n : Fin 48) (t : Fin 4608) (o : Fin 256) :
    (k0_pay96 x0 x1 x2 x3 x4 x5 x6 x7 x8 x9 x10 x11 x12 x13 x14 x15 x16 (ix3 n t o) : EReal) = h2 (I x0 x1 x2 x3 x4 x5 x6 x7 x8 x9 x10 x11 x12 x13 x14 x15 x16 n.val) t.val o.val := by
  unfold k0_pay96 k0_pay95
  refine (r1 _ _ _ _ _ _ _ _ _ n t o).trans ?_
  exact congrArg₂ (· + ·) (hh n t o) (congrArg₂ (· + ·) (congrArg₂ (· * ·) (Finset.sum_congr rfl fun c _ => congrArg₂ (· * ·) (congrArg dec (fqb1 x0 x1 x2 x3 x4 x5 x6 x7 x8 x9 x10 x11 x12 x13 x14 x15 x16 hh n t c)) (ldw11 x13 0 c o)) (congrArg₂ (· * ·) ((act36 _).trans (ldact x9 1 1)) (ldv1 x14 0 o))) (ldv1 x15 0 o))

end

section

variable (hh : ∀ (n : Fin 48) (t : Fin 4608) (o : Fin 256), (k0_pay96 x0 x1 x2 x3 x4 x5 x6 x7 x8 x9 x10 x11 x12 x13 x14 x15 x16 (ix3 n t o) : EReal) = h2 (I x0 x1 x2 x3 x4 x5 x6 x7 x8 x9 x10 x11 x12 x13 x14 x15 x16 n.val) t.val o.val)

include hh in
theorem fqa2 (n : Fin 48) (t : Fin 4608) (o : Fin 256) :
    k0_pay57 (F := Ideal) (k0_pay96 x0 x1 x2 x3 x4 x5 x6 x7 x8 x9 x10 x11 x12 x13 x14 x15 x16) (k0_pay52 (View.ld x9 r0_6)) (k0_pay98 x0 x1 x2 x3 x4 x5 x6 x7 x8 x9 x10 x11 x12 x13 x14 x15 x16) (k0_pay99 x0 x1 x2 x3 x4 x5 x6 x7 x8 x9 x10 x11 x12 x13 x14 x15 x16) (k0_pay100 x0 x1 x2 x3 x4 x5 x6 x7 x8 x9 x10 x11 x12 x13 x14 x15 x16) (ix3 n t o) = kI8 (ca (I x0 x1 x2 x3 x4 x5 x6 x7 x8 x9 x10 x11 x12 x13 x14 x15 x16 n.val) 2 (h2 (I x0 x1 x2 x3 x4 x5 x6 x7 x8 x9 x10 x11 x12 x13 x14 x15 x16 n.val)) t.val o.val) := by
  unfold k0_pay96 k0_pay98 k0_pay99 k0_pay100
  refine (qa2 _ _ _ _ _ _ n t o).trans ?_
  rw [rCode_eq]
  exact congrArg kI8 (congr (congr (congr (congrArg kCode ((act52 _).trans (ldact x9 2 0))) (ldr2 x7 0 0 o)) (ldr2 x8 0 0 o)) (hh n t o))

include hh in
theorem fp2 (n : Fin 48) (t : Fin 4662) (o : Fin 256) :
    (k0_pay102 (F := Ideal) x0 x1 x2 x3 x4 x5 x6 x7 x8 x9 x10 x11 x12 x13 x14 x15 x16 (ix3 n t o) : EReal) = Qa (I x0 x1 x2 x3 x4 x5 x6 x7 x8 x9 x10 x11 x12 x13 x14 x15 x16 n.val) 2 (h2 (I x0 x1 x2 x3 x4 x5 x6 x7 x8 x9 x10 x11 x12 x13 x14 x15 x16 n.val)) (t.val + (32 - 3 * 9)) o.val := by
  unfold k0_pay102
  refine (p2 _ _ _ _ _ n t o).trans ?_
  exact padD (d := 9) rfl (by decide) rfl _ fun h2 => (congrArg dec (fqa2 x0 x1 x2 x3 x4 x5 x6 x7 x8 x9 x10 x11 x12 x13 x14 x15 x16 hh n ⟨t.val - 27, h2⟩ o)).trans (dec_code _ _ _ _)

include hh in
theorem fc2 (n : Fin 48) (t : Fin 4608) (o : Fin 256) :
    (k0_pay105 x0 x1 x2 x3 x4 x5 x6 x7 x8 x9 x10 x11 x12 x13 x14 x15 x16 (ix3 n t o) : EReal) = cc (I x0 x1 x2 x3 x4 x5 x6 x7 x8 x9 x10 x11 x12 x13 x14 x15 x16 n.val) 2 9 (h2 (I x0 x1 x2 x3 x4 x5 x6 x7 x8 x9 x10 x11 x12 x13 x14 x15 x16 n.val)) t.val o.val := by
  unfold k0_pay105 k0_pay101 k0_pay102 k0_pay103 k0_pay104
  refine (c2_at _ _ _ _ _ _ _ _ _ n t o (Qa (I x0 x1 x2 x3 x4 x5 x6 x7 x8 x9 x10 x11 x12 x13 x14 x15 x16 n.val) 2 (h2 (I x0 x1 x2 x3 x4 x5 x6 x7 x8 x9 x10 x11 x12 x13 x14 x15 x16 n.val))) (fun k c o => (I x0 x1 x2 x3 x4 x5 x6 x7 x8 x9 x10 x11 x12 x13 x14 x15 x16 n.val).w7 2 k c o) (fun i c => fp2 x0 x1 x2 x3 x4 x5 x6 x7 x8 x9 x10 x11 x12 x13 x14 x15 x16 hh n i c) (fun k c o => ldw72 x10 0 k c o)).trans ?_
  exact congrArg₂ (· + ·) (congrArg₂ (· * ·) rfl (congrArg₂ (· * ·) ((act52 _).trans (ldact x9 2 0)) (ldv2 x11 0 o))) (ldv2 x12 0 o)

include hh in
theorem fqb2 (n : Fin 48) (t : Fin 4608) (o : Fin 256) :
    k0_pay66 (F := Ideal) (k0_pay53 (View.ld x9 r0_6)) (k0_pay105 x0 x1 x2 x3 x4 x5 x6 x7 x8 x9 x10 x11 x12 x13 x14 x15 x16) (k0_pay106 x0 x1 x2 x3 x4 x5 x6 x7 x8 x9 x10 x11 x12 x13 x14 x15 x16) (k0_pay107 x0 x1 x2 x3 x4 x5 x6 x7 x8 x9 x10 x11 x12 x13 x14 x15 x16) (k0_pay108 x0 x1 x2 x3 x4 x5 x6 x7 x8 x9 x10 x11 x12 x13 x14 x15 x16) (ix3 n t o) = cb (I x0 x1 x2 x3 x4 x5 x6 x7 x8 x9 x10 x11 x12 x13 x14 x15 x16 n.val) 2 9 (h2 (I x0 x1 x2 x3 x4 x5 x6 x7 x8 x9 x10 x11 x12 x13 x14 x15 x16 n.val)) t.val o.val := by
  have hc := fc2 x0 x1 x2 x3 x4 x5 x6 x7 x8 x9 x10 x11 x12 x13 x14 x15 x16 hh n t o
  unfold k0_pay106 k0_pay107 k0_pay108 k0_pay105 k0_pay97
  unfold k0_pay105 at hc
  refine (qb2 _ _ _ _ _ _ _ _ _ _ n t o).trans ?_
  rw [rCode_eq]
  exact congrArg kI8 (congr (congr (congr (congrArg kCode ((act53 _).trans (ldact x9 2 1))) (ldr2 x7 0 1 o)) (ldr2 x8 0 1 o)) hc)

include hh in
theorem fr2 (n : Fin 48) (t : Fin 4480) (o : Fin 256) :
    (k0_pay69 (F := Ideal) (k0_pay96 x0 x1 x2 x3 x4 x5 x6 x7 x8 x9 x10 x11 x12 x13 x14 x15 x16) (k0_pay53 (View.ld x9 r0_6)) (k0_pay109 x0 x1 x2 x3 x4 x5 x6 x7 x8 x9 x10 x11 x12 x13 x14 x15 x16) (k0_pay110 x0 x1 x2 x3 x4 x5 x6 x7 x8 x9 x10 x11 x12 x13 x14 x15 x16) (View.ld x14 r0_17) (View.ld x15 r0_17) (ix3 n t o)) = h3 (I x0 x1 x2 x3 x4 x5 x6 x7 x8 x9 x10 x11 x12 x13 x14 x15 x16 n.val) (64 + t.val) o.val := by
  unfold k0_pay109 k0_pay110
  refine (r2 _ _ _ _ _ _ _ _ _ n t o).trans ?_
  exact congrArg₂ (· + ·) (hh n ⟨64 + t.val, by have := t.isLt; omega⟩ o) (congrArg₂ (· + ·) (congrArg₂ (· * ·) (Finset.sum_congr rfl fun c _ => congrArg₂ (· * ·) (congrArg dec (fqb2 x0 x1 x2 x3 x4 x5 x6 x7 x8 x9 x10 x11 x12 x13 x14 x15 x16 hh n ⟨64 + t.val, by have := t.isLt; omega⟩ c)) (ldw12 x13 0 c o)) (congrArg₂ (· * ·) ((act53 _).trans (ldact x9 2 1)) (ldv2 x14 0 o))) (ldv2 x15 0 o))

end

end Cert.ReferenceIdeal.Pay
-- ==== Proof.Ro.lean ====
module

public import proofs.«01_k».proof.Proof.Rz
public import proofs.«01_k».proof.Proof.Rt

@[expose] public section

set_option maxRecDepth 16384
set_option maxHeartbeats 2000000

noncomputable section

namespace Cert.ReferenceIdeal.Pay

open Cert.ReferenceIdeal Cert.ReferenceIdeal.Gen Cert.KernelIdeal.Vals
open Idealize.ShloMosaic Idealize.ShloMosaic.TcCoe Idealize.ShloMosaic.Tactic

variable (x0 : Vec Ideal S48x1152x512 .bf16) (x1 : Vec Ideal S512 .f32) (x2 : Vec Ideal S512 .f32) (x3 : Vec Ideal S1x1x1 .f32) (x4 : Vec Ideal S8x512x256 .i8) (x5 : Vec Ideal S256 .f32) (x6 : Vec Ideal S256 .f32) (x7 : Vec Ideal S3x2x256 .f32) (x8 : Vec Ideal S3x2x256 .f32) (x9 : Vec Ideal S3x2 .f32) (x10 : Vec Ideal S3x7x256x256 .i8) (x11 : Vec Ideal S3x256 .f32) (x12 : Vec Ideal S3x256 .f32) (x13 : Vec Ideal S3x256x256 .i8) (x14 : Vec Ideal S3x256 .f32) (x15 : Vec Ideal S3x256 .f32) (x16 : Vec Ideal S1x1x1 .f32)

/-! What the reference's stores leave in its result arrays. -/

theorem g1 (n : Fin 48) (t : Fin 4608) (o : Fin 256) : (k0_pay83 x0 x1 x2 x3 x4 x5 x6 x7 x8 x9 x10 x11 x12 x13 x14 x15 x16 (ix3 n t o) : EReal) = h1 (I x0 x1 x2 x3 x4 x5 x6 x7 x8 x9 x10 x11 x12 x13 x14 x15 x16 n.val) t.val o.val := fr0 x0 x1 x2 x3 x4 x5 x6 x7 x8 x9 x10 x11 x12 x13 x14 x15 x16 (fy0 x0 x1 x2 x3 x4 x5 x6 x7 x8 x9 x10 x11 x12 x13 x14 x15 x16) n t o

theorem g2 (n : Fin 48) (t : Fin 4608) (o : Fin 256) : (k0_pay96 x0 x1 x2 x3 x4 x5 x6 x7 x8 x9 x10 x11 x12 x13 x14 x15 x16 (ix3 n t o) : EReal) = h2 (I x0 x1 x2 x3 x4 x5 x6 x7 x8 x9 x10 x11 x12 x13 x14 x15 x16 n.val) t.val o.val := fr1 x0 x1 x2 x3 x4 x5 x6 x7 x8 x9 x10 x11 x12 x13 x14 x15 x16 (g1 x0 x1 x2 x3 x4 x5 x6 x7 x8 x9 x10 x11 x12 x13 x14 x15 x16) n t o

theorem o17 (n : Fin 48) (t : Fin 4480) (o : Fin 256) : (out0_17 x0 x1 x2 x3 x4 x5 x6 x7 x8 x9 x10 x11 x12 x13 x14 x15 x16 (ix3 n t o) : EReal) = h3 (I x0 x1 x2 x3 x4 x5 x6 x7 x8 x9 x10 x11 x12 x13 x14 x15 x16 n.val) (t.val + 64) o.val := by
  unfold out0_17
  rw [View.canon_cons_unit_lit _ _ _ (by decide)]
  exact (y2 _ _ _ _ _ _ n t o).trans ((fr2 x0 x1 x2 x3 x4 x5 x6 x7 x8 x9 x10 x11 x12 x13 x14 x15 x16 (g2 x0 x1 x2 x3 x4 x5 x6 x7 x8 x9 x10 x11 x12 x13 x14 x15 x16) n t o).trans (congrArg (fun z => h3 (I x0 x1 x2 x3 x4 x5 x6 x7 x8 x9 x10 x11 x12 x13 x14 x15 x16 n.val) z o.val) (Nat.add_comm 64 t.val)))

theorem o18 (n : Fin 48) (t : Fin 4480) (o : Fin 256) : (out0_18 x0 x1 x2 x3 x4 x5 x6 x7 x8 x9 x10 x11 x12 x13 x14 x15 x16 (ix3 n t o) : BitVec 8) = kI8 (kOut (I x0 x1 x2 x3 x4 x5 x6 x7 x8 x9 x10 x11 x12 x13 x14 x15 x16 n.val).so (h3 (I x0 x1 x2 x3 x4 x5 x6 x7 x8 x9 x10 x11 x12 x13 x14 x15 x16 n.val) (t.val + 64) o.val)) := by
  unfold out0_18
  rw [View.canon_cons_unit_lit _ _ _ (by decide)]
  exact (y3 _ _ _ _ _ _ _ n t o).trans (congrArg kI8 ((congrArg₂ rOut (ldsc x16 0 0 0) ((fr2 x0 x1 x2 x3 x4 x5 x6 x7 x8 x9 x10 x11 x12 x13 x14 x15 x16 (g2 x0 x1 x2 x3 x4 x5 x6 x7 x8 x9 x10 x11 x12 x13 x14 x15 x16) n t o).trans (congrArg (fun z => h3 (I x0 x1 x2 x3 x4 x5 x6 x7 x8 x9 x10 x11 x12 x13 x14 x15 x16 n.val) z o.val) (Nat.add_comm 64 t.val)))).trans (rOut_eq _ _)))

theorem o19 (n : Fin 48) (t : Fin 1152) (o : Fin 512) : (out0_19 x0 x1 x2 x3 x4 x5 x6 x7 x8 x9 x10 x11 x12 x13 x14 x15 x16 (ix3 n t o) : BitVec 8) = q0 (I x0 x1 x2 x3 x4 x5 x6 x7 x8 x9 x10 x11 x12 x13 x14 x15 x16 n.val) t.val o.val := by
  unfold out0_19
  rw [View.canon_cons_unit_lit _ _ _ (by decide)]
  exact q0_eq x0 x1 x2 x3 x4 x5 x6 x7 x8 x9 x10 x11 x12 x13 x14 x15 x16 n t o

theorem o20 (n : Fin 48) (t : Fin 4608) (o : Fin 256) : (out0_20 x0 x1 x2 x3 x4 x5 x6 x7 x8 x9 x10 x11 x12 x13 x14 x15 x16 (ix3 n t o) : BitVec 8) = kI8 (ca (I x0 x1 x2 x3 x4 x5 x6 x7 x8 x9 x10 x11 x12 x13 x14 x15 x16 n.val) 0 (y0 (I x0 x1 x2 x3 x4 x5 x6 x7 x8 x9 x10 x11 x12 x13 x14 x15 x16 n.val)) t.val o.val) := by
  unfold out0_20
  rw [View.canon_cons_unit_lit _ _ _ (by decide)]
  exact fqa0 x0 x1 x2 x3 x4 x5 x6 x7 x8 x9 x10 x11 x12 x13 x14 x15 x16 (fy0 x0 x1 x2 x3 x4 x5 x6 x7 x8 x9 x10 x11 x12 x13 x14 x15 x16) n t o

theorem o21 (n : Fin 48) (t : Fin 4608) (o : Fin 256) : (out0_21 x0 x1 x2 x3 x4 x5 x6 x7 x8 x9 x10 x11 x12 x13 x14 x15 x16 (ix3 n t o) : BitVec 8) = cb (I x0 x1 x2 x3 x4 x5 x6 x7 x8 x9 x10 x11 x12 x13 x14 x15 x16 n.val) 0 1 (y0 (I x0 x1 x2 x3 x4 x5 x6 x7 x8 x9 x10 x11 x12 x13 x14 x15 x16 n.val)) t.val o.val := by
  unfold out0_21
  rw [View.canon_cons_unit_lit _ _ _ (by decide)]
  exact fqb0 x0 x1 x2 x3 x4 x5 x6 x7 x8 x9 x10 x11 x12 x13 x14 x15 x16 (fy0 x0 x1 x2 x3 x4 x5 x6 x7 x8 x9 x10 x11 x12 x13 x14 x15 x16) n t o

theorem o22 (n : Fin 48) (t : Fin 4608) (o : Fin 256) : (out0_22 x0 x1 x2 x3 x4 x5 x6 x7 x8 x9 x10 x11 x12 x13 x14 x15 x16 (ix3 n t o) : BitVec 8) = kI8 (ca (I x0 x1 x2 x3 x4 x5 x6 x7 x8 x9 x10 x11 x12 x13 x14 x15 x16 n.val) 1 (h1 (I x0 x1 x2 x3 x4 x5 x6 x7 x8 x9 x10 x11 x12 x13 x14 x15 x16 n.val)) t.val o.val) := by
  unfold out0_22
  rw [View.canon_cons_unit_lit _ _ _ (by decide)]
  exact fqa1 x0 x1 x2 x3 x4 x5 x6 x7 x8 x9 x10 x11 x12 x13 x14 x15 x16 (g1 x0 x1 x2 x3 x4 x5 x6 x7 x8 x9 x10 x11 x12 x13 x14 x15 x16) n t o

theorem o23 (n : Fin 48) (t : Fin 4608) (o : Fin 256) : (out0_23 x0 x1 x2 x3 x4 x5 x6 x7 x8 x9 x10 x11 x12 x13 x14 x15 x16 (ix3 n t o) : BitVec 8) = cb (I x0 x1 x2 x3 x4 x5 x6 x7 x8 x9 x10 x11 x12 x13 x14 x15 x16 n.val) 1 3 (h1 (I x0 x1 x2 x3 x4 x5 x6 x7 x8 x9 x10 x11 x12 x13 x14 x15 x16 n.val)) t.val o.val := by
  unfold out0_23
  rw [View.canon_cons_unit_lit _ _ _ (by decide)]
  exact fqb1 x0 x1 x2 x3 x4 x5 x6 x7 x8 x9 x10 x11 x12 x13 x14 x15 x16 (g1 x0 x1 x2 x3 x4 x5 x6 x7 x8 x9 x10 x11 x12 x13 x14 x15 x16) n t o

theorem o24 (n : Fin 48) (t : Fin 4608) (o : Fin 256) : (out0_24 x0 x1 x2 x3 x4 x5 x6 x7 x8 x9 x10 x11 x12 x13 x14 x15 x16 (ix3 n t o) : BitVec 8) = kI8 (ca (I x0 x1 x2 x3 x4 x5 x6 x7 x8 x9 x10 x11 x12 x13 x14 x15 x16 n.val) 2 (h2 (I x0 x1 x2 x3 x4 x5 x6 x7 x8 x9 x10 x11 x12 x13 x14 x15 x16 n.val)) t.val o.val) := by
  unfold out0_24
  rw [View.canon_cons_unit_lit _ _ _ (by decide)]
  exact fqa2 x0 x1 x2 x3 x4 x5 x6 x7 x8 x9 x10 x11 x12 x13 x14 x15 x16 (g2 x0 x1 x2 x3 x4 x5 x6 x7 x8 x9 x10 x11 x12 x13 x14 x15 x16) n t o

theorem o25 (n : Fin 48) (t : Fin 4608) (o : Fin 256) : (out0_25 x0 x1 x2 x3 x4 x5 x6 x7 x8 x9 x10 x11 x12 x13 x14 x15 x16 (ix3 n t o) : BitVec 8) = cb (I x0 x1 x2 x3 x4 x5 x6 x7 x8 x9 x10 x11 x12 x13 x14 x15 x16 n.val) 2 9 (h2 (I x0 x1 x2 x3 x4 x5 x6 x7 x8 x9 x10 x11 x12 x13 x14 x15 x16 n.val)) t.val o.val := by
  unfold out0_25
  rw [View.canon_cons_unit_lit _ _ _ (by decide)]
  exact fqb2 x0 x1 x2 x3 x4 x5 x6 x7 x8 x9 x10 x11 x12 x13 x14 x15 x16 (g2 x0 x1 x2 x3 x4 x5 x6 x7 x8 x9 x10 x11 x12 x13 x14 x15 x16) n t o

end Cert.ReferenceIdeal.Pay
-- ==== Proof.RefRun.lean ====
/- The run of the reference with each of its nine result arrays named: after it, array `i` is what the one grid point of
   the region has written through output window `17 + i` (`arrAt`), the arguments are unchanged (`run_blocks`), and
   `flushedW` says what a grid point writes: the body's result `outW` of the blocks of the input windows. Proof/Rarr.lean
   turns this into a statement on whole arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S48x4480x256.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S48x4480x256.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 19).cut (grid0.coords t) ((dats m 0 c).after 19 t) = _
  rw [after0_19]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S48x1152x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 20).cut (grid0.coords t) ((dats m 0 c).after 20 t) = _
  rw [after0_20]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S48x4608x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 21).cut (grid0.coords t) ((dats m 0 c).after 21 t) = _
  rw [after0_21]

/-- The index map sends distinct grid points to distinct block indices (decided over the 1 point). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S48x4608x256.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 22).cut (grid0.coords t) ((dats m 0 c).after 22 t) = _
  rw [after0_22]

/-- The index map sends distinct grid points to distinct block indices (decided over the 1 point). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S48x4608x256.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 23).cut (grid0.coords t) ((dats m 0 c).after 23 t) = _
  rw [after0_23]

/-- The index map sends distinct grid points to distinct block indices (decided over the 1 point). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S48x4608x256.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 24).cut (grid0.coords t) ((dats m 0 c).after 24 t) = _
  rw [after0_24]

/-- The index map sends distinct grid points to distinct block indices (decided over the 1 point). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S48x4608x256.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the body's result for that window (`Gen.out0_25`: its stores
    as pieces over the input windows' blocks), read through the window's block. -/
theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 25).cut (grid0.coords t) ((dats m 0 c).after 25 t) = _
  rw [after0_25]

/-- The index map sends distinct grid points to distinct block indices (decided over the 1 point). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S48x4608x256.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v2_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v2_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v2_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v2_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v2_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v2_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v2_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v2_7) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v2_8) = (dats m 0 c).arrAt 25 cfg0.N :=
  (h c).1 25

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 17 cfg0.N
      ∧ r.2.mem ((c : Thread nD τ).loc main_v2_1) = (dats m 0 c).arrAt 18 cfg0.N
      ∧ r.2.mem ((c : Thread nD τ).loc main_v2_2) = (dats m 0 c).arrAt 19 cfg0.N
      ∧ r.2.mem ((c : Thread nD τ).loc main_v2_3) = (dats m 0 c).arrAt 20 cfg0.N
      ∧ r.2.mem ((c : Thread nD τ).loc main_v2_4) = (dats m 0 c).arrAt 21 cfg0.N
      ∧ r.2.mem ((c : Thread nD τ).loc main_v2_5) = (dats m 0 c).arrAt 22 cfg0.N
      ∧ r.2.mem ((c : Thread nD τ).loc main_v2_6) = (dats m 0 c).arrAt 23 cfg0.N
      ∧ r.2.mem ((c : Thread nD τ).loc main_v2_7) = (dats m 0 c).arrAt 24 cfg0.N
      ∧ r.2.mem ((c : Thread nD τ).loc main_v2_8) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post17 m r h c,
      post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.ReferenceIdeal.Value

end
-- ==== Proof.Rarr.lean ====
module

public import proofs.«01_k».proof.Proof.RefRun
public import proofs.«01_k».proof.Proof.Ru

@[expose] public section

set_option maxRecDepth 16384
set_option maxHeartbeats 2000000

noncomputable section

namespace Cert.ReferenceIdeal.Value

open Cert.ReferenceIdeal Cert.ReferenceIdeal.Gen Cert.KernelIdeal.Vals
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The windows' blocks are the whole arrays. -/

theorem V_main_v0 (c : Dev nD) : V m c main_v0 = shapeCast S1x1x1 (m ((c : Thread nD τ).loc main_arg3)) shapeCasts_S_S1x1x1 := by
  show StableHlo.after hostOps0 _ (Proc.devRef .tc main_v0) = _
  after_results
  rfl

theorem V_main_v1 (c : Dev nD) : V m c main_v1 = shapeCast S1x1x1 (m ((c : Thread nD τ).loc main_arg16)) shapeCasts_S_S1x1x1 := by
  show StableHlo.after hostOps0 _ (Proc.devRef .tc main_v1) = _
  after_results
  rfl

theorem one_point : ∃ t : Fin cfg0.N, t.val = 0 := ⟨⟨0, (by decide : 0 < grid0.N)⟩, rfl⟩

theorem scalar_at (v : (⟨0, ![]⟩ : Shape).Idx → EReal) (z : S1x1x1.Idx) : shapeCast S1x1x1 v shapeCasts_S_S1x1x1 z = v ix0 := by
  pointwise

theorem ib0 (c : Dev nD) (t : Fin cfg0.N) : iblk m c 0 t = (m ((c : Thread nD τ).loc main_arg0)) := by
  refine funext fun (y : S48x1152x512.Idx) => ?_
  refine (congrFun (V_main_arg0 m c) ((win0_0.rect t).emb y)).trans (congrArg (m ((c : Thread nD τ).loc main_arg0)) (funext fun a => Fin.ext ?_))
  exact win0_0.rect_emb_val_of_index_zero t a (by fin_cases a <;> rfl) y

theorem ib1 (c : Dev nD) (t : Fin cfg0.N) : iblk m c 1 t = (m ((c : Thread nD τ).loc main_arg1)) := by
  refine funext fun (y : S512.Idx) => ?_
  refine (congrFun (V_main_arg1 m c) ((win0_1.rect t).emb y)).trans (congrArg (m ((c : Thread nD τ).loc main_arg1)) (funext fun a => Fin.ext ?_))
  exact win0_1.rect_emb_val_of_index_zero t a (by fin_cases a <;> rfl) y

theorem ib2 (c : Dev nD) (t : Fin cfg0.N) : iblk m c 2 t = (m ((c : Thread nD τ).loc main_arg2)) := by
  refine funext fun (y : S512.Idx) => ?_
  refine (congrFun (V_main_arg2 m c) ((win0_2.rect t).emb y)).trans (congrArg (m ((c : Thread nD τ).loc main_arg2)) (funext fun a => Fin.ext ?_))
  exact win0_2.rect_emb_val_of_index_zero t a (by fin_cases a <;> rfl) y

theorem ib3 (c : Dev nD) (t : Fin cfg0.N) : iblk m c 3 t = (shapeCast S1x1x1 (m ((c : Thread nD τ).loc main_arg3)) shapeCasts_S_S1x1x1) := by
  refine funext fun (y : S1x1x1.Idx) => ?_
  refine (congrFun (V_main_v0 m c) ((win0_3.rect t).emb y)).trans (congrArg (shapeCast S1x1x1 (m ((c : Thread nD τ).loc main_arg3)) shapeCasts_S_S1x1x1) (funext fun a => Fin.ext ?_))
  exact win0_3.rect_emb_val_of_index_zero t a (by fin_cases a <;> rfl) y

theorem ib4 (c : Dev nD) (t : Fin cfg0.N) : iblk m c 4 t = (m ((c : Thread nD τ).loc main_arg4)) := by
  refine funext fun (y : S8x512x256.Idx) => ?_
  refine (congrFun (V_main_arg4 m c) ((win0_4.rect t).emb y)).trans (congrArg (m ((c : Thread nD τ).loc main_arg4)) (funext fun a => Fin.ext ?_))
  exact win0_4.rect_emb_val_of_index_zero t a (by fin_cases a <;> rfl) y

theorem ib5 (c : Dev nD) (t : Fin cfg0.N) : iblk m c 5 t = (m ((c : Thread nD τ).loc main_arg5)) := by
  refine funext fun (y : S256.Idx) => ?_
  refine (congrFun (V_main_arg5 m c) ((win0_5.rect t).emb y)).trans (congrArg (m ((c : Thread nD τ).loc main_arg5)) (funext fun a => Fin.ext ?_))
  exact win0_5.rect_emb_val_of_index_zero t a (by fin_cases a <;> rfl) y

theorem ib6 (c : Dev nD) (t : Fin cfg0.N) : iblk m c 6 t = (m ((c : Thread nD τ).loc main_arg6)) := by
  refine funext fun (y : S256.Idx) => ?_
  refine (congrFun (V_main_arg6 m c) ((win0_6.rect t).emb y)).trans (congrArg (m ((c : Thread nD τ).loc main_arg6)) (funext fun a => Fin.ext ?_))
  exact win0_6.rect_emb_val_of_index_zero t a (by fin_cases a <;> rfl) y

theorem ib7 (c : Dev nD) (t : Fin cfg0.N) : iblk m c 7 t = (m ((c : Thread nD τ).loc main_arg7)) := by
  refine funext fun (y : S3x2x256.Idx) => ?_
  refine (congrFun (V_main_arg7 m c) ((win0_7.rect t).emb y)).trans (congrArg (m ((c : Thread nD τ).loc main_arg7)) (funext fun a => Fin.ext ?_))
  exact win0_7.rect_emb_val_of_index_zero t a (by fin_cases a <;> rfl) y

theorem ib8 (c : Dev nD) (t : Fin cfg0.N) : iblk m c 8 t = (m ((c : Thread nD τ).loc main_arg8)) := by
  refine funext fun (y : S3x2x256.Idx) => ?_
  refine (congrFun (V_main_arg8 m c) ((win0_8.rect t).emb y)).trans (congrArg (m ((c : Thread nD τ).loc main_arg8)) (funext fun a => Fin.ext ?_))
  exact win0_8.rect_emb_val_of_index_zero t a (by fin_cases a <;> rfl) y

theorem ib9 (c : Dev nD) (t : Fin cfg0.N) : iblk m c 9 t = (m ((c : Thread nD τ).loc main_arg9)) := by
  refine funext fun (y : S3x2.Idx) => ?_
  refine (congrFun (V_main_arg9 m c) ((win0_9.rect t).emb y)).trans (congrArg (m ((c : Thread nD τ).loc main_arg9)) (funext fun a => Fin.ext ?_))
  exact win0_9.rect_emb_val_of_index_zero t a (by fin_cases a <;> rfl) y

theorem ib10 (c : Dev nD) (t : Fin cfg0.N) : iblk m c 10 t = (m ((c : Thread nD τ).loc main_arg10)) := by
  refine funext fun (y : S3x7x256x256.Idx) => ?_
  refine (congrFun (V_main_arg10 m c) ((win0_10.rect t).emb y)).trans (congrArg (m ((c : Thread nD τ).loc main_arg10)) (funext fun a => Fin.ext ?_))
  exact win0_10.rect_emb_val_of_index_zero t a (by fin_cases a <;> rfl) y

theorem ib11 (c : Dev nD) (t : Fin cfg0.N) : iblk m c 11 t = (m ((c : Thread nD τ).loc main_arg11)) := by
  refine funext fun (y : S3x256.Idx) => ?_
  refine (congrFun (V_main_arg11 m c) ((win0_11.rect t).emb y)).trans (congrArg (m ((c : Thread nD τ).loc main_arg11)) (funext fun a => Fin.ext ?_))
  exact win0_11.rect_emb_val_of_index_zero t a (by fin_cases a <;> rfl) y

theorem ib12 (c : Dev nD) (t : Fin cfg0.N) : iblk m c 12 t = (m ((c : Thread nD τ).loc main_arg12)) := by
  refine funext fun (y : S3x256.Idx) => ?_
  refine (congrFun (V_main_arg12 m c) ((win0_12.rect t).emb y)).trans (congrArg (m ((c : Thread nD τ).loc main_arg12)) (funext fun a => Fin.ext ?_))
  exact win0_12.rect_emb_val_of_index_zero t a (by fin_cases a <;> rfl) y

theorem ib13 (c : Dev nD) (t : Fin cfg0.N) : iblk m c 13 t = (m ((c : Thread nD τ).loc main_arg13)) := by
  refine funext fun (y : S3x256x256.Idx) => ?_
  refine (congrFun (V_main_arg13 m c) ((win0_13.rect t).emb y)).trans (congrArg (m ((c : Thread nD τ).loc main_arg13)) (funext fun a => Fin.ext ?_))
  exact win0_13.rect_emb_val_of_index_zero t a (by fin_cases a <;> rfl) y

theorem ib14 (c : Dev nD) (t : Fin cfg0.N) : iblk m c 14 t = (m ((c : Thread nD τ).loc main_arg14)) := by
  refine funext fun (y : S3x256.Idx) => ?_
  refine (congrFun (V_main_arg14 m c) ((win0_14.rect t).emb y)).trans (congrArg (m ((c : Thread nD τ).loc main_arg14)) (funext fun a => Fin.ext ?_))
  exact win0_14.rect_emb_val_of_index_zero t a (by fin_cases a <;> rfl) y

theorem ib15 (c : Dev nD) (t : Fin cfg0.N) : iblk m c 15 t = (m ((c : Thread nD τ).loc main_arg15)) := by
  refine funext fun (y : S3x256.Idx) => ?_
  refine (congrFun (V_main_arg15 m c) ((win0_15.rect t).emb y)).trans (congrArg (m ((c : Thread nD τ).loc main_arg15)) (funext fun a => Fin.ext ?_))
  exact win0_15.rect_emb_val_of_index_zero t a (by fin_cases a <;> rfl) y

theorem ib16 (c : Dev nD) (t : Fin cfg0.N) : iblk m c 16 t = (shapeCast S1x1x1 (m ((c : Thread nD τ).loc main_arg16)) shapeCasts_S_S1x1x1) := by
  refine funext fun (y : S1x1x1.Idx) => ?_
  refine (congrFun (V_main_v1 m c) ((win0_16.rect t).emb y)).trans (congrArg (shapeCast S1x1x1 (m ((c : Thread nD τ).loc main_arg16)) shapeCasts_S_S1x1x1) (funext fun a => Fin.ext ?_))
  exact win0_16.rect_emb_val_of_index_zero t a (by fin_cases a <;> rfl) y

theorem whole17 (t : Fin cfg0.N) (O : S48x4480x256.Idx → Elt Ideal (cfg0.win 17).elt) : (cfg0.win 17).cut (grid0.coords t) O = ((cfg0.win 17).blk t).view.read (Elt Ideal) O := by
  refine funext fun (y : S48x4480x256.Idx) => ?_
  refine congrArg O (funext fun a => Fin.ext ?_)
  exact (win0_17.rect_emb_val_of_index_zero t a (by fin_cases a <;> rfl) y).symm

theorem cover17 (i : S48x4480x256.Idx) : ∃ t : Fin cfg0.N, (cfg0.win 17).flush t = true ∧ i ∈ ((cfg0.win 17).blk t).view.set := by
  obtain ⟨t, ht⟩ := one_point
  refine ⟨t, flush0_17 t, ?_⟩
  have e : (win0_17.rect t).emb i = i := funext fun a => Fin.ext (win0_17.rect_emb_val_of_index_zero t a (by fin_cases a <;> rfl) i)
  have h : (win0_17.rect t).emb i ∈ ((cfg0.win 17).blk t).view.set := ((cfg0.win 17).blk t).view.emb_mem_set _
  exact (congrArg (fun z => z ∈ ((cfg0.win 17).blk t).view.set) e).mp h

theorem arr17 (c : Dev nD) : (dats m 0 c).arrAt 17 cfg0.N = out0_17 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 17 _ (fun t _ => ?_) (fun i => cover17 i)
  rw [flushed17, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole17 t _

theorem whole18 (t : Fin cfg0.N) (O : S48x4480x256.Idx → Elt Ideal (cfg0.win 18).elt) : (cfg0.win 18).cut (grid0.coords t) O = ((cfg0.win 18).blk t).view.read (Elt Ideal) O := by
  refine funext fun (y : S48x4480x256.Idx) => ?_
  refine congrArg O (funext fun a => Fin.ext ?_)
  exact (win0_18.rect_emb_val_of_index_zero t a (by fin_cases a <;> rfl) y).symm

theorem cover18 (i : S48x4480x256.Idx) : ∃ t : Fin cfg0.N, (cfg0.win 18).flush t = true ∧ i ∈ ((cfg0.win 18).blk t).view.set := by
  obtain ⟨t, ht⟩ := one_point
  refine ⟨t, flush0_18 t, ?_⟩
  have e : (win0_18.rect t).emb i = i := funext fun a => Fin.ext (win0_18.rect_emb_val_of_index_zero t a (by fin_cases a <;> rfl) i)
  have h : (win0_18.rect t).emb i ∈ ((cfg0.win 18).blk t).view.set := ((cfg0.win 18).blk t).view.emb_mem_set _
  exact (congrArg (fun z => z ∈ ((cfg0.win 18).blk t).view.set) e).mp h

theorem arr18 (c : Dev nD) : (dats m 0 c).arrAt 18 cfg0.N = out0_18 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 18 _ (fun t _ => ?_) (fun i => cover18 i)
  rw [flushed18, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole18 t _

theorem whole19 (t : Fin cfg0.N) (O : S48x1152x512.Idx → Elt Ideal (cfg0.win 19).elt) : (cfg0.win 19).cut (grid0.coords t) O = ((cfg0.win 19).blk t).view.read (Elt Ideal) O := by
  refine funext fun (y : S48x1152x512.Idx) => ?_
  refine congrArg O (funext fun a => Fin.ext ?_)
  exact (win0_19.rect_emb_val_of_index_zero t a (by fin_cases a <;> rfl) y).symm

theorem cover19 (i : S48x1152x512.Idx) : ∃ t : Fin cfg0.N, (cfg0.win 19).flush t = true ∧ i ∈ ((cfg0.win 19).blk t).view.set := by
  obtain ⟨t, ht⟩ := one_point
  refine ⟨t, flush0_19 t, ?_⟩
  have e : (win0_19.rect t).emb i = i := funext fun a => Fin.ext (win0_19.rect_emb_val_of_index_zero t a (by fin_cases a <;> rfl) i)
  have h : (win0_19.rect t).emb i ∈ ((cfg0.win 19).blk t).view.set := ((cfg0.win 19).blk t).view.emb_mem_set _
  exact (congrArg (fun z => z ∈ ((cfg0.win 19).blk t).view.set) e).mp h

theorem arr19 (c : Dev nD) : (dats m 0 c).arrAt 19 cfg0.N = out0_19 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 19 _ (fun t _ => ?_) (fun i => cover19 i)
  rw [flushed19, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole19 t _

theorem whole20 (t : Fin cfg0.N) (O : S48x4608x256.Idx → Elt Ideal (cfg0.win 20).elt) : (cfg0.win 20).cut (grid0.coords t) O = ((cfg0.win 20).blk t).view.read (Elt Ideal) O := by
  refine funext fun (y : S48x4608x256.Idx) => ?_
  refine congrArg O (funext fun a => Fin.ext ?_)
  exact (win0_20.rect_emb_val_of_index_zero t a (by fin_cases a <;> rfl) y).symm

theorem cover20 (i : S48x4608x256.Idx) : ∃ t : Fin cfg0.N, (cfg0.win 20).flush t = true ∧ i ∈ ((cfg0.win 20).blk t).view.set := by
  obtain ⟨t, ht⟩ := one_point
  refine ⟨t, flush0_20 t, ?_⟩
  have e : (win0_20.rect t).emb i = i := funext fun a => Fin.ext (win0_20.rect_emb_val_of_index_zero t a (by fin_cases a <;> rfl) i)
  have h : (win0_20.rect t).emb i ∈ ((cfg0.win 20).blk t).view.set := ((cfg0.win 20).blk t).view.emb_mem_set _
  exact (congrArg (fun z => z ∈ ((cfg0.win 20).blk t).view.set) e).mp h

theorem arr20 (c : Dev nD) : (dats m 0 c).arrAt 20 cfg0.N = out0_20 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 20 _ (fun t _ => ?_) (fun i => cover20 i)
  rw [flushed20, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole20 t _

theorem whole21 (t : Fin cfg0.N) (O : S48x4608x256.Idx → Elt Ideal (cfg0.win 21).elt) : (cfg0.win 21).cut (grid0.coords t) O = ((cfg0.win 21).blk t).view.read (Elt Ideal) O := by
  refine funext fun (y : S48x4608x256.Idx) => ?_
  refine congrArg O (funext fun a => Fin.ext ?_)
  exact (win0_21.rect_emb_val_of_index_zero t a (by fin_cases a <;> rfl) y).symm

theorem cover21 (i : S48x4608x256.Idx) : ∃ t : Fin cfg0.N, (cfg0.win 21).flush t = true ∧ i ∈ ((cfg0.win 21).blk t).view.set := by
  obtain ⟨t, ht⟩ := one_point
  refine ⟨t, flush0_21 t, ?_⟩
  have e : (win0_21.rect t).emb i = i := funext fun a => Fin.ext (win0_21.rect_emb_val_of_index_zero t a (by fin_cases a <;> rfl) i)
  have h : (win0_21.rect t).emb i ∈ ((cfg0.win 21).blk t).view.set := ((cfg0.win 21).blk t).view.emb_mem_set _
  exact (congrArg (fun z => z ∈ ((cfg0.win 21).blk t).view.set) e).mp h

theorem arr21 (c : Dev nD) : (dats m 0 c).arrAt 21 cfg0.N = out0_21 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 21 _ (fun t _ => ?_) (fun i => cover21 i)
  rw [flushed21, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole21 t _

theorem whole22 (t : Fin cfg0.N) (O : S48x4608x256.Idx → Elt Ideal (cfg0.win 22).elt) : (cfg0.win 22).cut (grid0.coords t) O = ((cfg0.win 22).blk t).view.read (Elt Ideal) O := by
  refine funext fun (y : S48x4608x256.Idx) => ?_
  refine congrArg O (funext fun a => Fin.ext ?_)
  exact (win0_22.rect_emb_val_of_index_zero t a (by fin_cases a <;> rfl) y).symm

theorem cover22 (i : S48x4608x256.Idx) : ∃ t : Fin cfg0.N, (cfg0.win 22).flush t = true ∧ i ∈ ((cfg0.win 22).blk t).view.set := by
  obtain ⟨t, ht⟩ := one_point
  refine ⟨t, flush0_22 t, ?_⟩
  have e : (win0_22.rect t).emb i = i := funext fun a => Fin.ext (win0_22.rect_emb_val_of_index_zero t a (by fin_cases a <;> rfl) i)
  have h : (win0_22.rect t).emb i ∈ ((cfg0.win 22).blk t).view.set := ((cfg0.win 22).blk t).view.emb_mem_set _
  exact (congrArg (fun z => z ∈ ((cfg0.win 22).blk t).view.set) e).mp h

theorem arr22 (c : Dev nD) : (dats m 0 c).arrAt 22 cfg0.N = out0_22 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 22 _ (fun t _ => ?_) (fun i => cover22 i)
  rw [flushed22, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole22 t _

theorem whole23 (t : Fin cfg0.N) (O : S48x4608x256.Idx → Elt Ideal (cfg0.win 23).elt) : (cfg0.win 23).cut (grid0.coords t) O = ((cfg0.win 23).blk t).view.read (Elt Ideal) O := by
  refine funext fun (y : S48x4608x256.Idx) => ?_
  refine congrArg O (funext fun a => Fin.ext ?_)
  exact (win0_23.rect_emb_val_of_index_zero t a (by fin_cases a <;> rfl) y).symm

theorem cover23 (i : S48x4608x256.Idx) : ∃ t : Fin cfg0.N, (cfg0.win 23).flush t = true ∧ i ∈ ((cfg0.win 23).blk t).view.set := by
  obtain ⟨t, ht⟩ := one_point
  refine ⟨t, flush0_23 t, ?_⟩
  have e : (win0_23.rect t).emb i = i := funext fun a => Fin.ext (win0_23.rect_emb_val_of_index_zero t a (by fin_cases a <;> rfl) i)
  have h : (win0_23.rect t).emb i ∈ ((cfg0.win 23).blk t).view.set := ((cfg0.win 23).blk t).view.emb_mem_set _
  exact (congrArg (fun z => z ∈ ((cfg0.win 23).blk t).view.set) e).mp h

theorem arr23 (c : Dev nD) : (dats m 0 c).arrAt 23 cfg0.N = out0_23 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 23 _ (fun t _ => ?_) (fun i => cover23 i)
  rw [flushed23, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole23 t _

theorem whole24 (t : Fin cfg0.N) (O : S48x4608x256.Idx → Elt Ideal (cfg0.win 24).elt) : (cfg0.win 24).cut (grid0.coords t) O = ((cfg0.win 24).blk t).view.read (Elt Ideal) O := by
  refine funext fun (y : S48x4608x256.Idx) => ?_
  refine congrArg O (funext fun a => Fin.ext ?_)
  exact (win0_24.rect_emb_val_of_index_zero t a (by fin_cases a <;> rfl) y).symm

theorem cover24 (i : S48x4608x256.Idx) : ∃ t : Fin cfg0.N, (cfg0.win 24).flush t = true ∧ i ∈ ((cfg0.win 24).blk t).view.set := by
  obtain ⟨t, ht⟩ := one_point
  refine ⟨t, flush0_24 t, ?_⟩
  have e : (win0_24.rect t).emb i = i := funext fun a => Fin.ext (win0_24.rect_emb_val_of_index_zero t a (by fin_cases a <;> rfl) i)
  have h : (win0_24.rect t).emb i ∈ ((cfg0.win 24).blk t).view.set := ((cfg0.win 24).blk t).view.emb_mem_set _
  exact (congrArg (fun z => z ∈ ((cfg0.win 24).blk t).view.set) e).mp h

theorem arr24 (c : Dev nD) : (dats m 0 c).arrAt 24 cfg0.N = out0_24 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 24 _ (fun t _ => ?_) (fun i => cover24 i)
  rw [flushed24, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole24 t _

theorem whole25 (t : Fin cfg0.N) (O : S48x4608x256.Idx → Elt Ideal (cfg0.win 25).elt) : (cfg0.win 25).cut (grid0.coords t) O = ((cfg0.win 25).blk t).view.read (Elt Ideal) O := by
  refine funext fun (y : S48x4608x256.Idx) => ?_
  refine congrArg O (funext fun a => Fin.ext ?_)
  exact (win0_25.rect_emb_val_of_index_zero t a (by fin_cases a <;> rfl) y).symm

theorem cover25 (i : S48x4608x256.Idx) : ∃ t : Fin cfg0.N, (cfg0.win 25).flush t = true ∧ i ∈ ((cfg0.win 25).blk t).view.set := by
  obtain ⟨t, ht⟩ := one_point
  refine ⟨t, flush0_25 t, ?_⟩
  have e : (win0_25.rect t).emb i = i := funext fun a => Fin.ext (win0_25.rect_emb_val_of_index_zero t a (by fin_cases a <;> rfl) i)
  have h : (win0_25.rect t).emb i ∈ ((cfg0.win 25).blk t).view.set := ((cfg0.win 25).blk t).view.emb_mem_set _
  exact (congrArg (fun z => z ∈ ((cfg0.win 25).blk t).view.set) e).mp h

theorem arr25 (c : Dev nD) : (dats m 0 c).arrAt 25 cfg0.N = out0_25 (m ((c : Thread nD τ).loc main_arg0)) (m ((c : Thread nD τ).loc main_arg1)) (m ((c : Thread nD τ).loc main_arg2)) (shapeCast S1x1x1 (m ((c : Thread nD τ).loc main_arg3)) shapeCasts_S_S1x1x1) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (shapeCast S1x1x1 (m ((c : Thread nD τ).loc main_arg16)) shapeCasts_S_S1x1x1) := by
  refine Dat.arrAt_eq_of_cover _ 25 _ (fun t _ => ?_) (fun i => cover25 i)
  rw [flushed25, ib0 m c t, ib1 m c t, ib2 m c t, ib3 m c t, ib4 m c t, ib5 m c t, ib6 m c t, ib7 m c t, ib8 m c t, ib9 m c t, ib10 m c t, ib11 m c t, ib12 m c t, ib13 m c t, ib14 m c t, ib15 m c t, ib16 m c t]
  exact whole25 t _

end Cert.ReferenceIdeal.Value
-- ==== Proof.lean ====
module

public import proofs.«01_k».proof.Defs
public import proofs.«01_k».proof.Proof.Body
public import proofs.«01_k».proof.Proof.ExactBody
public import proofs.«01_k».proof.Proof.ResV
public import proofs.«01_k».proof.Proof.Ro
public import proofs.«01_k».proof.Proof.Rarr
public import Idealize.ShloMosaic.Adequacy
public import Idealize.ShloMosaic.Init

@[expose] public section

noncomputable section

namespace Cert.Proof

open Idealize.ShloMosaic Idealize.ShloMosaic.TcCoe Idealize.SL.Sem
open Cert.KernelIdeal.Body Cert.KernelIdeal.BodyV Cert.KernelIdeal.Vals

/-- Two arrays of rank three agree when they agree at every triple of coordinates. -/
theorem ext3 {n0 n1 n2 : ℕ} {α : Type} (O G : (⟨3, ![n0, n1, n2]⟩ : Shape).Idx → α)
    (h : ∀ (a : Fin n0) (b : Fin n1) (c : Fin n2), O (ix3 a b c) = G (ix3 a b c)) : O = G := by
  funext y
  have e : y = ix3 (y 0) (y 1) (y 2) := funext fun i => by fin_cases i <;> rfl
  rw [e]
  exact h _ _ _

/-- The reference's two scalars reach its body as one-element arrays: the parameters are those of the scalars. -/
theorem params (x0 : (⟨3, ![48, 1152, 512]⟩ : Shape).Idx → EReal) (x1 : (⟨1, ![512]⟩ : Shape).Idx → EReal) (x2 : (⟨1, ![512]⟩ : Shape).Idx → EReal) (x3 : (⟨0, ![]⟩ : Shape).Idx → EReal) (x4 : (⟨3, ![8, 512, 256]⟩ : Shape).Idx → BitVec 8) (x5 : (⟨1, ![256]⟩ : Shape).Idx → EReal) (x6 : (⟨1, ![256]⟩ : Shape).Idx → EReal) (x7 : (⟨3, ![3, 2, 256]⟩ : Shape).Idx → EReal) (x8 : (⟨3, ![3, 2, 256]⟩ : Shape).Idx → EReal) (x9 : (⟨2, ![3, 2]⟩ : Shape).Idx → EReal) (x10 : (⟨4, ![3, 7, 256, 256]⟩ : Shape).Idx → BitVec 8) (x11 : (⟨2, ![3, 256]⟩ : Shape).Idx → EReal) (x12 : (⟨2, ![3, 256]⟩ : Shape).Idx → EReal) (x13 : (⟨3, ![3, 256, 256]⟩ : Shape).Idx → BitVec 8) (x14 : (⟨2, ![3, 256]⟩ : Shape).Idx → EReal) (x15 : (⟨2, ![3, 256]⟩ : Shape).Idx → EReal) (x16 : (⟨0, ![]⟩ : Shape).Idx → EReal) (n : ℕ) :
    Cert.ReferenceIdeal.Pay.I x0 x1 x2 (shapeCast Cert.ReferenceIdeal.S1x1x1 x3 Cert.ReferenceIdeal.Gen.shapeCasts_S_S1x1x1) x4 x5 x6 x7 x8 x9 x10 x11 x12 x13 x14 x15 (shapeCast Cert.ReferenceIdeal.S1x1x1 x16 Cert.ReferenceIdeal.Gen.shapeCasts_S_S1x1x1) n = inpOf x0 x1 x2 x3 x4 x5 x6 x7 x8 x9 x10 x11 x12 x13 x14 x15 x16 n := by
  have e (x : (⟨0, ![]⟩ : Shape).Idx → EReal) (z : Cert.ReferenceIdeal.S1x1x1.Idx) : (fun _ => shapeCast Cert.ReferenceIdeal.S1x1x1 x Cert.ReferenceIdeal.Gen.shapeCasts_S_S1x1x1 z) = x :=
    funext fun y => (Cert.ReferenceIdeal.Value.scalar_at x z).trans (congrArg x (funext fun i => i.elim0))
  unfold Cert.ReferenceIdeal.Pay.I
  rw [e, e]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are launched on the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

theorem same_inp (h : Same m m' c) (n : ℕ) :
    Cert.ReferenceIdeal.Pay.I (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n = inp m c n := by
  obtain ⟨h0, h1, h2, h3, h4, h5, h6, h7, h8, h9, h10, h11, h12, h13, h14, h15, h16⟩ := h
  refine (params _ _ _ _ _ _ _ _ _ _ _ _ _ _ _ _ _ n).trans ?_
  unfold inp
  rw [h0, h1, h2, h3, h4, h5, h6, h7, h8, h9, h10, h11, h12, h13, h14, h15, h16]

theorem same17 (h : Same m m' c) : (Cert.ReferenceIdeal.Gen.dats m' 0 c).arrAt 17 Cert.ReferenceIdeal.cfg0.N = G17 m c :=
  (Cert.ReferenceIdeal.Value.arr17 m' c).trans (ext3 (n0 := 48) (n1 := 4480) (n2 := 256) _ _ fun n t o =>
    (Cert.ReferenceIdeal.Pay.o17 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => h3 J (t.val + 64) o.val) (same_inp m m' c h n.val)))

theorem same18 (h : Same m m' c) : (Cert.ReferenceIdeal.Gen.dats m' 0 c).arrAt 18 Cert.ReferenceIdeal.cfg0.N = G18 m c :=
  (Cert.ReferenceIdeal.Value.arr18 m' c).trans (ext3 (n0 := 48) (n1 := 4480) (n2 := 256) _ _ fun n t o =>
    (Cert.ReferenceIdeal.Pay.o18 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => kI8 (kOut J.so (h3 J (t.val + 64) o.val))) (same_inp m m' c h n.val)))

theorem same19 (h : Same m m' c) : (Cert.ReferenceIdeal.Gen.dats m' 0 c).arrAt 19 Cert.ReferenceIdeal.cfg0.N = G20 m c :=
  (Cert.ReferenceIdeal.Value.arr19 m' c).trans (ext3 (n0 := 48) (n1 := 1152) (n2 := 512) _ _ fun n t o =>
    (Cert.ReferenceIdeal.Pay.o19 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => q0 J t.val o.val) (same_inp m m' c h n.val)))

theorem same20 (h : Same m m' c) : (Cert.ReferenceIdeal.Gen.dats m' 0 c).arrAt 20 Cert.ReferenceIdeal.cfg0.N = G21 m c :=
  (Cert.ReferenceIdeal.Value.arr20 m' c).trans (ext3 (n0 := 48) (n1 := 4608) (n2 := 256) _ _ fun n t o =>
    (Cert.ReferenceIdeal.Pay.o20 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => kI8 (ca J 0 (y0 J) t.val o.val)) (same_inp m m' c h n.val)))

theorem same21 (h : Same m m' c) : (Cert.ReferenceIdeal.Gen.dats m' 0 c).arrAt 21 Cert.ReferenceIdeal.cfg0.N = G22 m c :=
  (Cert.ReferenceIdeal.Value.arr21 m' c).trans (ext3 (n0 := 48) (n1 := 4608) (n2 := 256) _ _ fun n t o =>
    (Cert.ReferenceIdeal.Pay.o21 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => cb J 0 1 (y0 J) t.val o.val) (same_inp m m' c h n.val)))

theorem same22 (h : Same m m' c) : (Cert.ReferenceIdeal.Gen.dats m' 0 c).arrAt 22 Cert.ReferenceIdeal.cfg0.N = G23 m c :=
  (Cert.ReferenceIdeal.Value.arr22 m' c).trans (ext3 (n0 := 48) (n1 := 4608) (n2 := 256) _ _ fun n t o =>
    (Cert.ReferenceIdeal.Pay.o22 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => kI8 (ca J 1 (h1 J) t.val o.val)) (same_inp m m' c h n.val)))

theorem same23 (h : Same m m' c) : (Cert.ReferenceIdeal.Gen.dats m' 0 c).arrAt 23 Cert.ReferenceIdeal.cfg0.N = G24 m c :=
  (Cert.ReferenceIdeal.Value.arr23 m' c).trans (ext3 (n0 := 48) (n1 := 4608) (n2 := 256) _ _ fun n t o =>
    (Cert.ReferenceIdeal.Pay.o23 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => cb J 1 3 (h1 J) t.val o.val) (same_inp m m' c h n.val)))

theorem same24 (h : Same m m' c) : (Cert.ReferenceIdeal.Gen.dats m' 0 c).arrAt 24 Cert.ReferenceIdeal.cfg0.N = G25 m c :=
  (Cert.ReferenceIdeal.Value.arr24 m' c).trans (ext3 (n0 := 48) (n1 := 4608) (n2 := 256) _ _ fun n t o =>
    (Cert.ReferenceIdeal.Pay.o24 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => kI8 (ca J 2 (h2 J) t.val o.val)) (same_inp m m' c h n.val)))

theorem same25 (h : Same m m' c) : (Cert.ReferenceIdeal.Gen.dats m' 0 c).arrAt 25 Cert.ReferenceIdeal.cfg0.N = G26 m c :=
  (Cert.ReferenceIdeal.Value.arr25 m' c).trans (ext3 (n0 := 48) (n1 := 4608) (n2 := 256) _ _ fun n t o =>
    (Cert.ReferenceIdeal.Pay.o25 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (shapeCast Cert.ReferenceIdeal.S1x1x1 (m' ((c : Thread Cert.ReferenceIdeal.nD Cert.ReferenceIdeal.τ).loc Cert.ReferenceIdeal.main_arg3)) Cert.ReferenceIdeal.Gen.shapeCasts_S_S1x1x1) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (shapeCast Cert.ReferenceIdeal.S1x1x1 (m' ((c : Thread Cert.ReferenceIdeal.nD Cert.ReferenceIdeal.τ).loc Cert.ReferenceIdeal.main_arg16)) Cert.ReferenceIdeal.Gen.shapeCasts_S_S1x1x1) n t o).trans (congrArg (fun J => cb J 2 9 (h2 J) t.val o.val) (same_inp m m' c h n.val)))

theorem algebraic : Cert.algebraic_KernelIdeal_ReferenceIdeal (hKernelIdeal := Cert.KernelIdeal.Gen.facts) (hReferenceIdeal := Cert.ReferenceIdeal.Gen.facts) := by
  intro m g m' g' _ hargs
  refine ⟨G17 m, G18 m, G20 m, G21 m, G22 m, G23 m, G24 m, G25 m, G26 m, run_values m g, ?_⟩
  refine (θ_run (Cert.ReferenceIdeal.defs (F := Ideal)) _ _).mono (fun r h c => ?_) (Cert.ReferenceIdeal.Value.run_blocks (F := Ideal) m' g')
  have hs : Same m m' c := hargs c
  obtain ⟨p17, p18, p19, p20, p21, p22, p23, p24, p25, ha⟩ := h c
  exact ⟨p17.trans (same17 m m' c hs), p18.trans (same18 m m' c hs), p19.trans (same19 m m' c hs), p20.trans (same20 m m' c hs), p21.trans (same21 m m' c hs), p22.trans (same22 m m' c hs), p23.trans (same23 m m' c hs), p24.trans (same24 m m' c hs), p25.trans (same25 m m' c hs), ha⟩

theorem claim : Cert.Claim := ⟨Cert.Kernel.Gen.facts, Cert.KernelIdeal.Gen.facts, Cert.ReferenceIdeal.Gen.facts,
  fun m ρ _ => Cert.Kernel.Body.quiet (F := Bits) m ρ,
  fun m ρ _ => Cert.KernelIdeal.Body.quiet (F := Ideal) m ρ,
  fun m ρ _ => Cert.ReferenceIdeal.Gen.frame m ρ,
  trivial, algebraic⟩

end Cert.Proof

end
